-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_room [hPre_room : Cert.Pre_room.Facts] (m : (ℓ : Loc Cert.KernelIdeal.nD Cert.KernelIdeal.τ Cert.KernelIdeal.sig) → Buf (Elt Ideal) ℓ) : Prop :=
  ∀ c : Dev Cert.KernelIdeal.nD,
    (Cert.Pre_room.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_room.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_room.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_room [hPre_room : Cert.Pre_room.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_room.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_room.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_room.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_room [hKernelIdeal : Cert.KernelIdeal.Facts] [hPre_room : Cert.Pre_room.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_room m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_room [hReferenceIdeal : Cert.ReferenceIdeal.Facts] [hPre_room : Cert.Pre_room.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_room m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_room [hKernelIdeal : Cert.KernelIdeal.Facts] [hReferenceIdeal : Cert.ReferenceIdeal.Facts] [hPre_room : Cert.Pre_room.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_room m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_values) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_room : Cert.Pre_room.Facts),
    quiescent_Kernel (hKernel := hKernel)
    ∧ quiescent_KernelIdeal (hKernelIdeal := hKernelIdeal)
    ∧ quiescent_KernelIdeal_pre_room (hKernelIdeal := hKernelIdeal) (hPre_room := hPre_room)
    ∧ quiescent_ReferenceIdeal (hReferenceIdeal := hReferenceIdeal)
    ∧ quiescent_ReferenceIdeal_pre_room (hReferenceIdeal := hReferenceIdeal) (hPre_room := hPre_room)
    ∧ preserves_Kernel_KernelIdeal
    ∧ algebraic_KernelIdeal_ReferenceIdeal_pre_room (hKernelIdeal := hKernelIdeal) (hReferenceIdeal := hReferenceIdeal) (hPre_room := hPre_room)
-- ==== Pre_room.lean ====
abbrev S4096x128 : Shape := ⟨2, ![4096, 128]⟩
abbrev S100000x128 : Shape := ⟨2, ![100000, 128]⟩
abbrev S128x100000 : Shape := ⟨2, ![128, 100000]⟩
abbrev S4096x100000 : Shape := ⟨2, ![4096, 100000]⟩
abbrev S_ : Shape := ⟨0, ![]⟩
abbrev S4096x100352 : Shape := ⟨2, ![4096, 100352]⟩
abbrev S4096x784x128 : Shape := ⟨3, ![4096, 784, 128]⟩
abbrev S4096x784 : Shape := ⟨2, ![4096, 784]⟩
abbrev S4096 : Shape := ⟨1, ![4096]⟩
abbrev S4096x1 : Shape := ⟨2, ![4096, 1]⟩
abbrev S4096x6272x16 : Shape := ⟨3, ![4096, 6272, 16]⟩
abbrev S4096x16 : Shape := ⟨2, ![4096, 16]⟩

class Facts : Prop where
  transposes_S100000x128_S128x100000_1_0 : S100000x128.Transposes [1, 0] S128x100000
  pads_S4096x100000_S4096x100352_000_03520 : S4096x100000.Pads (![0, 0] : Fin 2 → Nat) ![0, 352] ![0, 0] S4096x100352
  h_S_ : 0 < S_.numel
  shapeCasts_S4096x100352_S4096x784x128 : S4096x100352.ShapeCasts S4096x784x128
  reducesTo_S4096x784x128_S4096x784_d2 : S4096x784x128.ReducesTo [2] S4096x784
  bcast_S_S4096x784 : S_.BroadcastsInDim S4096x784 (![] : Fin 0 → Fin S4096x784.rank)
  reducesTo_S4096x784_S4096_d1 : S4096x784.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x784_0_1 : S4096x1.BroadcastsInDim S4096x784 (![0, 1] : Fin 2 → Fin S4096x784.rank)
  natLt_1_32 : 1 < 32
  bcast_S4096x1_S4096x100352_0_1 : S4096x1.BroadcastsInDim S4096x100352 (![0, 1] : Fin 2 → Fin S4096x100352.rank)
  reducesTo_S4096x100352_S4096_d1 : S4096x100352.ReducesTo [1] S4096
  shapeCasts_S4096x100352_S4096x6272x16 : S4096x100352.ShapeCasts S4096x6272x16
  reducesTo_S4096x6272x16_S4096x16_d1 : S4096x6272x16.ReducesTo [1] S4096x16
  bcast_S_S4096x16 : S_.BroadcastsInDim S4096x16 (![] : Fin 0 → Fin S4096x16.rank)
  dot_S4096x128_S128x100000_S4096x100000_1_0_0_1_n_n_wf : DotDims.WF S4096x128 S128x100000 S4096x100000 [1] [0] [0] [1] [] []

variable [Facts]

def dot_S4096x128_S128x100000_S4096x100000_1_0_0_1_n_n : DotDims S4096x128 S128x100000 S4096x100000 where
  lhsContracting := [1]
  rhsContracting := [0]
  lhsNonContracting := [0]
  rhsNonContracting := [1]
  lhsBatch := []
  rhsBatch := []
  wf := dot_S4096x128_S128x100000_S4096x100000_1_0_0_1_n_n_wf
def fn_pad {F : FTy → Type} [FloatOps F] (arg0 : FVec F S4096x100000 .f32) (arg1 : FVec F S_ .f32) : FVec F S4096x100352 .f32 :=
  let v0 : FVec F S_ .f32 := id arg1
  let v1 : FVec F S4096x100352 .f32 := (fun x v => pad S4096x100352 ![0, 0] ![0, 352] ![0, 0] x v pads_S4096x100000_S4096x100352_000_03520 h_S_) arg0 v0
  v1

def fn_where {F : FTy → Type} [FloatOps F] (arg0 : IVec S4096x784 1) (arg1 : FVec F S4096x784 .f32) (arg2 : FVec F S_ .f32) : FVec F S4096x784 .f32 :=
  let v0 : FVec F S_ .f32 := id arg2
  let v1 : FVec F S4096x784 .f32 := broadcastInDim S4096x784 ![] bcast_S_S4096x784 v0
  let v2 : FVec F S4096x784 .f32 := select arg0 arg1 v1
  v2

def fn_where_0 {F : FTy → Type} [FloatOps F] (arg0 : IVec S4096 1) (arg1 : FVec F S4096 .f32) (arg2 : FVec F S4096 .f32) : FVec F S4096 .f32 :=
  let v0 : FVec F S4096 .f32 := select arg0 arg1 arg2
  v0

def fn_part23 {F : FTy → Type} [FloatOps F] (main_v433 : IVec S4096x16 32) (main_v435 : IVec S4096 1) (main_v437 : IVec S4096 1) : IVec S4096 1 × IVec S4096 1 × IVec S4096x16 1 :=
  let main_c_112 : IVec S_ 32 := constantI S_ 32 32#32
  let main_v438 : IVec S4096x16 32 := broadcastInDim S4096x16 ![] bcast_S_S4096x16 main_c_112
  let main_v439 : IVec S4096x16 1 := cmpi .sle main_v433 main_v438
  (main_v435, main_v437, main_v439)

def fn_part22 {F : FTy → Type} [FloatOps F] (main_v2 : FVec F S4096x100352 .f32) (main_v4 : FVec F S4096x784 .f32) (main_v407 : FVec F S4096 .f32) (main_v408 : FVec F S4096 .f32) (main_v411 : FVec F S4096 .f32) (main_v418 : IVec S4096 1) : IVec S4096 1 × IVec S4096 1 × IVec S4096x16 1 :=
  let main_v419 : FVec F S4096 .f32 := fn_where_0 (F := F) main_v418 main_v411 main_v407
  let main_v420 : FVec F S4096 .f32 := fn_where_0 (F := F) main_v418 main_v408 main_v411
  let main_v421 : FVec F S4096x1 .f32 := broadcastInDim S4096x1 ![0] bcast_S4096_S4096x1_0 main_v419
  let main_v422 : FVec F S4096x100352 .f32 := broadcastInDim S4096x100352 ![0, 1] bcast_S4096x1_S4096x100352_0_1 main_v421
  let main_v423 : IVec S4096x100352 1 := cmpf .oge main_v2 main_v422
  let main_v424 : IVec S4096x100352 32 := (extui 32 · natLt_1_32) main_v423
  let main_c_107 : IVec S_ 32 := constantI S_ 32 0#32
  let main_v425 : IVec S4096 32 := (fun x v => Host.reduce IntOp.addi x v reducesTo_S4096x100352_S4096_d1 h_S_) main_v424 main_c_107
  let main_v426 : FVec F S4096x1 .f32 := broadcastInDim S4096x1 ![0] bcast_S4096_S4096x1_0 main_v419
  let main_v427 : FVec F S4096x784 .f32 := broadcastInDim S4096x784 ![0, 1] bcast_S4096x1_S4096x784_0_1 main_v426
  let main_v428 : IVec S4096x784 1 := cmpf .oge main_v4 main_v427
  let main_v429 : IVec S4096x784 32 := (extui 32 · natLt_1_32) main_v428
  let main_c_108 : IVec S_ 32 := constantI S_ 32 0#32
  let main_v430 : IVec S4096 32 := (fun x v => Host.reduce IntOp.addi x v reducesTo_S4096x784_S4096_d1 h_S_) main_v429 main_c_108
  let main_v431 : IVec S4096x6272x16 1 := shapeCast S4096x6272x16 main_v423 shapeCasts_S4096x100352_S4096x6272x16
  let main_v432 : IVec S4096x6272x16 32 := (extui 32 · natLt_1_32) main_v431
  let main_c_109 : IVec S_ 32 := constantI S_ 32 0#32
  let main_v433 : IVec S4096x16 32 := (fun x v => Host.reduce IntOp.addi x v reducesTo_S4096x6272x16_S4096x16_d1 h_S_) main_v432 main_c_109
  let main_c_110 : IVec S_ 32 := constantI S_ 32 256#32
  let main_v434 : IVec S4096 32 := broadcastInDim S4096 ![] bcast_S_S4096 main_c_110
  let main_v435 : IVec S4096 1 := cmpi .sle main_v425 main_v434
  let main_c_111 : IVec S_ 32 := constantI S_ 32 128#32
  let main_v436 : IVec S4096 32 := broadcastInDim S4096 ![] bcast_S_S4096 main_c_111
  let main_v437 : IVec S4096 1 := cmpi .sle main_v430 main_v436
  fn_part23 (F := F) main_v433 main_v435 main_v437

def fn_part21 {F : FTy → Type} [FloatOps F] (main_v2 : FVec F S4096x100352 .f32) (main_v4 : FVec F S4096x784 .f32) (main_v395 : FVec F S4096 .f32) (main_v396 : FVec F S4096 .f32) (main_v399 : FVec F S4096 .f32) : IVec S4096 1 × IVec S4096 1 × IVec S4096x16 1 :=
  let main_v400 : FVec F S4096x1 .f32 := broadcastInDim S4096x1 ![0] bcast_S4096_S4096x1_0 main_v399
  let main_v401 : FVec F S4096x784 .f32 := broadcastInDim S4096x784 ![0, 1] bcast_S4096x1_S4096x784_0_1 main_v400
  let main_v402 : IVec S4096x784 1 := cmpf .oge main_v4 main_v401
  let main_v403 : IVec S4096x784 32 := (extui 32 · natLt_1_32) main_v402
  let main_c_102 : IVec S_ 32 := constantI S_ 32 0#32
  let main_v404 : IVec S4096 32 := (fun x v => Host.reduce IntOp.addi x v reducesTo_S4096x784_S4096_d1 h_S_) main_v403 main_c_102
  let main_c_103 : IVec S_ 32 := constantI S_ 32 100#32
  let main_v405 : IVec S4096 32 := broadcastInDim S4096 ![] bcast_S_S4096 main_c_103
  let main_v406 : IVec S4096 1 := cmpi .sge main_v404 main_v405
  let main_v407 : FVec F S4096 .f32 := fn_where_0 (F := F) main_v406 main_v399 main_v395
  let main_v408 : FVec F S4096 .f32 := fn_where_0 (F := F) main_v406 main_v396 main_v399
  let main_v409 : FVec F S4096 .f32 := addf main_v407 main_v408
  let main_cst_104 : FVec F S_ .f32 := constant S_ .f32 0x3F000000#32
  let main_v410 : FVec F S4096 .f32 := broadcastInDim S4096 ![] bcast_S_S4096 main_cst_104
  let main_v411 : FVec F S4096 .f32 := mulf main_v410 main_v409
  let main_v412 : FVec F S4096x1 .f32 := broadcastInDim S4096x1 ![0] bcast_S4096_S4096x1_0 main_v411
  let main_v413 : FVec F S4096x784 .f32 := broadcastInDim S4096x784 ![0, 1] bcast_S4096x1_S4096x784_0_1 main_v412
  let main_v414 : IVec S4096x784 1 := cmpf .oge main_v4 main_v413
  let main_v415 : IVec S4096x784 32 := (extui 32 · natLt_1_32) main_v414
  let main_c_105 : IVec S_ 32 := constantI S_ 32 0#32
  let main_v416 : IVec S4096 32 := (fun x v => Host.reduce IntOp.addi x v reducesTo_S4096x784_S4096_d1 h_S_) main_v415 main_c_105
  let main_c_106 : IVec S_ 32 := constantI S_ 32 100#32
  let main_v417 : IVec S4096 32 := broadcastInDim S4096 ![] bcast_S_S4096 main_c_106
  let main_v418 : IVec S4096 1 := cmpi .sge main_v416 main_v417
  fn_part22 (F := F) main_v2 main_v4 main_v407 main_v408 main_v411 main_v418

def fn_part20 {F : FTy → Type} [FloatOps F] (main_v2 : FVec F S4096x100352 .f32) (main_v4 : FVec F S4096x784 .f32) (main_v371 : FVec F S4096 .f32) (main_v372 : FVec F S4096 .f32) (main_v375 : FVec F S4096 .f32) (main_v380 : IVec S4096 32) : IVec S4096 1 × IVec S4096 1 × IVec S4096x16 1 :=
  let main_c_97 : IVec S_ 32 := constantI S_ 32 100#32
  let main_v381 : IVec S4096 32 := broadcastInDim S4096 ![] bcast_S_S4096 main_c_97
  let main_v382 : IVec S4096 1 := cmpi .sge main_v380 main_v381
  let main_v383 : FVec F S4096 .f32 := fn_where_0 (F := F) main_v382 main_v375 main_v371
  let main_v384 : FVec F S4096 .f32 := fn_where_0 (F := F) main_v382 main_v372 main_v375
  let main_v385 : FVec F S4096 .f32 := addf main_v383 main_v384
  let main_cst_98 : FVec F S_ .f32 := constant S_ .f32 0x3F000000#32
  let main_v386 : FVec F S4096 .f32 := broadcastInDim S4096 ![] bcast_S_S4096 main_cst_98
  let main_v387 : FVec F S4096 .f32 := mulf main_v386 main_v385
  let main_v388 : FVec F S4096x1 .f32 := broadcastInDim S4096x1 ![0] bcast_S4096_S4096x1_0 main_v387
  let main_v389 : FVec F S4096x784 .f32 := broadcastInDim S4096x784 ![0, 1] bcast_S4096x1_S4096x784_0_1 main_v388
  let main_v390 : IVec S4096x784 1 := cmpf .oge main_v4 main_v389
  let main_v391 : IVec S4096x784 32 := (extui 32 · natLt_1_32) main_v390
  let main_c_99 : IVec S_ 32 := constantI S_ 32 0#32
  let main_v392 : IVec S4096 32 := (fun x v => Host.reduce IntOp.addi x v reducesTo_S4096x784_S4096_d1 h_S_) main_v391 main_c_99
  let main_c_100 : IVec S_ 32 := constantI S_ 32 100#32
  let main_v393 : IVec S4096 32 := broadcastInDim S4096 ![] bcast_S_S4096 main_c_100
  let main_v394 : IVec S4096 1 := cmpi .sge main_v392 main_v393
  let main_v395 : FVec F S4096 .f32 := fn_where_0 (F := F) main_v394 main_v387 main_v383
  let main_v396 : FVec F S4096 .f32 := fn_where_0 (F := F) main_v394 main_v384 main_v387
  let main_v397 : FVec F S4096 .f32 := addf main_v395 main_v396
  let main_cst_101 : FVec F S_ .f32 := constant S_ .f32 0x3F000000#32
  let main_v398 : FVec F S4096 .f32 := broadcastInDim S4096 ![] bcast_S_S4096 main_cst_101
  let main_v399 : FVec F S4096 .f32 := mulf main_v398 main_v397
  fn_part21 (F := F) main_v2 main_v4 main_v395 main_v396 main_v399

def fn_part19 {F : FTy → Type} [FloatOps F] (main_v2 : FVec F S4096x100352 .f32) (main_v4 : FVec F S4096x784 .f32) (main_v359 : FVec F S4096 .f32) (main_v360 : FVec F S4096 .f32) (main_v361 : FVec F S4096 .f32) : IVec S4096 1 × IVec S4096 1 × IVec S4096x16 1 :=
  let main_cst_92 : FVec F S_ .f32 := constant S_ .f32 0x3F000000#32
  let main_v362 : FVec F S4096 .f32 := broadcastInDim S4096 ![] bcast_S_S4096 main_cst_92
  let main_v363 : FVec F S4096 .f32 := mulf main_v362 main_v361
  let main_v364 : FVec F S4096x1 .f32 := broadcastInDim S4096x1 ![0] bcast_S4096_S4096x1_0 main_v363
  let main_v365 : FVec F S4096x784 .f32 := broadcastInDim S4096x784 ![0, 1] bcast_S4096x1_S4096x784_0_1 main_v364
  let main_v366 : IVec S4096x784 1 := cmpf .oge main_v4 main_v365
  let main_v367 : IVec S4096x784 32 := (extui 32 · natLt_1_32) main_v366
  let main_c_93 : IVec S_ 32 := constantI S_ 32 0#32
  let main_v368 : IVec S4096 32 := (fun x v => Host.reduce IntOp.addi x v reducesTo_S4096x784_S4096_d1 h_S_) main_v367 main_c_93
  let main_c_94 : IVec S_ 32 := constantI S_ 32 100#32
  let main_v369 : IVec S4096 32 := broadcastInDim S4096 ![] bcast_S_S4096 main_c_94
  let main_v370 : IVec S4096 1 := cmpi .sge main_v368 main_v369
  let main_v371 : FVec F S4096 .f32 := fn_where_0 (F := F) main_v370 main_v363 main_v359
  let main_v372 : FVec F S4096 .f32 := fn_where_0 (F := F) main_v370 main_v360 main_v363
  let main_v373 : FVec F S4096 .f32 := addf main_v371 main_v372
  let main_cst_95 : FVec F S_ .f32 := constant S_ .f32 0x3F000000#32
  let main_v374 : FVec F S4096 .f32 := broadcastInDim S4096 ![] bcast_S_S4096 main_cst_95
  let main_v375 : FVec F S4096 .f32 := mulf main_v374 main_v373
  let main_v376 : FVec F S4096x1 .f32 := broadcastInDim S4096x1 ![0] bcast_S4096_S4096x1_0 main_v375
  let main_v377 : FVec F S4096x784 .f32 := broadcastInDim S4096x784 ![0, 1] bcast_S4096x1_S4096x784_0_1 main_v376
  let main_v378 : IVec S4096x784 1 := cmpf .oge main_v4 main_v377
  let main_v379 : IVec S4096x784 32 := (extui 32 · natLt_1_32) main_v378
  let main_c_96 : IVec S_ 32 := constantI S_ 32 0#32
  let main_v380 : IVec S4096 32 := (fun x v => Host.reduce IntOp.addi x v reducesTo_S4096x784_S4096_d1 h_S_) main_v379 main_c_96
  fn_part20 (F := F) main_v2 main_v4 main_v371 main_v372 main_v375 main_v380

def fn_part18 {F : FTy → Type} [FloatOps F] (main_v2 : FVec F S4096x100352 .f32) (main_v4 : FVec F S4096x784 .f32) (main_v335 : FVec F S4096 .f32) (main_v336 : FVec F S4096 .f32) (main_v339 : FVec F S4096 .f32) (main_v342 : IVec S4096x784 1) : IVec S4096 1 × IVec S4096 1 × IVec S4096x16 1 :=
  let main_v343 : IVec S4096x784 32 := (extui 32 · natLt_1_32) main_v342
  let main_c_87 : IVec S_ 32 := constantI S_ 32 0#32
  let main_v344 : IVec S4096 32 := (fun x v => Host.reduce IntOp.addi x v reducesTo_S4096x784_S4096_d1 h_S_) main_v343 main_c_87
  let main_c_88 : IVec S_ 32 := constantI S_ 32 100#32
  let main_v345 : IVec S4096 32 := broadcastInDim S4096 ![] bcast_S_S4096 main_c_88
  let main_v346 : IVec S4096 1 := cmpi .sge main_v344 main_v345
  let main_v347 : FVec F S4096 .f32 := fn_where_0 (F := F) main_v346 main_v339 main_v335
  let main_v348 : FVec F S4096 .f32 := fn_where_0 (F := F) main_v346 main_v336 main_v339
  let main_v349 : FVec F S4096 .f32 := addf main_v347 main_v348
  let main_cst_89 : FVec F S_ .f32 := constant S_ .f32 0x3F000000#32
  let main_v350 : FVec F S4096 .f32 := broadcastInDim S4096 ![] bcast_S_S4096 main_cst_89
  let main_v351 : FVec F S4096 .f32 := mulf main_v350 main_v349
  let main_v352 : FVec F S4096x1 .f32 := broadcastInDim S4096x1 ![0] bcast_S4096_S4096x1_0 main_v351
  let main_v353 : FVec F S4096x784 .f32 := broadcastInDim S4096x784 ![0, 1] bcast_S4096x1_S4096x784_0_1 main_v352
  let main_v354 : IVec S4096x784 1 := cmpf .oge main_v4 main_v353
  let main_v355 : IVec S4096x784 32 := (extui 32 · natLt_1_32) main_v354
  let main_c_90 : IVec S_ 32 := constantI S_ 32 0#32
  let main_v356 : IVec S4096 32 := (fun x v => Host.reduce IntOp.addi x v reducesTo_S4096x784_S4096_d1 h_S_) main_v355 main_c_90
  let main_c_91 : IVec S_ 32 := constantI S_ 32 100#32
  let main_v357 : IVec S4096 32 := broadcastInDim S4096 ![] bcast_S_S4096 main_c_91
  let main_v358 : IVec S4096 1 := cmpi .sge main_v356 main_v357
  let main_v359 : FVec F S4096 .f32 := fn_where_0 (F := F) main_v358 main_v351 main_v347
  let main_v360 : FVec F S4096 .f32 := fn_where_0 (F := F) main_v358 main_v348 main_v351
  let main_v361 : FVec F S4096 .f32 := addf main_v359 main_v360
  fn_part19 (F := F) main_v2 main_v4 main_v359 main_v360 main_v361

def fn_part17 {F : FTy → Type} [FloatOps F] (main_v2 : FVec F S4096x100352 .f32) (main_v4 : FVec F S4096x784 .f32) (main_v311 : FVec F S4096 .f32) (main_v312 : FVec F S4096 .f32) (main_v315 : FVec F S4096 .f32) (main_v322 : IVec S4096 1) : IVec S4096 1 × IVec S4096 1 × IVec S4096x16 1 :=
  let main_v323 : FVec F S4096 .f32 := fn_where_0 (F := F) main_v322 main_v315 main_v311
  let main_v324 : FVec F S4096 .f32 := fn_where_0 (F := F) main_v322 main_v312 main_v315
  let main_v325 : FVec F S4096 .f32 := addf main_v323 main_v324
  let main_cst_83 : FVec F S_ .f32 := constant S_ .f32 0x3F000000#32
  let main_v326 : FVec F S4096 .f32 := broadcastInDim S4096 ![] bcast_S_S4096 main_cst_83
  let main_v327 : FVec F S4096 .f32 := mulf main_v326 main_v325
  let main_v328 : FVec F S4096x1 .f32 := broadcastInDim S4096x1 ![0] bcast_S4096_S4096x1_0 main_v327
  let main_v329 : FVec F S4096x784 .f32 := broadcastInDim S4096x784 ![0, 1] bcast_S4096x1_S4096x784_0_1 main_v328
  let main_v330 : IVec S4096x784 1 := cmpf .oge main_v4 main_v329
  let main_v331 : IVec S4096x784 32 := (extui 32 · natLt_1_32) main_v330
  let main_c_84 : IVec S_ 32 := constantI S_ 32 0#32
  let main_v332 : IVec S4096 32 := (fun x v => Host.reduce IntOp.addi x v reducesTo_S4096x784_S4096_d1 h_S_) main_v331 main_c_84
  let main_c_85 : IVec S_ 32 := constantI S_ 32 100#32
  let main_v333 : IVec S4096 32 := broadcastInDim S4096 ![] bcast_S_S4096 main_c_85
  let main_v334 : IVec S4096 1 := cmpi .sge main_v332 main_v333
  let main_v335 : FVec F S4096 .f32 := fn_where_0 (F := F) main_v334 main_v327 main_v323
  let main_v336 : FVec F S4096 .f32 := fn_where_0 (F := F) main_v334 main_v324 main_v327
  let main_v337 : FVec F S4096 .f32 := addf main_v335 main_v336
  let main_cst_86 : FVec F S_ .f32 := constant S_ .f32 0x3F000000#32
  let main_v338 : FVec F S4096 .f32 := broadcastInDim S4096 ![] bcast_S_S4096 main_cst_86
  let main_v339 : FVec F S4096 .f32 := mulf main_v338 main_v337
  let main_v340 : FVec F S4096x1 .f32 := broadcastInDim S4096x1 ![0] bcast_S4096_S4096x1_0 main_v339
  let main_v341 : FVec F S4096x784 .f32 := broadcastInDim S4096x784 ![0, 1] bcast_S4096x1_S4096x784_0_1 main_v340
  let main_v342 : IVec S4096x784 1 := cmpf .oge main_v4 main_v341
  fn_part18 (F := F) main_v2 main_v4 main_v335 main_v336 main_v339 main_v342

def fn_part16 {F : FTy → Type} [FloatOps F] (main_v2 : FVec F S4096x100352 .f32) (main_v4 : FVec F S4096x784 .f32) (main_v299 : FVec F S4096 .f32) (main_v300 : FVec F S4096 .f32) (main_v303 : FVec F S4096 .f32) : IVec S4096 1 × IVec S4096 1 × IVec S4096x16 1 :=
  let main_v304 : FVec F S4096x1 .f32 := broadcastInDim S4096x1 ![0] bcast_S4096_S4096x1_0 main_v303
  let main_v305 : FVec F S4096x784 .f32 := broadcastInDim S4096x784 ![0, 1] bcast_S4096x1_S4096x784_0_1 main_v304
  let main_v306 : IVec S4096x784 1 := cmpf .oge main_v4 main_v305
  let main_v307 : IVec S4096x784 32 := (extui 32 · natLt_1_32) main_v306
  let main_c_78 : IVec S_ 32 := constantI S_ 32 0#32
  let main_v308 : IVec S4096 32 := (fun x v => Host.reduce IntOp.addi x v reducesTo_S4096x784_S4096_d1 h_S_) main_v307 main_c_78
  let main_c_79 : IVec S_ 32 := constantI S_ 32 100#32
  let main_v309 : IVec S4096 32 := broadcastInDim S4096 ![] bcast_S_S4096 main_c_79
  let main_v310 : IVec S4096 1 := cmpi .sge main_v308 main_v309
  let main_v311 : FVec F S4096 .f32 := fn_where_0 (F := F) main_v310 main_v303 main_v299
  let main_v312 : FVec F S4096 .f32 := fn_where_0 (F := F) main_v310 main_v300 main_v303
  let main_v313 : FVec F S4096 .f32 := addf main_v311 main_v312
  let main_cst_80 : FVec F S_ .f32 := constant S_ .f32 0x3F000000#32
  let main_v314 : FVec F S4096 .f32 := broadcastInDim S4096 ![] bcast_S_S4096 main_cst_80
  let main_v315 : FVec F S4096 .f32 := mulf main_v314 main_v313
  let main_v316 : FVec F S4096x1 .f32 := broadcastInDim S4096x1 ![0] bcast_S4096_S4096x1_0 main_v315
  let main_v317 : FVec F S4096x784 .f32 := broadcastInDim S4096x784 ![0, 1] bcast_S4096x1_S4096x784_0_1 main_v316
  let main_v318 : IVec S4096x784 1 := cmpf .oge main_v4 main_v317
  let main_v319 : IVec S4096x784 32 := (extui 32 · natLt_1_32) main_v318
  let main_c_81 : IVec S_ 32 := constantI S_ 32 0#32
  let main_v320 : IVec S4096 32 := (fun x v => Host.reduce IntOp.addi x v reducesTo_S4096x784_S4096_d1 h_S_) main_v319 main_c_81
  let main_c_82 : IVec S_ 32 := constantI S_ 32 100#32
  let main_v321 : IVec S4096 32 := broadcastInDim S4096 ![] bcast_S_S4096 main_c_82
  let main_v322 : IVec S4096 1 := cmpi .sge main_v320 main_v321
  fn_part17 (F := F) main_v2 main_v4 main_v311 main_v312 main_v315 main_v322

def fn_part15 {F : FTy → Type} [FloatOps F] (main_v2 : FVec F S4096x100352 .f32) (main_v4 : FVec F S4096x784 .f32) (main_v275 : FVec F S4096 .f32) (main_v276 : FVec F S4096 .f32) (main_v279 : FVec F S4096 .f32) (main_v284 : IVec S4096 32) : IVec S4096 1 × IVec S4096 1 × IVec S4096x16 1 :=
  let main_c_73 : IVec S_ 32 := constantI S_ 32 100#32
  let main_v285 : IVec S4096 32 := broadcastInDim S4096 ![] bcast_S_S4096 main_c_73
  let main_v286 : IVec S4096 1 := cmpi .sge main_v284 main_v285
  let main_v287 : FVec F S4096 .f32 := fn_where_0 (F := F) main_v286 main_v279 main_v275
  let main_v288 : FVec F S4096 .f32 := fn_where_0 (F := F) main_v286 main_v276 main_v279
  let main_v289 : FVec F S4096 .f32 := addf main_v287 main_v288
  let main_cst_74 : FVec F S_ .f32 := constant S_ .f32 0x3F000000#32
  let main_v290 : FVec F S4096 .f32 := broadcastInDim S4096 ![] bcast_S_S4096 main_cst_74
  let main_v291 : FVec F S4096 .f32 := mulf main_v290 main_v289
  let main_v292 : FVec F S4096x1 .f32 := broadcastInDim S4096x1 ![0] bcast_S4096_S4096x1_0 main_v291
  let main_v293 : FVec F S4096x784 .f32 := broadcastInDim S4096x784 ![0, 1] bcast_S4096x1_S4096x784_0_1 main_v292
  let main_v294 : IVec S4096x784 1 := cmpf .oge main_v4 main_v293
  let main_v295 : IVec S4096x784 32 := (extui 32 · natLt_1_32) main_v294
  let main_c_75 : IVec S_ 32 := constantI S_ 32 0#32
  let main_v296 : IVec S4096 32 := (fun x v => Host.reduce IntOp.addi x v reducesTo_S4096x784_S4096_d1 h_S_) main_v295 main_c_75
  let main_c_76 : IVec S_ 32 := constantI S_ 32 100#32
  let main_v297 : IVec S4096 32 := broadcastInDim S4096 ![] bcast_S_S4096 main_c_76
  let main_v298 : IVec S4096 1 := cmpi .sge main_v296 main_v297
  let main_v299 : FVec F S4096 .f32 := fn_where_0 (F := F) main_v298 main_v291 main_v287
  let main_v300 : FVec F S4096 .f32 := fn_where_0 (F := F) main_v298 main_v288 main_v291
  let main_v301 : FVec F S4096 .f32 := addf main_v299 main_v300
  let main_cst_77 : FVec F S_ .f32 := constant S_ .f32 0x3F000000#32
  let main_v302 : FVec F S4096 .f32 := broadcastInDim S4096 ![] bcast_S_S4096 main_cst_77
  let main_v303 : FVec F S4096 .f32 := mulf main_v302 main_v301
  fn_part16 (F := F) main_v2 main_v4 main_v299 main_v300 main_v303

def fn_part14 {F : FTy → Type} [FloatOps F] (main_v2 : FVec F S4096x100352 .f32) (main_v4 : FVec F S4096x784 .f32) (main_v263 : FVec F S4096 .f32) (main_v264 : FVec F S4096 .f32) (main_v265 : FVec F S4096 .f32) : IVec S4096 1 × IVec S4096 1 × IVec S4096x16 1 :=
  let main_cst_68 : FVec F S_ .f32 := constant S_ .f32 0x3F000000#32
  let main_v266 : FVec F S4096 .f32 := broadcastInDim S4096 ![] bcast_S_S4096 main_cst_68
  let main_v267 : FVec F S4096 .f32 := mulf main_v266 main_v265
  let main_v268 : FVec F S4096x1 .f32 := broadcastInDim S4096x1 ![0] bcast_S4096_S4096x1_0 main_v267
  let main_v269 : FVec F S4096x784 .f32 := broadcastInDim S4096x784 ![0, 1] bcast_S4096x1_S4096x784_0_1 main_v268
  let main_v270 : IVec S4096x784 1 := cmpf .oge main_v4 main_v269
  let main_v271 : IVec S4096x784 32 := (extui 32 · natLt_1_32) main_v270
  let main_c_69 : IVec S_ 32 := constantI S_ 32 0#32
  let main_v272 : IVec S4096 32 := (fun x v => Host.reduce IntOp.addi x v reducesTo_S4096x784_S4096_d1 h_S_) main_v271 main_c_69
  let main_c_70 : IVec S_ 32 := constantI S_ 32 100#32
  let main_v273 : IVec S4096 32 := broadcastInDim S4096 ![] bcast_S_S4096 main_c_70
  let main_v274 : IVec S4096 1 := cmpi .sge main_v272 main_v273
  let main_v275 : FVec F S4096 .f32 := fn_where_0 (F := F) main_v274 main_v267 main_v263
  let main_v276 : FVec F S4096 .f32 := fn_where_0 (F := F) main_v274 main_v264 main_v267
  let main_v277 : FVec F S4096 .f32 := addf main_v275 main_v276
  let main_cst_71 : FVec F S_ .f32 := constant S_ .f32 0x3F000000#32
  let main_v278 : FVec F S4096 .f32 := broadcastInDim S4096 ![] bcast_S_S4096 main_cst_71
  let main_v279 : FVec F S4096 .f32 := mulf main_v278 main_v277
  let main_v280 : FVec F S4096x1 .f32 := broadcastInDim S4096x1 ![0] bcast_S4096_S4096x1_0 main_v279
  let main_v281 : FVec F S4096x784 .f32 := broadcastInDim S4096x784 ![0, 1] bcast_S4096x1_S4096x784_0_1 main_v280
  let main_v282 : IVec S4096x784 1 := cmpf .oge main_v4 main_v281
  let main_v283 : IVec S4096x784 32 := (extui 32 · natLt_1_32) main_v282
  let main_c_72 : IVec S_ 32 := constantI S_ 32 0#32
  let main_v284 : IVec S4096 32 := (fun x v => Host.reduce IntOp.addi x v reducesTo_S4096x784_S4096_d1 h_S_) main_v283 main_c_72
  fn_part15 (F := F) main_v2 main_v4 main_v275 main_v276 main_v279 main_v284

def fn_part13 {F : FTy → Type} [FloatOps F] (main_v2 : FVec F S4096x100352 .f32) (main_v4 : FVec F S4096x784 .f32) (main_v239 : FVec F S4096 .f32) (main_v240 : FVec F S4096 .f32) (main_v243 : FVec F S4096 .f32) (main_v246 : IVec S4096x784 1) : IVec S4096 1 × IVec S4096 1 × IVec S4096x16 1 :=
  let main_v247 : IVec S4096x784 32 := (extui 32 · natLt_1_32) main_v246
  let main_c_63 : IVec S_ 32 := constantI S_ 32 0#32
  let main_v248 : IVec S4096 32 := (fun x v => Host.reduce IntOp.addi x v reducesTo_S4096x784_S4096_d1 h_S_) main_v247 main_c_63
  let main_c_64 : IVec S_ 32 := constantI S_ 32 100#32
  let main_v249 : IVec S4096 32 := broadcastInDim S4096 ![] bcast_S_S4096 main_c_64
  let main_v250 : IVec S4096 1 := cmpi .sge main_v248 main_v249
  let main_v251 : FVec F S4096 .f32 := fn_where_0 (F := F) main_v250 main_v243 main_v239
  let main_v252 : FVec F S4096 .f32 := fn_where_0 (F := F) main_v250 main_v240 main_v243
  let main_v253 : FVec F S4096 .f32 := addf main_v251 main_v252
  let main_cst_65 : FVec F S_ .f32 := constant S_ .f32 0x3F000000#32
  let main_v254 : FVec F S4096 .f32 := broadcastInDim S4096 ![] bcast_S_S4096 main_cst_65
  let main_v255 : FVec F S4096 .f32 := mulf main_v254 main_v253
  let main_v256 : FVec F S4096x1 .f32 := broadcastInDim S4096x1 ![0] bcast_S4096_S4096x1_0 main_v255
  let main_v257 : FVec F S4096x784 .f32 := broadcastInDim S4096x784 ![0, 1] bcast_S4096x1_S4096x784_0_1 main_v256
  let main_v258 : IVec S4096x784 1 := cmpf .oge main_v4 main_v257
  let main_v259 : IVec S4096x784 32 := (extui 32 · natLt_1_32) main_v258
  let main_c_66 : IVec S_ 32 := constantI S_ 32 0#32
  let main_v260 : IVec S4096 32 := (fun x v => Host.reduce IntOp.addi x v reducesTo_S4096x784_S4096_d1 h_S_) main_v259 main_c_66
  let main_c_67 : IVec S_ 32 := constantI S_ 32 100#32
  let main_v261 : IVec S4096 32 := broadcastInDim S4096 ![] bcast_S_S4096 main_c_67
  let main_v262 : IVec S4096 1 := cmpi .sge main_v260 main_v261
  let main_v263 : FVec F S4096 .f32 := fn_where_0 (F := F) main_v262 main_v255 main_v251
  let main_v264 : FVec F S4096 .f32 := fn_where_0 (F := F) main_v262 main_v252 main_v255
  let main_v265 : FVec F S4096 .f32 := addf main_v263 main_v264
  fn_part14 (F := F) main_v2 main_v4 main_v263 main_v264 main_v265

def fn_part12 {F : FTy → Type} [FloatOps F] (main_v2 : FVec F S4096x100352 .f32) (main_v4 : FVec F S4096x784 .f32) (main_v215 : FVec F S4096 .f32) (main_v216 : FVec F S4096 .f32) (main_v219 : FVec F S4096 .f32) (main_v226 : IVec S4096 1) : IVec S4096 1 × IVec S4096 1 × IVec S4096x16 1 :=
  let main_v227 : FVec F S4096 .f32 := fn_where_0 (F := F) main_v226 main_v219 main_v215
  let main_v228 : FVec F S4096 .f32 := fn_where_0 (F := F) main_v226 main_v216 main_v219
  let main_v229 : FVec F S4096 .f32 := addf main_v227 main_v228
  let main_cst_59 : FVec F S_ .f32 := constant S_ .f32 0x3F000000#32
  let main_v230 : FVec F S4096 .f32 := broadcastInDim S4096 ![] bcast_S_S4096 main_cst_59
  let main_v231 : FVec F S4096 .f32 := mulf main_v230 main_v229
  let main_v232 : FVec F S4096x1 .f32 := broadcastInDim S4096x1 ![0] bcast_S4096_S4096x1_0 main_v231
  let main_v233 : FVec F S4096x784 .f32 := broadcastInDim S4096x784 ![0, 1] bcast_S4096x1_S4096x784_0_1 main_v232
  let main_v234 : IVec S4096x784 1 := cmpf .oge main_v4 main_v233
  let main_v235 : IVec S4096x784 32 := (extui 32 · natLt_1_32) main_v234
  let main_c_60 : IVec S_ 32 := constantI S_ 32 0#32
  let main_v236 : IVec S4096 32 := (fun x v => Host.reduce IntOp.addi x v reducesTo_S4096x784_S4096_d1 h_S_) main_v235 main_c_60
  let main_c_61 : IVec S_ 32 := constantI S_ 32 100#32
  let main_v237 : IVec S4096 32 := broadcastInDim S4096 ![] bcast_S_S4096 main_c_61
  let main_v238 : IVec S4096 1 := cmpi .sge main_v236 main_v237
  let main_v239 : FVec F S4096 .f32 := fn_where_0 (F := F) main_v238 main_v231 main_v227
  let main_v240 : FVec F S4096 .f32 := fn_where_0 (F := F) main_v238 main_v228 main_v231
  let main_v241 : FVec F S4096 .f32 := addf main_v239 main_v240
  let main_cst_62 : FVec F S_ .f32 := constant S_ .f32 0x3F000000#32
  let main_v242 : FVec F S4096 .f32 := broadcastInDim S4096 ![] bcast_S_S4096 main_cst_62
  let main_v243 : FVec F S4096 .f32 := mulf main_v242 main_v241
  let main_v244 : FVec F S4096x1 .f32 := broadcastInDim S4096x1 ![0] bcast_S4096_S4096x1_0 main_v243
  let main_v245 : FVec F S4096x784 .f32 := broadcastInDim S4096x784 ![0, 1] bcast_S4096x1_S4096x784_0_1 main_v244
  let main_v246 : IVec S4096x784 1 := cmpf .oge main_v4 main_v245
  fn_part13 (F := F) main_v2 main_v4 main_v239 main_v240 main_v243 main_v246

def fn_part11 {F : FTy → Type} [FloatOps F] (main_v2 : FVec F S4096x100352 .f32) (main_v4 : FVec F S4096x784 .f32) (main_v203 : FVec F S4096 .f32) (main_v204 : FVec F S4096 .f32) (main_v207 : FVec F S4096 .f32) : IVec S4096 1 × IVec S4096 1 × IVec S4096x16 1 :=
  let main_v208 : FVec F S4096x1 .f32 := broadcastInDim S4096x1 ![0] bcast_S4096_S4096x1_0 main_v207
  let main_v209 : FVec F S4096x784 .f32 := broadcastInDim S4096x784 ![0, 1] bcast_S4096x1_S4096x784_0_1 main_v208
  let main_v210 : IVec S4096x784 1 := cmpf .oge main_v4 main_v209
  let main_v211 : IVec S4096x784 32 := (extui 32 · natLt_1_32) main_v210
  let main_c_54 : IVec S_ 32 := constantI S_ 32 0#32
  let main_v212 : IVec S4096 32 := (fun x v => Host.reduce IntOp.addi x v reducesTo_S4096x784_S4096_d1 h_S_) main_v211 main_c_54
  let main_c_55 : IVec S_ 32 := constantI S_ 32 100#32
  let main_v213 : IVec S4096 32 := broadcastInDim S4096 ![] bcast_S_S4096 main_c_55
  let main_v214 : IVec S4096 1 := cmpi .sge main_v212 main_v213
  let main_v215 : FVec F S4096 .f32 := fn_where_0 (F := F) main_v214 main_v207 main_v203
  let main_v216 : FVec F S4096 .f32 := fn_where_0 (F := F) main_v214 main_v204 main_v207
  let main_v217 : FVec F S4096 .f32 := addf main_v215 main_v216
  let main_cst_56 : FVec F S_ .f32 := constant S_ .f32 0x3F000000#32
  let main_v218 : FVec F S4096 .f32 := broadcastInDim S4096 ![] bcast_S_S4096 main_cst_56
  let main_v219 : FVec F S4096 .f32 := mulf main_v218 main_v217
  let main_v220 : FVec F S4096x1 .f32 := broadcastInDim S4096x1 ![0] bcast_S4096_S4096x1_0 main_v219
  let main_v221 : FVec F S4096x784 .f32 := broadcastInDim S4096x784 ![0, 1] bcast_S4096x1_S4096x784_0_1 main_v220
  let main_v222 : IVec S4096x784 1 := cmpf .oge main_v4 main_v221
  let main_v223 : IVec S4096x784 32 := (extui 32 · natLt_1_32) main_v222
  let main_c_57 : IVec S_ 32 := constantI S_ 32 0#32
  let main_v224 : IVec S4096 32 := (fun x v => Host.reduce IntOp.addi x v reducesTo_S4096x784_S4096_d1 h_S_) main_v223 main_c_57
  let main_c_58 : IVec S_ 32 := constantI S_ 32 100#32
  let main_v225 : IVec S4096 32 := broadcastInDim S4096 ![] bcast_S_S4096 main_c_58
  let main_v226 : IVec S4096 1 := cmpi .sge main_v224 main_v225
  fn_part12 (F := F) main_v2 main_v4 main_v215 main_v216 main_v219 main_v226

def fn_part10 {F : FTy → Type} [FloatOps F] (main_v2 : FVec F S4096x100352 .f32) (main_v4 : FVec F S4096x784 .f32) (main_v179 : FVec F S4096 .f32) (main_v180 : FVec F S4096 .f32) (main_v183 : FVec F S4096 .f32) (main_v188 : IVec S4096 32) : IVec S4096 1 × IVec S4096 1 × IVec S4096x16 1 :=
  let main_c_49 : IVec S_ 32 := constantI S_ 32 100#32
  let main_v189 : IVec S4096 32 := broadcastInDim S4096 ![] bcast_S_S4096 main_c_49
  let main_v190 : IVec S4096 1 := cmpi .sge main_v188 main_v189
  let main_v191 : FVec F S4096 .f32 := fn_where_0 (F := F) main_v190 main_v183 main_v179
  let main_v192 : FVec F S4096 .f32 := fn_where_0 (F := F) main_v190 main_v180 main_v183
  let main_v193 : FVec F S4096 .f32 := addf main_v191 main_v192
  let main_cst_50 : FVec F S_ .f32 := constant S_ .f32 0x3F000000#32
  let main_v194 : FVec F S4096 .f32 := broadcastInDim S4096 ![] bcast_S_S4096 main_cst_50
  let main_v195 : FVec F S4096 .f32 := mulf main_v194 main_v193
  let main_v196 : FVec F S4096x1 .f32 := broadcastInDim S4096x1 ![0] bcast_S4096_S4096x1_0 main_v195
  let main_v197 : FVec F S4096x784 .f32 := broadcastInDim S4096x784 ![0, 1] bcast_S4096x1_S4096x784_0_1 main_v196
  let main_v198 : IVec S4096x784 1 := cmpf .oge main_v4 main_v197
  let main_v199 : IVec S4096x784 32 := (extui 32 · natLt_1_32) main_v198
  let main_c_51 : IVec S_ 32 := constantI S_ 32 0#32
  let main_v200 : IVec S4096 32 := (fun x v => Host.reduce IntOp.addi x v reducesTo_S4096x784_S4096_d1 h_S_) main_v199 main_c_51
  let main_c_52 : IVec S_ 32 := constantI S_ 32 100#32
  let main_v201 : IVec S4096 32 := broadcastInDim S4096 ![] bcast_S_S4096 main_c_52
  let main_v202 : IVec S4096 1 := cmpi .sge main_v200 main_v201
  let main_v203 : FVec F S4096 .f32 := fn_where_0 (F := F) main_v202 main_v195 main_v191
  let main_v204 : FVec F S4096 .f32 := fn_where_0 (F := F) main_v202 main_v192 main_v195
  let main_v205 : FVec F S4096 .f32 := addf main_v203 main_v204
  let main_cst_53 : FVec F S_ .f32 := constant S_ .f32 0x3F000000#32
  let main_v206 : FVec F S4096 .f32 := broadcastInDim S4096 ![] bcast_S_S4096 main_cst_53
  let main_v207 : FVec F S4096 .f32 := mulf main_v206 main_v205
  fn_part11 (F := F) main_v2 main_v4 main_v203 main_v204 main_v207

def fn_part9 {F : FTy → Type} [FloatOps F] (main_v2 : FVec F S4096x100352 .f32) (main_v4 : FVec F S4096x784 .f32) (main_v167 : FVec F S4096 .f32) (main_v168 : FVec F S4096 .f32) (main_v169 : FVec F S4096 .f32) : IVec S4096 1 × IVec S4096 1 × IVec S4096x16 1 :=
  let main_cst_44 : FVec F S_ .f32 := constant S_ .f32 0x3F000000#32
  let main_v170 : FVec F S4096 .f32 := broadcastInDim S4096 ![] bcast_S_S4096 main_cst_44
  let main_v171 : FVec F S4096 .f32 := mulf main_v170 main_v169
  let main_v172 : FVec F S4096x1 .f32 := broadcastInDim S4096x1 ![0] bcast_S4096_S4096x1_0 main_v171
  let main_v173 : FVec F S4096x784 .f32 := broadcastInDim S4096x784 ![0, 1] bcast_S4096x1_S4096x784_0_1 main_v172
  let main_v174 : IVec S4096x784 1 := cmpf .oge main_v4 main_v173
  let main_v175 : IVec S4096x784 32 := (extui 32 · natLt_1_32) main_v174
  let main_c_45 : IVec S_ 32 := constantI S_ 32 0#32
  let main_v176 : IVec S4096 32 := (fun x v => Host.reduce IntOp.addi x v reducesTo_S4096x784_S4096_d1 h_S_) main_v175 main_c_45
  let main_c_46 : IVec S_ 32 := constantI S_ 32 100#32
  let main_v177 : IVec S4096 32 := broadcastInDim S4096 ![] bcast_S_S4096 main_c_46
  let main_v178 : IVec S4096 1 := cmpi .sge main_v176 main_v177
  let main_v179 : FVec F S4096 .f32 := fn_where_0 (F := F) main_v178 main_v171 main_v167
  let main_v180 : FVec F S4096 .f32 := fn_where_0 (F := F) main_v178 main_v168 main_v171
  let main_v181 : FVec F S4096 .f32 := addf main_v179 main_v180
  let main_cst_47 : FVec F S_ .f32 := constant S_ .f32 0x3F000000#32
  let main_v182 : FVec F S4096 .f32 := broadcastInDim S4096 ![] bcast_S_S4096 main_cst_47
  let main_v183 : FVec F S4096 .f32 := mulf main_v182 main_v181
  let main_v184 : FVec F S4096x1 .f32 := broadcastInDim S4096x1 ![0] bcast_S4096_S4096x1_0 main_v183
  let main_v185 : FVec F S4096x784 .f32 := broadcastInDim S4096x784 ![0, 1] bcast_S4096x1_S4096x784_0_1 main_v184
  let main_v186 : IVec S4096x784 1 := cmpf .oge main_v4 main_v185
  let main_v187 : IVec S4096x784 32 := (extui 32 · natLt_1_32) main_v186
  let main_c_48 : IVec S_ 32 := constantI S_ 32 0#32
  let main_v188 : IVec S4096 32 := (fun x v => Host.reduce IntOp.addi x v reducesTo_S4096x784_S4096_d1 h_S_) main_v187 main_c_48
  fn_part10 (F := F) main_v2 main_v4 main_v179 main_v180 main_v183 main_v188

def fn_part8 {F : FTy → Type} [FloatOps F] (main_v2 : FVec F S4096x100352 .f32) (main_v4 : FVec F S4096x784 .f32) (main_v143 : FVec F S4096 .f32) (main_v144 : FVec F S4096 .f32) (main_v147 : FVec F S4096 .f32) (main_v150 : IVec S4096x784 1) : IVec S4096 1 × IVec S4096 1 × IVec S4096x16 1 :=
  let main_v151 : IVec S4096x784 32 := (extui 32 · natLt_1_32) main_v150
  let main_c_39 : IVec S_ 32 := constantI S_ 32 0#32
  let main_v152 : IVec S4096 32 := (fun x v => Host.reduce IntOp.addi x v reducesTo_S4096x784_S4096_d1 h_S_) main_v151 main_c_39
  let main_c_40 : IVec S_ 32 := constantI S_ 32 100#32
  let main_v153 : IVec S4096 32 := broadcastInDim S4096 ![] bcast_S_S4096 main_c_40
  let main_v154 : IVec S4096 1 := cmpi .sge main_v152 main_v153
  let main_v155 : FVec F S4096 .f32 := fn_where_0 (F := F) main_v154 main_v147 main_v143
  let main_v156 : FVec F S4096 .f32 := fn_where_0 (F := F) main_v154 main_v144 main_v147
  let main_v157 : FVec F S4096 .f32 := addf main_v155 main_v156
  let main_cst_41 : FVec F S_ .f32 := constant S_ .f32 0x3F000000#32
  let main_v158 : FVec F S4096 .f32 := broadcastInDim S4096 ![] bcast_S_S4096 main_cst_41
  let main_v159 : FVec F S4096 .f32 := mulf main_v158 main_v157
  let main_v160 : FVec F S4096x1 .f32 := broadcastInDim S4096x1 ![0] bcast_S4096_S4096x1_0 main_v159
  let main_v161 : FVec F S4096x784 .f32 := broadcastInDim S4096x784 ![0, 1] bcast_S4096x1_S4096x784_0_1 main_v160
  let main_v162 : IVec S4096x784 1 := cmpf .oge main_v4 main_v161
  let main_v163 : IVec S4096x784 32 := (extui 32 · natLt_1_32) main_v162
  let main_c_42 : IVec S_ 32 := constantI S_ 32 0#32
  let main_v164 : IVec S4096 32 := (fun x v => Host.reduce IntOp.addi x v reducesTo_S4096x784_S4096_d1 h_S_) main_v163 main_c_42
  let main_c_43 : IVec S_ 32 := constantI S_ 32 100#32
  let main_v165 : IVec S4096 32 := broadcastInDim S4096 ![] bcast_S_S4096 main_c_43
  let main_v166 : IVec S4096 1 := cmpi .sge main_v164 main_v165
  let main_v167 : FVec F S4096 .f32 := fn_where_0 (F := F) main_v166 main_v159 main_v155
  let main_v168 : FVec F S4096 .f32 := fn_where_0 (F := F) main_v166 main_v156 main_v159
  let main_v169 : FVec F S4096 .f32 := addf main_v167 main_v168
  fn_part9 (F := F) main_v2 main_v4 main_v167 main_v168 main_v169

def fn_part7 {F : FTy → Type} [FloatOps F] (main_v2 : FVec F S4096x100352 .f32) (main_v4 : FVec F S4096x784 .f32) (main_v119 : FVec F S4096 .f32) (main_v120 : FVec F S4096 .f32) (main_v123 : FVec F S4096 .f32) (main_v130 : IVec S4096 1) : IVec S4096 1 × IVec S4096 1 × IVec S4096x16 1 :=
  let main_v131 : FVec F S4096 .f32 := fn_where_0 (F := F) main_v130 main_v123 main_v119
  let main_v132 : FVec F S4096 .f32 := fn_where_0 (F := F) main_v130 main_v120 main_v123
  let main_v133 : FVec F S4096 .f32 := addf main_v131 main_v132
  let main_cst_35 : FVec F S_ .f32 := constant S_ .f32 0x3F000000#32
  let main_v134 : FVec F S4096 .f32 := broadcastInDim S4096 ![] bcast_S_S4096 main_cst_35
  let main_v135 : FVec F S4096 .f32 := mulf main_v134 main_v133
  let main_v136 : FVec F S4096x1 .f32 := broadcastInDim S4096x1 ![0] bcast_S4096_S4096x1_0 main_v135
  let main_v137 : FVec F S4096x784 .f32 := broadcastInDim S4096x784 ![0, 1] bcast_S4096x1_S4096x784_0_1 main_v136
  let main_v138 : IVec S4096x784 1 := cmpf .oge main_v4 main_v137
  let main_v139 : IVec S4096x784 32 := (extui 32 · natLt_1_32) main_v138
  let main_c_36 : IVec S_ 32 := constantI S_ 32 0#32
  let main_v140 : IVec S4096 32 := (fun x v => Host.reduce IntOp.addi x v reducesTo_S4096x784_S4096_d1 h_S_) main_v139 main_c_36
  let main_c_37 : IVec S_ 32 := constantI S_ 32 100#32
  let main_v141 : IVec S4096 32 := broadcastInDim S4096 ![] bcast_S_S4096 main_c_37
  let main_v142 : IVec S4096 1 := cmpi .sge main_v140 main_v141
  let main_v143 : FVec F S4096 .f32 := fn_where_0 (F := F) main_v142 main_v135 main_v131
  let main_v144 : FVec F S4096 .f32 := fn_where_0 (F := F) main_v142 main_v132 main_v135
  let main_v145 : FVec F S4096 .f32 := addf main_v143 main_v144
  let main_cst_38 : FVec F S_ .f32 := constant S_ .f32 0x3F000000#32
  let main_v146 : FVec F S4096 .f32 := broadcastInDim S4096 ![] bcast_S_S4096 main_cst_38
  let main_v147 : FVec F S4096 .f32 := mulf main_v146 main_v145
  let main_v148 : FVec F S4096x1 .f32 := broadcastInDim S4096x1 ![0] bcast_S4096_S4096x1_0 main_v147
  let main_v149 : FVec F S4096x784 .f32 := broadcastInDim S4096x784 ![0, 1] bcast_S4096x1_S4096x784_0_1 main_v148
  let main_v150 : IVec S4096x784 1 := cmpf .oge main_v4 main_v149
  fn_part8 (F := F) main_v2 main_v4 main_v143 main_v144 main_v147 main_v150

def fn_part6 {F : FTy → Type} [FloatOps F] (main_v2 : FVec F S4096x100352 .f32) (main_v4 : FVec F S4096x784 .f32) (main_v107 : FVec F S4096 .f32) (main_v108 : FVec F S4096 .f32) (main_v111 : FVec F S4096 .f32) : IVec S4096 1 × IVec S4096 1 × IVec S4096x16 1 :=
  let main_v112 : FVec F S4096x1 .f32 := broadcastInDim S4096x1 ![0] bcast_S4096_S4096x1_0 main_v111
  let main_v113 : FVec F S4096x784 .f32 := broadcastInDim S4096x784 ![0, 1] bcast_S4096x1_S4096x784_0_1 main_v112
  let main_v114 : IVec S4096x784 1 := cmpf .oge main_v4 main_v113
  let main_v115 : IVec S4096x784 32 := (extui 32 · natLt_1_32) main_v114
  let main_c_30 : IVec S_ 32 := constantI S_ 32 0#32
  let main_v116 : IVec S4096 32 := (fun x v => Host.reduce IntOp.addi x v reducesTo_S4096x784_S4096_d1 h_S_) main_v115 main_c_30
  let main_c_31 : IVec S_ 32 := constantI S_ 32 100#32
  let main_v117 : IVec S4096 32 := broadcastInDim S4096 ![] bcast_S_S4096 main_c_31
  let main_v118 : IVec S4096 1 := cmpi .sge main_v116 main_v117
  let main_v119 : FVec F S4096 .f32 := fn_where_0 (F := F) main_v118 main_v111 main_v107
  let main_v120 : FVec F S4096 .f32 := fn_where_0 (F := F) main_v118 main_v108 main_v111
  let main_v121 : FVec F S4096 .f32 := addf main_v119 main_v120
  let main_cst_32 : FVec F S_ .f32 := constant S_ .f32 0x3F000000#32
  let main_v122 : FVec F S4096 .f32 := broadcastInDim S4096 ![] bcast_S_S4096 main_cst_32
  let main_v123 : FVec F S4096 .f32 := mulf main_v122 main_v121
  let main_v124 : FVec F S4096x1 .f32 := broadcastInDim S4096x1 ![0] bcast_S4096_S4096x1_0 main_v123
  let main_v125 : FVec F S4096x784 .f32 := broadcastInDim S4096x784 ![0, 1] bcast_S4096x1_S4096x784_0_1 main_v124
  let main_v126 : IVec S4096x784 1 := cmpf .oge main_v4 main_v125
  let main_v127 : IVec S4096x784 32 := (extui 32 · natLt_1_32) main_v126
  let main_c_33 : IVec S_ 32 := constantI S_ 32 0#32
  let main_v128 : IVec S4096 32 := (fun x v => Host.reduce IntOp.addi x v reducesTo_S4096x784_S4096_d1 h_S_) main_v127 main_c_33
  let main_c_34 : IVec S_ 32 := constantI S_ 32 100#32
  let main_v129 : IVec S4096 32 := broadcastInDim S4096 ![] bcast_S_S4096 main_c_34
  let main_v130 : IVec S4096 1 := cmpi .sge main_v128 main_v129
  fn_part7 (F := F) main_v2 main_v4 main_v119 main_v120 main_v123 main_v130

def fn_part5 {F : FTy → Type} [FloatOps F] (main_v2 : FVec F S4096x100352 .f32) (main_v4 : FVec F S4096x784 .f32) (main_v83 : FVec F S4096 .f32) (main_v84 : FVec F S4096 .f32) (main_v87 : FVec F S4096 .f32) (main_v92 : IVec S4096 32) : IVec S4096 1 × IVec S4096 1 × IVec S4096x16 1 :=
  let main_c_25 : IVec S_ 32 := constantI S_ 32 100#32
  let main_v93 : IVec S4096 32 := broadcastInDim S4096 ![] bcast_S_S4096 main_c_25
  let main_v94 : IVec S4096 1 := cmpi .sge main_v92 main_v93
  let main_v95 : FVec F S4096 .f32 := fn_where_0 (F := F) main_v94 main_v87 main_v83
  let main_v96 : FVec F S4096 .f32 := fn_where_0 (F := F) main_v94 main_v84 main_v87
  let main_v97 : FVec F S4096 .f32 := addf main_v95 main_v96
  let main_cst_26 : FVec F S_ .f32 := constant S_ .f32 0x3F000000#32
  let main_v98 : FVec F S4096 .f32 := broadcastInDim S4096 ![] bcast_S_S4096 main_cst_26
  let main_v99 : FVec F S4096 .f32 := mulf main_v98 main_v97
  let main_v100 : FVec F S4096x1 .f32 := broadcastInDim S4096x1 ![0] bcast_S4096_S4096x1_0 main_v99
  let main_v101 : FVec F S4096x784 .f32 := broadcastInDim S4096x784 ![0, 1] bcast_S4096x1_S4096x784_0_1 main_v100
  let main_v102 : IVec S4096x784 1 := cmpf .oge main_v4 main_v101
  let main_v103 : IVec S4096x784 32 := (extui 32 · natLt_1_32) main_v102
  let main_c_27 : IVec S_ 32 := constantI S_ 32 0#32
  let main_v104 : IVec S4096 32 := (fun x v => Host.reduce IntOp.addi x v reducesTo_S4096x784_S4096_d1 h_S_) main_v103 main_c_27
  let main_c_28 : IVec S_ 32 := constantI S_ 32 100#32
  let main_v105 : IVec S4096 32 := broadcastInDim S4096 ![] bcast_S_S4096 main_c_28
  let main_v106 : IVec S4096 1 := cmpi .sge main_v104 main_v105
  let main_v107 : FVec F S4096 .f32 := fn_where_0 (F := F) main_v106 main_v99 main_v95
  let main_v108 : FVec F S4096 .f32 := fn_where_0 (F := F) main_v106 main_v96 main_v99
  let main_v109 : FVec F S4096 .f32 := addf main_v107 main_v108
  let main_cst_29 : FVec F S_ .f32 := constant S_ .f32 0x3F000000#32
  let main_v110 : FVec F S4096 .f32 := broadcastInDim S4096 ![] bcast_S_S4096 main_cst_29
  let main_v111 : FVec F S4096 .f32 := mulf main_v110 main_v109
  fn_part6 (F := F) main_v2 main_v4 main_v107 main_v108 main_v111

def fn_part4 {F : FTy → Type} [FloatOps F] (main_v2 : FVec F S4096x100352 .f32) (main_v4 : FVec F S4096x784 .f32) (main_v71 : FVec F S4096 .f32) (main_v72 : FVec F S4096 .f32) (main_v73 : FVec F S4096 .f32) : IVec S4096 1 × IVec S4096 1 × IVec S4096x16 1 :=
  let main_cst_20 : FVec F S_ .f32 := constant S_ .f32 0x3F000000#32
  let main_v74 : FVec F S4096 .f32 := broadcastInDim S4096 ![] bcast_S_S4096 main_cst_20
  let main_v75 : FVec F S4096 .f32 := mulf main_v74 main_v73
  let main_v76 : FVec F S4096x1 .f32 := broadcastInDim S4096x1 ![0] bcast_S4096_S4096x1_0 main_v75
  let main_v77 : FVec F S4096x784 .f32 := broadcastInDim S4096x784 ![0, 1] bcast_S4096x1_S4096x784_0_1 main_v76
  let main_v78 : IVec S4096x784 1 := cmpf .oge main_v4 main_v77
  let main_v79 : IVec S4096x784 32 := (extui 32 · natLt_1_32) main_v78
  let main_c_21 : IVec S_ 32 := constantI S_ 32 0#32
  let main_v80 : IVec S4096 32 := (fun x v => Host.reduce IntOp.addi x v reducesTo_S4096x784_S4096_d1 h_S_) main_v79 main_c_21
  let main_c_22 : IVec S_ 32 := constantI S_ 32 100#32
  let main_v81 : IVec S4096 32 := broadcastInDim S4096 ![] bcast_S_S4096 main_c_22
  let main_v82 : IVec S4096 1 := cmpi .sge main_v80 main_v81
  let main_v83 : FVec F S4096 .f32 := fn_where_0 (F := F) main_v82 main_v75 main_v71
  let main_v84 : FVec F S4096 .f32 := fn_where_0 (F := F) main_v82 main_v72 main_v75
  let main_v85 : FVec F S4096 .f32 := addf main_v83 main_v84
  let main_cst_23 : FVec F S_ .f32 := constant S_ .f32 0x3F000000#32
  let main_v86 : FVec F S4096 .f32 := broadcastInDim S4096 ![] bcast_S_S4096 main_cst_23
  let main_v87 : FVec F S4096 .f32 := mulf main_v86 main_v85
  let main_v88 : FVec F S4096x1 .f32 := broadcastInDim S4096x1 ![0] bcast_S4096_S4096x1_0 main_v87
  let main_v89 : FVec F S4096x784 .f32 := broadcastInDim S4096x784 ![0, 1] bcast_S4096x1_S4096x784_0_1 main_v88
  let main_v90 : IVec S4096x784 1 := cmpf .oge main_v4 main_v89
  let main_v91 : IVec S4096x784 32 := (extui 32 · natLt_1_32) main_v90
  let main_c_24 : IVec S_ 32 := constantI S_ 32 0#32
  let main_v92 : IVec S4096 32 := (fun x v => Host.reduce IntOp.addi x v reducesTo_S4096x784_S4096_d1 h_S_) main_v91 main_c_24
  fn_part5 (F := F) main_v2 main_v4 main_v83 main_v84 main_v87 main_v92

def fn_part3 {F : FTy → Type} [FloatOps F] (main_v2 : FVec F S4096x100352 .f32) (main_v4 : FVec F S4096x784 .f32) (main_v47 : FVec F S4096 .f32) (main_v48 : FVec F S4096 .f32) (main_v51 : FVec F S4096 .f32) (main_v54 : IVec S4096x784 1) : IVec S4096 1 × IVec S4096 1 × IVec S4096x16 1 :=
  let main_v55 : IVec S4096x784 32 := (extui 32 · natLt_1_32) main_v54
  let main_c_15 : IVec S_ 32 := constantI S_ 32 0#32
  let main_v56 : IVec S4096 32 := (fun x v => Host.reduce IntOp.addi x v reducesTo_S4096x784_S4096_d1 h_S_) main_v55 main_c_15
  let main_c_16 : IVec S_ 32 := constantI S_ 32 100#32
  let main_v57 : IVec S4096 32 := broadcastInDim S4096 ![] bcast_S_S4096 main_c_16
  let main_v58 : IVec S4096 1 := cmpi .sge main_v56 main_v57
  let main_v59 : FVec F S4096 .f32 := fn_where_0 (F := F) main_v58 main_v51 main_v47
  let main_v60 : FVec F S4096 .f32 := fn_where_0 (F := F) main_v58 main_v48 main_v51
  let main_v61 : FVec F S4096 .f32 := addf main_v59 main_v60
  let main_cst_17 : FVec F S_ .f32 := constant S_ .f32 0x3F000000#32
  let main_v62 : FVec F S4096 .f32 := broadcastInDim S4096 ![] bcast_S_S4096 main_cst_17
  let main_v63 : FVec F S4096 .f32 := mulf main_v62 main_v61
  let main_v64 : FVec F S4096x1 .f32 := broadcastInDim S4096x1 ![0] bcast_S4096_S4096x1_0 main_v63
  let main_v65 : FVec F S4096x784 .f32 := broadcastInDim S4096x784 ![0, 1] bcast_S4096x1_S4096x784_0_1 main_v64
  let main_v66 : IVec S4096x784 1 := cmpf .oge main_v4 main_v65
  let main_v67 : IVec S4096x784 32 := (extui 32 · natLt_1_32) main_v66
  let main_c_18 : IVec S_ 32 := constantI S_ 32 0#32
  let main_v68 : IVec S4096 32 := (fun x v => Host.reduce IntOp.addi x v reducesTo_S4096x784_S4096_d1 h_S_) main_v67 main_c_18
  let main_c_19 : IVec S_ 32 := constantI S_ 32 100#32
  let main_v69 : IVec S4096 32 := broadcastInDim S4096 ![] bcast_S_S4096 main_c_19
  let main_v70 : IVec S4096 1 := cmpi .sge main_v68 main_v69
  let main_v71 : FVec F S4096 .f32 := fn_where_0 (F := F) main_v70 main_v63 main_v59
  let main_v72 : FVec F S4096 .f32 := fn_where_0 (F := F) main_v70 main_v60 main_v63
  let main_v73 : FVec F S4096 .f32 := addf main_v71 main_v72
  fn_part4 (F := F) main_v2 main_v4 main_v71 main_v72 main_v73

def fn_part2 {F : FTy → Type} [FloatOps F] (main_v2 : FVec F S4096x100352 .f32) (main_v4 : FVec F S4096x784 .f32) (main_v23 : FVec F S4096 .f32) (main_v24 : FVec F S4096 .f32) (main_v27 : FVec F S4096 .f32) (main_v34 : IVec S4096 1) : IVec S4096 1 × IVec S4096 1 × IVec S4096x16 1 :=
  let main_v35 : FVec F S4096 .f32 := fn_where_0 (F := F) main_v34 main_v27 main_v23
  let main_v36 : FVec F S4096 .f32 := fn_where_0 (F := F) main_v34 main_v24 main_v27
  let main_v37 : FVec F S4096 .f32 := addf main_v35 main_v36
  let main_cst_11 : FVec F S_ .f32 := constant S_ .f32 0x3F000000#32
  let main_v38 : FVec F S4096 .f32 := broadcastInDim S4096 ![] bcast_S_S4096 main_cst_11
  let main_v39 : FVec F S4096 .f32 := mulf main_v38 main_v37
  let main_v40 : FVec F S4096x1 .f32 := broadcastInDim S4096x1 ![0] bcast_S4096_S4096x1_0 main_v39
  let main_v41 : FVec F S4096x784 .f32 := broadcastInDim S4096x784 ![0, 1] bcast_S4096x1_S4096x784_0_1 main_v40
  let main_v42 : IVec S4096x784 1 := cmpf .oge main_v4 main_v41
  let main_v43 : IVec S4096x784 32 := (extui 32 · natLt_1_32) main_v42
  let main_c_12 : IVec S_ 32 := constantI S_ 32 0#32
  let main_v44 : IVec S4096 32 := (fun x v => Host.reduce IntOp.addi x v reducesTo_S4096x784_S4096_d1 h_S_) main_v43 main_c_12
  let main_c_13 : IVec S_ 32 := constantI S_ 32 100#32
  let main_v45 : IVec S4096 32 := broadcastInDim S4096 ![] bcast_S_S4096 main_c_13
  let main_v46 : IVec S4096 1 := cmpi .sge main_v44 main_v45
  let main_v47 : FVec F S4096 .f32 := fn_where_0 (F := F) main_v46 main_v39 main_v35
  let main_v48 : FVec F S4096 .f32 := fn_where_0 (F := F) main_v46 main_v36 main_v39
  let main_v49 : FVec F S4096 .f32 := addf main_v47 main_v48
  let main_cst_14 : FVec F S_ .f32 := constant S_ .f32 0x3F000000#32
  let main_v50 : FVec F S4096 .f32 := broadcastInDim S4096 ![] bcast_S_S4096 main_cst_14
  let main_v51 : FVec F S4096 .f32 := mulf main_v50 main_v49
  let main_v52 : FVec F S4096x1 .f32 := broadcastInDim S4096x1 ![0] bcast_S4096_S4096x1_0 main_v51
  let main_v53 : FVec F S4096x784 .f32 := broadcastInDim S4096x784 ![0, 1] bcast_S4096x1_S4096x784_0_1 main_v52
  let main_v54 : IVec S4096x784 1 := cmpf .oge main_v4 main_v53
  fn_part3 (F := F) main_v2 main_v4 main_v47 main_v48 main_v51 main_v54

def fn_part1 {F : FTy → Type} [FloatOps F] (main_v2 : FVec F S4096x100352 .f32) (main_v4 : FVec F S4096x784 .f32) (main_v9 : FVec F S4096 .f32) (main_v12 : FVec F S4096 .f32) (main_v15 : FVec F S4096 .f32) : IVec S4096 1 × IVec S4096 1 × IVec S4096x16 1 :=
  let main_v16 : FVec F S4096x1 .f32 := broadcastInDim S4096x1 ![0] bcast_S4096_S4096x1_0 main_v15
  let main_v17 : FVec F S4096x784 .f32 := broadcastInDim S4096x784 ![0, 1] bcast_S4096x1_S4096x784_0_1 main_v16
  let main_v18 : IVec S4096x784 1 := cmpf .oge main_v4 main_v17
  let main_v19 : IVec S4096x784 32 := (extui 32 · natLt_1_32) main_v18
  let main_c_6 : IVec S_ 32 := constantI S_ 32 0#32
  let main_v20 : IVec S4096 32 := (fun x v => Host.reduce IntOp.addi x v reducesTo_S4096x784_S4096_d1 h_S_) main_v19 main_c_6
  let main_c_7 : IVec S_ 32 := constantI S_ 32 100#32
  let main_v21 : IVec S4096 32 := broadcastInDim S4096 ![] bcast_S_S4096 main_c_7
  let main_v22 : IVec S4096 1 := cmpi .sge main_v20 main_v21
  let main_v23 : FVec F S4096 .f32 := fn_where_0 (F := F) main_v22 main_v15 main_v9
  let main_v24 : FVec F S4096 .f32 := fn_where_0 (F := F) main_v22 main_v12 main_v15
  let main_v25 : FVec F S4096 .f32 := addf main_v23 main_v24
  let main_cst_8 : FVec F S_ .f32 := constant S_ .f32 0x3F000000#32
  let main_v26 : FVec F S4096 .f32 := broadcastInDim S4096 ![] bcast_S_S4096 main_cst_8
  let main_v27 : FVec F S4096 .f32 := mulf main_v26 main_v25
  let main_v28 : FVec F S4096x1 .f32 := broadcastInDim S4096x1 ![0] bcast_S4096_S4096x1_0 main_v27
  let main_v29 : FVec F S4096x784 .f32 := broadcastInDim S4096x784 ![0, 1] bcast_S4096x1_S4096x784_0_1 main_v28
  let main_v30 : IVec S4096x784 1 := cmpf .oge main_v4 main_v29
  let main_v31 : IVec S4096x784 32 := (extui 32 · natLt_1_32) main_v30
  let main_c_9 : IVec S_ 32 := constantI S_ 32 0#32
  let main_v32 : IVec S4096 32 := (fun x v => Host.reduce IntOp.addi x v reducesTo_S4096x784_S4096_d1 h_S_) main_v31 main_c_9
  let main_c_10 : IVec S_ 32 := constantI S_ 32 100#32
  let main_v33 : IVec S4096 32 := broadcastInDim S4096 ![] bcast_S_S4096 main_c_10
  let main_v34 : IVec S4096 1 := cmpi .sge main_v32 main_v33
  fn_part2 (F := F) main_v2 main_v4 main_v23 main_v24 main_v27 main_v34

def fn {F : FTy → Type} [FloatOps F] (main_arg0 : FVec F S4096x128 .f32) (main_arg1 : FVec F S100000x128 .f32) : IVec S4096 1 × IVec S4096 1 × IVec S4096x16 1 :=
  let main_v0 : FVec F S128x100000 .f32 := (transpose S128x100000 [1, 0] · transposes_S100000x128_S128x100000_1_0) main_arg1
  let main_v1 : FVec F S4096x100000 .f32 := (fun l r => Host.dotGeneral dot_S4096x128_S128x100000_S4096x100000_1_0_0_1_n_n none l r) main_arg0 main_v0
  let main_cst : FVec F S_ .f32 := constant S_ .f32 0xFF61B1E6#32
  let main_v2 : FVec F S4096x100352 .f32 := fn_pad (F := F) main_v1 main_cst
  let main_v3 : FVec F S4096x784x128 .f32 := shapeCast S4096x784x128 main_v2 shapeCasts_S4096x100352_S4096x784x128
  let main_cst_0 : FVec F S_ .f32 := constant S_ .f32 0xFF800000#32
  let main_v4 : FVec F S4096x784 .f32 := (fun x v => Host.reduce FloatOps.maximumf x v reducesTo_S4096x784x128_S4096x784_d2 h_S_) main_v3 main_cst_0
  let main_v5 : IVec S4096x784 32 := iotaInDim S4096x784 32 1
  let main_c : IVec S_ 32 := constantI S_ 32 782#32
  let main_v6 : IVec S4096x784 32 := broadcastInDim S4096x784 ![] bcast_S_S4096x784 main_c
  let main_v7 : IVec S4096x784 1 := cmpi .slt main_v5 main_v6
  let main_cst_1 : FVec F S_ .f32 := constant S_ .f32 0x7F61B1E6#32
  let main_v8 : FVec F S4096x784 .f32 := fn_where (F := F) main_v7 main_v4 main_cst_1
  let main_cst_2 : FVec F S_ .f32 := constant S_ .f32 0x7F800000#32
  let main_v9 : FVec F S4096 .f32 := (fun x v => Host.reduce FloatOps.minimumf x v reducesTo_S4096x784_S4096_d1 h_S_) main_v8 main_cst_2
  let main_cst_3 : FVec F S_ .f32 := constant S_ .f32 0xFF800000#32
  let main_v10 : FVec F S4096 .f32 := (fun x v => Host.reduce FloatOps.maximumf x v reducesTo_S4096x784_S4096_d1 h_S_) main_v4 main_cst_3
  let main_cst_4 : FVec F S_ .f32 := constant S_ .f32 0x3F800000#32
  let main_v11 : FVec F S4096 .f32 := broadcastInDim S4096 ![] bcast_S_S4096 main_cst_4
  let main_v12 : FVec F S4096 .f32 := addf main_v10 main_v11
  let main_v13 : FVec F S4096 .f32 := addf main_v9 main_v12
  let main_cst_5 : FVec F S_ .f32 := constant S_ .f32 0x3F000000#32
  let main_v14 : FVec F S4096 .f32 := broadcastInDim S4096 ![] bcast_S_S4096 main_cst_5
  let main_v15 : FVec F S4096 .f32 := mulf main_v14 main_v13
  fn_part1 (F := F) main_v2 main_v4 main_v9 main_v12 main_v15
-- ==== Kernel.lean ====
abbrev S4096x128 : Shape := ⟨2, ![4096, 128]⟩
abbrev S100000x128 : Shape := ⟨2, ![100000, 128]⟩
abbrev S_ : Shape := ⟨0, ![]⟩
abbrev S100352x128 : Shape := ⟨2, ![100352, 128]⟩
abbrev S4096x784x128 : Shape := ⟨3, ![4096, 784, 128]⟩
abbrev S49x4096x16 : Shape := ⟨3, ![49, 4096, 16]⟩
abbrev S512x128 : Shape := ⟨2, ![512, 128]⟩
abbrev S2048x128 : Shape := ⟨2, ![2048, 128]⟩
abbrev S512x16x128 : Shape := ⟨3, ![512, 16, 128]⟩
abbrev S1x512x16 : Shape := ⟨3, ![1, 512, 16]⟩
abbrev S512x2048 : Shape := ⟨2, ![512, 2048]⟩
abbrev S512x16 : Shape := ⟨2, ![512, 16]⟩
abbrev S4096x49x16 : Shape := ⟨3, ![4096, 49, 16]⟩
abbrev S4096x784 : Shape := ⟨2, ![4096, 784]⟩
abbrev S4096 : Shape := ⟨1, ![4096]⟩
abbrev S512x784 : Shape := ⟨2, ![512, 784]⟩
abbrev S512 : Shape := ⟨1, ![512]⟩
abbrev S512x1 : Shape := ⟨2, ![512, 1]⟩
abbrev S3211264x128 : Shape := ⟨2, ![3211264, 128]⟩
abbrev S4096x256 : Shape := ⟨2, ![4096, 256]⟩
abbrev S16x784 : Shape := ⟨2, ![16, 784]⟩
abbrev S4x128 : Shape := ⟨2, ![4, 128]⟩
abbrev S4x128x128 : Shape := ⟨3, ![4, 128, 128]⟩
abbrev S16x256 : Shape := ⟨2, ![16, 256]⟩
abbrev S128 : Shape := ⟨1, ![128]⟩
abbrev S16 : Shape := ⟨1, ![16]⟩
abbrev S1x16 : Shape := ⟨2, ![1, 16]⟩
abbrev S1x128 : Shape := ⟨2, ![1, 128]⟩
abbrev S1x128x128 : Shape := ⟨3, ![1, 128, 128]⟩
abbrev S128x128 : Shape := ⟨2, ![128, 128]⟩
abbrev S1x1x16 : Shape := ⟨3, ![1, 1, 16]⟩
abbrev S4096x100 : Shape := ⟨2, ![4096, 100]⟩
abbrev S512x256 : Shape := ⟨2, ![512, 256]⟩
abbrev S512x100 : Shape := ⟨2, ![512, 100]⟩

abbrev nBuf : Table → Nat
  | .hbm => 15
  | .local .tc .vmem => 20
  | .local .scVector .vmem => 9
  | _ => 0

abbrev bufTy : (tb : Table) → Fin (nBuf tb) → BufTy
  | .hbm, ⟨0, _⟩ => ⟨S4096x128, .f32⟩
  | .hbm, ⟨1, _⟩ => ⟨S100000x128, .f32⟩
  | .hbm, ⟨2, _⟩ => ⟨S_, .i32⟩
  | .hbm, ⟨3, _⟩ => ⟨S_, .f32⟩
  | .hbm, ⟨4, _⟩ => ⟨S100352x128, .f32⟩
  | .hbm, ⟨5, _⟩ => ⟨S4096x784x128, .f32⟩
  | .hbm, ⟨6, _⟩ => ⟨S49x4096x16, .f32⟩
  | .hbm, ⟨7, _⟩ => ⟨S4096x49x16, .f32⟩
  | .hbm, ⟨8, _⟩ => ⟨S4096x784, .f32⟩
  | .hbm, ⟨9, _⟩ => ⟨S4096, .f32⟩
  | .hbm, ⟨10, _⟩ => ⟨S3211264x128, .f32⟩
  | .hbm, ⟨11, _⟩ => ⟨S4096x256, .f32⟩
  | .hbm, ⟨12, _⟩ => ⟨S4096x256, .i32⟩
  | .hbm, ⟨13, _⟩ => ⟨S4096x100, .f32⟩
  | .hbm, ⟨14, _⟩ => ⟨S4096x100, .i32⟩
  | .local .tc .vmem, ⟨0, _⟩ => ⟨S512x128, .f32⟩
  | .local .tc .vmem, ⟨1, _⟩ => ⟨S512x128, .f32⟩
  | .local .tc .vmem, ⟨2, _⟩ => ⟨S2048x128, .f32⟩
  | .local .tc .vmem, ⟨3, _⟩ => ⟨S2048x128, .f32⟩
  | .local .tc .vmem, ⟨4, _⟩ => ⟨S512x16x128, .f32⟩
  | .local .tc .vmem, ⟨5, _⟩ => ⟨S512x16x128, .f32⟩
  | .local .tc .vmem, ⟨6, _⟩ => ⟨S1x512x16, .f32⟩
  | .local .tc .vmem, ⟨7, _⟩ => ⟨S1x512x16, .f32⟩
  | .local .tc .vmem, ⟨8, _⟩ => ⟨S512x784, .f32⟩
  | .local .tc .vmem, ⟨9, _⟩ => ⟨S512x784, .f32⟩
  | .local .tc .vmem, ⟨10, _⟩ => ⟨S512, .f32⟩
  | .local .tc .vmem, ⟨11, _⟩ => ⟨S512, .f32⟩
  | .local .tc .vmem, ⟨12, _⟩ => ⟨S512x256, .f32⟩
  | .local .tc .vmem, ⟨13, _⟩ => ⟨S512x256, .f32⟩
  | .local .tc .vmem, ⟨14, _⟩ => ⟨S512x256, .i32⟩
  | .local .tc .vmem, ⟨15, _⟩ => ⟨S512x256, .i32⟩
  | .local .tc .vmem, ⟨16, _⟩ => ⟨S512x100, .f32⟩
  | .local .tc .vmem, ⟨17, _⟩ => ⟨S512x100, .f32⟩
  | .local .tc .vmem, ⟨18, _⟩ => ⟨S512x100, .i32⟩
  | .local .tc .vmem, ⟨19, _⟩ => ⟨S512x100, .i32⟩
  | .local .scVector .vmem, ⟨0, _⟩ => ⟨S16x784, .f32⟩
  | .local .scVector .vmem, ⟨1, _⟩ => ⟨S4x128, .i32⟩
  | .local .scVector .vmem, ⟨2, _⟩ => ⟨S4x128, .i32⟩
  | .local .scVector .vmem, ⟨3, _⟩ => ⟨S4x128x128, .f32⟩
  | .local .scVector .vmem, ⟨4, _⟩ => ⟨S16x256, .f32⟩
  | .local .scVector .vmem, ⟨5, _⟩ => ⟨S16x256, .i32⟩
  | .local .scVector .vmem, ⟨6, _⟩ => ⟨S512, .f32⟩
  | .local .scVector .vmem, ⟨7, _⟩ => ⟨S512, .i32⟩
  | .local .scVector .vmem, ⟨8, _⟩ => ⟨S128, .f32⟩
  | _, _ => ⟨S4096x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v7_0 : Ref sig .tc := ⟨.hbm, 13, rfl⟩
abbrev main_v7_1 : Ref sig .tc := ⟨.hbm, 14, rfl⟩
abbrev main_v5_scv : Ref sig .scVector := ⟨.hbm, 10, rfl⟩
abbrev main_v3_scv : Ref sig .scVector := ⟨.hbm, 8, rfl⟩
abbrev main_v4_scv : Ref sig .scVector := ⟨.hbm, 9, rfl⟩
abbrev main_v6_0_scv : Ref sig .scVector := ⟨.hbm, 11, rfl⟩
abbrev main_v6_1_scv : Ref sig .scVector := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc3_stg0_0 : Ref sig .tc := ⟨.vmem, 12, rfl⟩
abbrev cc3_stg0_1 : Ref sig .tc := ⟨.vmem, 13, rfl⟩
abbrev cc3_stg1_0 : Ref sig .tc := ⟨.vmem, 14, rfl⟩
abbrev cc3_stg1_1 : Ref sig .tc := ⟨.vmem, 15, rfl⟩
abbrev cc3_stg2_0 : Ref sig .tc := ⟨.vmem, 16, rfl⟩
abbrev cc3_stg2_1 : Ref sig .tc := ⟨.vmem, 17, rfl⟩
abbrev cc3_stg3_0 : Ref sig .tc := ⟨.vmem, 18, rfl⟩
abbrev cc3_stg3_1 : Ref sig .tc := ⟨.vmem, 19, rfl⟩
abbrev cc2_scratch0 : Ref sig .scVector := ⟨.vmem, 0, rfl⟩
abbrev cc2_scratch1 : Ref sig .scVector := ⟨.vmem, 1, rfl⟩
abbrev cc2_scratch2 : Ref sig .scVector := ⟨.vmem, 2, rfl⟩
abbrev cc2_scratch3 : Ref sig .scVector := ⟨.vmem, 3, rfl⟩
abbrev cc2_scratch4 : Ref sig .scVector := ⟨.vmem, 4, rfl⟩
abbrev cc2_scratch5 : Ref sig .scVector := ⟨.vmem, 5, rfl⟩
abbrev cc2_scratch6 : Ref sig .scVector := ⟨.vmem, 6, rfl⟩
abbrev cc2_scratch7 : Ref sig .scVector := ⟨.vmem, 7, rfl⟩
abbrev cc2_scratch8 : Ref sig .scVector := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc3_sem3_0 : DmaSem sig := 26
abbrev cc3_sem3_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 49], ![false, false]⟩

def k0_cond1 (i : grid0.Coords) : BitVec 1 :=
  let arg1 : BitVec 32 := BitVec.ofNat 32 (i 1).val
  let c48_i32 : BitVec 32 := 48#32
  let v4 : BitVec 1 := Scalar.cmpi .slt arg1 c48_i32
  let v5 : BitVec 32 := Scalar.extui v4
  let c0_i32 : BitVec 32 := 0#32
  let v6 : BitVec 1 := Scalar.cmpi .ne v5 c0_i32
  v6

def k0_cond2 (i : grid0.Coords) : BitVec 1 :=
  let arg1 : BitVec 32 := BitVec.ofNat 32 (i 1).val
  let c48_i32_3 : BitVec 32 := 48#32
  let v7 : BitVec 1 := Scalar.cmpi .eq arg1 c48_i32_3
  let v8 : BitVec 32 := Scalar.extui v7
  let c0_i32_4 : BitVec 32 := 0#32
  let v9 : BitVec 1 := Scalar.cmpi .ne v8 c0_i32_4
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S512x784 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k2_t1_loop : Scf.Loop 32 :=
  let c0_i32_1 : BitVec 32 := 0#32
  let c8_i32 : BitVec 32 := 8#32
  let v5 : BitVec 32 := Scalar.addi c0_i32_1 c8_i32
  let c1_i32 : BitVec 32 := 1#32
  ⟨c0_i32_1, v5, c1_i32⟩
def k2_off2 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1 : BitVec 32 := 0#32
  let c1_i32 : BitVec 32 := 1#32
  let arg20 : BitVec 32 := Scf.iv c0_i32_1 c1_i32 k2_t1
  let c16_i32 : BitVec 32 := 16#32
  let v6 : BitVec 32 := Scalar.muli arg20 c16_i32
  let v7 : BitVec 32 := Scalar.addi v2 v6
  let c0_i32_3217_r1 : BitVec 32 := 0#32
  ![v7.toNat, 0]

def k2_chk1 (v10 : IVec S16 32) : Prop :=
  (∀ a x, ((![v10] : Fin 1 → IVec S16 32) a x).toNat < S128.size a)
theorem k2_idx1_inb : ∀ (v10 : IVec S16 32) (k2_hw1 : k2_chk1 v10), ∀ a x, ((![v10] : Fin 1 → IVec S16 32) a x).toNat < S128.size a := fun v10 k2_hw1 => k2_hw1
@[reducible] def k2_t2_loop : Scf.Loop 32 :=
  let c0_i32_20 : BitVec 32 := 0#32
  let c49_i32 : BitVec 32 := 49#32
  let v36 : BitVec 32 := Scalar.addi c0_i32_20 c49_i32
  let c1_i32_21 : BitVec 32 := 1#32
  ⟨c0_i32_20, v36, c1_i32_21⟩
def k2_off3 (k2_t2 : Fin k2_t2_loop.trips) : Fin 2 → Nat :=
  let c0_i32_3218 : BitVec 32 := 0#32
  let v3611 : Index := Scalar.indexCast c0_i32_3218
  let c0_i32_20 : BitVec 32 := 0#32
  let c1_i32_21 : BitVec 32 := 1#32
  let arg21 : BitVec 32 := Scf.iv c0_i32_20 c1_i32_21 k2_t2
  let c16_i32_3217 : BitVec 32 := 16#32
  let v3610 : BitVec 32 := Scalar.muli arg21 c16_i32_3217
  let v3612 : Index := Scalar.indexCast v3610
  ![0, v3612.toNat]

def k2_chk2 (v3621 : IVec S16 32) : Prop :=
  (∀ a x, ((![v3621] : Fin 1 → IVec S16 32) a x).toNat < S128.size a)
theorem k2_idx2_inb : ∀ (v3621 : IVec S16 32) (k2_hw2 : k2_chk2 v3621), ∀ a x, ((![v3621] : Fin 1 → IVec S16 32) a x).toNat < S128.size a := fun v3621 k2_hw2 => k2_hw2

def k2_chk3 (v102 : IVec S16 32) : Prop :=
  (∀ a x, ((![v102] : Fin 1 → IVec S16 32) a x).toNat < S128.size a)
theorem k2_idx3_inb : ∀ (v102 : IVec S16 32) (k2_hw3 : k2_chk3 v102), ∀ a x, ((![v102] : Fin 1 → IVec S16 32) a x).toNat < S128.size a := fun v102 k2_hw3 => k2_hw3
@[reducible] def k2_t3_loop : Scf.Loop 32 :=
  let c0_i32_89 : BitVec 32 := 0#32
  let c49_i32_90 : BitVec 32 := 49#32
  let v128 : BitVec 32 := Scalar.addi c0_i32_89 c49_i32_90
  let c1_i32_91 : BitVec 32 := 1#32
  ⟨c0_i32_89, v128, c1_i32_91⟩
def k2_off4 (k2_t3 : Fin k2_t3_loop.trips) : Fin 2 → Nat :=
  let c1_i32_3218 : BitVec 32 := 1#32
  let v3611 : Index := Scalar.indexCast c1_i32_3218
  let c0_i32_89 : BitVec 32 := 0#32
  let c1_i32_91 : BitVec 32 := 1#32
  let arg21 : BitVec 32 := Scf.iv c0_i32_89 c1_i32_91 k2_t3
  let c16_i32_3217 : BitVec 32 := 16#32
  let v3610 : BitVec 32 := Scalar.muli arg21 c16_i32_3217
  let v3612 : Index := Scalar.indexCast v3610
  ![1, v3612.toNat]

def k2_chk4 (v3621 : IVec S16 32) : Prop :=
  (∀ a x, ((![v3621] : Fin 1 → IVec S16 32) a x).toNat < S128.size a)
theorem k2_idx4_inb : ∀ (v3621 : IVec S16 32) (k2_hw4 : k2_chk4 v3621), ∀ a x, ((![v3621] : Fin 1 → IVec S16 32) a x).toNat < S128.size a := fun v3621 k2_hw4 => k2_hw4

def k2_chk5 (v194 : IVec S16 32) : Prop :=
  (∀ a x, ((![v194] : Fin 1 → IVec S16 32) a x).toNat < S128.size a)
theorem k2_idx5_inb : ∀ (v194 : IVec S16 32) (k2_hw5 : k2_chk5 v194), ∀ a x, ((![v194] : Fin 1 → IVec S16 32) a x).toNat < S128.size a := fun v194 k2_hw5 => k2_hw5
@[reducible] def k2_t4_loop : Scf.Loop 32 :=
  let c0_i32_162 : BitVec 32 := 0#32
  let c49_i32_163 : BitVec 32 := 49#32
  let v220 : BitVec 32 := Scalar.addi c0_i32_162 c49_i32_163
  let c1_i32_164 : BitVec 32 := 1#32
  ⟨c0_i32_162, v220, c1_i32_164⟩
def k2_off5 (k2_t4 : Fin k2_t4_loop.trips) : Fin 2 → Nat :=
  let c2_i32_3218 : BitVec 32 := 2#32
  let v3611 : Index := Scalar.indexCast c2_i32_3218
  let c0_i32_162 : BitVec 32 := 0#32
  let c1_i32_164 : BitVec 32 := 1#32
  let arg21 : BitVec 32 := Scf.iv c0_i32_162 c1_i32_164 k2_t4
  let c16_i32_3217 : BitVec 32 := 16#32
  let v3610 : BitVec 32 := Scalar.muli arg21 c16_i32_3217
  let v3612 : Index := Scalar.indexCast v3610
  ![2, v3612.toNat]

def k2_chk6 (v3621 : IVec S16 32) : Prop :=
  (∀ a x, ((![v3621] : Fin 1 → IVec S16 32) a x).toNat < S128.size a)
theorem k2_idx6_inb : ∀ (v3621 : IVec S16 32) (k2_hw6 : k2_chk6 v3621), ∀ a x, ((![v3621] : Fin 1 → IVec S16 32) a x).toNat < S128.size a := fun v3621 k2_hw6 => k2_hw6

def k2_chk7 (v286 : IVec S16 32) : Prop :=
  (∀ a x, ((![v286] : Fin 1 → IVec S16 32) a x).toNat < S128.size a)
theorem k2_idx7_inb : ∀ (v286 : IVec S16 32) (k2_hw7 : k2_chk7 v286), ∀ a x, ((![v286] : Fin 1 → IVec S16 32) a x).toNat < S128.size a := fun v286 k2_hw7 => k2_hw7
@[reducible] def k2_t5_loop : Scf.Loop 32 :=
  let c0_i32_234 : BitVec 32 := 0#32
  let c49_i32_235 : BitVec 32 := 49#32
  let v312 : BitVec 32 := Scalar.addi c0_i32_234 c49_i32_235
  let c1_i32_236 : BitVec 32 := 1#32
  ⟨c0_i32_234, v312, c1_i32_236⟩
def k2_off6 (k2_t5 : Fin k2_t5_loop.trips) : Fin 2 → Nat :=
  let c3_i32_3218 : BitVec 32 := 3#32
  let v3611 : Index := Scalar.indexCast c3_i32_3218
  let c0_i32_234 : BitVec 32 := 0#32
  let c1_i32_236 : BitVec 32 := 1#32
  let arg21 : BitVec 32 := Scf.iv c0_i32_234 c1_i32_236 k2_t5
  let c16_i32_3217 : BitVec 32 := 16#32
  let v3610 : BitVec 32 := Scalar.muli arg21 c16_i32_3217
  let v3612 : Index := Scalar.indexCast v3610
  ![3, v3612.toNat]

def k2_chk8 (v3621 : IVec S16 32) : Prop :=
  (∀ a x, ((![v3621] : Fin 1 → IVec S16 32) a x).toNat < S128.size a)
theorem k2_idx8_inb : ∀ (v3621 : IVec S16 32) (k2_hw8 : k2_chk8 v3621), ∀ a x, ((![v3621] : Fin 1 → IVec S16 32) a x).toNat < S128.size a := fun v3621 k2_hw8 => k2_hw8

def k2_chk9 (v383 : IVec S16 32) : Prop :=
  (∀ a x, ((![v383] : Fin 1 → IVec S16 32) a x).toNat < S128.size a)
theorem k2_idx9_inb : ∀ (v383 : IVec S16 32) (k2_hw9 : k2_chk9 v383), ∀ a x, ((![v383] : Fin 1 → IVec S16 32) a x).toNat < S128.size a := fun v383 k2_hw9 => k2_hw9
@[reducible] def k2_t6_loop (v93 : BitVec 32) : Scf.Loop 32 :=
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_331 : BitVec 32 := 1#32
  ⟨c0_i32_329, v455, c1_i32_331⟩

def k2_chk11 (v3610 : IVec S16 32) : Prop :=
  (∀ a x, ((![v3610] : Fin 1 → IVec S16 32) a x).toNat < S128.size a)
theorem k2_idx10_inb : ∀ (v3610 : IVec S16 32) (k2_hw11 : k2_chk11 v3610), ∀ a x, ((![v3610] : Fin 1 → IVec S16 32) a x).toNat < S128.size a := fun v3610 k2_hw11 => k2_hw11
def k2_off7 (v93 : BitVec 32) (k2_t6 : Fin (k2_t6_loop v93).trips) : Fin 3 → Nat :=
  let c0_i32_3220 : BitVec 32 := 0#32
  let v3617 : Index := Scalar.indexCast c0_i32_3220
  let c0_i32_329 : BitVec 32 := 0#32
  let c1_i32_331 : BitVec 32 := 1#32
  let arg21 : BitVec 32 := Scf.iv c0_i32_329 c1_i32_331 k2_t6
  let v3618 : Index := Scalar.indexCast arg21
  let c0_3221 : Index := 0#32
  ![0, v3618.toNat, 0]

def k2_chk12 (v3623 : IVec S16 32) : Prop :=
  (∀ a x, ((![v3623] : Fin 1 → IVec S16 32) a x).toNat < S512.size a) ∧
  (∀ a x, ((![v3623] : Fin 1 → IVec S16 32) a x).toNat < S512.size a)
theorem k2_idx11_inb : ∀ (v3623 : IVec S16 32) (k2_hw12 : k2_chk12 v3623), ∀ a x, ((![v3623] : Fin 1 → IVec S16 32) a x).toNat < S512.size a := fun v3623 k2_hw12 => k2_hw12.1
theorem k2_idx12_inb : ∀ (v3623 : IVec S16 32) (k2_hw12 : k2_chk12 v3623), ∀ a x, ((![v3623] : Fin 1 → IVec S16 32) a x).toNat < S512.size a := fun v3623 k2_hw12 => k2_hw12.2
def k2_off8 (v93 : BitVec 32) (k2_t6 : Fin (k2_t6_loop v93).trips) : Fin 3 → Nat :=
  let c0_i32_3223 : BitVec 32 := 0#32
  let v3628 : Index := Scalar.indexCast c0_i32_3223
  let c0_i32_329 : BitVec 32 := 0#32
  let c1_i32_331 : BitVec 32 := 1#32
  let arg21 : BitVec 32 := Scf.iv c0_i32_329 c1_i32_331 k2_t6
  let v3629 : Index := Scalar.indexCast arg21
  let c16_3224 : Index := 16#32
  ![0, v3629.toNat, 16]

def k2_chk13 (v3634 : IVec S16 32) : Prop :=
  (∀ a x, ((![v3634] : Fin 1 → IVec S16 32) a x).toNat < S512.size a) ∧
  (∀ a x, ((![v3634] : Fin 1 → IVec S16 32) a x).toNat < S512.size a)
theorem k2_idx13_inb : ∀ (v3634 : IVec S16 32) (k2_hw13 : k2_chk13 v3634), ∀ a x, ((![v3634] : Fin 1 → IVec S16 32) a x).toNat < S512.size a := fun v3634 k2_hw13 => k2_hw13.1
theorem k2_idx14_inb : ∀ (v3634 : IVec S16 32) (k2_hw13 : k2_chk13 v3634), ∀ a x, ((![v3634] : Fin 1 → IVec S16 32) a x).toNat < S512.size a := fun v3634 k2_hw13 => k2_hw13.2
def k2_off9 (v93 : BitVec 32) (k2_t6 : Fin (k2_t6_loop v93).trips) : Fin 3 → Nat :=
  let c0_i32_3227 : BitVec 32 := 0#32
  let v3639 : Index := Scalar.indexCast c0_i32_3227
  let c0_i32_329 : BitVec 32 := 0#32
  let c1_i32_331 : BitVec 32 := 1#32
  let arg21 : BitVec 32 := Scf.iv c0_i32_329 c1_i32_331 k2_t6
  let v3640 : Index := Scalar.indexCast arg21
  let c32_3228 : Index := 32#32
  ![0, v3640.toNat, 32]

def k2_chk14 (v3645 : IVec S16 32) : Prop :=
  (∀ a x, ((![v3645] : Fin 1 → IVec S16 32) a x).toNat < S512.size a) ∧
  (∀ a x, ((![v3645] : Fin 1 → IVec S16 32) a x).toNat < S512.size a)
theorem k2_idx15_inb : ∀ (v3645 : IVec S16 32) (k2_hw14 : k2_chk14 v3645), ∀ a x, ((![v3645] : Fin 1 → IVec S16 32) a x).toNat < S512.size a := fun v3645 k2_hw14 => k2_hw14.1
theorem k2_idx16_inb : ∀ (v3645 : IVec S16 32) (k2_hw14 : k2_chk14 v3645), ∀ a x, ((![v3645] : Fin 1 → IVec S16 32) a x).toNat < S512.size a := fun v3645 k2_hw14 => k2_hw14.2
def k2_off10 (v93 : BitVec 32) (k2_t6 : Fin (k2_t6_loop v93).trips) : Fin 3 → Nat :=
  let c0_i32_3231 : BitVec 32 := 0#32
  let v3650 : Index := Scalar.indexCast c0_i32_3231
  let c0_i32_329 : BitVec 32 := 0#32
  let c1_i32_331 : BitVec 32 := 1#32
  let arg21 : BitVec 32 := Scf.iv c0_i32_329 c1_i32_331 k2_t6
  let v3651 : Index := Scalar.indexCast arg21
  let c48_3232 : Index := 48#32
  ![0, v3651.toNat, 48]

def k2_chk15 (v3656 : IVec S16 32) : Prop :=
  (∀ a x, ((![v3656] : Fin 1 → IVec S16 32) a x).toNat < S512.size a) ∧
  (∀ a x, ((![v3656] : Fin 1 → IVec S16 32) a x).toNat < S512.size a)
theorem k2_idx17_inb : ∀ (v3656 : IVec S16 32) (k2_hw15 : k2_chk15 v3656), ∀ a x, ((![v3656] : Fin 1 → IVec S16 32) a x).toNat < S512.size a := fun v3656 k2_hw15 => k2_hw15.1
theorem k2_idx18_inb : ∀ (v3656 : IVec S16 32) (k2_hw15 : k2_chk15 v3656), ∀ a x, ((![v3656] : Fin 1 → IVec S16 32) a x).toNat < S512.size a := fun v3656 k2_hw15 => k2_hw15.2
def k2_off11 (v93 : BitVec 32) (k2_t6 : Fin (k2_t6_loop v93).trips) : Fin 3 → Nat :=
  let c0_i32_3234 : BitVec 32 := 0#32
  let v3661 : Index := Scalar.indexCast c0_i32_3234
  let c0_i32_329 : BitVec 32 := 0#32
  let c1_i32_331 : BitVec 32 := 1#32
  let arg21 : BitVec 32 := Scf.iv c0_i32_329 c1_i32_331 k2_t6
  let v3662 : Index := Scalar.indexCast arg21
  let c64_3235 : Index := 64#32
  ![0, v3662.toNat, 64]

def k2_chk16 (v3667 : IVec S16 32) : Prop :=
  (∀ a x, ((![v3667] : Fin 1 → IVec S16 32) a x).toNat < S512.size a) ∧
  (∀ a x, ((![v3667] : Fin 1 → IVec S16 32) a x).toNat < S512.size a)
theorem k2_idx19_inb : ∀ (v3667 : IVec S16 32) (k2_hw16 : k2_chk16 v3667), ∀ a x, ((![v3667] : Fin 1 → IVec S16 32) a x).toNat < S512.size a := fun v3667 k2_hw16 => k2_hw16.1
theorem k2_idx20_inb : ∀ (v3667 : IVec S16 32) (k2_hw16 : k2_chk16 v3667), ∀ a x, ((![v3667] : Fin 1 → IVec S16 32) a x).toNat < S512.size a := fun v3667 k2_hw16 => k2_hw16.2
def k2_off12 (v93 : BitVec 32) (k2_t6 : Fin (k2_t6_loop v93).trips) : Fin 3 → Nat :=
  let c0_i32_3237 : BitVec 32 := 0#32
  let v3672 : Index := Scalar.indexCast c0_i32_3237
  let c0_i32_329 : BitVec 32 := 0#32
  let c1_i32_331 : BitVec 32 := 1#32
  let arg21 : BitVec 32 := Scf.iv c0_i32_329 c1_i32_331 k2_t6
  let v3673 : Index := Scalar.indexCast arg21
  let c80_3238 : Index := 80#32
  ![0, v3673.toNat, 80]

def k2_chk17 (v3678 : IVec S16 32) : Prop :=
  (∀ a x, ((![v3678] : Fin 1 → IVec S16 32) a x).toNat < S512.size a) ∧
  (∀ a x, ((![v3678] : Fin 1 → IVec S16 32) a x).toNat < S512.size a)
theorem k2_idx21_inb : ∀ (v3678 : IVec S16 32) (k2_hw17 : k2_chk17 v3678), ∀ a x, ((![v3678] : Fin 1 → IVec S16 32) a x).toNat < S512.size a := fun v3678 k2_hw17 => k2_hw17.1
theorem k2_idx22_inb : ∀ (v3678 : IVec S16 32) (k2_hw17 : k2_chk17 v3678), ∀ a x, ((![v3678] : Fin 1 → IVec S16 32) a x).toNat < S512.size a := fun v3678 k2_hw17 => k2_hw17.2
def k2_off13 (v93 : BitVec 32) (k2_t6 : Fin (k2_t6_loop v93).trips) : Fin 3 → Nat :=
  let c0_i32_3240 : BitVec 32 := 0#32
  let v3683 : Index := Scalar.indexCast c0_i32_3240
  let c0_i32_329 : BitVec 32 := 0#32
  let c1_i32_331 : BitVec 32 := 1#32
  let arg21 : BitVec 32 := Scf.iv c0_i32_329 c1_i32_331 k2_t6
  let v3684 : Index := Scalar.indexCast arg21
  let c96_3241 : Index := 96#32
  ![0, v3684.toNat, 96]

def k2_chk18 (v3689 : IVec S16 32) : Prop :=
  (∀ a x, ((![v3689] : Fin 1 → IVec S16 32) a x).toNat < S512.size a) ∧
  (∀ a x, ((![v3689] : Fin 1 → IVec S16 32) a x).toNat < S512.size a)
theorem k2_idx23_inb : ∀ (v3689 : IVec S16 32) (k2_hw18 : k2_chk18 v3689), ∀ a x, ((![v3689] : Fin 1 → IVec S16 32) a x).toNat < S512.size a := fun v3689 k2_hw18 => k2_hw18.1
theorem k2_idx24_inb : ∀ (v3689 : IVec S16 32) (k2_hw18 : k2_chk18 v3689), ∀ a x, ((![v3689] : Fin 1 → IVec S16 32) a x).toNat < S512.size a := fun v3689 k2_hw18 => k2_hw18.2
def k2_off14 (v93 : BitVec 32) (k2_t6 : Fin (k2_t6_loop v93).trips) : Fin 3 → Nat :=
  let c0_i32_3243 : BitVec 32 := 0#32
  let v3694 : Index := Scalar.indexCast c0_i32_3243
  let c0_i32_329 : BitVec 32 := 0#32
  let c1_i32_331 : BitVec 32 := 1#32
  let arg21 : BitVec 32 := Scf.iv c0_i32_329 c1_i32_331 k2_t6
  let v3695 : Index := Scalar.indexCast arg21
  let c112_3244 : Index := 112#32
  ![0, v3695.toNat, 112]

def k2_chk19 (v3700 : IVec S16 32) : Prop :=
  (∀ a x, ((![v3700] : Fin 1 → IVec S16 32) a x).toNat < S512.size a) ∧
  (∀ a x, ((![v3700] : Fin 1 → IVec S16 32) a x).toNat < S512.size a)
theorem k2_idx25_inb : ∀ (v3700 : IVec S16 32) (k2_hw19 : k2_chk19 v3700), ∀ a x, ((![v3700] : Fin 1 → IVec S16 32) a x).toNat < S512.size a := fun v3700 k2_hw19 => k2_hw19.1
theorem k2_idx26_inb : ∀ (v3700 : IVec S16 32) (k2_hw19 : k2_chk19 v3700), ∀ a x, ((![v3700] : Fin 1 → IVec S16 32) a x).toNat < S512.size a := fun v3700 k2_hw19 => k2_hw19.2
@[reducible] def k2_t7_loop (v93 : BitVec 32) : Scf.Loop 32 :=
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let v452 : BitVec 32 := Scalar.addi c0_i32_329 v451
  let c1_i32_332 : BitVec 32 := 1#32
  ⟨v455, v452, c1_i32_332⟩

def k2_chk20 (v3610 : IVec S16 32) : Prop :=
  (∀ a x, ((![v3610] : Fin 1 → IVec S16 32) a x).toNat < S128.size a)
theorem k2_idx27_inb : ∀ (v3610 : IVec S16 32) (k2_hw20 : k2_chk20 v3610), ∀ a x, ((![v3610] : Fin 1 → IVec S16 32) a x).toNat < S128.size a := fun v3610 k2_hw20 => k2_hw20
def k2_off15 (v93 : BitVec 32) (k2_t7 : Fin (k2_t7_loop v93).trips) : Fin 3 → Nat :=
  let c0_i32_3220 : BitVec 32 := 0#32
  let v3617 : Index := Scalar.indexCast c0_i32_3220
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3618 : Index := Scalar.indexCast arg21
  let c0_3221 : Index := 0#32
  ![0, v3618.toNat, 0]

def k2_chk21 (v3623 : IVec S16 32) : Prop :=
  (∀ a x, ((![v3623] : Fin 1 → IVec S16 32) a x).toNat < S512.size a) ∧
  (∀ a x, ((![v3623] : Fin 1 → IVec S16 32) a x).toNat < S512.size a)
theorem k2_idx28_inb : ∀ (v3623 : IVec S16 32) (k2_hw21 : k2_chk21 v3623), ∀ a x, ((![v3623] : Fin 1 → IVec S16 32) a x).toNat < S512.size a := fun v3623 k2_hw21 => k2_hw21.1
theorem k2_idx29_inb : ∀ (v3623 : IVec S16 32) (k2_hw21 : k2_chk21 v3623), ∀ a x, ((![v3623] : Fin 1 → IVec S16 32) a x).toNat < S512.size a := fun v3623 k2_hw21 => k2_hw21.2
def k2_off16 (v93 : BitVec 32) (k2_t7 : Fin (k2_t7_loop v93).trips) : Fin 3 → Nat :=
  let c0_i32_3223 : BitVec 32 := 0#32
  let v3628 : Index := Scalar.indexCast c0_i32_3223
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3629 : Index := Scalar.indexCast arg21
  let c16_3224 : Index := 16#32
  ![0, v3629.toNat, 16]

def k2_chk22 (v3634 : IVec S16 32) : Prop :=
  (∀ a x, ((![v3634] : Fin 1 → IVec S16 32) a x).toNat < S512.size a) ∧
  (∀ a x, ((![v3634] : Fin 1 → IVec S16 32) a x).toNat < S512.size a)
theorem k2_idx30_inb : ∀ (v3634 : IVec S16 32) (k2_hw22 : k2_chk22 v3634), ∀ a x, ((![v3634] : Fin 1 → IVec S16 32) a x).toNat < S512.size a := fun v3634 k2_hw22 => k2_hw22.1
theorem k2_idx31_inb : ∀ (v3634 : IVec S16 32) (k2_hw22 : k2_chk22 v3634), ∀ a x, ((![v3634] : Fin 1 → IVec S16 32) a x).toNat < S512.size a := fun v3634 k2_hw22 => k2_hw22.2
def k2_off17 (v93 : BitVec 32) (k2_t7 : Fin (k2_t7_loop v93).trips) : Fin 3 → Nat :=
  let c0_i32_3227 : BitVec 32 := 0#32
  let v3639 : Index := Scalar.indexCast c0_i32_3227
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3640 : Index := Scalar.indexCast arg21
  let c32_3228 : Index := 32#32
  ![0, v3640.toNat, 32]

def k2_chk23 (v3645 : IVec S16 32) : Prop :=
  (∀ a x, ((![v3645] : Fin 1 → IVec S16 32) a x).toNat < S512.size a) ∧
  (∀ a x, ((![v3645] : Fin 1 → IVec S16 32) a x).toNat < S512.size a)
theorem k2_idx32_inb : ∀ (v3645 : IVec S16 32) (k2_hw23 : k2_chk23 v3645), ∀ a x, ((![v3645] : Fin 1 → IVec S16 32) a x).toNat < S512.size a := fun v3645 k2_hw23 => k2_hw23.1
theorem k2_idx33_inb : ∀ (v3645 : IVec S16 32) (k2_hw23 : k2_chk23 v3645), ∀ a x, ((![v3645] : Fin 1 → IVec S16 32) a x).toNat < S512.size a := fun v3645 k2_hw23 => k2_hw23.2
def k2_off18 (v93 : BitVec 32) (k2_t7 : Fin (k2_t7_loop v93).trips) : Fin 3 → Nat :=
  let c0_i32_3231 : BitVec 32 := 0#32
  let v3650 : Index := Scalar.indexCast c0_i32_3231
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3651 : Index := Scalar.indexCast arg21
  let c48_3232 : Index := 48#32
  ![0, v3651.toNat, 48]

def k2_chk24 (v3656 : IVec S16 32) : Prop :=
  (∀ a x, ((![v3656] : Fin 1 → IVec S16 32) a x).toNat < S512.size a) ∧
  (∀ a x, ((![v3656] : Fin 1 → IVec S16 32) a x).toNat < S512.size a)
theorem k2_idx34_inb : ∀ (v3656 : IVec S16 32) (k2_hw24 : k2_chk24 v3656), ∀ a x, ((![v3656] : Fin 1 → IVec S16 32) a x).toNat < S512.size a := fun v3656 k2_hw24 => k2_hw24.1
theorem k2_idx35_inb : ∀ (v3656 : IVec S16 32) (k2_hw24 : k2_chk24 v3656), ∀ a x, ((![v3656] : Fin 1 → IVec S16 32) a x).toNat < S512.size a := fun v3656 k2_hw24 => k2_hw24.2
def k2_off19 (v93 : BitVec 32) (k2_t7 : Fin (k2_t7_loop v93).trips) : Fin 3 → Nat :=
  let c0_i32_3234 : BitVec 32 := 0#32
  let v3661 : Index := Scalar.indexCast c0_i32_3234
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3662 : Index := Scalar.indexCast arg21
  let c64_3235 : Index := 64#32
  ![0, v3662.toNat, 64]

def k2_chk25 (v3667 : IVec S16 32) : Prop :=
  (∀ a x, ((![v3667] : Fin 1 → IVec S16 32) a x).toNat < S512.size a) ∧
  (∀ a x, ((![v3667] : Fin 1 → IVec S16 32) a x).toNat < S512.size a)
theorem k2_idx36_inb : ∀ (v3667 : IVec S16 32) (k2_hw25 : k2_chk25 v3667), ∀ a x, ((![v3667] : Fin 1 → IVec S16 32) a x).toNat < S512.size a := fun v3667 k2_hw25 => k2_hw25.1
theorem k2_idx37_inb : ∀ (v3667 : IVec S16 32) (k2_hw25 : k2_chk25 v3667), ∀ a x, ((![v3667] : Fin 1 → IVec S16 32) a x).toNat < S512.size a := fun v3667 k2_hw25 => k2_hw25.2
def k2_off20 (v93 : BitVec 32) (k2_t7 : Fin (k2_t7_loop v93).trips) : Fin 3 → Nat :=
  let c0_i32_3237 : BitVec 32 := 0#32
  let v3672 : Index := Scalar.indexCast c0_i32_3237
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3673 : Index := Scalar.indexCast arg21
  let c80_3238 : Index := 80#32
  ![0, v3673.toNat, 80]

def k2_chk26 (v3678 : IVec S16 32) : Prop :=
  (∀ a x, ((![v3678] : Fin 1 → IVec S16 32) a x).toNat < S512.size a) ∧
  (∀ a x, ((![v3678] : Fin 1 → IVec S16 32) a x).toNat < S512.size a)
theorem k2_idx38_inb : ∀ (v3678 : IVec S16 32) (k2_hw26 : k2_chk26 v3678), ∀ a x, ((![v3678] : Fin 1 → IVec S16 32) a x).toNat < S512.size a := fun v3678 k2_hw26 => k2_hw26.1
theorem k2_idx39_inb : ∀ (v3678 : IVec S16 32) (k2_hw26 : k2_chk26 v3678), ∀ a x, ((![v3678] : Fin 1 → IVec S16 32) a x).toNat < S512.size a := fun v3678 k2_hw26 => k2_hw26.2
def k2_off21 (v93 : BitVec 32) (k2_t7 : Fin (k2_t7_loop v93).trips) : Fin 3 → Nat :=
  let c0_i32_3240 : BitVec 32 := 0#32
  let v3683 : Index := Scalar.indexCast c0_i32_3240
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3684 : Index := Scalar.indexCast arg21
  let c96_3241 : Index := 96#32
  ![0, v3684.toNat, 96]

def k2_chk27 (v3689 : IVec S16 32) : Prop :=
  (∀ a x, ((![v3689] : Fin 1 → IVec S16 32) a x).toNat < S512.size a) ∧
  (∀ a x, ((![v3689] : Fin 1 → IVec S16 32) a x).toNat < S512.size a)
theorem k2_idx40_inb : ∀ (v3689 : IVec S16 32) (k2_hw27 : k2_chk27 v3689), ∀ a x, ((![v3689] : Fin 1 → IVec S16 32) a x).toNat < S512.size a := fun v3689 k2_hw27 => k2_hw27.1
theorem k2_idx41_inb : ∀ (v3689 : IVec S16 32) (k2_hw27 : k2_chk27 v3689), ∀ a x, ((![v3689] : Fin 1 → IVec S16 32) a x).toNat < S512.size a := fun v3689 k2_hw27 => k2_hw27.2
def k2_off22 (v93 : BitVec 32) (k2_t7 : Fin (k2_t7_loop v93).trips) : Fin 3 → Nat :=
  let c0_i32_3243 : BitVec 32 := 0#32
  let v3694 : Index := Scalar.indexCast c0_i32_3243
  let c0_i32_329 : BitVec 32 := 0#32
  let c128_i32_55 : BitVec 32 := 128#32
  let v94 : BitVec 32 := Scalar.minsi v93 c128_i32_55
  let v451 : BitVec 32 := Scalar.subi v94 c0_i32_329
  let c1_i32_330 : BitVec 32 := 1#32
  let v453 : BitVec 32 := Scalar.divsi v451 c1_i32_330
  let v454 : BitVec 32 := Scalar.muli v453 c1_i32_330
  let v455 : BitVec 32 := Scalar.addi c0_i32_329 v454
  let c1_i32_332 : BitVec 32 := 1#32
  let arg21 : BitVec 32 := Scf.iv v455 c1_i32_332 k2_t7
  let v3695 : Index := Scalar.indexCast arg21
  let c112_3244 : Index := 112#32
  ![0, v3695.toNat, 112]

def k2_chk10 (v93 : BitVec 32) : Prop :=
  ((k2_t6_loop v93).OK) ∧
  (∀ k2_t6 : Fin (k2_t6_loop v93).trips, ∀ a, (k2_off7 v93 k2_t6) a + S1x1x16.size a ≤ S4x128x128.size a) ∧
  (∀ k2_t6 : Fin (k2_t6_loop v93).trips, ∀ a, (k2_off8 v93 k2_t6) a + S1x1x16.size a ≤ S4x128x128.size a) ∧
  (∀ k2_t6 : Fin (k2_t6_loop v93).trips, ∀ a, (k2_off9 v93 k2_t6) a + S1x1x16.size a ≤ S4x128x128.size a) ∧
  (∀ k2_t6 : Fin (k2_t6_loop v93).trips, ∀ a, (k2_off10 v93 k2_t6) a + S1x1x16.size a ≤ S4x128x128.size a) ∧
  (∀ k2_t6 : Fin (k2_t6_loop v93).trips, ∀ a, (k2_off11 v93 k2_t6) a + S1x1x16.size a ≤ S4x128x128.size a) ∧
  (∀ k2_t6 : Fin (k2_t6_loop v93).trips, ∀ a, (k2_off12 v93 k2_t6) a + S1x1x16.size a ≤ S4x128x128.size a) ∧
  (∀ k2_t6 : Fin (k2_t6_loop v93).trips, ∀ a, (k2_off13 v93 k2_t6) a + S1x1x16.size a ≤ S4x128x128.size a) ∧
  (∀ k2_t6 : Fin (k2_t6_loop v93).trips, ∀ a, (k2_off14 v93 k2_t6) a + S1x1x16.size a ≤ S4x128x128.size a) ∧
  ((k2_t7_loop v93).OK) ∧
  (∀ k2_t7 : Fin (k2_t7_loop v93).trips, ∀ a, (k2_off15 v93 k2_t7) a + S1x1x16.size a ≤ S4x128x128.size a) ∧
  (∀ k2_t7 : Fin (k2_t7_loop v93).trips, ∀ a, (k2_off16 v93 k2_t7) a + S1x1x16.size a ≤ S4x128x128.size a) ∧
  (∀ k2_t7 : Fin (k2_t7_loop v93).trips, ∀ a, (k2_off17 v93 k2_t7) a + S1x1x16.size a ≤ S4x128x128.size a) ∧
  (∀ k2_t7 : Fin (k2_t7_loop v93).trips, ∀ a, (k2_off18 v93 k2_t7) a + S1x1x16.size a ≤ S4x128x128.size a) ∧
  (∀ k2_t7 : Fin (k2_t7_loop v93).trips, ∀ a, (k2_off19 v93 k2_t7) a + S1x1x16.size a ≤ S4x128x128.size a) ∧
  (∀ k2_t7 : Fin (k2_t7_loop v93).trips, ∀ a, (k2_off20 v93 k2_t7) a + S1x1x16.size a ≤ S4x128x128.size a) ∧
  (∀ k2_t7 : Fin (k2_t7_loop v93).trips, ∀ a, (k2_off21 v93 k2_t7) a + S1x1x16.size a ≤ S4x128x128.size a) ∧
  (∀ k2_t7 : Fin (k2_t7_loop v93).trips, ∀ a, (k2_off22 v93 k2_t7) a + S1x1x16.size a ≤ S4x128x128.size a)
theorem k2_t6_ok : ∀ (v93 : BitVec 32) (k2_hw10 : k2_chk10 v93), (k2_t6_loop v93).OK := fun v93 k2_hw10 => k2_hw10.1
theorem k2_off7_inb : ∀ (v93 : BitVec 32) (k2_hw10 : k2_chk10 v93) (k2_t6 : Fin (k2_t6_loop v93).trips), ∀ a, (k2_off7 v93 k2_t6) a + S1x1x16.size a ≤ S4x128x128.size a := fun v93 k2_hw10 k2_t6 => k2_hw10.2.1 k2_t6
theorem k2_off8_inb : ∀ (v93 : BitVec 32) (k2_hw10 : k2_chk10 v93) (k2_t6 : Fin (k2_t6_loop v93).trips), ∀ a, (k2_off8 v93 k2_t6) a + S1x1x16.size a ≤ S4x128x128.size a := fun v93 k2_hw10 k2_t6 => k2_hw10.2.2.1 k2_t6
theorem k2_off9_inb : ∀ (v93 : BitVec 32) (k2_hw10 : k2_chk10 v93) (k2_t6 : Fin (k2_t6_loop v93).trips), ∀ a, (k2_off9 v93 k2_t6) a + S1x1x16.size a ≤ S4x128x128.size a := fun v93 k2_hw10 k2_t6 => k2_hw10.2.2.2.1 k2_t6
theorem k2_off10_inb : ∀ (v93 : BitVec 32) (k2_hw10 : k2_chk10 v93) (k2_t6 : Fin (k2_t6_loop v93).trips), ∀ a, (k2_off10 v93 k2_t6) a + S1x1x16.size a ≤ S4x128x128.size a := fun v93 k2_hw10 k2_t6 => k2_hw10.2.2.2.2.1 k2_t6
theorem k2_off11_inb : ∀ (v93 : BitVec 32) (k2_hw10 : k2_chk10 v93) (k2_t6 : Fin (k2_t6_loop v93).trips), ∀ a, (k2_off11 v93 k2_t6) a + S1x1x16.size a ≤ S4x128x128.size a := fun v93 k2_hw10 k2_t6 => k2_hw10.2.2.2.2.2.1 k2_t6
theorem k2_off12_inb : ∀ (v93 : BitVec 32) (k2_hw10 : k2_chk10 v93) (k2_t6 : Fin (k2_t6_loop v93).trips), ∀ a, (k2_off12 v93 k2_t6) a + S1x1x16.size a ≤ S4x128x128.size a := fun v93 k2_hw10 k2_t6 => k2_hw10.2.2.2.2.2.2.1 k2_t6
theorem k2_off13_inb : ∀ (v93 : BitVec 32) (k2_hw10 : k2_chk10 v93) (k2_t6 : Fin (k2_t6_loop v93).trips), ∀ a, (k2_off13 v93 k2_t6) a + S1x1x16.size a ≤ S4x128x128.size a := fun v93 k2_hw10 k2_t6 => k2_hw10.2.2.2.2.2.2.2.1 k2_t6
theorem k2_off14_inb : ∀ (v93 : BitVec 32) (k2_hw10 : k2_chk10 v93) (k2_t6 : Fin (k2_t6_loop v93).trips), ∀ a, (k2_off14 v93 k2_t6) a + S1x1x16.size a ≤ S4x128x128.size a := fun v93 k2_hw10 k2_t6 => k2_hw10.2.2.2.2.2.2.2.2.1 k2_t6
theorem k2_t7_ok : ∀ (v93 : BitVec 32) (k2_hw10 : k2_chk10 v93), (k2_t7_loop v93).OK := fun v93 k2_hw10 => k2_hw10.2.2.2.2.2.2.2.2.2.1
theorem k2_off15_inb : ∀ (v93 : BitVec 32) (k2_hw10 : k2_chk10 v93) (k2_t7 : Fin (k2_t7_loop v93).trips), ∀ a, (k2_off15 v93 k2_t7) a + S1x1x16.size a ≤ S4x128x128.size a := fun v93 k2_hw10 k2_t7 => k2_hw10.2.2.2.2.2.2.2.2.2.2.1 k2_t7
theorem k2_off16_inb : ∀ (v93 : BitVec 32) (k2_hw10 : k2_chk10 v93) (k2_t7 : Fin (k2_t7_loop v93).trips), ∀ a, (k2_off16 v93 k2_t7) a + S1x1x16.size a ≤ S4x128x128.size a := fun v93 k2_hw10 k2_t7 => k2_hw10.2.2.2.2.2.2.2.2.2.2.2.1 k2_t7
theorem k2_off17_inb : ∀ (v93 : BitVec 32) (k2_hw10 : k2_chk10 v93) (k2_t7 : Fin (k2_t7_loop v93).trips), ∀ a, (k2_off17 v93 k2_t7) a + S1x1x16.size a ≤ S4x128x128.size a := fun v93 k2_hw10 k2_t7 => k2_hw10.2.2.2.2.2.2.2.2.2.2.2.2.1 k2_t7
theorem k2_off18_inb : ∀ (v93 : BitVec 32) (k2_hw10 : k2_chk10 v93) (k2_t7 : Fin (k2_t7_loop v93).trips), ∀ a, (k2_off18 v93 k2_t7) a + S1x1x16.size a ≤ S4x128x128.size a := fun v93 k2_hw10 k2_t7 => k2_hw10.2.2.2.2.2.2.2.2.2.2.2.2.2.1 k2_t7
theorem k2_off19_inb : ∀ (v93 : BitVec 32) (k2_hw10 : k2_chk10 v93) (k2_t7 : Fin (k2_t7_loop v93).trips), ∀ a, (k2_off19 v93 k2_t7) a + S1x1x16.size a ≤ S4x128x128.size a := fun v93 k2_hw10 k2_t7 => k2_hw10.2.2.2.2.2.2.2.2.2.2.2.2.2.2.1 k2_t7
theorem k2_off20_inb : ∀ (v93 : BitVec 32) (k2_hw10 : k2_chk10 v93) (k2_t7 : Fin (k2_t7_loop v93).trips), ∀ a, (k2_off20 v93 k2_t7) a + S1x1x16.size a ≤ S4x128x128.size a := fun v93 k2_hw10 k2_t7 => k2_hw10.2.2.2.2.2.2.2.2.2.2.2.2.2.2.2.1 k2_t7
theorem k2_off21_inb : ∀ (v93 : BitVec 32) (k2_hw10 : k2_chk10 v93) (k2_t7 : Fin (k2_t7_loop v93).trips), ∀ a, (k2_off21 v93 k2_t7) a + S1x1x16.size a ≤ S4x128x128.size a := fun v93 k2_hw10 k2_t7 => k2_hw10.2.2.2.2.2.2.2.2.2.2.2.2.2.2.2.2.1 k2_t7
theorem k2_off22_inb : ∀ (v93 : BitVec 32) (k2_hw10 : k2_chk10 v93) (k2_t7 : Fin (k2_t7_loop v93).trips), ∀ a, (k2_off22 v93 k2_t7) a + S1x1x16.size a ≤ S4x128x128.size a := fun v93 k2_hw10 k2_t7 => k2_hw10.2.2.2.2.2.2.2.2.2.2.2.2.2.2.2.2.2 k2_t7

def k2_chk28 (v3700 : IVec S16 32) : Prop :=
  (∀ a x, ((![v3700] : Fin 1 → IVec S16 32) a x).toNat < S512.size a) ∧
  (∀ a x, ((![v3700] : Fin 1 → IVec S16 32) a x).toNat < S512.size a)
theorem k2_idx42_inb : ∀ (v3700 : IVec S16 32) (k2_hw28 : k2_chk28 v3700), ∀ a x, ((![v3700] : Fin 1 → IVec S16 32) a x).toNat < S512.size a := fun v3700 k2_hw28 => k2_hw28.1
theorem k2_idx43_inb : ∀ (v3700 : IVec S16 32) (k2_hw28 : k2_chk28 v3700), ∀ a x, ((![v3700] : Fin 1 → IVec S16 32) a x).toNat < S512.size a := fun v3700 k2_hw28 => k2_hw28.2
@[reducible] def k2_t8_loop : Scf.Loop 32 :=
  let c0_i32_382 : BitVec 32 := 0#32
  let c32_i32_383 : BitVec 32 := 32#32
  let v507 : BitVec 32 := Scalar.addi c0_i32_382 c32_i32_383
  let c1_i32_384 : BitVec 32 := 1#32
  ⟨c0_i32_382, v507, c1_i32_384⟩
def k2_off23 (k2_t8 : Fin k2_t8_loop.trips) : Fin 1 → Nat :=
  let c0_i32_382 : BitVec 32 := 0#32
  let c1_i32_384 : BitVec 32 := 1#32
  let arg21 : BitVec 32 := Scf.iv c0_i32_382 c1_i32_384 k2_t8
  let c16_i32_3217 : BitVec 32 := 16#32
  let v3610 : BitVec 32 := Scalar.muli arg21 c16_i32_3217
  let v3611 : Index := Scalar.indexCast v3610
  ![v3611.toNat]

def k2_chk29 (v506 : IVec S16 32) (v3625 : IVec S16 32) : Prop :=
  (∀ a x, ((![v506, v3625] : Fin 2 → IVec S16 32) a x).toNat < S16x256.size a) ∧
  (∀ a x, ((![v506, v3625] : Fin 2 → IVec S16 32) a x).toNat < S16x256.size a)
theorem k2_idx44_inb : ∀ (v506 : IVec S16 32) (v3625 : IVec S16 32) (k2_hw29 : k2_chk29 v506 v3625), ∀ a x, ((![v506, v3625] : Fin 2 → IVec S16 32) a x).toNat < S16x256.size a := fun v506 v3625 k2_hw29 => k2_hw29.1
theorem k2_idx45_inb : ∀ (v506 : IVec S16 32) (v3625 : IVec S16 32) (k2_hw29 : k2_chk29 v506 v3625), ∀ a x, ((![v506, v3625] : Fin 2 → IVec S16 32) a x).toNat < S16x256.size a := fun v506 v3625 k2_hw29 => k2_hw29.2

def k2_chk30 (v511 : IVec S16 32) : Prop :=
  (∀ a x, ((![v511] : Fin 1 → IVec S16 32) a x).toNat < S128.size a)
theorem k2_idx46_inb : ∀ (v511 : IVec S16 32) (k2_hw30 : k2_chk30 v511), ∀ a x, ((![v511] : Fin 1 → IVec S16 32) a x).toNat < S128.size a := fun v511 k2_hw30 => k2_hw30
@[reducible] def k2_t9_loop : Scf.Loop 32 :=
  let c0_i32_411 : BitVec 32 := 0#32
  let c49_i32_412 : BitVec 32 := 49#32
  let v537 : BitVec 32 := Scalar.addi c0_i32_411 c49_i32_412
  let c1_i32_413 : BitVec 32 := 1#32
  ⟨c0_i32_411, v537, c1_i32_413⟩
def k2_off24 (k2_t9 : Fin k2_t9_loop.trips) : Fin 2 → Nat :=
  let c4_i32_3218 : BitVec 32 := 4#32
  let v3611 : Index := Scalar.indexCast c4_i32_3218
  let c0_i32_411 : BitVec 32 := 0#32
  let c1_i32_413 : BitVec 32 := 1#32
  let arg21 : BitVec 32 := Scf.iv c0_i32_411 c1_i32_413 k2_t9
  let c16_i32_3217 : BitVec 32 := 16#32
  let v3610 : BitVec 32 := Scalar.muli arg21 c16_i32_3217
  let v3612 : Index := Scalar.indexCast v3610
  ![4, v3612.toNat]

def k2_chk31 (v3621 : IVec S16 32) : Prop :=
  (∀ a x, ((![v3621] : Fin 1 → IVec S16 32) a x).toNat < S128.size a)
theorem k2_idx47_inb : ∀ (v3621 : IVec S16 32) (k2_hw31 : k2_chk31 v3621), ∀ a x, ((![v3621] : Fin 1 → IVec S16 32) a x).toNat < S128.size a := fun v3621 k2_hw31 => k2_hw31

def k2_chk32 (v608 : IVec S16 32) : Prop :=
  (∀ a x, ((![v608] : Fin 1 → IVec S16 32) a x).toNat < S128.size a)
theorem k2_idx48_inb : ∀ (v608 : IVec S16 32) (k2_hw32 : k2_chk32 v608), ∀ a x, ((![v608] : Fin 1 → IVec S16 32) a x).toNat < S128.size a := fun v608 k2_hw32 => k2_hw32
@[reducible] def k2_t10_loop (v185 : BitVec 32) : Scf.Loop 32 :=
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_534 : BitVec 32 := 1#32
  ⟨c0_i32_532, v680, c1_i32_534⟩

def k2_chk34 (v3610 : IVec S16 32) : Prop :=
  (∀ a x, ((![v3610] : Fin 1 → IVec S16 32) a x).toNat < S128.size a)
theorem k2_idx49_inb : ∀ (v3610 : IVec S16 32) (k2_hw34 : k2_chk34 v3610), ∀ a x, ((![v3610] : Fin 1 → IVec S16 32) a x).toNat < S128.size a := fun v3610 k2_hw34 => k2_hw34
def k2_off25 (v185 : BitVec 32) (k2_t10 : Fin (k2_t10_loop v185).trips) : Fin 3 → Nat :=
  let c1_i32_3220 : BitVec 32 := 1#32
  let v3617 : Index := Scalar.indexCast c1_i32_3220
  let c0_i32_532 : BitVec 32 := 0#32
  let c1_i32_534 : BitVec 32 := 1#32
  let arg21 : BitVec 32 := Scf.iv c0_i32_532 c1_i32_534 k2_t10
  let v3618 : Index := Scalar.indexCast arg21
  let c0_3221 : Index := 0#32
  ![1, v3618.toNat, 0]

def k2_chk35 (v3623 : IVec S16 32) : Prop :=
  (∀ a x, ((![v3623] : Fin 1 → IVec S16 32) a x).toNat < S512.size a) ∧
  (∀ a x, ((![v3623] : Fin 1 → IVec S16 32) a x).toNat < S512.size a)
theorem k2_idx50_inb : ∀ (v3623 : IVec S16 32) (k2_hw35 : k2_chk35 v3623), ∀ a x, ((![v3623] : Fin 1 → IVec S16 32) a x).toNat < S512.size a := fun v3623 k2_hw35 => k2_hw35.1
theorem k2_idx51_inb : ∀ (v3623 : IVec S16 32) (k2_hw35 : k2_chk35 v3623), ∀ a x, ((![v3623] : Fin 1 → IVec S16 32) a x).toNat < S512.size a := fun v3623 k2_hw35 => k2_hw35.2
def k2_off26 (v185 : BitVec 32) (k2_t10 : Fin (k2_t10_loop v185).trips) : Fin 3 → Nat :=
  let c1_i32_3223 : BitVec 32 := 1#32
  let v3628 : Index := Scalar.indexCast c1_i32_3223
  let c0_i32_532 : BitVec 32 := 0#32
  let c1_i32_534 : BitVec 32 := 1#32
  let arg21 : BitVec 32 := Scf.iv c0_i32_532 c1_i32_534 k2_t10
  let v3629 : Index := Scalar.indexCast arg21
  let c16_3224 : Index := 16#32
  ![1, v3629.toNat, 16]

def k2_chk36 (v3634 : IVec S16 32) : Prop :=
  (∀ a x, ((![v3634] : Fin 1 → IVec S16 32) a x).toNat < S512.size a) ∧
  (∀ a x, ((![v3634] : Fin 1 → IVec S16 32) a x).toNat < S512.size a)
theorem k2_idx52_inb : ∀ (v3634 : IVec S16 32) (k2_hw36 : k2_chk36 v3634), ∀ a x, ((![v3634] : Fin 1 → IVec S16 32) a x).toNat < S512.size a := fun v3634 k2_hw36 => k2_hw36.1
theorem k2_idx53_inb : ∀ (v3634 : IVec S16 32) (k2_hw36 : k2_chk36 v3634), ∀ a x, ((![v3634] : Fin 1 → IVec S16 32) a x).toNat < S512.size a := fun v3634 k2_hw36 => k2_hw36.2
def k2_off27 (v185 : BitVec 32) (k2_t10 : Fin (k2_t10_loop v185).trips) : Fin 3 → Nat :=
  let c1_i32_3227 : BitVec 32 := 1#32
  let v3639 : Index := Scalar.indexCast c1_i32_3227
  let c0_i32_532 : BitVec 32 := 0#32
  let c1_i32_534 : BitVec 32 := 1#32
  let arg21 : BitVec 32 := Scf.iv c0_i32_532 c1_i32_534 k2_t10
  let v3640 : Index := Scalar.indexCast arg21
  let c32_3228 : Index := 32#32
  ![1, v3640.toNat, 32]

def k2_chk37 (v3645 : IVec S16 32) : Prop :=
  (∀ a x, ((![v3645] : Fin 1 → IVec S16 32) a x).toNat < S512.size a) ∧
  (∀ a x, ((![v3645] : Fin 1 → IVec S16 32) a x).toNat < S512.size a)
theorem k2_idx54_inb : ∀ (v3645 : IVec S16 32) (k2_hw37 : k2_chk37 v3645), ∀ a x, ((![v3645] : Fin 1 → IVec S16 32) a x).toNat < S512.size a := fun v3645 k2_hw37 => k2_hw37.1
theorem k2_idx55_inb : ∀ (v3645 : IVec S16 32) (k2_hw37 : k2_chk37 v3645), ∀ a x, ((![v3645] : Fin 1 → IVec S16 32) a x).toNat < S512.size a := fun v3645 k2_hw37 => k2_hw37.2
def k2_off28 (v185 : BitVec 32) (k2_t10 : Fin (k2_t10_loop v185).trips) : Fin 3 → Nat :=
  let c1_i32_3231 : BitVec 32 := 1#32
  let v3650 : Index := Scalar.indexCast c1_i32_3231
  let c0_i32_532 : BitVec 32 := 0#32
  let c1_i32_534 : BitVec 32 := 1#32
  let arg21 : BitVec 32 := Scf.iv c0_i32_532 c1_i32_534 k2_t10
  let v3651 : Index := Scalar.indexCast arg21
  let c48_3232 : Index := 48#32
  ![1, v3651.toNat, 48]

def k2_chk38 (v3656 : IVec S16 32) : Prop :=
  (∀ a x, ((![v3656] : Fin 1 → IVec S16 32) a x).toNat < S512.size a) ∧
  (∀ a x, ((![v3656] : Fin 1 → IVec S16 32) a x).toNat < S512.size a)
theorem k2_idx56_inb : ∀ (v3656 : IVec S16 32) (k2_hw38 : k2_chk38 v3656), ∀ a x, ((![v3656] : Fin 1 → IVec S16 32) a x).toNat < S512.size a := fun v3656 k2_hw38 => k2_hw38.1
theorem k2_idx57_inb : ∀ (v3656 : IVec S16 32) (k2_hw38 : k2_chk38 v3656), ∀ a x, ((![v3656] : Fin 1 → IVec S16 32) a x).toNat < S512.size a := fun v3656 k2_hw38 => k2_hw38.2
def k2_off29 (v185 : BitVec 32) (k2_t10 : Fin (k2_t10_loop v185).trips) : Fin 3 → Nat :=
  let c1_i32_3234 : BitVec 32 := 1#32
  let v3661 : Index := Scalar.indexCast c1_i32_3234
  let c0_i32_532 : BitVec 32 := 0#32
  let c1_i32_534 : BitVec 32 := 1#32
  let arg21 : BitVec 32 := Scf.iv c0_i32_532 c1_i32_534 k2_t10
  let v3662 : Index := Scalar.indexCast arg21
  let c64_3235 : Index := 64#32
  ![1, v3662.toNat, 64]

def k2_chk39 (v3667 : IVec S16 32) : Prop :=
  (∀ a x, ((![v3667] : Fin 1 → IVec S16 32) a x).toNat < S512.size a) ∧
  (∀ a x, ((![v3667] : Fin 1 → IVec S16 32) a x).toNat < S512.size a)
theorem k2_idx58_inb : ∀ (v3667 : IVec S16 32) (k2_hw39 : k2_chk39 v3667), ∀ a x, ((![v3667] : Fin 1 → IVec S16 32) a x).toNat < S512.size a := fun v3667 k2_hw39 => k2_hw39.1
theorem k2_idx59_inb : ∀ (v3667 : IVec S16 32) (k2_hw39 : k2_chk39 v3667), ∀ a x, ((![v3667] : Fin 1 → IVec S16 32) a x).toNat < S512.size a := fun v3667 k2_hw39 => k2_hw39.2
def k2_off30 (v185 : BitVec 32) (k2_t10 : Fin (k2_t10_loop v185).trips) : Fin 3 → Nat :=
  let c1_i32_3237 : BitVec 32 := 1#32
  let v3672 : Index := Scalar.indexCast c1_i32_3237
  let c0_i32_532 : BitVec 32 := 0#32
  let c1_i32_534 : BitVec 32 := 1#32
  let arg21 : BitVec 32 := Scf.iv c0_i32_532 c1_i32_534 k2_t10
  let v3673 : Index := Scalar.indexCast arg21
  let c80_3238 : Index := 80#32
  ![1, v3673.toNat, 80]

def k2_chk40 (v3678 : IVec S16 32) : Prop :=
  (∀ a x, ((![v3678] : Fin 1 → IVec S16 32) a x).toNat < S512.size a) ∧
  (∀ a x, ((![v3678] : Fin 1 → IVec S16 32) a x).toNat < S512.size a)
theorem k2_idx60_inb : ∀ (v3678 : IVec S16 32) (k2_hw40 : k2_chk40 v3678), ∀ a x, ((![v3678] : Fin 1 → IVec S16 32) a x).toNat < S512.size a := fun v3678 k2_hw40 => k2_hw40.1
theorem k2_idx61_inb : ∀ (v3678 : IVec S16 32) (k2_hw40 : k2_chk40 v3678), ∀ a x, ((![v3678] : Fin 1 → IVec S16 32) a x).toNat < S512.size a := fun v3678 k2_hw40 => k2_hw40.2
def k2_off31 (v185 : BitVec 32) (k2_t10 : Fin (k2_t10_loop v185).trips) : Fin 3 → Nat :=
  let c1_i32_3240 : BitVec 32 := 1#32
  let v3683 : Index := Scalar.indexCast c1_i32_3240
  let c0_i32_532 : BitVec 32 := 0#32
  let c1_i32_534 : BitVec 32 := 1#32
  let arg21 : BitVec 32 := Scf.iv c0_i32_532 c1_i32_534 k2_t10
  let v3684 : Index := Scalar.indexCast arg21
  let c96_3241 : Index := 96#32
  ![1, v3684.toNat, 96]

def k2_chk41 (v3689 : IVec S16 32) : Prop :=
  (∀ a x, ((![v3689] : Fin 1 → IVec S16 32) a x).toNat < S512.size a) ∧
  (∀ a x, ((![v3689] : Fin 1 → IVec S16 32) a x).toNat < S512.size a)
theorem k2_idx62_inb : ∀ (v3689 : IVec S16 32) (k2_hw41 : k2_chk41 v3689), ∀ a x, ((![v3689] : Fin 1 → IVec S16 32) a x).toNat < S512.size a := fun v3689 k2_hw41 => k2_hw41.1
theorem k2_idx63_inb : ∀ (v3689 : IVec S16 32) (k2_hw41 : k2_chk41 v3689), ∀ a x, ((![v3689] : Fin 1 → IVec S16 32) a x).toNat < S512.size a := fun v3689 k2_hw41 => k2_hw41.2
def k2_off32 (v185 : BitVec 32) (k2_t10 : Fin (k2_t10_loop v185).trips) : Fin 3 → Nat :=
  let c1_i32_3243 : BitVec 32 := 1#32
  let v3694 : Index := Scalar.indexCast c1_i32_3243
  let c0_i32_532 : BitVec 32 := 0#32
  let c1_i32_534 : BitVec 32 := 1#32
  let arg21 : BitVec 32 := Scf.iv c0_i32_532 c1_i32_534 k2_t10
  let v3695 : Index := Scalar.indexCast arg21
  let c112_3244 : Index := 112#32
  ![1, v3695.toNat, 112]

def k2_chk42 (v3700 : IVec S16 32) : Prop :=
  (∀ a x, ((![v3700] : Fin 1 → IVec S16 32) a x).toNat < S512.size a) ∧
  (∀ a x, ((![v3700] : Fin 1 → IVec S16 32) a x).toNat < S512.size a)
theorem k2_idx64_inb : ∀ (v3700 : IVec S16 32) (k2_hw42 : k2_chk42 v3700), ∀ a x, ((![v3700] : Fin 1 → IVec S16 32) a x).toNat < S512.size a := fun v3700 k2_hw42 => k2_hw42.1
theorem k2_idx65_inb : ∀ (v3700 : IVec S16 32) (k2_hw42 : k2_chk42 v3700), ∀ a x, ((![v3700] : Fin 1 → IVec S16 32) a x).toNat < S512.size a := fun v3700 k2_hw42 => k2_hw42.2
@[reducible] def k2_t11_loop (v185 : BitVec 32) : Scf.Loop 32 :=
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let v677 : BitVec 32 := Scalar.addi c0_i32_532 v676
  let c1_i32_535 : BitVec 32 := 1#32
  ⟨v680, v677, c1_i32_535⟩

def k2_chk43 (v3610 : IVec S16 32) : Prop :=
  (∀ a x, ((![v3610] : Fin 1 → IVec S16 32) a x).toNat < S128.size a)
theorem k2_idx66_inb : ∀ (v3610 : IVec S16 32) (k2_hw43 : k2_chk43 v3610), ∀ a x, ((![v3610] : Fin 1 → IVec S16 32) a x).toNat < S128.size a := fun v3610 k2_hw43 => k2_hw43
def k2_off33 (v185 : BitVec 32) (k2_t11 : Fin (k2_t11_loop v185).trips) : Fin 3 → Nat :=
  let c1_i32_3220 : BitVec 32 := 1#32
  let v3617 : Index := Scalar.indexCast c1_i32_3220
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3618 : Index := Scalar.indexCast arg21
  let c0_3221 : Index := 0#32
  ![1, v3618.toNat, 0]

def k2_chk44 (v3623 : IVec S16 32) : Prop :=
  (∀ a x, ((![v3623] : Fin 1 → IVec S16 32) a x).toNat < S512.size a) ∧
  (∀ a x, ((![v3623] : Fin 1 → IVec S16 32) a x).toNat < S512.size a)
theorem k2_idx67_inb : ∀ (v3623 : IVec S16 32) (k2_hw44 : k2_chk44 v3623), ∀ a x, ((![v3623] : Fin 1 → IVec S16 32) a x).toNat < S512.size a := fun v3623 k2_hw44 => k2_hw44.1
theorem k2_idx68_inb : ∀ (v3623 : IVec S16 32) (k2_hw44 : k2_chk44 v3623), ∀ a x, ((![v3623] : Fin 1 → IVec S16 32) a x).toNat < S512.size a := fun v3623 k2_hw44 => k2_hw44.2
def k2_off34 (v185 : BitVec 32) (k2_t11 : Fin (k2_t11_loop v185).trips) : Fin 3 → Nat :=
  let c1_i32_3223 : BitVec 32 := 1#32
  let v3628 : Index := Scalar.indexCast c1_i32_3223
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3629 : Index := Scalar.indexCast arg21
  let c16_3224 : Index := 16#32
  ![1, v3629.toNat, 16]

def k2_chk45 (v3634 : IVec S16 32) : Prop :=
  (∀ a x, ((![v3634] : Fin 1 → IVec S16 32) a x).toNat < S512.size a) ∧
  (∀ a x, ((![v3634] : Fin 1 → IVec S16 32) a x).toNat < S512.size a)
theorem k2_idx69_inb : ∀ (v3634 : IVec S16 32) (k2_hw45 : k2_chk45 v3634), ∀ a x, ((![v3634] : Fin 1 → IVec S16 32) a x).toNat < S512.size a := fun v3634 k2_hw45 => k2_hw45.1
theorem k2_idx70_inb : ∀ (v3634 : IVec S16 32) (k2_hw45 : k2_chk45 v3634), ∀ a x, ((![v3634] : Fin 1 → IVec S16 32) a x).toNat < S512.size a := fun v3634 k2_hw45 => k2_hw45.2
def k2_off35 (v185 : BitVec 32) (k2_t11 : Fin (k2_t11_loop v185).trips) : Fin 3 → Nat :=
  let c1_i32_3227 : BitVec 32 := 1#32
  let v3639 : Index := Scalar.indexCast c1_i32_3227
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3640 : Index := Scalar.indexCast arg21
  let c32_3228 : Index := 32#32
  ![1, v3640.toNat, 32]

def k2_chk46 (v3645 : IVec S16 32) : Prop :=
  (∀ a x, ((![v3645] : Fin 1 → IVec S16 32) a x).toNat < S512.size a) ∧
  (∀ a x, ((![v3645] : Fin 1 → IVec S16 32) a x).toNat < S512.size a)
theorem k2_idx71_inb : ∀ (v3645 : IVec S16 32) (k2_hw46 : k2_chk46 v3645), ∀ a x, ((![v3645] : Fin 1 → IVec S16 32) a x).toNat < S512.size a := fun v3645 k2_hw46 => k2_hw46.1
theorem k2_idx72_inb : ∀ (v3645 : IVec S16 32) (k2_hw46 : k2_chk46 v3645), ∀ a x, ((![v3645] : Fin 1 → IVec S16 32) a x).toNat < S512.size a := fun v3645 k2_hw46 => k2_hw46.2
def k2_off36 (v185 : BitVec 32) (k2_t11 : Fin (k2_t11_loop v185).trips) : Fin 3 → Nat :=
  let c1_i32_3231 : BitVec 32 := 1#32
  let v3650 : Index := Scalar.indexCast c1_i32_3231
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3651 : Index := Scalar.indexCast arg21
  let c48_3232 : Index := 48#32
  ![1, v3651.toNat, 48]

def k2_chk47 (v3656 : IVec S16 32) : Prop :=
  (∀ a x, ((![v3656] : Fin 1 → IVec S16 32) a x).toNat < S512.size a) ∧
  (∀ a x, ((![v3656] : Fin 1 → IVec S16 32) a x).toNat < S512.size a)
theorem k2_idx73_inb : ∀ (v3656 : IVec S16 32) (k2_hw47 : k2_chk47 v3656), ∀ a x, ((![v3656] : Fin 1 → IVec S16 32) a x).toNat < S512.size a := fun v3656 k2_hw47 => k2_hw47.1
theorem k2_idx74_inb : ∀ (v3656 : IVec S16 32) (k2_hw47 : k2_chk47 v3656), ∀ a x, ((![v3656] : Fin 1 → IVec S16 32) a x).toNat < S512.size a := fun v3656 k2_hw47 => k2_hw47.2
def k2_off37 (v185 : BitVec 32) (k2_t11 : Fin (k2_t11_loop v185).trips) : Fin 3 → Nat :=
  let c1_i32_3234 : BitVec 32 := 1#32
  let v3661 : Index := Scalar.indexCast c1_i32_3234
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3662 : Index := Scalar.indexCast arg21
  let c64_3235 : Index := 64#32
  ![1, v3662.toNat, 64]

def k2_chk48 (v3667 : IVec S16 32) : Prop :=
  (∀ a x, ((![v3667] : Fin 1 → IVec S16 32) a x).toNat < S512.size a) ∧
  (∀ a x, ((![v3667] : Fin 1 → IVec S16 32) a x).toNat < S512.size a)
theorem k2_idx75_inb : ∀ (v3667 : IVec S16 32) (k2_hw48 : k2_chk48 v3667), ∀ a x, ((![v3667] : Fin 1 → IVec S16 32) a x).toNat < S512.size a := fun v3667 k2_hw48 => k2_hw48.1
theorem k2_idx76_inb : ∀ (v3667 : IVec S16 32) (k2_hw48 : k2_chk48 v3667), ∀ a x, ((![v3667] : Fin 1 → IVec S16 32) a x).toNat < S512.size a := fun v3667 k2_hw48 => k2_hw48.2
def k2_off38 (v185 : BitVec 32) (k2_t11 : Fin (k2_t11_loop v185).trips) : Fin 3 → Nat :=
  let c1_i32_3237 : BitVec 32 := 1#32
  let v3672 : Index := Scalar.indexCast c1_i32_3237
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3673 : Index := Scalar.indexCast arg21
  let c80_3238 : Index := 80#32
  ![1, v3673.toNat, 80]

def k2_chk49 (v3678 : IVec S16 32) : Prop :=
  (∀ a x, ((![v3678] : Fin 1 → IVec S16 32) a x).toNat < S512.size a) ∧
  (∀ a x, ((![v3678] : Fin 1 → IVec S16 32) a x).toNat < S512.size a)
theorem k2_idx77_inb : ∀ (v3678 : IVec S16 32) (k2_hw49 : k2_chk49 v3678), ∀ a x, ((![v3678] : Fin 1 → IVec S16 32) a x).toNat < S512.size a := fun v3678 k2_hw49 => k2_hw49.1
theorem k2_idx78_inb : ∀ (v3678 : IVec S16 32) (k2_hw49 : k2_chk49 v3678), ∀ a x, ((![v3678] : Fin 1 → IVec S16 32) a x).toNat < S512.size a := fun v3678 k2_hw49 => k2_hw49.2
def k2_off39 (v185 : BitVec 32) (k2_t11 : Fin (k2_t11_loop v185).trips) : Fin 3 → Nat :=
  let c1_i32_3240 : BitVec 32 := 1#32
  let v3683 : Index := Scalar.indexCast c1_i32_3240
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3684 : Index := Scalar.indexCast arg21
  let c96_3241 : Index := 96#32
  ![1, v3684.toNat, 96]

def k2_chk50 (v3689 : IVec S16 32) : Prop :=
  (∀ a x, ((![v3689] : Fin 1 → IVec S16 32) a x).toNat < S512.size a) ∧
  (∀ a x, ((![v3689] : Fin 1 → IVec S16 32) a x).toNat < S512.size a)
theorem k2_idx79_inb : ∀ (v3689 : IVec S16 32) (k2_hw50 : k2_chk50 v3689), ∀ a x, ((![v3689] : Fin 1 → IVec S16 32) a x).toNat < S512.size a := fun v3689 k2_hw50 => k2_hw50.1
theorem k2_idx80_inb : ∀ (v3689 : IVec S16 32) (k2_hw50 : k2_chk50 v3689), ∀ a x, ((![v3689] : Fin 1 → IVec S16 32) a x).toNat < S512.size a := fun v3689 k2_hw50 => k2_hw50.2
def k2_off40 (v185 : BitVec 32) (k2_t11 : Fin (k2_t11_loop v185).trips) : Fin 3 → Nat :=
  let c1_i32_3243 : BitVec 32 := 1#32
  let v3694 : Index := Scalar.indexCast c1_i32_3243
  let c0_i32_532 : BitVec 32 := 0#32
  let c128_i32_128 : BitVec 32 := 128#32
  let v186 : BitVec 32 := Scalar.minsi v185 c128_i32_128
  let v676 : BitVec 32 := Scalar.subi v186 c0_i32_532
  let c1_i32_533 : BitVec 32 := 1#32
  let v678 : BitVec 32 := Scalar.divsi v676 c1_i32_533
  let v679 : BitVec 32 := Scalar.muli v678 c1_i32_533
  let v680 : BitVec 32 := Scalar.addi c0_i32_532 v679
  let c1_i32_535 : BitVec 32 := 1#32
  let arg21 : BitVec 32 := Scf.iv v680 c1_i32_535 k2_t11
  let v3695 : Index := Scalar.indexCast arg21
  let c112_3244 : Index := 112#32
  ![1, v3695.toNat, 112]

def k2_chk33 (v185 : BitVec 32) : Prop :=
  ((k2_t10_loop v185).OK) ∧
  (∀ k2_t10 : Fin (k2_t10_loop v185).trips, ∀ a, (k2_off25 v185 k2_t10) a + S1x1x16.size a ≤ S4x128x128.size a) ∧
  (∀ k2_t10 : Fin (k2_t10_loop v185).trips, ∀ a, (k2_off26 v185 k2_t10) a + S1x1x16.size a ≤ S4x128x128.size a) ∧
  (∀ k2_t10 : Fin (k2_t10_loop v185).trips, ∀ a, (k2_off27 v185 k2_t10) a + S1x1x16.size a ≤ S4x128x128.size a) ∧
  (∀ k2_t10 : Fin (k2_t10_loop v185).trips, ∀ a, (k2_off28 v185 k2_t10) a + S1x1x16.size a ≤ S4x128x128.size a) ∧
  (∀ k2_t10 : Fin (k2_t10_loop v185).trips, ∀ a, (k2_off29 v185 k2_t10) a + S1x1x16.size a ≤ S4x128x128.size a) ∧
  (∀ k2_t10 : Fin (k2_t10_loop v185).trips, ∀ a, (k2_off30 v185 k2_t10) a + S1x1x16.size a ≤ S4x128x128.size a) ∧
  (∀ k2_t10 : Fin (k2_t10_loop v185).trips, ∀ a, (k2_off31 v185 k2_t10) a + S1x1x16.size a ≤ S4x128x128.size a) ∧
  (∀ k2_t10 : Fin (k2_t10_loop v185).trips, ∀ a, (k2_off32 v185 k2_t10) a + S1x1x16.size a ≤ S4x128x128.size a) ∧
  ((k2_t11_loop v185).OK) ∧
  (∀ k2_t11 : Fin (k2_t11_loop v185).trips, ∀ a, (k2_off33 v185 k2_t11) a + S1x1x16.size a ≤ S4x128x128.size a) ∧
  (∀ k2_t11 : Fin (k2_t11_loop v185).trips, ∀ a, (k2_off34 v185 k2_t11) a + S1x1x16.size a ≤ S4x128x128.size a) ∧
  (∀ k2_t11 : Fin (k2_t11_loop v185).trips, ∀ a, (k2_off35 v185 k2_t11) a + S1x1x16.size a ≤ S4x128x128.size a) ∧
  (∀ k2_t11 : Fin (k2_t11_loop v185).trips, ∀ a, (k2_off36 v185 k2_t11) a + S1x1x16.size a ≤ S4x128x128.size a) ∧
  (∀ k2_t11 : Fin (k2_t11_loop v185).trips, ∀ a, (k2_off37 v185 k2_t11) a + S1x1x16.size a ≤ S4x128x128.size a) ∧
  (∀ k2_t11 : Fin (k2_t11_loop v185).trips, ∀ a, (k2_off38 v185 k2_t11) a + S1x1x16.size a ≤ S4x128x128.size a) ∧
  (∀ k2_t11 : Fin (k2_t11_loop v185).trips, ∀ a, (k2_off39 v185 k2_t11) a + S1x1x16.size a ≤ S4x128x128.size a) ∧
  (∀ k2_t11 : Fin (k2_t11_loop v185).trips, ∀ a, (k2_off40 v185 k2_t11) a + S1x1x16.size a ≤ S4x128x128.size a)
theorem k2_t10_ok : ∀ (v185 : BitVec 32) (k2_hw33 : k2_chk33 v185), (k2_t10_loop v185).OK := fun v185 k2_hw33 => k2_hw33.1
theorem k2_off25_inb : ∀ (v185 : BitVec 32) (k2_hw33 : k2_chk33 v185) (k2_t10 : Fin (k2_t10_loop v185).trips), ∀ a, (k2_off25 v185 k2_t10) a + S1x1x16.size a ≤ S4x128x128.size a := fun v185 k2_hw33 k2_t10 => k2_hw33.2.1 k2_t10
theorem k2_off26_inb : ∀ (v185 : BitVec 32) (k2_hw33 : k2_chk33 v185) (k2_t10 : Fin (k2_t10_loop v185).trips), ∀ a, (k2_off26 v185 k2_t10) a + S1x1x16.size a ≤ S4x128x128.size a := fun v185 k2_hw33 k2_t10 => k2_hw33.2.2.1 k2_t10
theorem k2_off27_inb : ∀ (v185 : BitVec 32) (k2_hw33 : k2_chk33 v185) (k2_t10 : Fin (k2_t10_loop v185).trips), ∀ a, (k2_off27 v185 k2_t10) a + S1x1x16.size a ≤ S4x128x128.size a := fun v185 k2_hw33 k2_t10 => k2_hw33.2.2.2.1 k2_t10
theorem k2_off28_inb : ∀ (v185 : BitVec 32) (k2_hw33 : k2_chk33 v185) (k2_t10 : Fin (k2_t10_loop v185).trips), ∀ a, (k2_off28 v185 k2_t10) a + S1x1x16.size a ≤ S4x128x128.size a := fun v185 k2_hw33 k2_t10 => k2_hw33.2.2.2.2.1 k2_t10
theorem k2_off29_inb : ∀ (v185 : BitVec 32) (k2_hw33 : k2_chk33 v185) (k2_t10 : Fin (k2_t10_loop v185).trips), ∀ a, (k2_off29 v185 k2_t10) a + S1x1x16.size a ≤ S4x128x128.size a := fun v185 k2_hw33 k2_t10 => k2_hw33.2.2.2.2.2.1 k2_t10
theorem k2_off30_inb : ∀ (v185 : BitVec 32) (k2_hw33 : k2_chk33 v185) (k2_t10 : Fin (k2_t10_loop v185).trips), ∀ a, (k2_off30 v185 k2_t10) a + S1x1x16.size a ≤ S4x128x128.size a := fun v185 k2_hw33 k2_t10 => k2_hw33.2.2.2.2.2.2.1 k2_t10
theorem k2_off31_inb : ∀ (v185 : BitVec 32) (k2_hw33 : k2_chk33 v185) (k2_t10 : Fin (k2_t10_loop v185).trips), ∀ a, (k2_off31 v185 k2_t10) a + S1x1x16.size a ≤ S4x128x128.size a := fun v185 k2_hw33 k2_t10 => k2_hw33.2.2.2.2.2.2.2.1 k2_t10
theorem k2_off32_inb : ∀ (v185 : BitVec 32) (k2_hw33 : k2_chk33 v185) (k2_t10 : Fin (k2_t10_loop v185).trips), ∀ a, (k2_off32 v185 k2_t10) a + S1x1x16.size a ≤ S4x128x128.size a := fun v185 k2_hw33 k2_t10 => k2_hw33.2.2.2.2.2.2.2.2.1 k2_t10
theorem k2_t11_ok : ∀ (v185 : BitVec 32) (k2_hw33 : k2_chk33 v185), (k2_t11_loop v185).OK := fun v185 k2_hw33 => k2_hw33.2.2.2.2.2.2.2.2.2.1
theorem k2_off33_inb : ∀ (v185 : BitVec 32) (k2_hw33 : k2_chk33 v185) (k2_t11 : Fin (k2_t11_loop v185).trips), ∀ a, (k2_off33 v185 k2_t11) a + S1x1x16.size a ≤ S4x128x128.size a := fun v185 k2_hw33 k2_t11 => k2_hw33.2.2.2.2.2.2.2.2.2.2.1 k2_t11
theorem k2_off34_inb : ∀ (v185 : BitVec 32) (k2_hw33 : k2_chk33 v185) (k2_t11 : Fin (k2_t11_loop v185).trips), ∀ a, (k2_off34 v185 k2_t11) a + S1x1x16.size a ≤ S4x128x128.size a := fun v185 k2_hw33 k2_t11 => k2_hw33.2.2.2.2.2.2.2.2.2.2.2.1 k2_t11
theorem k2_off35_inb : ∀ (v185 : BitVec 32) (k2_hw33 : k2_chk33 v185) (k2_t11 : Fin (k2_t11_loop v185).trips), ∀ a, (k2_off35 v185 k2_t11) a + S1x1x16.size a ≤ S4x128x128.size a := fun v185 k2_hw33 k2_t11 => k2_hw33.2.2.2.2.2.2.2.2.2.2.2.2.1 k2_t11
theorem k2_off36_inb : ∀ (v185 : BitVec 32) (k2_hw33 : k2_chk33 v185) (k2_t11 : Fin (k2_t11_loop v185).trips), ∀ a, (k2_off36 v185 k2_t11) a + S1x1x16.size a ≤ S4x128x128.size a := fun v185 k2_hw33 k2_t11 => k2_hw33.2.2.2.2.2.2.2.2.2.2.2.2.2.1 k2_t11
theorem k2_off37_inb : ∀ (v185 : BitVec 32) (k2_hw33 : k2_chk33 v185) (k2_t11 : Fin (k2_t11_loop v185).trips), ∀ a, (k2_off37 v185 k2_t11) a + S1x1x16.size a ≤ S4x128x128.size a := fun v185 k2_hw33 k2_t11 => k2_hw33.2.2.2.2.2.2.2.2.2.2.2.2.2.2.1 k2_t11
theorem k2_off38_inb : ∀ (v185 : BitVec 32) (k2_hw33 : k2_chk33 v185) (k2_t11 : Fin (k2_t11_loop v185).trips), ∀ a, (k2_off38 v185 k2_t11) a + S1x1x16.size a ≤ S4x128x128.size a := fun v185 k2_hw33 k2_t11 => k2_hw33.2.2.2.2.2.2.2.2.2.2.2.2.2.2.2.1 k2_t11
theorem k2_off39_inb : ∀ (v185 : BitVec 32) (k2_hw33 : k2_chk33 v185) (k2_t11 : Fin (k2_t11_loop v185).trips), ∀ a, (k2_off39 v185 k2_t11) a + S1x1x16.size a ≤ S4x128x128.size a := fun v185 k2_hw33 k2_t11 => k2_hw33.2.2.2.2.2.2.2.2.2.2.2.2.2.2.2.2.1 k2_t11
theorem k2_off40_inb : ∀ (v185 : BitVec 32) (k2_hw33 : k2_chk33 v185) (k2_t11 : Fin (k2_t11_loop v185).trips), ∀ a, (k2_off40 v185 k2_t11) a + S1x1x16.size a ≤ S4x128x128.size a := fun v185 k2_hw33 k2_t11 => k2_hw33.2.2.2.2.2.2.2.2.2.2.2.2.2.2.2.2.2 k2_t11

def k2_chk51 (v3700 : IVec S16 32) : Prop :=
  (∀ a x, ((![v3700] : Fin 1 → IVec S16 32) a x).toNat < S512.size a) ∧
  (∀ a x, ((![v3700] : Fin 1 → IVec S16 32) a x).toNat < S512.size a)
theorem k2_idx81_inb : ∀ (v3700 : IVec S16 32) (k2_hw51 : k2_chk51 v3700), ∀ a x, ((![v3700] : Fin 1 → IVec S16 32) a x).toNat < S512.size a := fun v3700 k2_hw51 => k2_hw51.1
theorem k2_idx82_inb : ∀ (v3700 : IVec S16 32) (k2_hw51 : k2_chk51 v3700), ∀ a x, ((![v3700] : Fin 1 → IVec S16 32) a x).toNat < S512.size a := fun v3700 k2_hw51 => k2_hw51.2
@[reducible] def k2_t12_loop : Scf.Loop 32 :=
  let c0_i32_585 : BitVec 32 := 0#32
  let c32_i32_586 : BitVec 32 := 32#32
  let v732 : BitVec 32 := Scalar.addi c0_i32_585 c32_i32_586
  let c1_i32_587 : BitVec 32 := 1#32
  ⟨c0_i32_585, v732, c1_i32_587⟩
def k2_off41 (k2_t12 : Fin k2_t12_loop.trips) : Fin 1 → Nat :=
  let c0_i32_585 : BitVec 32 := 0#32
  let c1_i32_587 : BitVec 32 := 1#32
  let arg21 : BitVec 32 := Scf.iv c0_i32_585 c1_i32_587 k2_t12
  let c16_i32_3217 : BitVec 32 := 16#32
  let v3610 : BitVec 32 := Scalar.muli arg21 c16_i32_3217
  let v3611 : Index := Scalar.indexCast v3610
  ![v3611.toNat]

def k2_chk52 (v731 : IVec S16 32) (v3625 : IVec S16 32) : Prop :=
  (∀ a x, ((![v731, v3625] : Fin 2 → IVec S16 32) a x).toNat < S16x256.size a) ∧
  (∀ a x, ((![v731, v3625] : Fin 2 → IVec S16 32) a x).toNat < S16x256.size a)
theorem k2_idx83_inb : ∀ (v731 : IVec S16 32) (v3625 : IVec S16 32) (k2_hw52 : k2_chk52 v731 v3625), ∀ a x, ((![v731, v3625] : Fin 2 → IVec S16 32) a x).toNat < S16x256.size a := fun v731 v3625 k2_hw52 => k2_hw52.1
theorem k2_idx84_inb : ∀ (v731 : IVec S16 32) (v3625 : IVec S16 32) (k2_hw52 : k2_chk52 v731 v3625), ∀ a x, ((![v731, v3625] : Fin 2 → IVec S16 32) a x).toNat < S16x256.size a := fun v731 v3625 k2_hw52 => k2_hw52.2

def k2_chk53 (v736 : IVec S16 32) : Prop :=
  (∀ a x, ((![v736] : Fin 1 → IVec S16 32) a x).toNat < S128.size a)
theorem k2_idx85_inb : ∀ (v736 : IVec S16 32) (k2_hw53 : k2_chk53 v736), ∀ a x, ((![v736] : Fin 1 → IVec S16 32) a x).toNat < S128.size a := fun v736 k2_hw53 => k2_hw53
@[reducible] def k2_t13_loop : Scf.Loop 32 :=
  let c0_i32_614 : BitVec 32 := 0#32
  let c49_i32_615 : BitVec 32 := 49#32
  let v762 : BitVec 32 := Scalar.addi c0_i32_614 c49_i32_615
  let c1_i32_616 : BitVec 32 := 1#32
  ⟨c0_i32_614, v762, c1_i32_616⟩
def k2_off42 (k2_t13 : Fin k2_t13_loop.trips) : Fin 2 → Nat :=
  let c5_i32_3218 : BitVec 32 := 5#32
  let v3611 : Index := Scalar.indexCast c5_i32_3218
  let c0_i32_614 : BitVec 32 := 0#32
  let c1_i32_616 : BitVec 32 := 1#32
  let arg21 : BitVec 32 := Scf.iv c0_i32_614 c1_i32_616 k2_t13
  let c16_i32_3217 : BitVec 32 := 16#32
  let v3610 : BitVec 32 := Scalar.muli arg21 c16_i32_3217
  let v3612 : Index := Scalar.indexCast v3610
  ![5, v3612.toNat]

def k2_chk54 (v3621 : IVec S16 32) : Prop :=
  (∀ a x, ((![v3621] : Fin 1 → IVec S16 32) a x).toNat < S128.size a)
theorem k2_idx86_inb : ∀ (v3621 : IVec S16 32) (k2_hw54 : k2_chk54 v3621), ∀ a x, ((![v3621] : Fin 1 → IVec S16 32) a x).toNat < S128.size a := fun v3621 k2_hw54 => k2_hw54

def k2_chk55 (v833 : IVec S16 32) : Prop :=
  (∀ a x, ((![v833] : Fin 1 → IVec S16 32) a x).toNat < S128.size a)
theorem k2_idx87_inb : ∀ (v833 : IVec S16 32) (k2_hw55 : k2_chk55 v833), ∀ a x, ((![v833] : Fin 1 → IVec S16 32) a x).toNat < S128.size a := fun v833 k2_hw55 => k2_hw55
@[reducible] def k2_t14_loop (v277 : BitVec 32) : Scf.Loop 32 :=
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_737 : BitVec 32 := 1#32
  ⟨c0_i32_735, v905, c1_i32_737⟩

def k2_chk57 (v3610 : IVec S16 32) : Prop :=
  (∀ a x, ((![v3610] : Fin 1 → IVec S16 32) a x).toNat < S128.size a)
theorem k2_idx88_inb : ∀ (v3610 : IVec S16 32) (k2_hw57 : k2_chk57 v3610), ∀ a x, ((![v3610] : Fin 1 → IVec S16 32) a x).toNat < S128.size a := fun v3610 k2_hw57 => k2_hw57
def k2_off43 (v277 : BitVec 32) (k2_t14 : Fin (k2_t14_loop v277).trips) : Fin 3 → Nat :=
  let c2_i32_3220 : BitVec 32 := 2#32
  let v3617 : Index := Scalar.indexCast c2_i32_3220
  let c0_i32_735 : BitVec 32 := 0#32
  let c1_i32_737 : BitVec 32 := 1#32
  let arg21 : BitVec 32 := Scf.iv c0_i32_735 c1_i32_737 k2_t14
  let v3618 : Index := Scalar.indexCast arg21
  let c0_3221 : Index := 0#32
  ![2, v3618.toNat, 0]

def k2_chk58 (v3623 : IVec S16 32) : Prop :=
  (∀ a x, ((![v3623] : Fin 1 → IVec S16 32) a x).toNat < S512.size a) ∧
  (∀ a x, ((![v3623] : Fin 1 → IVec S16 32) a x).toNat < S512.size a)
theorem k2_idx89_inb : ∀ (v3623 : IVec S16 32) (k2_hw58 : k2_chk58 v3623), ∀ a x, ((![v3623] : Fin 1 → IVec S16 32) a x).toNat < S512.size a := fun v3623 k2_hw58 => k2_hw58.1
theorem k2_idx90_inb : ∀ (v3623 : IVec S16 32) (k2_hw58 : k2_chk58 v3623), ∀ a x, ((![v3623] : Fin 1 → IVec S16 32) a x).toNat < S512.size a := fun v3623 k2_hw58 => k2_hw58.2
def k2_off44 (v277 : BitVec 32) (k2_t14 : Fin (k2_t14_loop v277).trips) : Fin 3 → Nat :=
  let c2_i32_3223 : BitVec 32 := 2#32
  let v3628 : Index := Scalar.indexCast c2_i32_3223
  let c0_i32_735 : BitVec 32 := 0#32
  let c1_i32_737 : BitVec 32 := 1#32
  let arg21 : BitVec 32 := Scf.iv c0_i32_735 c1_i32_737 k2_t14
  let v3629 : Index := Scalar.indexCast arg21
  let c16_3224 : Index := 16#32
  ![2, v3629.toNat, 16]

def k2_chk59 (v3634 : IVec S16 32) : Prop :=
  (∀ a x, ((![v3634] : Fin 1 → IVec S16 32) a x).toNat < S512.size a) ∧
  (∀ a x, ((![v3634] : Fin 1 → IVec S16 32) a x).toNat < S512.size a)
theorem k2_idx91_inb : ∀ (v3634 : IVec S16 32) (k2_hw59 : k2_chk59 v3634), ∀ a x, ((![v3634] : Fin 1 → IVec S16 32) a x).toNat < S512.size a := fun v3634 k2_hw59 => k2_hw59.1
theorem k2_idx92_inb : ∀ (v3634 : IVec S16 32) (k2_hw59 : k2_chk59 v3634), ∀ a x, ((![v3634] : Fin 1 → IVec S16 32) a x).toNat < S512.size a := fun v3634 k2_hw59 => k2_hw59.2
def k2_off45 (v277 : BitVec 32) (k2_t14 : Fin (k2_t14_loop v277).trips) : Fin 3 → Nat :=
  let c2_i32_3227 : BitVec 32 := 2#32
  let v3639 : Index := Scalar.indexCast c2_i32_3227
  let c0_i32_735 : BitVec 32 := 0#32
  let c1_i32_737 : BitVec 32 := 1#32
  let arg21 : BitVec 32 := Scf.iv c0_i32_735 c1_i32_737 k2_t14
  let v3640 : Index := Scalar.indexCast arg21
  let c32_3228 : Index := 32#32
  ![2, v3640.toNat, 32]

def k2_chk60 (v3645 : IVec S16 32) : Prop :=
  (∀ a x, ((![v3645] : Fin 1 → IVec S16 32) a x).toNat < S512.size a) ∧
  (∀ a x, ((![v3645] : Fin 1 → IVec S16 32) a x).toNat < S512.size a)
theorem k2_idx93_inb : ∀ (v3645 : IVec S16 32) (k2_hw60 : k2_chk60 v3645), ∀ a x, ((![v3645] : Fin 1 → IVec S16 32) a x).toNat < S512.size a := fun v3645 k2_hw60 => k2_hw60.1
theorem k2_idx94_inb : ∀ (v3645 : IVec S16 32) (k2_hw60 : k2_chk60 v3645), ∀ a x, ((![v3645] : Fin 1 → IVec S16 32) a x).toNat < S512.size a := fun v3645 k2_hw60 => k2_hw60.2
def k2_off46 (v277 : BitVec 32) (k2_t14 : Fin (k2_t14_loop v277).trips) : Fin 3 → Nat :=
  let c2_i32_3231 : BitVec 32 := 2#32
  let v3650 : Index := Scalar.indexCast c2_i32_3231
  let c0_i32_735 : BitVec 32 := 0#32
  let c1_i32_737 : BitVec 32 := 1#32
  let arg21 : BitVec 32 := Scf.iv c0_i32_735 c1_i32_737 k2_t14
  let v3651 : Index := Scalar.indexCast arg21
  let c48_3232 : Index := 48#32
  ![2, v3651.toNat, 48]

def k2_chk61 (v3656 : IVec S16 32) : Prop :=
  (∀ a x, ((![v3656] : Fin 1 → IVec S16 32) a x).toNat < S512.size a) ∧
  (∀ a x, ((![v3656] : Fin 1 → IVec S16 32) a x).toNat < S512.size a)
theorem k2_idx95_inb : ∀ (v3656 : IVec S16 32) (k2_hw61 : k2_chk61 v3656), ∀ a x, ((![v3656] : Fin 1 → IVec S16 32) a x).toNat < S512.size a := fun v3656 k2_hw61 => k2_hw61.1
theorem k2_idx96_inb : ∀ (v3656 : IVec S16 32) (k2_hw61 : k2_chk61 v3656), ∀ a x, ((![v3656] : Fin 1 → IVec S16 32) a x).toNat < S512.size a := fun v3656 k2_hw61 => k2_hw61.2
def k2_off47 (v277 : BitVec 32) (k2_t14 : Fin (k2_t14_loop v277).trips) : Fin 3 → Nat :=
  let c2_i32_3234 : BitVec 32 := 2#32
  let v3661 : Index := Scalar.indexCast c2_i32_3234
  let c0_i32_735 : BitVec 32 := 0#32
  let c1_i32_737 : BitVec 32 := 1#32
  let arg21 : BitVec 32 := Scf.iv c0_i32_735 c1_i32_737 k2_t14
  let v3662 : Index := Scalar.indexCast arg21
  let c64_3235 : Index := 64#32
  ![2, v3662.toNat, 64]

def k2_chk62 (v3667 : IVec S16 32) : Prop :=
  (∀ a x, ((![v3667] : Fin 1 → IVec S16 32) a x).toNat < S512.size a) ∧
  (∀ a x, ((![v3667] : Fin 1 → IVec S16 32) a x).toNat < S512.size a)
theorem k2_idx97_inb : ∀ (v3667 : IVec S16 32) (k2_hw62 : k2_chk62 v3667), ∀ a x, ((![v3667] : Fin 1 → IVec S16 32) a x).toNat < S512.size a := fun v3667 k2_hw62 => k2_hw62.1
theorem k2_idx98_inb : ∀ (v3667 : IVec S16 32) (k2_hw62 : k2_chk62 v3667), ∀ a x, ((![v3667] : Fin 1 → IVec S16 32) a x).toNat < S512.size a := fun v3667 k2_hw62 => k2_hw62.2
def k2_off48 (v277 : BitVec 32) (k2_t14 : Fin (k2_t14_loop v277).trips) : Fin 3 → Nat :=
  let c2_i32_3237 : BitVec 32 := 2#32
  let v3672 : Index := Scalar.indexCast c2_i32_3237
  let c0_i32_735 : BitVec 32 := 0#32
  let c1_i32_737 : BitVec 32 := 1#32
  let arg21 : BitVec 32 := Scf.iv c0_i32_735 c1_i32_737 k2_t14
  let v3673 : Index := Scalar.indexCast arg21
  let c80_3238 : Index := 80#32
  ![2, v3673.toNat, 80]

def k2_chk63 (v3678 : IVec S16 32) : Prop :=
  (∀ a x, ((![v3678] : Fin 1 → IVec S16 32) a x).toNat < S512.size a) ∧
  (∀ a x, ((![v3678] : Fin 1 → IVec S16 32) a x).toNat < S512.size a)
theorem k2_idx99_inb : ∀ (v3678 : IVec S16 32) (k2_hw63 : k2_chk63 v3678), ∀ a x, ((![v3678] : Fin 1 → IVec S16 32) a x).toNat < S512.size a := fun v3678 k2_hw63 => k2_hw63.1
theorem k2_idx100_inb : ∀ (v3678 : IVec S16 32) (k2_hw63 : k2_chk63 v3678), ∀ a x, ((![v3678] : Fin 1 → IVec S16 32) a x).toNat < S512.size a := fun v3678 k2_hw63 => k2_hw63.2
def k2_off49 (v277 : BitVec 32) (k2_t14 : Fin (k2_t14_loop v277).trips) : Fin 3 → Nat :=
  let c2_i32_3240 : BitVec 32 := 2#32
  let v3683 : Index := Scalar.indexCast c2_i32_3240
  let c0_i32_735 : BitVec 32 := 0#32
  let c1_i32_737 : BitVec 32 := 1#32
  let arg21 : BitVec 32 := Scf.iv c0_i32_735 c1_i32_737 k2_t14
  let v3684 : Index := Scalar.indexCast arg21
  let c96_3241 : Index := 96#32
  ![2, v3684.toNat, 96]

def k2_chk64 (v3689 : IVec S16 32) : Prop :=
  (∀ a x, ((![v3689] : Fin 1 → IVec S16 32) a x).toNat < S512.size a) ∧
  (∀ a x, ((![v3689] : Fin 1 → IVec S16 32) a x).toNat < S512.size a)
theorem k2_idx101_inb : ∀ (v3689 : IVec S16 32) (k2_hw64 : k2_chk64 v3689), ∀ a x, ((![v3689] : Fin 1 → IVec S16 32) a x).toNat < S512.size a := fun v3689 k2_hw64 => k2_hw64.1
theorem k2_idx102_inb : ∀ (v3689 : IVec S16 32) (k2_hw64 : k2_chk64 v3689), ∀ a x, ((![v3689] : Fin 1 → IVec S16 32) a x).toNat < S512.size a := fun v3689 k2_hw64 => k2_hw64.2
def k2_off50 (v277 : BitVec 32) (k2_t14 : Fin (k2_t14_loop v277).trips) : Fin 3 → Nat :=
  let c2_i32_3243 : BitVec 32 := 2#32
  let v3694 : Index := Scalar.indexCast c2_i32_3243
  let c0_i32_735 : BitVec 32 := 0#32
  let c1_i32_737 : BitVec 32 := 1#32
  let arg21 : BitVec 32 := Scf.iv c0_i32_735 c1_i32_737 k2_t14
  let v3695 : Index := Scalar.indexCast arg21
  let c112_3244 : Index := 112#32
  ![2, v3695.toNat, 112]

def k2_chk65 (v3700 : IVec S16 32) : Prop :=
  (∀ a x, ((![v3700] : Fin 1 → IVec S16 32) a x).toNat < S512.size a) ∧
  (∀ a x, ((![v3700] : Fin 1 → IVec S16 32) a x).toNat < S512.size a)
theorem k2_idx103_inb : ∀ (v3700 : IVec S16 32) (k2_hw65 : k2_chk65 v3700), ∀ a x, ((![v3700] : Fin 1 → IVec S16 32) a x).toNat < S512.size a := fun v3700 k2_hw65 => k2_hw65.1
theorem k2_idx104_inb : ∀ (v3700 : IVec S16 32) (k2_hw65 : k2_chk65 v3700), ∀ a x, ((![v3700] : Fin 1 → IVec S16 32) a x).toNat < S512.size a := fun v3700 k2_hw65 => k2_hw65.2
@[reducible] def k2_t15_loop (v277 : BitVec 32) : Scf.Loop 32 :=
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let v902 : BitVec 32 := Scalar.addi c0_i32_735 v901
  let c1_i32_738 : BitVec 32 := 1#32
  ⟨v905, v902, c1_i32_738⟩

def k2_chk66 (v3610 : IVec S16 32) : Prop :=
  (∀ a x, ((![v3610] : Fin 1 → IVec S16 32) a x).toNat < S128.size a)
theorem k2_idx105_inb : ∀ (v3610 : IVec S16 32) (k2_hw66 : k2_chk66 v3610), ∀ a x, ((![v3610] : Fin 1 → IVec S16 32) a x).toNat < S128.size a := fun v3610 k2_hw66 => k2_hw66
def k2_off51 (v277 : BitVec 32) (k2_t15 : Fin (k2_t15_loop v277).trips) : Fin 3 → Nat :=
  let c2_i32_3220 : BitVec 32 := 2#32
  let v3617 : Index := Scalar.indexCast c2_i32_3220
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3618 : Index := Scalar.indexCast arg21
  let c0_3221 : Index := 0#32
  ![2, v3618.toNat, 0]

def k2_chk67 (v3623 : IVec S16 32) : Prop :=
  (∀ a x, ((![v3623] : Fin 1 → IVec S16 32) a x).toNat < S512.size a) ∧
  (∀ a x, ((![v3623] : Fin 1 → IVec S16 32) a x).toNat < S512.size a)
theorem k2_idx106_inb : ∀ (v3623 : IVec S16 32) (k2_hw67 : k2_chk67 v3623), ∀ a x, ((![v3623] : Fin 1 → IVec S16 32) a x).toNat < S512.size a := fun v3623 k2_hw67 => k2_hw67.1
theorem k2_idx107_inb : ∀ (v3623 : IVec S16 32) (k2_hw67 : k2_chk67 v3623), ∀ a x, ((![v3623] : Fin 1 → IVec S16 32) a x).toNat < S512.size a := fun v3623 k2_hw67 => k2_hw67.2
def k2_off52 (v277 : BitVec 32) (k2_t15 : Fin (k2_t15_loop v277).trips) : Fin 3 → Nat :=
  let c2_i32_3223 : BitVec 32 := 2#32
  let v3628 : Index := Scalar.indexCast c2_i32_3223
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3629 : Index := Scalar.indexCast arg21
  let c16_3224 : Index := 16#32
  ![2, v3629.toNat, 16]

def k2_chk68 (v3634 : IVec S16 32) : Prop :=
  (∀ a x, ((![v3634] : Fin 1 → IVec S16 32) a x).toNat < S512.size a) ∧
  (∀ a x, ((![v3634] : Fin 1 → IVec S16 32) a x).toNat < S512.size a)
theorem k2_idx108_inb : ∀ (v3634 : IVec S16 32) (k2_hw68 : k2_chk68 v3634), ∀ a x, ((![v3634] : Fin 1 → IVec S16 32) a x).toNat < S512.size a := fun v3634 k2_hw68 => k2_hw68.1
theorem k2_idx109_inb : ∀ (v3634 : IVec S16 32) (k2_hw68 : k2_chk68 v3634), ∀ a x, ((![v3634] : Fin 1 → IVec S16 32) a x).toNat < S512.size a := fun v3634 k2_hw68 => k2_hw68.2
def k2_off53 (v277 : BitVec 32) (k2_t15 : Fin (k2_t15_loop v277).trips) : Fin 3 → Nat :=
  let c2_i32_3227 : BitVec 32 := 2#32
  let v3639 : Index := Scalar.indexCast c2_i32_3227
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3640 : Index := Scalar.indexCast arg21
  let c32_3228 : Index := 32#32
  ![2, v3640.toNat, 32]

def k2_chk69 (v3645 : IVec S16 32) : Prop :=
  (∀ a x, ((![v3645] : Fin 1 → IVec S16 32) a x).toNat < S512.size a) ∧
  (∀ a x, ((![v3645] : Fin 1 → IVec S16 32) a x).toNat < S512.size a)
theorem k2_idx110_inb : ∀ (v3645 : IVec S16 32) (k2_hw69 : k2_chk69 v3645), ∀ a x, ((![v3645] : Fin 1 → IVec S16 32) a x).toNat < S512.size a := fun v3645 k2_hw69 => k2_hw69.1
theorem k2_idx111_inb : ∀ (v3645 : IVec S16 32) (k2_hw69 : k2_chk69 v3645), ∀ a x, ((![v3645] : Fin 1 → IVec S16 32) a x).toNat < S512.size a := fun v3645 k2_hw69 => k2_hw69.2
def k2_off54 (v277 : BitVec 32) (k2_t15 : Fin (k2_t15_loop v277).trips) : Fin 3 → Nat :=
  let c2_i32_3231 : BitVec 32 := 2#32
  let v3650 : Index := Scalar.indexCast c2_i32_3231
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3651 : Index := Scalar.indexCast arg21
  let c48_3232 : Index := 48#32
  ![2, v3651.toNat, 48]

def k2_chk70 (v3656 : IVec S16 32) : Prop :=
  (∀ a x, ((![v3656] : Fin 1 → IVec S16 32) a x).toNat < S512.size a) ∧
  (∀ a x, ((![v3656] : Fin 1 → IVec S16 32) a x).toNat < S512.size a)
theorem k2_idx112_inb : ∀ (v3656 : IVec S16 32) (k2_hw70 : k2_chk70 v3656), ∀ a x, ((![v3656] : Fin 1 → IVec S16 32) a x).toNat < S512.size a := fun v3656 k2_hw70 => k2_hw70.1
theorem k2_idx113_inb : ∀ (v3656 : IVec S16 32) (k2_hw70 : k2_chk70 v3656), ∀ a x, ((![v3656] : Fin 1 → IVec S16 32) a x).toNat < S512.size a := fun v3656 k2_hw70 => k2_hw70.2
def k2_off55 (v277 : BitVec 32) (k2_t15 : Fin (k2_t15_loop v277).trips) : Fin 3 → Nat :=
  let c2_i32_3234 : BitVec 32 := 2#32
  let v3661 : Index := Scalar.indexCast c2_i32_3234
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3662 : Index := Scalar.indexCast arg21
  let c64_3235 : Index := 64#32
  ![2, v3662.toNat, 64]

def k2_chk71 (v3667 : IVec S16 32) : Prop :=
  (∀ a x, ((![v3667] : Fin 1 → IVec S16 32) a x).toNat < S512.size a) ∧
  (∀ a x, ((![v3667] : Fin 1 → IVec S16 32) a x).toNat < S512.size a)
theorem k2_idx114_inb : ∀ (v3667 : IVec S16 32) (k2_hw71 : k2_chk71 v3667), ∀ a x, ((![v3667] : Fin 1 → IVec S16 32) a x).toNat < S512.size a := fun v3667 k2_hw71 => k2_hw71.1
theorem k2_idx115_inb : ∀ (v3667 : IVec S16 32) (k2_hw71 : k2_chk71 v3667), ∀ a x, ((![v3667] : Fin 1 → IVec S16 32) a x).toNat < S512.size a := fun v3667 k2_hw71 => k2_hw71.2
def k2_off56 (v277 : BitVec 32) (k2_t15 : Fin (k2_t15_loop v277).trips) : Fin 3 → Nat :=
  let c2_i32_3237 : BitVec 32 := 2#32
  let v3672 : Index := Scalar.indexCast c2_i32_3237
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3673 : Index := Scalar.indexCast arg21
  let c80_3238 : Index := 80#32
  ![2, v3673.toNat, 80]

def k2_chk72 (v3678 : IVec S16 32) : Prop :=
  (∀ a x, ((![v3678] : Fin 1 → IVec S16 32) a x).toNat < S512.size a) ∧
  (∀ a x, ((![v3678] : Fin 1 → IVec S16 32) a x).toNat < S512.size a)
theorem k2_idx116_inb : ∀ (v3678 : IVec S16 32) (k2_hw72 : k2_chk72 v3678), ∀ a x, ((![v3678] : Fin 1 → IVec S16 32) a x).toNat < S512.size a := fun v3678 k2_hw72 => k2_hw72.1
theorem k2_idx117_inb : ∀ (v3678 : IVec S16 32) (k2_hw72 : k2_chk72 v3678), ∀ a x, ((![v3678] : Fin 1 → IVec S16 32) a x).toNat < S512.size a := fun v3678 k2_hw72 => k2_hw72.2
def k2_off57 (v277 : BitVec 32) (k2_t15 : Fin (k2_t15_loop v277).trips) : Fin 3 → Nat :=
  let c2_i32_3240 : BitVec 32 := 2#32
  let v3683 : Index := Scalar.indexCast c2_i32_3240
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3684 : Index := Scalar.indexCast arg21
  let c96_3241 : Index := 96#32
  ![2, v3684.toNat, 96]

def k2_chk73 (v3689 : IVec S16 32) : Prop :=
  (∀ a x, ((![v3689] : Fin 1 → IVec S16 32) a x).toNat < S512.size a) ∧
  (∀ a x, ((![v3689] : Fin 1 → IVec S16 32) a x).toNat < S512.size a)
theorem k2_idx118_inb : ∀ (v3689 : IVec S16 32) (k2_hw73 : k2_chk73 v3689), ∀ a x, ((![v3689] : Fin 1 → IVec S16 32) a x).toNat < S512.size a := fun v3689 k2_hw73 => k2_hw73.1
theorem k2_idx119_inb : ∀ (v3689 : IVec S16 32) (k2_hw73 : k2_chk73 v3689), ∀ a x, ((![v3689] : Fin 1 → IVec S16 32) a x).toNat < S512.size a := fun v3689 k2_hw73 => k2_hw73.2
def k2_off58 (v277 : BitVec 32) (k2_t15 : Fin (k2_t15_loop v277).trips) : Fin 3 → Nat :=
  let c2_i32_3243 : BitVec 32 := 2#32
  let v3694 : Index := Scalar.indexCast c2_i32_3243
  let c0_i32_735 : BitVec 32 := 0#32
  let c128_i32_201 : BitVec 32 := 128#32
  let v278 : BitVec 32 := Scalar.minsi v277 c128_i32_201
  let v901 : BitVec 32 := Scalar.subi v278 c0_i32_735
  let c1_i32_736 : BitVec 32 := 1#32
  let v903 : BitVec 32 := Scalar.divsi v901 c1_i32_736
  let v904 : BitVec 32 := Scalar.muli v903 c1_i32_736
  let v905 : BitVec 32 := Scalar.addi c0_i32_735 v904
  let c1_i32_738 : BitVec 32 := 1#32
  let arg21 : BitVec 32 := Scf.iv v905 c1_i32_738 k2_t15
  let v3695 : Index := Scalar.indexCast arg21
  let c112_3244 : Index := 112#32
  ![2, v3695.toNat, 112]

def k2_chk56 (v277 : BitVec 32) : Prop :=
  ((k2_t14_loop v277).OK) ∧
  (∀ k2_t14 : Fin (k2_t14_loop v277).trips, ∀ a, (k2_off43 v277 k2_t14) a + S1x1x16.size a ≤ S4x128x128.size a) ∧
  (∀ k2_t14 : Fin (k2_t14_loop v277).trips, ∀ a, (k2_off44 v277 k2_t14) a + S1x1x16.size a ≤ S4x128x128.size a) ∧
  (∀ k2_t14 : Fin (k2_t14_loop v277).trips, ∀ a, (k2_off45 v277 k2_t14) a + S1x1x16.size a ≤ S4x128x128.size a) ∧
  (∀ k2_t14 : Fin (k2_t14_loop v277).trips, ∀ a, (k2_off46 v277 k2_t14) a + S1x1x16.size a ≤ S4x128x128.size a) ∧
  (∀ k2_t14 : Fin (k2_t14_loop v277).trips, ∀ a, (k2_off47 v277 k2_t14) a + S1x1x16.size a ≤ S4x128x128.size a) ∧
  (∀ k2_t14 : Fin (k2_t14_loop v277).trips, ∀ a, (k2_off48 v277 k2_t14) a + S1x1x16.size a ≤ S4x128x128.size a) ∧
  (∀ k2_t14 : Fin (k2_t14_loop v277).trips, ∀ a, (k2_off49 v277 k2_t14) a + S1x1x16.size a ≤ S4x128x128.size a) ∧
  (∀ k2_t14 : Fin (k2_t14_loop v277).trips, ∀ a, (k2_off50 v277 k2_t14) a + S1x1x16.size a ≤ S4x128x128.size a) ∧
  ((k2_t15_loop v277).OK) ∧
  (∀ k2_t15 : Fin (k2_t15_loop v277).trips, ∀ a, (k2_off51 v277 k2_t15) a + S1x1x16.size a ≤ S4x128x128.size a) ∧
  (∀ k2_t15 : Fin (k2_t15_loop v277).trips, ∀ a, (k2_off52 v277 k2_t15) a + S1x1x16.size a ≤ S4x128x128.size a) ∧
  (∀ k2_t15 : Fin (k2_t15_loop v277).trips, ∀ a, (k2_off53 v277 k2_t15) a + S1x1x16.size a ≤ S4x128x128.size a) ∧
  (∀ k2_t15 : Fin (k2_t15_loop v277).trips, ∀ a, (k2_off54 v277 k2_t15) a + S1x1x16.size a ≤ S4x128x128.size a) ∧
  (∀ k2_t15 : Fin (k2_t15_loop v277).trips, ∀ a, (k2_off55 v277 k2_t15) a + S1x1x16.size a ≤ S4x128x128.size a) ∧
  (∀ k2_t15 : Fin (k2_t15_loop v277).trips, ∀ a, (k2_off56 v277 k2_t15) a + S1x1x16.size a ≤ S4x128x128.size a) ∧
  (∀ k2_t15 : Fin (k2_t15_loop v277).trips, ∀ a, (k2_off57 v277 k2_t15) a + S1x1x16.size a ≤ S4x128x128.size a) ∧
  (∀ k2_t15 : Fin (k2_t15_loop v277).trips, ∀ a, (k2_off58 v277 k2_t15) a + S1x1x16.size a ≤ S4x128x128.size a)
theorem k2_t14_ok : ∀ (v277 : BitVec 32) (k2_hw56 : k2_chk56 v277), (k2_t14_loop v277).OK := fun v277 k2_hw56 => k2_hw56.1
theorem k2_off43_inb : ∀ (v277 : BitVec 32) (k2_hw56 : k2_chk56 v277) (k2_t14 : Fin (k2_t14_loop v277).trips), ∀ a, (k2_off43 v277 k2_t14) a + S1x1x16.size a ≤ S4x128x128.size a := fun v277 k2_hw56 k2_t14 => k2_hw56.2.1 k2_t14
theorem k2_off44_inb : ∀ (v277 : BitVec 32) (k2_hw56 : k2_chk56 v277) (k2_t14 : Fin (k2_t14_loop v277).trips), ∀ a, (k2_off44 v277 k2_t14) a + S1x1x16.size a ≤ S4x128x128.size a := fun v277 k2_hw56 k2_t14 => k2_hw56.2.2.1 k2_t14
theorem k2_off45_inb : ∀ (v277 : BitVec 32) (k2_hw56 : k2_chk56 v277) (k2_t14 : Fin (k2_t14_loop v277).trips), ∀ a, (k2_off45 v277 k2_t14) a + S1x1x16.size a ≤ S4x128x128.size a := fun v277 k2_hw56 k2_t14 => k2_hw56.2.2.2.1 k2_t14
theorem k2_off46_inb : ∀ (v277 : BitVec 32) (k2_hw56 : k2_chk56 v277) (k2_t14 : Fin (k2_t14_loop v277).trips), ∀ a, (k2_off46 v277 k2_t14) a + S1x1x16.size a ≤ S4x128x128.size a := fun v277 k2_hw56 k2_t14 => k2_hw56.2.2.2.2.1 k2_t14
theorem k2_off47_inb : ∀ (v277 : BitVec 32) (k2_hw56 : k2_chk56 v277) (k2_t14 : Fin (k2_t14_loop v277).trips), ∀ a, (k2_off47 v277 k2_t14) a + S1x1x16.size a ≤ S4x128x128.size a := fun v277 k2_hw56 k2_t14 => k2_hw56.2.2.2.2.2.1 k2_t14
theorem k2_off48_inb : ∀ (v277 : BitVec 32) (k2_hw56 : k2_chk56 v277) (k2_t14 : Fin (k2_t14_loop v277).trips), ∀ a, (k2_off48 v277 k2_t14) a + S1x1x16.size a ≤ S4x128x128.size a := fun v277 k2_hw56 k2_t14 => k2_hw56.2.2.2.2.2.2.1 k2_t14
theorem k2_off49_inb : ∀ (v277 : BitVec 32) (k2_hw56 : k2_chk56 v277) (k2_t14 : Fin (k2_t14_loop v277).trips), ∀ a, (k2_off49 v277 k2_t14) a + S1x1x16.size a ≤ S4x128x128.size a := fun v277 k2_hw56 k2_t14 => k2_hw56.2.2.2.2.2.2.2.1 k2_t14
theorem k2_off50_inb : ∀ (v277 : BitVec 32) (k2_hw56 : k2_chk56 v277) (k2_t14 : Fin (k2_t14_loop v277).trips), ∀ a, (k2_off50 v277 k2_t14) a + S1x1x16.size a ≤ S4x128x128.size a := fun v277 k2_hw56 k2_t14 => k2_hw56.2.2.2.2.2.2.2.2.1 k2_t14
theorem k2_t15_ok : ∀ (v277 : BitVec 32) (k2_hw56 : k2_chk56 v277), (k2_t15_loop v277).OK := fun v277 k2_hw56 => k2_hw56.2.2.2.2.2.2.2.2.2.1
theorem k2_off51_inb : ∀ (v277 : BitVec 32) (k2_hw56 : k2_chk56 v277) (k2_t15 : Fin (k2_t15_loop v277).trips), ∀ a, (k2_off51 v277 k2_t15) a + S1x1x16.size a ≤ S4x128x128.size a := fun v277 k2_hw56 k2_t15 => k2_hw56.2.2.2.2.2.2.2.2.2.2.1 k2_t15
theorem k2_off52_inb : ∀ (v277 : BitVec 32) (k2_hw56 : k2_chk56 v277) (k2_t15 : Fin (k2_t15_loop v277).trips), ∀ a, (k2_off52 v277 k2_t15) a + S1x1x16.size a ≤ S4x128x128.size a := fun v277 k2_hw56 k2_t15 => k2_hw56.2.2.2.2.2.2.2.2.2.2.2.1 k2_t15
theorem k2_off53_inb : ∀ (v277 : BitVec 32) (k2_hw56 : k2_chk56 v277) (k2_t15 : Fin (k2_t15_loop v277).trips), ∀ a, (k2_off53 v277 k2_t15) a + S1x1x16.size a ≤ S4x128x128.size a := fun v277 k2_hw56 k2_t15 => k2_hw56.2.2.2.2.2.2.2.2.2.2.2.2.1 k2_t15
theorem k2_off54_inb : ∀ (v277 : BitVec 32) (k2_hw56 : k2_chk56 v277) (k2_t15 : Fin (k2_t15_loop v277).trips), ∀ a, (k2_off54 v277 k2_t15) a + S1x1x16.size a ≤ S4x128x128.size a := fun v277 k2_hw56 k2_t15 => k2_hw56.2.2.2.2.2.2.2.2.2.2.2.2.2.1 k2_t15
theorem k2_off55_inb : ∀ (v277 : BitVec 32) (k2_hw56 : k2_chk56 v277) (k2_t15 : Fin (k2_t15_loop v277).trips), ∀ a, (k2_off55 v277 k2_t15) a + S1x1x16.size a ≤ S4x128x128.size a := fun v277 k2_hw56 k2_t15 => k2_hw56.2.2.2.2.2.2.2.2.2.2.2.2.2.2.1 k2_t15
theorem k2_off56_inb : ∀ (v277 : BitVec 32) (k2_hw56 : k2_chk56 v277) (k2_t15 : Fin (k2_t15_loop v277).trips), ∀ a, (k2_off56 v277 k2_t15) a + S1x1x16.size a ≤ S4x128x128.size a := fun v277 k2_hw56 k2_t15 => k2_hw56.2.2.2.2.2.2.2.2.2.2.2.2.2.2.2.1 k2_t15
theorem k2_off57_inb : ∀ (v277 : BitVec 32) (k2_hw56 : k2_chk56 v277) (k2_t15 : Fin (k2_t15_loop v277).trips), ∀ a, (k2_off57 v277 k2_t15) a + S1x1x16.size a ≤ S4x128x128.size a := fun v277 k2_hw56 k2_t15 => k2_hw56.2.2.2.2.2.2.2.2.2.2.2.2.2.2.2.2.1 k2_t15
theorem k2_off58_inb : ∀ (v277 : BitVec 32) (k2_hw56 : k2_chk56 v277) (k2_t15 : Fin (k2_t15_loop v277).trips), ∀ a, (k2_off58 v277 k2_t15) a + S1x1x16.size a ≤ S4x128x128.size a := fun v277 k2_hw56 k2_t15 => k2_hw56.2.2.2.2.2.2.2.2.2.2.2.2.2.2.2.2.2 k2_t15

def k2_chk74 (v3700 : IVec S16 32) : Prop :=
  (∀ a x, ((![v3700] : Fin 1 → IVec S16 32) a x).toNat < S512.size a) ∧
  (∀ a x, ((![v3700] : Fin 1 → IVec S16 32) a x).toNat < S512.size a)
theorem k2_idx120_inb : ∀ (v3700 : IVec S16 32) (k2_hw74 : k2_chk74 v3700), ∀ a x, ((![v3700] : Fin 1 → IVec S16 32) a x).toNat < S512.size a := fun v3700 k2_hw74 => k2_hw74.1
theorem k2_idx121_inb : ∀ (v3700 : IVec S16 32) (k2_hw74 : k2_chk74 v3700), ∀ a x, ((![v3700] : Fin 1 → IVec S16 32) a x).toNat < S512.size a := fun v3700 k2_hw74 => k2_hw74.2
@[reducible] def k2_t16_loop : Scf.Loop 32 :=
  let c0_i32_788 : BitVec 32 := 0#32
  let c32_i32_789 : BitVec 32 := 32#32
  let v957 : BitVec 32 := Scalar.addi c0_i32_788 c32_i32_789
  let c1_i32_790 : BitVec 32 := 1#32
  ⟨c0_i32_788, v957, c1_i32_790⟩
def k2_off59 (k2_t16 : Fin k2_t16_loop.trips) : Fin 1 → Nat :=
  let c0_i32_788 : BitVec 32 := 0#32
  let c1_i32_790 : BitVec 32 := 1#32
  let arg21 : BitVec 32 := Scf.iv c0_i32_788 c1_i32_790 k2_t16
  let c16_i32_3217 : BitVec 32 := 16#32
  let v3610 : BitVec 32 := Scalar.muli arg21 c16_i32_3217
  let v3611 : Index := Scalar.indexCast v3610
  ![v3611.toNat]

def k2_chk75 (v956 : IVec S16 32) (v3625 : IVec S16 32) : Prop :=
  (∀ a x, ((![v956, v3625] : Fin 2 → IVec S16 32) a x).toNat < S16x256.size a) ∧
  (∀ a x, ((![v956, v3625] : Fin 2 → IVec S16 32) a x).toNat < S16x256.size a)
theorem k2_idx122_inb : ∀ (v956 : IVec S16 32) (v3625 : IVec S16 32) (k2_hw75 : k2_chk75 v956 v3625), ∀ a x, ((![v956, v3625] : Fin 2 → IVec S16 32) a x).toNat < S16x256.size a := fun v956 v3625 k2_hw75 => k2_hw75.1
theorem k2_idx123_inb : ∀ (v956 : IVec S16 32) (v3625 : IVec S16 32) (k2_hw75 : k2_chk75 v956 v3625), ∀ a x, ((![v956, v3625] : Fin 2 → IVec S16 32) a x).toNat < S16x256.size a := fun v956 v3625 k2_hw75 => k2_hw75.2

def k2_chk76 (v961 : IVec S16 32) : Prop :=
  (∀ a x, ((![v961] : Fin 1 → IVec S16 32) a x).toNat < S128.size a)
theorem k2_idx124_inb : ∀ (v961 : IVec S16 32) (k2_hw76 : k2_chk76 v961), ∀ a x, ((![v961] : Fin 1 → IVec S16 32) a x).toNat < S128.size a := fun v961 k2_hw76 => k2_hw76
@[reducible] def k2_t17_loop : Scf.Loop 32 :=
  let c0_i32_817 : BitVec 32 := 0#32
  let c49_i32_818 : BitVec 32 := 49#32
  let v987 : BitVec 32 := Scalar.addi c0_i32_817 c49_i32_818
  let c1_i32_819 : BitVec 32 := 1#32
  ⟨c0_i32_817, v987, c1_i32_819⟩
def k2_off60 (k2_t17 : Fin k2_t17_loop.trips) : Fin 2 → Nat :=
  let c6_i32_3218 : BitVec 32 := 6#32
  let v3611 : Index := Scalar.indexCast c6_i32_3218
  let c0_i32_817 : BitVec 32 := 0#32
  let c1_i32_819 : BitVec 32 := 1#32
  let arg21 : BitVec 32 := Scf.iv c0_i32_817 c1_i32_819 k2_t17
  let c16_i32_3217 : BitVec 32 := 16#32
  let v3610 : BitVec 32 := Scalar.muli arg21 c16_i32_3217
  let v3612 : Index := Scalar.indexCast v3610
  ![6, v3612.toNat]

def k2_chk77 (v3621 : IVec S16 32) : Prop :=
  (∀ a x, ((![v3621] : Fin 1 → IVec S16 32) a x).toNat < S128.size a)
theorem k2_idx125_inb : ∀ (v3621 : IVec S16 32) (k2_hw77 : k2_chk77 v3621), ∀ a x, ((![v3621] : Fin 1 → IVec S16 32) a x).toNat < S128.size a := fun v3621 k2_hw77 => k2_hw77

def k2_chk78 (v1058 : IVec S16 32) : Prop :=
  (∀ a x, ((![v1058] : Fin 1 → IVec S16 32) a x).toNat < S128.size a)
theorem k2_idx126_inb : ∀ (v1058 : IVec S16 32) (k2_hw78 : k2_chk78 v1058), ∀ a x, ((![v1058] : Fin 1 → IVec S16 32) a x).toNat < S128.size a := fun v1058 k2_hw78 => k2_hw78
@[reducible] def k2_t18_loop (v369 : BitVec 32) : Scf.Loop 32 :=
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_940 : BitVec 32 := 1#32
  ⟨c0_i32_938, v1130, c1_i32_940⟩

def k2_chk80 (v3610 : IVec S16 32) : Prop :=
  (∀ a x, ((![v3610] : Fin 1 → IVec S16 32) a x).toNat < S128.size a)
theorem k2_idx127_inb : ∀ (v3610 : IVec S16 32) (k2_hw80 : k2_chk80 v3610), ∀ a x, ((![v3610] : Fin 1 → IVec S16 32) a x).toNat < S128.size a := fun v3610 k2_hw80 => k2_hw80
def k2_off61 (v369 : BitVec 32) (k2_t18 : Fin (k2_t18_loop v369).trips) : Fin 3 → Nat :=
  let c3_i32_3220 : BitVec 32 := 3#32
  let v3617 : Index := Scalar.indexCast c3_i32_3220
  let c0_i32_938 : BitVec 32 := 0#32
  let c1_i32_940 : BitVec 32 := 1#32
  let arg21 : BitVec 32 := Scf.iv c0_i32_938 c1_i32_940 k2_t18
  let v3618 : Index := Scalar.indexCast arg21
  let c0_3221 : Index := 0#32
  ![3, v3618.toNat, 0]

def k2_chk81 (v3623 : IVec S16 32) : Prop :=
  (∀ a x, ((![v3623] : Fin 1 → IVec S16 32) a x).toNat < S512.size a) ∧
  (∀ a x, ((![v3623] : Fin 1 → IVec S16 32) a x).toNat < S512.size a)
theorem k2_idx128_inb : ∀ (v3623 : IVec S16 32) (k2_hw81 : k2_chk81 v3623), ∀ a x, ((![v3623] : Fin 1 → IVec S16 32) a x).toNat < S512.size a := fun v3623 k2_hw81 => k2_hw81.1
theorem k2_idx129_inb : ∀ (v3623 : IVec S16 32) (k2_hw81 : k2_chk81 v3623), ∀ a x, ((![v3623] : Fin 1 → IVec S16 32) a x).toNat < S512.size a := fun v3623 k2_hw81 => k2_hw81.2
def k2_off62 (v369 : BitVec 32) (k2_t18 : Fin (k2_t18_loop v369).trips) : Fin 3 → Nat :=
  let c3_i32_3223 : BitVec 32 := 3#32
  let v3628 : Index := Scalar.indexCast c3_i32_3223
  let c0_i32_938 : BitVec 32 := 0#32
  let c1_i32_940 : BitVec 32 := 1#32
  let arg21 : BitVec 32 := Scf.iv c0_i32_938 c1_i32_940 k2_t18
  let v3629 : Index := Scalar.indexCast arg21
  let c16_3224 : Index := 16#32
  ![3, v3629.toNat, 16]

def k2_chk82 (v3634 : IVec S16 32) : Prop :=
  (∀ a x, ((![v3634] : Fin 1 → IVec S16 32) a x).toNat < S512.size a) ∧
  (∀ a x, ((![v3634] : Fin 1 → IVec S16 32) a x).toNat < S512.size a)
theorem k2_idx130_inb : ∀ (v3634 : IVec S16 32) (k2_hw82 : k2_chk82 v3634), ∀ a x, ((![v3634] : Fin 1 → IVec S16 32) a x).toNat < S512.size a := fun v3634 k2_hw82 => k2_hw82.1
theorem k2_idx131_inb : ∀ (v3634 : IVec S16 32) (k2_hw82 : k2_chk82 v3634), ∀ a x, ((![v3634] : Fin 1 → IVec S16 32) a x).toNat < S512.size a := fun v3634 k2_hw82 => k2_hw82.2
def k2_off63 (v369 : BitVec 32) (k2_t18 : Fin (k2_t18_loop v369).trips) : Fin 3 → Nat :=
  let c3_i32_3227 : BitVec 32 := 3#32
  let v3639 : Index := Scalar.indexCast c3_i32_3227
  let c0_i32_938 : BitVec 32 := 0#32
  let c1_i32_940 : BitVec 32 := 1#32
  let arg21 : BitVec 32 := Scf.iv c0_i32_938 c1_i32_940 k2_t18
  let v3640 : Index := Scalar.indexCast arg21
  let c32_3228 : Index := 32#32
  ![3, v3640.toNat, 32]

def k2_chk83 (v3645 : IVec S16 32) : Prop :=
  (∀ a x, ((![v3645] : Fin 1 → IVec S16 32) a x).toNat < S512.size a) ∧
  (∀ a x, ((![v3645] : Fin 1 → IVec S16 32) a x).toNat < S512.size a)
theorem k2_idx132_inb : ∀ (v3645 : IVec S16 32) (k2_hw83 : k2_chk83 v3645), ∀ a x, ((![v3645] : Fin 1 → IVec S16 32) a x).toNat < S512.size a := fun v3645 k2_hw83 => k2_hw83.1
theorem k2_idx133_inb : ∀ (v3645 : IVec S16 32) (k2_hw83 : k2_chk83 v3645), ∀ a x, ((![v3645] : Fin 1 → IVec S16 32) a x).toNat < S512.size a := fun v3645 k2_hw83 => k2_hw83.2
def k2_off64 (v369 : BitVec 32) (k2_t18 : Fin (k2_t18_loop v369).trips) : Fin 3 → Nat :=
  let c3_i32_3231 : BitVec 32 := 3#32
  let v3650 : Index := Scalar.indexCast c3_i32_3231
  let c0_i32_938 : BitVec 32 := 0#32
  let c1_i32_940 : BitVec 32 := 1#32
  let arg21 : BitVec 32 := Scf.iv c0_i32_938 c1_i32_940 k2_t18
  let v3651 : Index := Scalar.indexCast arg21
  let c48_3232 : Index := 48#32
  ![3, v3651.toNat, 48]

def k2_chk84 (v3656 : IVec S16 32) : Prop :=
  (∀ a x, ((![v3656] : Fin 1 → IVec S16 32) a x).toNat < S512.size a) ∧
  (∀ a x, ((![v3656] : Fin 1 → IVec S16 32) a x).toNat < S512.size a)
theorem k2_idx134_inb : ∀ (v3656 : IVec S16 32) (k2_hw84 : k2_chk84 v3656), ∀ a x, ((![v3656] : Fin 1 → IVec S16 32) a x).toNat < S512.size a := fun v3656 k2_hw84 => k2_hw84.1
theorem k2_idx135_inb : ∀ (v3656 : IVec S16 32) (k2_hw84 : k2_chk84 v3656), ∀ a x, ((![v3656] : Fin 1 → IVec S16 32) a x).toNat < S512.size a := fun v3656 k2_hw84 => k2_hw84.2
def k2_off65 (v369 : BitVec 32) (k2_t18 : Fin (k2_t18_loop v369).trips) : Fin 3 → Nat :=
  let c3_i32_3234 : BitVec 32 := 3#32
  let v3661 : Index := Scalar.indexCast c3_i32_3234
  let c0_i32_938 : BitVec 32 := 0#32
  let c1_i32_940 : BitVec 32 := 1#32
  let arg21 : BitVec 32 := Scf.iv c0_i32_938 c1_i32_940 k2_t18
  let v3662 : Index := Scalar.indexCast arg21
  let c64_3235 : Index := 64#32
  ![3, v3662.toNat, 64]

def k2_chk85 (v3667 : IVec S16 32) : Prop :=
  (∀ a x, ((![v3667] : Fin 1 → IVec S16 32) a x).toNat < S512.size a) ∧
  (∀ a x, ((![v3667] : Fin 1 → IVec S16 32) a x).toNat < S512.size a)
theorem k2_idx136_inb : ∀ (v3667 : IVec S16 32) (k2_hw85 : k2_chk85 v3667), ∀ a x, ((![v3667] : Fin 1 → IVec S16 32) a x).toNat < S512.size a := fun v3667 k2_hw85 => k2_hw85.1
theorem k2_idx137_inb : ∀ (v3667 : IVec S16 32) (k2_hw85 : k2_chk85 v3667), ∀ a x, ((![v3667] : Fin 1 → IVec S16 32) a x).toNat < S512.size a := fun v3667 k2_hw85 => k2_hw85.2
def k2_off66 (v369 : BitVec 32) (k2_t18 : Fin (k2_t18_loop v369).trips) : Fin 3 → Nat :=
  let c3_i32_3237 : BitVec 32 := 3#32
  let v3672 : Index := Scalar.indexCast c3_i32_3237
  let c0_i32_938 : BitVec 32 := 0#32
  let c1_i32_940 : BitVec 32 := 1#32
  let arg21 : BitVec 32 := Scf.iv c0_i32_938 c1_i32_940 k2_t18
  let v3673 : Index := Scalar.indexCast arg21
  let c80_3238 : Index := 80#32
  ![3, v3673.toNat, 80]

def k2_chk86 (v3678 : IVec S16 32) : Prop :=
  (∀ a x, ((![v3678] : Fin 1 → IVec S16 32) a x).toNat < S512.size a) ∧
  (∀ a x, ((![v3678] : Fin 1 → IVec S16 32) a x).toNat < S512.size a)
theorem k2_idx138_inb : ∀ (v3678 : IVec S16 32) (k2_hw86 : k2_chk86 v3678), ∀ a x, ((![v3678] : Fin 1 → IVec S16 32) a x).toNat < S512.size a := fun v3678 k2_hw86 => k2_hw86.1
theorem k2_idx139_inb : ∀ (v3678 : IVec S16 32) (k2_hw86 : k2_chk86 v3678), ∀ a x, ((![v3678] : Fin 1 → IVec S16 32) a x).toNat < S512.size a := fun v3678 k2_hw86 => k2_hw86.2
def k2_off67 (v369 : BitVec 32) (k2_t18 : Fin (k2_t18_loop v369).trips) : Fin 3 → Nat :=
  let c3_i32_3240 : BitVec 32 := 3#32
  let v3683 : Index := Scalar.indexCast c3_i32_3240
  let c0_i32_938 : BitVec 32 := 0#32
  let c1_i32_940 : BitVec 32 := 1#32
  let arg21 : BitVec 32 := Scf.iv c0_i32_938 c1_i32_940 k2_t18
  let v3684 : Index := Scalar.indexCast arg21
  let c96_3241 : Index := 96#32
  ![3, v3684.toNat, 96]

def k2_chk87 (v3689 : IVec S16 32) : Prop :=
  (∀ a x, ((![v3689] : Fin 1 → IVec S16 32) a x).toNat < S512.size a) ∧
  (∀ a x, ((![v3689] : Fin 1 → IVec S16 32) a x).toNat < S512.size a)
theorem k2_idx140_inb : ∀ (v3689 : IVec S16 32) (k2_hw87 : k2_chk87 v3689), ∀ a x, ((![v3689] : Fin 1 → IVec S16 32) a x).toNat < S512.size a := fun v3689 k2_hw87 => k2_hw87.1
theorem k2_idx141_inb : ∀ (v3689 : IVec S16 32) (k2_hw87 : k2_chk87 v3689), ∀ a x, ((![v3689] : Fin 1 → IVec S16 32) a x).toNat < S512.size a := fun v3689 k2_hw87 => k2_hw87.2
def k2_off68 (v369 : BitVec 32) (k2_t18 : Fin (k2_t18_loop v369).trips) : Fin 3 → Nat :=
  let c3_i32_3243 : BitVec 32 := 3#32
  let v3694 : Index := Scalar.indexCast c3_i32_3243
  let c0_i32_938 : BitVec 32 := 0#32
  let c1_i32_940 : BitVec 32 := 1#32
  let arg21 : BitVec 32 := Scf.iv c0_i32_938 c1_i32_940 k2_t18
  let v3695 : Index := Scalar.indexCast arg21
  let c112_3244 : Index := 112#32
  ![3, v3695.toNat, 112]

def k2_chk88 (v3700 : IVec S16 32) : Prop :=
  (∀ a x, ((![v3700] : Fin 1 → IVec S16 32) a x).toNat < S512.size a) ∧
  (∀ a x, ((![v3700] : Fin 1 → IVec S16 32) a x).toNat < S512.size a)
theorem k2_idx142_inb : ∀ (v3700 : IVec S16 32) (k2_hw88 : k2_chk88 v3700), ∀ a x, ((![v3700] : Fin 1 → IVec S16 32) a x).toNat < S512.size a := fun v3700 k2_hw88 => k2_hw88.1
theorem k2_idx143_inb : ∀ (v3700 : IVec S16 32) (k2_hw88 : k2_chk88 v3700), ∀ a x, ((![v3700] : Fin 1 → IVec S16 32) a x).toNat < S512.size a := fun v3700 k2_hw88 => k2_hw88.2
@[reducible] def k2_t19_loop (v369 : BitVec 32) : Scf.Loop 32 :=
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let v1127 : BitVec 32 := Scalar.addi c0_i32_938 v1126
  let c1_i32_941 : BitVec 32 := 1#32
  ⟨v1130, v1127, c1_i32_941⟩

def k2_chk89 (v3610 : IVec S16 32) : Prop :=
  (∀ a x, ((![v3610] : Fin 1 → IVec S16 32) a x).toNat < S128.size a)
theorem k2_idx144_inb : ∀ (v3610 : IVec S16 32) (k2_hw89 : k2_chk89 v3610), ∀ a x, ((![v3610] : Fin 1 → IVec S16 32) a x).toNat < S128.size a := fun v3610 k2_hw89 => k2_hw89
def k2_off69 (v369 : BitVec 32) (k2_t19 : Fin (k2_t19_loop v369).trips) : Fin 3 → Nat :=
  let c3_i32_3220 : BitVec 32 := 3#32
  let v3617 : Index := Scalar.indexCast c3_i32_3220
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3618 : Index := Scalar.indexCast arg21
  let c0_3221 : Index := 0#32
  ![3, v3618.toNat, 0]

def k2_chk90 (v3623 : IVec S16 32) : Prop :=
  (∀ a x, ((![v3623] : Fin 1 → IVec S16 32) a x).toNat < S512.size a) ∧
  (∀ a x, ((![v3623] : Fin 1 → IVec S16 32) a x).toNat < S512.size a)
theorem k2_idx145_inb : ∀ (v3623 : IVec S16 32) (k2_hw90 : k2_chk90 v3623), ∀ a x, ((![v3623] : Fin 1 → IVec S16 32) a x).toNat < S512.size a := fun v3623 k2_hw90 => k2_hw90.1
theorem k2_idx146_inb : ∀ (v3623 : IVec S16 32) (k2_hw90 : k2_chk90 v3623), ∀ a x, ((![v3623] : Fin 1 → IVec S16 32) a x).toNat < S512.size a := fun v3623 k2_hw90 => k2_hw90.2
def k2_off70 (v369 : BitVec 32) (k2_t19 : Fin (k2_t19_loop v369).trips) : Fin 3 → Nat :=
  let c3_i32_3223 : BitVec 32 := 3#32
  let v3628 : Index := Scalar.indexCast c3_i32_3223
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3629 : Index := Scalar.indexCast arg21
  let c16_3224 : Index := 16#32
  ![3, v3629.toNat, 16]

def k2_chk91 (v3634 : IVec S16 32) : Prop :=
  (∀ a x, ((![v3634] : Fin 1 → IVec S16 32) a x).toNat < S512.size a) ∧
  (∀ a x, ((![v3634] : Fin 1 → IVec S16 32) a x).toNat < S512.size a)
theorem k2_idx147_inb : ∀ (v3634 : IVec S16 32) (k2_hw91 : k2_chk91 v3634), ∀ a x, ((![v3634] : Fin 1 → IVec S16 32) a x).toNat < S512.size a := fun v3634 k2_hw91 => k2_hw91.1
theorem k2_idx148_inb : ∀ (v3634 : IVec S16 32) (k2_hw91 : k2_chk91 v3634), ∀ a x, ((![v3634] : Fin 1 → IVec S16 32) a x).toNat < S512.size a := fun v3634 k2_hw91 => k2_hw91.2
def k2_off71 (v369 : BitVec 32) (k2_t19 : Fin (k2_t19_loop v369).trips) : Fin 3 → Nat :=
  let c3_i32_3227 : BitVec 32 := 3#32
  let v3639 : Index := Scalar.indexCast c3_i32_3227
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3640 : Index := Scalar.indexCast arg21
  let c32_3228 : Index := 32#32
  ![3, v3640.toNat, 32]

def k2_chk92 (v3645 : IVec S16 32) : Prop :=
  (∀ a x, ((![v3645] : Fin 1 → IVec S16 32) a x).toNat < S512.size a) ∧
  (∀ a x, ((![v3645] : Fin 1 → IVec S16 32) a x).toNat < S512.size a)
theorem k2_idx149_inb : ∀ (v3645 : IVec S16 32) (k2_hw92 : k2_chk92 v3645), ∀ a x, ((![v3645] : Fin 1 → IVec S16 32) a x).toNat < S512.size a := fun v3645 k2_hw92 => k2_hw92.1
theorem k2_idx150_inb : ∀ (v3645 : IVec S16 32) (k2_hw92 : k2_chk92 v3645), ∀ a x, ((![v3645] : Fin 1 → IVec S16 32) a x).toNat < S512.size a := fun v3645 k2_hw92 => k2_hw92.2
def k2_off72 (v369 : BitVec 32) (k2_t19 : Fin (k2_t19_loop v369).trips) : Fin 3 → Nat :=
  let c3_i32_3231 : BitVec 32 := 3#32
  let v3650 : Index := Scalar.indexCast c3_i32_3231
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3651 : Index := Scalar.indexCast arg21
  let c48_3232 : Index := 48#32
  ![3, v3651.toNat, 48]

def k2_chk93 (v3656 : IVec S16 32) : Prop :=
  (∀ a x, ((![v3656] : Fin 1 → IVec S16 32) a x).toNat < S512.size a) ∧
  (∀ a x, ((![v3656] : Fin 1 → IVec S16 32) a x).toNat < S512.size a)
theorem k2_idx151_inb : ∀ (v3656 : IVec S16 32) (k2_hw93 : k2_chk93 v3656), ∀ a x, ((![v3656] : Fin 1 → IVec S16 32) a x).toNat < S512.size a := fun v3656 k2_hw93 => k2_hw93.1
theorem k2_idx152_inb : ∀ (v3656 : IVec S16 32) (k2_hw93 : k2_chk93 v3656), ∀ a x, ((![v3656] : Fin 1 → IVec S16 32) a x).toNat < S512.size a := fun v3656 k2_hw93 => k2_hw93.2
def k2_off73 (v369 : BitVec 32) (k2_t19 : Fin (k2_t19_loop v369).trips) : Fin 3 → Nat :=
  let c3_i32_3234 : BitVec 32 := 3#32
  let v3661 : Index := Scalar.indexCast c3_i32_3234
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3662 : Index := Scalar.indexCast arg21
  let c64_3235 : Index := 64#32
  ![3, v3662.toNat, 64]

def k2_chk94 (v3667 : IVec S16 32) : Prop :=
  (∀ a x, ((![v3667] : Fin 1 → IVec S16 32) a x).toNat < S512.size a) ∧
  (∀ a x, ((![v3667] : Fin 1 → IVec S16 32) a x).toNat < S512.size a)
theorem k2_idx153_inb : ∀ (v3667 : IVec S16 32) (k2_hw94 : k2_chk94 v3667), ∀ a x, ((![v3667] : Fin 1 → IVec S16 32) a x).toNat < S512.size a := fun v3667 k2_hw94 => k2_hw94.1
theorem k2_idx154_inb : ∀ (v3667 : IVec S16 32) (k2_hw94 : k2_chk94 v3667), ∀ a x, ((![v3667] : Fin 1 → IVec S16 32) a x).toNat < S512.size a := fun v3667 k2_hw94 => k2_hw94.2
def k2_off74 (v369 : BitVec 32) (k2_t19 : Fin (k2_t19_loop v369).trips) : Fin 3 → Nat :=
  let c3_i32_3237 : BitVec 32 := 3#32
  let v3672 : Index := Scalar.indexCast c3_i32_3237
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3673 : Index := Scalar.indexCast arg21
  let c80_3238 : Index := 80#32
  ![3, v3673.toNat, 80]

def k2_chk95 (v3678 : IVec S16 32) : Prop :=
  (∀ a x, ((![v3678] : Fin 1 → IVec S16 32) a x).toNat < S512.size a) ∧
  (∀ a x, ((![v3678] : Fin 1 → IVec S16 32) a x).toNat < S512.size a)
theorem k2_idx155_inb : ∀ (v3678 : IVec S16 32) (k2_hw95 : k2_chk95 v3678), ∀ a x, ((![v3678] : Fin 1 → IVec S16 32) a x).toNat < S512.size a := fun v3678 k2_hw95 => k2_hw95.1
theorem k2_idx156_inb : ∀ (v3678 : IVec S16 32) (k2_hw95 : k2_chk95 v3678), ∀ a x, ((![v3678] : Fin 1 → IVec S16 32) a x).toNat < S512.size a := fun v3678 k2_hw95 => k2_hw95.2
def k2_off75 (v369 : BitVec 32) (k2_t19 : Fin (k2_t19_loop v369).trips) : Fin 3 → Nat :=
  let c3_i32_3240 : BitVec 32 := 3#32
  let v3683 : Index := Scalar.indexCast c3_i32_3240
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3684 : Index := Scalar.indexCast arg21
  let c96_3241 : Index := 96#32
  ![3, v3684.toNat, 96]

def k2_chk96 (v3689 : IVec S16 32) : Prop :=
  (∀ a x, ((![v3689] : Fin 1 → IVec S16 32) a x).toNat < S512.size a) ∧
  (∀ a x, ((![v3689] : Fin 1 → IVec S16 32) a x).toNat < S512.size a)
theorem k2_idx157_inb : ∀ (v3689 : IVec S16 32) (k2_hw96 : k2_chk96 v3689), ∀ a x, ((![v3689] : Fin 1 → IVec S16 32) a x).toNat < S512.size a := fun v3689 k2_hw96 => k2_hw96.1
theorem k2_idx158_inb : ∀ (v3689 : IVec S16 32) (k2_hw96 : k2_chk96 v3689), ∀ a x, ((![v3689] : Fin 1 → IVec S16 32) a x).toNat < S512.size a := fun v3689 k2_hw96 => k2_hw96.2
def k2_off76 (v369 : BitVec 32) (k2_t19 : Fin (k2_t19_loop v369).trips) : Fin 3 → Nat :=
  let c3_i32_3243 : BitVec 32 := 3#32
  let v3694 : Index := Scalar.indexCast c3_i32_3243
  let c0_i32_938 : BitVec 32 := 0#32
  let c128_i32_273 : BitVec 32 := 128#32
  let v370 : BitVec 32 := Scalar.minsi v369 c128_i32_273
  let v1126 : BitVec 32 := Scalar.subi v370 c0_i32_938
  let c1_i32_939 : BitVec 32 := 1#32
  let v1128 : BitVec 32 := Scalar.divsi v1126 c1_i32_939
  let v1129 : BitVec 32 := Scalar.muli v1128 c1_i32_939
  let v1130 : BitVec 32 := Scalar.addi c0_i32_938 v1129
  let c1_i32_941 : BitVec 32 := 1#32
  let arg21 : BitVec 32 := Scf.iv v1130 c1_i32_941 k2_t19
  let v3695 : Index := Scalar.indexCast arg21
  let c112_3244 : Index := 112#32
  ![3, v3695.toNat, 112]

def k2_chk79 (v369 : BitVec 32) : Prop :=
  ((k2_t18_loop v369).OK) ∧
  (∀ k2_t18 : Fin (k2_t18_loop v369).trips, ∀ a, (k2_off61 v369 k2_t18) a + S1x1x16.size a ≤ S4x128x128.size a) ∧
  (∀ k2_t18 : Fin (k2_t18_loop v369).trips, ∀ a, (k2_off62 v369 k2_t18) a + S1x1x16.size a ≤ S4x128x128.size a) ∧
  (∀ k2_t18 : Fin (k2_t18_loop v369).trips, ∀ a, (k2_off63 v369 k2_t18) a + S1x1x16.size a ≤ S4x128x128.size a) ∧
  (∀ k2_t18 : Fin (k2_t18_loop v369).trips, ∀ a, (k2_off64 v369 k2_t18) a + S1x1x16.size a ≤ S4x128x128.size a) ∧
  (∀ k2_t18 : Fin (k2_t18_loop v369).trips, ∀ a, (k2_off65 v369 k2_t18) a + S1x1x16.size a ≤ S4x128x128.size a) ∧
  (∀ k2_t18 : Fin (k2_t18_loop v369).trips, ∀ a, (k2_off66 v369 k2_t18) a + S1x1x16.size a ≤ S4x128x128.size a) ∧
  (∀ k2_t18 : Fin (k2_t18_loop v369).trips, ∀ a, (k2_off67 v369 k2_t18) a + S1x1x16.size a ≤ S4x128x128.size a) ∧
  (∀ k2_t18 : Fin (k2_t18_loop v369).trips, ∀ a, (k2_off68 v369 k2_t18) a + S1x1x16.size a ≤ S4x128x128.size a) ∧
  ((k2_t19_loop v369).OK) ∧
  (∀ k2_t19 : Fin (k2_t19_loop v369).trips, ∀ a, (k2_off69 v369 k2_t19) a + S1x1x16.size a ≤ S4x128x128.size a) ∧
  (∀ k2_t19 : Fin (k2_t19_loop v369).trips, ∀ a, (k2_off70 v369 k2_t19) a + S1x1x16.size a ≤ S4x128x128.size a) ∧
  (∀ k2_t19 : Fin (k2_t19_loop v369).trips, ∀ a, (k2_off71 v369 k2_t19) a + S1x1x16.size a ≤ S4x128x128.size a) ∧
  (∀ k2_t19 : Fin (k2_t19_loop v369).trips, ∀ a, (k2_off72 v369 k2_t19) a + S1x1x16.size a ≤ S4x128x128.size a) ∧
  (∀ k2_t19 : Fin (k2_t19_loop v369).trips, ∀ a, (k2_off73 v369 k2_t19) a + S1x1x16.size a ≤ S4x128x128.size a) ∧
  (∀ k2_t19 : Fin (k2_t19_loop v369).trips, ∀ a, (k2_off74 v369 k2_t19) a + S1x1x16.size a ≤ S4x128x128.size a) ∧
  (∀ k2_t19 : Fin (k2_t19_loop v369).trips, ∀ a, (k2_off75 v369 k2_t19) a + S1x1x16.size a ≤ S4x128x128.size a) ∧
  (∀ k2_t19 : Fin (k2_t19_loop v369).trips, ∀ a, (k2_off76 v369 k2_t19) a + S1x1x16.size a ≤ S4x128x128.size a)
theorem k2_t18_ok : ∀ (v369 : BitVec 32) (k2_hw79 : k2_chk79 v369), (k2_t18_loop v369).OK := fun v369 k2_hw79 => k2_hw79.1
theorem k2_off61_inb : ∀ (v369 : BitVec 32) (k2_hw79 : k2_chk79 v369) (k2_t18 : Fin (k2_t18_loop v369).trips), ∀ a, (k2_off61 v369 k2_t18) a + S1x1x16.size a ≤ S4x128x128.size a := fun v369 k2_hw79 k2_t18 => k2_hw79.2.1 k2_t18
theorem k2_off62_inb : ∀ (v369 : BitVec 32) (k2_hw79 : k2_chk79 v369) (k2_t18 : Fin (k2_t18_loop v369).trips), ∀ a, (k2_off62 v369 k2_t18) a + S1x1x16.size a ≤ S4x128x128.size a := fun v369 k2_hw79 k2_t18 => k2_hw79.2.2.1 k2_t18
theorem k2_off63_inb : ∀ (v369 : BitVec 32) (k2_hw79 : k2_chk79 v369) (k2_t18 : Fin (k2_t18_loop v369).trips), ∀ a, (k2_off63 v369 k2_t18) a + S1x1x16.size a ≤ S4x128x128.size a := fun v369 k2_hw79 k2_t18 => k2_hw79.2.2.2.1 k2_t18
theorem k2_off64_inb : ∀ (v369 : BitVec 32) (k2_hw79 : k2_chk79 v369) (k2_t18 : Fin (k2_t18_loop v369).trips), ∀ a, (k2_off64 v369 k2_t18) a + S1x1x16.size a ≤ S4x128x128.size a := fun v369 k2_hw79 k2_t18 => k2_hw79.2.2.2.2.1 k2_t18
theorem k2_off65_inb : ∀ (v369 : BitVec 32) (k2_hw79 : k2_chk79 v369) (k2_t18 : Fin (k2_t18_loop v369).trips), ∀ a, (k2_off65 v369 k2_t18) a + S1x1x16.size a ≤ S4x128x128.size a := fun v369 k2_hw79 k2_t18 => k2_hw79.2.2.2.2.2.1 k2_t18
theorem k2_off66_inb : ∀ (v369 : BitVec 32) (k2_hw79 : k2_chk79 v369) (k2_t18 : Fin (k2_t18_loop v369).trips), ∀ a, (k2_off66 v369 k2_t18) a + S1x1x16.size a ≤ S4x128x128.size a := fun v369 k2_hw79 k2_t18 => k2_hw79.2.2.2.2.2.2.1 k2_t18
theorem k2_off67_inb : ∀ (v369 : BitVec 32) (k2_hw79 : k2_chk79 v369) (k2_t18 : Fin (k2_t18_loop v369).trips), ∀ a, (k2_off67 v369 k2_t18) a + S1x1x16.size a ≤ S4x128x128.size a := fun v369 k2_hw79 k2_t18 => k2_hw79.2.2.2.2.2.2.2.1 k2_t18
theorem k2_off68_inb : ∀ (v369 : BitVec 32) (k2_hw79 : k2_chk79 v369) (k2_t18 : Fin (k2_t18_loop v369).trips), ∀ a, (k2_off68 v369 k2_t18) a + S1x1x16.size a ≤ S4x128x128.size a := fun v369 k2_hw79 k2_t18 => k2_hw79.2.2.2.2.2.2.2.2.1 k2_t18
theorem k2_t19_ok : ∀ (v369 : BitVec 32) (k2_hw79 : k2_chk79 v369), (k2_t19_loop v369).OK := fun v369 k2_hw79 => k2_hw79.2.2.2.2.2.2.2.2.2.1
theorem k2_off69_inb : ∀ (v369 : BitVec 32) (k2_hw79 : k2_chk79 v369) (k2_t19 : Fin (k2_t19_loop v369).trips), ∀ a, (k2_off69 v369 k2_t19) a + S1x1x16.size a ≤ S4x128x128.size a := fun v369 k2_hw79 k2_t19 => k2_hw79.2.2.2.2.2.2.2.2.2.2.1 k2_t19
theorem k2_off70_inb : ∀ (v369 : BitVec 32) (k2_hw79 : k2_chk79 v369) (k2_t19 : Fin (k2_t19_loop v369).trips), ∀ a, (k2_off70 v369 k2_t19) a + S1x1x16.size a ≤ S4x128x128.size a := fun v369 k2_hw79 k2_t19 => k2_hw79.2.2.2.2.2.2.2.2.2.2.2.1 k2_t19
theorem k2_off71_inb : ∀ (v369 : BitVec 32) (k2_hw79 : k2_chk79 v369) (k2_t19 : Fin (k2_t19_loop v369).trips), ∀ a, (k2_off71 v369 k2_t19) a + S1x1x16.size a ≤ S4x128x128.size a := fun v369 k2_hw79 k2_t19 => k2_hw79.2.2.2.2.2.2.2.2.2.2.2.2.1 k2_t19
theorem k2_off72_inb : ∀ (v369 : BitVec 32) (k2_hw79 : k2_chk79 v369) (k2_t19 : Fin (k2_t19_loop v369).trips), ∀ a, (k2_off72 v369 k2_t19) a + S1x1x16.size a ≤ S4x128x128.size a := fun v369 k2_hw79 k2_t19 => k2_hw79.2.2.2.2.2.2.2.2.2.2.2.2.2.1 k2_t19
theorem k2_off73_inb : ∀ (v369 : BitVec 32) (k2_hw79 : k2_chk79 v369) (k2_t19 : Fin (k2_t19_loop v369).trips), ∀ a, (k2_off73 v369 k2_t19) a + S1x1x16.size a ≤ S4x128x128.size a := fun v369 k2_hw79 k2_t19 => k2_hw79.2.2.2.2.2.2.2.2.2.2.2.2.2.2.1 k2_t19
theorem k2_off74_inb : ∀ (v369 : BitVec 32) (k2_hw79 : k2_chk79 v369) (k2_t19 : Fin (k2_t19_loop v369).trips), ∀ a, (k2_off74 v369 k2_t19) a + S1x1x16.size a ≤ S4x128x128.size a := fun v369 k2_hw79 k2_t19 => k2_hw79.2.2.2.2.2.2.2.2.2.2.2.2.2.2.2.1 k2_t19
theorem k2_off75_inb : ∀ (v369 : BitVec 32) (k2_hw79 : k2_chk79 v369) (k2_t19 : Fin (k2_t19_loop v369).trips), ∀ a, (k2_off75 v369 k2_t19) a + S1x1x16.size a ≤ S4x128x128.size a := fun v369 k2_hw79 k2_t19 => k2_hw79.2.2.2.2.2.2.2.2.2.2.2.2.2.2.2.2.1 k2_t19
theorem k2_off76_inb : ∀ (v369 : BitVec 32) (k2_hw79 : k2_chk79 v369) (k2_t19 : Fin (k2_t19_loop v369).trips), ∀ a, (k2_off76 v369 k2_t19) a + S1x1x16.size a ≤ S4x128x128.size a := fun v369 k2_hw79 k2_t19 => k2_hw79.2.2.2.2.2.2.2.2.2.2.2.2.2.2.2.2.2 k2_t19

def k2_chk97 (v3700 : IVec S16 32) : Prop :=
  (∀ a x, ((![v3700] : Fin 1 → IVec S16 32) a x).toNat < S512.size a) ∧
  (∀ a x, ((![v3700] : Fin 1 → IVec S16 32) a x).toNat < S512.size a)
theorem k2_idx159_inb : ∀ (v3700 : IVec S16 32) (k2_hw97 : k2_chk97 v3700), ∀ a x, ((![v3700] : Fin 1 → IVec S16 32) a x).toNat < S512.size a := fun v3700 k2_hw97 => k2_hw97.1
theorem k2_idx160_inb : ∀ (v3700 : IVec S16 32) (k2_hw97 : k2_chk97 v3700), ∀ a x, ((![v3700] : Fin 1 → IVec S16 32) a x).toNat < S512.size a := fun v3700 k2_hw97 => k2_hw97.2
@[reducible] def k2_t20_loop : Scf.Loop 32 :=
  let c0_i32_991 : BitVec 32 := 0#32
  let c32_i32_992 : BitVec 32 := 32#32
  let v1182 : BitVec 32 := Scalar.addi c0_i32_991 c32_i32_992
  let c1_i32_993 : BitVec 32 := 1#32
  ⟨c0_i32_991, v1182, c1_i32_993⟩
def k2_off77 (k2_t20 : Fin k2_t20_loop.trips) : Fin 1 → Nat :=
  let c0_i32_991 : BitVec 32 := 0#32
  let c1_i32_993 : BitVec 32 := 1#32
  let arg21 : BitVec 32 := Scf.iv c0_i32_991 c1_i32_993 k2_t20
  let c16_i32_3217 : BitVec 32 := 16#32
  let v3610 : BitVec 32 := Scalar.muli arg21 c16_i32_3217
  let v3611 : Index := Scalar.indexCast v3610
  ![v3611.toNat]

def k2_chk98 (v1181 : IVec S16 32) (v3625 : IVec S16 32) : Prop :=
  (∀ a x, ((![v1181, v3625] : Fin 2 → IVec S16 32) a x).toNat < S16x256.size a) ∧
  (∀ a x, ((![v1181, v3625] : Fin 2 → IVec S16 32) a x).toNat < S16x256.size a)
theorem k2_idx161_inb : ∀ (v1181 : IVec S16 32) (v3625 : IVec S16 32) (k2_hw98 : k2_chk98 v1181 v3625), ∀ a x, ((![v1181, v3625] : Fin 2 → IVec S16 32) a x).toNat < S16x256.size a := fun v1181 v3625 k2_hw98 => k2_hw98.1
theorem k2_idx162_inb : ∀ (v1181 : IVec S16 32) (v3625 : IVec S16 32) (k2_hw98 : k2_chk98 v1181 v3625), ∀ a x, ((![v1181, v3625] : Fin 2 → IVec S16 32) a x).toNat < S16x256.size a := fun v1181 v3625 k2_hw98 => k2_hw98.2

def k2_chk99 (v1186 : IVec S16 32) : Prop :=
  (∀ a x, ((![v1186] : Fin 1 → IVec S16 32) a x).toNat < S128.size a)
theorem k2_idx163_inb : ∀ (v1186 : IVec S16 32) (k2_hw99 : k2_chk99 v1186), ∀ a x, ((![v1186] : Fin 1 → IVec S16 32) a x).toNat < S128.size a := fun v1186 k2_hw99 => k2_hw99
@[reducible] def k2_t21_loop : Scf.Loop 32 :=
  let c0_i32_1020 : BitVec 32 := 0#32
  let c49_i32_1021 : BitVec 32 := 49#32
  let v1212 : BitVec 32 := Scalar.addi c0_i32_1020 c49_i32_1021
  let c1_i32_1022 : BitVec 32 := 1#32
  ⟨c0_i32_1020, v1212, c1_i32_1022⟩
def k2_off78 (k2_t21 : Fin k2_t21_loop.trips) : Fin 2 → Nat :=
  let c7_i32_3218 : BitVec 32 := 7#32
  let v3611 : Index := Scalar.indexCast c7_i32_3218
  let c0_i32_1020 : BitVec 32 := 0#32
  let c1_i32_1022 : BitVec 32 := 1#32
  let arg21 : BitVec 32 := Scf.iv c0_i32_1020 c1_i32_1022 k2_t21
  let c16_i32_3217 : BitVec 32 := 16#32
  let v3610 : BitVec 32 := Scalar.muli arg21 c16_i32_3217
  let v3612 : Index := Scalar.indexCast v3610
  ![7, v3612.toNat]

def k2_chk100 (v3621 : IVec S16 32) : Prop :=
  (∀ a x, ((![v3621] : Fin 1 → IVec S16 32) a x).toNat < S128.size a)
theorem k2_idx164_inb : ∀ (v3621 : IVec S16 32) (k2_hw100 : k2_chk100 v3621), ∀ a x, ((![v3621] : Fin 1 → IVec S16 32) a x).toNat < S128.size a := fun v3621 k2_hw100 => k2_hw100

def k2_chk101 (v1283 : IVec S16 32) : Prop :=
  (∀ a x, ((![v1283] : Fin 1 → IVec S16 32) a x).toNat < S128.size a)
theorem k2_idx165_inb : ∀ (v1283 : IVec S16 32) (k2_hw101 : k2_chk101 v1283), ∀ a x, ((![v1283] : Fin 1 → IVec S16 32) a x).toNat < S128.size a := fun v1283 k2_hw101 => k2_hw101
@[reducible] def k2_t22_loop (v594 : BitVec 32) : Scf.Loop 32 :=
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1143 : BitVec 32 := 1#32
  ⟨c0_i32_1141, v1355, c1_i32_1143⟩

def k2_chk103 (v3610 : IVec S16 32) : Prop :=
  (∀ a x, ((![v3610] : Fin 1 → IVec S16 32) a x).toNat < S128.size a)
theorem k2_idx166_inb : ∀ (v3610 : IVec S16 32) (k2_hw103 : k2_chk103 v3610), ∀ a x, ((![v3610] : Fin 1 → IVec S16 32) a x).toNat < S128.size a := fun v3610 k2_hw103 => k2_hw103
def k2_off79 (v594 : BitVec 32) (k2_t22 : Fin (k2_t22_loop v594).trips) : Fin 3 → Nat :=
  let c0_i32_3220 : BitVec 32 := 0#32
  let v3617 : Index := Scalar.indexCast c0_i32_3220
  let c0_i32_1141 : BitVec 32 := 0#32
  let c1_i32_1143 : BitVec 32 := 1#32
  let arg21 : BitVec 32 := Scf.iv c0_i32_1141 c1_i32_1143 k2_t22
  let v3618 : Index := Scalar.indexCast arg21
  let c0_3221 : Index := 0#32
  ![0, v3618.toNat, 0]

def k2_chk104 (v3623 : IVec S16 32) : Prop :=
  (∀ a x, ((![v3623] : Fin 1 → IVec S16 32) a x).toNat < S512.size a) ∧
  (∀ a x, ((![v3623] : Fin 1 → IVec S16 32) a x).toNat < S512.size a)
theorem k2_idx167_inb : ∀ (v3623 : IVec S16 32) (k2_hw104 : k2_chk104 v3623), ∀ a x, ((![v3623] : Fin 1 → IVec S16 32) a x).toNat < S512.size a := fun v3623 k2_hw104 => k2_hw104.1
theorem k2_idx168_inb : ∀ (v3623 : IVec S16 32) (k2_hw104 : k2_chk104 v3623), ∀ a x, ((![v3623] : Fin 1 → IVec S16 32) a x).toNat < S512.size a := fun v3623 k2_hw104 => k2_hw104.2
def k2_off80 (v594 : BitVec 32) (k2_t22 : Fin (k2_t22_loop v594).trips) : Fin 3 → Nat :=
  let c0_i32_3223 : BitVec 32 := 0#32
  let v3628 : Index := Scalar.indexCast c0_i32_3223
  let c0_i32_1141 : BitVec 32 := 0#32
  let c1_i32_1143 : BitVec 32 := 1#32
  let arg21 : BitVec 32 := Scf.iv c0_i32_1141 c1_i32_1143 k2_t22
  let v3629 : Index := Scalar.indexCast arg21
  let c16_3224 : Index := 16#32
  ![0, v3629.toNat, 16]

def k2_chk105 (v3634 : IVec S16 32) : Prop :=
  (∀ a x, ((![v3634] : Fin 1 → IVec S16 32) a x).toNat < S512.size a) ∧
  (∀ a x, ((![v3634] : Fin 1 → IVec S16 32) a x).toNat < S512.size a)
theorem k2_idx169_inb : ∀ (v3634 : IVec S16 32) (k2_hw105 : k2_chk105 v3634), ∀ a x, ((![v3634] : Fin 1 → IVec S16 32) a x).toNat < S512.size a := fun v3634 k2_hw105 => k2_hw105.1
theorem k2_idx170_inb : ∀ (v3634 : IVec S16 32) (k2_hw105 : k2_chk105 v3634), ∀ a x, ((![v3634] : Fin 1 → IVec S16 32) a x).toNat < S512.size a := fun v3634 k2_hw105 => k2_hw105.2
def k2_off81 (v594 : BitVec 32) (k2_t22 : Fin (k2_t22_loop v594).trips) : Fin 3 → Nat :=
  let c0_i32_3227 : BitVec 32 := 0#32
  let v3639 : Index := Scalar.indexCast c0_i32_3227
  let c0_i32_1141 : BitVec 32 := 0#32
  let c1_i32_1143 : BitVec 32 := 1#32
  let arg21 : BitVec 32 := Scf.iv c0_i32_1141 c1_i32_1143 k2_t22
  let v3640 : Index := Scalar.indexCast arg21
  let c32_3228 : Index := 32#32
  ![0, v3640.toNat, 32]

def k2_chk106 (v3645 : IVec S16 32) : Prop :=
  (∀ a x, ((![v3645] : Fin 1 → IVec S16 32) a x).toNat < S512.size a) ∧
  (∀ a x, ((![v3645] : Fin 1 → IVec S16 32) a x).toNat < S512.size a)
theorem k2_idx171_inb : ∀ (v3645 : IVec S16 32) (k2_hw106 : k2_chk106 v3645), ∀ a x, ((![v3645] : Fin 1 → IVec S16 32) a x).toNat < S512.size a := fun v3645 k2_hw106 => k2_hw106.1
theorem k2_idx172_inb : ∀ (v3645 : IVec S16 32) (k2_hw106 : k2_chk106 v3645), ∀ a x, ((![v3645] : Fin 1 → IVec S16 32) a x).toNat < S512.size a := fun v3645 k2_hw106 => k2_hw106.2
def k2_off82 (v594 : BitVec 32) (k2_t22 : Fin (k2_t22_loop v594).trips) : Fin 3 → Nat :=
  let c0_i32_3231 : BitVec 32 := 0#32
  let v3650 : Index := Scalar.indexCast c0_i32_3231
  let c0_i32_1141 : BitVec 32 := 0#32
  let c1_i32_1143 : BitVec 32 := 1#32
  let arg21 : BitVec 32 := Scf.iv c0_i32_1141 c1_i32_1143 k2_t22
  let v3651 : Index := Scalar.indexCast arg21
  let c48_3232 : Index := 48#32
  ![0, v3651.toNat, 48]

def k2_chk107 (v3656 : IVec S16 32) : Prop :=
  (∀ a x, ((![v3656] : Fin 1 → IVec S16 32) a x).toNat < S512.size a) ∧
  (∀ a x, ((![v3656] : Fin 1 → IVec S16 32) a x).toNat < S512.size a)
theorem k2_idx173_inb : ∀ (v3656 : IVec S16 32) (k2_hw107 : k2_chk107 v3656), ∀ a x, ((![v3656] : Fin 1 → IVec S16 32) a x).toNat < S512.size a := fun v3656 k2_hw107 => k2_hw107.1
theorem k2_idx174_inb : ∀ (v3656 : IVec S16 32) (k2_hw107 : k2_chk107 v3656), ∀ a x, ((![v3656] : Fin 1 → IVec S16 32) a x).toNat < S512.size a := fun v3656 k2_hw107 => k2_hw107.2
def k2_off83 (v594 : BitVec 32) (k2_t22 : Fin (k2_t22_loop v594).trips) : Fin 3 → Nat :=
  let c0_i32_3234 : BitVec 32 := 0#32
  let v3661 : Index := Scalar.indexCast c0_i32_3234
  let c0_i32_1141 : BitVec 32 := 0#32
  let c1_i32_1143 : BitVec 32 := 1#32
  let arg21 : BitVec 32 := Scf.iv c0_i32_1141 c1_i32_1143 k2_t22
  let v3662 : Index := Scalar.indexCast arg21
  let c64_3235 : Index := 64#32
  ![0, v3662.toNat, 64]

def k2_chk108 (v3667 : IVec S16 32) : Prop :=
  (∀ a x, ((![v3667] : Fin 1 → IVec S16 32) a x).toNat < S512.size a) ∧
  (∀ a x, ((![v3667] : Fin 1 → IVec S16 32) a x).toNat < S512.size a)
theorem k2_idx175_inb : ∀ (v3667 : IVec S16 32) (k2_hw108 : k2_chk108 v3667), ∀ a x, ((![v3667] : Fin 1 → IVec S16 32) a x).toNat < S512.size a := fun v3667 k2_hw108 => k2_hw108.1
theorem k2_idx176_inb : ∀ (v3667 : IVec S16 32) (k2_hw108 : k2_chk108 v3667), ∀ a x, ((![v3667] : Fin 1 → IVec S16 32) a x).toNat < S512.size a := fun v3667 k2_hw108 => k2_hw108.2
def k2_off84 (v594 : BitVec 32) (k2_t22 : Fin (k2_t22_loop v594).trips) : Fin 3 → Nat :=
  let c0_i32_3237 : BitVec 32 := 0#32
  let v3672 : Index := Scalar.indexCast c0_i32_3237
  let c0_i32_1141 : BitVec 32 := 0#32
  let c1_i32_1143 : BitVec 32 := 1#32
  let arg21 : BitVec 32 := Scf.iv c0_i32_1141 c1_i32_1143 k2_t22
  let v3673 : Index := Scalar.indexCast arg21
  let c80_3238 : Index := 80#32
  ![0, v3673.toNat, 80]

def k2_chk109 (v3678 : IVec S16 32) : Prop :=
  (∀ a x, ((![v3678] : Fin 1 → IVec S16 32) a x).toNat < S512.size a) ∧
  (∀ a x, ((![v3678] : Fin 1 → IVec S16 32) a x).toNat < S512.size a)
theorem k2_idx177_inb : ∀ (v3678 : IVec S16 32) (k2_hw109 : k2_chk109 v3678), ∀ a x, ((![v3678] : Fin 1 → IVec S16 32) a x).toNat < S512.size a := fun v3678 k2_hw109 => k2_hw109.1
theorem k2_idx178_inb : ∀ (v3678 : IVec S16 32) (k2_hw109 : k2_chk109 v3678), ∀ a x, ((![v3678] : Fin 1 → IVec S16 32) a x).toNat < S512.size a := fun v3678 k2_hw109 => k2_hw109.2
def k2_off85 (v594 : BitVec 32) (k2_t22 : Fin (k2_t22_loop v594).trips) : Fin 3 → Nat :=
  let c0_i32_3240 : BitVec 32 := 0#32
  let v3683 : Index := Scalar.indexCast c0_i32_3240
  let c0_i32_1141 : BitVec 32 := 0#32
  let c1_i32_1143 : BitVec 32 := 1#32
  let arg21 : BitVec 32 := Scf.iv c0_i32_1141 c1_i32_1143 k2_t22
  let v3684 : Index := Scalar.indexCast arg21
  let c96_3241 : Index := 96#32
  ![0, v3684.toNat, 96]

def k2_chk110 (v3689 : IVec S16 32) : Prop :=
  (∀ a x, ((![v3689] : Fin 1 → IVec S16 32) a x).toNat < S512.size a) ∧
  (∀ a x, ((![v3689] : Fin 1 → IVec S16 32) a x).toNat < S512.size a)
theorem k2_idx179_inb : ∀ (v3689 : IVec S16 32) (k2_hw110 : k2_chk110 v3689), ∀ a x, ((![v3689] : Fin 1 → IVec S16 32) a x).toNat < S512.size a := fun v3689 k2_hw110 => k2_hw110.1
theorem k2_idx180_inb : ∀ (v3689 : IVec S16 32) (k2_hw110 : k2_chk110 v3689), ∀ a x, ((![v3689] : Fin 1 → IVec S16 32) a x).toNat < S512.size a := fun v3689 k2_hw110 => k2_hw110.2
def k2_off86 (v594 : BitVec 32) (k2_t22 : Fin (k2_t22_loop v594).trips) : Fin 3 → Nat :=
  let c0_i32_3243 : BitVec 32 := 0#32
  let v3694 : Index := Scalar.indexCast c0_i32_3243
  let c0_i32_1141 : BitVec 32 := 0#32
  let c1_i32_1143 : BitVec 32 := 1#32
  let arg21 : BitVec 32 := Scf.iv c0_i32_1141 c1_i32_1143 k2_t22
  let v3695 : Index := Scalar.indexCast arg21
  let c112_3244 : Index := 112#32
  ![0, v3695.toNat, 112]

def k2_chk111 (v3700 : IVec S16 32) : Prop :=
  (∀ a x, ((![v3700] : Fin 1 → IVec S16 32) a x).toNat < S512.size a) ∧
  (∀ a x, ((![v3700] : Fin 1 → IVec S16 32) a x).toNat < S512.size a)
theorem k2_idx181_inb : ∀ (v3700 : IVec S16 32) (k2_hw111 : k2_chk111 v3700), ∀ a x, ((![v3700] : Fin 1 → IVec S16 32) a x).toNat < S512.size a := fun v3700 k2_hw111 => k2_hw111.1
theorem k2_idx182_inb : ∀ (v3700 : IVec S16 32) (k2_hw111 : k2_chk111 v3700), ∀ a x, ((![v3700] : Fin 1 → IVec S16 32) a x).toNat < S512.size a := fun v3700 k2_hw111 => k2_hw111.2
@[reducible] def k2_t23_loop (v594 : BitVec 32) : Scf.Loop 32 :=
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let v1352 : BitVec 32 := Scalar.addi c0_i32_1141 v1351
  let c1_i32_1144 : BitVec 32 := 1#32
  ⟨v1355, v1352, c1_i32_1144⟩

def k2_chk112 (v3610 : IVec S16 32) : Prop :=
  (∀ a x, ((![v3610] : Fin 1 → IVec S16 32) a x).toNat < S128.size a)
theorem k2_idx183_inb : ∀ (v3610 : IVec S16 32) (k2_hw112 : k2_chk112 v3610), ∀ a x, ((![v3610] : Fin 1 → IVec S16 32) a x).toNat < S128.size a := fun v3610 k2_hw112 => k2_hw112
def k2_off87 (v594 : BitVec 32) (k2_t23 : Fin (k2_t23_loop v594).trips) : Fin 3 → Nat :=
  let c0_i32_3220 : BitVec 32 := 0#32
  let v3617 : Index := Scalar.indexCast c0_i32_3220
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3618 : Index := Scalar.indexCast arg21
  let c0_3221 : Index := 0#32
  ![0, v3618.toNat, 0]

def k2_chk113 (v3623 : IVec S16 32) : Prop :=
  (∀ a x, ((![v3623] : Fin 1 → IVec S16 32) a x).toNat < S512.size a) ∧
  (∀ a x, ((![v3623] : Fin 1 → IVec S16 32) a x).toNat < S512.size a)
theorem k2_idx184_inb : ∀ (v3623 : IVec S16 32) (k2_hw113 : k2_chk113 v3623), ∀ a x, ((![v3623] : Fin 1 → IVec S16 32) a x).toNat < S512.size a := fun v3623 k2_hw113 => k2_hw113.1
theorem k2_idx185_inb : ∀ (v3623 : IVec S16 32) (k2_hw113 : k2_chk113 v3623), ∀ a x, ((![v3623] : Fin 1 → IVec S16 32) a x).toNat < S512.size a := fun v3623 k2_hw113 => k2_hw113.2
def k2_off88 (v594 : BitVec 32) (k2_t23 : Fin (k2_t23_loop v594).trips) : Fin 3 → Nat :=
  let c0_i32_3223 : BitVec 32 := 0#32
  let v3628 : Index := Scalar.indexCast c0_i32_3223
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3629 : Index := Scalar.indexCast arg21
  let c16_3224 : Index := 16#32
  ![0, v3629.toNat, 16]

def k2_chk114 (v3634 : IVec S16 32) : Prop :=
  (∀ a x, ((![v3634] : Fin 1 → IVec S16 32) a x).toNat < S512.size a) ∧
  (∀ a x, ((![v3634] : Fin 1 → IVec S16 32) a x).toNat < S512.size a)
theorem k2_idx186_inb : ∀ (v3634 : IVec S16 32) (k2_hw114 : k2_chk114 v3634), ∀ a x, ((![v3634] : Fin 1 → IVec S16 32) a x).toNat < S512.size a := fun v3634 k2_hw114 => k2_hw114.1
theorem k2_idx187_inb : ∀ (v3634 : IVec S16 32) (k2_hw114 : k2_chk114 v3634), ∀ a x, ((![v3634] : Fin 1 → IVec S16 32) a x).toNat < S512.size a := fun v3634 k2_hw114 => k2_hw114.2
def k2_off89 (v594 : BitVec 32) (k2_t23 : Fin (k2_t23_loop v594).trips) : Fin 3 → Nat :=
  let c0_i32_3227 : BitVec 32 := 0#32
  let v3639 : Index := Scalar.indexCast c0_i32_3227
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3640 : Index := Scalar.indexCast arg21
  let c32_3228 : Index := 32#32
  ![0, v3640.toNat, 32]

def k2_chk115 (v3645 : IVec S16 32) : Prop :=
  (∀ a x, ((![v3645] : Fin 1 → IVec S16 32) a x).toNat < S512.size a) ∧
  (∀ a x, ((![v3645] : Fin 1 → IVec S16 32) a x).toNat < S512.size a)
theorem k2_idx188_inb : ∀ (v3645 : IVec S16 32) (k2_hw115 : k2_chk115 v3645), ∀ a x, ((![v3645] : Fin 1 → IVec S16 32) a x).toNat < S512.size a := fun v3645 k2_hw115 => k2_hw115.1
theorem k2_idx189_inb : ∀ (v3645 : IVec S16 32) (k2_hw115 : k2_chk115 v3645), ∀ a x, ((![v3645] : Fin 1 → IVec S16 32) a x).toNat < S512.size a := fun v3645 k2_hw115 => k2_hw115.2
def k2_off90 (v594 : BitVec 32) (k2_t23 : Fin (k2_t23_loop v594).trips) : Fin 3 → Nat :=
  let c0_i32_3231 : BitVec 32 := 0#32
  let v3650 : Index := Scalar.indexCast c0_i32_3231
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3651 : Index := Scalar.indexCast arg21
  let c48_3232 : Index := 48#32
  ![0, v3651.toNat, 48]

def k2_chk116 (v3656 : IVec S16 32) : Prop :=
  (∀ a x, ((![v3656] : Fin 1 → IVec S16 32) a x).toNat < S512.size a) ∧
  (∀ a x, ((![v3656] : Fin 1 → IVec S16 32) a x).toNat < S512.size a)
theorem k2_idx190_inb : ∀ (v3656 : IVec S16 32) (k2_hw116 : k2_chk116 v3656), ∀ a x, ((![v3656] : Fin 1 → IVec S16 32) a x).toNat < S512.size a := fun v3656 k2_hw116 => k2_hw116.1
theorem k2_idx191_inb : ∀ (v3656 : IVec S16 32) (k2_hw116 : k2_chk116 v3656), ∀ a x, ((![v3656] : Fin 1 → IVec S16 32) a x).toNat < S512.size a := fun v3656 k2_hw116 => k2_hw116.2
def k2_off91 (v594 : BitVec 32) (k2_t23 : Fin (k2_t23_loop v594).trips) : Fin 3 → Nat :=
  let c0_i32_3234 : BitVec 32 := 0#32
  let v3661 : Index := Scalar.indexCast c0_i32_3234
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3662 : Index := Scalar.indexCast arg21
  let c64_3235 : Index := 64#32
  ![0, v3662.toNat, 64]

def k2_chk117 (v3667 : IVec S16 32) : Prop :=
  (∀ a x, ((![v3667] : Fin 1 → IVec S16 32) a x).toNat < S512.size a) ∧
  (∀ a x, ((![v3667] : Fin 1 → IVec S16 32) a x).toNat < S512.size a)
theorem k2_idx192_inb : ∀ (v3667 : IVec S16 32) (k2_hw117 : k2_chk117 v3667), ∀ a x, ((![v3667] : Fin 1 → IVec S16 32) a x).toNat < S512.size a := fun v3667 k2_hw117 => k2_hw117.1
theorem k2_idx193_inb : ∀ (v3667 : IVec S16 32) (k2_hw117 : k2_chk117 v3667), ∀ a x, ((![v3667] : Fin 1 → IVec S16 32) a x).toNat < S512.size a := fun v3667 k2_hw117 => k2_hw117.2
def k2_off92 (v594 : BitVec 32) (k2_t23 : Fin (k2_t23_loop v594).trips) : Fin 3 → Nat :=
  let c0_i32_3237 : BitVec 32 := 0#32
  let v3672 : Index := Scalar.indexCast c0_i32_3237
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3673 : Index := Scalar.indexCast arg21
  let c80_3238 : Index := 80#32
  ![0, v3673.toNat, 80]

def k2_chk118 (v3678 : IVec S16 32) : Prop :=
  (∀ a x, ((![v3678] : Fin 1 → IVec S16 32) a x).toNat < S512.size a) ∧
  (∀ a x, ((![v3678] : Fin 1 → IVec S16 32) a x).toNat < S512.size a)
theorem k2_idx194_inb : ∀ (v3678 : IVec S16 32) (k2_hw118 : k2_chk118 v3678), ∀ a x, ((![v3678] : Fin 1 → IVec S16 32) a x).toNat < S512.size a := fun v3678 k2_hw118 => k2_hw118.1
theorem k2_idx195_inb : ∀ (v3678 : IVec S16 32) (k2_hw118 : k2_chk118 v3678), ∀ a x, ((![v3678] : Fin 1 → IVec S16 32) a x).toNat < S512.size a := fun v3678 k2_hw118 => k2_hw118.2
def k2_off93 (v594 : BitVec 32) (k2_t23 : Fin (k2_t23_loop v594).trips) : Fin 3 → Nat :=
  let c0_i32_3240 : BitVec 32 := 0#32
  let v3683 : Index := Scalar.indexCast c0_i32_3240
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3684 : Index := Scalar.indexCast arg21
  let c96_3241 : Index := 96#32
  ![0, v3684.toNat, 96]

def k2_chk119 (v3689 : IVec S16 32) : Prop :=
  (∀ a x, ((![v3689] : Fin 1 → IVec S16 32) a x).toNat < S512.size a) ∧
  (∀ a x, ((![v3689] : Fin 1 → IVec S16 32) a x).toNat < S512.size a)
theorem k2_idx196_inb : ∀ (v3689 : IVec S16 32) (k2_hw119 : k2_chk119 v3689), ∀ a x, ((![v3689] : Fin 1 → IVec S16 32) a x).toNat < S512.size a := fun v3689 k2_hw119 => k2_hw119.1
theorem k2_idx197_inb : ∀ (v3689 : IVec S16 32) (k2_hw119 : k2_chk119 v3689), ∀ a x, ((![v3689] : Fin 1 → IVec S16 32) a x).toNat < S512.size a := fun v3689 k2_hw119 => k2_hw119.2
def k2_off94 (v594 : BitVec 32) (k2_t23 : Fin (k2_t23_loop v594).trips) : Fin 3 → Nat :=
  let c0_i32_3243 : BitVec 32 := 0#32
  let v3694 : Index := Scalar.indexCast c0_i32_3243
  let c0_i32_1141 : BitVec 32 := 0#32
  let c128_i32_450 : BitVec 32 := 128#32
  let v595 : BitVec 32 := Scalar.minsi v594 c128_i32_450
  let v1351 : BitVec 32 := Scalar.subi v595 c0_i32_1141
  let c1_i32_1142 : BitVec 32 := 1#32
  let v1353 : BitVec 32 := Scalar.divsi v1351 c1_i32_1142
  let v1354 : BitVec 32 := Scalar.muli v1353 c1_i32_1142
  let v1355 : BitVec 32 := Scalar.addi c0_i32_1141 v1354
  let c1_i32_1144 : BitVec 32 := 1#32
  let arg21 : BitVec 32 := Scf.iv v1355 c1_i32_1144 k2_t23
  let v3695 : Index := Scalar.indexCast arg21
  let c112_3244 : Index := 112#32
  ![0, v3695.toNat, 112]

def k2_chk102 (v594 : BitVec 32) : Prop :=
  ((k2_t22_loop v594).OK) ∧
  (∀ k2_t22 : Fin (k2_t22_loop v594).trips, ∀ a, (k2_off79 v594 k2_t22) a + S1x1x16.size a ≤ S4x128x128.size a) ∧
  (∀ k2_t22 : Fin (k2_t22_loop v594).trips, ∀ a, (k2_off80 v594 k2_t22) a + S1x1x16.size a ≤ S4x128x128.size a) ∧
  (∀ k2_t22 : Fin (k2_t22_loop v594).trips, ∀ a, (k2_off81 v594 k2_t22) a + S1x1x16.size a ≤ S4x128x128.size a) ∧
  (∀ k2_t22 : Fin (k2_t22_loop v594).trips, ∀ a, (k2_off82 v594 k2_t22) a + S1x1x16.size a ≤ S4x128x128.size a) ∧
  (∀ k2_t22 : Fin (k2_t22_loop v594).trips, ∀ a, (k2_off83 v594 k2_t22) a + S1x1x16.size a ≤ S4x128x128.size a) ∧
  (∀ k2_t22 : Fin (k2_t22_loop v594).trips, ∀ a, (k2_off84 v594 k2_t22) a + S1x1x16.size a ≤ S4x128x128.size a) ∧
  (∀ k2_t22 : Fin (k2_t22_loop v594).trips, ∀ a, (k2_off85 v594 k2_t22) a + S1x1x16.size a ≤ S4x128x128.size a) ∧
  (∀ k2_t22 : Fin (k2_t22_loop v594).trips, ∀ a, (k2_off86 v594 k2_t22) a + S1x1x16.size a ≤ S4x128x128.size a) ∧
  ((k2_t23_loop v594).OK) ∧
  (∀ k2_t23 : Fin (k2_t23_loop v594).trips, ∀ a, (k2_off87 v594 k2_t23) a + S1x1x16.size a ≤ S4x128x128.size a) ∧
  (∀ k2_t23 : Fin (k2_t23_loop v594).trips, ∀ a, (k2_off88 v594 k2_t23) a + S1x1x16.size a ≤ S4x128x128.size a) ∧
  (∀ k2_t23 : Fin (k2_t23_loop v594).trips, ∀ a, (k2_off89 v594 k2_t23) a + S1x1x16.size a ≤ S4x128x128.size a) ∧
  (∀ k2_t23 : Fin (k2_t23_loop v594).trips, ∀ a, (k2_off90 v594 k2_t23) a + S1x1x16.size a ≤ S4x128x128.size a) ∧
  (∀ k2_t23 : Fin (k2_t23_loop v594).trips, ∀ a, (k2_off91 v594 k2_t23) a + S1x1x16.size a ≤ S4x128x128.size a) ∧
  (∀ k2_t23 : Fin (k2_t23_loop v594).trips, ∀ a, (k2_off92 v594 k2_t23) a + S1x1x16.size a ≤ S4x128x128.size a) ∧
  (∀ k2_t23 : Fin (k2_t23_loop v594).trips, ∀ a, (k2_off93 v594 k2_t23) a + S1x1x16.size a ≤ S4x128x128.size a) ∧
  (∀ k2_t23 : Fin (k2_t23_loop v594).trips, ∀ a, (k2_off94 v594 k2_t23) a + S1x1x16.size a ≤ S4x128x128.size a)
theorem k2_t22_ok : ∀ (v594 : BitVec 32) (k2_hw102 : k2_chk102 v594), (k2_t22_loop v594).OK := fun v594 k2_hw102 => k2_hw102.1
theorem k2_off79_inb : ∀ (v594 : BitVec 32) (k2_hw102 : k2_chk102 v594) (k2_t22 : Fin (k2_t22_loop v594).trips), ∀ a, (k2_off79 v594 k2_t22) a + S1x1x16.size a ≤ S4x128x128.size a := fun v594 k2_hw102 k2_t22 => k2_hw102.2.1 k2_t22
theorem k2_off80_inb : ∀ (v594 : BitVec 32) (k2_hw102 : k2_chk102 v594) (k2_t22 : Fin (k2_t22_loop v594).trips), ∀ a, (k2_off80 v594 k2_t22) a + S1x1x16.size a ≤ S4x128x128.size a := fun v594 k2_hw102 k2_t22 => k2_hw102.2.2.1 k2_t22
theorem k2_off81_inb : ∀ (v594 : BitVec 32) (k2_hw102 : k2_chk102 v594) (k2_t22 : Fin (k2_t22_loop v594).trips), ∀ a, (k2_off81 v594 k2_t22) a + S1x1x16.size a ≤ S4x128x128.size a := fun v594 k2_hw102 k2_t22 => k2_hw102.2.2.2.1 k2_t22
theorem k2_off82_inb : ∀ (v594 : BitVec 32) (k2_hw102 : k2_chk102 v594) (k2_t22 : Fin (k2_t22_loop v594).trips), ∀ a, (k2_off82 v594 k2_t22) a + S1x1x16.size a ≤ S4x128x128.size a := fun v594 k2_hw102 k2_t22 => k2_hw102.2.2.2.2.1 k2_t22
theorem k2_off83_inb : ∀ (v594 : BitVec 32) (k2_hw102 : k2_chk102 v594) (k2_t22 : Fin (k2_t22_loop v594).trips), ∀ a, (k2_off83 v594 k2_t22) a + S1x1x16.size a ≤ S4x128x128.size a := fun v594 k2_hw102 k2_t22 => k2_hw102.2.2.2.2.2.1 k2_t22
theorem k2_off84_inb : ∀ (v594 : BitVec 32) (k2_hw102 : k2_chk102 v594) (k2_t22 : Fin (k2_t22_loop v594).trips), ∀ a, (k2_off84 v594 k2_t22) a + S1x1x16.size a ≤ S4x128x128.size a := fun v594 k2_hw102 k2_t22 => k2_hw102.2.2.2.2.2.2.1 k2_t22
theorem k2_off85_inb : ∀ (v594 : BitVec 32) (k2_hw102 : k2_chk102 v594) (k2_t22 : Fin (k2_t22_loop v594).trips), ∀ a, (k2_off85 v594 k2_t22) a + S1x1x16.size a ≤ S4x128x128.size a := fun v594 k2_hw102 k2_t22 => k2_hw102.2.2.2.2.2.2.2.1 k2_t22
theorem k2_off86_inb : ∀ (v594 : BitVec 32) (k2_hw102 : k2_chk102 v594) (k2_t22 : Fin (k2_t22_loop v594).trips), ∀ a, (k2_off86 v594 k2_t22) a + S1x1x16.size a ≤ S4x128x128.size a := fun v594 k2_hw102 k2_t22 => k2_hw102.2.2.2.2.2.2.2.2.1 k2_t22
theorem k2_t23_ok : ∀ (v594 : BitVec 32) (k2_hw102 : k2_chk102 v594), (k2_t23_loop v594).OK := fun v594 k2_hw102 => k2_hw102.2.2.2.2.2.2.2.2.2.1
theorem k2_off87_inb : ∀ (v594 : BitVec 32) (k2_hw102 : k2_chk102 v594) (k2_t23 : Fin (k2_t23_loop v594).trips), ∀ a, (k2_off87 v594 k2_t23) a + S1x1x16.size a ≤ S4x128x128.size a := fun v594 k2_hw102 k2_t23 => k2_hw102.2.2.2.2.2.2.2.2.2.2.1 k2_t23
theorem k2_off88_inb : ∀ (v594 : BitVec 32) (k2_hw102 : k2_chk102 v594) (k2_t23 : Fin (k2_t23_loop v594).trips), ∀ a, (k2_off88 v594 k2_t23) a + S1x1x16.size a ≤ S4x128x128.size a := fun v594 k2_hw102 k2_t23 => k2_hw102.2.2.2.2.2.2.2.2.2.2.2.1 k2_t23
theorem k2_off89_inb : ∀ (v594 : BitVec 32) (k2_hw102 : k2_chk102 v594) (k2_t23 : Fin (k2_t23_loop v594).trips), ∀ a, (k2_off89 v594 k2_t23) a + S1x1x16.size a ≤ S4x128x128.size a := fun v594 k2_hw102 k2_t23 => k2_hw102.2.2.2.2.2.2.2.2.2.2.2.2.1 k2_t23
theorem k2_off90_inb : ∀ (v594 : BitVec 32) (k2_hw102 : k2_chk102 v594) (k2_t23 : Fin (k2_t23_loop v594).trips), ∀ a, (k2_off90 v594 k2_t23) a + S1x1x16.size a ≤ S4x128x128.size a := fun v594 k2_hw102 k2_t23 => k2_hw102.2.2.2.2.2.2.2.2.2.2.2.2.2.1 k2_t23
theorem k2_off91_inb : ∀ (v594 : BitVec 32) (k2_hw102 : k2_chk102 v594) (k2_t23 : Fin (k2_t23_loop v594).trips), ∀ a, (k2_off91 v594 k2_t23) a + S1x1x16.size a ≤ S4x128x128.size a := fun v594 k2_hw102 k2_t23 => k2_hw102.2.2.2.2.2.2.2.2.2.2.2.2.2.2.1 k2_t23
theorem k2_off92_inb : ∀ (v594 : BitVec 32) (k2_hw102 : k2_chk102 v594) (k2_t23 : Fin (k2_t23_loop v594).trips), ∀ a, (k2_off92 v594 k2_t23) a + S1x1x16.size a ≤ S4x128x128.size a := fun v594 k2_hw102 k2_t23 => k2_hw102.2.2.2.2.2.2.2.2.2.2.2.2.2.2.2.1 k2_t23
theorem k2_off93_inb : ∀ (v594 : BitVec 32) (k2_hw102 : k2_chk102 v594) (k2_t23 : Fin (k2_t23_loop v594).trips), ∀ a, (k2_off93 v594 k2_t23) a + S1x1x16.size a ≤ S4x128x128.size a := fun v594 k2_hw102 k2_t23 => k2_hw102.2.2.2.2.2.2.2.2.2.2.2.2.2.2.2.2.1 k2_t23
theorem k2_off94_inb : ∀ (v594 : BitVec 32) (k2_hw102 : k2_chk102 v594) (k2_t23 : Fin (k2_t23_loop v594).trips), ∀ a, (k2_off94 v594 k2_t23) a + S1x1x16.size a ≤ S4x128x128.size a := fun v594 k2_hw102 k2_t23 => k2_hw102.2.2.2.2.2.2.2.2.2.2.2.2.2.2.2.2.2 k2_t23

def k2_chk120 (v3700 : IVec S16 32) : Prop :=
  (∀ a x, ((![v3700] : Fin 1 → IVec S16 32) a x).toNat < S512.size a) ∧
  (∀ a x, ((![v3700] : Fin 1 → IVec S16 32) a x).toNat < S512.size a)
theorem k2_idx198_inb : ∀ (v3700 : IVec S16 32) (k2_hw120 : k2_chk120 v3700), ∀ a x, ((![v3700] : Fin 1 → IVec S16 32) a x).toNat < S512.size a := fun v3700 k2_hw120 => k2_hw120.1
theorem k2_idx199_inb : ∀ (v3700 : IVec S16 32) (k2_hw120 : k2_chk120 v3700), ∀ a x, ((![v3700] : Fin 1 → IVec S16 32) a x).toNat < S512.size a := fun v3700 k2_hw120 => k2_hw120.2
@[reducible] def k2_t24_loop : Scf.Loop 32 :=
  let c0_i32_1194 : BitVec 32 := 0#32
  let c32_i32_1195 : BitVec 32 := 32#32
  let v1407 : BitVec 32 := Scalar.addi c0_i32_1194 c32_i32_1195
  let c1_i32_1196 : BitVec 32 := 1#32
  ⟨c0_i32_1194, v1407, c1_i32_1196⟩
def k2_off95 (k2_t24 : Fin k2_t24_loop.trips) : Fin 1 → Nat :=
  let c0_i32_1194 : BitVec 32 := 0#32
  let c1_i32_1196 : BitVec 32 := 1#32
  let arg21 : BitVec 32 := Scf.iv c0_i32_1194 c1_i32_1196 k2_t24
  let c16_i32_3217 : BitVec 32 := 16#32
  let v3610 : BitVec 32 := Scalar.muli arg21 c16_i32_3217
  let v3611 : Index := Scalar.indexCast v3610
  ![v3611.toNat]

def k2_chk121 (v1406 : IVec S16 32) (v3625 : IVec S16 32) : Prop :=
  (∀ a x, ((![v1406, v3625] : Fin 2 → IVec S16 32) a x).toNat < S16x256.size a) ∧
  (∀ a x, ((![v1406, v3625] : Fin 2 → IVec S16 32) a x).toNat < S16x256.size a)
theorem k2_idx200_inb : ∀ (v1406 : IVec S16 32) (v3625 : IVec S16 32) (k2_hw121 : k2_chk121 v1406 v3625), ∀ a x, ((![v1406, v3625] : Fin 2 → IVec S16 32) a x).toNat < S16x256.size a := fun v1406 v3625 k2_hw121 => k2_hw121.1
theorem k2_idx201_inb : ∀ (v1406 : IVec S16 32) (v3625 : IVec S16 32) (k2_hw121 : k2_chk121 v1406 v3625), ∀ a x, ((![v1406, v3625] : Fin 2 → IVec S16 32) a x).toNat < S16x256.size a := fun v1406 v3625 k2_hw121 => k2_hw121.2

def k2_chk122 (v1411 : IVec S16 32) : Prop :=
  (∀ a x, ((![v1411] : Fin 1 → IVec S16 32) a x).toNat < S128.size a)
theorem k2_idx202_inb : ∀ (v1411 : IVec S16 32) (k2_hw122 : k2_chk122 v1411), ∀ a x, ((![v1411] : Fin 1 → IVec S16 32) a x).toNat < S128.size a := fun v1411 k2_hw122 => k2_hw122
@[reducible] def k2_t25_loop : Scf.Loop 32 :=
  let c0_i32_1224 : BitVec 32 := 0#32
  let c49_i32_1225 : BitVec 32 := 49#32
  let v1437 : BitVec 32 := Scalar.addi c0_i32_1224 c49_i32_1225
  let c1_i32_1226 : BitVec 32 := 1#32
  ⟨c0_i32_1224, v1437, c1_i32_1226⟩
def k2_off96 (k2_t25 : Fin k2_t25_loop.trips) : Fin 2 → Nat :=
  let c8_i32_3218 : BitVec 32 := 8#32
  let v3611 : Index := Scalar.indexCast c8_i32_3218
  let c0_i32_1224 : BitVec 32 := 0#32
  let c1_i32_1226 : BitVec 32 := 1#32
  let arg21 : BitVec 32 := Scf.iv c0_i32_1224 c1_i32_1226 k2_t25
  let c16_i32_3217 : BitVec 32 := 16#32
  let v3610 : BitVec 32 := Scalar.muli arg21 c16_i32_3217
  let v3612 : Index := Scalar.indexCast v3610
  ![8, v3612.toNat]

def k2_chk123 (v3621 : IVec S16 32) : Prop :=
  (∀ a x, ((![v3621] : Fin 1 → IVec S16 32) a x).toNat < S128.size a)
theorem k2_idx203_inb : ∀ (v3621 : IVec S16 32) (k2_hw123 : k2_chk123 v3621), ∀ a x, ((![v3621] : Fin 1 → IVec S16 32) a x).toNat < S128.size a := fun v3621 k2_hw123 => k2_hw123

def k2_chk124 (v1508 : IVec S16 32) : Prop :=
  (∀ a x, ((![v1508] : Fin 1 → IVec S16 32) a x).toNat < S128.size a)
theorem k2_idx204_inb : ∀ (v1508 : IVec S16 32) (k2_hw124 : k2_chk124 v1508), ∀ a x, ((![v1508] : Fin 1 → IVec S16 32) a x).toNat < S128.size a := fun v1508 k2_hw124 => k2_hw124
@[reducible] def k2_t26_loop (v819 : BitVec 32) : Scf.Loop 32 :=
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1347 : BitVec 32 := 1#32
  ⟨c0_i32_1345, v1580, c1_i32_1347⟩

def k2_chk126 (v3610 : IVec S16 32) : Prop :=
  (∀ a x, ((![v3610] : Fin 1 → IVec S16 32) a x).toNat < S128.size a)
theorem k2_idx205_inb : ∀ (v3610 : IVec S16 32) (k2_hw126 : k2_chk126 v3610), ∀ a x, ((![v3610] : Fin 1 → IVec S16 32) a x).toNat < S128.size a := fun v3610 k2_hw126 => k2_hw126
def k2_off97 (v819 : BitVec 32) (k2_t26 : Fin (k2_t26_loop v819).trips) : Fin 3 → Nat :=
  let c1_i32_3220 : BitVec 32 := 1#32
  let v3617 : Index := Scalar.indexCast c1_i32_3220
  let c0_i32_1345 : BitVec 32 := 0#32
  let c1_i32_1347 : BitVec 32 := 1#32
  let arg21 : BitVec 32 := Scf.iv c0_i32_1345 c1_i32_1347 k2_t26
  let v3618 : Index := Scalar.indexCast arg21
  let c0_3221 : Index := 0#32
  ![1, v3618.toNat, 0]

def k2_chk127 (v3623 : IVec S16 32) : Prop :=
  (∀ a x, ((![v3623] : Fin 1 → IVec S16 32) a x).toNat < S512.size a) ∧
  (∀ a x, ((![v3623] : Fin 1 → IVec S16 32) a x).toNat < S512.size a)
theorem k2_idx206_inb : ∀ (v3623 : IVec S16 32) (k2_hw127 : k2_chk127 v3623), ∀ a x, ((![v3623] : Fin 1 → IVec S16 32) a x).toNat < S512.size a := fun v3623 k2_hw127 => k2_hw127.1
theorem k2_idx207_inb : ∀ (v3623 : IVec S16 32) (k2_hw127 : k2_chk127 v3623), ∀ a x, ((![v3623] : Fin 1 → IVec S16 32) a x).toNat < S512.size a := fun v3623 k2_hw127 => k2_hw127.2
def k2_off98 (v819 : BitVec 32) (k2_t26 : Fin (k2_t26_loop v819).trips) : Fin 3 → Nat :=
  let c1_i32_3223 : BitVec 32 := 1#32
  let v3628 : Index := Scalar.indexCast c1_i32_3223
  let c0_i32_1345 : BitVec 32 := 0#32
  let c1_i32_1347 : BitVec 32 := 1#32
  let arg21 : BitVec 32 := Scf.iv c0_i32_1345 c1_i32_1347 k2_t26
  let v3629 : Index := Scalar.indexCast arg21
  let c16_3224 : Index := 16#32
  ![1, v3629.toNat, 16]

def k2_chk128 (v3634 : IVec S16 32) : Prop :=
  (∀ a x, ((![v3634] : Fin 1 → IVec S16 32) a x).toNat < S512.size a) ∧
  (∀ a x, ((![v3634] : Fin 1 → IVec S16 32) a x).toNat < S512.size a)
theorem k2_idx208_inb : ∀ (v3634 : IVec S16 32) (k2_hw128 : k2_chk128 v3634), ∀ a x, ((![v3634] : Fin 1 → IVec S16 32) a x).toNat < S512.size a := fun v3634 k2_hw128 => k2_hw128.1
theorem k2_idx209_inb : ∀ (v3634 : IVec S16 32) (k2_hw128 : k2_chk128 v3634), ∀ a x, ((![v3634] : Fin 1 → IVec S16 32) a x).toNat < S512.size a := fun v3634 k2_hw128 => k2_hw128.2
def k2_off99 (v819 : BitVec 32) (k2_t26 : Fin (k2_t26_loop v819).trips) : Fin 3 → Nat :=
  let c1_i32_3227 : BitVec 32 := 1#32
  let v3639 : Index := Scalar.indexCast c1_i32_3227
  let c0_i32_1345 : BitVec 32 := 0#32
  let c1_i32_1347 : BitVec 32 := 1#32
  let arg21 : BitVec 32 := Scf.iv c0_i32_1345 c1_i32_1347 k2_t26
  let v3640 : Index := Scalar.indexCast arg21
  let c32_3228 : Index := 32#32
  ![1, v3640.toNat, 32]

def k2_chk129 (v3645 : IVec S16 32) : Prop :=
  (∀ a x, ((![v3645] : Fin 1 → IVec S16 32) a x).toNat < S512.size a) ∧
  (∀ a x, ((![v3645] : Fin 1 → IVec S16 32) a x).toNat < S512.size a)
theorem k2_idx210_inb : ∀ (v3645 : IVec S16 32) (k2_hw129 : k2_chk129 v3645), ∀ a x, ((![v3645] : Fin 1 → IVec S16 32) a x).toNat < S512.size a := fun v3645 k2_hw129 => k2_hw129.1
theorem k2_idx211_inb : ∀ (v3645 : IVec S16 32) (k2_hw129 : k2_chk129 v3645), ∀ a x, ((![v3645] : Fin 1 → IVec S16 32) a x).toNat < S512.size a := fun v3645 k2_hw129 => k2_hw129.2
def k2_off100 (v819 : BitVec 32) (k2_t26 : Fin (k2_t26_loop v819).trips) : Fin 3 → Nat :=
  let c1_i32_3231 : BitVec 32 := 1#32
  let v3650 : Index := Scalar.indexCast c1_i32_3231
  let c0_i32_1345 : BitVec 32 := 0#32
  let c1_i32_1347 : BitVec 32 := 1#32
  let arg21 : BitVec 32 := Scf.iv c0_i32_1345 c1_i32_1347 k2_t26
  let v3651 : Index := Scalar.indexCast arg21
  let c48_3232 : Index := 48#32
  ![1, v3651.toNat, 48]

def k2_chk130 (v3656 : IVec S16 32) : Prop :=
  (∀ a x, ((![v3656] : Fin 1 → IVec S16 32) a x).toNat < S512.size a) ∧
  (∀ a x, ((![v3656] : Fin 1 → IVec S16 32) a x).toNat < S512.size a)
theorem k2_idx212_inb : ∀ (v3656 : IVec S16 32) (k2_hw130 : k2_chk130 v3656), ∀ a x, ((![v3656] : Fin 1 → IVec S16 32) a x).toNat < S512.size a := fun v3656 k2_hw130 => k2_hw130.1
theorem k2_idx213_inb : ∀ (v3656 : IVec S16 32) (k2_hw130 : k2_chk130 v3656), ∀ a x, ((![v3656] : Fin 1 → IVec S16 32) a x).toNat < S512.size a := fun v3656 k2_hw130 => k2_hw130.2
def k2_off101 (v819 : BitVec 32) (k2_t26 : Fin (k2_t26_loop v819).trips) : Fin 3 → Nat :=
  let c1_i32_3234 : BitVec 32 := 1#32
  let v3661 : Index := Scalar.indexCast c1_i32_3234
  let c0_i32_1345 : BitVec 32 := 0#32
  let c1_i32_1347 : BitVec 32 := 1#32
  let arg21 : BitVec 32 := Scf.iv c0_i32_1345 c1_i32_1347 k2_t26
  let v3662 : Index := Scalar.indexCast arg21
  let c64_3235 : Index := 64#32
  ![1, v3662.toNat, 64]

def k2_chk131 (v3667 : IVec S16 32) : Prop :=
  (∀ a x, ((![v3667] : Fin 1 → IVec S16 32) a x).toNat < S512.size a) ∧
  (∀ a x, ((![v3667] : Fin 1 → IVec S16 32) a x).toNat < S512.size a)
theorem k2_idx214_inb : ∀ (v3667 : IVec S16 32) (k2_hw131 : k2_chk131 v3667), ∀ a x, ((![v3667] : Fin 1 → IVec S16 32) a x).toNat < S512.size a := fun v3667 k2_hw131 => k2_hw131.1
theorem k2_idx215_inb : ∀ (v3667 : IVec S16 32) (k2_hw131 : k2_chk131 v3667), ∀ a x, ((![v3667] : Fin 1 → IVec S16 32) a x).toNat < S512.size a := fun v3667 k2_hw131 => k2_hw131.2
def k2_off102 (v819 : BitVec 32) (k2_t26 : Fin (k2_t26_loop v819).trips) : Fin 3 → Nat :=
  let c1_i32_3237 : BitVec 32 := 1#32
  let v3672 : Index := Scalar.indexCast c1_i32_3237
  let c0_i32_1345 : BitVec 32 := 0#32
  let c1_i32_1347 : BitVec 32 := 1#32
  let arg21 : BitVec 32 := Scf.iv c0_i32_1345 c1_i32_1347 k2_t26
  let v3673 : Index := Scalar.indexCast arg21
  let c80_3238 : Index := 80#32
  ![1, v3673.toNat, 80]

def k2_chk132 (v3678 : IVec S16 32) : Prop :=
  (∀ a x, ((![v3678] : Fin 1 → IVec S16 32) a x).toNat < S512.size a) ∧
  (∀ a x, ((![v3678] : Fin 1 → IVec S16 32) a x).toNat < S512.size a)
theorem k2_idx216_inb : ∀ (v3678 : IVec S16 32) (k2_hw132 : k2_chk132 v3678), ∀ a x, ((![v3678] : Fin 1 → IVec S16 32) a x).toNat < S512.size a := fun v3678 k2_hw132 => k2_hw132.1
theorem k2_idx217_inb : ∀ (v3678 : IVec S16 32) (k2_hw132 : k2_chk132 v3678), ∀ a x, ((![v3678] : Fin 1 → IVec S16 32) a x).toNat < S512.size a := fun v3678 k2_hw132 => k2_hw132.2
def k2_off103 (v819 : BitVec 32) (k2_t26 : Fin (k2_t26_loop v819).trips) : Fin 3 → Nat :=
  let c1_i32_3240 : BitVec 32 := 1#32
  let v3683 : Index := Scalar.indexCast c1_i32_3240
  let c0_i32_1345 : BitVec 32 := 0#32
  let c1_i32_1347 : BitVec 32 := 1#32
  let arg21 : BitVec 32 := Scf.iv c0_i32_1345 c1_i32_1347 k2_t26
  let v3684 : Index := Scalar.indexCast arg21
  let c96_3241 : Index := 96#32
  ![1, v3684.toNat, 96]

def k2_chk133 (v3689 : IVec S16 32) : Prop :=
  (∀ a x, ((![v3689] : Fin 1 → IVec S16 32) a x).toNat < S512.size a) ∧
  (∀ a x, ((![v3689] : Fin 1 → IVec S16 32) a x).toNat < S512.size a)
theorem k2_idx218_inb : ∀ (v3689 : IVec S16 32) (k2_hw133 : k2_chk133 v3689), ∀ a x, ((![v3689] : Fin 1 → IVec S16 32) a x).toNat < S512.size a := fun v3689 k2_hw133 => k2_hw133.1
theorem k2_idx219_inb : ∀ (v3689 : IVec S16 32) (k2_hw133 : k2_chk133 v3689), ∀ a x, ((![v3689] : Fin 1 → IVec S16 32) a x).toNat < S512.size a := fun v3689 k2_hw133 => k2_hw133.2
def k2_off104 (v819 : BitVec 32) (k2_t26 : Fin (k2_t26_loop v819).trips) : Fin 3 → Nat :=
  let c1_i32_3243 : BitVec 32 := 1#32
  let v3694 : Index := Scalar.indexCast c1_i32_3243
  let c0_i32_1345 : BitVec 32 := 0#32
  let c1_i32_1347 : BitVec 32 := 1#32
  let arg21 : BitVec 32 := Scf.iv c0_i32_1345 c1_i32_1347 k2_t26
  let v3695 : Index := Scalar.indexCast arg21
  let c112_3244 : Index := 112#32
  ![1, v3695.toNat, 112]

def k2_chk134 (v3700 : IVec S16 32) : Prop :=
  (∀ a x, ((![v3700] : Fin 1 → IVec S16 32) a x).toNat < S512.size a) ∧
  (∀ a x, ((![v3700] : Fin 1 → IVec S16 32) a x).toNat < S512.size a)
theorem k2_idx220_inb : ∀ (v3700 : IVec S16 32) (k2_hw134 : k2_chk134 v3700), ∀ a x, ((![v3700] : Fin 1 → IVec S16 32) a x).toNat < S512.size a := fun v3700 k2_hw134 => k2_hw134.1
theorem k2_idx221_inb : ∀ (v3700 : IVec S16 32) (k2_hw134 : k2_chk134 v3700), ∀ a x, ((![v3700] : Fin 1 → IVec S16 32) a x).toNat < S512.size a := fun v3700 k2_hw134 => k2_hw134.2
@[reducible] def k2_t27_loop (v819 : BitVec 32) : Scf.Loop 32 :=
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let v1577 : BitVec 32 := Scalar.addi c0_i32_1345 v1576
  let c1_i32_1348 : BitVec 32 := 1#32
  ⟨v1580, v1577, c1_i32_1348⟩

def k2_chk135 (v3610 : IVec S16 32) : Prop :=
  (∀ a x, ((![v3610] : Fin 1 → IVec S16 32) a x).toNat < S128.size a)
theorem k2_idx222_inb : ∀ (v3610 : IVec S16 32) (k2_hw135 : k2_chk135 v3610), ∀ a x, ((![v3610] : Fin 1 → IVec S16 32) a x).toNat < S128.size a := fun v3610 k2_hw135 => k2_hw135
def k2_off105 (v819 : BitVec 32) (k2_t27 : Fin (k2_t27_loop v819).trips) : Fin 3 → Nat :=
  let c1_i32_3220 : BitVec 32 := 1#32
  let v3617 : Index := Scalar.indexCast c1_i32_3220
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3618 : Index := Scalar.indexCast arg21
  let c0_3221 : Index := 0#32
  ![1, v3618.toNat, 0]

def k2_chk136 (v3623 : IVec S16 32) : Prop :=
  (∀ a x, ((![v3623] : Fin 1 → IVec S16 32) a x).toNat < S512.size a) ∧
  (∀ a x, ((![v3623] : Fin 1 → IVec S16 32) a x).toNat < S512.size a)
theorem k2_idx223_inb : ∀ (v3623 : IVec S16 32) (k2_hw136 : k2_chk136 v3623), ∀ a x, ((![v3623] : Fin 1 → IVec S16 32) a x).toNat < S512.size a := fun v3623 k2_hw136 => k2_hw136.1
theorem k2_idx224_inb : ∀ (v3623 : IVec S16 32) (k2_hw136 : k2_chk136 v3623), ∀ a x, ((![v3623] : Fin 1 → IVec S16 32) a x).toNat < S512.size a := fun v3623 k2_hw136 => k2_hw136.2
def k2_off106 (v819 : BitVec 32) (k2_t27 : Fin (k2_t27_loop v819).trips) : Fin 3 → Nat :=
  let c1_i32_3223 : BitVec 32 := 1#32
  let v3628 : Index := Scalar.indexCast c1_i32_3223
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3629 : Index := Scalar.indexCast arg21
  let c16_3224 : Index := 16#32
  ![1, v3629.toNat, 16]

def k2_chk137 (v3634 : IVec S16 32) : Prop :=
  (∀ a x, ((![v3634] : Fin 1 → IVec S16 32) a x).toNat < S512.size a) ∧
  (∀ a x, ((![v3634] : Fin 1 → IVec S16 32) a x).toNat < S512.size a)
theorem k2_idx225_inb : ∀ (v3634 : IVec S16 32) (k2_hw137 : k2_chk137 v3634), ∀ a x, ((![v3634] : Fin 1 → IVec S16 32) a x).toNat < S512.size a := fun v3634 k2_hw137 => k2_hw137.1
theorem k2_idx226_inb : ∀ (v3634 : IVec S16 32) (k2_hw137 : k2_chk137 v3634), ∀ a x, ((![v3634] : Fin 1 → IVec S16 32) a x).toNat < S512.size a := fun v3634 k2_hw137 => k2_hw137.2
def k2_off107 (v819 : BitVec 32) (k2_t27 : Fin (k2_t27_loop v819).trips) : Fin 3 → Nat :=
  let c1_i32_3227 : BitVec 32 := 1#32
  let v3639 : Index := Scalar.indexCast c1_i32_3227
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3640 : Index := Scalar.indexCast arg21
  let c32_3228 : Index := 32#32
  ![1, v3640.toNat, 32]

def k2_chk138 (v3645 : IVec S16 32) : Prop :=
  (∀ a x, ((![v3645] : Fin 1 → IVec S16 32) a x).toNat < S512.size a) ∧
  (∀ a x, ((![v3645] : Fin 1 → IVec S16 32) a x).toNat < S512.size a)
theorem k2_idx227_inb : ∀ (v3645 : IVec S16 32) (k2_hw138 : k2_chk138 v3645), ∀ a x, ((![v3645] : Fin 1 → IVec S16 32) a x).toNat < S512.size a := fun v3645 k2_hw138 => k2_hw138.1
theorem k2_idx228_inb : ∀ (v3645 : IVec S16 32) (k2_hw138 : k2_chk138 v3645), ∀ a x, ((![v3645] : Fin 1 → IVec S16 32) a x).toNat < S512.size a := fun v3645 k2_hw138 => k2_hw138.2
def k2_off108 (v819 : BitVec 32) (k2_t27 : Fin (k2_t27_loop v819).trips) : Fin 3 → Nat :=
  let c1_i32_3231 : BitVec 32 := 1#32
  let v3650 : Index := Scalar.indexCast c1_i32_3231
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3651 : Index := Scalar.indexCast arg21
  let c48_3232 : Index := 48#32
  ![1, v3651.toNat, 48]

def k2_chk139 (v3656 : IVec S16 32) : Prop :=
  (∀ a x, ((![v3656] : Fin 1 → IVec S16 32) a x).toNat < S512.size a) ∧
  (∀ a x, ((![v3656] : Fin 1 → IVec S16 32) a x).toNat < S512.size a)
theorem k2_idx229_inb : ∀ (v3656 : IVec S16 32) (k2_hw139 : k2_chk139 v3656), ∀ a x, ((![v3656] : Fin 1 → IVec S16 32) a x).toNat < S512.size a := fun v3656 k2_hw139 => k2_hw139.1
theorem k2_idx230_inb : ∀ (v3656 : IVec S16 32) (k2_hw139 : k2_chk139 v3656), ∀ a x, ((![v3656] : Fin 1 → IVec S16 32) a x).toNat < S512.size a := fun v3656 k2_hw139 => k2_hw139.2
def k2_off109 (v819 : BitVec 32) (k2_t27 : Fin (k2_t27_loop v819).trips) : Fin 3 → Nat :=
  let c1_i32_3234 : BitVec 32 := 1#32
  let v3661 : Index := Scalar.indexCast c1_i32_3234
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3662 : Index := Scalar.indexCast arg21
  let c64_3235 : Index := 64#32
  ![1, v3662.toNat, 64]

def k2_chk140 (v3667 : IVec S16 32) : Prop :=
  (∀ a x, ((![v3667] : Fin 1 → IVec S16 32) a x).toNat < S512.size a) ∧
  (∀ a x, ((![v3667] : Fin 1 → IVec S16 32) a x).toNat < S512.size a)
theorem k2_idx231_inb : ∀ (v3667 : IVec S16 32) (k2_hw140 : k2_chk140 v3667), ∀ a x, ((![v3667] : Fin 1 → IVec S16 32) a x).toNat < S512.size a := fun v3667 k2_hw140 => k2_hw140.1
theorem k2_idx232_inb : ∀ (v3667 : IVec S16 32) (k2_hw140 : k2_chk140 v3667), ∀ a x, ((![v3667] : Fin 1 → IVec S16 32) a x).toNat < S512.size a := fun v3667 k2_hw140 => k2_hw140.2
def k2_off110 (v819 : BitVec 32) (k2_t27 : Fin (k2_t27_loop v819).trips) : Fin 3 → Nat :=
  let c1_i32_3237 : BitVec 32 := 1#32
  let v3672 : Index := Scalar.indexCast c1_i32_3237
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3673 : Index := Scalar.indexCast arg21
  let c80_3238 : Index := 80#32
  ![1, v3673.toNat, 80]

def k2_chk141 (v3678 : IVec S16 32) : Prop :=
  (∀ a x, ((![v3678] : Fin 1 → IVec S16 32) a x).toNat < S512.size a) ∧
  (∀ a x, ((![v3678] : Fin 1 → IVec S16 32) a x).toNat < S512.size a)
theorem k2_idx233_inb : ∀ (v3678 : IVec S16 32) (k2_hw141 : k2_chk141 v3678), ∀ a x, ((![v3678] : Fin 1 → IVec S16 32) a x).toNat < S512.size a := fun v3678 k2_hw141 => k2_hw141.1
theorem k2_idx234_inb : ∀ (v3678 : IVec S16 32) (k2_hw141 : k2_chk141 v3678), ∀ a x, ((![v3678] : Fin 1 → IVec S16 32) a x).toNat < S512.size a := fun v3678 k2_hw141 => k2_hw141.2
def k2_off111 (v819 : BitVec 32) (k2_t27 : Fin (k2_t27_loop v819).trips) : Fin 3 → Nat :=
  let c1_i32_3240 : BitVec 32 := 1#32
  let v3683 : Index := Scalar.indexCast c1_i32_3240
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3684 : Index := Scalar.indexCast arg21
  let c96_3241 : Index := 96#32
  ![1, v3684.toNat, 96]

def k2_chk142 (v3689 : IVec S16 32) : Prop :=
  (∀ a x, ((![v3689] : Fin 1 → IVec S16 32) a x).toNat < S512.size a) ∧
  (∀ a x, ((![v3689] : Fin 1 → IVec S16 32) a x).toNat < S512.size a)
theorem k2_idx235_inb : ∀ (v3689 : IVec S16 32) (k2_hw142 : k2_chk142 v3689), ∀ a x, ((![v3689] : Fin 1 → IVec S16 32) a x).toNat < S512.size a := fun v3689 k2_hw142 => k2_hw142.1
theorem k2_idx236_inb : ∀ (v3689 : IVec S16 32) (k2_hw142 : k2_chk142 v3689), ∀ a x, ((![v3689] : Fin 1 → IVec S16 32) a x).toNat < S512.size a := fun v3689 k2_hw142 => k2_hw142.2
def k2_off112 (v819 : BitVec 32) (k2_t27 : Fin (k2_t27_loop v819).trips) : Fin 3 → Nat :=
  let c1_i32_3243 : BitVec 32 := 1#32
  let v3694 : Index := Scalar.indexCast c1_i32_3243
  let c0_i32_1345 : BitVec 32 := 0#32
  let c128_i32_653 : BitVec 32 := 128#32
  let v820 : BitVec 32 := Scalar.minsi v819 c128_i32_653
  let v1576 : BitVec 32 := Scalar.subi v820 c0_i32_1345
  let c1_i32_1346 : BitVec 32 := 1#32
  let v1578 : BitVec 32 := Scalar.divsi v1576 c1_i32_1346
  let v1579 : BitVec 32 := Scalar.muli v1578 c1_i32_1346
  let v1580 : BitVec 32 := Scalar.addi c0_i32_1345 v1579
  let c1_i32_1348 : BitVec 32 := 1#32
  let arg21 : BitVec 32 := Scf.iv v1580 c1_i32_1348 k2_t27
  let v3695 : Index := Scalar.indexCast arg21
  let c112_3244 : Index := 112#32
  ![1, v3695.toNat, 112]

def k2_chk125 (v819 : BitVec 32) : Prop :=
  ((k2_t26_loop v819).OK) ∧
  (∀ k2_t26 : Fin (k2_t26_loop v819).trips, ∀ a, (k2_off97 v819 k2_t26) a + S1x1x16.size a ≤ S4x128x128.size a) ∧
  (∀ k2_t26 : Fin (k2_t26_loop v819).trips, ∀ a, (k2_off98 v819 k2_t26) a + S1x1x16.size a ≤ S4x128x128.size a) ∧
  (∀ k2_t26 : Fin (k2_t26_loop v819).trips, ∀ a, (k2_off99 v819 k2_t26) a + S1x1x16.size a ≤ S4x128x128.size a) ∧
  (∀ k2_t26 : Fin (k2_t26_loop v819).trips, ∀ a, (k2_off100 v819 k2_t26) a + S1x1x16.size a ≤ S4x128x128.size a) ∧
  (∀ k2_t26 : Fin (k2_t26_loop v819).trips, ∀ a, (k2_off101 v819 k2_t26) a + S1x1x16.size a ≤ S4x128x128.size a) ∧
  (∀ k2_t26 : Fin (k2_t26_loop v819).trips, ∀ a, (k2_off102 v819 k2_t26) a + S1x1x16.size a ≤ S4x128x128.size a) ∧
  (∀ k2_t26 : Fin (k2_t26_loop v819).trips, ∀ a, (k2_off103 v819 k2_t26) a + S1x1x16.size a ≤ S4x128x128.size a) ∧
  (∀ k2_t26 : Fin (k2_t26_loop v819).trips, ∀ a, (k2_off104 v819 k2_t26) a + S1x1x16.size a ≤ S4x128x128.size a) ∧
  ((k2_t27_loop v819).OK) ∧
  (∀ k2_t27 : Fin (k2_t27_loop v819).trips, ∀ a, (k2_off105 v819 k2_t27) a + S1x1x16.size a ≤ S4x128x128.size a) ∧
  (∀ k2_t27 : Fin (k2_t27_loop v819).trips, ∀ a, (k2_off106 v819 k2_t27) a + S1x1x16.size a ≤ S4x128x128.size a) ∧
  (∀ k2_t27 : Fin (k2_t27_loop v819).trips, ∀ a, (k2_off107 v819 k2_t27) a + S1x1x16.size a ≤ S4x128x128.size a) ∧
  (∀ k2_t27 : Fin (k2_t27_loop v819).trips, ∀ a, (k2_off108 v819 k2_t27) a + S1x1x16.size a ≤ S4x128x128.size a) ∧
  (∀ k2_t27 : Fin (k2_t27_loop v819).trips, ∀ a, (k2_off109 v819 k2_t27) a + S1x1x16.size a ≤ S4x128x128.size a) ∧
  (∀ k2_t27 : Fin (k2_t27_loop v819).trips, ∀ a, (k2_off110 v819 k2_t27) a + S1x1x16.size a ≤ S4x128x128.size a) ∧
  (∀ k2_t27 : Fin (k2_t27_loop v819).trips, ∀ a, (k2_off111 v819 k2_t27) a + S1x1x16.size a ≤ S4x128x128.size a) ∧
  (∀ k2_t27 : Fin (k2_t27_loop v819).trips, ∀ a, (k2_off112 v819 k2_t27) a + S1x1x16.size a ≤ S4x128x128.size a)
theorem k2_t26_ok : ∀ (v819 : BitVec 32) (k2_hw125 : k2_chk125 v819), (k2_t26_loop v819).OK := fun v819 k2_hw125 => k2_hw125.1
theorem k2_off97_inb : ∀ (v819 : BitVec 32) (k2_hw125 : k2_chk125 v819) (k2_t26 : Fin (k2_t26_loop v819).trips), ∀ a, (k2_off97 v819 k2_t26) a + S1x1x16.size a ≤ S4x128x128.size a := fun v819 k2_hw125 k2_t26 => k2_hw125.2.1 k2_t26
theorem k2_off98_inb : ∀ (v819 : BitVec 32) (k2_hw125 : k2_chk125 v819) (k2_t26 : Fin (k2_t26_loop v819).trips), ∀ a, (k2_off98 v819 k2_t26) a + S1x1x16.size a ≤ S4x128x128.size a := fun v819 k2_hw125 k2_t26 => k2_hw125.2.2.1 k2_t26
theorem k2_off99_inb : ∀ (v819 : BitVec 32) (k2_hw125 : k2_chk125 v819) (k2_t26 : Fin (k2_t26_loop v819).trips), ∀ a, (k2_off99 v819 k2_t26) a + S1x1x16.size a ≤ S4x128x128.size a := fun v819 k2_hw125 k2_t26 => k2_hw125.2.2.2.1 k2_t26
theorem k2_off100_inb : ∀ (v819 : BitVec 32) (k2_hw125 : k2_chk125 v819) (k2_t26 : Fin (k2_t26_loop v819).trips), ∀ a, (k2_off100 v819 k2_t26) a + S1x1x16.size a ≤ S4x128x128.size a := fun v819 k2_hw125 k2_t26 => k2_hw125.2.2.2.2.1 k2_t26
theorem k2_off101_inb : ∀ (v819 : BitVec 32) (k2_hw125 : k2_chk125 v819) (k2_t26 : Fin (k2_t26_loop v819).trips), ∀ a, (k2_off101 v819 k2_t26) a + S1x1x16.size a ≤ S4x128x128.size a := fun v819 k2_hw125 k2_t26 => k2_hw125.2.2.2.2.2.1 k2_t26
theorem k2_off102_inb : ∀ (v819 : BitVec 32) (k2_hw125 : k2_chk125 v819) (k2_t26 : Fin (k2_t26_loop v819).trips), ∀ a, (k2_off102 v819 k2_t26) a + S1x1x16.size a ≤ S4x128x128.size a := fun v819 k2_hw125 k2_t26 => k2_hw125.2.2.2.2.2.2.1 k2_t26
theorem k2_off103_inb : ∀ (v819 : BitVec 32) (k2_hw125 : k2_chk125 v819) (k2_t26 : Fin (k2_t26_loop v819).trips), ∀ a, (k2_off103 v819 k2_t26) a + S1x1x16.size a ≤ S4x128x128.size a := fun v819 k2_hw125 k2_t26 => k2_hw125.2.2.2.2.2.2.2.1 k2_t26
theorem k2_off104_inb : ∀ (v819 : BitVec 32) (k2_hw125 : k2_chk125 v819) (k2_t26 : Fin (k2_t26_loop v819).trips), ∀ a, (k2_off104 v819 k2_t26) a + S1x1x16.size a ≤ S4x128x128.size a := fun v819 k2_hw125 k2_t26 => k2_hw125.2.2.2.2.2.2.2.2.1 k2_t26
theorem k2_t27_ok : ∀ (v819 : BitVec 32) (k2_hw125 : k2_chk125 v819), (k2_t27_loop v819).OK := fun v819 k2_hw125 => k2_hw125.2.2.2.2.2.2.2.2.2.1
theorem k2_off105_inb : ∀ (v819 : BitVec 32) (k2_hw125 : k2_chk125 v819) (k2_t27 : Fin (k2_t27_loop v819).trips), ∀ a, (k2_off105 v819 k2_t27) a + S1x1x16.size a ≤ S4x128x128.size a := fun v819 k2_hw125 k2_t27 => k2_hw125.2.2.2.2.2.2.2.2.2.2.1 k2_t27
theorem k2_off106_inb : ∀ (v819 : BitVec 32) (k2_hw125 : k2_chk125 v819) (k2_t27 : Fin (k2_t27_loop v819).trips), ∀ a, (k2_off106 v819 k2_t27) a + S1x1x16.size a ≤ S4x128x128.size a := fun v819 k2_hw125 k2_t27 => k2_hw125.2.2.2.2.2.2.2.2.2.2.2.1 k2_t27
theorem k2_off107_inb : ∀ (v819 : BitVec 32) (k2_hw125 : k2_chk125 v819) (k2_t27 : Fin (k2_t27_loop v819).trips), ∀ a, (k2_off107 v819 k2_t27) a + S1x1x16.size a ≤ S4x128x128.size a := fun v819 k2_hw125 k2_t27 => k2_hw125.2.2.2.2.2.2.2.2.2.2.2.2.1 k2_t27
theorem k2_off108_inb : ∀ (v819 : BitVec 32) (k2_hw125 : k2_chk125 v819) (k2_t27 : Fin (k2_t27_loop v819).trips), ∀ a, (k2_off108 v819 k2_t27) a + S1x1x16.size a ≤ S4x128x128.size a := fun v819 k2_hw125 k2_t27 => k2_hw125.2.2.2.2.2.2.2.2.2.2.2.2.2.1 k2_t27
theorem k2_off109_inb : ∀ (v819 : BitVec 32) (k2_hw125 : k2_chk125 v819) (k2_t27 : Fin (k2_t27_loop v819).trips), ∀ a, (k2_off109 v819 k2_t27) a + S1x1x16.size a ≤ S4x128x128.size a := fun v819 k2_hw125 k2_t27 => k2_hw125.2.2.2.2.2.2.2.2.2.2.2.2.2.2.1 k2_t27
theorem k2_off110_inb : ∀ (v819 : BitVec 32) (k2_hw125 : k2_chk125 v819) (k2_t27 : Fin (k2_t27_loop v819).trips), ∀ a, (k2_off110 v819 k2_t27) a + S1x1x16.size a ≤ S4x128x128.size a := fun v819 k2_hw125 k2_t27 => k2_hw125.2.2.2.2.2.2.2.2.2.2.2.2.2.2.2.1 k2_t27
theorem k2_off111_inb : ∀ (v819 : BitVec 32) (k2_hw125 : k2_chk125 v819) (k2_t27 : Fin (k2_t27_loop v819).trips), ∀ a, (k2_off111 v819 k2_t27) a + S1x1x16.size a ≤ S4x128x128.size a := fun v819 k2_hw125 k2_t27 => k2_hw125.2.2.2.2.2.2.2.2.2.2.2.2.2.2.2.2.1 k2_t27
theorem k2_off112_inb : ∀ (v819 : BitVec 32) (k2_hw125 : k2_chk125 v819) (k2_t27 : Fin (k2_t27_loop v819).trips), ∀ a, (k2_off112 v819 k2_t27) a + S1x1x16.size a ≤ S4x128x128.size a := fun v819 k2_hw125 k2_t27 => k2_hw125.2.2.2.2.2.2.2.2.2.2.2.2.2.2.2.2.2 k2_t27

def k2_chk143 (v3700 : IVec S16 32) : Prop :=
  (∀ a x, ((![v3700] : Fin 1 → IVec S16 32) a x).toNat < S512.size a) ∧
  (∀ a x, ((![v3700] : Fin 1 → IVec S16 32) a x).toNat < S512.size a)
theorem k2_idx237_inb : ∀ (v3700 : IVec S16 32) (k2_hw143 : k2_chk143 v3700), ∀ a x, ((![v3700] : Fin 1 → IVec S16 32) a x).toNat < S512.size a := fun v3700 k2_hw143 => k2_hw143.1
theorem k2_idx238_inb : ∀ (v3700 : IVec S16 32) (k2_hw143 : k2_chk143 v3700), ∀ a x, ((![v3700] : Fin 1 → IVec S16 32) a x).toNat < S512.size a := fun v3700 k2_hw143 => k2_hw143.2
@[reducible] def k2_t28_loop : Scf.Loop 32 :=
  let c0_i32_1398 : BitVec 32 := 0#32
  let c32_i32_1399 : BitVec 32 := 32#32
  let v1632 : BitVec 32 := Scalar.addi c0_i32_1398 c32_i32_1399
  let c1_i32_1400 : BitVec 32 := 1#32
  ⟨c0_i32_1398, v1632, c1_i32_1400⟩
def k2_off113 (k2_t28 : Fin k2_t28_loop.trips) : Fin 1 → Nat :=
  let c0_i32_1398 : BitVec 32 := 0#32
  let c1_i32_1400 : BitVec 32 := 1#32
  let arg21 : BitVec 32 := Scf.iv c0_i32_1398 c1_i32_1400 k2_t28
  let c16_i32_3217 : BitVec 32 := 16#32
  let v3610 : BitVec 32 := Scalar.muli arg21 c16_i32_3217
  let v3611 : Index := Scalar.indexCast v3610
  ![v3611.toNat]

def k2_chk144 (v1631 : IVec S16 32) (v3625 : IVec S16 32) : Prop :=
  (∀ a x, ((![v1631, v3625] : Fin 2 → IVec S16 32) a x).toNat < S16x256.size a) ∧
  (∀ a x, ((![v1631, v3625] : Fin 2 → IVec S16 32) a x).toNat < S16x256.size a)
theorem k2_idx239_inb : ∀ (v1631 : IVec S16 32) (v3625 : IVec S16 32) (k2_hw144 : k2_chk144 v1631 v3625), ∀ a x, ((![v1631, v3625] : Fin 2 → IVec S16 32) a x).toNat < S16x256.size a := fun v1631 v3625 k2_hw144 => k2_hw144.1
theorem k2_idx240_inb : ∀ (v1631 : IVec S16 32) (v3625 : IVec S16 32) (k2_hw144 : k2_chk144 v1631 v3625), ∀ a x, ((![v1631, v3625] : Fin 2 → IVec S16 32) a x).toNat < S16x256.size a := fun v1631 v3625 k2_hw144 => k2_hw144.2

def k2_chk145 (v1636 : IVec S16 32) : Prop :=
  (∀ a x, ((![v1636] : Fin 1 → IVec S16 32) a x).toNat < S128.size a)
theorem k2_idx241_inb : ∀ (v1636 : IVec S16 32) (k2_hw145 : k2_chk145 v1636), ∀ a x, ((![v1636] : Fin 1 → IVec S16 32) a x).toNat < S128.size a := fun v1636 k2_hw145 => k2_hw145
@[reducible] def k2_t29_loop : Scf.Loop 32 :=
  let c0_i32_1427 : BitVec 32 := 0#32
  let c49_i32_1428 : BitVec 32 := 49#32
  let v1662 : BitVec 32 := Scalar.addi c0_i32_1427 c49_i32_1428
  let c1_i32_1429 : BitVec 32 := 1#32
  ⟨c0_i32_1427, v1662, c1_i32_1429⟩
def k2_off114 (k2_t29 : Fin k2_t29_loop.trips) : Fin 2 → Nat :=
  let c9_i32_3218 : BitVec 32 := 9#32
  let v3611 : Index := Scalar.indexCast c9_i32_3218
  let c0_i32_1427 : BitVec 32 := 0#32
  let c1_i32_1429 : BitVec 32 := 1#32
  let arg21 : BitVec 32 := Scf.iv c0_i32_1427 c1_i32_1429 k2_t29
  let c16_i32_3217 : BitVec 32 := 16#32
  let v3610 : BitVec 32 := Scalar.muli arg21 c16_i32_3217
  let v3612 : Index := Scalar.indexCast v3610
  ![9, v3612.toNat]

def k2_chk146 (v3621 : IVec S16 32) : Prop :=
  (∀ a x, ((![v3621] : Fin 1 → IVec S16 32) a x).toNat < S128.size a)
theorem k2_idx242_inb : ∀ (v3621 : IVec S16 32) (k2_hw146 : k2_chk146 v3621), ∀ a x, ((![v3621] : Fin 1 → IVec S16 32) a x).toNat < S128.size a := fun v3621 k2_hw146 => k2_hw146

def k2_chk147 (v1733 : IVec S16 32) : Prop :=
  (∀ a x, ((![v1733] : Fin 1 → IVec S16 32) a x).toNat < S128.size a)
theorem k2_idx243_inb : ∀ (v1733 : IVec S16 32) (k2_hw147 : k2_chk147 v1733), ∀ a x, ((![v1733] : Fin 1 → IVec S16 32) a x).toNat < S128.size a := fun v1733 k2_hw147 => k2_hw147
@[reducible] def k2_t30_loop (v1044 : BitVec 32) : Scf.Loop 32 :=
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1550 : BitVec 32 := 1#32
  ⟨c0_i32_1548, v1805, c1_i32_1550⟩

def k2_chk149 (v3610 : IVec S16 32) : Prop :=
  (∀ a x, ((![v3610] : Fin 1 → IVec S16 32) a x).toNat < S128.size a)
theorem k2_idx244_inb : ∀ (v3610 : IVec S16 32) (k2_hw149 : k2_chk149 v3610), ∀ a x, ((![v3610] : Fin 1 → IVec S16 32) a x).toNat < S128.size a := fun v3610 k2_hw149 => k2_hw149
def k2_off115 (v1044 : BitVec 32) (k2_t30 : Fin (k2_t30_loop v1044).trips) : Fin 3 → Nat :=
  let c2_i32_3220 : BitVec 32 := 2#32
  let v3617 : Index := Scalar.indexCast c2_i32_3220
  let c0_i32_1548 : BitVec 32 := 0#32
  let c1_i32_1550 : BitVec 32 := 1#32
  let arg21 : BitVec 32 := Scf.iv c0_i32_1548 c1_i32_1550 k2_t30
  let v3618 : Index := Scalar.indexCast arg21
  let c0_3221 : Index := 0#32
  ![2, v3618.toNat, 0]

def k2_chk150 (v3623 : IVec S16 32) : Prop :=
  (∀ a x, ((![v3623] : Fin 1 → IVec S16 32) a x).toNat < S512.size a) ∧
  (∀ a x, ((![v3623] : Fin 1 → IVec S16 32) a x).toNat < S512.size a)
theorem k2_idx245_inb : ∀ (v3623 : IVec S16 32) (k2_hw150 : k2_chk150 v3623), ∀ a x, ((![v3623] : Fin 1 → IVec S16 32) a x).toNat < S512.size a := fun v3623 k2_hw150 => k2_hw150.1
theorem k2_idx246_inb : ∀ (v3623 : IVec S16 32) (k2_hw150 : k2_chk150 v3623), ∀ a x, ((![v3623] : Fin 1 → IVec S16 32) a x).toNat < S512.size a := fun v3623 k2_hw150 => k2_hw150.2
def k2_off116 (v1044 : BitVec 32) (k2_t30 : Fin (k2_t30_loop v1044).trips) : Fin 3 → Nat :=
  let c2_i32_3223 : BitVec 32 := 2#32
  let v3628 : Index := Scalar.indexCast c2_i32_3223
  let c0_i32_1548 : BitVec 32 := 0#32
  let c1_i32_1550 : BitVec 32 := 1#32
  let arg21 : BitVec 32 := Scf.iv c0_i32_1548 c1_i32_1550 k2_t30
  let v3629 : Index := Scalar.indexCast arg21
  let c16_3224 : Index := 16#32
  ![2, v3629.toNat, 16]

def k2_chk151 (v3634 : IVec S16 32) : Prop :=
  (∀ a x, ((![v3634] : Fin 1 → IVec S16 32) a x).toNat < S512.size a) ∧
  (∀ a x, ((![v3634] : Fin 1 → IVec S16 32) a x).toNat < S512.size a)
theorem k2_idx247_inb : ∀ (v3634 : IVec S16 32) (k2_hw151 : k2_chk151 v3634), ∀ a x, ((![v3634] : Fin 1 → IVec S16 32) a x).toNat < S512.size a := fun v3634 k2_hw151 => k2_hw151.1
theorem k2_idx248_inb : ∀ (v3634 : IVec S16 32) (k2_hw151 : k2_chk151 v3634), ∀ a x, ((![v3634] : Fin 1 → IVec S16 32) a x).toNat < S512.size a := fun v3634 k2_hw151 => k2_hw151.2
def k2_off117 (v1044 : BitVec 32) (k2_t30 : Fin (k2_t30_loop v1044).trips) : Fin 3 → Nat :=
  let c2_i32_3227 : BitVec 32 := 2#32
  let v3639 : Index := Scalar.indexCast c2_i32_3227
  let c0_i32_1548 : BitVec 32 := 0#32
  let c1_i32_1550 : BitVec 32 := 1#32
  let arg21 : BitVec 32 := Scf.iv c0_i32_1548 c1_i32_1550 k2_t30
  let v3640 : Index := Scalar.indexCast arg21
  let c32_3228 : Index := 32#32
  ![2, v3640.toNat, 32]

def k2_chk152 (v3645 : IVec S16 32) : Prop :=
  (∀ a x, ((![v3645] : Fin 1 → IVec S16 32) a x).toNat < S512.size a) ∧
  (∀ a x, ((![v3645] : Fin 1 → IVec S16 32) a x).toNat < S512.size a)
theorem k2_idx249_inb : ∀ (v3645 : IVec S16 32) (k2_hw152 : k2_chk152 v3645), ∀ a x, ((![v3645] : Fin 1 → IVec S16 32) a x).toNat < S512.size a := fun v3645 k2_hw152 => k2_hw152.1
theorem k2_idx250_inb : ∀ (v3645 : IVec S16 32) (k2_hw152 : k2_chk152 v3645), ∀ a x, ((![v3645] : Fin 1 → IVec S16 32) a x).toNat < S512.size a := fun v3645 k2_hw152 => k2_hw152.2
def k2_off118 (v1044 : BitVec 32) (k2_t30 : Fin (k2_t30_loop v1044).trips) : Fin 3 → Nat :=
  let c2_i32_3231 : BitVec 32 := 2#32
  let v3650 : Index := Scalar.indexCast c2_i32_3231
  let c0_i32_1548 : BitVec 32 := 0#32
  let c1_i32_1550 : BitVec 32 := 1#32
  let arg21 : BitVec 32 := Scf.iv c0_i32_1548 c1_i32_1550 k2_t30
  let v3651 : Index := Scalar.indexCast arg21
  let c48_3232 : Index := 48#32
  ![2, v3651.toNat, 48]

def k2_chk153 (v3656 : IVec S16 32) : Prop :=
  (∀ a x, ((![v3656] : Fin 1 → IVec S16 32) a x).toNat < S512.size a) ∧
  (∀ a x, ((![v3656] : Fin 1 → IVec S16 32) a x).toNat < S512.size a)
theorem k2_idx251_inb : ∀ (v3656 : IVec S16 32) (k2_hw153 : k2_chk153 v3656), ∀ a x, ((![v3656] : Fin 1 → IVec S16 32) a x).toNat < S512.size a := fun v3656 k2_hw153 => k2_hw153.1
theorem k2_idx252_inb : ∀ (v3656 : IVec S16 32) (k2_hw153 : k2_chk153 v3656), ∀ a x, ((![v3656] : Fin 1 → IVec S16 32) a x).toNat < S512.size a := fun v3656 k2_hw153 => k2_hw153.2
def k2_off119 (v1044 : BitVec 32) (k2_t30 : Fin (k2_t30_loop v1044).trips) : Fin 3 → Nat :=
  let c2_i32_3234 : BitVec 32 := 2#32
  let v3661 : Index := Scalar.indexCast c2_i32_3234
  let c0_i32_1548 : BitVec 32 := 0#32
  let c1_i32_1550 : BitVec 32 := 1#32
  let arg21 : BitVec 32 := Scf.iv c0_i32_1548 c1_i32_1550 k2_t30
  let v3662 : Index := Scalar.indexCast arg21
  let c64_3235 : Index := 64#32
  ![2, v3662.toNat, 64]

def k2_chk154 (v3667 : IVec S16 32) : Prop :=
  (∀ a x, ((![v3667] : Fin 1 → IVec S16 32) a x).toNat < S512.size a) ∧
  (∀ a x, ((![v3667] : Fin 1 → IVec S16 32) a x).toNat < S512.size a)
theorem k2_idx253_inb : ∀ (v3667 : IVec S16 32) (k2_hw154 : k2_chk154 v3667), ∀ a x, ((![v3667] : Fin 1 → IVec S16 32) a x).toNat < S512.size a := fun v3667 k2_hw154 => k2_hw154.1
theorem k2_idx254_inb : ∀ (v3667 : IVec S16 32) (k2_hw154 : k2_chk154 v3667), ∀ a x, ((![v3667] : Fin 1 → IVec S16 32) a x).toNat < S512.size a := fun v3667 k2_hw154 => k2_hw154.2
def k2_off120 (v1044 : BitVec 32) (k2_t30 : Fin (k2_t30_loop v1044).trips) : Fin 3 → Nat :=
  let c2_i32_3237 : BitVec 32 := 2#32
  let v3672 : Index := Scalar.indexCast c2_i32_3237
  let c0_i32_1548 : BitVec 32 := 0#32
  let c1_i32_1550 : BitVec 32 := 1#32
  let arg21 : BitVec 32 := Scf.iv c0_i32_1548 c1_i32_1550 k2_t30
  let v3673 : Index := Scalar.indexCast arg21
  let c80_3238 : Index := 80#32
  ![2, v3673.toNat, 80]

def k2_chk155 (v3678 : IVec S16 32) : Prop :=
  (∀ a x, ((![v3678] : Fin 1 → IVec S16 32) a x).toNat < S512.size a) ∧
  (∀ a x, ((![v3678] : Fin 1 → IVec S16 32) a x).toNat < S512.size a)
theorem k2_idx255_inb : ∀ (v3678 : IVec S16 32) (k2_hw155 : k2_chk155 v3678), ∀ a x, ((![v3678] : Fin 1 → IVec S16 32) a x).toNat < S512.size a := fun v3678 k2_hw155 => k2_hw155.1
theorem k2_idx256_inb : ∀ (v3678 : IVec S16 32) (k2_hw155 : k2_chk155 v3678), ∀ a x, ((![v3678] : Fin 1 → IVec S16 32) a x).toNat < S512.size a := fun v3678 k2_hw155 => k2_hw155.2
def k2_off121 (v1044 : BitVec 32) (k2_t30 : Fin (k2_t30_loop v1044).trips) : Fin 3 → Nat :=
  let c2_i32_3240 : BitVec 32 := 2#32
  let v3683 : Index := Scalar.indexCast c2_i32_3240
  let c0_i32_1548 : BitVec 32 := 0#32
  let c1_i32_1550 : BitVec 32 := 1#32
  let arg21 : BitVec 32 := Scf.iv c0_i32_1548 c1_i32_1550 k2_t30
  let v3684 : Index := Scalar.indexCast arg21
  let c96_3241 : Index := 96#32
  ![2, v3684.toNat, 96]

def k2_chk156 (v3689 : IVec S16 32) : Prop :=
  (∀ a x, ((![v3689] : Fin 1 → IVec S16 32) a x).toNat < S512.size a) ∧
  (∀ a x, ((![v3689] : Fin 1 → IVec S16 32) a x).toNat < S512.size a)
theorem k2_idx257_inb : ∀ (v3689 : IVec S16 32) (k2_hw156 : k2_chk156 v3689), ∀ a x, ((![v3689] : Fin 1 → IVec S16 32) a x).toNat < S512.size a := fun v3689 k2_hw156 => k2_hw156.1
theorem k2_idx258_inb : ∀ (v3689 : IVec S16 32) (k2_hw156 : k2_chk156 v3689), ∀ a x, ((![v3689] : Fin 1 → IVec S16 32) a x).toNat < S512.size a := fun v3689 k2_hw156 => k2_hw156.2
def k2_off122 (v1044 : BitVec 32) (k2_t30 : Fin (k2_t30_loop v1044).trips) : Fin 3 → Nat :=
  let c2_i32_3243 : BitVec 32 := 2#32
  let v3694 : Index := Scalar.indexCast c2_i32_3243
  let c0_i32_1548 : BitVec 32 := 0#32
  let c1_i32_1550 : BitVec 32 := 1#32
  let arg21 : BitVec 32 := Scf.iv c0_i32_1548 c1_i32_1550 k2_t30
  let v3695 : Index := Scalar.indexCast arg21
  let c112_3244 : Index := 112#32
  ![2, v3695.toNat, 112]

def k2_chk157 (v3700 : IVec S16 32) : Prop :=
  (∀ a x, ((![v3700] : Fin 1 → IVec S16 32) a x).toNat < S512.size a) ∧
  (∀ a x, ((![v3700] : Fin 1 → IVec S16 32) a x).toNat < S512.size a)
theorem k2_idx259_inb : ∀ (v3700 : IVec S16 32) (k2_hw157 : k2_chk157 v3700), ∀ a x, ((![v3700] : Fin 1 → IVec S16 32) a x).toNat < S512.size a := fun v3700 k2_hw157 => k2_hw157.1
theorem k2_idx260_inb : ∀ (v3700 : IVec S16 32) (k2_hw157 : k2_chk157 v3700), ∀ a x, ((![v3700] : Fin 1 → IVec S16 32) a x).toNat < S512.size a := fun v3700 k2_hw157 => k2_hw157.2
@[reducible] def k2_t31_loop (v1044 : BitVec 32) : Scf.Loop 32 :=
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let v1802 : BitVec 32 := Scalar.addi c0_i32_1548 v1801
  let c1_i32_1551 : BitVec 32 := 1#32
  ⟨v1805, v1802, c1_i32_1551⟩

def k2_chk158 (v3610 : IVec S16 32) : Prop :=
  (∀ a x, ((![v3610] : Fin 1 → IVec S16 32) a x).toNat < S128.size a)
theorem k2_idx261_inb : ∀ (v3610 : IVec S16 32) (k2_hw158 : k2_chk158 v3610), ∀ a x, ((![v3610] : Fin 1 → IVec S16 32) a x).toNat < S128.size a := fun v3610 k2_hw158 => k2_hw158
def k2_off123 (v1044 : BitVec 32) (k2_t31 : Fin (k2_t31_loop v1044).trips) : Fin 3 → Nat :=
  let c2_i32_3220 : BitVec 32 := 2#32
  let v3617 : Index := Scalar.indexCast c2_i32_3220
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3618 : Index := Scalar.indexCast arg21
  let c0_3221 : Index := 0#32
  ![2, v3618.toNat, 0]

def k2_chk159 (v3623 : IVec S16 32) : Prop :=
  (∀ a x, ((![v3623] : Fin 1 → IVec S16 32) a x).toNat < S512.size a) ∧
  (∀ a x, ((![v3623] : Fin 1 → IVec S16 32) a x).toNat < S512.size a)
theorem k2_idx262_inb : ∀ (v3623 : IVec S16 32) (k2_hw159 : k2_chk159 v3623), ∀ a x, ((![v3623] : Fin 1 → IVec S16 32) a x).toNat < S512.size a := fun v3623 k2_hw159 => k2_hw159.1
theorem k2_idx263_inb : ∀ (v3623 : IVec S16 32) (k2_hw159 : k2_chk159 v3623), ∀ a x, ((![v3623] : Fin 1 → IVec S16 32) a x).toNat < S512.size a := fun v3623 k2_hw159 => k2_hw159.2
def k2_off124 (v1044 : BitVec 32) (k2_t31 : Fin (k2_t31_loop v1044).trips) : Fin 3 → Nat :=
  let c2_i32_3223 : BitVec 32 := 2#32
  let v3628 : Index := Scalar.indexCast c2_i32_3223
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3629 : Index := Scalar.indexCast arg21
  let c16_3224 : Index := 16#32
  ![2, v3629.toNat, 16]

def k2_chk160 (v3634 : IVec S16 32) : Prop :=
  (∀ a x, ((![v3634] : Fin 1 → IVec S16 32) a x).toNat < S512.size a) ∧
  (∀ a x, ((![v3634] : Fin 1 → IVec S16 32) a x).toNat < S512.size a)
theorem k2_idx264_inb : ∀ (v3634 : IVec S16 32) (k2_hw160 : k2_chk160 v3634), ∀ a x, ((![v3634] : Fin 1 → IVec S16 32) a x).toNat < S512.size a := fun v3634 k2_hw160 => k2_hw160.1
theorem k2_idx265_inb : ∀ (v3634 : IVec S16 32) (k2_hw160 : k2_chk160 v3634), ∀ a x, ((![v3634] : Fin 1 → IVec S16 32) a x).toNat < S512.size a := fun v3634 k2_hw160 => k2_hw160.2
def k2_off125 (v1044 : BitVec 32) (k2_t31 : Fin (k2_t31_loop v1044).trips) : Fin 3 → Nat :=
  let c2_i32_3227 : BitVec 32 := 2#32
  let v3639 : Index := Scalar.indexCast c2_i32_3227
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3640 : Index := Scalar.indexCast arg21
  let c32_3228 : Index := 32#32
  ![2, v3640.toNat, 32]

def k2_chk161 (v3645 : IVec S16 32) : Prop :=
  (∀ a x, ((![v3645] : Fin 1 → IVec S16 32) a x).toNat < S512.size a) ∧
  (∀ a x, ((![v3645] : Fin 1 → IVec S16 32) a x).toNat < S512.size a)
theorem k2_idx266_inb : ∀ (v3645 : IVec S16 32) (k2_hw161 : k2_chk161 v3645), ∀ a x, ((![v3645] : Fin 1 → IVec S16 32) a x).toNat < S512.size a := fun v3645 k2_hw161 => k2_hw161.1
theorem k2_idx267_inb : ∀ (v3645 : IVec S16 32) (k2_hw161 : k2_chk161 v3645), ∀ a x, ((![v3645] : Fin 1 → IVec S16 32) a x).toNat < S512.size a := fun v3645 k2_hw161 => k2_hw161.2
def k2_off126 (v1044 : BitVec 32) (k2_t31 : Fin (k2_t31_loop v1044).trips) : Fin 3 → Nat :=
  let c2_i32_3231 : BitVec 32 := 2#32
  let v3650 : Index := Scalar.indexCast c2_i32_3231
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3651 : Index := Scalar.indexCast arg21
  let c48_3232 : Index := 48#32
  ![2, v3651.toNat, 48]

def k2_chk162 (v3656 : IVec S16 32) : Prop :=
  (∀ a x, ((![v3656] : Fin 1 → IVec S16 32) a x).toNat < S512.size a) ∧
  (∀ a x, ((![v3656] : Fin 1 → IVec S16 32) a x).toNat < S512.size a)
theorem k2_idx268_inb : ∀ (v3656 : IVec S16 32) (k2_hw162 : k2_chk162 v3656), ∀ a x, ((![v3656] : Fin 1 → IVec S16 32) a x).toNat < S512.size a := fun v3656 k2_hw162 => k2_hw162.1
theorem k2_idx269_inb : ∀ (v3656 : IVec S16 32) (k2_hw162 : k2_chk162 v3656), ∀ a x, ((![v3656] : Fin 1 → IVec S16 32) a x).toNat < S512.size a := fun v3656 k2_hw162 => k2_hw162.2
def k2_off127 (v1044 : BitVec 32) (k2_t31 : Fin (k2_t31_loop v1044).trips) : Fin 3 → Nat :=
  let c2_i32_3234 : BitVec 32 := 2#32
  let v3661 : Index := Scalar.indexCast c2_i32_3234
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3662 : Index := Scalar.indexCast arg21
  let c64_3235 : Index := 64#32
  ![2, v3662.toNat, 64]

def k2_chk163 (v3667 : IVec S16 32) : Prop :=
  (∀ a x, ((![v3667] : Fin 1 → IVec S16 32) a x).toNat < S512.size a) ∧
  (∀ a x, ((![v3667] : Fin 1 → IVec S16 32) a x).toNat < S512.size a)
theorem k2_idx270_inb : ∀ (v3667 : IVec S16 32) (k2_hw163 : k2_chk163 v3667), ∀ a x, ((![v3667] : Fin 1 → IVec S16 32) a x).toNat < S512.size a := fun v3667 k2_hw163 => k2_hw163.1
theorem k2_idx271_inb : ∀ (v3667 : IVec S16 32) (k2_hw163 : k2_chk163 v3667), ∀ a x, ((![v3667] : Fin 1 → IVec S16 32) a x).toNat < S512.size a := fun v3667 k2_hw163 => k2_hw163.2
def k2_off128 (v1044 : BitVec 32) (k2_t31 : Fin (k2_t31_loop v1044).trips) : Fin 3 → Nat :=
  let c2_i32_3237 : BitVec 32 := 2#32
  let v3672 : Index := Scalar.indexCast c2_i32_3237
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3673 : Index := Scalar.indexCast arg21
  let c80_3238 : Index := 80#32
  ![2, v3673.toNat, 80]

def k2_chk164 (v3678 : IVec S16 32) : Prop :=
  (∀ a x, ((![v3678] : Fin 1 → IVec S16 32) a x).toNat < S512.size a) ∧
  (∀ a x, ((![v3678] : Fin 1 → IVec S16 32) a x).toNat < S512.size a)
theorem k2_idx272_inb : ∀ (v3678 : IVec S16 32) (k2_hw164 : k2_chk164 v3678), ∀ a x, ((![v3678] : Fin 1 → IVec S16 32) a x).toNat < S512.size a := fun v3678 k2_hw164 => k2_hw164.1
theorem k2_idx273_inb : ∀ (v3678 : IVec S16 32) (k2_hw164 : k2_chk164 v3678), ∀ a x, ((![v3678] : Fin 1 → IVec S16 32) a x).toNat < S512.size a := fun v3678 k2_hw164 => k2_hw164.2
def k2_off129 (v1044 : BitVec 32) (k2_t31 : Fin (k2_t31_loop v1044).trips) : Fin 3 → Nat :=
  let c2_i32_3240 : BitVec 32 := 2#32
  let v3683 : Index := Scalar.indexCast c2_i32_3240
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3684 : Index := Scalar.indexCast arg21
  let c96_3241 : Index := 96#32
  ![2, v3684.toNat, 96]

def k2_chk165 (v3689 : IVec S16 32) : Prop :=
  (∀ a x, ((![v3689] : Fin 1 → IVec S16 32) a x).toNat < S512.size a) ∧
  (∀ a x, ((![v3689] : Fin 1 → IVec S16 32) a x).toNat < S512.size a)
theorem k2_idx274_inb : ∀ (v3689 : IVec S16 32) (k2_hw165 : k2_chk165 v3689), ∀ a x, ((![v3689] : Fin 1 → IVec S16 32) a x).toNat < S512.size a := fun v3689 k2_hw165 => k2_hw165.1
theorem k2_idx275_inb : ∀ (v3689 : IVec S16 32) (k2_hw165 : k2_chk165 v3689), ∀ a x, ((![v3689] : Fin 1 → IVec S16 32) a x).toNat < S512.size a := fun v3689 k2_hw165 => k2_hw165.2
def k2_off130 (v1044 : BitVec 32) (k2_t31 : Fin (k2_t31_loop v1044).trips) : Fin 3 → Nat :=
  let c2_i32_3243 : BitVec 32 := 2#32
  let v3694 : Index := Scalar.indexCast c2_i32_3243
  let c0_i32_1548 : BitVec 32 := 0#32
  let c128_i32_856 : BitVec 32 := 128#32
  let v1045 : BitVec 32 := Scalar.minsi v1044 c128_i32_856
  let v1801 : BitVec 32 := Scalar.subi v1045 c0_i32_1548
  let c1_i32_1549 : BitVec 32 := 1#32
  let v1803 : BitVec 32 := Scalar.divsi v1801 c1_i32_1549
  let v1804 : BitVec 32 := Scalar.muli v1803 c1_i32_1549
  let v1805 : BitVec 32 := Scalar.addi c0_i32_1548 v1804
  let c1_i32_1551 : BitVec 32 := 1#32
  let arg21 : BitVec 32 := Scf.iv v1805 c1_i32_1551 k2_t31
  let v3695 : Index := Scalar.indexCast arg21
  let c112_3244 : Index := 112#32
  ![2, v3695.toNat, 112]

def k2_chk148 (v1044 : BitVec 32) : Prop :=
  ((k2_t30_loop v1044).OK) ∧
  (∀ k2_t30 : Fin (k2_t30_loop v1044).trips, ∀ a, (k2_off115 v1044 k2_t30) a + S1x1x16.size a ≤ S4x128x128.size a) ∧
  (∀ k2_t30 : Fin (k2_t30_loop v1044).trips, ∀ a, (k2_off116 v1044 k2_t30) a + S1x1x16.size a ≤ S4x128x128.size a) ∧
  (∀ k2_t30 : Fin (k2_t30_loop v1044).trips, ∀ a, (k2_off117 v1044 k2_t30) a + S1x1x16.size a ≤ S4x128x128.size a) ∧
  (∀ k2_t30 : Fin (k2_t30_loop v1044).trips, ∀ a, (k2_off118 v1044 k2_t30) a + S1x1x16.size a ≤ S4x128x128.size a) ∧
  (∀ k2_t30 : Fin (k2_t30_loop v1044).trips, ∀ a, (k2_off119 v1044 k2_t30) a + S1x1x16.size a ≤ S4x128x128.size a) ∧
  (∀ k2_t30 : Fin (k2_t30_loop v1044).trips, ∀ a, (k2_off120 v1044 k2_t30) a + S1x1x16.size a ≤ S4x128x128.size a) ∧
  (∀ k2_t30 : Fin (k2_t30_loop v1044).trips, ∀ a, (k2_off121 v1044 k2_t30) a + S1x1x16.size a ≤ S4x128x128.size a) ∧
  (∀ k2_t30 : Fin (k2_t30_loop v1044).trips, ∀ a, (k2_off122 v1044 k2_t30) a + S1x1x16.size a ≤ S4x128x128.size a) ∧
  ((k2_t31_loop v1044).OK) ∧
  (∀ k2_t31 : Fin (k2_t31_loop v1044).trips, ∀ a, (k2_off123 v1044 k2_t31) a + S1x1x16.size a ≤ S4x128x128.size a) ∧
  (∀ k2_t31 : Fin (k2_t31_loop v1044).trips, ∀ a, (k2_off124 v1044 k2_t31) a + S1x1x16.size a ≤ S4x128x128.size a) ∧
  (∀ k2_t31 : Fin (k2_t31_loop v1044).trips, ∀ a, (k2_off125 v1044 k2_t31) a + S1x1x16.size a ≤ S4x128x128.size a) ∧
  (∀ k2_t31 : Fin (k2_t31_loop v1044).trips, ∀ a, (k2_off126 v1044 k2_t31) a + S1x1x16.size a ≤ S4x128x128.size a) ∧
  (∀ k2_t31 : Fin (k2_t31_loop v1044).trips, ∀ a, (k2_off127 v1044 k2_t31) a + S1x1x16.size a ≤ S4x128x128.size a) ∧
  (∀ k2_t31 : Fin (k2_t31_loop v1044).trips, ∀ a, (k2_off128 v1044 k2_t31) a + S1x1x16.size a ≤ S4x128x128.size a) ∧
  (∀ k2_t31 : Fin (k2_t31_loop v1044).trips, ∀ a, (k2_off129 v1044 k2_t31) a + S1x1x16.size a ≤ S4x128x128.size a) ∧
  (∀ k2_t31 : Fin (k2_t31_loop v1044).trips, ∀ a, (k2_off130 v1044 k2_t31) a + S1x1x16.size a ≤ S4x128x128.size a)
theorem k2_t30_ok : ∀ (v1044 : BitVec 32) (k2_hw148 : k2_chk148 v1044), (k2_t30_loop v1044).OK := fun v1044 k2_hw148 => k2_hw148.1
theorem k2_off115_inb : ∀ (v1044 : BitVec 32) (k2_hw148 : k2_chk148 v1044) (k2_t30 : Fin (k2_t30_loop v1044).trips), ∀ a, (k2_off115 v1044 k2_t30) a + S1x1x16.size a ≤ S4x128x128.size a := fun v1044 k2_hw148 k2_t30 => k2_hw148.2.1 k2_t30
theorem k2_off116_inb : ∀ (v1044 : BitVec 32) (k2_hw148 : k2_chk148 v1044) (k2_t30 : Fin (k2_t30_loop v1044).trips), ∀ a, (k2_off116 v1044 k2_t30) a + S1x1x16.size a ≤ S4x128x128.size a := fun v1044 k2_hw148 k2_t30 => k2_hw148.2.2.1 k2_t30
theorem k2_off117_inb : ∀ (v1044 : BitVec 32) (k2_hw148 : k2_chk148 v1044) (k2_t30 : Fin (k2_t30_loop v1044).trips), ∀ a, (k2_off117 v1044 k2_t30) a + S1x1x16.size a ≤ S4x128x128.size a := fun v1044 k2_hw148 k2_t30 => k2_hw148.2.2.2.1 k2_t30
theorem k2_off118_inb : ∀ (v1044 : BitVec 32) (k2_hw148 : k2_chk148 v1044) (k2_t30 : Fin (k2_t30_loop v1044).trips), ∀ a, (k2_off118 v1044 k2_t30) a + S1x1x16.size a ≤ S4x128x128.size a := fun v1044 k2_hw148 k2_t30 => k2_hw148.2.2.2.2.1 k2_t30
theorem k2_off119_inb : ∀ (v1044 : BitVec 32) (k2_hw148 : k2_chk148 v1044) (k2_t30 : Fin (k2_t30_loop v1044).trips), ∀ a, (k2_off119 v1044 k2_t30) a + S1x1x16.size a ≤ S4x128x128.size a := fun v1044 k2_hw148 k2_t30 => k2_hw148.2.2.2.2.2.1 k2_t30
theorem k2_off120_inb : ∀ (v1044 : BitVec 32) (k2_hw148 : k2_chk148 v1044) (k2_t30 : Fin (k2_t30_loop v1044).trips), ∀ a, (k2_off120 v1044 k2_t30) a + S1x1x16.size a ≤ S4x128x128.size a := fun v1044 k2_hw148 k2_t30 => k2_hw148.2.2.2.2.2.2.1 k2_t30
theorem k2_off121_inb : ∀ (v1044 : BitVec 32) (k2_hw148 : k2_chk148 v1044) (k2_t30 : Fin (k2_t30_loop v1044).trips), ∀ a, (k2_off121 v1044 k2_t30) a + S1x1x16.size a ≤ S4x128x128.size a := fun v1044 k2_hw148 k2_t30 => k2_hw148.2.2.2.2.2.2.2.1 k2_t30
theorem k2_off122_inb : ∀ (v1044 : BitVec 32) (k2_hw148 : k2_chk148 v1044) (k2_t30 : Fin (k2_t30_loop v1044).trips), ∀ a, (k2_off122 v1044 k2_t30) a + S1x1x16.size a ≤ S4x128x128.size a := fun v1044 k2_hw148 k2_t30 => k2_hw148.2.2.2.2.2.2.2.2.1 k2_t30
theorem k2_t31_ok : ∀ (v1044 : BitVec 32) (k2_hw148 : k2_chk148 v1044), (k2_t31_loop v1044).OK := fun v1044 k2_hw148 => k2_hw148.2.2.2.2.2.2.2.2.2.1
theorem k2_off123_inb : ∀ (v1044 : BitVec 32) (k2_hw148 : k2_chk148 v1044) (k2_t31 : Fin (k2_t31_loop v1044).trips), ∀ a, (k2_off123 v1044 k2_t31) a + S1x1x16.size a ≤ S4x128x128.size a := fun v1044 k2_hw148 k2_t31 => k2_hw148.2.2.2.2.2.2.2.2.2.2.1 k2_t31
theorem k2_off124_inb : ∀ (v1044 : BitVec 32) (k2_hw148 : k2_chk148 v1044) (k2_t31 : Fin (k2_t31_loop v1044).trips), ∀ a, (k2_off124 v1044 k2_t31) a + S1x1x16.size a ≤ S4x128x128.size a := fun v1044 k2_hw148 k2_t31 => k2_hw148.2.2.2.2.2.2.2.2.2.2.2.1 k2_t31
theorem k2_off125_inb : ∀ (v1044 : BitVec 32) (k2_hw148 : k2_chk148 v1044) (k2_t31 : Fin (k2_t31_loop v1044).trips), ∀ a, (k2_off125 v1044 k2_t31) a + S1x1x16.size a ≤ S4x128x128.size a := fun v1044 k2_hw148 k2_t31 => k2_hw148.2.2.2.2.2.2.2.2.2.2.2.2.1 k2_t31
theorem k2_off126_inb : ∀ (v1044 : BitVec 32) (k2_hw148 : k2_chk148 v1044) (k2_t31 : Fin (k2_t31_loop v1044).trips), ∀ a, (k2_off126 v1044 k2_t31) a + S1x1x16.size a ≤ S4x128x128.size a := fun v1044 k2_hw148 k2_t31 => k2_hw148.2.2.2.2.2.2.2.2.2.2.2.2.2.1 k2_t31
theorem k2_off127_inb : ∀ (v1044 : BitVec 32) (k2_hw148 : k2_chk148 v1044) (k2_t31 : Fin (k2_t31_loop v1044).trips), ∀ a, (k2_off127 v1044 k2_t31) a + S1x1x16.size a ≤ S4x128x128.size a := fun v1044 k2_hw148 k2_t31 => k2_hw148.2.2.2.2.2.2.2.2.2.2.2.2.2.2.1 k2_t31
theorem k2_off128_inb : ∀ (v1044 : BitVec 32) (k2_hw148 : k2_chk148 v1044) (k2_t31 : Fin (k2_t31_loop v1044).trips), ∀ a, (k2_off128 v1044 k2_t31) a + S1x1x16.size a ≤ S4x128x128.size a := fun v1044 k2_hw148 k2_t31 => k2_hw148.2.2.2.2.2.2.2.2.2.2.2.2.2.2.2.1 k2_t31
theorem k2_off129_inb : ∀ (v1044 : BitVec 32) (k2_hw148 : k2_chk148 v1044) (k2_t31 : Fin (k2_t31_loop v1044).trips), ∀ a, (k2_off129 v1044 k2_t31) a + S1x1x16.size a ≤ S4x128x128.size a := fun v1044 k2_hw148 k2_t31 => k2_hw148.2.2.2.2.2.2.2.2.2.2.2.2.2.2.2.2.1 k2_t31
theorem k2_off130_inb : ∀ (v1044 : BitVec 32) (k2_hw148 : k2_chk148 v1044) (k2_t31 : Fin (k2_t31_loop v1044).trips), ∀ a, (k2_off130 v1044 k2_t31) a + S1x1x16.size a ≤ S4x128x128.size a := fun v1044 k2_hw148 k2_t31 => k2_hw148.2.2.2.2.2.2.2.2.2.2.2.2.2.2.2.2.2 k2_t31

def k2_chk166 (v3700 : IVec S16 32) : Prop :=
  (∀ a x, ((![v3700] : Fin 1 → IVec S16 32) a x).toNat < S512.size a) ∧
  (∀ a x, ((![v3700] : Fin 1 → IVec S16 32) a x).toNat < S512.size a)
theorem k2_idx276_inb : ∀ (v3700 : IVec S16 32) (k2_hw166 : k2_chk166 v3700), ∀ a x, ((![v3700] : Fin 1 → IVec S16 32) a x).toNat < S512.size a := fun v3700 k2_hw166 => k2_hw166.1
theorem k2_idx277_inb : ∀ (v3700 : IVec S16 32) (k2_hw166 : k2_chk166 v3700), ∀ a x, ((![v3700] : Fin 1 → IVec S16 32) a x).toNat < S512.size a := fun v3700 k2_hw166 => k2_hw166.2
@[reducible] def k2_t32_loop : Scf.Loop 32 :=
  let c0_i32_1601 : BitVec 32 := 0#32
  let c32_i32_1602 : BitVec 32 := 32#32
  let v1857 : BitVec 32 := Scalar.addi c0_i32_1601 c32_i32_1602
  let c1_i32_1603 : BitVec 32 := 1#32
  ⟨c0_i32_1601, v1857, c1_i32_1603⟩
def k2_off131 (k2_t32 : Fin k2_t32_loop.trips) : Fin 1 → Nat :=
  let c0_i32_1601 : BitVec 32 := 0#32
  let c1_i32_1603 : BitVec 32 := 1#32
  let arg21 : BitVec 32 := Scf.iv c0_i32_1601 c1_i32_1603 k2_t32
  let c16_i32_3217 : BitVec 32 := 16#32
  let v3610 : BitVec 32 := Scalar.muli arg21 c16_i32_3217
  let v3611 : Index := Scalar.indexCast v3610
  ![v3611.toNat]

def k2_chk167 (v1856 : IVec S16 32) (v3625 : IVec S16 32) : Prop :=
  (∀ a x, ((![v1856, v3625] : Fin 2 → IVec S16 32) a x).toNat < S16x256.size a) ∧
  (∀ a x, ((![v1856, v3625] : Fin 2 → IVec S16 32) a x).toNat < S16x256.size a)
theorem k2_idx278_inb : ∀ (v1856 : IVec S16 32) (v3625 : IVec S16 32) (k2_hw167 : k2_chk167 v1856 v3625), ∀ a x, ((![v1856, v3625] : Fin 2 → IVec S16 32) a x).toNat < S16x256.size a := fun v1856 v3625 k2_hw167 => k2_hw167.1
theorem k2_idx279_inb : ∀ (v1856 : IVec S16 32) (v3625 : IVec S16 32) (k2_hw167 : k2_chk167 v1856 v3625), ∀ a x, ((![v1856, v3625] : Fin 2 → IVec S16 32) a x).toNat < S16x256.size a := fun v1856 v3625 k2_hw167 => k2_hw167.2

def k2_chk168 (v1861 : IVec S16 32) : Prop :=
  (∀ a x, ((![v1861] : Fin 1 → IVec S16 32) a x).toNat < S128.size a)
theorem k2_idx280_inb : ∀ (v1861 : IVec S16 32) (k2_hw168 : k2_chk168 v1861), ∀ a x, ((![v1861] : Fin 1 → IVec S16 32) a x).toNat < S128.size a := fun v1861 k2_hw168 => k2_hw168
@[reducible] def k2_t33_loop : Scf.Loop 32 :=
  let c0_i32_1630 : BitVec 32 := 0#32
  let c49_i32_1631 : BitVec 32 := 49#32
  let v1887 : BitVec 32 := Scalar.addi c0_i32_1630 c49_i32_1631
  let c1_i32_1632 : BitVec 32 := 1#32
  ⟨c0_i32_1630, v1887, c1_i32_1632⟩
def k2_off132 (k2_t33 : Fin k2_t33_loop.trips) : Fin 2 → Nat :=
  let c10_i32_3218 : BitVec 32 := 10#32
  let v3611 : Index := Scalar.indexCast c10_i32_3218
  let c0_i32_1630 : BitVec 32 := 0#32
  let c1_i32_1632 : BitVec 32 := 1#32
  let arg21 : BitVec 32 := Scf.iv c0_i32_1630 c1_i32_1632 k2_t33
  let c16_i32_3217 : BitVec 32 := 16#32
  let v3610 : BitVec 32 := Scalar.muli arg21 c16_i32_3217
  let v3612 : Index := Scalar.indexCast v3610
  ![10, v3612.toNat]

def k2_chk169 (v3621 : IVec S16 32) : Prop :=
  (∀ a x, ((![v3621] : Fin 1 → IVec S16 32) a x).toNat < S128.size a)
theorem k2_idx281_inb : ∀ (v3621 : IVec S16 32) (k2_hw169 : k2_chk169 v3621), ∀ a x, ((![v3621] : Fin 1 → IVec S16 32) a x).toNat < S128.size a := fun v3621 k2_hw169 => k2_hw169

def k2_chk170 (v1958 : IVec S16 32) : Prop :=
  (∀ a x, ((![v1958] : Fin 1 → IVec S16 32) a x).toNat < S128.size a)
theorem k2_idx282_inb : ∀ (v1958 : IVec S16 32) (k2_hw170 : k2_chk170 v1958), ∀ a x, ((![v1958] : Fin 1 → IVec S16 32) a x).toNat < S128.size a := fun v1958 k2_hw170 => k2_hw170
@[reducible] def k2_t34_loop (v1269 : BitVec 32) : Scf.Loop 32 :=
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1753 : BitVec 32 := 1#32
  ⟨c0_i32_1751, v2030, c1_i32_1753⟩

def k2_chk172 (v3610 : IVec S16 32) : Prop :=
  (∀ a x, ((![v3610] : Fin 1 → IVec S16 32) a x).toNat < S128.size a)
theorem k2_idx283_inb : ∀ (v3610 : IVec S16 32) (k2_hw172 : k2_chk172 v3610), ∀ a x, ((![v3610] : Fin 1 → IVec S16 32) a x).toNat < S128.size a := fun v3610 k2_hw172 => k2_hw172
def k2_off133 (v1269 : BitVec 32) (k2_t34 : Fin (k2_t34_loop v1269).trips) : Fin 3 → Nat :=
  let c3_i32_3220 : BitVec 32 := 3#32
  let v3617 : Index := Scalar.indexCast c3_i32_3220
  let c0_i32_1751 : BitVec 32 := 0#32
  let c1_i32_1753 : BitVec 32 := 1#32
  let arg21 : BitVec 32 := Scf.iv c0_i32_1751 c1_i32_1753 k2_t34
  let v3618 : Index := Scalar.indexCast arg21
  let c0_3221 : Index := 0#32
  ![3, v3618.toNat, 0]

def k2_chk173 (v3623 : IVec S16 32) : Prop :=
  (∀ a x, ((![v3623] : Fin 1 → IVec S16 32) a x).toNat < S512.size a) ∧
  (∀ a x, ((![v3623] : Fin 1 → IVec S16 32) a x).toNat < S512.size a)
theorem k2_idx284_inb : ∀ (v3623 : IVec S16 32) (k2_hw173 : k2_chk173 v3623), ∀ a x, ((![v3623] : Fin 1 → IVec S16 32) a x).toNat < S512.size a := fun v3623 k2_hw173 => k2_hw173.1
theorem k2_idx285_inb : ∀ (v3623 : IVec S16 32) (k2_hw173 : k2_chk173 v3623), ∀ a x, ((![v3623] : Fin 1 → IVec S16 32) a x).toNat < S512.size a := fun v3623 k2_hw173 => k2_hw173.2
def k2_off134 (v1269 : BitVec 32) (k2_t34 : Fin (k2_t34_loop v1269).trips) : Fin 3 → Nat :=
  let c3_i32_3223 : BitVec 32 := 3#32
  let v3628 : Index := Scalar.indexCast c3_i32_3223
  let c0_i32_1751 : BitVec 32 := 0#32
  let c1_i32_1753 : BitVec 32 := 1#32
  let arg21 : BitVec 32 := Scf.iv c0_i32_1751 c1_i32_1753 k2_t34
  let v3629 : Index := Scalar.indexCast arg21
  let c16_3224 : Index := 16#32
  ![3, v3629.toNat, 16]

def k2_chk174 (v3634 : IVec S16 32) : Prop :=
  (∀ a x, ((![v3634] : Fin 1 → IVec S16 32) a x).toNat < S512.size a) ∧
  (∀ a x, ((![v3634] : Fin 1 → IVec S16 32) a x).toNat < S512.size a)
theorem k2_idx286_inb : ∀ (v3634 : IVec S16 32) (k2_hw174 : k2_chk174 v3634), ∀ a x, ((![v3634] : Fin 1 → IVec S16 32) a x).toNat < S512.size a := fun v3634 k2_hw174 => k2_hw174.1
theorem k2_idx287_inb : ∀ (v3634 : IVec S16 32) (k2_hw174 : k2_chk174 v3634), ∀ a x, ((![v3634] : Fin 1 → IVec S16 32) a x).toNat < S512.size a := fun v3634 k2_hw174 => k2_hw174.2
def k2_off135 (v1269 : BitVec 32) (k2_t34 : Fin (k2_t34_loop v1269).trips) : Fin 3 → Nat :=
  let c3_i32_3227 : BitVec 32 := 3#32
  let v3639 : Index := Scalar.indexCast c3_i32_3227
  let c0_i32_1751 : BitVec 32 := 0#32
  let c1_i32_1753 : BitVec 32 := 1#32
  let arg21 : BitVec 32 := Scf.iv c0_i32_1751 c1_i32_1753 k2_t34
  let v3640 : Index := Scalar.indexCast arg21
  let c32_3228 : Index := 32#32
  ![3, v3640.toNat, 32]

def k2_chk175 (v3645 : IVec S16 32) : Prop :=
  (∀ a x, ((![v3645] : Fin 1 → IVec S16 32) a x).toNat < S512.size a) ∧
  (∀ a x, ((![v3645] : Fin 1 → IVec S16 32) a x).toNat < S512.size a)
theorem k2_idx288_inb : ∀ (v3645 : IVec S16 32) (k2_hw175 : k2_chk175 v3645), ∀ a x, ((![v3645] : Fin 1 → IVec S16 32) a x).toNat < S512.size a := fun v3645 k2_hw175 => k2_hw175.1
theorem k2_idx289_inb : ∀ (v3645 : IVec S16 32) (k2_hw175 : k2_chk175 v3645), ∀ a x, ((![v3645] : Fin 1 → IVec S16 32) a x).toNat < S512.size a := fun v3645 k2_hw175 => k2_hw175.2
def k2_off136 (v1269 : BitVec 32) (k2_t34 : Fin (k2_t34_loop v1269).trips) : Fin 3 → Nat :=
  let c3_i32_3231 : BitVec 32 := 3#32
  let v3650 : Index := Scalar.indexCast c3_i32_3231
  let c0_i32_1751 : BitVec 32 := 0#32
  let c1_i32_1753 : BitVec 32 := 1#32
  let arg21 : BitVec 32 := Scf.iv c0_i32_1751 c1_i32_1753 k2_t34
  let v3651 : Index := Scalar.indexCast arg21
  let c48_3232 : Index := 48#32
  ![3, v3651.toNat, 48]

def k2_chk176 (v3656 : IVec S16 32) : Prop :=
  (∀ a x, ((![v3656] : Fin 1 → IVec S16 32) a x).toNat < S512.size a) ∧
  (∀ a x, ((![v3656] : Fin 1 → IVec S16 32) a x).toNat < S512.size a)
theorem k2_idx290_inb : ∀ (v3656 : IVec S16 32) (k2_hw176 : k2_chk176 v3656), ∀ a x, ((![v3656] : Fin 1 → IVec S16 32) a x).toNat < S512.size a := fun v3656 k2_hw176 => k2_hw176.1
theorem k2_idx291_inb : ∀ (v3656 : IVec S16 32) (k2_hw176 : k2_chk176 v3656), ∀ a x, ((![v3656] : Fin 1 → IVec S16 32) a x).toNat < S512.size a := fun v3656 k2_hw176 => k2_hw176.2
def k2_off137 (v1269 : BitVec 32) (k2_t34 : Fin (k2_t34_loop v1269).trips) : Fin 3 → Nat :=
  let c3_i32_3234 : BitVec 32 := 3#32
  let v3661 : Index := Scalar.indexCast c3_i32_3234
  let c0_i32_1751 : BitVec 32 := 0#32
  let c1_i32_1753 : BitVec 32 := 1#32
  let arg21 : BitVec 32 := Scf.iv c0_i32_1751 c1_i32_1753 k2_t34
  let v3662 : Index := Scalar.indexCast arg21
  let c64_3235 : Index := 64#32
  ![3, v3662.toNat, 64]

def k2_chk177 (v3667 : IVec S16 32) : Prop :=
  (∀ a x, ((![v3667] : Fin 1 → IVec S16 32) a x).toNat < S512.size a) ∧
  (∀ a x, ((![v3667] : Fin 1 → IVec S16 32) a x).toNat < S512.size a)
theorem k2_idx292_inb : ∀ (v3667 : IVec S16 32) (k2_hw177 : k2_chk177 v3667), ∀ a x, ((![v3667] : Fin 1 → IVec S16 32) a x).toNat < S512.size a := fun v3667 k2_hw177 => k2_hw177.1
theorem k2_idx293_inb : ∀ (v3667 : IVec S16 32) (k2_hw177 : k2_chk177 v3667), ∀ a x, ((![v3667] : Fin 1 → IVec S16 32) a x).toNat < S512.size a := fun v3667 k2_hw177 => k2_hw177.2
def k2_off138 (v1269 : BitVec 32) (k2_t34 : Fin (k2_t34_loop v1269).trips) : Fin 3 → Nat :=
  let c3_i32_3237 : BitVec 32 := 3#32
  let v3672 : Index := Scalar.indexCast c3_i32_3237
  let c0_i32_1751 : BitVec 32 := 0#32
  let c1_i32_1753 : BitVec 32 := 1#32
  let arg21 : BitVec 32 := Scf.iv c0_i32_1751 c1_i32_1753 k2_t34
  let v3673 : Index := Scalar.indexCast arg21
  let c80_3238 : Index := 80#32
  ![3, v3673.toNat, 80]

def k2_chk178 (v3678 : IVec S16 32) : Prop :=
  (∀ a x, ((![v3678] : Fin 1 → IVec S16 32) a x).toNat < S512.size a) ∧
  (∀ a x, ((![v3678] : Fin 1 → IVec S16 32) a x).toNat < S512.size a)
theorem k2_idx294_inb : ∀ (v3678 : IVec S16 32) (k2_hw178 : k2_chk178 v3678), ∀ a x, ((![v3678] : Fin 1 → IVec S16 32) a x).toNat < S512.size a := fun v3678 k2_hw178 => k2_hw178.1
theorem k2_idx295_inb : ∀ (v3678 : IVec S16 32) (k2_hw178 : k2_chk178 v3678), ∀ a x, ((![v3678] : Fin 1 → IVec S16 32) a x).toNat < S512.size a := fun v3678 k2_hw178 => k2_hw178.2
def k2_off139 (v1269 : BitVec 32) (k2_t34 : Fin (k2_t34_loop v1269).trips) : Fin 3 → Nat :=
  let c3_i32_3240 : BitVec 32 := 3#32
  let v3683 : Index := Scalar.indexCast c3_i32_3240
  let c0_i32_1751 : BitVec 32 := 0#32
  let c1_i32_1753 : BitVec 32 := 1#32
  let arg21 : BitVec 32 := Scf.iv c0_i32_1751 c1_i32_1753 k2_t34
  let v3684 : Index := Scalar.indexCast arg21
  let c96_3241 : Index := 96#32
  ![3, v3684.toNat, 96]

def k2_chk179 (v3689 : IVec S16 32) : Prop :=
  (∀ a x, ((![v3689] : Fin 1 → IVec S16 32) a x).toNat < S512.size a) ∧
  (∀ a x, ((![v3689] : Fin 1 → IVec S16 32) a x).toNat < S512.size a)
theorem k2_idx296_inb : ∀ (v3689 : IVec S16 32) (k2_hw179 : k2_chk179 v3689), ∀ a x, ((![v3689] : Fin 1 → IVec S16 32) a x).toNat < S512.size a := fun v3689 k2_hw179 => k2_hw179.1
theorem k2_idx297_inb : ∀ (v3689 : IVec S16 32) (k2_hw179 : k2_chk179 v3689), ∀ a x, ((![v3689] : Fin 1 → IVec S16 32) a x).toNat < S512.size a := fun v3689 k2_hw179 => k2_hw179.2
def k2_off140 (v1269 : BitVec 32) (k2_t34 : Fin (k2_t34_loop v1269).trips) : Fin 3 → Nat :=
  let c3_i32_3243 : BitVec 32 := 3#32
  let v3694 : Index := Scalar.indexCast c3_i32_3243
  let c0_i32_1751 : BitVec 32 := 0#32
  let c1_i32_1753 : BitVec 32 := 1#32
  let arg21 : BitVec 32 := Scf.iv c0_i32_1751 c1_i32_1753 k2_t34
  let v3695 : Index := Scalar.indexCast arg21
  let c112_3244 : Index := 112#32
  ![3, v3695.toNat, 112]

def k2_chk180 (v3700 : IVec S16 32) : Prop :=
  (∀ a x, ((![v3700] : Fin 1 → IVec S16 32) a x).toNat < S512.size a) ∧
  (∀ a x, ((![v3700] : Fin 1 → IVec S16 32) a x).toNat < S512.size a)
theorem k2_idx298_inb : ∀ (v3700 : IVec S16 32) (k2_hw180 : k2_chk180 v3700), ∀ a x, ((![v3700] : Fin 1 → IVec S16 32) a x).toNat < S512.size a := fun v3700 k2_hw180 => k2_hw180.1
theorem k2_idx299_inb : ∀ (v3700 : IVec S16 32) (k2_hw180 : k2_chk180 v3700), ∀ a x, ((![v3700] : Fin 1 → IVec S16 32) a x).toNat < S512.size a := fun v3700 k2_hw180 => k2_hw180.2
@[reducible] def k2_t35_loop (v1269 : BitVec 32) : Scf.Loop 32 :=
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let v2027 : BitVec 32 := Scalar.addi c0_i32_1751 v2026
  let c1_i32_1754 : BitVec 32 := 1#32
  ⟨v2030, v2027, c1_i32_1754⟩

def k2_chk181 (v3610 : IVec S16 32) : Prop :=
  (∀ a x, ((![v3610] : Fin 1 → IVec S16 32) a x).toNat < S128.size a)
theorem k2_idx300_inb : ∀ (v3610 : IVec S16 32) (k2_hw181 : k2_chk181 v3610), ∀ a x, ((![v3610] : Fin 1 → IVec S16 32) a x).toNat < S128.size a := fun v3610 k2_hw181 => k2_hw181
def k2_off141 (v1269 : BitVec 32) (k2_t35 : Fin (k2_t35_loop v1269).trips) : Fin 3 → Nat :=
  let c3_i32_3220 : BitVec 32 := 3#32
  let v3617 : Index := Scalar.indexCast c3_i32_3220
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3618 : Index := Scalar.indexCast arg21
  let c0_3221 : Index := 0#32
  ![3, v3618.toNat, 0]

def k2_chk182 (v3623 : IVec S16 32) : Prop :=
  (∀ a x, ((![v3623] : Fin 1 → IVec S16 32) a x).toNat < S512.size a) ∧
  (∀ a x, ((![v3623] : Fin 1 → IVec S16 32) a x).toNat < S512.size a)
theorem k2_idx301_inb : ∀ (v3623 : IVec S16 32) (k2_hw182 : k2_chk182 v3623), ∀ a x, ((![v3623] : Fin 1 → IVec S16 32) a x).toNat < S512.size a := fun v3623 k2_hw182 => k2_hw182.1
theorem k2_idx302_inb : ∀ (v3623 : IVec S16 32) (k2_hw182 : k2_chk182 v3623), ∀ a x, ((![v3623] : Fin 1 → IVec S16 32) a x).toNat < S512.size a := fun v3623 k2_hw182 => k2_hw182.2
def k2_off142 (v1269 : BitVec 32) (k2_t35 : Fin (k2_t35_loop v1269).trips) : Fin 3 → Nat :=
  let c3_i32_3223 : BitVec 32 := 3#32
  let v3628 : Index := Scalar.indexCast c3_i32_3223
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3629 : Index := Scalar.indexCast arg21
  let c16_3224 : Index := 16#32
  ![3, v3629.toNat, 16]

def k2_chk183 (v3634 : IVec S16 32) : Prop :=
  (∀ a x, ((![v3634] : Fin 1 → IVec S16 32) a x).toNat < S512.size a) ∧
  (∀ a x, ((![v3634] : Fin 1 → IVec S16 32) a x).toNat < S512.size a)
theorem k2_idx303_inb : ∀ (v3634 : IVec S16 32) (k2_hw183 : k2_chk183 v3634), ∀ a x, ((![v3634] : Fin 1 → IVec S16 32) a x).toNat < S512.size a := fun v3634 k2_hw183 => k2_hw183.1
theorem k2_idx304_inb : ∀ (v3634 : IVec S16 32) (k2_hw183 : k2_chk183 v3634), ∀ a x, ((![v3634] : Fin 1 → IVec S16 32) a x).toNat < S512.size a := fun v3634 k2_hw183 => k2_hw183.2
def k2_off143 (v1269 : BitVec 32) (k2_t35 : Fin (k2_t35_loop v1269).trips) : Fin 3 → Nat :=
  let c3_i32_3227 : BitVec 32 := 3#32
  let v3639 : Index := Scalar.indexCast c3_i32_3227
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3640 : Index := Scalar.indexCast arg21
  let c32_3228 : Index := 32#32
  ![3, v3640.toNat, 32]

def k2_chk184 (v3645 : IVec S16 32) : Prop :=
  (∀ a x, ((![v3645] : Fin 1 → IVec S16 32) a x).toNat < S512.size a) ∧
  (∀ a x, ((![v3645] : Fin 1 → IVec S16 32) a x).toNat < S512.size a)
theorem k2_idx305_inb : ∀ (v3645 : IVec S16 32) (k2_hw184 : k2_chk184 v3645), ∀ a x, ((![v3645] : Fin 1 → IVec S16 32) a x).toNat < S512.size a := fun v3645 k2_hw184 => k2_hw184.1
theorem k2_idx306_inb : ∀ (v3645 : IVec S16 32) (k2_hw184 : k2_chk184 v3645), ∀ a x, ((![v3645] : Fin 1 → IVec S16 32) a x).toNat < S512.size a := fun v3645 k2_hw184 => k2_hw184.2
def k2_off144 (v1269 : BitVec 32) (k2_t35 : Fin (k2_t35_loop v1269).trips) : Fin 3 → Nat :=
  let c3_i32_3231 : BitVec 32 := 3#32
  let v3650 : Index := Scalar.indexCast c3_i32_3231
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3651 : Index := Scalar.indexCast arg21
  let c48_3232 : Index := 48#32
  ![3, v3651.toNat, 48]

def k2_chk185 (v3656 : IVec S16 32) : Prop :=
  (∀ a x, ((![v3656] : Fin 1 → IVec S16 32) a x).toNat < S512.size a) ∧
  (∀ a x, ((![v3656] : Fin 1 → IVec S16 32) a x).toNat < S512.size a)
theorem k2_idx307_inb : ∀ (v3656 : IVec S16 32) (k2_hw185 : k2_chk185 v3656), ∀ a x, ((![v3656] : Fin 1 → IVec S16 32) a x).toNat < S512.size a := fun v3656 k2_hw185 => k2_hw185.1
theorem k2_idx308_inb : ∀ (v3656 : IVec S16 32) (k2_hw185 : k2_chk185 v3656), ∀ a x, ((![v3656] : Fin 1 → IVec S16 32) a x).toNat < S512.size a := fun v3656 k2_hw185 => k2_hw185.2
def k2_off145 (v1269 : BitVec 32) (k2_t35 : Fin (k2_t35_loop v1269).trips) : Fin 3 → Nat :=
  let c3_i32_3234 : BitVec 32 := 3#32
  let v3661 : Index := Scalar.indexCast c3_i32_3234
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3662 : Index := Scalar.indexCast arg21
  let c64_3235 : Index := 64#32
  ![3, v3662.toNat, 64]

def k2_chk186 (v3667 : IVec S16 32) : Prop :=
  (∀ a x, ((![v3667] : Fin 1 → IVec S16 32) a x).toNat < S512.size a) ∧
  (∀ a x, ((![v3667] : Fin 1 → IVec S16 32) a x).toNat < S512.size a)
theorem k2_idx309_inb : ∀ (v3667 : IVec S16 32) (k2_hw186 : k2_chk186 v3667), ∀ a x, ((![v3667] : Fin 1 → IVec S16 32) a x).toNat < S512.size a := fun v3667 k2_hw186 => k2_hw186.1
theorem k2_idx310_inb : ∀ (v3667 : IVec S16 32) (k2_hw186 : k2_chk186 v3667), ∀ a x, ((![v3667] : Fin 1 → IVec S16 32) a x).toNat < S512.size a := fun v3667 k2_hw186 => k2_hw186.2
def k2_off146 (v1269 : BitVec 32) (k2_t35 : Fin (k2_t35_loop v1269).trips) : Fin 3 → Nat :=
  let c3_i32_3237 : BitVec 32 := 3#32
  let v3672 : Index := Scalar.indexCast c3_i32_3237
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3673 : Index := Scalar.indexCast arg21
  let c80_3238 : Index := 80#32
  ![3, v3673.toNat, 80]

def k2_chk187 (v3678 : IVec S16 32) : Prop :=
  (∀ a x, ((![v3678] : Fin 1 → IVec S16 32) a x).toNat < S512.size a) ∧
  (∀ a x, ((![v3678] : Fin 1 → IVec S16 32) a x).toNat < S512.size a)
theorem k2_idx311_inb : ∀ (v3678 : IVec S16 32) (k2_hw187 : k2_chk187 v3678), ∀ a x, ((![v3678] : Fin 1 → IVec S16 32) a x).toNat < S512.size a := fun v3678 k2_hw187 => k2_hw187.1
theorem k2_idx312_inb : ∀ (v3678 : IVec S16 32) (k2_hw187 : k2_chk187 v3678), ∀ a x, ((![v3678] : Fin 1 → IVec S16 32) a x).toNat < S512.size a := fun v3678 k2_hw187 => k2_hw187.2
def k2_off147 (v1269 : BitVec 32) (k2_t35 : Fin (k2_t35_loop v1269).trips) : Fin 3 → Nat :=
  let c3_i32_3240 : BitVec 32 := 3#32
  let v3683 : Index := Scalar.indexCast c3_i32_3240
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3684 : Index := Scalar.indexCast arg21
  let c96_3241 : Index := 96#32
  ![3, v3684.toNat, 96]

def k2_chk188 (v3689 : IVec S16 32) : Prop :=
  (∀ a x, ((![v3689] : Fin 1 → IVec S16 32) a x).toNat < S512.size a) ∧
  (∀ a x, ((![v3689] : Fin 1 → IVec S16 32) a x).toNat < S512.size a)
theorem k2_idx313_inb : ∀ (v3689 : IVec S16 32) (k2_hw188 : k2_chk188 v3689), ∀ a x, ((![v3689] : Fin 1 → IVec S16 32) a x).toNat < S512.size a := fun v3689 k2_hw188 => k2_hw188.1
theorem k2_idx314_inb : ∀ (v3689 : IVec S16 32) (k2_hw188 : k2_chk188 v3689), ∀ a x, ((![v3689] : Fin 1 → IVec S16 32) a x).toNat < S512.size a := fun v3689 k2_hw188 => k2_hw188.2
def k2_off148 (v1269 : BitVec 32) (k2_t35 : Fin (k2_t35_loop v1269).trips) : Fin 3 → Nat :=
  let c3_i32_3243 : BitVec 32 := 3#32
  let v3694 : Index := Scalar.indexCast c3_i32_3243
  let c0_i32_1751 : BitVec 32 := 0#32
  let c128_i32_1059 : BitVec 32 := 128#32
  let v1270 : BitVec 32 := Scalar.minsi v1269 c128_i32_1059
  let v2026 : BitVec 32 := Scalar.subi v1270 c0_i32_1751
  let c1_i32_1752 : BitVec 32 := 1#32
  let v2028 : BitVec 32 := Scalar.divsi v2026 c1_i32_1752
  let v2029 : BitVec 32 := Scalar.muli v2028 c1_i32_1752
  let v2030 : BitVec 32 := Scalar.addi c0_i32_1751 v2029
  let c1_i32_1754 : BitVec 32 := 1#32
  let arg21 : BitVec 32 := Scf.iv v2030 c1_i32_1754 k2_t35
  let v3695 : Index := Scalar.indexCast arg21
  let c112_3244 : Index := 112#32
  ![3, v3695.toNat, 112]

def k2_chk171 (v1269 : BitVec 32) : Prop :=
  ((k2_t34_loop v1269).OK) ∧
  (∀ k2_t34 : Fin (k2_t34_loop v1269).trips, ∀ a, (k2_off133 v1269 k2_t34) a + S1x1x16.size a ≤ S4x128x128.size a) ∧
  (∀ k2_t34 : Fin (k2_t34_loop v1269).trips, ∀ a, (k2_off134 v1269 k2_t34) a + S1x1x16.size a ≤ S4x128x128.size a) ∧
  (∀ k2_t34 : Fin (k2_t34_loop v1269).trips, ∀ a, (k2_off135 v1269 k2_t34) a + S1x1x16.size a ≤ S4x128x128.size a) ∧
  (∀ k2_t34 : Fin (k2_t34_loop v1269).trips, ∀ a, (k2_off136 v1269 k2_t34) a + S1x1x16.size a ≤ S4x128x128.size a) ∧
  (∀ k2_t34 : Fin (k2_t34_loop v1269).trips, ∀ a, (k2_off137 v1269 k2_t34) a + S1x1x16.size a ≤ S4x128x128.size a) ∧
  (∀ k2_t34 : Fin (k2_t34_loop v1269).trips, ∀ a, (k2_off138 v1269 k2_t34) a + S1x1x16.size a ≤ S4x128x128.size a) ∧
  (∀ k2_t34 : Fin (k2_t34_loop v1269).trips, ∀ a, (k2_off139 v1269 k2_t34) a + S1x1x16.size a ≤ S4x128x128.size a) ∧
  (∀ k2_t34 : Fin (k2_t34_loop v1269).trips, ∀ a, (k2_off140 v1269 k2_t34) a + S1x1x16.size a ≤ S4x128x128.size a) ∧
  ((k2_t35_loop v1269).OK) ∧
  (∀ k2_t35 : Fin (k2_t35_loop v1269).trips, ∀ a, (k2_off141 v1269 k2_t35) a + S1x1x16.size a ≤ S4x128x128.size a) ∧
  (∀ k2_t35 : Fin (k2_t35_loop v1269).trips, ∀ a, (k2_off142 v1269 k2_t35) a + S1x1x16.size a ≤ S4x128x128.size a) ∧
  (∀ k2_t35 : Fin (k2_t35_loop v1269).trips, ∀ a, (k2_off143 v1269 k2_t35) a + S1x1x16.size a ≤ S4x128x128.size a) ∧
  (∀ k2_t35 : Fin (k2_t35_loop v1269).trips, ∀ a, (k2_off144 v1269 k2_t35) a + S1x1x16.size a ≤ S4x128x128.size a) ∧
  (∀ k2_t35 : Fin (k2_t35_loop v1269).trips, ∀ a, (k2_off145 v1269 k2_t35) a + S1x1x16.size a ≤ S4x128x128.size a) ∧
  (∀ k2_t35 : Fin (k2_t35_loop v1269).trips, ∀ a, (k2_off146 v1269 k2_t35) a + S1x1x16.size a ≤ S4x128x128.size a) ∧
  (∀ k2_t35 : Fin (k2_t35_loop v1269).trips, ∀ a, (k2_off147 v1269 k2_t35) a + S1x1x16.size a ≤ S4x128x128.size a) ∧
  (∀ k2_t35 : Fin (k2_t35_loop v1269).trips, ∀ a, (k2_off148 v1269 k2_t35) a + S1x1x16.size a ≤ S4x128x128.size a)
theorem k2_t34_ok : ∀ (v1269 : BitVec 32) (k2_hw171 : k2_chk171 v1269), (k2_t34_loop v1269).OK := fun v1269 k2_hw171 => k2_hw171.1
theorem k2_off133_inb : ∀ (v1269 : BitVec 32) (k2_hw171 : k2_chk171 v1269) (k2_t34 : Fin (k2_t34_loop v1269).trips), ∀ a, (k2_off133 v1269 k2_t34) a + S1x1x16.size a ≤ S4x128x128.size a := fun v1269 k2_hw171 k2_t34 => k2_hw171.2.1 k2_t34
theorem k2_off134_inb : ∀ (v1269 : BitVec 32) (k2_hw171 : k2_chk171 v1269) (k2_t34 : Fin (k2_t34_loop v1269).trips), ∀ a, (k2_off134 v1269 k2_t34) a + S1x1x16.size a ≤ S4x128x128.size a := fun v1269 k2_hw171 k2_t34 => k2_hw171.2.2.1 k2_t34
theorem k2_off135_inb : ∀ (v1269 : BitVec 32) (k2_hw171 : k2_chk171 v1269) (k2_t34 : Fin (k2_t34_loop v1269).trips), ∀ a, (k2_off135 v1269 k2_t34) a + S1x1x16.size a ≤ S4x128x128.size a := fun v1269 k2_hw171 k2_t34 => k2_hw171.2.2.2.1 k2_t34
theorem k2_off136_inb : ∀ (v1269 : BitVec 32) (k2_hw171 : k2_chk171 v1269) (k2_t34 : Fin (k2_t34_loop v1269).trips), ∀ a, (k2_off136 v1269 k2_t34) a + S1x1x16.size a ≤ S4x128x128.size a := fun v1269 k2_hw171 k2_t34 => k2_hw171.2.2.2.2.1 k2_t34
theorem k2_off137_inb : ∀ (v1269 : BitVec 32) (k2_hw171 : k2_chk171 v1269) (k2_t34 : Fin (k2_t34_loop v1269).trips), ∀ a, (k2_off137 v1269 k2_t34) a + S1x1x16.size a ≤ S4x128x128.size a := fun v1269 k2_hw171 k2_t34 => k2_hw171.2.2.2.2.2.1 k2_t34
theorem k2_off138_inb : ∀ (v1269 : BitVec 32) (k2_hw171 : k2_chk171 v1269) (k2_t34 : Fin (k2_t34_loop v1269).trips), ∀ a, (k2_off138 v1269 k2_t34) a + S1x1x16.size a ≤ S4x128x128.size a := fun v1269 k2_hw171 k2_t34 => k2_hw171.2.2.2.2.2.2.1 k2_t34
theorem k2_off139_inb : ∀ (v1269 : BitVec 32) (k2_hw171 : k2_chk171 v1269) (k2_t34 : Fin (k2_t34_loop v1269).trips), ∀ a, (k2_off139 v1269 k2_t34) a + S1x1x16.size a ≤ S4x128x128.size a := fun v1269 k2_hw171 k2_t34 => k2_hw171.2.2.2.2.2.2.2.1 k2_t34
theorem k2_off140_inb : ∀ (v1269 : BitVec 32) (k2_hw171 : k2_chk171 v1269) (k2_t34 : Fin (k2_t34_loop v1269).trips), ∀ a, (k2_off140 v1269 k2_t34) a + S1x1x16.size a ≤ S4x128x128.size a := fun v1269 k2_hw171 k2_t34 => k2_hw171.2.2.2.2.2.2.2.2.1 k2_t34
theorem k2_t35_ok : ∀ (v1269 : BitVec 32) (k2_hw171 : k2_chk171 v1269), (k2_t35_loop v1269).OK := fun v1269 k2_hw171 => k2_hw171.2.2.2.2.2.2.2.2.2.1
theorem k2_off141_inb : ∀ (v1269 : BitVec 32) (k2_hw171 : k2_chk171 v1269) (k2_t35 : Fin (k2_t35_loop v1269).trips), ∀ a, (k2_off141 v1269 k2_t35) a + S1x1x16.size a ≤ S4x128x128.size a := fun v1269 k2_hw171 k2_t35 => k2_hw171.2.2.2.2.2.2.2.2.2.2.1 k2_t35
theorem k2_off142_inb : ∀ (v1269 : BitVec 32) (k2_hw171 : k2_chk171 v1269) (k2_t35 : Fin (k2_t35_loop v1269).trips), ∀ a, (k2_off142 v1269 k2_t35) a + S1x1x16.size a ≤ S4x128x128.size a := fun v1269 k2_hw171 k2_t35 => k2_hw171.2.2.2.2.2.2.2.2.2.2.2.1 k2_t35
theorem k2_off143_inb : ∀ (v1269 : BitVec 32) (k2_hw171 : k2_chk171 v1269) (k2_t35 : Fin (k2_t35_loop v1269).trips), ∀ a, (k2_off143 v1269 k2_t35) a + S1x1x16.size a ≤ S4x128x128.size a := fun v1269 k2_hw171 k2_t35 => k2_hw171.2.2.2.2.2.2.2.2.2.2.2.2.1 k2_t35
theorem k2_off144_inb : ∀ (v1269 : BitVec 32) (k2_hw171 : k2_chk171 v1269) (k2_t35 : Fin (k2_t35_loop v1269).trips), ∀ a, (k2_off144 v1269 k2_t35) a + S1x1x16.size a ≤ S4x128x128.size a := fun v1269 k2_hw171 k2_t35 => k2_hw171.2.2.2.2.2.2.2.2.2.2.2.2.2.1 k2_t35
theorem k2_off145_inb : ∀ (v1269 : BitVec 32) (k2_hw171 : k2_chk171 v1269) (k2_t35 : Fin (k2_t35_loop v1269).trips), ∀ a, (k2_off145 v1269 k2_t35) a + S1x1x16.size a ≤ S4x128x128.size a := fun v1269 k2_hw171 k2_t35 => k2_hw171.2.2.2.2.2.2.2.2.2.2.2.2.2.2.1 k2_t35
theorem k2_off146_inb : ∀ (v1269 : BitVec 32) (k2_hw171 : k2_chk171 v1269) (k2_t35 : Fin (k2_t35_loop v1269).trips), ∀ a, (k2_off146 v1269 k2_t35) a + S1x1x16.size a ≤ S4x128x128.size a := fun v1269 k2_hw171 k2_t35 => k2_hw171.2.2.2.2.2.2.2.2.2.2.2.2.2.2.2.1 k2_t35
theorem k2_off147_inb : ∀ (v1269 : BitVec 32) (k2_hw171 : k2_chk171 v1269) (k2_t35 : Fin (k2_t35_loop v1269).trips), ∀ a, (k2_off147 v1269 k2_t35) a + S1x1x16.size a ≤ S4x128x128.size a := fun v1269 k2_hw171 k2_t35 => k2_hw171.2.2.2.2.2.2.2.2.2.2.2.2.2.2.2.2.1 k2_t35
theorem k2_off148_inb : ∀ (v1269 : BitVec 32) (k2_hw171 : k2_chk171 v1269) (k2_t35 : Fin (k2_t35_loop v1269).trips), ∀ a, (k2_off148 v1269 k2_t35) a + S1x1x16.size a ≤ S4x128x128.size a := fun v1269 k2_hw171 k2_t35 => k2_hw171.2.2.2.2.2.2.2.2.2.2.2.2.2.2.2.2.2 k2_t35

def k2_chk189 (v3700 : IVec S16 32) : Prop :=
  (∀ a x, ((![v3700] : Fin 1 → IVec S16 32) a x).toNat < S512.size a) ∧
  (∀ a x, ((![v3700] : Fin 1 → IVec S16 32) a x).toNat < S512.size a)
theorem k2_idx315_inb : ∀ (v3700 : IVec S16 32) (k2_hw189 : k2_chk189 v3700), ∀ a x, ((![v3700] : Fin 1 → IVec S16 32) a x).toNat < S512.size a := fun v3700 k2_hw189 => k2_hw189.1
theorem k2_idx316_inb : ∀ (v3700 : IVec S16 32) (k2_hw189 : k2_chk189 v3700), ∀ a x, ((![v3700] : Fin 1 → IVec S16 32) a x).toNat < S512.size a := fun v3700 k2_hw189 => k2_hw189.2
@[reducible] def k2_t36_loop : Scf.Loop 32 :=
  let c0_i32_1804 : BitVec 32 := 0#32
  let c32_i32_1805 : BitVec 32 := 32#32
  let v2082 : BitVec 32 := Scalar.addi c0_i32_1804 c32_i32_1805
  let c1_i32_1806 : BitVec 32 := 1#32
  ⟨c0_i32_1804, v2082, c1_i32_1806⟩
def k2_off149 (k2_t36 : Fin k2_t36_loop.trips) : Fin 1 → Nat :=
  let c0_i32_1804 : BitVec 32 := 0#32
  let c1_i32_1806 : BitVec 32 := 1#32
  let arg21 : BitVec 32 := Scf.iv c0_i32_1804 c1_i32_1806 k2_t36
  let c16_i32_3217 : BitVec 32 := 16#32
  let v3610 : BitVec 32 := Scalar.muli arg21 c16_i32_3217
  let v3611 : Index := Scalar.indexCast v3610
  ![v3611.toNat]

def k2_chk190 (v2081 : IVec S16 32) (v3625 : IVec S16 32) : Prop :=
  (∀ a x, ((![v2081, v3625] : Fin 2 → IVec S16 32) a x).toNat < S16x256.size a) ∧
  (∀ a x, ((![v2081, v3625] : Fin 2 → IVec S16 32) a x).toNat < S16x256.size a)
theorem k2_idx317_inb : ∀ (v2081 : IVec S16 32) (v3625 : IVec S16 32) (k2_hw190 : k2_chk190 v2081 v3625), ∀ a x, ((![v2081, v3625] : Fin 2 → IVec S16 32) a x).toNat < S16x256.size a := fun v2081 v3625 k2_hw190 => k2_hw190.1
theorem k2_idx318_inb : ∀ (v2081 : IVec S16 32) (v3625 : IVec S16 32) (k2_hw190 : k2_chk190 v2081 v3625), ∀ a x, ((![v2081, v3625] : Fin 2 → IVec S16 32) a x).toNat < S16x256.size a := fun v2081 v3625 k2_hw190 => k2_hw190.2

def k2_chk191 (v2086 : IVec S16 32) : Prop :=
  (∀ a x, ((![v2086] : Fin 1 → IVec S16 32) a x).toNat < S128.size a)
theorem k2_idx319_inb : ∀ (v2086 : IVec S16 32) (k2_hw191 : k2_chk191 v2086), ∀ a x, ((![v2086] : Fin 1 → IVec S16 32) a x).toNat < S128.size a := fun v2086 k2_hw191 => k2_hw191
@[reducible] def k2_t37_loop : Scf.Loop 32 :=
  let c0_i32_1833 : BitVec 32 := 0#32
  let c49_i32_1834 : BitVec 32 := 49#32
  let v2112 : BitVec 32 := Scalar.addi c0_i32_1833 c49_i32_1834
  let c1_i32_1835 : BitVec 32 := 1#32
  ⟨c0_i32_1833, v2112, c1_i32_1835⟩
def k2_off150 (k2_t37 : Fin k2_t37_loop.trips) : Fin 2 → Nat :=
  let c11_i32_3218 : BitVec 32 := 11#32
  let v3611 : Index := Scalar.indexCast c11_i32_3218
  let c0_i32_1833 : BitVec 32 := 0#32
  let c1_i32_1835 : BitVec 32 := 1#32
  let arg21 : BitVec 32 := Scf.iv c0_i32_1833 c1_i32_1835 k2_t37
  let c16_i32_3217 : BitVec 32 := 16#32
  let v3610 : BitVec 32 := Scalar.muli arg21 c16_i32_3217
  let v3612 : Index := Scalar.indexCast v3610
  ![11, v3612.toNat]

def k2_chk192 (v3621 : IVec S16 32) : Prop :=
  (∀ a x, ((![v3621] : Fin 1 → IVec S16 32) a x).toNat < S128.size a)
theorem k2_idx320_inb : ∀ (v3621 : IVec S16 32) (k2_hw192 : k2_chk192 v3621), ∀ a x, ((![v3621] : Fin 1 → IVec S16 32) a x).toNat < S128.size a := fun v3621 k2_hw192 => k2_hw192

def k2_chk193 (v2183 : IVec S16 32) : Prop :=
  (∀ a x, ((![v2183] : Fin 1 → IVec S16 32) a x).toNat < S128.size a)
theorem k2_idx321_inb : ∀ (v2183 : IVec S16 32) (k2_hw193 : k2_chk193 v2183), ∀ a x, ((![v2183] : Fin 1 → IVec S16 32) a x).toNat < S128.size a := fun v2183 k2_hw193 => k2_hw193
@[reducible] def k2_t38_loop (v1494 : BitVec 32) : Scf.Loop 32 :=
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1956 : BitVec 32 := 1#32
  ⟨c0_i32_1954, v2255, c1_i32_1956⟩

def k2_chk195 (v3610 : IVec S16 32) : Prop :=
  (∀ a x, ((![v3610] : Fin 1 → IVec S16 32) a x).toNat < S128.size a)
theorem k2_idx322_inb : ∀ (v3610 : IVec S16 32) (k2_hw195 : k2_chk195 v3610), ∀ a x, ((![v3610] : Fin 1 → IVec S16 32) a x).toNat < S128.size a := fun v3610 k2_hw195 => k2_hw195
def k2_off151 (v1494 : BitVec 32) (k2_t38 : Fin (k2_t38_loop v1494).trips) : Fin 3 → Nat :=
  let c0_i32_3220 : BitVec 32 := 0#32
  let v3617 : Index := Scalar.indexCast c0_i32_3220
  let c0_i32_1954 : BitVec 32 := 0#32
  let c1_i32_1956 : BitVec 32 := 1#32
  let arg21 : BitVec 32 := Scf.iv c0_i32_1954 c1_i32_1956 k2_t38
  let v3618 : Index := Scalar.indexCast arg21
  let c0_3221 : Index := 0#32
  ![0, v3618.toNat, 0]

def k2_chk196 (v3623 : IVec S16 32) : Prop :=
  (∀ a x, ((![v3623] : Fin 1 → IVec S16 32) a x).toNat < S512.size a) ∧
  (∀ a x, ((![v3623] : Fin 1 → IVec S16 32) a x).toNat < S512.size a)
theorem k2_idx323_inb : ∀ (v3623 : IVec S16 32) (k2_hw196 : k2_chk196 v3623), ∀ a x, ((![v3623] : Fin 1 → IVec S16 32) a x).toNat < S512.size a := fun v3623 k2_hw196 => k2_hw196.1
theorem k2_idx324_inb : ∀ (v3623 : IVec S16 32) (k2_hw196 : k2_chk196 v3623), ∀ a x, ((![v3623] : Fin 1 → IVec S16 32) a x).toNat < S512.size a := fun v3623 k2_hw196 => k2_hw196.2
def k2_off152 (v1494 : BitVec 32) (k2_t38 : Fin (k2_t38_loop v1494).trips) : Fin 3 → Nat :=
  let c0_i32_3223 : BitVec 32 := 0#32
  let v3628 : Index := Scalar.indexCast c0_i32_3223
  let c0_i32_1954 : BitVec 32 := 0#32
  let c1_i32_1956 : BitVec 32 := 1#32
  let arg21 : BitVec 32 := Scf.iv c0_i32_1954 c1_i32_1956 k2_t38
  let v3629 : Index := Scalar.indexCast arg21
  let c16_3224 : Index := 16#32
  ![0, v3629.toNat, 16]

def k2_chk197 (v3634 : IVec S16 32) : Prop :=
  (∀ a x, ((![v3634] : Fin 1 → IVec S16 32) a x).toNat < S512.size a) ∧
  (∀ a x, ((![v3634] : Fin 1 → IVec S16 32) a x).toNat < S512.size a)
theorem k2_idx325_inb : ∀ (v3634 : IVec S16 32) (k2_hw197 : k2_chk197 v3634), ∀ a x, ((![v3634] : Fin 1 → IVec S16 32) a x).toNat < S512.size a := fun v3634 k2_hw197 => k2_hw197.1
theorem k2_idx326_inb : ∀ (v3634 : IVec S16 32) (k2_hw197 : k2_chk197 v3634), ∀ a x, ((![v3634] : Fin 1 → IVec S16 32) a x).toNat < S512.size a := fun v3634 k2_hw197 => k2_hw197.2
def k2_off153 (v1494 : BitVec 32) (k2_t38 : Fin (k2_t38_loop v1494).trips) : Fin 3 → Nat :=
  let c0_i32_3227 : BitVec 32 := 0#32
  let v3639 : Index := Scalar.indexCast c0_i32_3227
  let c0_i32_1954 : BitVec 32 := 0#32
  let c1_i32_1956 : BitVec 32 := 1#32
  let arg21 : BitVec 32 := Scf.iv c0_i32_1954 c1_i32_1956 k2_t38
  let v3640 : Index := Scalar.indexCast arg21
  let c32_3228 : Index := 32#32
  ![0, v3640.toNat, 32]

def k2_chk198 (v3645 : IVec S16 32) : Prop :=
  (∀ a x, ((![v3645] : Fin 1 → IVec S16 32) a x).toNat < S512.size a) ∧
  (∀ a x, ((![v3645] : Fin 1 → IVec S16 32) a x).toNat < S512.size a)
theorem k2_idx327_inb : ∀ (v3645 : IVec S16 32) (k2_hw198 : k2_chk198 v3645), ∀ a x, ((![v3645] : Fin 1 → IVec S16 32) a x).toNat < S512.size a := fun v3645 k2_hw198 => k2_hw198.1
theorem k2_idx328_inb : ∀ (v3645 : IVec S16 32) (k2_hw198 : k2_chk198 v3645), ∀ a x, ((![v3645] : Fin 1 → IVec S16 32) a x).toNat < S512.size a := fun v3645 k2_hw198 => k2_hw198.2
def k2_off154 (v1494 : BitVec 32) (k2_t38 : Fin (k2_t38_loop v1494).trips) : Fin 3 → Nat :=
  let c0_i32_3231 : BitVec 32 := 0#32
  let v3650 : Index := Scalar.indexCast c0_i32_3231
  let c0_i32_1954 : BitVec 32 := 0#32
  let c1_i32_1956 : BitVec 32 := 1#32
  let arg21 : BitVec 32 := Scf.iv c0_i32_1954 c1_i32_1956 k2_t38
  let v3651 : Index := Scalar.indexCast arg21
  let c48_3232 : Index := 48#32
  ![0, v3651.toNat, 48]

def k2_chk199 (v3656 : IVec S16 32) : Prop :=
  (∀ a x, ((![v3656] : Fin 1 → IVec S16 32) a x).toNat < S512.size a) ∧
  (∀ a x, ((![v3656] : Fin 1 → IVec S16 32) a x).toNat < S512.size a)
theorem k2_idx329_inb : ∀ (v3656 : IVec S16 32) (k2_hw199 : k2_chk199 v3656), ∀ a x, ((![v3656] : Fin 1 → IVec S16 32) a x).toNat < S512.size a := fun v3656 k2_hw199 => k2_hw199.1
theorem k2_idx330_inb : ∀ (v3656 : IVec S16 32) (k2_hw199 : k2_chk199 v3656), ∀ a x, ((![v3656] : Fin 1 → IVec S16 32) a x).toNat < S512.size a := fun v3656 k2_hw199 => k2_hw199.2
def k2_off155 (v1494 : BitVec 32) (k2_t38 : Fin (k2_t38_loop v1494).trips) : Fin 3 → Nat :=
  let c0_i32_3234 : BitVec 32 := 0#32
  let v3661 : Index := Scalar.indexCast c0_i32_3234
  let c0_i32_1954 : BitVec 32 := 0#32
  let c1_i32_1956 : BitVec 32 := 1#32
  let arg21 : BitVec 32 := Scf.iv c0_i32_1954 c1_i32_1956 k2_t38
  let v3662 : Index := Scalar.indexCast arg21
  let c64_3235 : Index := 64#32
  ![0, v3662.toNat, 64]

def k2_chk200 (v3667 : IVec S16 32) : Prop :=
  (∀ a x, ((![v3667] : Fin 1 → IVec S16 32) a x).toNat < S512.size a) ∧
  (∀ a x, ((![v3667] : Fin 1 → IVec S16 32) a x).toNat < S512.size a)
theorem k2_idx331_inb : ∀ (v3667 : IVec S16 32) (k2_hw200 : k2_chk200 v3667), ∀ a x, ((![v3667] : Fin 1 → IVec S16 32) a x).toNat < S512.size a := fun v3667 k2_hw200 => k2_hw200.1
theorem k2_idx332_inb : ∀ (v3667 : IVec S16 32) (k2_hw200 : k2_chk200 v3667), ∀ a x, ((![v3667] : Fin 1 → IVec S16 32) a x).toNat < S512.size a := fun v3667 k2_hw200 => k2_hw200.2
def k2_off156 (v1494 : BitVec 32) (k2_t38 : Fin (k2_t38_loop v1494).trips) : Fin 3 → Nat :=
  let c0_i32_3237 : BitVec 32 := 0#32
  let v3672 : Index := Scalar.indexCast c0_i32_3237
  let c0_i32_1954 : BitVec 32 := 0#32
  let c1_i32_1956 : BitVec 32 := 1#32
  let arg21 : BitVec 32 := Scf.iv c0_i32_1954 c1_i32_1956 k2_t38
  let v3673 : Index := Scalar.indexCast arg21
  let c80_3238 : Index := 80#32
  ![0, v3673.toNat, 80]

def k2_chk201 (v3678 : IVec S16 32) : Prop :=
  (∀ a x, ((![v3678] : Fin 1 → IVec S16 32) a x).toNat < S512.size a) ∧
  (∀ a x, ((![v3678] : Fin 1 → IVec S16 32) a x).toNat < S512.size a)
theorem k2_idx333_inb : ∀ (v3678 : IVec S16 32) (k2_hw201 : k2_chk201 v3678), ∀ a x, ((![v3678] : Fin 1 → IVec S16 32) a x).toNat < S512.size a := fun v3678 k2_hw201 => k2_hw201.1
theorem k2_idx334_inb : ∀ (v3678 : IVec S16 32) (k2_hw201 : k2_chk201 v3678), ∀ a x, ((![v3678] : Fin 1 → IVec S16 32) a x).toNat < S512.size a := fun v3678 k2_hw201 => k2_hw201.2
def k2_off157 (v1494 : BitVec 32) (k2_t38 : Fin (k2_t38_loop v1494).trips) : Fin 3 → Nat :=
  let c0_i32_3240 : BitVec 32 := 0#32
  let v3683 : Index := Scalar.indexCast c0_i32_3240
  let c0_i32_1954 : BitVec 32 := 0#32
  let c1_i32_1956 : BitVec 32 := 1#32
  let arg21 : BitVec 32 := Scf.iv c0_i32_1954 c1_i32_1956 k2_t38
  let v3684 : Index := Scalar.indexCast arg21
  let c96_3241 : Index := 96#32
  ![0, v3684.toNat, 96]

def k2_chk202 (v3689 : IVec S16 32) : Prop :=
  (∀ a x, ((![v3689] : Fin 1 → IVec S16 32) a x).toNat < S512.size a) ∧
  (∀ a x, ((![v3689] : Fin 1 → IVec S16 32) a x).toNat < S512.size a)
theorem k2_idx335_inb : ∀ (v3689 : IVec S16 32) (k2_hw202 : k2_chk202 v3689), ∀ a x, ((![v3689] : Fin 1 → IVec S16 32) a x).toNat < S512.size a := fun v3689 k2_hw202 => k2_hw202.1
theorem k2_idx336_inb : ∀ (v3689 : IVec S16 32) (k2_hw202 : k2_chk202 v3689), ∀ a x, ((![v3689] : Fin 1 → IVec S16 32) a x).toNat < S512.size a := fun v3689 k2_hw202 => k2_hw202.2
def k2_off158 (v1494 : BitVec 32) (k2_t38 : Fin (k2_t38_loop v1494).trips) : Fin 3 → Nat :=
  let c0_i32_3243 : BitVec 32 := 0#32
  let v3694 : Index := Scalar.indexCast c0_i32_3243
  let c0_i32_1954 : BitVec 32 := 0#32
  let c1_i32_1956 : BitVec 32 := 1#32
  let arg21 : BitVec 32 := Scf.iv c0_i32_1954 c1_i32_1956 k2_t38
  let v3695 : Index := Scalar.indexCast arg21
  let c112_3244 : Index := 112#32
  ![0, v3695.toNat, 112]

def k2_chk203 (v3700 : IVec S16 32) : Prop :=
  (∀ a x, ((![v3700] : Fin 1 → IVec S16 32) a x).toNat < S512.size a) ∧
  (∀ a x, ((![v3700] : Fin 1 → IVec S16 32) a x).toNat < S512.size a)
theorem k2_idx337_inb : ∀ (v3700 : IVec S16 32) (k2_hw203 : k2_chk203 v3700), ∀ a x, ((![v3700] : Fin 1 → IVec S16 32) a x).toNat < S512.size a := fun v3700 k2_hw203 => k2_hw203.1
theorem k2_idx338_inb : ∀ (v3700 : IVec S16 32) (k2_hw203 : k2_chk203 v3700), ∀ a x, ((![v3700] : Fin 1 → IVec S16 32) a x).toNat < S512.size a := fun v3700 k2_hw203 => k2_hw203.2
@[reducible] def k2_t39_loop (v1494 : BitVec 32) : Scf.Loop 32 :=
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let v2252 : BitVec 32 := Scalar.addi c0_i32_1954 v2251
  let c1_i32_1957 : BitVec 32 := 1#32
  ⟨v2255, v2252, c1_i32_1957⟩

def k2_chk204 (v3610 : IVec S16 32) : Prop :=
  (∀ a x, ((![v3610] : Fin 1 → IVec S16 32) a x).toNat < S128.size a)
theorem k2_idx339_inb : ∀ (v3610 : IVec S16 32) (k2_hw204 : k2_chk204 v3610), ∀ a x, ((![v3610] : Fin 1 → IVec S16 32) a x).toNat < S128.size a := fun v3610 k2_hw204 => k2_hw204
def k2_off159 (v1494 : BitVec 32) (k2_t39 : Fin (k2_t39_loop v1494).trips) : Fin 3 → Nat :=
  let c0_i32_3220 : BitVec 32 := 0#32
  let v3617 : Index := Scalar.indexCast c0_i32_3220
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3618 : Index := Scalar.indexCast arg21
  let c0_3221 : Index := 0#32
  ![0, v3618.toNat, 0]

def k2_chk205 (v3623 : IVec S16 32) : Prop :=
  (∀ a x, ((![v3623] : Fin 1 → IVec S16 32) a x).toNat < S512.size a) ∧
  (∀ a x, ((![v3623] : Fin 1 → IVec S16 32) a x).toNat < S512.size a)
theorem k2_idx340_inb : ∀ (v3623 : IVec S16 32) (k2_hw205 : k2_chk205 v3623), ∀ a x, ((![v3623] : Fin 1 → IVec S16 32) a x).toNat < S512.size a := fun v3623 k2_hw205 => k2_hw205.1
theorem k2_idx341_inb : ∀ (v3623 : IVec S16 32) (k2_hw205 : k2_chk205 v3623), ∀ a x, ((![v3623] : Fin 1 → IVec S16 32) a x).toNat < S512.size a := fun v3623 k2_hw205 => k2_hw205.2
def k2_off160 (v1494 : BitVec 32) (k2_t39 : Fin (k2_t39_loop v1494).trips) : Fin 3 → Nat :=
  let c0_i32_3223 : BitVec 32 := 0#32
  let v3628 : Index := Scalar.indexCast c0_i32_3223
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3629 : Index := Scalar.indexCast arg21
  let c16_3224 : Index := 16#32
  ![0, v3629.toNat, 16]

def k2_chk206 (v3634 : IVec S16 32) : Prop :=
  (∀ a x, ((![v3634] : Fin 1 → IVec S16 32) a x).toNat < S512.size a) ∧
  (∀ a x, ((![v3634] : Fin 1 → IVec S16 32) a x).toNat < S512.size a)
theorem k2_idx342_inb : ∀ (v3634 : IVec S16 32) (k2_hw206 : k2_chk206 v3634), ∀ a x, ((![v3634] : Fin 1 → IVec S16 32) a x).toNat < S512.size a := fun v3634 k2_hw206 => k2_hw206.1
theorem k2_idx343_inb : ∀ (v3634 : IVec S16 32) (k2_hw206 : k2_chk206 v3634), ∀ a x, ((![v3634] : Fin 1 → IVec S16 32) a x).toNat < S512.size a := fun v3634 k2_hw206 => k2_hw206.2
def k2_off161 (v1494 : BitVec 32) (k2_t39 : Fin (k2_t39_loop v1494).trips) : Fin 3 → Nat :=
  let c0_i32_3227 : BitVec 32 := 0#32
  let v3639 : Index := Scalar.indexCast c0_i32_3227
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3640 : Index := Scalar.indexCast arg21
  let c32_3228 : Index := 32#32
  ![0, v3640.toNat, 32]

def k2_chk207 (v3645 : IVec S16 32) : Prop :=
  (∀ a x, ((![v3645] : Fin 1 → IVec S16 32) a x).toNat < S512.size a) ∧
  (∀ a x, ((![v3645] : Fin 1 → IVec S16 32) a x).toNat < S512.size a)
theorem k2_idx344_inb : ∀ (v3645 : IVec S16 32) (k2_hw207 : k2_chk207 v3645), ∀ a x, ((![v3645] : Fin 1 → IVec S16 32) a x).toNat < S512.size a := fun v3645 k2_hw207 => k2_hw207.1
theorem k2_idx345_inb : ∀ (v3645 : IVec S16 32) (k2_hw207 : k2_chk207 v3645), ∀ a x, ((![v3645] : Fin 1 → IVec S16 32) a x).toNat < S512.size a := fun v3645 k2_hw207 => k2_hw207.2
def k2_off162 (v1494 : BitVec 32) (k2_t39 : Fin (k2_t39_loop v1494).trips) : Fin 3 → Nat :=
  let c0_i32_3231 : BitVec 32 := 0#32
  let v3650 : Index := Scalar.indexCast c0_i32_3231
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3651 : Index := Scalar.indexCast arg21
  let c48_3232 : Index := 48#32
  ![0, v3651.toNat, 48]

def k2_chk208 (v3656 : IVec S16 32) : Prop :=
  (∀ a x, ((![v3656] : Fin 1 → IVec S16 32) a x).toNat < S512.size a) ∧
  (∀ a x, ((![v3656] : Fin 1 → IVec S16 32) a x).toNat < S512.size a)
theorem k2_idx346_inb : ∀ (v3656 : IVec S16 32) (k2_hw208 : k2_chk208 v3656), ∀ a x, ((![v3656] : Fin 1 → IVec S16 32) a x).toNat < S512.size a := fun v3656 k2_hw208 => k2_hw208.1
theorem k2_idx347_inb : ∀ (v3656 : IVec S16 32) (k2_hw208 : k2_chk208 v3656), ∀ a x, ((![v3656] : Fin 1 → IVec S16 32) a x).toNat < S512.size a := fun v3656 k2_hw208 => k2_hw208.2
def k2_off163 (v1494 : BitVec 32) (k2_t39 : Fin (k2_t39_loop v1494).trips) : Fin 3 → Nat :=
  let c0_i32_3234 : BitVec 32 := 0#32
  let v3661 : Index := Scalar.indexCast c0_i32_3234
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3662 : Index := Scalar.indexCast arg21
  let c64_3235 : Index := 64#32
  ![0, v3662.toNat, 64]

def k2_chk209 (v3667 : IVec S16 32) : Prop :=
  (∀ a x, ((![v3667] : Fin 1 → IVec S16 32) a x).toNat < S512.size a) ∧
  (∀ a x, ((![v3667] : Fin 1 → IVec S16 32) a x).toNat < S512.size a)
theorem k2_idx348_inb : ∀ (v3667 : IVec S16 32) (k2_hw209 : k2_chk209 v3667), ∀ a x, ((![v3667] : Fin 1 → IVec S16 32) a x).toNat < S512.size a := fun v3667 k2_hw209 => k2_hw209.1
theorem k2_idx349_inb : ∀ (v3667 : IVec S16 32) (k2_hw209 : k2_chk209 v3667), ∀ a x, ((![v3667] : Fin 1 → IVec S16 32) a x).toNat < S512.size a := fun v3667 k2_hw209 => k2_hw209.2
def k2_off164 (v1494 : BitVec 32) (k2_t39 : Fin (k2_t39_loop v1494).trips) : Fin 3 → Nat :=
  let c0_i32_3237 : BitVec 32 := 0#32
  let v3672 : Index := Scalar.indexCast c0_i32_3237
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3673 : Index := Scalar.indexCast arg21
  let c80_3238 : Index := 80#32
  ![0, v3673.toNat, 80]

def k2_chk210 (v3678 : IVec S16 32) : Prop :=
  (∀ a x, ((![v3678] : Fin 1 → IVec S16 32) a x).toNat < S512.size a) ∧
  (∀ a x, ((![v3678] : Fin 1 → IVec S16 32) a x).toNat < S512.size a)
theorem k2_idx350_inb : ∀ (v3678 : IVec S16 32) (k2_hw210 : k2_chk210 v3678), ∀ a x, ((![v3678] : Fin 1 → IVec S16 32) a x).toNat < S512.size a := fun v3678 k2_hw210 => k2_hw210.1
theorem k2_idx351_inb : ∀ (v3678 : IVec S16 32) (k2_hw210 : k2_chk210 v3678), ∀ a x, ((![v3678] : Fin 1 → IVec S16 32) a x).toNat < S512.size a := fun v3678 k2_hw210 => k2_hw210.2
def k2_off165 (v1494 : BitVec 32) (k2_t39 : Fin (k2_t39_loop v1494).trips) : Fin 3 → Nat :=
  let c0_i32_3240 : BitVec 32 := 0#32
  let v3683 : Index := Scalar.indexCast c0_i32_3240
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3684 : Index := Scalar.indexCast arg21
  let c96_3241 : Index := 96#32
  ![0, v3684.toNat, 96]

def k2_chk211 (v3689 : IVec S16 32) : Prop :=
  (∀ a x, ((![v3689] : Fin 1 → IVec S16 32) a x).toNat < S512.size a) ∧
  (∀ a x, ((![v3689] : Fin 1 → IVec S16 32) a x).toNat < S512.size a)
theorem k2_idx352_inb : ∀ (v3689 : IVec S16 32) (k2_hw211 : k2_chk211 v3689), ∀ a x, ((![v3689] : Fin 1 → IVec S16 32) a x).toNat < S512.size a := fun v3689 k2_hw211 => k2_hw211.1
theorem k2_idx353_inb : ∀ (v3689 : IVec S16 32) (k2_hw211 : k2_chk211 v3689), ∀ a x, ((![v3689] : Fin 1 → IVec S16 32) a x).toNat < S512.size a := fun v3689 k2_hw211 => k2_hw211.2
def k2_off166 (v1494 : BitVec 32) (k2_t39 : Fin (k2_t39_loop v1494).trips) : Fin 3 → Nat :=
  let c0_i32_3243 : BitVec 32 := 0#32
  let v3694 : Index := Scalar.indexCast c0_i32_3243
  let c0_i32_1954 : BitVec 32 := 0#32
  let c128_i32_1263 : BitVec 32 := 128#32
  let v1495 : BitVec 32 := Scalar.minsi v1494 c128_i32_1263
  let v2251 : BitVec 32 := Scalar.subi v1495 c0_i32_1954
  let c1_i32_1955 : BitVec 32 := 1#32
  let v2253 : BitVec 32 := Scalar.divsi v2251 c1_i32_1955
  let v2254 : BitVec 32 := Scalar.muli v2253 c1_i32_1955
  let v2255 : BitVec 32 := Scalar.addi c0_i32_1954 v2254
  let c1_i32_1957 : BitVec 32 := 1#32
  let arg21 : BitVec 32 := Scf.iv v2255 c1_i32_1957 k2_t39
  let v3695 : Index := Scalar.indexCast arg21
  let c112_3244 : Index := 112#32
  ![0, v3695.toNat, 112]

def k2_chk194 (v1494 : BitVec 32) : Prop :=
  ((k2_t38_loop v1494).OK) ∧
  (∀ k2_t38 : Fin (k2_t38_loop v1494).trips, ∀ a, (k2_off151 v1494 k2_t38) a + S1x1x16.size a ≤ S4x128x128.size a) ∧
  (∀ k2_t38 : Fin (k2_t38_loop v1494).trips, ∀ a, (k2_off152 v1494 k2_t38) a + S1x1x16.size a ≤ S4x128x128.size a) ∧
  (∀ k2_t38 : Fin (k2_t38_loop v1494).trips, ∀ a, (k2_off153 v1494 k2_t38) a + S1x1x16.size a ≤ S4x128x128.size a) ∧
  (∀ k2_t38 : Fin (k2_t38_loop v1494).trips, ∀ a, (k2_off154 v1494 k2_t38) a + S1x1x16.size a ≤ S4x128x128.size a) ∧
  (∀ k2_t38 : Fin (k2_t38_loop v1494).trips, ∀ a, (k2_off155 v1494 k2_t38) a + S1x1x16.size a ≤ S4x128x128.size a) ∧
  (∀ k2_t38 : Fin (k2_t38_loop v1494).trips, ∀ a, (k2_off156 v1494 k2_t38) a + S1x1x16.size a ≤ S4x128x128.size a) ∧
  (∀ k2_t38 : Fin (k2_t38_loop v1494).trips, ∀ a, (k2_off157 v1494 k2_t38) a + S1x1x16.size a ≤ S4x128x128.size a) ∧
  (∀ k2_t38 : Fin (k2_t38_loop v1494).trips, ∀ a, (k2_off158 v1494 k2_t38) a + S1x1x16.size a ≤ S4x128x128.size a) ∧
  ((k2_t39_loop v1494).OK) ∧
  (∀ k2_t39 : Fin (k2_t39_loop v1494).trips, ∀ a, (k2_off159 v1494 k2_t39) a + S1x1x16.size a ≤ S4x128x128.size a) ∧
  (∀ k2_t39 : Fin (k2_t39_loop v1494).trips, ∀ a, (k2_off160 v1494 k2_t39) a + S1x1x16.size a ≤ S4x128x128.size a) ∧
  (∀ k2_t39 : Fin (k2_t39_loop v1494).trips, ∀ a, (k2_off161 v1494 k2_t39) a + S1x1x16.size a ≤ S4x128x128.size a) ∧
  (∀ k2_t39 : Fin (k2_t39_loop v1494).trips, ∀ a, (k2_off162 v1494 k2_t39) a + S1x1x16.size a ≤ S4x128x128.size a) ∧
  (∀ k2_t39 : Fin (k2_t39_loop v1494).trips, ∀ a, (k2_off163 v1494 k2_t39) a + S1x1x16.size a ≤ S4x128x128.size a) ∧
  (∀ k2_t39 : Fin (k2_t39_loop v1494).trips, ∀ a, (k2_off164 v1494 k2_t39) a + S1x1x16.size a ≤ S4x128x128.size a) ∧
  (∀ k2_t39 : Fin (k2_t39_loop v1494).trips, ∀ a, (k2_off165 v1494 k2_t39) a + S1x1x16.size a ≤ S4x128x128.size a) ∧
  (∀ k2_t39 : Fin (k2_t39_loop v1494).trips, ∀ a, (k2_off166 v1494 k2_t39) a + S1x1x16.size a ≤ S4x128x128.size a)
theorem k2_t38_ok : ∀ (v1494 : BitVec 32) (k2_hw194 : k2_chk194 v1494), (k2_t38_loop v1494).OK := fun v1494 k2_hw194 => k2_hw194.1
theorem k2_off151_inb : ∀ (v1494 : BitVec 32) (k2_hw194 : k2_chk194 v1494) (k2_t38 : Fin (k2_t38_loop v1494).trips), ∀ a, (k2_off151 v1494 k2_t38) a + S1x1x16.size a ≤ S4x128x128.size a := fun v1494 k2_hw194 k2_t38 => k2_hw194.2.1 k2_t38
theorem k2_off152_inb : ∀ (v1494 : BitVec 32) (k2_hw194 : k2_chk194 v1494) (k2_t38 : Fin (k2_t38_loop v1494).trips), ∀ a, (k2_off152 v1494 k2_t38) a + S1x1x16.size a ≤ S4x128x128.size a := fun v1494 k2_hw194 k2_t38 => k2_hw194.2.2.1 k2_t38
theorem k2_off153_inb : ∀ (v1494 : BitVec 32) (k2_hw194 : k2_chk194 v1494) (k2_t38 : Fin (k2_t38_loop v1494).trips), ∀ a, (k2_off153 v1494 k2_t38) a + S1x1x16.size a ≤ S4x128x128.size a := fun v1494 k2_hw194 k2_t38 => k2_hw194.2.2.2.1 k2_t38
theorem k2_off154_inb : ∀ (v1494 : BitVec 32) (k2_hw194 : k2_chk194 v1494) (k2_t38 : Fin (k2_t38_loop v1494).trips), ∀ a, (k2_off154 v1494 k2_t38) a + S1x1x16.size a ≤ S4x128x128.size a := fun v1494 k2_hw194 k2_t38 => k2_hw194.2.2.2.2.1 k2_t38
theorem k2_off155_inb : ∀ (v1494 : BitVec 32) (k2_hw194 : k2_chk194 v1494) (k2_t38 : Fin (k2_t38_loop v1494).trips), ∀ a, (k2_off155 v1494 k2_t38) a + S1x1x16.size a ≤ S4x128x128.size a := fun v1494 k2_hw194 k2_t38 => k2_hw194.2.2.2.2.2.1 k2_t38
theorem k2_off156_inb : ∀ (v1494 : BitVec 32) (k2_hw194 : k2_chk194 v1494) (k2_t38 : Fin (k2_t38_loop v1494).trips), ∀ a, (k2_off156 v1494 k2_t38) a + S1x1x16.size a ≤ S4x128x128.size a := fun v1494 k2_hw194 k2_t38 => k2_hw194.2.2.2.2.2.2.1 k2_t38
theorem k2_off157_inb : ∀ (v1494 : BitVec 32) (k2_hw194 : k2_chk194 v1494) (k2_t38 : Fin (k2_t38_loop v1494).trips), ∀ a, (k2_off157 v1494 k2_t38) a + S1x1x16.size a ≤ S4x128x128.size a := fun v1494 k2_hw194 k2_t38 => k2_hw194.2.2.2.2.2.2.2.1 k2_t38
theorem k2_off158_inb : ∀ (v1494 : BitVec 32) (k2_hw194 : k2_chk194 v1494) (k2_t38 : Fin (k2_t38_loop v1494).trips), ∀ a, (k2_off158 v1494 k2_t38) a + S1x1x16.size a ≤ S4x128x128.size a := fun v1494 k2_hw194 k2_t38 => k2_hw194.2.2.2.2.2.2.2.2.1 k2_t38
theorem k2_t39_ok : ∀ (v1494 : BitVec 32) (k2_hw194 : k2_chk194 v1494), (k2_t39_loop v1494).OK := fun v1494 k2_hw194 => k2_hw194.2.2.2.2.2.2.2.2.2.1
theorem k2_off159_inb : ∀ (v1494 : BitVec 32) (k2_hw194 : k2_chk194 v1494) (k2_t39 : Fin (k2_t39_loop v1494).trips), ∀ a, (k2_off159 v1494 k2_t39) a + S1x1x16.size a ≤ S4x128x128.size a := fun v1494 k2_hw194 k2_t39 => k2_hw194.2.2.2.2.2.2.2.2.2.2.1 k2_t39
theorem k2_off160_inb : ∀ (v1494 : BitVec 32) (k2_hw194 : k2_chk194 v1494) (k2_t39 : Fin (k2_t39_loop v1494).trips), ∀ a, (k2_off160 v1494 k2_t39) a + S1x1x16.size a ≤ S4x128x128.size a := fun v1494 k2_hw194 k2_t39 => k2_hw194.2.2.2.2.2.2.2.2.2.2.2.1 k2_t39
theorem k2_off161_inb : ∀ (v1494 : BitVec 32) (k2_hw194 : k2_chk194 v1494) (k2_t39 : Fin (k2_t39_loop v1494).trips), ∀ a, (k2_off161 v1494 k2_t39) a + S1x1x16.size a ≤ S4x128x128.size a := fun v1494 k2_hw194 k2_t39 => k2_hw194.2.2.2.2.2.2.2.2.2.2.2.2.1 k2_t39
theorem k2_off162_inb : ∀ (v1494 : BitVec 32) (k2_hw194 : k2_chk194 v1494) (k2_t39 : Fin (k2_t39_loop v1494).trips), ∀ a, (k2_off162 v1494 k2_t39) a + S1x1x16.size a ≤ S4x128x128.size a := fun v1494 k2_hw194 k2_t39 => k2_hw194.2.2.2.2.2.2.2.2.2.2.2.2.2.1 k2_t39
theorem k2_off163_inb : ∀ (v1494 : BitVec 32) (k2_hw194 : k2_chk194 v1494) (k2_t39 : Fin (k2_t39_loop v1494).trips), ∀ a, (k2_off163 v1494 k2_t39) a + S1x1x16.size a ≤ S4x128x128.size a := fun v1494 k2_hw194 k2_t39 => k2_hw194.2.2.2.2.2.2.2.2.2.2.2.2.2.2.1 k2_t39
theorem k2_off164_inb : ∀ (v1494 : BitVec 32) (k2_hw194 : k2_chk194 v1494) (k2_t39 : Fin (k2_t39_loop v1494).trips), ∀ a, (k2_off164 v1494 k2_t39) a + S1x1x16.size a ≤ S4x128x128.size a := fun v1494 k2_hw194 k2_t39 => k2_hw194.2.2.2.2.2.2.2.2.2.2.2.2.2.2.2.1 k2_t39
theorem k2_off165_inb : ∀ (v1494 : BitVec 32) (k2_hw194 : k2_chk194 v1494) (k2_t39 : Fin (k2_t39_loop v1494).trips), ∀ a, (k2_off165 v1494 k2_t39) a + S1x1x16.size a ≤ S4x128x128.size a := fun v1494 k2_hw194 k2_t39 => k2_hw194.2.2.2.2.2.2.2.2.2.2.2.2.2.2.2.2.1 k2_t39
theorem k2_off166_inb : ∀ (v1494 : BitVec 32) (k2_hw194 : k2_chk194 v1494) (k2_t39 : Fin (k2_t39_loop v1494).trips), ∀ a, (k2_off166 v1494 k2_t39) a + S1x1x16.size a ≤ S4x128x128.size a := fun v1494 k2_hw194 k2_t39 => k2_hw194.2.2.2.2.2.2.2.2.2.2.2.2.2.2.2.2.2 k2_t39

def k2_chk212 (v3700 : IVec S16 32) : Prop :=
  (∀ a x, ((![v3700] : Fin 1 → IVec S16 32) a x).toNat < S512.size a) ∧
  (∀ a x, ((![v3700] : Fin 1 → IVec S16 32) a x).toNat < S512.size a)
theorem k2_idx354_inb : ∀ (v3700 : IVec S16 32) (k2_hw212 : k2_chk212 v3700), ∀ a x, ((![v3700] : Fin 1 → IVec S16 32) a x).toNat < S512.size a := fun v3700 k2_hw212 => k2_hw212.1
theorem k2_idx355_inb : ∀ (v3700 : IVec S16 32) (k2_hw212 : k2_chk212 v3700), ∀ a x, ((![v3700] : Fin 1 → IVec S16 32) a x).toNat < S512.size a := fun v3700 k2_hw212 => k2_hw212.2
@[reducible] def k2_t40_loop : Scf.Loop 32 :=
  let c0_i32_2007 : BitVec 32 := 0#32
  let c32_i32_2008 : BitVec 32 := 32#32
  let v2307 : BitVec 32 := Scalar.addi c0_i32_2007 c32_i32_2008
  let c1_i32_2009 : BitVec 32 := 1#32
  ⟨c0_i32_2007, v2307, c1_i32_2009⟩
def k2_off167 (k2_t40 : Fin k2_t40_loop.trips) : Fin 1 → Nat :=
  let c0_i32_2007 : BitVec 32 := 0#32
  let c1_i32_2009 : BitVec 32 := 1#32
  let arg21 : BitVec 32 := Scf.iv c0_i32_2007 c1_i32_2009 k2_t40
  let c16_i32_3217 : BitVec 32 := 16#32
  let v3610 : BitVec 32 := Scalar.muli arg21 c16_i32_3217
  let v3611 : Index := Scalar.indexCast v3610
  ![v3611.toNat]

def k2_chk213 (v2306 : IVec S16 32) (v3625 : IVec S16 32) : Prop :=
  (∀ a x, ((![v2306, v3625] : Fin 2 → IVec S16 32) a x).toNat < S16x256.size a) ∧
  (∀ a x, ((![v2306, v3625] : Fin 2 → IVec S16 32) a x).toNat < S16x256.size a)
theorem k2_idx356_inb : ∀ (v2306 : IVec S16 32) (v3625 : IVec S16 32) (k2_hw213 : k2_chk213 v2306 v3625), ∀ a x, ((![v2306, v3625] : Fin 2 → IVec S16 32) a x).toNat < S16x256.size a := fun v2306 v3625 k2_hw213 => k2_hw213.1
theorem k2_idx357_inb : ∀ (v2306 : IVec S16 32) (v3625 : IVec S16 32) (k2_hw213 : k2_chk213 v2306 v3625), ∀ a x, ((![v2306, v3625] : Fin 2 → IVec S16 32) a x).toNat < S16x256.size a := fun v2306 v3625 k2_hw213 => k2_hw213.2

def k2_chk214 (v2311 : IVec S16 32) : Prop :=
  (∀ a x, ((![v2311] : Fin 1 → IVec S16 32) a x).toNat < S128.size a)
theorem k2_idx358_inb : ∀ (v2311 : IVec S16 32) (k2_hw214 : k2_chk214 v2311), ∀ a x, ((![v2311] : Fin 1 → IVec S16 32) a x).toNat < S128.size a := fun v2311 k2_hw214 => k2_hw214
@[reducible] def k2_t41_loop : Scf.Loop 32 :=
  let c0_i32_2036 : BitVec 32 := 0#32
  let c49_i32_2037 : BitVec 32 := 49#32
  let v2337 : BitVec 32 := Scalar.addi c0_i32_2036 c49_i32_2037
  let c1_i32_2038 : BitVec 32 := 1#32
  ⟨c0_i32_2036, v2337, c1_i32_2038⟩
def k2_off168 (k2_t41 : Fin k2_t41_loop.trips) : Fin 2 → Nat :=
  let c12_i32_3218 : BitVec 32 := 12#32
  let v3611 : Index := Scalar.indexCast c12_i32_3218
  let c0_i32_2036 : BitVec 32 := 0#32
  let c1_i32_2038 : BitVec 32 := 1#32
  let arg21 : BitVec 32 := Scf.iv c0_i32_2036 c1_i32_2038 k2_t41
  let c16_i32_3217 : BitVec 32 := 16#32
  let v3610 : BitVec 32 := Scalar.muli arg21 c16_i32_3217
  let v3612 : Index := Scalar.indexCast v3610
  ![12, v3612.toNat]

def k2_chk215 (v3621 : IVec S16 32) : Prop :=
  (∀ a x, ((![v3621] : Fin 1 → IVec S16 32) a x).toNat < S128.size a)
theorem k2_idx359_inb : ∀ (v3621 : IVec S16 32) (k2_hw215 : k2_chk215 v3621), ∀ a x, ((![v3621] : Fin 1 → IVec S16 32) a x).toNat < S128.size a := fun v3621 k2_hw215 => k2_hw215

def k2_chk216 (v2408 : IVec S16 32) : Prop :=
  (∀ a x, ((![v2408] : Fin 1 → IVec S16 32) a x).toNat < S128.size a)
theorem k2_idx360_inb : ∀ (v2408 : IVec S16 32) (k2_hw216 : k2_chk216 v2408), ∀ a x, ((![v2408] : Fin 1 → IVec S16 32) a x).toNat < S128.size a := fun v2408 k2_hw216 => k2_hw216
@[reducible] def k2_t42_loop (v1719 : BitVec 32) : Scf.Loop 32 :=
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2159 : BitVec 32 := 1#32
  ⟨c0_i32_2157, v2480, c1_i32_2159⟩

def k2_chk218 (v3610 : IVec S16 32) : Prop :=
  (∀ a x, ((![v3610] : Fin 1 → IVec S16 32) a x).toNat < S128.size a)
theorem k2_idx361_inb : ∀ (v3610 : IVec S16 32) (k2_hw218 : k2_chk218 v3610), ∀ a x, ((![v3610] : Fin 1 → IVec S16 32) a x).toNat < S128.size a := fun v3610 k2_hw218 => k2_hw218
def k2_off169 (v1719 : BitVec 32) (k2_t42 : Fin (k2_t42_loop v1719).trips) : Fin 3 → Nat :=
  let c1_i32_3220 : BitVec 32 := 1#32
  let v3617 : Index := Scalar.indexCast c1_i32_3220
  let c0_i32_2157 : BitVec 32 := 0#32
  let c1_i32_2159 : BitVec 32 := 1#32
  let arg21 : BitVec 32 := Scf.iv c0_i32_2157 c1_i32_2159 k2_t42
  let v3618 : Index := Scalar.indexCast arg21
  let c0_3221 : Index := 0#32
  ![1, v3618.toNat, 0]

def k2_chk219 (v3623 : IVec S16 32) : Prop :=
  (∀ a x, ((![v3623] : Fin 1 → IVec S16 32) a x).toNat < S512.size a) ∧
  (∀ a x, ((![v3623] : Fin 1 → IVec S16 32) a x).toNat < S512.size a)
theorem k2_idx362_inb : ∀ (v3623 : IVec S16 32) (k2_hw219 : k2_chk219 v3623), ∀ a x, ((![v3623] : Fin 1 → IVec S16 32) a x).toNat < S512.size a := fun v3623 k2_hw219 => k2_hw219.1
theorem k2_idx363_inb : ∀ (v3623 : IVec S16 32) (k2_hw219 : k2_chk219 v3623), ∀ a x, ((![v3623] : Fin 1 → IVec S16 32) a x).toNat < S512.size a := fun v3623 k2_hw219 => k2_hw219.2
def k2_off170 (v1719 : BitVec 32) (k2_t42 : Fin (k2_t42_loop v1719).trips) : Fin 3 → Nat :=
  let c1_i32_3223 : BitVec 32 := 1#32
  let v3628 : Index := Scalar.indexCast c1_i32_3223
  let c0_i32_2157 : BitVec 32 := 0#32
  let c1_i32_2159 : BitVec 32 := 1#32
  let arg21 : BitVec 32 := Scf.iv c0_i32_2157 c1_i32_2159 k2_t42
  let v3629 : Index := Scalar.indexCast arg21
  let c16_3224 : Index := 16#32
  ![1, v3629.toNat, 16]

def k2_chk220 (v3634 : IVec S16 32) : Prop :=
  (∀ a x, ((![v3634] : Fin 1 → IVec S16 32) a x).toNat < S512.size a) ∧
  (∀ a x, ((![v3634] : Fin 1 → IVec S16 32) a x).toNat < S512.size a)
theorem k2_idx364_inb : ∀ (v3634 : IVec S16 32) (k2_hw220 : k2_chk220 v3634), ∀ a x, ((![v3634] : Fin 1 → IVec S16 32) a x).toNat < S512.size a := fun v3634 k2_hw220 => k2_hw220.1
theorem k2_idx365_inb : ∀ (v3634 : IVec S16 32) (k2_hw220 : k2_chk220 v3634), ∀ a x, ((![v3634] : Fin 1 → IVec S16 32) a x).toNat < S512.size a := fun v3634 k2_hw220 => k2_hw220.2
def k2_off171 (v1719 : BitVec 32) (k2_t42 : Fin (k2_t42_loop v1719).trips) : Fin 3 → Nat :=
  let c1_i32_3227 : BitVec 32 := 1#32
  let v3639 : Index := Scalar.indexCast c1_i32_3227
  let c0_i32_2157 : BitVec 32 := 0#32
  let c1_i32_2159 : BitVec 32 := 1#32
  let arg21 : BitVec 32 := Scf.iv c0_i32_2157 c1_i32_2159 k2_t42
  let v3640 : Index := Scalar.indexCast arg21
  let c32_3228 : Index := 32#32
  ![1, v3640.toNat, 32]

def k2_chk221 (v3645 : IVec S16 32) : Prop :=
  (∀ a x, ((![v3645] : Fin 1 → IVec S16 32) a x).toNat < S512.size a) ∧
  (∀ a x, ((![v3645] : Fin 1 → IVec S16 32) a x).toNat < S512.size a)
theorem k2_idx366_inb : ∀ (v3645 : IVec S16 32) (k2_hw221 : k2_chk221 v3645), ∀ a x, ((![v3645] : Fin 1 → IVec S16 32) a x).toNat < S512.size a := fun v3645 k2_hw221 => k2_hw221.1
theorem k2_idx367_inb : ∀ (v3645 : IVec S16 32) (k2_hw221 : k2_chk221 v3645), ∀ a x, ((![v3645] : Fin 1 → IVec S16 32) a x).toNat < S512.size a := fun v3645 k2_hw221 => k2_hw221.2
def k2_off172 (v1719 : BitVec 32) (k2_t42 : Fin (k2_t42_loop v1719).trips) : Fin 3 → Nat :=
  let c1_i32_3231 : BitVec 32 := 1#32
  let v3650 : Index := Scalar.indexCast c1_i32_3231
  let c0_i32_2157 : BitVec 32 := 0#32
  let c1_i32_2159 : BitVec 32 := 1#32
  let arg21 : BitVec 32 := Scf.iv c0_i32_2157 c1_i32_2159 k2_t42
  let v3651 : Index := Scalar.indexCast arg21
  let c48_3232 : Index := 48#32
  ![1, v3651.toNat, 48]

def k2_chk222 (v3656 : IVec S16 32) : Prop :=
  (∀ a x, ((![v3656] : Fin 1 → IVec S16 32) a x).toNat < S512.size a) ∧
  (∀ a x, ((![v3656] : Fin 1 → IVec S16 32) a x).toNat < S512.size a)
theorem k2_idx368_inb : ∀ (v3656 : IVec S16 32) (k2_hw222 : k2_chk222 v3656), ∀ a x, ((![v3656] : Fin 1 → IVec S16 32) a x).toNat < S512.size a := fun v3656 k2_hw222 => k2_hw222.1
theorem k2_idx369_inb : ∀ (v3656 : IVec S16 32) (k2_hw222 : k2_chk222 v3656), ∀ a x, ((![v3656] : Fin 1 → IVec S16 32) a x).toNat < S512.size a := fun v3656 k2_hw222 => k2_hw222.2
def k2_off173 (v1719 : BitVec 32) (k2_t42 : Fin (k2_t42_loop v1719).trips) : Fin 3 → Nat :=
  let c1_i32_3234 : BitVec 32 := 1#32
  let v3661 : Index := Scalar.indexCast c1_i32_3234
  let c0_i32_2157 : BitVec 32 := 0#32
  let c1_i32_2159 : BitVec 32 := 1#32
  let arg21 : BitVec 32 := Scf.iv c0_i32_2157 c1_i32_2159 k2_t42
  let v3662 : Index := Scalar.indexCast arg21
  let c64_3235 : Index := 64#32
  ![1, v3662.toNat, 64]

def k2_chk223 (v3667 : IVec S16 32) : Prop :=
  (∀ a x, ((![v3667] : Fin 1 → IVec S16 32) a x).toNat < S512.size a) ∧
  (∀ a x, ((![v3667] : Fin 1 → IVec S16 32) a x).toNat < S512.size a)
theorem k2_idx370_inb : ∀ (v3667 : IVec S16 32) (k2_hw223 : k2_chk223 v3667), ∀ a x, ((![v3667] : Fin 1 → IVec S16 32) a x).toNat < S512.size a := fun v3667 k2_hw223 => k2_hw223.1
theorem k2_idx371_inb : ∀ (v3667 : IVec S16 32) (k2_hw223 : k2_chk223 v3667), ∀ a x, ((![v3667] : Fin 1 → IVec S16 32) a x).toNat < S512.size a := fun v3667 k2_hw223 => k2_hw223.2
def k2_off174 (v1719 : BitVec 32) (k2_t42 : Fin (k2_t42_loop v1719).trips) : Fin 3 → Nat :=
  let c1_i32_3237 : BitVec 32 := 1#32
  let v3672 : Index := Scalar.indexCast c1_i32_3237
  let c0_i32_2157 : BitVec 32 := 0#32
  let c1_i32_2159 : BitVec 32 := 1#32
  let arg21 : BitVec 32 := Scf.iv c0_i32_2157 c1_i32_2159 k2_t42
  let v3673 : Index := Scalar.indexCast arg21
  let c80_3238 : Index := 80#32
  ![1, v3673.toNat, 80]

def k2_chk224 (v3678 : IVec S16 32) : Prop :=
  (∀ a x, ((![v3678] : Fin 1 → IVec S16 32) a x).toNat < S512.size a) ∧
  (∀ a x, ((![v3678] : Fin 1 → IVec S16 32) a x).toNat < S512.size a)
theorem k2_idx372_inb : ∀ (v3678 : IVec S16 32) (k2_hw224 : k2_chk224 v3678), ∀ a x, ((![v3678] : Fin 1 → IVec S16 32) a x).toNat < S512.size a := fun v3678 k2_hw224 => k2_hw224.1
theorem k2_idx373_inb : ∀ (v3678 : IVec S16 32) (k2_hw224 : k2_chk224 v3678), ∀ a x, ((![v3678] : Fin 1 → IVec S16 32) a x).toNat < S512.size a := fun v3678 k2_hw224 => k2_hw224.2
def k2_off175 (v1719 : BitVec 32) (k2_t42 : Fin (k2_t42_loop v1719).trips) : Fin 3 → Nat :=
  let c1_i32_3240 : BitVec 32 := 1#32
  let v3683 : Index := Scalar.indexCast c1_i32_3240
  let c0_i32_2157 : BitVec 32 := 0#32
  let c1_i32_2159 : BitVec 32 := 1#32
  let arg21 : BitVec 32 := Scf.iv c0_i32_2157 c1_i32_2159 k2_t42
  let v3684 : Index := Scalar.indexCast arg21
  let c96_3241 : Index := 96#32
  ![1, v3684.toNat, 96]

def k2_chk225 (v3689 : IVec S16 32) : Prop :=
  (∀ a x, ((![v3689] : Fin 1 → IVec S16 32) a x).toNat < S512.size a) ∧
  (∀ a x, ((![v3689] : Fin 1 → IVec S16 32) a x).toNat < S512.size a)
theorem k2_idx374_inb : ∀ (v3689 : IVec S16 32) (k2_hw225 : k2_chk225 v3689), ∀ a x, ((![v3689] : Fin 1 → IVec S16 32) a x).toNat < S512.size a := fun v3689 k2_hw225 => k2_hw225.1
theorem k2_idx375_inb : ∀ (v3689 : IVec S16 32) (k2_hw225 : k2_chk225 v3689), ∀ a x, ((![v3689] : Fin 1 → IVec S16 32) a x).toNat < S512.size a := fun v3689 k2_hw225 => k2_hw225.2
def k2_off176 (v1719 : BitVec 32) (k2_t42 : Fin (k2_t42_loop v1719).trips) : Fin 3 → Nat :=
  let c1_i32_3243 : BitVec 32 := 1#32
  let v3694 : Index := Scalar.indexCast c1_i32_3243
  let c0_i32_2157 : BitVec 32 := 0#32
  let c1_i32_2159 : BitVec 32 := 1#32
  let arg21 : BitVec 32 := Scf.iv c0_i32_2157 c1_i32_2159 k2_t42
  let v3695 : Index := Scalar.indexCast arg21
  let c112_3244 : Index := 112#32
  ![1, v3695.toNat, 112]

def k2_chk226 (v3700 : IVec S16 32) : Prop :=
  (∀ a x, ((![v3700] : Fin 1 → IVec S16 32) a x).toNat < S512.size a) ∧
  (∀ a x, ((![v3700] : Fin 1 → IVec S16 32) a x).toNat < S512.size a)
theorem k2_idx376_inb : ∀ (v3700 : IVec S16 32) (k2_hw226 : k2_chk226 v3700), ∀ a x, ((![v3700] : Fin 1 → IVec S16 32) a x).toNat < S512.size a := fun v3700 k2_hw226 => k2_hw226.1
theorem k2_idx377_inb : ∀ (v3700 : IVec S16 32) (k2_hw226 : k2_chk226 v3700), ∀ a x, ((![v3700] : Fin 1 → IVec S16 32) a x).toNat < S512.size a := fun v3700 k2_hw226 => k2_hw226.2
@[reducible] def k2_t43_loop (v1719 : BitVec 32) : Scf.Loop 32 :=
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let v2477 : BitVec 32 := Scalar.addi c0_i32_2157 v2476
  let c1_i32_2160 : BitVec 32 := 1#32
  ⟨v2480, v2477, c1_i32_2160⟩

def k2_chk227 (v3610 : IVec S16 32) : Prop :=
  (∀ a x, ((![v3610] : Fin 1 → IVec S16 32) a x).toNat < S128.size a)
theorem k2_idx378_inb : ∀ (v3610 : IVec S16 32) (k2_hw227 : k2_chk227 v3610), ∀ a x, ((![v3610] : Fin 1 → IVec S16 32) a x).toNat < S128.size a := fun v3610 k2_hw227 => k2_hw227
def k2_off177 (v1719 : BitVec 32) (k2_t43 : Fin (k2_t43_loop v1719).trips) : Fin 3 → Nat :=
  let c1_i32_3220 : BitVec 32 := 1#32
  let v3617 : Index := Scalar.indexCast c1_i32_3220
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3618 : Index := Scalar.indexCast arg21
  let c0_3221 : Index := 0#32
  ![1, v3618.toNat, 0]

def k2_chk228 (v3623 : IVec S16 32) : Prop :=
  (∀ a x, ((![v3623] : Fin 1 → IVec S16 32) a x).toNat < S512.size a) ∧
  (∀ a x, ((![v3623] : Fin 1 → IVec S16 32) a x).toNat < S512.size a)
theorem k2_idx379_inb : ∀ (v3623 : IVec S16 32) (k2_hw228 : k2_chk228 v3623), ∀ a x, ((![v3623] : Fin 1 → IVec S16 32) a x).toNat < S512.size a := fun v3623 k2_hw228 => k2_hw228.1
theorem k2_idx380_inb : ∀ (v3623 : IVec S16 32) (k2_hw228 : k2_chk228 v3623), ∀ a x, ((![v3623] : Fin 1 → IVec S16 32) a x).toNat < S512.size a := fun v3623 k2_hw228 => k2_hw228.2
def k2_off178 (v1719 : BitVec 32) (k2_t43 : Fin (k2_t43_loop v1719).trips) : Fin 3 → Nat :=
  let c1_i32_3223 : BitVec 32 := 1#32
  let v3628 : Index := Scalar.indexCast c1_i32_3223
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3629 : Index := Scalar.indexCast arg21
  let c16_3224 : Index := 16#32
  ![1, v3629.toNat, 16]

def k2_chk229 (v3634 : IVec S16 32) : Prop :=
  (∀ a x, ((![v3634] : Fin 1 → IVec S16 32) a x).toNat < S512.size a) ∧
  (∀ a x, ((![v3634] : Fin 1 → IVec S16 32) a x).toNat < S512.size a)
theorem k2_idx381_inb : ∀ (v3634 : IVec S16 32) (k2_hw229 : k2_chk229 v3634), ∀ a x, ((![v3634] : Fin 1 → IVec S16 32) a x).toNat < S512.size a := fun v3634 k2_hw229 => k2_hw229.1
theorem k2_idx382_inb : ∀ (v3634 : IVec S16 32) (k2_hw229 : k2_chk229 v3634), ∀ a x, ((![v3634] : Fin 1 → IVec S16 32) a x).toNat < S512.size a := fun v3634 k2_hw229 => k2_hw229.2
def k2_off179 (v1719 : BitVec 32) (k2_t43 : Fin (k2_t43_loop v1719).trips) : Fin 3 → Nat :=
  let c1_i32_3227 : BitVec 32 := 1#32
  let v3639 : Index := Scalar.indexCast c1_i32_3227
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3640 : Index := Scalar.indexCast arg21
  let c32_3228 : Index := 32#32
  ![1, v3640.toNat, 32]

def k2_chk230 (v3645 : IVec S16 32) : Prop :=
  (∀ a x, ((![v3645] : Fin 1 → IVec S16 32) a x).toNat < S512.size a) ∧
  (∀ a x, ((![v3645] : Fin 1 → IVec S16 32) a x).toNat < S512.size a)
theorem k2_idx383_inb : ∀ (v3645 : IVec S16 32) (k2_hw230 : k2_chk230 v3645), ∀ a x, ((![v3645] : Fin 1 → IVec S16 32) a x).toNat < S512.size a := fun v3645 k2_hw230 => k2_hw230.1
theorem k2_idx384_inb : ∀ (v3645 : IVec S16 32) (k2_hw230 : k2_chk230 v3645), ∀ a x, ((![v3645] : Fin 1 → IVec S16 32) a x).toNat < S512.size a := fun v3645 k2_hw230 => k2_hw230.2
def k2_off180 (v1719 : BitVec 32) (k2_t43 : Fin (k2_t43_loop v1719).trips) : Fin 3 → Nat :=
  let c1_i32_3231 : BitVec 32 := 1#32
  let v3650 : Index := Scalar.indexCast c1_i32_3231
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3651 : Index := Scalar.indexCast arg21
  let c48_3232 : Index := 48#32
  ![1, v3651.toNat, 48]

def k2_chk231 (v3656 : IVec S16 32) : Prop :=
  (∀ a x, ((![v3656] : Fin 1 → IVec S16 32) a x).toNat < S512.size a) ∧
  (∀ a x, ((![v3656] : Fin 1 → IVec S16 32) a x).toNat < S512.size a)
theorem k2_idx385_inb : ∀ (v3656 : IVec S16 32) (k2_hw231 : k2_chk231 v3656), ∀ a x, ((![v3656] : Fin 1 → IVec S16 32) a x).toNat < S512.size a := fun v3656 k2_hw231 => k2_hw231.1
theorem k2_idx386_inb : ∀ (v3656 : IVec S16 32) (k2_hw231 : k2_chk231 v3656), ∀ a x, ((![v3656] : Fin 1 → IVec S16 32) a x).toNat < S512.size a := fun v3656 k2_hw231 => k2_hw231.2
def k2_off181 (v1719 : BitVec 32) (k2_t43 : Fin (k2_t43_loop v1719).trips) : Fin 3 → Nat :=
  let c1_i32_3234 : BitVec 32 := 1#32
  let v3661 : Index := Scalar.indexCast c1_i32_3234
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3662 : Index := Scalar.indexCast arg21
  let c64_3235 : Index := 64#32
  ![1, v3662.toNat, 64]

def k2_chk232 (v3667 : IVec S16 32) : Prop :=
  (∀ a x, ((![v3667] : Fin 1 → IVec S16 32) a x).toNat < S512.size a) ∧
  (∀ a x, ((![v3667] : Fin 1 → IVec S16 32) a x).toNat < S512.size a)
theorem k2_idx387_inb : ∀ (v3667 : IVec S16 32) (k2_hw232 : k2_chk232 v3667), ∀ a x, ((![v3667] : Fin 1 → IVec S16 32) a x).toNat < S512.size a := fun v3667 k2_hw232 => k2_hw232.1
theorem k2_idx388_inb : ∀ (v3667 : IVec S16 32) (k2_hw232 : k2_chk232 v3667), ∀ a x, ((![v3667] : Fin 1 → IVec S16 32) a x).toNat < S512.size a := fun v3667 k2_hw232 => k2_hw232.2
def k2_off182 (v1719 : BitVec 32) (k2_t43 : Fin (k2_t43_loop v1719).trips) : Fin 3 → Nat :=
  let c1_i32_3237 : BitVec 32 := 1#32
  let v3672 : Index := Scalar.indexCast c1_i32_3237
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3673 : Index := Scalar.indexCast arg21
  let c80_3238 : Index := 80#32
  ![1, v3673.toNat, 80]

def k2_chk233 (v3678 : IVec S16 32) : Prop :=
  (∀ a x, ((![v3678] : Fin 1 → IVec S16 32) a x).toNat < S512.size a) ∧
  (∀ a x, ((![v3678] : Fin 1 → IVec S16 32) a x).toNat < S512.size a)
theorem k2_idx389_inb : ∀ (v3678 : IVec S16 32) (k2_hw233 : k2_chk233 v3678), ∀ a x, ((![v3678] : Fin 1 → IVec S16 32) a x).toNat < S512.size a := fun v3678 k2_hw233 => k2_hw233.1
theorem k2_idx390_inb : ∀ (v3678 : IVec S16 32) (k2_hw233 : k2_chk233 v3678), ∀ a x, ((![v3678] : Fin 1 → IVec S16 32) a x).toNat < S512.size a := fun v3678 k2_hw233 => k2_hw233.2
def k2_off183 (v1719 : BitVec 32) (k2_t43 : Fin (k2_t43_loop v1719).trips) : Fin 3 → Nat :=
  let c1_i32_3240 : BitVec 32 := 1#32
  let v3683 : Index := Scalar.indexCast c1_i32_3240
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3684 : Index := Scalar.indexCast arg21
  let c96_3241 : Index := 96#32
  ![1, v3684.toNat, 96]

def k2_chk234 (v3689 : IVec S16 32) : Prop :=
  (∀ a x, ((![v3689] : Fin 1 → IVec S16 32) a x).toNat < S512.size a) ∧
  (∀ a x, ((![v3689] : Fin 1 → IVec S16 32) a x).toNat < S512.size a)
theorem k2_idx391_inb : ∀ (v3689 : IVec S16 32) (k2_hw234 : k2_chk234 v3689), ∀ a x, ((![v3689] : Fin 1 → IVec S16 32) a x).toNat < S512.size a := fun v3689 k2_hw234 => k2_hw234.1
theorem k2_idx392_inb : ∀ (v3689 : IVec S16 32) (k2_hw234 : k2_chk234 v3689), ∀ a x, ((![v3689] : Fin 1 → IVec S16 32) a x).toNat < S512.size a := fun v3689 k2_hw234 => k2_hw234.2
def k2_off184 (v1719 : BitVec 32) (k2_t43 : Fin (k2_t43_loop v1719).trips) : Fin 3 → Nat :=
  let c1_i32_3243 : BitVec 32 := 1#32
  let v3694 : Index := Scalar.indexCast c1_i32_3243
  let c0_i32_2157 : BitVec 32 := 0#32
  let c128_i32_1466 : BitVec 32 := 128#32
  let v1720 : BitVec 32 := Scalar.minsi v1719 c128_i32_1466
  let v2476 : BitVec 32 := Scalar.subi v1720 c0_i32_2157
  let c1_i32_2158 : BitVec 32 := 1#32
  let v2478 : BitVec 32 := Scalar.divsi v2476 c1_i32_2158
  let v2479 : BitVec 32 := Scalar.muli v2478 c1_i32_2158
  let v2480 : BitVec 32 := Scalar.addi c0_i32_2157 v2479
  let c1_i32_2160 : BitVec 32 := 1#32
  let arg21 : BitVec 32 := Scf.iv v2480 c1_i32_2160 k2_t43
  let v3695 : Index := Scalar.indexCast arg21
  let c112_3244 : Index := 112#32
  ![1, v3695.toNat, 112]

def k2_chk217 (v1719 : BitVec 32) : Prop :=
  ((k2_t42_loop v1719).OK) ∧
  (∀ k2_t42 : Fin (k2_t42_loop v1719).trips, ∀ a, (k2_off169 v1719 k2_t42) a + S1x1x16.size a ≤ S4x128x128.size a) ∧
  (∀ k2_t42 : Fin (k2_t42_loop v1719).trips, ∀ a, (k2_off170 v1719 k2_t42) a + S1x1x16.size a ≤ S4x128x128.size a) ∧
  (∀ k2_t42 : Fin (k2_t42_loop v1719).trips, ∀ a, (k2_off171 v1719 k2_t42) a + S1x1x16.size a ≤ S4x128x128.size a) ∧
  (∀ k2_t42 : Fin (k2_t42_loop v1719).trips, ∀ a, (k2_off172 v1719 k2_t42) a + S1x1x16.size a ≤ S4x128x128.size a) ∧
  (∀ k2_t42 : Fin (k2_t42_loop v1719).trips, ∀ a, (k2_off173 v1719 k2_t42) a + S1x1x16.size a ≤ S4x128x128.size a) ∧
  (∀ k2_t42 : Fin (k2_t42_loop v1719).trips, ∀ a, (k2_off174 v1719 k2_t42) a + S1x1x16.size a ≤ S4x128x128.size a) ∧
  (∀ k2_t42 : Fin (k2_t42_loop v1719).trips, ∀ a, (k2_off175 v1719 k2_t42) a + S1x1x16.size a ≤ S4x128x128.size a) ∧
  (∀ k2_t42 : Fin (k2_t42_loop v1719).trips, ∀ a, (k2_off176 v1719 k2_t42) a + S1x1x16.size a ≤ S4x128x128.size a) ∧
  ((k2_t43_loop v1719).OK) ∧
  (∀ k2_t43 : Fin (k2_t43_loop v1719).trips, ∀ a, (k2_off177 v1719 k2_t43) a + S1x1x16.size a ≤ S4x128x128.size a) ∧
  (∀ k2_t43 : Fin (k2_t43_loop v1719).trips, ∀ a, (k2_off178 v1719 k2_t43) a + S1x1x16.size a ≤ S4x128x128.size a) ∧
  (∀ k2_t43 : Fin (k2_t43_loop v1719).trips, ∀ a, (k2_off179 v1719 k2_t43) a + S1x1x16.size a ≤ S4x128x128.size a) ∧
  (∀ k2_t43 : Fin (k2_t43_loop v1719).trips, ∀ a, (k2_off180 v1719 k2_t43) a + S1x1x16.size a ≤ S4x128x128.size a) ∧
  (∀ k2_t43 : Fin (k2_t43_loop v1719).trips, ∀ a, (k2_off181 v1719 k2_t43) a + S1x1x16.size a ≤ S4x128x128.size a) ∧
  (∀ k2_t43 : Fin (k2_t43_loop v1719).trips, ∀ a, (k2_off182 v1719 k2_t43) a + S1x1x16.size a ≤ S4x128x128.size a) ∧
  (∀ k2_t43 : Fin (k2_t43_loop v1719).trips, ∀ a, (k2_off183 v1719 k2_t43) a + S1x1x16.size a ≤ S4x128x128.size a) ∧
  (∀ k2_t43 : Fin (k2_t43_loop v1719).trips, ∀ a, (k2_off184 v1719 k2_t43) a + S1x1x16.size a ≤ S4x128x128.size a)
theorem k2_t42_ok : ∀ (v1719 : BitVec 32) (k2_hw217 : k2_chk217 v1719), (k2_t42_loop v1719).OK := fun v1719 k2_hw217 => k2_hw217.1
theorem k2_off169_inb : ∀ (v1719 : BitVec 32) (k2_hw217 : k2_chk217 v1719) (k2_t42 : Fin (k2_t42_loop v1719).trips), ∀ a, (k2_off169 v1719 k2_t42) a + S1x1x16.size a ≤ S4x128x128.size a := fun v1719 k2_hw217 k2_t42 => k2_hw217.2.1 k2_t42
theorem k2_off170_inb : ∀ (v1719 : BitVec 32) (k2_hw217 : k2_chk217 v1719) (k2_t42 : Fin (k2_t42_loop v1719).trips), ∀ a, (k2_off170 v1719 k2_t42) a + S1x1x16.size a ≤ S4x128x128.size a := fun v1719 k2_hw217 k2_t42 => k2_hw217.2.2.1 k2_t42
theorem k2_off171_inb : ∀ (v1719 : BitVec 32) (k2_hw217 : k2_chk217 v1719) (k2_t42 : Fin (k2_t42_loop v1719).trips), ∀ a, (k2_off171 v1719 k2_t42) a + S1x1x16.size a ≤ S4x128x128.size a := fun v1719 k2_hw217 k2_t42 => k2_hw217.2.2.2.1 k2_t42
theorem k2_off172_inb : ∀ (v1719 : BitVec 32) (k2_hw217 : k2_chk217 v1719) (k2_t42 : Fin (k2_t42_loop v1719).trips), ∀ a, (k2_off172 v1719 k2_t42) a + S1x1x16.size a ≤ S4x128x128.size a := fun v1719 k2_hw217 k2_t42 => k2_hw217.2.2.2.2.1 k2_t42
theorem k2_off173_inb : ∀ (v1719 : BitVec 32) (k2_hw217 : k2_chk217 v1719) (k2_t42 : Fin (k2_t42_loop v1719).trips), ∀ a, (k2_off173 v1719 k2_t42) a + S1x1x16.size a ≤ S4x128x128.size a := fun v1719 k2_hw217 k2_t42 => k2_hw217.2.2.2.2.2.1 k2_t42
theorem k2_off174_inb : ∀ (v1719 : BitVec 32) (k2_hw217 : k2_chk217 v1719) (k2_t42 : Fin (k2_t42_loop v1719).trips), ∀ a, (k2_off174 v1719 k2_t42) a + S1x1x16.size a ≤ S4x128x128.size a := fun v1719 k2_hw217 k2_t42 => k2_hw217.2.2.2.2.2.2.1 k2_t42
theorem k2_off175_inb : ∀ (v1719 : BitVec 32) (k2_hw217 : k2_chk217 v1719) (k2_t42 : Fin (k2_t42_loop v1719).trips), ∀ a, (k2_off175 v1719 k2_t42) a + S1x1x16.size a ≤ S4x128x128.size a := fun v1719 k2_hw217 k2_t42 => k2_hw217.2.2.2.2.2.2.2.1 k2_t42
theorem k2_off176_inb : ∀ (v1719 : BitVec 32) (k2_hw217 : k2_chk217 v1719) (k2_t42 : Fin (k2_t42_loop v1719).trips), ∀ a, (k2_off176 v1719 k2_t42) a + S1x1x16.size a ≤ S4x128x128.size a := fun v1719 k2_hw217 k2_t42 => k2_hw217.2.2.2.2.2.2.2.2.1 k2_t42
theorem k2_t43_ok : ∀ (v1719 : BitVec 32) (k2_hw217 : k2_chk217 v1719), (k2_t43_loop v1719).OK := fun v1719 k2_hw217 => k2_hw217.2.2.2.2.2.2.2.2.2.1
theorem k2_off177_inb : ∀ (v1719 : BitVec 32) (k2_hw217 : k2_chk217 v1719) (k2_t43 : Fin (k2_t43_loop v1719).trips), ∀ a, (k2_off177 v1719 k2_t43) a + S1x1x16.size a ≤ S4x128x128.size a := fun v1719 k2_hw217 k2_t43 => k2_hw217.2.2.2.2.2.2.2.2.2.2.1 k2_t43
theorem k2_off178_inb : ∀ (v1719 : BitVec 32) (k2_hw217 : k2_chk217 v1719) (k2_t43 : Fin (k2_t43_loop v1719).trips), ∀ a, (k2_off178 v1719 k2_t43) a + S1x1x16.size a ≤ S4x128x128.size a := fun v1719 k2_hw217 k2_t43 => k2_hw217.2.2.2.2.2.2.2.2.2.2.2.1 k2_t43
theorem k2_off179_inb : ∀ (v1719 : BitVec 32) (k2_hw217 : k2_chk217 v1719) (k2_t43 : Fin (k2_t43_loop v1719).trips), ∀ a, (k2_off179 v1719 k2_t43) a + S1x1x16.size a ≤ S4x128x128.size a := fun v1719 k2_hw217 k2_t43 => k2_hw217.2.2.2.2.2.2.2.2.2.2.2.2.1 k2_t43
theorem k2_off180_inb : ∀ (v1719 : BitVec 32) (k2_hw217 : k2_chk217 v1719) (k2_t43 : Fin (k2_t43_loop v1719).trips), ∀ a, (k2_off180 v1719 k2_t43) a + S1x1x16.size a ≤ S4x128x128.size a := fun v1719 k2_hw217 k2_t43 => k2_hw217.2.2.2.2.2.2.2.2.2.2.2.2.2.1 k2_t43
theorem k2_off181_inb : ∀ (v1719 : BitVec 32) (k2_hw217 : k2_chk217 v1719) (k2_t43 : Fin (k2_t43_loop v1719).trips), ∀ a, (k2_off181 v1719 k2_t43) a + S1x1x16.size a ≤ S4x128x128.size a := fun v1719 k2_hw217 k2_t43 => k2_hw217.2.2.2.2.2.2.2.2.2.2.2.2.2.2.1 k2_t43
theorem k2_off182_inb : ∀ (v1719 : BitVec 32) (k2_hw217 : k2_chk217 v1719) (k2_t43 : Fin (k2_t43_loop v1719).trips), ∀ a, (k2_off182 v1719 k2_t43) a + S1x1x16.size a ≤ S4x128x128.size a := fun v1719 k2_hw217 k2_t43 => k2_hw217.2.2.2.2.2.2.2.2.2.2.2.2.2.2.2.1 k2_t43
theorem k2_off183_inb : ∀ (v1719 : BitVec 32) (k2_hw217 : k2_chk217 v1719) (k2_t43 : Fin (k2_t43_loop v1719).trips), ∀ a, (k2_off183 v1719 k2_t43) a + S1x1x16.size a ≤ S4x128x128.size a := fun v1719 k2_hw217 k2_t43 => k2_hw217.2.2.2.2.2.2.2.2.2.2.2.2.2.2.2.2.1 k2_t43
theorem k2_off184_inb : ∀ (v1719 : BitVec 32) (k2_hw217 : k2_chk217 v1719) (k2_t43 : Fin (k2_t43_loop v1719).trips), ∀ a, (k2_off184 v1719 k2_t43) a + S1x1x16.size a ≤ S4x128x128.size a := fun v1719 k2_hw217 k2_t43 => k2_hw217.2.2.2.2.2.2.2.2.2.2.2.2.2.2.2.2.2 k2_t43

def k2_chk235 (v3700 : IVec S16 32) : Prop :=
  (∀ a x, ((![v3700] : Fin 1 → IVec S16 32) a x).toNat < S512.size a) ∧
  (∀ a x, ((![v3700] : Fin 1 → IVec S16 32) a x).toNat < S512.size a)
theorem k2_idx393_inb : ∀ (v3700 : IVec S16 32) (k2_hw235 : k2_chk235 v3700), ∀ a x, ((![v3700] : Fin 1 → IVec S16 32) a x).toNat < S512.size a := fun v3700 k2_hw235 => k2_hw235.1
theorem k2_idx394_inb : ∀ (v3700 : IVec S16 32) (k2_hw235 : k2_chk235 v3700), ∀ a x, ((![v3700] : Fin 1 → IVec S16 32) a x).toNat < S512.size a := fun v3700 k2_hw235 => k2_hw235.2
@[reducible] def k2_t44_loop : Scf.Loop 32 :=
  let c0_i32_2210 : BitVec 32 := 0#32
  let c32_i32_2211 : BitVec 32 := 32#32
  let v2532 : BitVec 32 := Scalar.addi c0_i32_2210 c32_i32_2211
  let c1_i32_2212 : BitVec 32 := 1#32
  ⟨c0_i32_2210, v2532, c1_i32_2212⟩
def k2_off185 (k2_t44 : Fin k2_t44_loop.trips) : Fin 1 → Nat :=
  let c0_i32_2210 : BitVec 32 := 0#32
  let c1_i32_2212 : BitVec 32 := 1#32
  let arg21 : BitVec 32 := Scf.iv c0_i32_2210 c1_i32_2212 k2_t44
  let c16_i32_3217 : BitVec 32 := 16#32
  let v3610 : BitVec 32 := Scalar.muli arg21 c16_i32_3217
  let v3611 : Index := Scalar.indexCast v3610
  ![v3611.toNat]

def k2_chk236 (v2531 : IVec S16 32) (v3625 : IVec S16 32) : Prop :=
  (∀ a x, ((![v2531, v3625] : Fin 2 → IVec S16 32) a x).toNat < S16x256.size a) ∧
  (∀ a x, ((![v2531, v3625] : Fin 2 → IVec S16 32) a x).toNat < S16x256.size a)
theorem k2_idx395_inb : ∀ (v2531 : IVec S16 32) (v3625 : IVec S16 32) (k2_hw236 : k2_chk236 v2531 v3625), ∀ a x, ((![v2531, v3625] : Fin 2 → IVec S16 32) a x).toNat < S16x256.size a := fun v2531 v3625 k2_hw236 => k2_hw236.1
theorem k2_idx396_inb : ∀ (v2531 : IVec S16 32) (v3625 : IVec S16 32) (k2_hw236 : k2_chk236 v2531 v3625), ∀ a x, ((![v2531, v3625] : Fin 2 → IVec S16 32) a x).toNat < S16x256.size a := fun v2531 v3625 k2_hw236 => k2_hw236.2

def k2_chk237 (v2536 : IVec S16 32) : Prop :=
  (∀ a x, ((![v2536] : Fin 1 → IVec S16 32) a x).toNat < S128.size a)
theorem k2_idx397_inb : ∀ (v2536 : IVec S16 32) (k2_hw237 : k2_chk237 v2536), ∀ a x, ((![v2536] : Fin 1 → IVec S16 32) a x).toNat < S128.size a := fun v2536 k2_hw237 => k2_hw237
@[reducible] def k2_t45_loop : Scf.Loop 32 :=
  let c0_i32_2239 : BitVec 32 := 0#32
  let c49_i32_2240 : BitVec 32 := 49#32
  let v2562 : BitVec 32 := Scalar.addi c0_i32_2239 c49_i32_2240
  let c1_i32_2241 : BitVec 32 := 1#32
  ⟨c0_i32_2239, v2562, c1_i32_2241⟩
def k2_off186 (k2_t45 : Fin k2_t45_loop.trips) : Fin 2 → Nat :=
  let c13_i32_3218 : BitVec 32 := 13#32
  let v3611 : Index := Scalar.indexCast c13_i32_3218
  let c0_i32_2239 : BitVec 32 := 0#32
  let c1_i32_2241 : BitVec 32 := 1#32
  let arg21 : BitVec 32 := Scf.iv c0_i32_2239 c1_i32_2241 k2_t45
  let c16_i32_3217 : BitVec 32 := 16#32
  let v3610 : BitVec 32 := Scalar.muli arg21 c16_i32_3217
  let v3612 : Index := Scalar.indexCast v3610
  ![13, v3612.toNat]

def k2_chk238 (v3621 : IVec S16 32) : Prop :=
  (∀ a x, ((![v3621] : Fin 1 → IVec S16 32) a x).toNat < S128.size a)
theorem k2_idx398_inb : ∀ (v3621 : IVec S16 32) (k2_hw238 : k2_chk238 v3621), ∀ a x, ((![v3621] : Fin 1 → IVec S16 32) a x).toNat < S128.size a := fun v3621 k2_hw238 => k2_hw238

def k2_chk239 (v2633 : IVec S16 32) : Prop :=
  (∀ a x, ((![v2633] : Fin 1 → IVec S16 32) a x).toNat < S128.size a)
theorem k2_idx399_inb : ∀ (v2633 : IVec S16 32) (k2_hw239 : k2_chk239 v2633), ∀ a x, ((![v2633] : Fin 1 → IVec S16 32) a x).toNat < S128.size a := fun v2633 k2_hw239 => k2_hw239
@[reducible] def k2_t46_loop (v1944 : BitVec 32) : Scf.Loop 32 :=
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2362 : BitVec 32 := 1#32
  ⟨c0_i32_2360, v2705, c1_i32_2362⟩

def k2_chk241 (v3610 : IVec S16 32) : Prop :=
  (∀ a x, ((![v3610] : Fin 1 → IVec S16 32) a x).toNat < S128.size a)
theorem k2_idx400_inb : ∀ (v3610 : IVec S16 32) (k2_hw241 : k2_chk241 v3610), ∀ a x, ((![v3610] : Fin 1 → IVec S16 32) a x).toNat < S128.size a := fun v3610 k2_hw241 => k2_hw241
def k2_off187 (v1944 : BitVec 32) (k2_t46 : Fin (k2_t46_loop v1944).trips) : Fin 3 → Nat :=
  let c2_i32_3220 : BitVec 32 := 2#32
  let v3617 : Index := Scalar.indexCast c2_i32_3220
  let c0_i32_2360 : BitVec 32 := 0#32
  let c1_i32_2362 : BitVec 32 := 1#32
  let arg21 : BitVec 32 := Scf.iv c0_i32_2360 c1_i32_2362 k2_t46
  let v3618 : Index := Scalar.indexCast arg21
  let c0_3221 : Index := 0#32
  ![2, v3618.toNat, 0]

def k2_chk242 (v3623 : IVec S16 32) : Prop :=
  (∀ a x, ((![v3623] : Fin 1 → IVec S16 32) a x).toNat < S512.size a) ∧
  (∀ a x, ((![v3623] : Fin 1 → IVec S16 32) a x).toNat < S512.size a)
theorem k2_idx401_inb : ∀ (v3623 : IVec S16 32) (k2_hw242 : k2_chk242 v3623), ∀ a x, ((![v3623] : Fin 1 → IVec S16 32) a x).toNat < S512.size a := fun v3623 k2_hw242 => k2_hw242.1
theorem k2_idx402_inb : ∀ (v3623 : IVec S16 32) (k2_hw242 : k2_chk242 v3623), ∀ a x, ((![v3623] : Fin 1 → IVec S16 32) a x).toNat < S512.size a := fun v3623 k2_hw242 => k2_hw242.2
def k2_off188 (v1944 : BitVec 32) (k2_t46 : Fin (k2_t46_loop v1944).trips) : Fin 3 → Nat :=
  let c2_i32_3223 : BitVec 32 := 2#32
  let v3628 : Index := Scalar.indexCast c2_i32_3223
  let c0_i32_2360 : BitVec 32 := 0#32
  let c1_i32_2362 : BitVec 32 := 1#32
  let arg21 : BitVec 32 := Scf.iv c0_i32_2360 c1_i32_2362 k2_t46
  let v3629 : Index := Scalar.indexCast arg21
  let c16_3224 : Index := 16#32
  ![2, v3629.toNat, 16]

def k2_chk243 (v3634 : IVec S16 32) : Prop :=
  (∀ a x, ((![v3634] : Fin 1 → IVec S16 32) a x).toNat < S512.size a) ∧
  (∀ a x, ((![v3634] : Fin 1 → IVec S16 32) a x).toNat < S512.size a)
theorem k2_idx403_inb : ∀ (v3634 : IVec S16 32) (k2_hw243 : k2_chk243 v3634), ∀ a x, ((![v3634] : Fin 1 → IVec S16 32) a x).toNat < S512.size a := fun v3634 k2_hw243 => k2_hw243.1
theorem k2_idx404_inb : ∀ (v3634 : IVec S16 32) (k2_hw243 : k2_chk243 v3634), ∀ a x, ((![v3634] : Fin 1 → IVec S16 32) a x).toNat < S512.size a := fun v3634 k2_hw243 => k2_hw243.2
def k2_off189 (v1944 : BitVec 32) (k2_t46 : Fin (k2_t46_loop v1944).trips) : Fin 3 → Nat :=
  let c2_i32_3227 : BitVec 32 := 2#32
  let v3639 : Index := Scalar.indexCast c2_i32_3227
  let c0_i32_2360 : BitVec 32 := 0#32
  let c1_i32_2362 : BitVec 32 := 1#32
  let arg21 : BitVec 32 := Scf.iv c0_i32_2360 c1_i32_2362 k2_t46
  let v3640 : Index := Scalar.indexCast arg21
  let c32_3228 : Index := 32#32
  ![2, v3640.toNat, 32]

def k2_chk244 (v3645 : IVec S16 32) : Prop :=
  (∀ a x, ((![v3645] : Fin 1 → IVec S16 32) a x).toNat < S512.size a) ∧
  (∀ a x, ((![v3645] : Fin 1 → IVec S16 32) a x).toNat < S512.size a)
theorem k2_idx405_inb : ∀ (v3645 : IVec S16 32) (k2_hw244 : k2_chk244 v3645), ∀ a x, ((![v3645] : Fin 1 → IVec S16 32) a x).toNat < S512.size a := fun v3645 k2_hw244 => k2_hw244.1
theorem k2_idx406_inb : ∀ (v3645 : IVec S16 32) (k2_hw244 : k2_chk244 v3645), ∀ a x, ((![v3645] : Fin 1 → IVec S16 32) a x).toNat < S512.size a := fun v3645 k2_hw244 => k2_hw244.2
def k2_off190 (v1944 : BitVec 32) (k2_t46 : Fin (k2_t46_loop v1944).trips) : Fin 3 → Nat :=
  let c2_i32_3231 : BitVec 32 := 2#32
  let v3650 : Index := Scalar.indexCast c2_i32_3231
  let c0_i32_2360 : BitVec 32 := 0#32
  let c1_i32_2362 : BitVec 32 := 1#32
  let arg21 : BitVec 32 := Scf.iv c0_i32_2360 c1_i32_2362 k2_t46
  let v3651 : Index := Scalar.indexCast arg21
  let c48_3232 : Index := 48#32
  ![2, v3651.toNat, 48]

def k2_chk245 (v3656 : IVec S16 32) : Prop :=
  (∀ a x, ((![v3656] : Fin 1 → IVec S16 32) a x).toNat < S512.size a) ∧
  (∀ a x, ((![v3656] : Fin 1 → IVec S16 32) a x).toNat < S512.size a)
theorem k2_idx407_inb : ∀ (v3656 : IVec S16 32) (k2_hw245 : k2_chk245 v3656), ∀ a x, ((![v3656] : Fin 1 → IVec S16 32) a x).toNat < S512.size a := fun v3656 k2_hw245 => k2_hw245.1
theorem k2_idx408_inb : ∀ (v3656 : IVec S16 32) (k2_hw245 : k2_chk245 v3656), ∀ a x, ((![v3656] : Fin 1 → IVec S16 32) a x).toNat < S512.size a := fun v3656 k2_hw245 => k2_hw245.2
def k2_off191 (v1944 : BitVec 32) (k2_t46 : Fin (k2_t46_loop v1944).trips) : Fin 3 → Nat :=
  let c2_i32_3234 : BitVec 32 := 2#32
  let v3661 : Index := Scalar.indexCast c2_i32_3234
  let c0_i32_2360 : BitVec 32 := 0#32
  let c1_i32_2362 : BitVec 32 := 1#32
  let arg21 : BitVec 32 := Scf.iv c0_i32_2360 c1_i32_2362 k2_t46
  let v3662 : Index := Scalar.indexCast arg21
  let c64_3235 : Index := 64#32
  ![2, v3662.toNat, 64]

def k2_chk246 (v3667 : IVec S16 32) : Prop :=
  (∀ a x, ((![v3667] : Fin 1 → IVec S16 32) a x).toNat < S512.size a) ∧
  (∀ a x, ((![v3667] : Fin 1 → IVec S16 32) a x).toNat < S512.size a)
theorem k2_idx409_inb : ∀ (v3667 : IVec S16 32) (k2_hw246 : k2_chk246 v3667), ∀ a x, ((![v3667] : Fin 1 → IVec S16 32) a x).toNat < S512.size a := fun v3667 k2_hw246 => k2_hw246.1
theorem k2_idx410_inb : ∀ (v3667 : IVec S16 32) (k2_hw246 : k2_chk246 v3667), ∀ a x, ((![v3667] : Fin 1 → IVec S16 32) a x).toNat < S512.size a := fun v3667 k2_hw246 => k2_hw246.2
def k2_off192 (v1944 : BitVec 32) (k2_t46 : Fin (k2_t46_loop v1944).trips) : Fin 3 → Nat :=
  let c2_i32_3237 : BitVec 32 := 2#32
  let v3672 : Index := Scalar.indexCast c2_i32_3237
  let c0_i32_2360 : BitVec 32 := 0#32
  let c1_i32_2362 : BitVec 32 := 1#32
  let arg21 : BitVec 32 := Scf.iv c0_i32_2360 c1_i32_2362 k2_t46
  let v3673 : Index := Scalar.indexCast arg21
  let c80_3238 : Index := 80#32
  ![2, v3673.toNat, 80]

def k2_chk247 (v3678 : IVec S16 32) : Prop :=
  (∀ a x, ((![v3678] : Fin 1 → IVec S16 32) a x).toNat < S512.size a) ∧
  (∀ a x, ((![v3678] : Fin 1 → IVec S16 32) a x).toNat < S512.size a)
theorem k2_idx411_inb : ∀ (v3678 : IVec S16 32) (k2_hw247 : k2_chk247 v3678), ∀ a x, ((![v3678] : Fin 1 → IVec S16 32) a x).toNat < S512.size a := fun v3678 k2_hw247 => k2_hw247.1
theorem k2_idx412_inb : ∀ (v3678 : IVec S16 32) (k2_hw247 : k2_chk247 v3678), ∀ a x, ((![v3678] : Fin 1 → IVec S16 32) a x).toNat < S512.size a := fun v3678 k2_hw247 => k2_hw247.2
def k2_off193 (v1944 : BitVec 32) (k2_t46 : Fin (k2_t46_loop v1944).trips) : Fin 3 → Nat :=
  let c2_i32_3240 : BitVec 32 := 2#32
  let v3683 : Index := Scalar.indexCast c2_i32_3240
  let c0_i32_2360 : BitVec 32 := 0#32
  let c1_i32_2362 : BitVec 32 := 1#32
  let arg21 : BitVec 32 := Scf.iv c0_i32_2360 c1_i32_2362 k2_t46
  let v3684 : Index := Scalar.indexCast arg21
  let c96_3241 : Index := 96#32
  ![2, v3684.toNat, 96]

def k2_chk248 (v3689 : IVec S16 32) : Prop :=
  (∀ a x, ((![v3689] : Fin 1 → IVec S16 32) a x).toNat < S512.size a) ∧
  (∀ a x, ((![v3689] : Fin 1 → IVec S16 32) a x).toNat < S512.size a)
theorem k2_idx413_inb : ∀ (v3689 : IVec S16 32) (k2_hw248 : k2_chk248 v3689), ∀ a x, ((![v3689] : Fin 1 → IVec S16 32) a x).toNat < S512.size a := fun v3689 k2_hw248 => k2_hw248.1
theorem k2_idx414_inb : ∀ (v3689 : IVec S16 32) (k2_hw248 : k2_chk248 v3689), ∀ a x, ((![v3689] : Fin 1 → IVec S16 32) a x).toNat < S512.size a := fun v3689 k2_hw248 => k2_hw248.2
def k2_off194 (v1944 : BitVec 32) (k2_t46 : Fin (k2_t46_loop v1944).trips) : Fin 3 → Nat :=
  let c2_i32_3243 : BitVec 32 := 2#32
  let v3694 : Index := Scalar.indexCast c2_i32_3243
  let c0_i32_2360 : BitVec 32 := 0#32
  let c1_i32_2362 : BitVec 32 := 1#32
  let arg21 : BitVec 32 := Scf.iv c0_i32_2360 c1_i32_2362 k2_t46
  let v3695 : Index := Scalar.indexCast arg21
  let c112_3244 : Index := 112#32
  ![2, v3695.toNat, 112]

def k2_chk249 (v3700 : IVec S16 32) : Prop :=
  (∀ a x, ((![v3700] : Fin 1 → IVec S16 32) a x).toNat < S512.size a) ∧
  (∀ a x, ((![v3700] : Fin 1 → IVec S16 32) a x).toNat < S512.size a)
theorem k2_idx415_inb : ∀ (v3700 : IVec S16 32) (k2_hw249 : k2_chk249 v3700), ∀ a x, ((![v3700] : Fin 1 → IVec S16 32) a x).toNat < S512.size a := fun v3700 k2_hw249 => k2_hw249.1
theorem k2_idx416_inb : ∀ (v3700 : IVec S16 32) (k2_hw249 : k2_chk249 v3700), ∀ a x, ((![v3700] : Fin 1 → IVec S16 32) a x).toNat < S512.size a := fun v3700 k2_hw249 => k2_hw249.2
@[reducible] def k2_t47_loop (v1944 : BitVec 32) : Scf.Loop 32 :=
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let v2702 : BitVec 32 := Scalar.addi c0_i32_2360 v2701
  let c1_i32_2363 : BitVec 32 := 1#32
  ⟨v2705, v2702, c1_i32_2363⟩

def k2_chk250 (v3610 : IVec S16 32) : Prop :=
  (∀ a x, ((![v3610] : Fin 1 → IVec S16 32) a x).toNat < S128.size a)
theorem k2_idx417_inb : ∀ (v3610 : IVec S16 32) (k2_hw250 : k2_chk250 v3610), ∀ a x, ((![v3610] : Fin 1 → IVec S16 32) a x).toNat < S128.size a := fun v3610 k2_hw250 => k2_hw250
def k2_off195 (v1944 : BitVec 32) (k2_t47 : Fin (k2_t47_loop v1944).trips) : Fin 3 → Nat :=
  let c2_i32_3220 : BitVec 32 := 2#32
  let v3617 : Index := Scalar.indexCast c2_i32_3220
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3618 : Index := Scalar.indexCast arg21
  let c0_3221 : Index := 0#32
  ![2, v3618.toNat, 0]

def k2_chk251 (v3623 : IVec S16 32) : Prop :=
  (∀ a x, ((![v3623] : Fin 1 → IVec S16 32) a x).toNat < S512.size a) ∧
  (∀ a x, ((![v3623] : Fin 1 → IVec S16 32) a x).toNat < S512.size a)
theorem k2_idx418_inb : ∀ (v3623 : IVec S16 32) (k2_hw251 : k2_chk251 v3623), ∀ a x, ((![v3623] : Fin 1 → IVec S16 32) a x).toNat < S512.size a := fun v3623 k2_hw251 => k2_hw251.1
theorem k2_idx419_inb : ∀ (v3623 : IVec S16 32) (k2_hw251 : k2_chk251 v3623), ∀ a x, ((![v3623] : Fin 1 → IVec S16 32) a x).toNat < S512.size a := fun v3623 k2_hw251 => k2_hw251.2
def k2_off196 (v1944 : BitVec 32) (k2_t47 : Fin (k2_t47_loop v1944).trips) : Fin 3 → Nat :=
  let c2_i32_3223 : BitVec 32 := 2#32
  let v3628 : Index := Scalar.indexCast c2_i32_3223
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3629 : Index := Scalar.indexCast arg21
  let c16_3224 : Index := 16#32
  ![2, v3629.toNat, 16]

def k2_chk252 (v3634 : IVec S16 32) : Prop :=
  (∀ a x, ((![v3634] : Fin 1 → IVec S16 32) a x).toNat < S512.size a) ∧
  (∀ a x, ((![v3634] : Fin 1 → IVec S16 32) a x).toNat < S512.size a)
theorem k2_idx420_inb : ∀ (v3634 : IVec S16 32) (k2_hw252 : k2_chk252 v3634), ∀ a x, ((![v3634] : Fin 1 → IVec S16 32) a x).toNat < S512.size a := fun v3634 k2_hw252 => k2_hw252.1
theorem k2_idx421_inb : ∀ (v3634 : IVec S16 32) (k2_hw252 : k2_chk252 v3634), ∀ a x, ((![v3634] : Fin 1 → IVec S16 32) a x).toNat < S512.size a := fun v3634 k2_hw252 => k2_hw252.2
def k2_off197 (v1944 : BitVec 32) (k2_t47 : Fin (k2_t47_loop v1944).trips) : Fin 3 → Nat :=
  let c2_i32_3227 : BitVec 32 := 2#32
  let v3639 : Index := Scalar.indexCast c2_i32_3227
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3640 : Index := Scalar.indexCast arg21
  let c32_3228 : Index := 32#32
  ![2, v3640.toNat, 32]

def k2_chk253 (v3645 : IVec S16 32) : Prop :=
  (∀ a x, ((![v3645] : Fin 1 → IVec S16 32) a x).toNat < S512.size a) ∧
  (∀ a x, ((![v3645] : Fin 1 → IVec S16 32) a x).toNat < S512.size a)
theorem k2_idx422_inb : ∀ (v3645 : IVec S16 32) (k2_hw253 : k2_chk253 v3645), ∀ a x, ((![v3645] : Fin 1 → IVec S16 32) a x).toNat < S512.size a := fun v3645 k2_hw253 => k2_hw253.1
theorem k2_idx423_inb : ∀ (v3645 : IVec S16 32) (k2_hw253 : k2_chk253 v3645), ∀ a x, ((![v3645] : Fin 1 → IVec S16 32) a x).toNat < S512.size a := fun v3645 k2_hw253 => k2_hw253.2
def k2_off198 (v1944 : BitVec 32) (k2_t47 : Fin (k2_t47_loop v1944).trips) : Fin 3 → Nat :=
  let c2_i32_3231 : BitVec 32 := 2#32
  let v3650 : Index := Scalar.indexCast c2_i32_3231
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3651 : Index := Scalar.indexCast arg21
  let c48_3232 : Index := 48#32
  ![2, v3651.toNat, 48]

def k2_chk254 (v3656 : IVec S16 32) : Prop :=
  (∀ a x, ((![v3656] : Fin 1 → IVec S16 32) a x).toNat < S512.size a) ∧
  (∀ a x, ((![v3656] : Fin 1 → IVec S16 32) a x).toNat < S512.size a)
theorem k2_idx424_inb : ∀ (v3656 : IVec S16 32) (k2_hw254 : k2_chk254 v3656), ∀ a x, ((![v3656] : Fin 1 → IVec S16 32) a x).toNat < S512.size a := fun v3656 k2_hw254 => k2_hw254.1
theorem k2_idx425_inb : ∀ (v3656 : IVec S16 32) (k2_hw254 : k2_chk254 v3656), ∀ a x, ((![v3656] : Fin 1 → IVec S16 32) a x).toNat < S512.size a := fun v3656 k2_hw254 => k2_hw254.2
def k2_off199 (v1944 : BitVec 32) (k2_t47 : Fin (k2_t47_loop v1944).trips) : Fin 3 → Nat :=
  let c2_i32_3234 : BitVec 32 := 2#32
  let v3661 : Index := Scalar.indexCast c2_i32_3234
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3662 : Index := Scalar.indexCast arg21
  let c64_3235 : Index := 64#32
  ![2, v3662.toNat, 64]

def k2_chk255 (v3667 : IVec S16 32) : Prop :=
  (∀ a x, ((![v3667] : Fin 1 → IVec S16 32) a x).toNat < S512.size a) ∧
  (∀ a x, ((![v3667] : Fin 1 → IVec S16 32) a x).toNat < S512.size a)
theorem k2_idx426_inb : ∀ (v3667 : IVec S16 32) (k2_hw255 : k2_chk255 v3667), ∀ a x, ((![v3667] : Fin 1 → IVec S16 32) a x).toNat < S512.size a := fun v3667 k2_hw255 => k2_hw255.1
theorem k2_idx427_inb : ∀ (v3667 : IVec S16 32) (k2_hw255 : k2_chk255 v3667), ∀ a x, ((![v3667] : Fin 1 → IVec S16 32) a x).toNat < S512.size a := fun v3667 k2_hw255 => k2_hw255.2
def k2_off200 (v1944 : BitVec 32) (k2_t47 : Fin (k2_t47_loop v1944).trips) : Fin 3 → Nat :=
  let c2_i32_3237 : BitVec 32 := 2#32
  let v3672 : Index := Scalar.indexCast c2_i32_3237
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3673 : Index := Scalar.indexCast arg21
  let c80_3238 : Index := 80#32
  ![2, v3673.toNat, 80]

def k2_chk256 (v3678 : IVec S16 32) : Prop :=
  (∀ a x, ((![v3678] : Fin 1 → IVec S16 32) a x).toNat < S512.size a) ∧
  (∀ a x, ((![v3678] : Fin 1 → IVec S16 32) a x).toNat < S512.size a)
theorem k2_idx428_inb : ∀ (v3678 : IVec S16 32) (k2_hw256 : k2_chk256 v3678), ∀ a x, ((![v3678] : Fin 1 → IVec S16 32) a x).toNat < S512.size a := fun v3678 k2_hw256 => k2_hw256.1
theorem k2_idx429_inb : ∀ (v3678 : IVec S16 32) (k2_hw256 : k2_chk256 v3678), ∀ a x, ((![v3678] : Fin 1 → IVec S16 32) a x).toNat < S512.size a := fun v3678 k2_hw256 => k2_hw256.2
def k2_off201 (v1944 : BitVec 32) (k2_t47 : Fin (k2_t47_loop v1944).trips) : Fin 3 → Nat :=
  let c2_i32_3240 : BitVec 32 := 2#32
  let v3683 : Index := Scalar.indexCast c2_i32_3240
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3684 : Index := Scalar.indexCast arg21
  let c96_3241 : Index := 96#32
  ![2, v3684.toNat, 96]

def k2_chk257 (v3689 : IVec S16 32) : Prop :=
  (∀ a x, ((![v3689] : Fin 1 → IVec S16 32) a x).toNat < S512.size a) ∧
  (∀ a x, ((![v3689] : Fin 1 → IVec S16 32) a x).toNat < S512.size a)
theorem k2_idx430_inb : ∀ (v3689 : IVec S16 32) (k2_hw257 : k2_chk257 v3689), ∀ a x, ((![v3689] : Fin 1 → IVec S16 32) a x).toNat < S512.size a := fun v3689 k2_hw257 => k2_hw257.1
theorem k2_idx431_inb : ∀ (v3689 : IVec S16 32) (k2_hw257 : k2_chk257 v3689), ∀ a x, ((![v3689] : Fin 1 → IVec S16 32) a x).toNat < S512.size a := fun v3689 k2_hw257 => k2_hw257.2
def k2_off202 (v1944 : BitVec 32) (k2_t47 : Fin (k2_t47_loop v1944).trips) : Fin 3 → Nat :=
  let c2_i32_3243 : BitVec 32 := 2#32
  let v3694 : Index := Scalar.indexCast c2_i32_3243
  let c0_i32_2360 : BitVec 32 := 0#32
  let c128_i32_1669 : BitVec 32 := 128#32
  let v1945 : BitVec 32 := Scalar.minsi v1944 c128_i32_1669
  let v2701 : BitVec 32 := Scalar.subi v1945 c0_i32_2360
  let c1_i32_2361 : BitVec 32 := 1#32
  let v2703 : BitVec 32 := Scalar.divsi v2701 c1_i32_2361
  let v2704 : BitVec 32 := Scalar.muli v2703 c1_i32_2361
  let v2705 : BitVec 32 := Scalar.addi c0_i32_2360 v2704
  let c1_i32_2363 : BitVec 32 := 1#32
  let arg21 : BitVec 32 := Scf.iv v2705 c1_i32_2363 k2_t47
  let v3695 : Index := Scalar.indexCast arg21
  let c112_3244 : Index := 112#32
  ![2, v3695.toNat, 112]

def k2_chk240 (v1944 : BitVec 32) : Prop :=
  ((k2_t46_loop v1944).OK) ∧
  (∀ k2_t46 : Fin (k2_t46_loop v1944).trips, ∀ a, (k2_off187 v1944 k2_t46) a + S1x1x16.size a ≤ S4x128x128.size a) ∧
  (∀ k2_t46 : Fin (k2_t46_loop v1944).trips, ∀ a, (k2_off188 v1944 k2_t46) a + S1x1x16.size a ≤ S4x128x128.size a) ∧
  (∀ k2_t46 : Fin (k2_t46_loop v1944).trips, ∀ a, (k2_off189 v1944 k2_t46) a + S1x1x16.size a ≤ S4x128x128.size a) ∧
  (∀ k2_t46 : Fin (k2_t46_loop v1944).trips, ∀ a, (k2_off190 v1944 k2_t46) a + S1x1x16.size a ≤ S4x128x128.size a) ∧
  (∀ k2_t46 : Fin (k2_t46_loop v1944).trips, ∀ a, (k2_off191 v1944 k2_t46) a + S1x1x16.size a ≤ S4x128x128.size a) ∧
  (∀ k2_t46 : Fin (k2_t46_loop v1944).trips, ∀ a, (k2_off192 v1944 k2_t46) a + S1x1x16.size a ≤ S4x128x128.size a) ∧
  (∀ k2_t46 : Fin (k2_t46_loop v1944).trips, ∀ a, (k2_off193 v1944 k2_t46) a + S1x1x16.size a ≤ S4x128x128.size a) ∧
  (∀ k2_t46 : Fin (k2_t46_loop v1944).trips, ∀ a, (k2_off194 v1944 k2_t46) a + S1x1x16.size a ≤ S4x128x128.size a) ∧
  ((k2_t47_loop v1944).OK) ∧
  (∀ k2_t47 : Fin (k2_t47_loop v1944).trips, ∀ a, (k2_off195 v1944 k2_t47) a + S1x1x16.size a ≤ S4x128x128.size a) ∧
  (∀ k2_t47 : Fin (k2_t47_loop v1944).trips, ∀ a, (k2_off196 v1944 k2_t47) a + S1x1x16.size a ≤ S4x128x128.size a) ∧
  (∀ k2_t47 : Fin (k2_t47_loop v1944).trips, ∀ a, (k2_off197 v1944 k2_t47) a + S1x1x16.size a ≤ S4x128x128.size a) ∧
  (∀ k2_t47 : Fin (k2_t47_loop v1944).trips, ∀ a, (k2_off198 v1944 k2_t47) a + S1x1x16.size a ≤ S4x128x128.size a) ∧
  (∀ k2_t47 : Fin (k2_t47_loop v1944).trips, ∀ a, (k2_off199 v1944 k2_t47) a + S1x1x16.size a ≤ S4x128x128.size a) ∧
  (∀ k2_t47 : Fin (k2_t47_loop v1944).trips, ∀ a, (k2_off200 v1944 k2_t47) a + S1x1x16.size a ≤ S4x128x128.size a) ∧
  (∀ k2_t47 : Fin (k2_t47_loop v1944).trips, ∀ a, (k2_off201 v1944 k2_t47) a + S1x1x16.size a ≤ S4x128x128.size a) ∧
  (∀ k2_t47 : Fin (k2_t47_loop v1944).trips, ∀ a, (k2_off202 v1944 k2_t47) a + S1x1x16.size a ≤ S4x128x128.size a)
theorem k2_t46_ok : ∀ (v1944 : BitVec 32) (k2_hw240 : k2_chk240 v1944), (k2_t46_loop v1944).OK := fun v1944 k2_hw240 => k2_hw240.1
theorem k2_off187_inb : ∀ (v1944 : BitVec 32) (k2_hw240 : k2_chk240 v1944) (k2_t46 : Fin (k2_t46_loop v1944).trips), ∀ a, (k2_off187 v1944 k2_t46) a + S1x1x16.size a ≤ S4x128x128.size a := fun v1944 k2_hw240 k2_t46 => k2_hw240.2.1 k2_t46
theorem k2_off188_inb : ∀ (v1944 : BitVec 32) (k2_hw240 : k2_chk240 v1944) (k2_t46 : Fin (k2_t46_loop v1944).trips), ∀ a, (k2_off188 v1944 k2_t46) a + S1x1x16.size a ≤ S4x128x128.size a := fun v1944 k2_hw240 k2_t46 => k2_hw240.2.2.1 k2_t46
theorem k2_off189_inb : ∀ (v1944 : BitVec 32) (k2_hw240 : k2_chk240 v1944) (k2_t46 : Fin (k2_t46_loop v1944).trips), ∀ a, (k2_off189 v1944 k2_t46) a + S1x1x16.size a ≤ S4x128x128.size a := fun v1944 k2_hw240 k2_t46 => k2_hw240.2.2.2.1 k2_t46
theorem k2_off190_inb : ∀ (v1944 : BitVec 32) (k2_hw240 : k2_chk240 v1944) (k2_t46 : Fin (k2_t46_loop v1944).trips), ∀ a, (k2_off190 v1944 k2_t46) a + S1x1x16.size a ≤ S4x128x128.size a := fun v1944 k2_hw240 k2_t46 => k2_hw240.2.2.2.2.1 k2_t46
theorem k2_off191_inb : ∀ (v1944 : BitVec 32) (k2_hw240 : k2_chk240 v1944) (k2_t46 : Fin (k2_t46_loop v1944).trips), ∀ a, (k2_off191 v1944 k2_t46) a + S1x1x16.size a ≤ S4x128x128.size a := fun v1944 k2_hw240 k2_t46 => k2_hw240.2.2.2.2.2.1 k2_t46
theorem k2_off192_inb : ∀ (v1944 : BitVec 32) (k2_hw240 : k2_chk240 v1944) (k2_t46 : Fin (k2_t46_loop v1944).trips), ∀ a, (k2_off192 v1944 k2_t46) a + S1x1x16.size a ≤ S4x128x128.size a := fun v1944 k2_hw240 k2_t46 => k2_hw240.2.2.2.2.2.2.1 k2_t46
theorem k2_off193_inb : ∀ (v1944 : BitVec 32) (k2_hw240 : k2_chk240 v1944) (k2_t46 : Fin (k2_t46_loop v1944).trips), ∀ a, (k2_off193 v1944 k2_t46) a + S1x1x16.size a ≤ S4x128x128.size a := fun v1944 k2_hw240 k2_t46 => k2_hw240.2.2.2.2.2.2.2.1 k2_t46
theorem k2_off194_inb : ∀ (v1944 : BitVec 32) (k2_hw240 : k2_chk240 v1944) (k2_t46 : Fin (k2_t46_loop v1944).trips), ∀ a, (k2_off194 v1944 k2_t46) a + S1x1x16.size a ≤ S4x128x128.size a := fun v1944 k2_hw240 k2_t46 => k2_hw240.2.2.2.2.2.2.2.2.1 k2_t46
theorem k2_t47_ok : ∀ (v1944 : BitVec 32) (k2_hw240 : k2_chk240 v1944), (k2_t47_loop v1944).OK := fun v1944 k2_hw240 => k2_hw240.2.2.2.2.2.2.2.2.2.1
theorem k2_off195_inb : ∀ (v1944 : BitVec 32) (k2_hw240 : k2_chk240 v1944) (k2_t47 : Fin (k2_t47_loop v1944).trips), ∀ a, (k2_off195 v1944 k2_t47) a + S1x1x16.size a ≤ S4x128x128.size a := fun v1944 k2_hw240 k2_t47 => k2_hw240.2.2.2.2.2.2.2.2.2.2.1 k2_t47
theorem k2_off196_inb : ∀ (v1944 : BitVec 32) (k2_hw240 : k2_chk240 v1944) (k2_t47 : Fin (k2_t47_loop v1944).trips), ∀ a, (k2_off196 v1944 k2_t47) a + S1x1x16.size a ≤ S4x128x128.size a := fun v1944 k2_hw240 k2_t47 => k2_hw240.2.2.2.2.2.2.2.2.2.2.2.1 k2_t47
theorem k2_off197_inb : ∀ (v1944 : BitVec 32) (k2_hw240 : k2_chk240 v1944) (k2_t47 : Fin (k2_t47_loop v1944).trips), ∀ a, (k2_off197 v1944 k2_t47) a + S1x1x16.size a ≤ S4x128x128.size a := fun v1944 k2_hw240 k2_t47 => k2_hw240.2.2.2.2.2.2.2.2.2.2.2.2.1 k2_t47
theorem k2_off198_inb : ∀ (v1944 : BitVec 32) (k2_hw240 : k2_chk240 v1944) (k2_t47 : Fin (k2_t47_loop v1944).trips), ∀ a, (k2_off198 v1944 k2_t47) a + S1x1x16.size a ≤ S4x128x128.size a := fun v1944 k2_hw240 k2_t47 => k2_hw240.2.2.2.2.2.2.2.2.2.2.2.2.2.1 k2_t47
theorem k2_off199_inb : ∀ (v1944 : BitVec 32) (k2_hw240 : k2_chk240 v1944) (k2_t47 : Fin (k2_t47_loop v1944).trips), ∀ a, (k2_off199 v1944 k2_t47) a + S1x1x16.size a ≤ S4x128x128.size a := fun v1944 k2_hw240 k2_t47 => k2_hw240.2.2.2.2.2.2.2.2.2.2.2.2.2.2.1 k2_t47
theorem k2_off200_inb : ∀ (v1944 : BitVec 32) (k2_hw240 : k2_chk240 v1944) (k2_t47 : Fin (k2_t47_loop v1944).trips), ∀ a, (k2_off200 v1944 k2_t47) a + S1x1x16.size a ≤ S4x128x128.size a := fun v1944 k2_hw240 k2_t47 => k2_hw240.2.2.2.2.2.2.2.2.2.2.2.2.2.2.2.1 k2_t47
theorem k2_off201_inb : ∀ (v1944 : BitVec 32) (k2_hw240 : k2_chk240 v1944) (k2_t47 : Fin (k2_t47_loop v1944).trips), ∀ a, (k2_off201 v1944 k2_t47) a + S1x1x16.size a ≤ S4x128x128.size a := fun v1944 k2_hw240 k2_t47 => k2_hw240.2.2.2.2.2.2.2.2.2.2.2.2.2.2.2.2.1 k2_t47
theorem k2_off202_inb : ∀ (v1944 : BitVec 32) (k2_hw240 : k2_chk240 v1944) (k2_t47 : Fin (k2_t47_loop v1944).trips), ∀ a, (k2_off202 v1944 k2_t47) a + S1x1x16.size a ≤ S4x128x128.size a := fun v1944 k2_hw240 k2_t47 => k2_hw240.2.2.2.2.2.2.2.2.2.2.2.2.2.2.2.2.2 k2_t47

def k2_chk258 (v3700 : IVec S16 32) : Prop :=
  (∀ a x, ((![v3700] : Fin 1 → IVec S16 32) a x).toNat < S512.size a) ∧
  (∀ a x, ((![v3700] : Fin 1 → IVec S16 32) a x).toNat < S512.size a)
theorem k2_idx432_inb : ∀ (v3700 : IVec S16 32) (k2_hw258 : k2_chk258 v3700), ∀ a x, ((![v3700] : Fin 1 → IVec S16 32) a x).toNat < S512.size a := fun v3700 k2_hw258 => k2_hw258.1
theorem k2_idx433_inb : ∀ (v3700 : IVec S16 32) (k2_hw258 : k2_chk258 v3700), ∀ a x, ((![v3700] : Fin 1 → IVec S16 32) a x).toNat < S512.size a := fun v3700 k2_hw258 => k2_hw258.2
@[reducible] def k2_t48_loop : Scf.Loop 32 :=
  let c0_i32_2413 : BitVec 32 := 0#32
  let c32_i32_2414 : BitVec 32 := 32#32
  let v2757 : BitVec 32 := Scalar.addi c0_i32_2413 c32_i32_2414
  let c1_i32_2415 : BitVec 32 := 1#32
  ⟨c0_i32_2413, v2757, c1_i32_2415⟩
def k2_off203 (k2_t48 : Fin k2_t48_loop.trips) : Fin 1 → Nat :=
  let c0_i32_2413 : BitVec 32 := 0#32
  let c1_i32_2415 : BitVec 32 := 1#32
  let arg21 : BitVec 32 := Scf.iv c0_i32_2413 c1_i32_2415 k2_t48
  let c16_i32_3217 : BitVec 32 := 16#32
  let v3610 : BitVec 32 := Scalar.muli arg21 c16_i32_3217
  let v3611 : Index := Scalar.indexCast v3610
  ![v3611.toNat]

def k2_chk259 (v2756 : IVec S16 32) (v3625 : IVec S16 32) : Prop :=
  (∀ a x, ((![v2756, v3625] : Fin 2 → IVec S16 32) a x).toNat < S16x256.size a) ∧
  (∀ a x, ((![v2756, v3625] : Fin 2 → IVec S16 32) a x).toNat < S16x256.size a)
theorem k2_idx434_inb : ∀ (v2756 : IVec S16 32) (v3625 : IVec S16 32) (k2_hw259 : k2_chk259 v2756 v3625), ∀ a x, ((![v2756, v3625] : Fin 2 → IVec S16 32) a x).toNat < S16x256.size a := fun v2756 v3625 k2_hw259 => k2_hw259.1
theorem k2_idx435_inb : ∀ (v2756 : IVec S16 32) (v3625 : IVec S16 32) (k2_hw259 : k2_chk259 v2756 v3625), ∀ a x, ((![v2756, v3625] : Fin 2 → IVec S16 32) a x).toNat < S16x256.size a := fun v2756 v3625 k2_hw259 => k2_hw259.2

def k2_chk260 (v2761 : IVec S16 32) : Prop :=
  (∀ a x, ((![v2761] : Fin 1 → IVec S16 32) a x).toNat < S128.size a)
theorem k2_idx436_inb : ∀ (v2761 : IVec S16 32) (k2_hw260 : k2_chk260 v2761), ∀ a x, ((![v2761] : Fin 1 → IVec S16 32) a x).toNat < S128.size a := fun v2761 k2_hw260 => k2_hw260
@[reducible] def k2_t49_loop : Scf.Loop 32 :=
  let c0_i32_2442 : BitVec 32 := 0#32
  let c49_i32_2443 : BitVec 32 := 49#32
  let v2787 : BitVec 32 := Scalar.addi c0_i32_2442 c49_i32_2443
  let c1_i32_2444 : BitVec 32 := 1#32
  ⟨c0_i32_2442, v2787, c1_i32_2444⟩
def k2_off204 (k2_t49 : Fin k2_t49_loop.trips) : Fin 2 → Nat :=
  let c14_i32_3218 : BitVec 32 := 14#32
  let v3611 : Index := Scalar.indexCast c14_i32_3218
  let c0_i32_2442 : BitVec 32 := 0#32
  let c1_i32_2444 : BitVec 32 := 1#32
  let arg21 : BitVec 32 := Scf.iv c0_i32_2442 c1_i32_2444 k2_t49
  let c16_i32_3217 : BitVec 32 := 16#32
  let v3610 : BitVec 32 := Scalar.muli arg21 c16_i32_3217
  let v3612 : Index := Scalar.indexCast v3610
  ![14, v3612.toNat]

def k2_chk261 (v3621 : IVec S16 32) : Prop :=
  (∀ a x, ((![v3621] : Fin 1 → IVec S16 32) a x).toNat < S128.size a)
theorem k2_idx437_inb : ∀ (v3621 : IVec S16 32) (k2_hw261 : k2_chk261 v3621), ∀ a x, ((![v3621] : Fin 1 → IVec S16 32) a x).toNat < S128.size a := fun v3621 k2_hw261 => k2_hw261

def k2_chk262 (v2858 : IVec S16 32) : Prop :=
  (∀ a x, ((![v2858] : Fin 1 → IVec S16 32) a x).toNat < S128.size a)
theorem k2_idx438_inb : ∀ (v2858 : IVec S16 32) (k2_hw262 : k2_chk262 v2858), ∀ a x, ((![v2858] : Fin 1 → IVec S16 32) a x).toNat < S128.size a := fun v2858 k2_hw262 => k2_hw262
@[reducible] def k2_t50_loop (v2169 : BitVec 32) : Scf.Loop 32 :=
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2565 : BitVec 32 := 1#32
  ⟨c0_i32_2563, v2930, c1_i32_2565⟩

def k2_chk264 (v3610 : IVec S16 32) : Prop :=
  (∀ a x, ((![v3610] : Fin 1 → IVec S16 32) a x).toNat < S128.size a)
theorem k2_idx439_inb : ∀ (v3610 : IVec S16 32) (k2_hw264 : k2_chk264 v3610), ∀ a x, ((![v3610] : Fin 1 → IVec S16 32) a x).toNat < S128.size a := fun v3610 k2_hw264 => k2_hw264
def k2_off205 (v2169 : BitVec 32) (k2_t50 : Fin (k2_t50_loop v2169).trips) : Fin 3 → Nat :=
  let c3_i32_3220 : BitVec 32 := 3#32
  let v3617 : Index := Scalar.indexCast c3_i32_3220
  let c0_i32_2563 : BitVec 32 := 0#32
  let c1_i32_2565 : BitVec 32 := 1#32
  let arg21 : BitVec 32 := Scf.iv c0_i32_2563 c1_i32_2565 k2_t50
  let v3618 : Index := Scalar.indexCast arg21
  let c0_3221 : Index := 0#32
  ![3, v3618.toNat, 0]

def k2_chk265 (v3623 : IVec S16 32) : Prop :=
  (∀ a x, ((![v3623] : Fin 1 → IVec S16 32) a x).toNat < S512.size a) ∧
  (∀ a x, ((![v3623] : Fin 1 → IVec S16 32) a x).toNat < S512.size a)
theorem k2_idx440_inb : ∀ (v3623 : IVec S16 32) (k2_hw265 : k2_chk265 v3623), ∀ a x, ((![v3623] : Fin 1 → IVec S16 32) a x).toNat < S512.size a := fun v3623 k2_hw265 => k2_hw265.1
theorem k2_idx441_inb : ∀ (v3623 : IVec S16 32) (k2_hw265 : k2_chk265 v3623), ∀ a x, ((![v3623] : Fin 1 → IVec S16 32) a x).toNat < S512.size a := fun v3623 k2_hw265 => k2_hw265.2
def k2_off206 (v2169 : BitVec 32) (k2_t50 : Fin (k2_t50_loop v2169).trips) : Fin 3 → Nat :=
  let c3_i32_3223 : BitVec 32 := 3#32
  let v3628 : Index := Scalar.indexCast c3_i32_3223
  let c0_i32_2563 : BitVec 32 := 0#32
  let c1_i32_2565 : BitVec 32 := 1#32
  let arg21 : BitVec 32 := Scf.iv c0_i32_2563 c1_i32_2565 k2_t50
  let v3629 : Index := Scalar.indexCast arg21
  let c16_3224 : Index := 16#32
  ![3, v3629.toNat, 16]

def k2_chk266 (v3634 : IVec S16 32) : Prop :=
  (∀ a x, ((![v3634] : Fin 1 → IVec S16 32) a x).toNat < S512.size a) ∧
  (∀ a x, ((![v3634] : Fin 1 → IVec S16 32) a x).toNat < S512.size a)
theorem k2_idx442_inb : ∀ (v3634 : IVec S16 32) (k2_hw266 : k2_chk266 v3634), ∀ a x, ((![v3634] : Fin 1 → IVec S16 32) a x).toNat < S512.size a := fun v3634 k2_hw266 => k2_hw266.1
theorem k2_idx443_inb : ∀ (v3634 : IVec S16 32) (k2_hw266 : k2_chk266 v3634), ∀ a x, ((![v3634] : Fin 1 → IVec S16 32) a x).toNat < S512.size a := fun v3634 k2_hw266 => k2_hw266.2
def k2_off207 (v2169 : BitVec 32) (k2_t50 : Fin (k2_t50_loop v2169).trips) : Fin 3 → Nat :=
  let c3_i32_3227 : BitVec 32 := 3#32
  let v3639 : Index := Scalar.indexCast c3_i32_3227
  let c0_i32_2563 : BitVec 32 := 0#32
  let c1_i32_2565 : BitVec 32 := 1#32
  let arg21 : BitVec 32 := Scf.iv c0_i32_2563 c1_i32_2565 k2_t50
  let v3640 : Index := Scalar.indexCast arg21
  let c32_3228 : Index := 32#32
  ![3, v3640.toNat, 32]

def k2_chk267 (v3645 : IVec S16 32) : Prop :=
  (∀ a x, ((![v3645] : Fin 1 → IVec S16 32) a x).toNat < S512.size a) ∧
  (∀ a x, ((![v3645] : Fin 1 → IVec S16 32) a x).toNat < S512.size a)
theorem k2_idx444_inb : ∀ (v3645 : IVec S16 32) (k2_hw267 : k2_chk267 v3645), ∀ a x, ((![v3645] : Fin 1 → IVec S16 32) a x).toNat < S512.size a := fun v3645 k2_hw267 => k2_hw267.1
theorem k2_idx445_inb : ∀ (v3645 : IVec S16 32) (k2_hw267 : k2_chk267 v3645), ∀ a x, ((![v3645] : Fin 1 → IVec S16 32) a x).toNat < S512.size a := fun v3645 k2_hw267 => k2_hw267.2
def k2_off208 (v2169 : BitVec 32) (k2_t50 : Fin (k2_t50_loop v2169).trips) : Fin 3 → Nat :=
  let c3_i32_3231 : BitVec 32 := 3#32
  let v3650 : Index := Scalar.indexCast c3_i32_3231
  let c0_i32_2563 : BitVec 32 := 0#32
  let c1_i32_2565 : BitVec 32 := 1#32
  let arg21 : BitVec 32 := Scf.iv c0_i32_2563 c1_i32_2565 k2_t50
  let v3651 : Index := Scalar.indexCast arg21
  let c48_3232 : Index := 48#32
  ![3, v3651.toNat, 48]

def k2_chk268 (v3656 : IVec S16 32) : Prop :=
  (∀ a x, ((![v3656] : Fin 1 → IVec S16 32) a x).toNat < S512.size a) ∧
  (∀ a x, ((![v3656] : Fin 1 → IVec S16 32) a x).toNat < S512.size a)
theorem k2_idx446_inb : ∀ (v3656 : IVec S16 32) (k2_hw268 : k2_chk268 v3656), ∀ a x, ((![v3656] : Fin 1 → IVec S16 32) a x).toNat < S512.size a := fun v3656 k2_hw268 => k2_hw268.1
theorem k2_idx447_inb : ∀ (v3656 : IVec S16 32) (k2_hw268 : k2_chk268 v3656), ∀ a x, ((![v3656] : Fin 1 → IVec S16 32) a x).toNat < S512.size a := fun v3656 k2_hw268 => k2_hw268.2
def k2_off209 (v2169 : BitVec 32) (k2_t50 : Fin (k2_t50_loop v2169).trips) : Fin 3 → Nat :=
  let c3_i32_3234 : BitVec 32 := 3#32
  let v3661 : Index := Scalar.indexCast c3_i32_3234
  let c0_i32_2563 : BitVec 32 := 0#32
  let c1_i32_2565 : BitVec 32 := 1#32
  let arg21 : BitVec 32 := Scf.iv c0_i32_2563 c1_i32_2565 k2_t50
  let v3662 : Index := Scalar.indexCast arg21
  let c64_3235 : Index := 64#32
  ![3, v3662.toNat, 64]

def k2_chk269 (v3667 : IVec S16 32) : Prop :=
  (∀ a x, ((![v3667] : Fin 1 → IVec S16 32) a x).toNat < S512.size a) ∧
  (∀ a x, ((![v3667] : Fin 1 → IVec S16 32) a x).toNat < S512.size a)
theorem k2_idx448_inb : ∀ (v3667 : IVec S16 32) (k2_hw269 : k2_chk269 v3667), ∀ a x, ((![v3667] : Fin 1 → IVec S16 32) a x).toNat < S512.size a := fun v3667 k2_hw269 => k2_hw269.1
theorem k2_idx449_inb : ∀ (v3667 : IVec S16 32) (k2_hw269 : k2_chk269 v3667), ∀ a x, ((![v3667] : Fin 1 → IVec S16 32) a x).toNat < S512.size a := fun v3667 k2_hw269 => k2_hw269.2
def k2_off210 (v2169 : BitVec 32) (k2_t50 : Fin (k2_t50_loop v2169).trips) : Fin 3 → Nat :=
  let c3_i32_3237 : BitVec 32 := 3#32
  let v3672 : Index := Scalar.indexCast c3_i32_3237
  let c0_i32_2563 : BitVec 32 := 0#32
  let c1_i32_2565 : BitVec 32 := 1#32
  let arg21 : BitVec 32 := Scf.iv c0_i32_2563 c1_i32_2565 k2_t50
  let v3673 : Index := Scalar.indexCast arg21
  let c80_3238 : Index := 80#32
  ![3, v3673.toNat, 80]

def k2_chk270 (v3678 : IVec S16 32) : Prop :=
  (∀ a x, ((![v3678] : Fin 1 → IVec S16 32) a x).toNat < S512.size a) ∧
  (∀ a x, ((![v3678] : Fin 1 → IVec S16 32) a x).toNat < S512.size a)
theorem k2_idx450_inb : ∀ (v3678 : IVec S16 32) (k2_hw270 : k2_chk270 v3678), ∀ a x, ((![v3678] : Fin 1 → IVec S16 32) a x).toNat < S512.size a := fun v3678 k2_hw270 => k2_hw270.1
theorem k2_idx451_inb : ∀ (v3678 : IVec S16 32) (k2_hw270 : k2_chk270 v3678), ∀ a x, ((![v3678] : Fin 1 → IVec S16 32) a x).toNat < S512.size a := fun v3678 k2_hw270 => k2_hw270.2
def k2_off211 (v2169 : BitVec 32) (k2_t50 : Fin (k2_t50_loop v2169).trips) : Fin 3 → Nat :=
  let c3_i32_3240 : BitVec 32 := 3#32
  let v3683 : Index := Scalar.indexCast c3_i32_3240
  let c0_i32_2563 : BitVec 32 := 0#32
  let c1_i32_2565 : BitVec 32 := 1#32
  let arg21 : BitVec 32 := Scf.iv c0_i32_2563 c1_i32_2565 k2_t50
  let v3684 : Index := Scalar.indexCast arg21
  let c96_3241 : Index := 96#32
  ![3, v3684.toNat, 96]

def k2_chk271 (v3689 : IVec S16 32) : Prop :=
  (∀ a x, ((![v3689] : Fin 1 → IVec S16 32) a x).toNat < S512.size a) ∧
  (∀ a x, ((![v3689] : Fin 1 → IVec S16 32) a x).toNat < S512.size a)
theorem k2_idx452_inb : ∀ (v3689 : IVec S16 32) (k2_hw271 : k2_chk271 v3689), ∀ a x, ((![v3689] : Fin 1 → IVec S16 32) a x).toNat < S512.size a := fun v3689 k2_hw271 => k2_hw271.1
theorem k2_idx453_inb : ∀ (v3689 : IVec S16 32) (k2_hw271 : k2_chk271 v3689), ∀ a x, ((![v3689] : Fin 1 → IVec S16 32) a x).toNat < S512.size a := fun v3689 k2_hw271 => k2_hw271.2
def k2_off212 (v2169 : BitVec 32) (k2_t50 : Fin (k2_t50_loop v2169).trips) : Fin 3 → Nat :=
  let c3_i32_3243 : BitVec 32 := 3#32
  let v3694 : Index := Scalar.indexCast c3_i32_3243
  let c0_i32_2563 : BitVec 32 := 0#32
  let c1_i32_2565 : BitVec 32 := 1#32
  let arg21 : BitVec 32 := Scf.iv c0_i32_2563 c1_i32_2565 k2_t50
  let v3695 : Index := Scalar.indexCast arg21
  let c112_3244 : Index := 112#32
  ![3, v3695.toNat, 112]

def k2_chk272 (v3700 : IVec S16 32) : Prop :=
  (∀ a x, ((![v3700] : Fin 1 → IVec S16 32) a x).toNat < S512.size a) ∧
  (∀ a x, ((![v3700] : Fin 1 → IVec S16 32) a x).toNat < S512.size a)
theorem k2_idx454_inb : ∀ (v3700 : IVec S16 32) (k2_hw272 : k2_chk272 v3700), ∀ a x, ((![v3700] : Fin 1 → IVec S16 32) a x).toNat < S512.size a := fun v3700 k2_hw272 => k2_hw272.1
theorem k2_idx455_inb : ∀ (v3700 : IVec S16 32) (k2_hw272 : k2_chk272 v3700), ∀ a x, ((![v3700] : Fin 1 → IVec S16 32) a x).toNat < S512.size a := fun v3700 k2_hw272 => k2_hw272.2
@[reducible] def k2_t51_loop (v2169 : BitVec 32) : Scf.Loop 32 :=
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let v2927 : BitVec 32 := Scalar.addi c0_i32_2563 v2926
  let c1_i32_2566 : BitVec 32 := 1#32
  ⟨v2930, v2927, c1_i32_2566⟩

def k2_chk273 (v3610 : IVec S16 32) : Prop :=
  (∀ a x, ((![v3610] : Fin 1 → IVec S16 32) a x).toNat < S128.size a)
theorem k2_idx456_inb : ∀ (v3610 : IVec S16 32) (k2_hw273 : k2_chk273 v3610), ∀ a x, ((![v3610] : Fin 1 → IVec S16 32) a x).toNat < S128.size a := fun v3610 k2_hw273 => k2_hw273
def k2_off213 (v2169 : BitVec 32) (k2_t51 : Fin (k2_t51_loop v2169).trips) : Fin 3 → Nat :=
  let c3_i32_3220 : BitVec 32 := 3#32
  let v3617 : Index := Scalar.indexCast c3_i32_3220
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3618 : Index := Scalar.indexCast arg21
  let c0_3221 : Index := 0#32
  ![3, v3618.toNat, 0]

def k2_chk274 (v3623 : IVec S16 32) : Prop :=
  (∀ a x, ((![v3623] : Fin 1 → IVec S16 32) a x).toNat < S512.size a) ∧
  (∀ a x, ((![v3623] : Fin 1 → IVec S16 32) a x).toNat < S512.size a)
theorem k2_idx457_inb : ∀ (v3623 : IVec S16 32) (k2_hw274 : k2_chk274 v3623), ∀ a x, ((![v3623] : Fin 1 → IVec S16 32) a x).toNat < S512.size a := fun v3623 k2_hw274 => k2_hw274.1
theorem k2_idx458_inb : ∀ (v3623 : IVec S16 32) (k2_hw274 : k2_chk274 v3623), ∀ a x, ((![v3623] : Fin 1 → IVec S16 32) a x).toNat < S512.size a := fun v3623 k2_hw274 => k2_hw274.2
def k2_off214 (v2169 : BitVec 32) (k2_t51 : Fin (k2_t51_loop v2169).trips) : Fin 3 → Nat :=
  let c3_i32_3223 : BitVec 32 := 3#32
  let v3628 : Index := Scalar.indexCast c3_i32_3223
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3629 : Index := Scalar.indexCast arg21
  let c16_3224 : Index := 16#32
  ![3, v3629.toNat, 16]

def k2_chk275 (v3634 : IVec S16 32) : Prop :=
  (∀ a x, ((![v3634] : Fin 1 → IVec S16 32) a x).toNat < S512.size a) ∧
  (∀ a x, ((![v3634] : Fin 1 → IVec S16 32) a x).toNat < S512.size a)
theorem k2_idx459_inb : ∀ (v3634 : IVec S16 32) (k2_hw275 : k2_chk275 v3634), ∀ a x, ((![v3634] : Fin 1 → IVec S16 32) a x).toNat < S512.size a := fun v3634 k2_hw275 => k2_hw275.1
theorem k2_idx460_inb : ∀ (v3634 : IVec S16 32) (k2_hw275 : k2_chk275 v3634), ∀ a x, ((![v3634] : Fin 1 → IVec S16 32) a x).toNat < S512.size a := fun v3634 k2_hw275 => k2_hw275.2
def k2_off215 (v2169 : BitVec 32) (k2_t51 : Fin (k2_t51_loop v2169).trips) : Fin 3 → Nat :=
  let c3_i32_3227 : BitVec 32 := 3#32
  let v3639 : Index := Scalar.indexCast c3_i32_3227
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3640 : Index := Scalar.indexCast arg21
  let c32_3228 : Index := 32#32
  ![3, v3640.toNat, 32]

def k2_chk276 (v3645 : IVec S16 32) : Prop :=
  (∀ a x, ((![v3645] : Fin 1 → IVec S16 32) a x).toNat < S512.size a) ∧
  (∀ a x, ((![v3645] : Fin 1 → IVec S16 32) a x).toNat < S512.size a)
theorem k2_idx461_inb : ∀ (v3645 : IVec S16 32) (k2_hw276 : k2_chk276 v3645), ∀ a x, ((![v3645] : Fin 1 → IVec S16 32) a x).toNat < S512.size a := fun v3645 k2_hw276 => k2_hw276.1
theorem k2_idx462_inb : ∀ (v3645 : IVec S16 32) (k2_hw276 : k2_chk276 v3645), ∀ a x, ((![v3645] : Fin 1 → IVec S16 32) a x).toNat < S512.size a := fun v3645 k2_hw276 => k2_hw276.2
def k2_off216 (v2169 : BitVec 32) (k2_t51 : Fin (k2_t51_loop v2169).trips) : Fin 3 → Nat :=
  let c3_i32_3231 : BitVec 32 := 3#32
  let v3650 : Index := Scalar.indexCast c3_i32_3231
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3651 : Index := Scalar.indexCast arg21
  let c48_3232 : Index := 48#32
  ![3, v3651.toNat, 48]

def k2_chk277 (v3656 : IVec S16 32) : Prop :=
  (∀ a x, ((![v3656] : Fin 1 → IVec S16 32) a x).toNat < S512.size a) ∧
  (∀ a x, ((![v3656] : Fin 1 → IVec S16 32) a x).toNat < S512.size a)
theorem k2_idx463_inb : ∀ (v3656 : IVec S16 32) (k2_hw277 : k2_chk277 v3656), ∀ a x, ((![v3656] : Fin 1 → IVec S16 32) a x).toNat < S512.size a := fun v3656 k2_hw277 => k2_hw277.1
theorem k2_idx464_inb : ∀ (v3656 : IVec S16 32) (k2_hw277 : k2_chk277 v3656), ∀ a x, ((![v3656] : Fin 1 → IVec S16 32) a x).toNat < S512.size a := fun v3656 k2_hw277 => k2_hw277.2
def k2_off217 (v2169 : BitVec 32) (k2_t51 : Fin (k2_t51_loop v2169).trips) : Fin 3 → Nat :=
  let c3_i32_3234 : BitVec 32 := 3#32
  let v3661 : Index := Scalar.indexCast c3_i32_3234
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3662 : Index := Scalar.indexCast arg21
  let c64_3235 : Index := 64#32
  ![3, v3662.toNat, 64]

def k2_chk278 (v3667 : IVec S16 32) : Prop :=
  (∀ a x, ((![v3667] : Fin 1 → IVec S16 32) a x).toNat < S512.size a) ∧
  (∀ a x, ((![v3667] : Fin 1 → IVec S16 32) a x).toNat < S512.size a)
theorem k2_idx465_inb : ∀ (v3667 : IVec S16 32) (k2_hw278 : k2_chk278 v3667), ∀ a x, ((![v3667] : Fin 1 → IVec S16 32) a x).toNat < S512.size a := fun v3667 k2_hw278 => k2_hw278.1
theorem k2_idx466_inb : ∀ (v3667 : IVec S16 32) (k2_hw278 : k2_chk278 v3667), ∀ a x, ((![v3667] : Fin 1 → IVec S16 32) a x).toNat < S512.size a := fun v3667 k2_hw278 => k2_hw278.2
def k2_off218 (v2169 : BitVec 32) (k2_t51 : Fin (k2_t51_loop v2169).trips) : Fin 3 → Nat :=
  let c3_i32_3237 : BitVec 32 := 3#32
  let v3672 : Index := Scalar.indexCast c3_i32_3237
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3673 : Index := Scalar.indexCast arg21
  let c80_3238 : Index := 80#32
  ![3, v3673.toNat, 80]

def k2_chk279 (v3678 : IVec S16 32) : Prop :=
  (∀ a x, ((![v3678] : Fin 1 → IVec S16 32) a x).toNat < S512.size a) ∧
  (∀ a x, ((![v3678] : Fin 1 → IVec S16 32) a x).toNat < S512.size a)
theorem k2_idx467_inb : ∀ (v3678 : IVec S16 32) (k2_hw279 : k2_chk279 v3678), ∀ a x, ((![v3678] : Fin 1 → IVec S16 32) a x).toNat < S512.size a := fun v3678 k2_hw279 => k2_hw279.1
theorem k2_idx468_inb : ∀ (v3678 : IVec S16 32) (k2_hw279 : k2_chk279 v3678), ∀ a x, ((![v3678] : Fin 1 → IVec S16 32) a x).toNat < S512.size a := fun v3678 k2_hw279 => k2_hw279.2
def k2_off219 (v2169 : BitVec 32) (k2_t51 : Fin (k2_t51_loop v2169).trips) : Fin 3 → Nat :=
  let c3_i32_3240 : BitVec 32 := 3#32
  let v3683 : Index := Scalar.indexCast c3_i32_3240
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3684 : Index := Scalar.indexCast arg21
  let c96_3241 : Index := 96#32
  ![3, v3684.toNat, 96]

def k2_chk280 (v3689 : IVec S16 32) : Prop :=
  (∀ a x, ((![v3689] : Fin 1 → IVec S16 32) a x).toNat < S512.size a) ∧
  (∀ a x, ((![v3689] : Fin 1 → IVec S16 32) a x).toNat < S512.size a)
theorem k2_idx469_inb : ∀ (v3689 : IVec S16 32) (k2_hw280 : k2_chk280 v3689), ∀ a x, ((![v3689] : Fin 1 → IVec S16 32) a x).toNat < S512.size a := fun v3689 k2_hw280 => k2_hw280.1
theorem k2_idx470_inb : ∀ (v3689 : IVec S16 32) (k2_hw280 : k2_chk280 v3689), ∀ a x, ((![v3689] : Fin 1 → IVec S16 32) a x).toNat < S512.size a := fun v3689 k2_hw280 => k2_hw280.2
def k2_off220 (v2169 : BitVec 32) (k2_t51 : Fin (k2_t51_loop v2169).trips) : Fin 3 → Nat :=
  let c3_i32_3243 : BitVec 32 := 3#32
  let v3694 : Index := Scalar.indexCast c3_i32_3243
  let c0_i32_2563 : BitVec 32 := 0#32
  let c128_i32_1872 : BitVec 32 := 128#32
  let v2170 : BitVec 32 := Scalar.minsi v2169 c128_i32_1872
  let v2926 : BitVec 32 := Scalar.subi v2170 c0_i32_2563
  let c1_i32_2564 : BitVec 32 := 1#32
  let v2928 : BitVec 32 := Scalar.divsi v2926 c1_i32_2564
  let v2929 : BitVec 32 := Scalar.muli v2928 c1_i32_2564
  let v2930 : BitVec 32 := Scalar.addi c0_i32_2563 v2929
  let c1_i32_2566 : BitVec 32 := 1#32
  let arg21 : BitVec 32 := Scf.iv v2930 c1_i32_2566 k2_t51
  let v3695 : Index := Scalar.indexCast arg21
  let c112_3244 : Index := 112#32
  ![3, v3695.toNat, 112]

def k2_chk263 (v2169 : BitVec 32) : Prop :=
  ((k2_t50_loop v2169).OK) ∧
  (∀ k2_t50 : Fin (k2_t50_loop v2169).trips, ∀ a, (k2_off205 v2169 k2_t50) a + S1x1x16.size a ≤ S4x128x128.size a) ∧
  (∀ k2_t50 : Fin (k2_t50_loop v2169).trips, ∀ a, (k2_off206 v2169 k2_t50) a + S1x1x16.size a ≤ S4x128x128.size a) ∧
  (∀ k2_t50 : Fin (k2_t50_loop v2169).trips, ∀ a, (k2_off207 v2169 k2_t50) a + S1x1x16.size a ≤ S4x128x128.size a) ∧
  (∀ k2_t50 : Fin (k2_t50_loop v2169).trips, ∀ a, (k2_off208 v2169 k2_t50) a + S1x1x16.size a ≤ S4x128x128.size a) ∧
  (∀ k2_t50 : Fin (k2_t50_loop v2169).trips, ∀ a, (k2_off209 v2169 k2_t50) a + S1x1x16.size a ≤ S4x128x128.size a) ∧
  (∀ k2_t50 : Fin (k2_t50_loop v2169).trips, ∀ a, (k2_off210 v2169 k2_t50) a + S1x1x16.size a ≤ S4x128x128.size a) ∧
  (∀ k2_t50 : Fin (k2_t50_loop v2169).trips, ∀ a, (k2_off211 v2169 k2_t50) a + S1x1x16.size a ≤ S4x128x128.size a) ∧
  (∀ k2_t50 : Fin (k2_t50_loop v2169).trips, ∀ a, (k2_off212 v2169 k2_t50) a + S1x1x16.size a ≤ S4x128x128.size a) ∧
  ((k2_t51_loop v2169).OK) ∧
  (∀ k2_t51 : Fin (k2_t51_loop v2169).trips, ∀ a, (k2_off213 v2169 k2_t51) a + S1x1x16.size a ≤ S4x128x128.size a) ∧
  (∀ k2_t51 : Fin (k2_t51_loop v2169).trips, ∀ a, (k2_off214 v2169 k2_t51) a + S1x1x16.size a ≤ S4x128x128.size a) ∧
  (∀ k2_t51 : Fin (k2_t51_loop v2169).trips, ∀ a, (k2_off215 v2169 k2_t51) a + S1x1x16.size a ≤ S4x128x128.size a) ∧
  (∀ k2_t51 : Fin (k2_t51_loop v2169).trips, ∀ a, (k2_off216 v2169 k2_t51) a + S1x1x16.size a ≤ S4x128x128.size a) ∧
  (∀ k2_t51 : Fin (k2_t51_loop v2169).trips, ∀ a, (k2_off217 v2169 k2_t51) a + S1x1x16.size a ≤ S4x128x128.size a) ∧
  (∀ k2_t51 : Fin (k2_t51_loop v2169).trips, ∀ a, (k2_off218 v2169 k2_t51) a + S1x1x16.size a ≤ S4x128x128.size a) ∧
  (∀ k2_t51 : Fin (k2_t51_loop v2169).trips, ∀ a, (k2_off219 v2169 k2_t51) a + S1x1x16.size a ≤ S4x128x128.size a) ∧
  (∀ k2_t51 : Fin (k2_t51_loop v2169).trips, ∀ a, (k2_off220 v2169 k2_t51) a + S1x1x16.size a ≤ S4x128x128.size a)
theorem k2_t50_ok : ∀ (v2169 : BitVec 32) (k2_hw263 : k2_chk263 v2169), (k2_t50_loop v2169).OK := fun v2169 k2_hw263 => k2_hw263.1
theorem k2_off205_inb : ∀ (v2169 : BitVec 32) (k2_hw263 : k2_chk263 v2169) (k2_t50 : Fin (k2_t50_loop v2169).trips), ∀ a, (k2_off205 v2169 k2_t50) a + S1x1x16.size a ≤ S4x128x128.size a := fun v2169 k2_hw263 k2_t50 => k2_hw263.2.1 k2_t50
theorem k2_off206_inb : ∀ (v2169 : BitVec 32) (k2_hw263 : k2_chk263 v2169) (k2_t50 : Fin (k2_t50_loop v2169).trips), ∀ a, (k2_off206 v2169 k2_t50) a + S1x1x16.size a ≤ S4x128x128.size a := fun v2169 k2_hw263 k2_t50 => k2_hw263.2.2.1 k2_t50
theorem k2_off207_inb : ∀ (v2169 : BitVec 32) (k2_hw263 : k2_chk263 v2169) (k2_t50 : Fin (k2_t50_loop v2169).trips), ∀ a, (k2_off207 v2169 k2_t50) a + S1x1x16.size a ≤ S4x128x128.size a := fun v2169 k2_hw263 k2_t50 => k2_hw263.2.2.2.1 k2_t50
theorem k2_off208_inb : ∀ (v2169 : BitVec 32) (k2_hw263 : k2_chk263 v2169) (k2_t50 : Fin (k2_t50_loop v2169).trips), ∀ a, (k2_off208 v2169 k2_t50) a + S1x1x16.size a ≤ S4x128x128.size a := fun v2169 k2_hw263 k2_t50 => k2_hw263.2.2.2.2.1 k2_t50
theorem k2_off209_inb : ∀ (v2169 : BitVec 32) (k2_hw263 : k2_chk263 v2169) (k2_t50 : Fin (k2_t50_loop v2169).trips), ∀ a, (k2_off209 v2169 k2_t50) a + S1x1x16.size a ≤ S4x128x128.size a := fun v2169 k2_hw263 k2_t50 => k2_hw263.2.2.2.2.2.1 k2_t50
theorem k2_off210_inb : ∀ (v2169 : BitVec 32) (k2_hw263 : k2_chk263 v2169) (k2_t50 : Fin (k2_t50_loop v2169).trips), ∀ a, (k2_off210 v2169 k2_t50) a + S1x1x16.size a ≤ S4x128x128.size a := fun v2169 k2_hw263 k2_t50 => k2_hw263.2.2.2.2.2.2.1 k2_t50
theorem k2_off211_inb : ∀ (v2169 : BitVec 32) (k2_hw263 : k2_chk263 v2169) (k2_t50 : Fin (k2_t50_loop v2169).trips), ∀ a, (k2_off211 v2169 k2_t50) a + S1x1x16.size a ≤ S4x128x128.size a := fun v2169 k2_hw263 k2_t50 => k2_hw263.2.2.2.2.2.2.2.1 k2_t50
theorem k2_off212_inb : ∀ (v2169 : BitVec 32) (k2_hw263 : k2_chk263 v2169) (k2_t50 : Fin (k2_t50_loop v2169).trips), ∀ a, (k2_off212 v2169 k2_t50) a + S1x1x16.size a ≤ S4x128x128.size a := fun v2169 k2_hw263 k2_t50 => k2_hw263.2.2.2.2.2.2.2.2.1 k2_t50
theorem k2_t51_ok : ∀ (v2169 : BitVec 32) (k2_hw263 : k2_chk263 v2169), (k2_t51_loop v2169).OK := fun v2169 k2_hw263 => k2_hw263.2.2.2.2.2.2.2.2.2.1
theorem k2_off213_inb : ∀ (v2169 : BitVec 32) (k2_hw263 : k2_chk263 v2169) (k2_t51 : Fin (k2_t51_loop v2169).trips), ∀ a, (k2_off213 v2169 k2_t51) a + S1x1x16.size a ≤ S4x128x128.size a := fun v2169 k2_hw263 k2_t51 => k2_hw263.2.2.2.2.2.2.2.2.2.2.1 k2_t51
theorem k2_off214_inb : ∀ (v2169 : BitVec 32) (k2_hw263 : k2_chk263 v2169) (k2_t51 : Fin (k2_t51_loop v2169).trips), ∀ a, (k2_off214 v2169 k2_t51) a + S1x1x16.size a ≤ S4x128x128.size a := fun v2169 k2_hw263 k2_t51 => k2_hw263.2.2.2.2.2.2.2.2.2.2.2.1 k2_t51
theorem k2_off215_inb : ∀ (v2169 : BitVec 32) (k2_hw263 : k2_chk263 v2169) (k2_t51 : Fin (k2_t51_loop v2169).trips), ∀ a, (k2_off215 v2169 k2_t51) a + S1x1x16.size a ≤ S4x128x128.size a := fun v2169 k2_hw263 k2_t51 => k2_hw263.2.2.2.2.2.2.2.2.2.2.2.2.1 k2_t51
theorem k2_off216_inb : ∀ (v2169 : BitVec 32) (k2_hw263 : k2_chk263 v2169) (k2_t51 : Fin (k2_t51_loop v2169).trips), ∀ a, (k2_off216 v2169 k2_t51) a + S1x1x16.size a ≤ S4x128x128.size a := fun v2169 k2_hw263 k2_t51 => k2_hw263.2.2.2.2.2.2.2.2.2.2.2.2.2.1 k2_t51
theorem k2_off217_inb : ∀ (v2169 : BitVec 32) (k2_hw263 : k2_chk263 v2169) (k2_t51 : Fin (k2_t51_loop v2169).trips), ∀ a, (k2_off217 v2169 k2_t51) a + S1x1x16.size a ≤ S4x128x128.size a := fun v2169 k2_hw263 k2_t51 => k2_hw263.2.2.2.2.2.2.2.2.2.2.2.2.2.2.1 k2_t51
theorem k2_off218_inb : ∀ (v2169 : BitVec 32) (k2_hw263 : k2_chk263 v2169) (k2_t51 : Fin (k2_t51_loop v2169).trips), ∀ a, (k2_off218 v2169 k2_t51) a + S1x1x16.size a ≤ S4x128x128.size a := fun v2169 k2_hw263 k2_t51 => k2_hw263.2.2.2.2.2.2.2.2.2.2.2.2.2.2.2.1 k2_t51
theorem k2_off219_inb : ∀ (v2169 : BitVec 32) (k2_hw263 : k2_chk263 v2169) (k2_t51 : Fin (k2_t51_loop v2169).trips), ∀ a, (k2_off219 v2169 k2_t51) a + S1x1x16.size a ≤ S4x128x128.size a := fun v2169 k2_hw263 k2_t51 => k2_hw263.2.2.2.2.2.2.2.2.2.2.2.2.2.2.2.2.1 k2_t51
theorem k2_off220_inb : ∀ (v2169 : BitVec 32) (k2_hw263 : k2_chk263 v2169) (k2_t51 : Fin (k2_t51_loop v2169).trips), ∀ a, (k2_off220 v2169 k2_t51) a + S1x1x16.size a ≤ S4x128x128.size a := fun v2169 k2_hw263 k2_t51 => k2_hw263.2.2.2.2.2.2.2.2.2.2.2.2.2.2.2.2.2 k2_t51

def k2_chk281 (v3700 : IVec S16 32) : Prop :=
  (∀ a x, ((![v3700] : Fin 1 → IVec S16 32) a x).toNat < S512.size a) ∧
  (∀ a x, ((![v3700] : Fin 1 → IVec S16 32) a x).toNat < S512.size a)
theorem k2_idx471_inb : ∀ (v3700 : IVec S16 32) (k2_hw281 : k2_chk281 v3700), ∀ a x, ((![v3700] : Fin 1 → IVec S16 32) a x).toNat < S512.size a := fun v3700 k2_hw281 => k2_hw281.1
theorem k2_idx472_inb : ∀ (v3700 : IVec S16 32) (k2_hw281 : k2_chk281 v3700), ∀ a x, ((![v3700] : Fin 1 → IVec S16 32) a x).toNat < S512.size a := fun v3700 k2_hw281 => k2_hw281.2
@[reducible] def k2_t52_loop : Scf.Loop 32 :=
  let c0_i32_2616 : BitVec 32 := 0#32
  let c32_i32_2617 : BitVec 32 := 32#32
  let v2982 : BitVec 32 := Scalar.addi c0_i32_2616 c32_i32_2617
  let c1_i32_2618 : BitVec 32 := 1#32
  ⟨c0_i32_2616, v2982, c1_i32_2618⟩
def k2_off221 (k2_t52 : Fin k2_t52_loop.trips) : Fin 1 → Nat :=
  let c0_i32_2616 : BitVec 32 := 0#32
  let c1_i32_2618 : BitVec 32 := 1#32
  let arg21 : BitVec 32 := Scf.iv c0_i32_2616 c1_i32_2618 k2_t52
  let c16_i32_3217 : BitVec 32 := 16#32
  let v3610 : BitVec 32 := Scalar.muli arg21 c16_i32_3217
  let v3611 : Index := Scalar.indexCast v3610
  ![v3611.toNat]

def k2_chk282 (v2981 : IVec S16 32) (v3625 : IVec S16 32) : Prop :=
  (∀ a x, ((![v2981, v3625] : Fin 2 → IVec S16 32) a x).toNat < S16x256.size a) ∧
  (∀ a x, ((![v2981, v3625] : Fin 2 → IVec S16 32) a x).toNat < S16x256.size a)
theorem k2_idx473_inb : ∀ (v2981 : IVec S16 32) (v3625 : IVec S16 32) (k2_hw282 : k2_chk282 v2981 v3625), ∀ a x, ((![v2981, v3625] : Fin 2 → IVec S16 32) a x).toNat < S16x256.size a := fun v2981 v3625 k2_hw282 => k2_hw282.1
theorem k2_idx474_inb : ∀ (v2981 : IVec S16 32) (v3625 : IVec S16 32) (k2_hw282 : k2_chk282 v2981 v3625), ∀ a x, ((![v2981, v3625] : Fin 2 → IVec S16 32) a x).toNat < S16x256.size a := fun v2981 v3625 k2_hw282 => k2_hw282.2

def k2_chk283 (v2986 : IVec S16 32) : Prop :=
  (∀ a x, ((![v2986] : Fin 1 → IVec S16 32) a x).toNat < S128.size a)
theorem k2_idx475_inb : ∀ (v2986 : IVec S16 32) (k2_hw283 : k2_chk283 v2986), ∀ a x, ((![v2986] : Fin 1 → IVec S16 32) a x).toNat < S128.size a := fun v2986 k2_hw283 => k2_hw283
@[reducible] def k2_t53_loop : Scf.Loop 32 :=
  let c0_i32_2645 : BitVec 32 := 0#32
  let c49_i32_2646 : BitVec 32 := 49#32
  let v3012 : BitVec 32 := Scalar.addi c0_i32_2645 c49_i32_2646
  let c1_i32_2647 : BitVec 32 := 1#32
  ⟨c0_i32_2645, v3012, c1_i32_2647⟩
def k2_off222 (k2_t53 : Fin k2_t53_loop.trips) : Fin 2 → Nat :=
  let c15_i32_3218 : BitVec 32 := 15#32
  let v3611 : Index := Scalar.indexCast c15_i32_3218
  let c0_i32_2645 : BitVec 32 := 0#32
  let c1_i32_2647 : BitVec 32 := 1#32
  let arg21 : BitVec 32 := Scf.iv c0_i32_2645 c1_i32_2647 k2_t53
  let c16_i32_3217 : BitVec 32 := 16#32
  let v3610 : BitVec 32 := Scalar.muli arg21 c16_i32_3217
  let v3612 : Index := Scalar.indexCast v3610
  ![15, v3612.toNat]

def k2_chk284 (v3621 : IVec S16 32) : Prop :=
  (∀ a x, ((![v3621] : Fin 1 → IVec S16 32) a x).toNat < S128.size a)
theorem k2_idx476_inb : ∀ (v3621 : IVec S16 32) (k2_hw284 : k2_chk284 v3621), ∀ a x, ((![v3621] : Fin 1 → IVec S16 32) a x).toNat < S128.size a := fun v3621 k2_hw284 => k2_hw284

def k2_chk285 (v3083 : IVec S16 32) : Prop :=
  (∀ a x, ((![v3083] : Fin 1 → IVec S16 32) a x).toNat < S128.size a)
theorem k2_idx477_inb : ∀ (v3083 : IVec S16 32) (k2_hw285 : k2_chk285 v3083), ∀ a x, ((![v3083] : Fin 1 → IVec S16 32) a x).toNat < S128.size a := fun v3083 k2_hw285 => k2_hw285
@[reducible] def k2_t54_loop (v2394 : BitVec 32) : Scf.Loop 32 :=
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2768 : BitVec 32 := 1#32
  ⟨c0_i32_2766, v3155, c1_i32_2768⟩

def k2_chk287 (v3610 : IVec S16 32) : Prop :=
  (∀ a x, ((![v3610] : Fin 1 → IVec S16 32) a x).toNat < S128.size a)
theorem k2_idx478_inb : ∀ (v3610 : IVec S16 32) (k2_hw287 : k2_chk287 v3610), ∀ a x, ((![v3610] : Fin 1 → IVec S16 32) a x).toNat < S128.size a := fun v3610 k2_hw287 => k2_hw287
def k2_off223 (v2394 : BitVec 32) (k2_t54 : Fin (k2_t54_loop v2394).trips) : Fin 3 → Nat :=
  let c0_i32_3220 : BitVec 32 := 0#32
  let v3617 : Index := Scalar.indexCast c0_i32_3220
  let c0_i32_2766 : BitVec 32 := 0#32
  let c1_i32_2768 : BitVec 32 := 1#32
  let arg21 : BitVec 32 := Scf.iv c0_i32_2766 c1_i32_2768 k2_t54
  let v3618 : Index := Scalar.indexCast arg21
  let c0_3221 : Index := 0#32
  ![0, v3618.toNat, 0]

def k2_chk288 (v3623 : IVec S16 32) : Prop :=
  (∀ a x, ((![v3623] : Fin 1 → IVec S16 32) a x).toNat < S512.size a) ∧
  (∀ a x, ((![v3623] : Fin 1 → IVec S16 32) a x).toNat < S512.size a)
theorem k2_idx479_inb : ∀ (v3623 : IVec S16 32) (k2_hw288 : k2_chk288 v3623), ∀ a x, ((![v3623] : Fin 1 → IVec S16 32) a x).toNat < S512.size a := fun v3623 k2_hw288 => k2_hw288.1
theorem k2_idx480_inb : ∀ (v3623 : IVec S16 32) (k2_hw288 : k2_chk288 v3623), ∀ a x, ((![v3623] : Fin 1 → IVec S16 32) a x).toNat < S512.size a := fun v3623 k2_hw288 => k2_hw288.2
def k2_off224 (v2394 : BitVec 32) (k2_t54 : Fin (k2_t54_loop v2394).trips) : Fin 3 → Nat :=
  let c0_i32_3223 : BitVec 32 := 0#32
  let v3628 : Index := Scalar.indexCast c0_i32_3223
  let c0_i32_2766 : BitVec 32 := 0#32
  let c1_i32_2768 : BitVec 32 := 1#32
  let arg21 : BitVec 32 := Scf.iv c0_i32_2766 c1_i32_2768 k2_t54
  let v3629 : Index := Scalar.indexCast arg21
  let c16_3224 : Index := 16#32
  ![0, v3629.toNat, 16]

def k2_chk289 (v3634 : IVec S16 32) : Prop :=
  (∀ a x, ((![v3634] : Fin 1 → IVec S16 32) a x).toNat < S512.size a) ∧
  (∀ a x, ((![v3634] : Fin 1 → IVec S16 32) a x).toNat < S512.size a)
theorem k2_idx481_inb : ∀ (v3634 : IVec S16 32) (k2_hw289 : k2_chk289 v3634), ∀ a x, ((![v3634] : Fin 1 → IVec S16 32) a x).toNat < S512.size a := fun v3634 k2_hw289 => k2_hw289.1
theorem k2_idx482_inb : ∀ (v3634 : IVec S16 32) (k2_hw289 : k2_chk289 v3634), ∀ a x, ((![v3634] : Fin 1 → IVec S16 32) a x).toNat < S512.size a := fun v3634 k2_hw289 => k2_hw289.2
def k2_off225 (v2394 : BitVec 32) (k2_t54 : Fin (k2_t54_loop v2394).trips) : Fin 3 → Nat :=
  let c0_i32_3227 : BitVec 32 := 0#32
  let v3639 : Index := Scalar.indexCast c0_i32_3227
  let c0_i32_2766 : BitVec 32 := 0#32
  let c1_i32_2768 : BitVec 32 := 1#32
  let arg21 : BitVec 32 := Scf.iv c0_i32_2766 c1_i32_2768 k2_t54
  let v3640 : Index := Scalar.indexCast arg21
  let c32_3228 : Index := 32#32
  ![0, v3640.toNat, 32]

def k2_chk290 (v3645 : IVec S16 32) : Prop :=
  (∀ a x, ((![v3645] : Fin 1 → IVec S16 32) a x).toNat < S512.size a) ∧
  (∀ a x, ((![v3645] : Fin 1 → IVec S16 32) a x).toNat < S512.size a)
theorem k2_idx483_inb : ∀ (v3645 : IVec S16 32) (k2_hw290 : k2_chk290 v3645), ∀ a x, ((![v3645] : Fin 1 → IVec S16 32) a x).toNat < S512.size a := fun v3645 k2_hw290 => k2_hw290.1
theorem k2_idx484_inb : ∀ (v3645 : IVec S16 32) (k2_hw290 : k2_chk290 v3645), ∀ a x, ((![v3645] : Fin 1 → IVec S16 32) a x).toNat < S512.size a := fun v3645 k2_hw290 => k2_hw290.2
def k2_off226 (v2394 : BitVec 32) (k2_t54 : Fin (k2_t54_loop v2394).trips) : Fin 3 → Nat :=
  let c0_i32_3231 : BitVec 32 := 0#32
  let v3650 : Index := Scalar.indexCast c0_i32_3231
  let c0_i32_2766 : BitVec 32 := 0#32
  let c1_i32_2768 : BitVec 32 := 1#32
  let arg21 : BitVec 32 := Scf.iv c0_i32_2766 c1_i32_2768 k2_t54
  let v3651 : Index := Scalar.indexCast arg21
  let c48_3232 : Index := 48#32
  ![0, v3651.toNat, 48]

def k2_chk291 (v3656 : IVec S16 32) : Prop :=
  (∀ a x, ((![v3656] : Fin 1 → IVec S16 32) a x).toNat < S512.size a) ∧
  (∀ a x, ((![v3656] : Fin 1 → IVec S16 32) a x).toNat < S512.size a)
theorem k2_idx485_inb : ∀ (v3656 : IVec S16 32) (k2_hw291 : k2_chk291 v3656), ∀ a x, ((![v3656] : Fin 1 → IVec S16 32) a x).toNat < S512.size a := fun v3656 k2_hw291 => k2_hw291.1
theorem k2_idx486_inb : ∀ (v3656 : IVec S16 32) (k2_hw291 : k2_chk291 v3656), ∀ a x, ((![v3656] : Fin 1 → IVec S16 32) a x).toNat < S512.size a := fun v3656 k2_hw291 => k2_hw291.2
def k2_off227 (v2394 : BitVec 32) (k2_t54 : Fin (k2_t54_loop v2394).trips) : Fin 3 → Nat :=
  let c0_i32_3234 : BitVec 32 := 0#32
  let v3661 : Index := Scalar.indexCast c0_i32_3234
  let c0_i32_2766 : BitVec 32 := 0#32
  let c1_i32_2768 : BitVec 32 := 1#32
  let arg21 : BitVec 32 := Scf.iv c0_i32_2766 c1_i32_2768 k2_t54
  let v3662 : Index := Scalar.indexCast arg21
  let c64_3235 : Index := 64#32
  ![0, v3662.toNat, 64]

def k2_chk292 (v3667 : IVec S16 32) : Prop :=
  (∀ a x, ((![v3667] : Fin 1 → IVec S16 32) a x).toNat < S512.size a) ∧
  (∀ a x, ((![v3667] : Fin 1 → IVec S16 32) a x).toNat < S512.size a)
theorem k2_idx487_inb : ∀ (v3667 : IVec S16 32) (k2_hw292 : k2_chk292 v3667), ∀ a x, ((![v3667] : Fin 1 → IVec S16 32) a x).toNat < S512.size a := fun v3667 k2_hw292 => k2_hw292.1
theorem k2_idx488_inb : ∀ (v3667 : IVec S16 32) (k2_hw292 : k2_chk292 v3667), ∀ a x, ((![v3667] : Fin 1 → IVec S16 32) a x).toNat < S512.size a := fun v3667 k2_hw292 => k2_hw292.2
def k2_off228 (v2394 : BitVec 32) (k2_t54 : Fin (k2_t54_loop v2394).trips) : Fin 3 → Nat :=
  let c0_i32_3237 : BitVec 32 := 0#32
  let v3672 : Index := Scalar.indexCast c0_i32_3237
  let c0_i32_2766 : BitVec 32 := 0#32
  let c1_i32_2768 : BitVec 32 := 1#32
  let arg21 : BitVec 32 := Scf.iv c0_i32_2766 c1_i32_2768 k2_t54
  let v3673 : Index := Scalar.indexCast arg21
  let c80_3238 : Index := 80#32
  ![0, v3673.toNat, 80]

def k2_chk293 (v3678 : IVec S16 32) : Prop :=
  (∀ a x, ((![v3678] : Fin 1 → IVec S16 32) a x).toNat < S512.size a) ∧
  (∀ a x, ((![v3678] : Fin 1 → IVec S16 32) a x).toNat < S512.size a)
theorem k2_idx489_inb : ∀ (v3678 : IVec S16 32) (k2_hw293 : k2_chk293 v3678), ∀ a x, ((![v3678] : Fin 1 → IVec S16 32) a x).toNat < S512.size a := fun v3678 k2_hw293 => k2_hw293.1
theorem k2_idx490_inb : ∀ (v3678 : IVec S16 32) (k2_hw293 : k2_chk293 v3678), ∀ a x, ((![v3678] : Fin 1 → IVec S16 32) a x).toNat < S512.size a := fun v3678 k2_hw293 => k2_hw293.2
def k2_off229 (v2394 : BitVec 32) (k2_t54 : Fin (k2_t54_loop v2394).trips) : Fin 3 → Nat :=
  let c0_i32_3240 : BitVec 32 := 0#32
  let v3683 : Index := Scalar.indexCast c0_i32_3240
  let c0_i32_2766 : BitVec 32 := 0#32
  let c1_i32_2768 : BitVec 32 := 1#32
  let arg21 : BitVec 32 := Scf.iv c0_i32_2766 c1_i32_2768 k2_t54
  let v3684 : Index := Scalar.indexCast arg21
  let c96_3241 : Index := 96#32
  ![0, v3684.toNat, 96]

def k2_chk294 (v3689 : IVec S16 32) : Prop :=
  (∀ a x, ((![v3689] : Fin 1 → IVec S16 32) a x).toNat < S512.size a) ∧
  (∀ a x, ((![v3689] : Fin 1 → IVec S16 32) a x).toNat < S512.size a)
theorem k2_idx491_inb : ∀ (v3689 : IVec S16 32) (k2_hw294 : k2_chk294 v3689), ∀ a x, ((![v3689] : Fin 1 → IVec S16 32) a x).toNat < S512.size a := fun v3689 k2_hw294 => k2_hw294.1
theorem k2_idx492_inb : ∀ (v3689 : IVec S16 32) (k2_hw294 : k2_chk294 v3689), ∀ a x, ((![v3689] : Fin 1 → IVec S16 32) a x).toNat < S512.size a := fun v3689 k2_hw294 => k2_hw294.2
def k2_off230 (v2394 : BitVec 32) (k2_t54 : Fin (k2_t54_loop v2394).trips) : Fin 3 → Nat :=
  let c0_i32_3243 : BitVec 32 := 0#32
  let v3694 : Index := Scalar.indexCast c0_i32_3243
  let c0_i32_2766 : BitVec 32 := 0#32
  let c1_i32_2768 : BitVec 32 := 1#32
  let arg21 : BitVec 32 := Scf.iv c0_i32_2766 c1_i32_2768 k2_t54
  let v3695 : Index := Scalar.indexCast arg21
  let c112_3244 : Index := 112#32
  ![0, v3695.toNat, 112]

def k2_chk295 (v3700 : IVec S16 32) : Prop :=
  (∀ a x, ((![v3700] : Fin 1 → IVec S16 32) a x).toNat < S512.size a) ∧
  (∀ a x, ((![v3700] : Fin 1 → IVec S16 32) a x).toNat < S512.size a)
theorem k2_idx493_inb : ∀ (v3700 : IVec S16 32) (k2_hw295 : k2_chk295 v3700), ∀ a x, ((![v3700] : Fin 1 → IVec S16 32) a x).toNat < S512.size a := fun v3700 k2_hw295 => k2_hw295.1
theorem k2_idx494_inb : ∀ (v3700 : IVec S16 32) (k2_hw295 : k2_chk295 v3700), ∀ a x, ((![v3700] : Fin 1 → IVec S16 32) a x).toNat < S512.size a := fun v3700 k2_hw295 => k2_hw295.2
@[reducible] def k2_t55_loop (v2394 : BitVec 32) : Scf.Loop 32 :=
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let v3152 : BitVec 32 := Scalar.addi c0_i32_2766 v3151
  let c1_i32_2769 : BitVec 32 := 1#32
  ⟨v3155, v3152, c1_i32_2769⟩

def k2_chk296 (v3610 : IVec S16 32) : Prop :=
  (∀ a x, ((![v3610] : Fin 1 → IVec S16 32) a x).toNat < S128.size a)
theorem k2_idx495_inb : ∀ (v3610 : IVec S16 32) (k2_hw296 : k2_chk296 v3610), ∀ a x, ((![v3610] : Fin 1 → IVec S16 32) a x).toNat < S128.size a := fun v3610 k2_hw296 => k2_hw296
def k2_off231 (v2394 : BitVec 32) (k2_t55 : Fin (k2_t55_loop v2394).trips) : Fin 3 → Nat :=
  let c0_i32_3220 : BitVec 32 := 0#32
  let v3617 : Index := Scalar.indexCast c0_i32_3220
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3618 : Index := Scalar.indexCast arg21
  let c0_3221 : Index := 0#32
  ![0, v3618.toNat, 0]

def k2_chk297 (v3623 : IVec S16 32) : Prop :=
  (∀ a x, ((![v3623] : Fin 1 → IVec S16 32) a x).toNat < S512.size a) ∧
  (∀ a x, ((![v3623] : Fin 1 → IVec S16 32) a x).toNat < S512.size a)
theorem k2_idx496_inb : ∀ (v3623 : IVec S16 32) (k2_hw297 : k2_chk297 v3623), ∀ a x, ((![v3623] : Fin 1 → IVec S16 32) a x).toNat < S512.size a := fun v3623 k2_hw297 => k2_hw297.1
theorem k2_idx497_inb : ∀ (v3623 : IVec S16 32) (k2_hw297 : k2_chk297 v3623), ∀ a x, ((![v3623] : Fin 1 → IVec S16 32) a x).toNat < S512.size a := fun v3623 k2_hw297 => k2_hw297.2
def k2_off232 (v2394 : BitVec 32) (k2_t55 : Fin (k2_t55_loop v2394).trips) : Fin 3 → Nat :=
  let c0_i32_3223 : BitVec 32 := 0#32
  let v3628 : Index := Scalar.indexCast c0_i32_3223
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3629 : Index := Scalar.indexCast arg21
  let c16_3224 : Index := 16#32
  ![0, v3629.toNat, 16]

def k2_chk298 (v3634 : IVec S16 32) : Prop :=
  (∀ a x, ((![v3634] : Fin 1 → IVec S16 32) a x).toNat < S512.size a) ∧
  (∀ a x, ((![v3634] : Fin 1 → IVec S16 32) a x).toNat < S512.size a)
theorem k2_idx498_inb : ∀ (v3634 : IVec S16 32) (k2_hw298 : k2_chk298 v3634), ∀ a x, ((![v3634] : Fin 1 → IVec S16 32) a x).toNat < S512.size a := fun v3634 k2_hw298 => k2_hw298.1
theorem k2_idx499_inb : ∀ (v3634 : IVec S16 32) (k2_hw298 : k2_chk298 v3634), ∀ a x, ((![v3634] : Fin 1 → IVec S16 32) a x).toNat < S512.size a := fun v3634 k2_hw298 => k2_hw298.2
def k2_off233 (v2394 : BitVec 32) (k2_t55 : Fin (k2_t55_loop v2394).trips) : Fin 3 → Nat :=
  let c0_i32_3227 : BitVec 32 := 0#32
  let v3639 : Index := Scalar.indexCast c0_i32_3227
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3640 : Index := Scalar.indexCast arg21
  let c32_3228 : Index := 32#32
  ![0, v3640.toNat, 32]

def k2_chk299 (v3645 : IVec S16 32) : Prop :=
  (∀ a x, ((![v3645] : Fin 1 → IVec S16 32) a x).toNat < S512.size a) ∧
  (∀ a x, ((![v3645] : Fin 1 → IVec S16 32) a x).toNat < S512.size a)
theorem k2_idx500_inb : ∀ (v3645 : IVec S16 32) (k2_hw299 : k2_chk299 v3645), ∀ a x, ((![v3645] : Fin 1 → IVec S16 32) a x).toNat < S512.size a := fun v3645 k2_hw299 => k2_hw299.1
theorem k2_idx501_inb : ∀ (v3645 : IVec S16 32) (k2_hw299 : k2_chk299 v3645), ∀ a x, ((![v3645] : Fin 1 → IVec S16 32) a x).toNat < S512.size a := fun v3645 k2_hw299 => k2_hw299.2
def k2_off234 (v2394 : BitVec 32) (k2_t55 : Fin (k2_t55_loop v2394).trips) : Fin 3 → Nat :=
  let c0_i32_3231 : BitVec 32 := 0#32
  let v3650 : Index := Scalar.indexCast c0_i32_3231
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3651 : Index := Scalar.indexCast arg21
  let c48_3232 : Index := 48#32
  ![0, v3651.toNat, 48]

def k2_chk300 (v3656 : IVec S16 32) : Prop :=
  (∀ a x, ((![v3656] : Fin 1 → IVec S16 32) a x).toNat < S512.size a) ∧
  (∀ a x, ((![v3656] : Fin 1 → IVec S16 32) a x).toNat < S512.size a)
theorem k2_idx502_inb : ∀ (v3656 : IVec S16 32) (k2_hw300 : k2_chk300 v3656), ∀ a x, ((![v3656] : Fin 1 → IVec S16 32) a x).toNat < S512.size a := fun v3656 k2_hw300 => k2_hw300.1
theorem k2_idx503_inb : ∀ (v3656 : IVec S16 32) (k2_hw300 : k2_chk300 v3656), ∀ a x, ((![v3656] : Fin 1 → IVec S16 32) a x).toNat < S512.size a := fun v3656 k2_hw300 => k2_hw300.2
def k2_off235 (v2394 : BitVec 32) (k2_t55 : Fin (k2_t55_loop v2394).trips) : Fin 3 → Nat :=
  let c0_i32_3234 : BitVec 32 := 0#32
  let v3661 : Index := Scalar.indexCast c0_i32_3234
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3662 : Index := Scalar.indexCast arg21
  let c64_3235 : Index := 64#32
  ![0, v3662.toNat, 64]

def k2_chk301 (v3667 : IVec S16 32) : Prop :=
  (∀ a x, ((![v3667] : Fin 1 → IVec S16 32) a x).toNat < S512.size a) ∧
  (∀ a x, ((![v3667] : Fin 1 → IVec S16 32) a x).toNat < S512.size a)
theorem k2_idx504_inb : ∀ (v3667 : IVec S16 32) (k2_hw301 : k2_chk301 v3667), ∀ a x, ((![v3667] : Fin 1 → IVec S16 32) a x).toNat < S512.size a := fun v3667 k2_hw301 => k2_hw301.1
theorem k2_idx505_inb : ∀ (v3667 : IVec S16 32) (k2_hw301 : k2_chk301 v3667), ∀ a x, ((![v3667] : Fin 1 → IVec S16 32) a x).toNat < S512.size a := fun v3667 k2_hw301 => k2_hw301.2
def k2_off236 (v2394 : BitVec 32) (k2_t55 : Fin (k2_t55_loop v2394).trips) : Fin 3 → Nat :=
  let c0_i32_3237 : BitVec 32 := 0#32
  let v3672 : Index := Scalar.indexCast c0_i32_3237
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3673 : Index := Scalar.indexCast arg21
  let c80_3238 : Index := 80#32
  ![0, v3673.toNat, 80]

def k2_chk302 (v3678 : IVec S16 32) : Prop :=
  (∀ a x, ((![v3678] : Fin 1 → IVec S16 32) a x).toNat < S512.size a) ∧
  (∀ a x, ((![v3678] : Fin 1 → IVec S16 32) a x).toNat < S512.size a)
theorem k2_idx506_inb : ∀ (v3678 : IVec S16 32) (k2_hw302 : k2_chk302 v3678), ∀ a x, ((![v3678] : Fin 1 → IVec S16 32) a x).toNat < S512.size a := fun v3678 k2_hw302 => k2_hw302.1
theorem k2_idx507_inb : ∀ (v3678 : IVec S16 32) (k2_hw302 : k2_chk302 v3678), ∀ a x, ((![v3678] : Fin 1 → IVec S16 32) a x).toNat < S512.size a := fun v3678 k2_hw302 => k2_hw302.2
def k2_off237 (v2394 : BitVec 32) (k2_t55 : Fin (k2_t55_loop v2394).trips) : Fin 3 → Nat :=
  let c0_i32_3240 : BitVec 32 := 0#32
  let v3683 : Index := Scalar.indexCast c0_i32_3240
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3684 : Index := Scalar.indexCast arg21
  let c96_3241 : Index := 96#32
  ![0, v3684.toNat, 96]

def k2_chk303 (v3689 : IVec S16 32) : Prop :=
  (∀ a x, ((![v3689] : Fin 1 → IVec S16 32) a x).toNat < S512.size a) ∧
  (∀ a x, ((![v3689] : Fin 1 → IVec S16 32) a x).toNat < S512.size a)
theorem k2_idx508_inb : ∀ (v3689 : IVec S16 32) (k2_hw303 : k2_chk303 v3689), ∀ a x, ((![v3689] : Fin 1 → IVec S16 32) a x).toNat < S512.size a := fun v3689 k2_hw303 => k2_hw303.1
theorem k2_idx509_inb : ∀ (v3689 : IVec S16 32) (k2_hw303 : k2_chk303 v3689), ∀ a x, ((![v3689] : Fin 1 → IVec S16 32) a x).toNat < S512.size a := fun v3689 k2_hw303 => k2_hw303.2
def k2_off238 (v2394 : BitVec 32) (k2_t55 : Fin (k2_t55_loop v2394).trips) : Fin 3 → Nat :=
  let c0_i32_3243 : BitVec 32 := 0#32
  let v3694 : Index := Scalar.indexCast c0_i32_3243
  let c0_i32_2766 : BitVec 32 := 0#32
  let c128_i32_2075 : BitVec 32 := 128#32
  let v2395 : BitVec 32 := Scalar.minsi v2394 c128_i32_2075
  let v3151 : BitVec 32 := Scalar.subi v2395 c0_i32_2766
  let c1_i32_2767 : BitVec 32 := 1#32
  let v3153 : BitVec 32 := Scalar.divsi v3151 c1_i32_2767
  let v3154 : BitVec 32 := Scalar.muli v3153 c1_i32_2767
  let v3155 : BitVec 32 := Scalar.addi c0_i32_2766 v3154
  let c1_i32_2769 : BitVec 32 := 1#32
  let arg21 : BitVec 32 := Scf.iv v3155 c1_i32_2769 k2_t55
  let v3695 : Index := Scalar.indexCast arg21
  let c112_3244 : Index := 112#32
  ![0, v3695.toNat, 112]

def k2_chk286 (v2394 : BitVec 32) : Prop :=
  ((k2_t54_loop v2394).OK) ∧
  (∀ k2_t54 : Fin (k2_t54_loop v2394).trips, ∀ a, (k2_off223 v2394 k2_t54) a + S1x1x16.size a ≤ S4x128x128.size a) ∧
  (∀ k2_t54 : Fin (k2_t54_loop v2394).trips, ∀ a, (k2_off224 v2394 k2_t54) a + S1x1x16.size a ≤ S4x128x128.size a) ∧
  (∀ k2_t54 : Fin (k2_t54_loop v2394).trips, ∀ a, (k2_off225 v2394 k2_t54) a + S1x1x16.size a ≤ S4x128x128.size a) ∧
  (∀ k2_t54 : Fin (k2_t54_loop v2394).trips, ∀ a, (k2_off226 v2394 k2_t54) a + S1x1x16.size a ≤ S4x128x128.size a) ∧
  (∀ k2_t54 : Fin (k2_t54_loop v2394).trips, ∀ a, (k2_off227 v2394 k2_t54) a + S1x1x16.size a ≤ S4x128x128.size a) ∧
  (∀ k2_t54 : Fin (k2_t54_loop v2394).trips, ∀ a, (k2_off228 v2394 k2_t54) a + S1x1x16.size a ≤ S4x128x128.size a) ∧
  (∀ k2_t54 : Fin (k2_t54_loop v2394).trips, ∀ a, (k2_off229 v2394 k2_t54) a + S1x1x16.size a ≤ S4x128x128.size a) ∧
  (∀ k2_t54 : Fin (k2_t54_loop v2394).trips, ∀ a, (k2_off230 v2394 k2_t54) a + S1x1x16.size a ≤ S4x128x128.size a) ∧
  ((k2_t55_loop v2394).OK) ∧
  (∀ k2_t55 : Fin (k2_t55_loop v2394).trips, ∀ a, (k2_off231 v2394 k2_t55) a + S1x1x16.size a ≤ S4x128x128.size a) ∧
  (∀ k2_t55 : Fin (k2_t55_loop v2394).trips, ∀ a, (k2_off232 v2394 k2_t55) a + S1x1x16.size a ≤ S4x128x128.size a) ∧
  (∀ k2_t55 : Fin (k2_t55_loop v2394).trips, ∀ a, (k2_off233 v2394 k2_t55) a + S1x1x16.size a ≤ S4x128x128.size a) ∧
  (∀ k2_t55 : Fin (k2_t55_loop v2394).trips, ∀ a, (k2_off234 v2394 k2_t55) a + S1x1x16.size a ≤ S4x128x128.size a) ∧
  (∀ k2_t55 : Fin (k2_t55_loop v2394).trips, ∀ a, (k2_off235 v2394 k2_t55) a + S1x1x16.size a ≤ S4x128x128.size a) ∧
  (∀ k2_t55 : Fin (k2_t55_loop v2394).trips, ∀ a, (k2_off236 v2394 k2_t55) a + S1x1x16.size a ≤ S4x128x128.size a) ∧
  (∀ k2_t55 : Fin (k2_t55_loop v2394).trips, ∀ a, (k2_off237 v2394 k2_t55) a + S1x1x16.size a ≤ S4x128x128.size a) ∧
  (∀ k2_t55 : Fin (k2_t55_loop v2394).trips, ∀ a, (k2_off238 v2394 k2_t55) a + S1x1x16.size a ≤ S4x128x128.size a)
theorem k2_t54_ok : ∀ (v2394 : BitVec 32) (k2_hw286 : k2_chk286 v2394), (k2_t54_loop v2394).OK := fun v2394 k2_hw286 => k2_hw286.1
theorem k2_off223_inb : ∀ (v2394 : BitVec 32) (k2_hw286 : k2_chk286 v2394) (k2_t54 : Fin (k2_t54_loop v2394).trips), ∀ a, (k2_off223 v2394 k2_t54) a + S1x1x16.size a ≤ S4x128x128.size a := fun v2394 k2_hw286 k2_t54 => k2_hw286.2.1 k2_t54
theorem k2_off224_inb : ∀ (v2394 : BitVec 32) (k2_hw286 : k2_chk286 v2394) (k2_t54 : Fin (k2_t54_loop v2394).trips), ∀ a, (k2_off224 v2394 k2_t54) a + S1x1x16.size a ≤ S4x128x128.size a := fun v2394 k2_hw286 k2_t54 => k2_hw286.2.2.1 k2_t54
theorem k2_off225_inb : ∀ (v2394 : BitVec 32) (k2_hw286 : k2_chk286 v2394) (k2_t54 : Fin (k2_t54_loop v2394).trips), ∀ a, (k2_off225 v2394 k2_t54) a + S1x1x16.size a ≤ S4x128x128.size a := fun v2394 k2_hw286 k2_t54 => k2_hw286.2.2.2.1 k2_t54
theorem k2_off226_inb : ∀ (v2394 : BitVec 32) (k2_hw286 : k2_chk286 v2394) (k2_t54 : Fin (k2_t54_loop v2394).trips), ∀ a, (k2_off226 v2394 k2_t54) a + S1x1x16.size a ≤ S4x128x128.size a := fun v2394 k2_hw286 k2_t54 => k2_hw286.2.2.2.2.1 k2_t54
theorem k2_off227_inb : ∀ (v2394 : BitVec 32) (k2_hw286 : k2_chk286 v2394) (k2_t54 : Fin (k2_t54_loop v2394).trips), ∀ a, (k2_off227 v2394 k2_t54) a + S1x1x16.size a ≤ S4x128x128.size a := fun v2394 k2_hw286 k2_t54 => k2_hw286.2.2.2.2.2.1 k2_t54
theorem k2_off228_inb : ∀ (v2394 : BitVec 32) (k2_hw286 : k2_chk286 v2394) (k2_t54 : Fin (k2_t54_loop v2394).trips), ∀ a, (k2_off228 v2394 k2_t54) a + S1x1x16.size a ≤ S4x128x128.size a := fun v2394 k2_hw286 k2_t54 => k2_hw286.2.2.2.2.2.2.1 k2_t54
theorem k2_off229_inb : ∀ (v2394 : BitVec 32) (k2_hw286 : k2_chk286 v2394) (k2_t54 : Fin (k2_t54_loop v2394).trips), ∀ a, (k2_off229 v2394 k2_t54) a + S1x1x16.size a ≤ S4x128x128.size a := fun v2394 k2_hw286 k2_t54 => k2_hw286.2.2.2.2.2.2.2.1 k2_t54
theorem k2_off230_inb : ∀ (v2394 : BitVec 32) (k2_hw286 : k2_chk286 v2394) (k2_t54 : Fin (k2_t54_loop v2394).trips), ∀ a, (k2_off230 v2394 k2_t54) a + S1x1x16.size a ≤ S4x128x128.size a := fun v2394 k2_hw286 k2_t54 => k2_hw286.2.2.2.2.2.2.2.2.1 k2_t54
theorem k2_t55_ok : ∀ (v2394 : BitVec 32) (k2_hw286 : k2_chk286 v2394), (k2_t55_loop v2394).OK := fun v2394 k2_hw286 => k2_hw286.2.2.2.2.2.2.2.2.2.1
theorem k2_off231_inb : ∀ (v2394 : BitVec 32) (k2_hw286 : k2_chk286 v2394) (k2_t55 : Fin (k2_t55_loop v2394).trips), ∀ a, (k2_off231 v2394 k2_t55) a + S1x1x16.size a ≤ S4x128x128.size a := fun v2394 k2_hw286 k2_t55 => k2_hw286.2.2.2.2.2.2.2.2.2.2.1 k2_t55
theorem k2_off232_inb : ∀ (v2394 : BitVec 32) (k2_hw286 : k2_chk286 v2394) (k2_t55 : Fin (k2_t55_loop v2394).trips), ∀ a, (k2_off232 v2394 k2_t55) a + S1x1x16.size a ≤ S4x128x128.size a := fun v2394 k2_hw286 k2_t55 => k2_hw286.2.2.2.2.2.2.2.2.2.2.2.1 k2_t55
theorem k2_off233_inb : ∀ (v2394 : BitVec 32) (k2_hw286 : k2_chk286 v2394) (k2_t55 : Fin (k2_t55_loop v2394).trips), ∀ a, (k2_off233 v2394 k2_t55) a + S1x1x16.size a ≤ S4x128x128.size a := fun v2394 k2_hw286 k2_t55 => k2_hw286.2.2.2.2.2.2.2.2.2.2.2.2.1 k2_t55
theorem k2_off234_inb : ∀ (v2394 : BitVec 32) (k2_hw286 : k2_chk286 v2394) (k2_t55 : Fin (k2_t55_loop v2394).trips), ∀ a, (k2_off234 v2394 k2_t55) a + S1x1x16.size a ≤ S4x128x128.size a := fun v2394 k2_hw286 k2_t55 => k2_hw286.2.2.2.2.2.2.2.2.2.2.2.2.2.1 k2_t55
theorem k2_off235_inb : ∀ (v2394 : BitVec 32) (k2_hw286 : k2_chk286 v2394) (k2_t55 : Fin (k2_t55_loop v2394).trips), ∀ a, (k2_off235 v2394 k2_t55) a + S1x1x16.size a ≤ S4x128x128.size a := fun v2394 k2_hw286 k2_t55 => k2_hw286.2.2.2.2.2.2.2.2.2.2.2.2.2.2.1 k2_t55
theorem k2_off236_inb : ∀ (v2394 : BitVec 32) (k2_hw286 : k2_chk286 v2394) (k2_t55 : Fin (k2_t55_loop v2394).trips), ∀ a, (k2_off236 v2394 k2_t55) a + S1x1x16.size a ≤ S4x128x128.size a := fun v2394 k2_hw286 k2_t55 => k2_hw286.2.2.2.2.2.2.2.2.2.2.2.2.2.2.2.1 k2_t55
theorem k2_off237_inb : ∀ (v2394 : BitVec 32) (k2_hw286 : k2_chk286 v2394) (k2_t55 : Fin (k2_t55_loop v2394).trips), ∀ a, (k2_off237 v2394 k2_t55) a + S1x1x16.size a ≤ S4x128x128.size a := fun v2394 k2_hw286 k2_t55 => k2_hw286.2.2.2.2.2.2.2.2.2.2.2.2.2.2.2.2.1 k2_t55
theorem k2_off238_inb : ∀ (v2394 : BitVec 32) (k2_hw286 : k2_chk286 v2394) (k2_t55 : Fin (k2_t55_loop v2394).trips), ∀ a, (k2_off238 v2394 k2_t55) a + S1x1x16.size a ≤ S4x128x128.size a := fun v2394 k2_hw286 k2_t55 => k2_hw286.2.2.2.2.2.2.2.2.2.2.2.2.2.2.2.2.2 k2_t55

def k2_chk304 (v3700 : IVec S16 32) : Prop :=
  (∀ a x, ((![v3700] : Fin 1 → IVec S16 32) a x).toNat < S512.size a) ∧
  (∀ a x, ((![v3700] : Fin 1 → IVec S16 32) a x).toNat < S512.size a)
theorem k2_idx510_inb : ∀ (v3700 : IVec S16 32) (k2_hw304 : k2_chk304 v3700), ∀ a x, ((![v3700] : Fin 1 → IVec S16 32) a x).toNat < S512.size a := fun v3700 k2_hw304 => k2_hw304.1
theorem k2_idx511_inb : ∀ (v3700 : IVec S16 32) (k2_hw304 : k2_chk304 v3700), ∀ a x, ((![v3700] : Fin 1 → IVec S16 32) a x).toNat < S512.size a := fun v3700 k2_hw304 => k2_hw304.2
@[reducible] def k2_t56_loop : Scf.Loop 32 :=
  let c0_i32_2819 : BitVec 32 := 0#32
  let c32_i32_2820 : BitVec 32 := 32#32
  let v3207 : BitVec 32 := Scalar.addi c0_i32_2819 c32_i32_2820
  let c1_i32_2821 : BitVec 32 := 1#32
  ⟨c0_i32_2819, v3207, c1_i32_2821⟩
def k2_off239 (k2_t56 : Fin k2_t56_loop.trips) : Fin 1 → Nat :=
  let c0_i32_2819 : BitVec 32 := 0#32
  let c1_i32_2821 : BitVec 32 := 1#32
  let arg21 : BitVec 32 := Scf.iv c0_i32_2819 c1_i32_2821 k2_t56
  let c16_i32_3217 : BitVec 32 := 16#32
  let v3610 : BitVec 32 := Scalar.muli arg21 c16_i32_3217
  let v3611 : Index := Scalar.indexCast v3610
  ![v3611.toNat]

def k2_chk305 (v3206 : IVec S16 32) (v3625 : IVec S16 32) : Prop :=
  (∀ a x, ((![v3206, v3625] : Fin 2 → IVec S16 32) a x).toNat < S16x256.size a) ∧
  (∀ a x, ((![v3206, v3625] : Fin 2 → IVec S16 32) a x).toNat < S16x256.size a)
theorem k2_idx512_inb : ∀ (v3206 : IVec S16 32) (v3625 : IVec S16 32) (k2_hw305 : k2_chk305 v3206 v3625), ∀ a x, ((![v3206, v3625] : Fin 2 → IVec S16 32) a x).toNat < S16x256.size a := fun v3206 v3625 k2_hw305 => k2_hw305.1
theorem k2_idx513_inb : ∀ (v3206 : IVec S16 32) (v3625 : IVec S16 32) (k2_hw305 : k2_chk305 v3206 v3625), ∀ a x, ((![v3206, v3625] : Fin 2 → IVec S16 32) a x).toNat < S16x256.size a := fun v3206 v3625 k2_hw305 => k2_hw305.2

def k2_chk306 (v3216 : IVec S16 32) : Prop :=
  (∀ a x, ((![v3216] : Fin 1 → IVec S16 32) a x).toNat < S128.size a)
theorem k2_idx514_inb : ∀ (v3216 : IVec S16 32) (k2_hw306 : k2_chk306 v3216), ∀ a x, ((![v3216] : Fin 1 → IVec S16 32) a x).toNat < S128.size a := fun v3216 k2_hw306 => k2_hw306
@[reducible] def k2_t57_loop (v2619 : BitVec 32) : Scf.Loop 32 :=
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2899 : BitVec 32 := 1#32
  ⟨c0_i32_2897, v3288, c1_i32_2899⟩

def k2_chk308 (v3610 : IVec S16 32) : Prop :=
  (∀ a x, ((![v3610] : Fin 1 → IVec S16 32) a x).toNat < S128.size a)
theorem k2_idx515_inb : ∀ (v3610 : IVec S16 32) (k2_hw308 : k2_chk308 v3610), ∀ a x, ((![v3610] : Fin 1 → IVec S16 32) a x).toNat < S128.size a := fun v3610 k2_hw308 => k2_hw308
def k2_off240 (v2619 : BitVec 32) (k2_t57 : Fin (k2_t57_loop v2619).trips) : Fin 3 → Nat :=
  let c1_i32_3220 : BitVec 32 := 1#32
  let v3617 : Index := Scalar.indexCast c1_i32_3220
  let c0_i32_2897 : BitVec 32 := 0#32
  let c1_i32_2899 : BitVec 32 := 1#32
  let arg21 : BitVec 32 := Scf.iv c0_i32_2897 c1_i32_2899 k2_t57
  let v3618 : Index := Scalar.indexCast arg21
  let c0_3221 : Index := 0#32
  ![1, v3618.toNat, 0]

def k2_chk309 (v3623 : IVec S16 32) : Prop :=
  (∀ a x, ((![v3623] : Fin 1 → IVec S16 32) a x).toNat < S512.size a) ∧
  (∀ a x, ((![v3623] : Fin 1 → IVec S16 32) a x).toNat < S512.size a)
theorem k2_idx516_inb : ∀ (v3623 : IVec S16 32) (k2_hw309 : k2_chk309 v3623), ∀ a x, ((![v3623] : Fin 1 → IVec S16 32) a x).toNat < S512.size a := fun v3623 k2_hw309 => k2_hw309.1
theorem k2_idx517_inb : ∀ (v3623 : IVec S16 32) (k2_hw309 : k2_chk309 v3623), ∀ a x, ((![v3623] : Fin 1 → IVec S16 32) a x).toNat < S512.size a := fun v3623 k2_hw309 => k2_hw309.2
def k2_off241 (v2619 : BitVec 32) (k2_t57 : Fin (k2_t57_loop v2619).trips) : Fin 3 → Nat :=
  let c1_i32_3223 : BitVec 32 := 1#32
  let v3628 : Index := Scalar.indexCast c1_i32_3223
  let c0_i32_2897 : BitVec 32 := 0#32
  let c1_i32_2899 : BitVec 32 := 1#32
  let arg21 : BitVec 32 := Scf.iv c0_i32_2897 c1_i32_2899 k2_t57
  let v3629 : Index := Scalar.indexCast arg21
  let c16_3224 : Index := 16#32
  ![1, v3629.toNat, 16]

def k2_chk310 (v3634 : IVec S16 32) : Prop :=
  (∀ a x, ((![v3634] : Fin 1 → IVec S16 32) a x).toNat < S512.size a) ∧
  (∀ a x, ((![v3634] : Fin 1 → IVec S16 32) a x).toNat < S512.size a)
theorem k2_idx518_inb : ∀ (v3634 : IVec S16 32) (k2_hw310 : k2_chk310 v3634), ∀ a x, ((![v3634] : Fin 1 → IVec S16 32) a x).toNat < S512.size a := fun v3634 k2_hw310 => k2_hw310.1
theorem k2_idx519_inb : ∀ (v3634 : IVec S16 32) (k2_hw310 : k2_chk310 v3634), ∀ a x, ((![v3634] : Fin 1 → IVec S16 32) a x).toNat < S512.size a := fun v3634 k2_hw310 => k2_hw310.2
def k2_off242 (v2619 : BitVec 32) (k2_t57 : Fin (k2_t57_loop v2619).trips) : Fin 3 → Nat :=
  let c1_i32_3227 : BitVec 32 := 1#32
  let v3639 : Index := Scalar.indexCast c1_i32_3227
  let c0_i32_2897 : BitVec 32 := 0#32
  let c1_i32_2899 : BitVec 32 := 1#32
  let arg21 : BitVec 32 := Scf.iv c0_i32_2897 c1_i32_2899 k2_t57
  let v3640 : Index := Scalar.indexCast arg21
  let c32_3228 : Index := 32#32
  ![1, v3640.toNat, 32]

def k2_chk311 (v3645 : IVec S16 32) : Prop :=
  (∀ a x, ((![v3645] : Fin 1 → IVec S16 32) a x).toNat < S512.size a) ∧
  (∀ a x, ((![v3645] : Fin 1 → IVec S16 32) a x).toNat < S512.size a)
theorem k2_idx520_inb : ∀ (v3645 : IVec S16 32) (k2_hw311 : k2_chk311 v3645), ∀ a x, ((![v3645] : Fin 1 → IVec S16 32) a x).toNat < S512.size a := fun v3645 k2_hw311 => k2_hw311.1
theorem k2_idx521_inb : ∀ (v3645 : IVec S16 32) (k2_hw311 : k2_chk311 v3645), ∀ a x, ((![v3645] : Fin 1 → IVec S16 32) a x).toNat < S512.size a := fun v3645 k2_hw311 => k2_hw311.2
def k2_off243 (v2619 : BitVec 32) (k2_t57 : Fin (k2_t57_loop v2619).trips) : Fin 3 → Nat :=
  let c1_i32_3231 : BitVec 32 := 1#32
  let v3650 : Index := Scalar.indexCast c1_i32_3231
  let c0_i32_2897 : BitVec 32 := 0#32
  let c1_i32_2899 : BitVec 32 := 1#32
  let arg21 : BitVec 32 := Scf.iv c0_i32_2897 c1_i32_2899 k2_t57
  let v3651 : Index := Scalar.indexCast arg21
  let c48_3232 : Index := 48#32
  ![1, v3651.toNat, 48]

def k2_chk312 (v3656 : IVec S16 32) : Prop :=
  (∀ a x, ((![v3656] : Fin 1 → IVec S16 32) a x).toNat < S512.size a) ∧
  (∀ a x, ((![v3656] : Fin 1 → IVec S16 32) a x).toNat < S512.size a)
theorem k2_idx522_inb : ∀ (v3656 : IVec S16 32) (k2_hw312 : k2_chk312 v3656), ∀ a x, ((![v3656] : Fin 1 → IVec S16 32) a x).toNat < S512.size a := fun v3656 k2_hw312 => k2_hw312.1
theorem k2_idx523_inb : ∀ (v3656 : IVec S16 32) (k2_hw312 : k2_chk312 v3656), ∀ a x, ((![v3656] : Fin 1 → IVec S16 32) a x).toNat < S512.size a := fun v3656 k2_hw312 => k2_hw312.2
def k2_off244 (v2619 : BitVec 32) (k2_t57 : Fin (k2_t57_loop v2619).trips) : Fin 3 → Nat :=
  let c1_i32_3234 : BitVec 32 := 1#32
  let v3661 : Index := Scalar.indexCast c1_i32_3234
  let c0_i32_2897 : BitVec 32 := 0#32
  let c1_i32_2899 : BitVec 32 := 1#32
  let arg21 : BitVec 32 := Scf.iv c0_i32_2897 c1_i32_2899 k2_t57
  let v3662 : Index := Scalar.indexCast arg21
  let c64_3235 : Index := 64#32
  ![1, v3662.toNat, 64]

def k2_chk313 (v3667 : IVec S16 32) : Prop :=
  (∀ a x, ((![v3667] : Fin 1 → IVec S16 32) a x).toNat < S512.size a) ∧
  (∀ a x, ((![v3667] : Fin 1 → IVec S16 32) a x).toNat < S512.size a)
theorem k2_idx524_inb : ∀ (v3667 : IVec S16 32) (k2_hw313 : k2_chk313 v3667), ∀ a x, ((![v3667] : Fin 1 → IVec S16 32) a x).toNat < S512.size a := fun v3667 k2_hw313 => k2_hw313.1
theorem k2_idx525_inb : ∀ (v3667 : IVec S16 32) (k2_hw313 : k2_chk313 v3667), ∀ a x, ((![v3667] : Fin 1 → IVec S16 32) a x).toNat < S512.size a := fun v3667 k2_hw313 => k2_hw313.2
def k2_off245 (v2619 : BitVec 32) (k2_t57 : Fin (k2_t57_loop v2619).trips) : Fin 3 → Nat :=
  let c1_i32_3237 : BitVec 32 := 1#32
  let v3672 : Index := Scalar.indexCast c1_i32_3237
  let c0_i32_2897 : BitVec 32 := 0#32
  let c1_i32_2899 : BitVec 32 := 1#32
  let arg21 : BitVec 32 := Scf.iv c0_i32_2897 c1_i32_2899 k2_t57
  let v3673 : Index := Scalar.indexCast arg21
  let c80_3238 : Index := 80#32
  ![1, v3673.toNat, 80]

def k2_chk314 (v3678 : IVec S16 32) : Prop :=
  (∀ a x, ((![v3678] : Fin 1 → IVec S16 32) a x).toNat < S512.size a) ∧
  (∀ a x, ((![v3678] : Fin 1 → IVec S16 32) a x).toNat < S512.size a)
theorem k2_idx526_inb : ∀ (v3678 : IVec S16 32) (k2_hw314 : k2_chk314 v3678), ∀ a x, ((![v3678] : Fin 1 → IVec S16 32) a x).toNat < S512.size a := fun v3678 k2_hw314 => k2_hw314.1
theorem k2_idx527_inb : ∀ (v3678 : IVec S16 32) (k2_hw314 : k2_chk314 v3678), ∀ a x, ((![v3678] : Fin 1 → IVec S16 32) a x).toNat < S512.size a := fun v3678 k2_hw314 => k2_hw314.2
def k2_off246 (v2619 : BitVec 32) (k2_t57 : Fin (k2_t57_loop v2619).trips) : Fin 3 → Nat :=
  let c1_i32_3240 : BitVec 32 := 1#32
  let v3683 : Index := Scalar.indexCast c1_i32_3240
  let c0_i32_2897 : BitVec 32 := 0#32
  let c1_i32_2899 : BitVec 32 := 1#32
  let arg21 : BitVec 32 := Scf.iv c0_i32_2897 c1_i32_2899 k2_t57
  let v3684 : Index := Scalar.indexCast arg21
  let c96_3241 : Index := 96#32
  ![1, v3684.toNat, 96]

def k2_chk315 (v3689 : IVec S16 32) : Prop :=
  (∀ a x, ((![v3689] : Fin 1 → IVec S16 32) a x).toNat < S512.size a) ∧
  (∀ a x, ((![v3689] : Fin 1 → IVec S16 32) a x).toNat < S512.size a)
theorem k2_idx528_inb : ∀ (v3689 : IVec S16 32) (k2_hw315 : k2_chk315 v3689), ∀ a x, ((![v3689] : Fin 1 → IVec S16 32) a x).toNat < S512.size a := fun v3689 k2_hw315 => k2_hw315.1
theorem k2_idx529_inb : ∀ (v3689 : IVec S16 32) (k2_hw315 : k2_chk315 v3689), ∀ a x, ((![v3689] : Fin 1 → IVec S16 32) a x).toNat < S512.size a := fun v3689 k2_hw315 => k2_hw315.2
def k2_off247 (v2619 : BitVec 32) (k2_t57 : Fin (k2_t57_loop v2619).trips) : Fin 3 → Nat :=
  let c1_i32_3243 : BitVec 32 := 1#32
  let v3694 : Index := Scalar.indexCast c1_i32_3243
  let c0_i32_2897 : BitVec 32 := 0#32
  let c1_i32_2899 : BitVec 32 := 1#32
  let arg21 : BitVec 32 := Scf.iv c0_i32_2897 c1_i32_2899 k2_t57
  let v3695 : Index := Scalar.indexCast arg21
  let c112_3244 : Index := 112#32
  ![1, v3695.toNat, 112]

def k2_chk316 (v3700 : IVec S16 32) : Prop :=
  (∀ a x, ((![v3700] : Fin 1 → IVec S16 32) a x).toNat < S512.size a) ∧
  (∀ a x, ((![v3700] : Fin 1 → IVec S16 32) a x).toNat < S512.size a)
theorem k2_idx530_inb : ∀ (v3700 : IVec S16 32) (k2_hw316 : k2_chk316 v3700), ∀ a x, ((![v3700] : Fin 1 → IVec S16 32) a x).toNat < S512.size a := fun v3700 k2_hw316 => k2_hw316.1
theorem k2_idx531_inb : ∀ (v3700 : IVec S16 32) (k2_hw316 : k2_chk316 v3700), ∀ a x, ((![v3700] : Fin 1 → IVec S16 32) a x).toNat < S512.size a := fun v3700 k2_hw316 => k2_hw316.2
@[reducible] def k2_t58_loop (v2619 : BitVec 32) : Scf.Loop 32 :=
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let v3285 : BitVec 32 := Scalar.addi c0_i32_2897 v3284
  let c1_i32_2900 : BitVec 32 := 1#32
  ⟨v3288, v3285, c1_i32_2900⟩

def k2_chk317 (v3610 : IVec S16 32) : Prop :=
  (∀ a x, ((![v3610] : Fin 1 → IVec S16 32) a x).toNat < S128.size a)
theorem k2_idx532_inb : ∀ (v3610 : IVec S16 32) (k2_hw317 : k2_chk317 v3610), ∀ a x, ((![v3610] : Fin 1 → IVec S16 32) a x).toNat < S128.size a := fun v3610 k2_hw317 => k2_hw317
def k2_off248 (v2619 : BitVec 32) (k2_t58 : Fin (k2_t58_loop v2619).trips) : Fin 3 → Nat :=
  let c1_i32_3220 : BitVec 32 := 1#32
  let v3617 : Index := Scalar.indexCast c1_i32_3220
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3618 : Index := Scalar.indexCast arg21
  let c0_3221 : Index := 0#32
  ![1, v3618.toNat, 0]

def k2_chk318 (v3623 : IVec S16 32) : Prop :=
  (∀ a x, ((![v3623] : Fin 1 → IVec S16 32) a x).toNat < S512.size a) ∧
  (∀ a x, ((![v3623] : Fin 1 → IVec S16 32) a x).toNat < S512.size a)
theorem k2_idx533_inb : ∀ (v3623 : IVec S16 32) (k2_hw318 : k2_chk318 v3623), ∀ a x, ((![v3623] : Fin 1 → IVec S16 32) a x).toNat < S512.size a := fun v3623 k2_hw318 => k2_hw318.1
theorem k2_idx534_inb : ∀ (v3623 : IVec S16 32) (k2_hw318 : k2_chk318 v3623), ∀ a x, ((![v3623] : Fin 1 → IVec S16 32) a x).toNat < S512.size a := fun v3623 k2_hw318 => k2_hw318.2
def k2_off249 (v2619 : BitVec 32) (k2_t58 : Fin (k2_t58_loop v2619).trips) : Fin 3 → Nat :=
  let c1_i32_3223 : BitVec 32 := 1#32
  let v3628 : Index := Scalar.indexCast c1_i32_3223
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3629 : Index := Scalar.indexCast arg21
  let c16_3224 : Index := 16#32
  ![1, v3629.toNat, 16]

def k2_chk319 (v3634 : IVec S16 32) : Prop :=
  (∀ a x, ((![v3634] : Fin 1 → IVec S16 32) a x).toNat < S512.size a) ∧
  (∀ a x, ((![v3634] : Fin 1 → IVec S16 32) a x).toNat < S512.size a)
theorem k2_idx535_inb : ∀ (v3634 : IVec S16 32) (k2_hw319 : k2_chk319 v3634), ∀ a x, ((![v3634] : Fin 1 → IVec S16 32) a x).toNat < S512.size a := fun v3634 k2_hw319 => k2_hw319.1
theorem k2_idx536_inb : ∀ (v3634 : IVec S16 32) (k2_hw319 : k2_chk319 v3634), ∀ a x, ((![v3634] : Fin 1 → IVec S16 32) a x).toNat < S512.size a := fun v3634 k2_hw319 => k2_hw319.2
def k2_off250 (v2619 : BitVec 32) (k2_t58 : Fin (k2_t58_loop v2619).trips) : Fin 3 → Nat :=
  let c1_i32_3227 : BitVec 32 := 1#32
  let v3639 : Index := Scalar.indexCast c1_i32_3227
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3640 : Index := Scalar.indexCast arg21
  let c32_3228 : Index := 32#32
  ![1, v3640.toNat, 32]

def k2_chk320 (v3645 : IVec S16 32) : Prop :=
  (∀ a x, ((![v3645] : Fin 1 → IVec S16 32) a x).toNat < S512.size a) ∧
  (∀ a x, ((![v3645] : Fin 1 → IVec S16 32) a x).toNat < S512.size a)
theorem k2_idx537_inb : ∀ (v3645 : IVec S16 32) (k2_hw320 : k2_chk320 v3645), ∀ a x, ((![v3645] : Fin 1 → IVec S16 32) a x).toNat < S512.size a := fun v3645 k2_hw320 => k2_hw320.1
theorem k2_idx538_inb : ∀ (v3645 : IVec S16 32) (k2_hw320 : k2_chk320 v3645), ∀ a x, ((![v3645] : Fin 1 → IVec S16 32) a x).toNat < S512.size a := fun v3645 k2_hw320 => k2_hw320.2
def k2_off251 (v2619 : BitVec 32) (k2_t58 : Fin (k2_t58_loop v2619).trips) : Fin 3 → Nat :=
  let c1_i32_3231 : BitVec 32 := 1#32
  let v3650 : Index := Scalar.indexCast c1_i32_3231
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3651 : Index := Scalar.indexCast arg21
  let c48_3232 : Index := 48#32
  ![1, v3651.toNat, 48]

def k2_chk321 (v3656 : IVec S16 32) : Prop :=
  (∀ a x, ((![v3656] : Fin 1 → IVec S16 32) a x).toNat < S512.size a) ∧
  (∀ a x, ((![v3656] : Fin 1 → IVec S16 32) a x).toNat < S512.size a)
theorem k2_idx539_inb : ∀ (v3656 : IVec S16 32) (k2_hw321 : k2_chk321 v3656), ∀ a x, ((![v3656] : Fin 1 → IVec S16 32) a x).toNat < S512.size a := fun v3656 k2_hw321 => k2_hw321.1
theorem k2_idx540_inb : ∀ (v3656 : IVec S16 32) (k2_hw321 : k2_chk321 v3656), ∀ a x, ((![v3656] : Fin 1 → IVec S16 32) a x).toNat < S512.size a := fun v3656 k2_hw321 => k2_hw321.2
def k2_off252 (v2619 : BitVec 32) (k2_t58 : Fin (k2_t58_loop v2619).trips) : Fin 3 → Nat :=
  let c1_i32_3234 : BitVec 32 := 1#32
  let v3661 : Index := Scalar.indexCast c1_i32_3234
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3662 : Index := Scalar.indexCast arg21
  let c64_3235 : Index := 64#32
  ![1, v3662.toNat, 64]

def k2_chk322 (v3667 : IVec S16 32) : Prop :=
  (∀ a x, ((![v3667] : Fin 1 → IVec S16 32) a x).toNat < S512.size a) ∧
  (∀ a x, ((![v3667] : Fin 1 → IVec S16 32) a x).toNat < S512.size a)
theorem k2_idx541_inb : ∀ (v3667 : IVec S16 32) (k2_hw322 : k2_chk322 v3667), ∀ a x, ((![v3667] : Fin 1 → IVec S16 32) a x).toNat < S512.size a := fun v3667 k2_hw322 => k2_hw322.1
theorem k2_idx542_inb : ∀ (v3667 : IVec S16 32) (k2_hw322 : k2_chk322 v3667), ∀ a x, ((![v3667] : Fin 1 → IVec S16 32) a x).toNat < S512.size a := fun v3667 k2_hw322 => k2_hw322.2
def k2_off253 (v2619 : BitVec 32) (k2_t58 : Fin (k2_t58_loop v2619).trips) : Fin 3 → Nat :=
  let c1_i32_3237 : BitVec 32 := 1#32
  let v3672 : Index := Scalar.indexCast c1_i32_3237
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3673 : Index := Scalar.indexCast arg21
  let c80_3238 : Index := 80#32
  ![1, v3673.toNat, 80]

def k2_chk323 (v3678 : IVec S16 32) : Prop :=
  (∀ a x, ((![v3678] : Fin 1 → IVec S16 32) a x).toNat < S512.size a) ∧
  (∀ a x, ((![v3678] : Fin 1 → IVec S16 32) a x).toNat < S512.size a)
theorem k2_idx543_inb : ∀ (v3678 : IVec S16 32) (k2_hw323 : k2_chk323 v3678), ∀ a x, ((![v3678] : Fin 1 → IVec S16 32) a x).toNat < S512.size a := fun v3678 k2_hw323 => k2_hw323.1
theorem k2_idx544_inb : ∀ (v3678 : IVec S16 32) (k2_hw323 : k2_chk323 v3678), ∀ a x, ((![v3678] : Fin 1 → IVec S16 32) a x).toNat < S512.size a := fun v3678 k2_hw323 => k2_hw323.2
def k2_off254 (v2619 : BitVec 32) (k2_t58 : Fin (k2_t58_loop v2619).trips) : Fin 3 → Nat :=
  let c1_i32_3240 : BitVec 32 := 1#32
  let v3683 : Index := Scalar.indexCast c1_i32_3240
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3684 : Index := Scalar.indexCast arg21
  let c96_3241 : Index := 96#32
  ![1, v3684.toNat, 96]

def k2_chk324 (v3689 : IVec S16 32) : Prop :=
  (∀ a x, ((![v3689] : Fin 1 → IVec S16 32) a x).toNat < S512.size a) ∧
  (∀ a x, ((![v3689] : Fin 1 → IVec S16 32) a x).toNat < S512.size a)
theorem k2_idx545_inb : ∀ (v3689 : IVec S16 32) (k2_hw324 : k2_chk324 v3689), ∀ a x, ((![v3689] : Fin 1 → IVec S16 32) a x).toNat < S512.size a := fun v3689 k2_hw324 => k2_hw324.1
theorem k2_idx546_inb : ∀ (v3689 : IVec S16 32) (k2_hw324 : k2_chk324 v3689), ∀ a x, ((![v3689] : Fin 1 → IVec S16 32) a x).toNat < S512.size a := fun v3689 k2_hw324 => k2_hw324.2
def k2_off255 (v2619 : BitVec 32) (k2_t58 : Fin (k2_t58_loop v2619).trips) : Fin 3 → Nat :=
  let c1_i32_3243 : BitVec 32 := 1#32
  let v3694 : Index := Scalar.indexCast c1_i32_3243
  let c0_i32_2897 : BitVec 32 := 0#32
  let c128_i32_2278 : BitVec 32 := 128#32
  let v2620 : BitVec 32 := Scalar.minsi v2619 c128_i32_2278
  let v3284 : BitVec 32 := Scalar.subi v2620 c0_i32_2897
  let c1_i32_2898 : BitVec 32 := 1#32
  let v3286 : BitVec 32 := Scalar.divsi v3284 c1_i32_2898
  let v3287 : BitVec 32 := Scalar.muli v3286 c1_i32_2898
  let v3288 : BitVec 32 := Scalar.addi c0_i32_2897 v3287
  let c1_i32_2900 : BitVec 32 := 1#32
  let arg21 : BitVec 32 := Scf.iv v3288 c1_i32_2900 k2_t58
  let v3695 : Index := Scalar.indexCast arg21
  let c112_3244 : Index := 112#32
  ![1, v3695.toNat, 112]

def k2_chk307 (v2619 : BitVec 32) : Prop :=
  ((k2_t57_loop v2619).OK) ∧
  (∀ k2_t57 : Fin (k2_t57_loop v2619).trips, ∀ a, (k2_off240 v2619 k2_t57) a + S1x1x16.size a ≤ S4x128x128.size a) ∧
  (∀ k2_t57 : Fin (k2_t57_loop v2619).trips, ∀ a, (k2_off241 v2619 k2_t57) a + S1x1x16.size a ≤ S4x128x128.size a) ∧
  (∀ k2_t57 : Fin (k2_t57_loop v2619).trips, ∀ a, (k2_off242 v2619 k2_t57) a + S1x1x16.size a ≤ S4x128x128.size a) ∧
  (∀ k2_t57 : Fin (k2_t57_loop v2619).trips, ∀ a, (k2_off243 v2619 k2_t57) a + S1x1x16.size a ≤ S4x128x128.size a) ∧
  (∀ k2_t57 : Fin (k2_t57_loop v2619).trips, ∀ a, (k2_off244 v2619 k2_t57) a + S1x1x16.size a ≤ S4x128x128.size a) ∧
  (∀ k2_t57 : Fin (k2_t57_loop v2619).trips, ∀ a, (k2_off245 v2619 k2_t57) a + S1x1x16.size a ≤ S4x128x128.size a) ∧
  (∀ k2_t57 : Fin (k2_t57_loop v2619).trips, ∀ a, (k2_off246 v2619 k2_t57) a + S1x1x16.size a ≤ S4x128x128.size a) ∧
  (∀ k2_t57 : Fin (k2_t57_loop v2619).trips, ∀ a, (k2_off247 v2619 k2_t57) a + S1x1x16.size a ≤ S4x128x128.size a) ∧
  ((k2_t58_loop v2619).OK) ∧
  (∀ k2_t58 : Fin (k2_t58_loop v2619).trips, ∀ a, (k2_off248 v2619 k2_t58) a + S1x1x16.size a ≤ S4x128x128.size a) ∧
  (∀ k2_t58 : Fin (k2_t58_loop v2619).trips, ∀ a, (k2_off249 v2619 k2_t58) a + S1x1x16.size a ≤ S4x128x128.size a) ∧
  (∀ k2_t58 : Fin (k2_t58_loop v2619).trips, ∀ a, (k2_off250 v2619 k2_t58) a + S1x1x16.size a ≤ S4x128x128.size a) ∧
  (∀ k2_t58 : Fin (k2_t58_loop v2619).trips, ∀ a, (k2_off251 v2619 k2_t58) a + S1x1x16.size a ≤ S4x128x128.size a) ∧
  (∀ k2_t58 : Fin (k2_t58_loop v2619).trips, ∀ a, (k2_off252 v2619 k2_t58) a + S1x1x16.size a ≤ S4x128x128.size a) ∧
  (∀ k2_t58 : Fin (k2_t58_loop v2619).trips, ∀ a, (k2_off253 v2619 k2_t58) a + S1x1x16.size a ≤ S4x128x128.size a) ∧
  (∀ k2_t58 : Fin (k2_t58_loop v2619).trips, ∀ a, (k2_off254 v2619 k2_t58) a + S1x1x16.size a ≤ S4x128x128.size a) ∧
  (∀ k2_t58 : Fin (k2_t58_loop v2619).trips, ∀ a, (k2_off255 v2619 k2_t58) a + S1x1x16.size a ≤ S4x128x128.size a)
theorem k2_t57_ok : ∀ (v2619 : BitVec 32) (k2_hw307 : k2_chk307 v2619), (k2_t57_loop v2619).OK := fun v2619 k2_hw307 => k2_hw307.1
theorem k2_off240_inb : ∀ (v2619 : BitVec 32) (k2_hw307 : k2_chk307 v2619) (k2_t57 : Fin (k2_t57_loop v2619).trips), ∀ a, (k2_off240 v2619 k2_t57) a + S1x1x16.size a ≤ S4x128x128.size a := fun v2619 k2_hw307 k2_t57 => k2_hw307.2.1 k2_t57
theorem k2_off241_inb : ∀ (v2619 : BitVec 32) (k2_hw307 : k2_chk307 v2619) (k2_t57 : Fin (k2_t57_loop v2619).trips), ∀ a, (k2_off241 v2619 k2_t57) a + S1x1x16.size a ≤ S4x128x128.size a := fun v2619 k2_hw307 k2_t57 => k2_hw307.2.2.1 k2_t57
theorem k2_off242_inb : ∀ (v2619 : BitVec 32) (k2_hw307 : k2_chk307 v2619) (k2_t57 : Fin (k2_t57_loop v2619).trips), ∀ a, (k2_off242 v2619 k2_t57) a + S1x1x16.size a ≤ S4x128x128.size a := fun v2619 k2_hw307 k2_t57 => k2_hw307.2.2.2.1 k2_t57
theorem k2_off243_inb : ∀ (v2619 : BitVec 32) (k2_hw307 : k2_chk307 v2619) (k2_t57 : Fin (k2_t57_loop v2619).trips), ∀ a, (k2_off243 v2619 k2_t57) a + S1x1x16.size a ≤ S4x128x128.size a := fun v2619 k2_hw307 k2_t57 => k2_hw307.2.2.2.2.1 k2_t57
theorem k2_off244_inb : ∀ (v2619 : BitVec 32) (k2_hw307 : k2_chk307 v2619) (k2_t57 : Fin (k2_t57_loop v2619).trips), ∀ a, (k2_off244 v2619 k2_t57) a + S1x1x16.size a ≤ S4x128x128.size a := fun v2619 k2_hw307 k2_t57 => k2_hw307.2.2.2.2.2.1 k2_t57
theorem k2_off245_inb : ∀ (v2619 : BitVec 32) (k2_hw307 : k2_chk307 v2619) (k2_t57 : Fin (k2_t57_loop v2619).trips), ∀ a, (k2_off245 v2619 k2_t57) a + S1x1x16.size a ≤ S4x128x128.size a := fun v2619 k2_hw307 k2_t57 => k2_hw307.2.2.2.2.2.2.1 k2_t57
theorem k2_off246_inb : ∀ (v2619 : BitVec 32) (k2_hw307 : k2_chk307 v2619) (k2_t57 : Fin (k2_t57_loop v2619).trips), ∀ a, (k2_off246 v2619 k2_t57) a + S1x1x16.size a ≤ S4x128x128.size a := fun v2619 k2_hw307 k2_t57 => k2_hw307.2.2.2.2.2.2.2.1 k2_t57
theorem k2_off247_inb : ∀ (v2619 : BitVec 32) (k2_hw307 : k2_chk307 v2619) (k2_t57 : Fin (k2_t57_loop v2619).trips), ∀ a, (k2_off247 v2619 k2_t57) a + S1x1x16.size a ≤ S4x128x128.size a := fun v2619 k2_hw307 k2_t57 => k2_hw307.2.2.2.2.2.2.2.2.1 k2_t57
theorem k2_t58_ok : ∀ (v2619 : BitVec 32) (k2_hw307 : k2_chk307 v2619), (k2_t58_loop v2619).OK := fun v2619 k2_hw307 => k2_hw307.2.2.2.2.2.2.2.2.2.1
theorem k2_off248_inb : ∀ (v2619 : BitVec 32) (k2_hw307 : k2_chk307 v2619) (k2_t58 : Fin (k2_t58_loop v2619).trips), ∀ a, (k2_off248 v2619 k2_t58) a + S1x1x16.size a ≤ S4x128x128.size a := fun v2619 k2_hw307 k2_t58 => k2_hw307.2.2.2.2.2.2.2.2.2.2.1 k2_t58
theorem k2_off249_inb : ∀ (v2619 : BitVec 32) (k2_hw307 : k2_chk307 v2619) (k2_t58 : Fin (k2_t58_loop v2619).trips), ∀ a, (k2_off249 v2619 k2_t58) a + S1x1x16.size a ≤ S4x128x128.size a := fun v2619 k2_hw307 k2_t58 => k2_hw307.2.2.2.2.2.2.2.2.2.2.2.1 k2_t58
theorem k2_off250_inb : ∀ (v2619 : BitVec 32) (k2_hw307 : k2_chk307 v2619) (k2_t58 : Fin (k2_t58_loop v2619).trips), ∀ a, (k2_off250 v2619 k2_t58) a + S1x1x16.size a ≤ S4x128x128.size a := fun v2619 k2_hw307 k2_t58 => k2_hw307.2.2.2.2.2.2.2.2.2.2.2.2.1 k2_t58
theorem k2_off251_inb : ∀ (v2619 : BitVec 32) (k2_hw307 : k2_chk307 v2619) (k2_t58 : Fin (k2_t58_loop v2619).trips), ∀ a, (k2_off251 v2619 k2_t58) a + S1x1x16.size a ≤ S4x128x128.size a := fun v2619 k2_hw307 k2_t58 => k2_hw307.2.2.2.2.2.2.2.2.2.2.2.2.2.1 k2_t58
theorem k2_off252_inb : ∀ (v2619 : BitVec 32) (k2_hw307 : k2_chk307 v2619) (k2_t58 : Fin (k2_t58_loop v2619).trips), ∀ a, (k2_off252 v2619 k2_t58) a + S1x1x16.size a ≤ S4x128x128.size a := fun v2619 k2_hw307 k2_t58 => k2_hw307.2.2.2.2.2.2.2.2.2.2.2.2.2.2.1 k2_t58
theorem k2_off253_inb : ∀ (v2619 : BitVec 32) (k2_hw307 : k2_chk307 v2619) (k2_t58 : Fin (k2_t58_loop v2619).trips), ∀ a, (k2_off253 v2619 k2_t58) a + S1x1x16.size a ≤ S4x128x128.size a := fun v2619 k2_hw307 k2_t58 => k2_hw307.2.2.2.2.2.2.2.2.2.2.2.2.2.2.2.1 k2_t58
theorem k2_off254_inb : ∀ (v2619 : BitVec 32) (k2_hw307 : k2_chk307 v2619) (k2_t58 : Fin (k2_t58_loop v2619).trips), ∀ a, (k2_off254 v2619 k2_t58) a + S1x1x16.size a ≤ S4x128x128.size a := fun v2619 k2_hw307 k2_t58 => k2_hw307.2.2.2.2.2.2.2.2.2.2.2.2.2.2.2.2.1 k2_t58
theorem k2_off255_inb : ∀ (v2619 : BitVec 32) (k2_hw307 : k2_chk307 v2619) (k2_t58 : Fin (k2_t58_loop v2619).trips), ∀ a, (k2_off255 v2619 k2_t58) a + S1x1x16.size a ≤ S4x128x128.size a := fun v2619 k2_hw307 k2_t58 => k2_hw307.2.2.2.2.2.2.2.2.2.2.2.2.2.2.2.2.2 k2_t58

def k2_chk325 (v3700 : IVec S16 32) : Prop :=
  (∀ a x, ((![v3700] : Fin 1 → IVec S16 32) a x).toNat < S512.size a) ∧
  (∀ a x, ((![v3700] : Fin 1 → IVec S16 32) a x).toNat < S512.size a)
theorem k2_idx547_inb : ∀ (v3700 : IVec S16 32) (k2_hw325 : k2_chk325 v3700), ∀ a x, ((![v3700] : Fin 1 → IVec S16 32) a x).toNat < S512.size a := fun v3700 k2_hw325 => k2_hw325.1
theorem k2_idx548_inb : ∀ (v3700 : IVec S16 32) (k2_hw325 : k2_chk325 v3700), ∀ a x, ((![v3700] : Fin 1 → IVec S16 32) a x).toNat < S512.size a := fun v3700 k2_hw325 => k2_hw325.2
@[reducible] def k2_t59_loop : Scf.Loop 32 :=
  let c0_i32_2950 : BitVec 32 := 0#32
  let c32_i32_2951 : BitVec 32 := 32#32
  let v3340 : BitVec 32 := Scalar.addi c0_i32_2950 c32_i32_2951
  let c1_i32_2952 : BitVec 32 := 1#32
  ⟨c0_i32_2950, v3340, c1_i32_2952⟩
def k2_off256 (k2_t59 : Fin k2_t59_loop.trips) : Fin 1 → Nat :=
  let c0_i32_2950 : BitVec 32 := 0#32
  let c1_i32_2952 : BitVec 32 := 1#32
  let arg21 : BitVec 32 := Scf.iv c0_i32_2950 c1_i32_2952 k2_t59
  let c16_i32_3217 : BitVec 32 := 16#32
  let v3610 : BitVec 32 := Scalar.muli arg21 c16_i32_3217
  let v3611 : Index := Scalar.indexCast v3610
  ![v3611.toNat]

def k2_chk326 (v3339 : IVec S16 32) (v3625 : IVec S16 32) : Prop :=
  (∀ a x, ((![v3339, v3625] : Fin 2 → IVec S16 32) a x).toNat < S16x256.size a) ∧
  (∀ a x, ((![v3339, v3625] : Fin 2 → IVec S16 32) a x).toNat < S16x256.size a)
theorem k2_idx549_inb : ∀ (v3339 : IVec S16 32) (v3625 : IVec S16 32) (k2_hw326 : k2_chk326 v3339 v3625), ∀ a x, ((![v3339, v3625] : Fin 2 → IVec S16 32) a x).toNat < S16x256.size a := fun v3339 v3625 k2_hw326 => k2_hw326.1
theorem k2_idx550_inb : ∀ (v3339 : IVec S16 32) (v3625 : IVec S16 32) (k2_hw326 : k2_chk326 v3339 v3625), ∀ a x, ((![v3339, v3625] : Fin 2 → IVec S16 32) a x).toNat < S16x256.size a := fun v3339 v3625 k2_hw326 => k2_hw326.2

def k2_chk327 (v3349 : IVec S16 32) : Prop :=
  (∀ a x, ((![v3349] : Fin 1 → IVec S16 32) a x).toNat < S128.size a)
theorem k2_idx551_inb : ∀ (v3349 : IVec S16 32) (k2_hw327 : k2_chk327 v3349), ∀ a x, ((![v3349] : Fin 1 → IVec S16 32) a x).toNat < S128.size a := fun v3349 k2_hw327 => k2_hw327
@[reducible] def k2_t60_loop (v2844 : BitVec 32) : Scf.Loop 32 :=
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3030 : BitVec 32 := 1#32
  ⟨c0_i32_3028, v3421, c1_i32_3030⟩

def k2_chk329 (v3610 : IVec S16 32) : Prop :=
  (∀ a x, ((![v3610] : Fin 1 → IVec S16 32) a x).toNat < S128.size a)
theorem k2_idx552_inb : ∀ (v3610 : IVec S16 32) (k2_hw329 : k2_chk329 v3610), ∀ a x, ((![v3610] : Fin 1 → IVec S16 32) a x).toNat < S128.size a := fun v3610 k2_hw329 => k2_hw329
def k2_off257 (v2844 : BitVec 32) (k2_t60 : Fin (k2_t60_loop v2844).trips) : Fin 3 → Nat :=
  let c2_i32_3220 : BitVec 32 := 2#32
  let v3617 : Index := Scalar.indexCast c2_i32_3220
  let c0_i32_3028 : BitVec 32 := 0#32
  let c1_i32_3030 : BitVec 32 := 1#32
  let arg21 : BitVec 32 := Scf.iv c0_i32_3028 c1_i32_3030 k2_t60
  let v3618 : Index := Scalar.indexCast arg21
  let c0_3221 : Index := 0#32
  ![2, v3618.toNat, 0]

def k2_chk330 (v3623 : IVec S16 32) : Prop :=
  (∀ a x, ((![v3623] : Fin 1 → IVec S16 32) a x).toNat < S512.size a) ∧
  (∀ a x, ((![v3623] : Fin 1 → IVec S16 32) a x).toNat < S512.size a)
theorem k2_idx553_inb : ∀ (v3623 : IVec S16 32) (k2_hw330 : k2_chk330 v3623), ∀ a x, ((![v3623] : Fin 1 → IVec S16 32) a x).toNat < S512.size a := fun v3623 k2_hw330 => k2_hw330.1
theorem k2_idx554_inb : ∀ (v3623 : IVec S16 32) (k2_hw330 : k2_chk330 v3623), ∀ a x, ((![v3623] : Fin 1 → IVec S16 32) a x).toNat < S512.size a := fun v3623 k2_hw330 => k2_hw330.2
def k2_off258 (v2844 : BitVec 32) (k2_t60 : Fin (k2_t60_loop v2844).trips) : Fin 3 → Nat :=
  let c2_i32_3223 : BitVec 32 := 2#32
  let v3628 : Index := Scalar.indexCast c2_i32_3223
  let c0_i32_3028 : BitVec 32 := 0#32
  let c1_i32_3030 : BitVec 32 := 1#32
  let arg21 : BitVec 32 := Scf.iv c0_i32_3028 c1_i32_3030 k2_t60
  let v3629 : Index := Scalar.indexCast arg21
  let c16_3224 : Index := 16#32
  ![2, v3629.toNat, 16]

def k2_chk331 (v3634 : IVec S16 32) : Prop :=
  (∀ a x, ((![v3634] : Fin 1 → IVec S16 32) a x).toNat < S512.size a) ∧
  (∀ a x, ((![v3634] : Fin 1 → IVec S16 32) a x).toNat < S512.size a)
theorem k2_idx555_inb : ∀ (v3634 : IVec S16 32) (k2_hw331 : k2_chk331 v3634), ∀ a x, ((![v3634] : Fin 1 → IVec S16 32) a x).toNat < S512.size a := fun v3634 k2_hw331 => k2_hw331.1
theorem k2_idx556_inb : ∀ (v3634 : IVec S16 32) (k2_hw331 : k2_chk331 v3634), ∀ a x, ((![v3634] : Fin 1 → IVec S16 32) a x).toNat < S512.size a := fun v3634 k2_hw331 => k2_hw331.2
def k2_off259 (v2844 : BitVec 32) (k2_t60 : Fin (k2_t60_loop v2844).trips) : Fin 3 → Nat :=
  let c2_i32_3227 : BitVec 32 := 2#32
  let v3639 : Index := Scalar.indexCast c2_i32_3227
  let c0_i32_3028 : BitVec 32 := 0#32
  let c1_i32_3030 : BitVec 32 := 1#32
  let arg21 : BitVec 32 := Scf.iv c0_i32_3028 c1_i32_3030 k2_t60
  let v3640 : Index := Scalar.indexCast arg21
  let c32_3228 : Index := 32#32
  ![2, v3640.toNat, 32]

def k2_chk332 (v3645 : IVec S16 32) : Prop :=
  (∀ a x, ((![v3645] : Fin 1 → IVec S16 32) a x).toNat < S512.size a) ∧
  (∀ a x, ((![v3645] : Fin 1 → IVec S16 32) a x).toNat < S512.size a)
theorem k2_idx557_inb : ∀ (v3645 : IVec S16 32) (k2_hw332 : k2_chk332 v3645), ∀ a x, ((![v3645] : Fin 1 → IVec S16 32) a x).toNat < S512.size a := fun v3645 k2_hw332 => k2_hw332.1
theorem k2_idx558_inb : ∀ (v3645 : IVec S16 32) (k2_hw332 : k2_chk332 v3645), ∀ a x, ((![v3645] : Fin 1 → IVec S16 32) a x).toNat < S512.size a := fun v3645 k2_hw332 => k2_hw332.2
def k2_off260 (v2844 : BitVec 32) (k2_t60 : Fin (k2_t60_loop v2844).trips) : Fin 3 → Nat :=
  let c2_i32_3231 : BitVec 32 := 2#32
  let v3650 : Index := Scalar.indexCast c2_i32_3231
  let c0_i32_3028 : BitVec 32 := 0#32
  let c1_i32_3030 : BitVec 32 := 1#32
  let arg21 : BitVec 32 := Scf.iv c0_i32_3028 c1_i32_3030 k2_t60
  let v3651 : Index := Scalar.indexCast arg21
  let c48_3232 : Index := 48#32
  ![2, v3651.toNat, 48]

def k2_chk333 (v3656 : IVec S16 32) : Prop :=
  (∀ a x, ((![v3656] : Fin 1 → IVec S16 32) a x).toNat < S512.size a) ∧
  (∀ a x, ((![v3656] : Fin 1 → IVec S16 32) a x).toNat < S512.size a)
theorem k2_idx559_inb : ∀ (v3656 : IVec S16 32) (k2_hw333 : k2_chk333 v3656), ∀ a x, ((![v3656] : Fin 1 → IVec S16 32) a x).toNat < S512.size a := fun v3656 k2_hw333 => k2_hw333.1
theorem k2_idx560_inb : ∀ (v3656 : IVec S16 32) (k2_hw333 : k2_chk333 v3656), ∀ a x, ((![v3656] : Fin 1 → IVec S16 32) a x).toNat < S512.size a := fun v3656 k2_hw333 => k2_hw333.2
def k2_off261 (v2844 : BitVec 32) (k2_t60 : Fin (k2_t60_loop v2844).trips) : Fin 3 → Nat :=
  let c2_i32_3234 : BitVec 32 := 2#32
  let v3661 : Index := Scalar.indexCast c2_i32_3234
  let c0_i32_3028 : BitVec 32 := 0#32
  let c1_i32_3030 : BitVec 32 := 1#32
  let arg21 : BitVec 32 := Scf.iv c0_i32_3028 c1_i32_3030 k2_t60
  let v3662 : Index := Scalar.indexCast arg21
  let c64_3235 : Index := 64#32
  ![2, v3662.toNat, 64]

def k2_chk334 (v3667 : IVec S16 32) : Prop :=
  (∀ a x, ((![v3667] : Fin 1 → IVec S16 32) a x).toNat < S512.size a) ∧
  (∀ a x, ((![v3667] : Fin 1 → IVec S16 32) a x).toNat < S512.size a)
theorem k2_idx561_inb : ∀ (v3667 : IVec S16 32) (k2_hw334 : k2_chk334 v3667), ∀ a x, ((![v3667] : Fin 1 → IVec S16 32) a x).toNat < S512.size a := fun v3667 k2_hw334 => k2_hw334.1
theorem k2_idx562_inb : ∀ (v3667 : IVec S16 32) (k2_hw334 : k2_chk334 v3667), ∀ a x, ((![v3667] : Fin 1 → IVec S16 32) a x).toNat < S512.size a := fun v3667 k2_hw334 => k2_hw334.2
def k2_off262 (v2844 : BitVec 32) (k2_t60 : Fin (k2_t60_loop v2844).trips) : Fin 3 → Nat :=
  let c2_i32_3237 : BitVec 32 := 2#32
  let v3672 : Index := Scalar.indexCast c2_i32_3237
  let c0_i32_3028 : BitVec 32 := 0#32
  let c1_i32_3030 : BitVec 32 := 1#32
  let arg21 : BitVec 32 := Scf.iv c0_i32_3028 c1_i32_3030 k2_t60
  let v3673 : Index := Scalar.indexCast arg21
  let c80_3238 : Index := 80#32
  ![2, v3673.toNat, 80]

def k2_chk335 (v3678 : IVec S16 32) : Prop :=
  (∀ a x, ((![v3678] : Fin 1 → IVec S16 32) a x).toNat < S512.size a) ∧
  (∀ a x, ((![v3678] : Fin 1 → IVec S16 32) a x).toNat < S512.size a)
theorem k2_idx563_inb : ∀ (v3678 : IVec S16 32) (k2_hw335 : k2_chk335 v3678), ∀ a x, ((![v3678] : Fin 1 → IVec S16 32) a x).toNat < S512.size a := fun v3678 k2_hw335 => k2_hw335.1
theorem k2_idx564_inb : ∀ (v3678 : IVec S16 32) (k2_hw335 : k2_chk335 v3678), ∀ a x, ((![v3678] : Fin 1 → IVec S16 32) a x).toNat < S512.size a := fun v3678 k2_hw335 => k2_hw335.2
def k2_off263 (v2844 : BitVec 32) (k2_t60 : Fin (k2_t60_loop v2844).trips) : Fin 3 → Nat :=
  let c2_i32_3240 : BitVec 32 := 2#32
  let v3683 : Index := Scalar.indexCast c2_i32_3240
  let c0_i32_3028 : BitVec 32 := 0#32
  let c1_i32_3030 : BitVec 32 := 1#32
  let arg21 : BitVec 32 := Scf.iv c0_i32_3028 c1_i32_3030 k2_t60
  let v3684 : Index := Scalar.indexCast arg21
  let c96_3241 : Index := 96#32
  ![2, v3684.toNat, 96]

def k2_chk336 (v3689 : IVec S16 32) : Prop :=
  (∀ a x, ((![v3689] : Fin 1 → IVec S16 32) a x).toNat < S512.size a) ∧
  (∀ a x, ((![v3689] : Fin 1 → IVec S16 32) a x).toNat < S512.size a)
theorem k2_idx565_inb : ∀ (v3689 : IVec S16 32) (k2_hw336 : k2_chk336 v3689), ∀ a x, ((![v3689] : Fin 1 → IVec S16 32) a x).toNat < S512.size a := fun v3689 k2_hw336 => k2_hw336.1
theorem k2_idx566_inb : ∀ (v3689 : IVec S16 32) (k2_hw336 : k2_chk336 v3689), ∀ a x, ((![v3689] : Fin 1 → IVec S16 32) a x).toNat < S512.size a := fun v3689 k2_hw336 => k2_hw336.2
def k2_off264 (v2844 : BitVec 32) (k2_t60 : Fin (k2_t60_loop v2844).trips) : Fin 3 → Nat :=
  let c2_i32_3243 : BitVec 32 := 2#32
  let v3694 : Index := Scalar.indexCast c2_i32_3243
  let c0_i32_3028 : BitVec 32 := 0#32
  let c1_i32_3030 : BitVec 32 := 1#32
  let arg21 : BitVec 32 := Scf.iv c0_i32_3028 c1_i32_3030 k2_t60
  let v3695 : Index := Scalar.indexCast arg21
  let c112_3244 : Index := 112#32
  ![2, v3695.toNat, 112]

def k2_chk337 (v3700 : IVec S16 32) : Prop :=
  (∀ a x, ((![v3700] : Fin 1 → IVec S16 32) a x).toNat < S512.size a) ∧
  (∀ a x, ((![v3700] : Fin 1 → IVec S16 32) a x).toNat < S512.size a)
theorem k2_idx567_inb : ∀ (v3700 : IVec S16 32) (k2_hw337 : k2_chk337 v3700), ∀ a x, ((![v3700] : Fin 1 → IVec S16 32) a x).toNat < S512.size a := fun v3700 k2_hw337 => k2_hw337.1
theorem k2_idx568_inb : ∀ (v3700 : IVec S16 32) (k2_hw337 : k2_chk337 v3700), ∀ a x, ((![v3700] : Fin 1 → IVec S16 32) a x).toNat < S512.size a := fun v3700 k2_hw337 => k2_hw337.2
@[reducible] def k2_t61_loop (v2844 : BitVec 32) : Scf.Loop 32 :=
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let v3418 : BitVec 32 := Scalar.addi c0_i32_3028 v3417
  let c1_i32_3031 : BitVec 32 := 1#32
  ⟨v3421, v3418, c1_i32_3031⟩

def k2_chk338 (v3610 : IVec S16 32) : Prop :=
  (∀ a x, ((![v3610] : Fin 1 → IVec S16 32) a x).toNat < S128.size a)
theorem k2_idx569_inb : ∀ (v3610 : IVec S16 32) (k2_hw338 : k2_chk338 v3610), ∀ a x, ((![v3610] : Fin 1 → IVec S16 32) a x).toNat < S128.size a := fun v3610 k2_hw338 => k2_hw338
def k2_off265 (v2844 : BitVec 32) (k2_t61 : Fin (k2_t61_loop v2844).trips) : Fin 3 → Nat :=
  let c2_i32_3220 : BitVec 32 := 2#32
  let v3617 : Index := Scalar.indexCast c2_i32_3220
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3618 : Index := Scalar.indexCast arg21
  let c0_3221 : Index := 0#32
  ![2, v3618.toNat, 0]

def k2_chk339 (v3623 : IVec S16 32) : Prop :=
  (∀ a x, ((![v3623] : Fin 1 → IVec S16 32) a x).toNat < S512.size a) ∧
  (∀ a x, ((![v3623] : Fin 1 → IVec S16 32) a x).toNat < S512.size a)
theorem k2_idx570_inb : ∀ (v3623 : IVec S16 32) (k2_hw339 : k2_chk339 v3623), ∀ a x, ((![v3623] : Fin 1 → IVec S16 32) a x).toNat < S512.size a := fun v3623 k2_hw339 => k2_hw339.1
theorem k2_idx571_inb : ∀ (v3623 : IVec S16 32) (k2_hw339 : k2_chk339 v3623), ∀ a x, ((![v3623] : Fin 1 → IVec S16 32) a x).toNat < S512.size a := fun v3623 k2_hw339 => k2_hw339.2
def k2_off266 (v2844 : BitVec 32) (k2_t61 : Fin (k2_t61_loop v2844).trips) : Fin 3 → Nat :=
  let c2_i32_3223 : BitVec 32 := 2#32
  let v3628 : Index := Scalar.indexCast c2_i32_3223
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3629 : Index := Scalar.indexCast arg21
  let c16_3224 : Index := 16#32
  ![2, v3629.toNat, 16]

def k2_chk340 (v3634 : IVec S16 32) : Prop :=
  (∀ a x, ((![v3634] : Fin 1 → IVec S16 32) a x).toNat < S512.size a) ∧
  (∀ a x, ((![v3634] : Fin 1 → IVec S16 32) a x).toNat < S512.size a)
theorem k2_idx572_inb : ∀ (v3634 : IVec S16 32) (k2_hw340 : k2_chk340 v3634), ∀ a x, ((![v3634] : Fin 1 → IVec S16 32) a x).toNat < S512.size a := fun v3634 k2_hw340 => k2_hw340.1
theorem k2_idx573_inb : ∀ (v3634 : IVec S16 32) (k2_hw340 : k2_chk340 v3634), ∀ a x, ((![v3634] : Fin 1 → IVec S16 32) a x).toNat < S512.size a := fun v3634 k2_hw340 => k2_hw340.2
def k2_off267 (v2844 : BitVec 32) (k2_t61 : Fin (k2_t61_loop v2844).trips) : Fin 3 → Nat :=
  let c2_i32_3227 : BitVec 32 := 2#32
  let v3639 : Index := Scalar.indexCast c2_i32_3227
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3640 : Index := Scalar.indexCast arg21
  let c32_3228 : Index := 32#32
  ![2, v3640.toNat, 32]

def k2_chk341 (v3645 : IVec S16 32) : Prop :=
  (∀ a x, ((![v3645] : Fin 1 → IVec S16 32) a x).toNat < S512.size a) ∧
  (∀ a x, ((![v3645] : Fin 1 → IVec S16 32) a x).toNat < S512.size a)
theorem k2_idx574_inb : ∀ (v3645 : IVec S16 32) (k2_hw341 : k2_chk341 v3645), ∀ a x, ((![v3645] : Fin 1 → IVec S16 32) a x).toNat < S512.size a := fun v3645 k2_hw341 => k2_hw341.1
theorem k2_idx575_inb : ∀ (v3645 : IVec S16 32) (k2_hw341 : k2_chk341 v3645), ∀ a x, ((![v3645] : Fin 1 → IVec S16 32) a x).toNat < S512.size a := fun v3645 k2_hw341 => k2_hw341.2
def k2_off268 (v2844 : BitVec 32) (k2_t61 : Fin (k2_t61_loop v2844).trips) : Fin 3 → Nat :=
  let c2_i32_3231 : BitVec 32 := 2#32
  let v3650 : Index := Scalar.indexCast c2_i32_3231
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3651 : Index := Scalar.indexCast arg21
  let c48_3232 : Index := 48#32
  ![2, v3651.toNat, 48]

def k2_chk342 (v3656 : IVec S16 32) : Prop :=
  (∀ a x, ((![v3656] : Fin 1 → IVec S16 32) a x).toNat < S512.size a) ∧
  (∀ a x, ((![v3656] : Fin 1 → IVec S16 32) a x).toNat < S512.size a)
theorem k2_idx576_inb : ∀ (v3656 : IVec S16 32) (k2_hw342 : k2_chk342 v3656), ∀ a x, ((![v3656] : Fin 1 → IVec S16 32) a x).toNat < S512.size a := fun v3656 k2_hw342 => k2_hw342.1
theorem k2_idx577_inb : ∀ (v3656 : IVec S16 32) (k2_hw342 : k2_chk342 v3656), ∀ a x, ((![v3656] : Fin 1 → IVec S16 32) a x).toNat < S512.size a := fun v3656 k2_hw342 => k2_hw342.2
def k2_off269 (v2844 : BitVec 32) (k2_t61 : Fin (k2_t61_loop v2844).trips) : Fin 3 → Nat :=
  let c2_i32_3234 : BitVec 32 := 2#32
  let v3661 : Index := Scalar.indexCast c2_i32_3234
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3662 : Index := Scalar.indexCast arg21
  let c64_3235 : Index := 64#32
  ![2, v3662.toNat, 64]

def k2_chk343 (v3667 : IVec S16 32) : Prop :=
  (∀ a x, ((![v3667] : Fin 1 → IVec S16 32) a x).toNat < S512.size a) ∧
  (∀ a x, ((![v3667] : Fin 1 → IVec S16 32) a x).toNat < S512.size a)
theorem k2_idx578_inb : ∀ (v3667 : IVec S16 32) (k2_hw343 : k2_chk343 v3667), ∀ a x, ((![v3667] : Fin 1 → IVec S16 32) a x).toNat < S512.size a := fun v3667 k2_hw343 => k2_hw343.1
theorem k2_idx579_inb : ∀ (v3667 : IVec S16 32) (k2_hw343 : k2_chk343 v3667), ∀ a x, ((![v3667] : Fin 1 → IVec S16 32) a x).toNat < S512.size a := fun v3667 k2_hw343 => k2_hw343.2
def k2_off270 (v2844 : BitVec 32) (k2_t61 : Fin (k2_t61_loop v2844).trips) : Fin 3 → Nat :=
  let c2_i32_3237 : BitVec 32 := 2#32
  let v3672 : Index := Scalar.indexCast c2_i32_3237
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3673 : Index := Scalar.indexCast arg21
  let c80_3238 : Index := 80#32
  ![2, v3673.toNat, 80]

def k2_chk344 (v3678 : IVec S16 32) : Prop :=
  (∀ a x, ((![v3678] : Fin 1 → IVec S16 32) a x).toNat < S512.size a) ∧
  (∀ a x, ((![v3678] : Fin 1 → IVec S16 32) a x).toNat < S512.size a)
theorem k2_idx580_inb : ∀ (v3678 : IVec S16 32) (k2_hw344 : k2_chk344 v3678), ∀ a x, ((![v3678] : Fin 1 → IVec S16 32) a x).toNat < S512.size a := fun v3678 k2_hw344 => k2_hw344.1
theorem k2_idx581_inb : ∀ (v3678 : IVec S16 32) (k2_hw344 : k2_chk344 v3678), ∀ a x, ((![v3678] : Fin 1 → IVec S16 32) a x).toNat < S512.size a := fun v3678 k2_hw344 => k2_hw344.2
def k2_off271 (v2844 : BitVec 32) (k2_t61 : Fin (k2_t61_loop v2844).trips) : Fin 3 → Nat :=
  let c2_i32_3240 : BitVec 32 := 2#32
  let v3683 : Index := Scalar.indexCast c2_i32_3240
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3684 : Index := Scalar.indexCast arg21
  let c96_3241 : Index := 96#32
  ![2, v3684.toNat, 96]

def k2_chk345 (v3689 : IVec S16 32) : Prop :=
  (∀ a x, ((![v3689] : Fin 1 → IVec S16 32) a x).toNat < S512.size a) ∧
  (∀ a x, ((![v3689] : Fin 1 → IVec S16 32) a x).toNat < S512.size a)
theorem k2_idx582_inb : ∀ (v3689 : IVec S16 32) (k2_hw345 : k2_chk345 v3689), ∀ a x, ((![v3689] : Fin 1 → IVec S16 32) a x).toNat < S512.size a := fun v3689 k2_hw345 => k2_hw345.1
theorem k2_idx583_inb : ∀ (v3689 : IVec S16 32) (k2_hw345 : k2_chk345 v3689), ∀ a x, ((![v3689] : Fin 1 → IVec S16 32) a x).toNat < S512.size a := fun v3689 k2_hw345 => k2_hw345.2
def k2_off272 (v2844 : BitVec 32) (k2_t61 : Fin (k2_t61_loop v2844).trips) : Fin 3 → Nat :=
  let c2_i32_3243 : BitVec 32 := 2#32
  let v3694 : Index := Scalar.indexCast c2_i32_3243
  let c0_i32_3028 : BitVec 32 := 0#32
  let c128_i32_2481 : BitVec 32 := 128#32
  let v2845 : BitVec 32 := Scalar.minsi v2844 c128_i32_2481
  let v3417 : BitVec 32 := Scalar.subi v2845 c0_i32_3028
  let c1_i32_3029 : BitVec 32 := 1#32
  let v3419 : BitVec 32 := Scalar.divsi v3417 c1_i32_3029
  let v3420 : BitVec 32 := Scalar.muli v3419 c1_i32_3029
  let v3421 : BitVec 32 := Scalar.addi c0_i32_3028 v3420
  let c1_i32_3031 : BitVec 32 := 1#32
  let arg21 : BitVec 32 := Scf.iv v3421 c1_i32_3031 k2_t61
  let v3695 : Index := Scalar.indexCast arg21
  let c112_3244 : Index := 112#32
  ![2, v3695.toNat, 112]

def k2_chk328 (v2844 : BitVec 32) : Prop :=
  ((k2_t60_loop v2844).OK) ∧
  (∀ k2_t60 : Fin (k2_t60_loop v2844).trips, ∀ a, (k2_off257 v2844 k2_t60) a + S1x1x16.size a ≤ S4x128x128.size a) ∧
  (∀ k2_t60 : Fin (k2_t60_loop v2844).trips, ∀ a, (k2_off258 v2844 k2_t60) a + S1x1x16.size a ≤ S4x128x128.size a) ∧
  (∀ k2_t60 : Fin (k2_t60_loop v2844).trips, ∀ a, (k2_off259 v2844 k2_t60) a + S1x1x16.size a ≤ S4x128x128.size a) ∧
  (∀ k2_t60 : Fin (k2_t60_loop v2844).trips, ∀ a, (k2_off260 v2844 k2_t60) a + S1x1x16.size a ≤ S4x128x128.size a) ∧
  (∀ k2_t60 : Fin (k2_t60_loop v2844).trips, ∀ a, (k2_off261 v2844 k2_t60) a + S1x1x16.size a ≤ S4x128x128.size a) ∧
  (∀ k2_t60 : Fin (k2_t60_loop v2844).trips, ∀ a, (k2_off262 v2844 k2_t60) a + S1x1x16.size a ≤ S4x128x128.size a) ∧
  (∀ k2_t60 : Fin (k2_t60_loop v2844).trips, ∀ a, (k2_off263 v2844 k2_t60) a + S1x1x16.size a ≤ S4x128x128.size a) ∧
  (∀ k2_t60 : Fin (k2_t60_loop v2844).trips, ∀ a, (k2_off264 v2844 k2_t60) a + S1x1x16.size a ≤ S4x128x128.size a) ∧
  ((k2_t61_loop v2844).OK) ∧
  (∀ k2_t61 : Fin (k2_t61_loop v2844).trips, ∀ a, (k2_off265 v2844 k2_t61) a + S1x1x16.size a ≤ S4x128x128.size a) ∧
  (∀ k2_t61 : Fin (k2_t61_loop v2844).trips, ∀ a, (k2_off266 v2844 k2_t61) a + S1x1x16.size a ≤ S4x128x128.size a) ∧
  (∀ k2_t61 : Fin (k2_t61_loop v2844).trips, ∀ a, (k2_off267 v2844 k2_t61) a + S1x1x16.size a ≤ S4x128x128.size a) ∧
  (∀ k2_t61 : Fin (k2_t61_loop v2844).trips, ∀ a, (k2_off268 v2844 k2_t61) a + S1x1x16.size a ≤ S4x128x128.size a) ∧
  (∀ k2_t61 : Fin (k2_t61_loop v2844).trips, ∀ a, (k2_off269 v2844 k2_t61) a + S1x1x16.size a ≤ S4x128x128.size a) ∧
  (∀ k2_t61 : Fin (k2_t61_loop v2844).trips, ∀ a, (k2_off270 v2844 k2_t61) a + S1x1x16.size a ≤ S4x128x128.size a) ∧
  (∀ k2_t61 : Fin (k2_t61_loop v2844).trips, ∀ a, (k2_off271 v2844 k2_t61) a + S1x1x16.size a ≤ S4x128x128.size a) ∧
  (∀ k2_t61 : Fin (k2_t61_loop v2844).trips, ∀ a, (k2_off272 v2844 k2_t61) a + S1x1x16.size a ≤ S4x128x128.size a)
theorem k2_t60_ok : ∀ (v2844 : BitVec 32) (k2_hw328 : k2_chk328 v2844), (k2_t60_loop v2844).OK := fun v2844 k2_hw328 => k2_hw328.1
theorem k2_off257_inb : ∀ (v2844 : BitVec 32) (k2_hw328 : k2_chk328 v2844) (k2_t60 : Fin (k2_t60_loop v2844).trips), ∀ a, (k2_off257 v2844 k2_t60) a + S1x1x16.size a ≤ S4x128x128.size a := fun v2844 k2_hw328 k2_t60 => k2_hw328.2.1 k2_t60
theorem k2_off258_inb : ∀ (v2844 : BitVec 32) (k2_hw328 : k2_chk328 v2844) (k2_t60 : Fin (k2_t60_loop v2844).trips), ∀ a, (k2_off258 v2844 k2_t60) a + S1x1x16.size a ≤ S4x128x128.size a := fun v2844 k2_hw328 k2_t60 => k2_hw328.2.2.1 k2_t60
theorem k2_off259_inb : ∀ (v2844 : BitVec 32) (k2_hw328 : k2_chk328 v2844) (k2_t60 : Fin (k2_t60_loop v2844).trips), ∀ a, (k2_off259 v2844 k2_t60) a + S1x1x16.size a ≤ S4x128x128.size a := fun v2844 k2_hw328 k2_t60 => k2_hw328.2.2.2.1 k2_t60
theorem k2_off260_inb : ∀ (v2844 : BitVec 32) (k2_hw328 : k2_chk328 v2844) (k2_t60 : Fin (k2_t60_loop v2844).trips), ∀ a, (k2_off260 v2844 k2_t60) a + S1x1x16.size a ≤ S4x128x128.size a := fun v2844 k2_hw328 k2_t60 => k2_hw328.2.2.2.2.1 k2_t60
theorem k2_off261_inb : ∀ (v2844 : BitVec 32) (k2_hw328 : k2_chk328 v2844) (k2_t60 : Fin (k2_t60_loop v2844).trips), ∀ a, (k2_off261 v2844 k2_t60) a + S1x1x16.size a ≤ S4x128x128.size a := fun v2844 k2_hw328 k2_t60 => k2_hw328.2.2.2.2.2.1 k2_t60
theorem k2_off262_inb : ∀ (v2844 : BitVec 32) (k2_hw328 : k2_chk328 v2844) (k2_t60 : Fin (k2_t60_loop v2844).trips), ∀ a, (k2_off262 v2844 k2_t60) a + S1x1x16.size a ≤ S4x128x128.size a := fun v2844 k2_hw328 k2_t60 => k2_hw328.2.2.2.2.2.2.1 k2_t60
theorem k2_off263_inb : ∀ (v2844 : BitVec 32) (k2_hw328 : k2_chk328 v2844) (k2_t60 : Fin (k2_t60_loop v2844).trips), ∀ a, (k2_off263 v2844 k2_t60) a + S1x1x16.size a ≤ S4x128x128.size a := fun v2844 k2_hw328 k2_t60 => k2_hw328.2.2.2.2.2.2.2.1 k2_t60
theorem k2_off264_inb : ∀ (v2844 : BitVec 32) (k2_hw328 : k2_chk328 v2844) (k2_t60 : Fin (k2_t60_loop v2844).trips), ∀ a, (k2_off264 v2844 k2_t60) a + S1x1x16.size a ≤ S4x128x128.size a := fun v2844 k2_hw328 k2_t60 => k2_hw328.2.2.2.2.2.2.2.2.1 k2_t60
theorem k2_t61_ok : ∀ (v2844 : BitVec 32) (k2_hw328 : k2_chk328 v2844), (k2_t61_loop v2844).OK := fun v2844 k2_hw328 => k2_hw328.2.2.2.2.2.2.2.2.2.1
theorem k2_off265_inb : ∀ (v2844 : BitVec 32) (k2_hw328 : k2_chk328 v2844) (k2_t61 : Fin (k2_t61_loop v2844).trips), ∀ a, (k2_off265 v2844 k2_t61) a + S1x1x16.size a ≤ S4x128x128.size a := fun v2844 k2_hw328 k2_t61 => k2_hw328.2.2.2.2.2.2.2.2.2.2.1 k2_t61
theorem k2_off266_inb : ∀ (v2844 : BitVec 32) (k2_hw328 : k2_chk328 v2844) (k2_t61 : Fin (k2_t61_loop v2844).trips), ∀ a, (k2_off266 v2844 k2_t61) a + S1x1x16.size a ≤ S4x128x128.size a := fun v2844 k2_hw328 k2_t61 => k2_hw328.2.2.2.2.2.2.2.2.2.2.2.1 k2_t61
theorem k2_off267_inb : ∀ (v2844 : BitVec 32) (k2_hw328 : k2_chk328 v2844) (k2_t61 : Fin (k2_t61_loop v2844).trips), ∀ a, (k2_off267 v2844 k2_t61) a + S1x1x16.size a ≤ S4x128x128.size a := fun v2844 k2_hw328 k2_t61 => k2_hw328.2.2.2.2.2.2.2.2.2.2.2.2.1 k2_t61
theorem k2_off268_inb : ∀ (v2844 : BitVec 32) (k2_hw328 : k2_chk328 v2844) (k2_t61 : Fin (k2_t61_loop v2844).trips), ∀ a, (k2_off268 v2844 k2_t61) a + S1x1x16.size a ≤ S4x128x128.size a := fun v2844 k2_hw328 k2_t61 => k2_hw328.2.2.2.2.2.2.2.2.2.2.2.2.2.1 k2_t61
theorem k2_off269_inb : ∀ (v2844 : BitVec 32) (k2_hw328 : k2_chk328 v2844) (k2_t61 : Fin (k2_t61_loop v2844).trips), ∀ a, (k2_off269 v2844 k2_t61) a + S1x1x16.size a ≤ S4x128x128.size a := fun v2844 k2_hw328 k2_t61 => k2_hw328.2.2.2.2.2.2.2.2.2.2.2.2.2.2.1 k2_t61
theorem k2_off270_inb : ∀ (v2844 : BitVec 32) (k2_hw328 : k2_chk328 v2844) (k2_t61 : Fin (k2_t61_loop v2844).trips), ∀ a, (k2_off270 v2844 k2_t61) a + S1x1x16.size a ≤ S4x128x128.size a := fun v2844 k2_hw328 k2_t61 => k2_hw328.2.2.2.2.2.2.2.2.2.2.2.2.2.2.2.1 k2_t61
theorem k2_off271_inb : ∀ (v2844 : BitVec 32) (k2_hw328 : k2_chk328 v2844) (k2_t61 : Fin (k2_t61_loop v2844).trips), ∀ a, (k2_off271 v2844 k2_t61) a + S1x1x16.size a ≤ S4x128x128.size a := fun v2844 k2_hw328 k2_t61 => k2_hw328.2.2.2.2.2.2.2.2.2.2.2.2.2.2.2.2.1 k2_t61
theorem k2_off272_inb : ∀ (v2844 : BitVec 32) (k2_hw328 : k2_chk328 v2844) (k2_t61 : Fin (k2_t61_loop v2844).trips), ∀ a, (k2_off272 v2844 k2_t61) a + S1x1x16.size a ≤ S4x128x128.size a := fun v2844 k2_hw328 k2_t61 => k2_hw328.2.2.2.2.2.2.2.2.2.2.2.2.2.2.2.2.2 k2_t61

def k2_chk346 (v3700 : IVec S16 32) : Prop :=
  (∀ a x, ((![v3700] : Fin 1 → IVec S16 32) a x).toNat < S512.size a) ∧
  (∀ a x, ((![v3700] : Fin 1 → IVec S16 32) a x).toNat < S512.size a)
theorem k2_idx584_inb : ∀ (v3700 : IVec S16 32) (k2_hw346 : k2_chk346 v3700), ∀ a x, ((![v3700] : Fin 1 → IVec S16 32) a x).toNat < S512.size a := fun v3700 k2_hw346 => k2_hw346.1
theorem k2_idx585_inb : ∀ (v3700 : IVec S16 32) (k2_hw346 : k2_chk346 v3700), ∀ a x, ((![v3700] : Fin 1 → IVec S16 32) a x).toNat < S512.size a := fun v3700 k2_hw346 => k2_hw346.2
@[reducible] def k2_t62_loop : Scf.Loop 32 :=
  let c0_i32_3081 : BitVec 32 := 0#32
  let c32_i32_3082 : BitVec 32 := 32#32
  let v3473 : BitVec 32 := Scalar.addi c0_i32_3081 c32_i32_3082
  let c1_i32_3083 : BitVec 32 := 1#32
  ⟨c0_i32_3081, v3473, c1_i32_3083⟩
def k2_off273 (k2_t62 : Fin k2_t62_loop.trips) : Fin 1 → Nat :=
  let c0_i32_3081 : BitVec 32 := 0#32
  let c1_i32_3083 : BitVec 32 := 1#32
  let arg21 : BitVec 32 := Scf.iv c0_i32_3081 c1_i32_3083 k2_t62
  let c16_i32_3217 : BitVec 32 := 16#32
  let v3610 : BitVec 32 := Scalar.muli arg21 c16_i32_3217
  let v3611 : Index := Scalar.indexCast v3610
  ![v3611.toNat]

def k2_chk347 (v3472 : IVec S16 32) (v3625 : IVec S16 32) : Prop :=
  (∀ a x, ((![v3472, v3625] : Fin 2 → IVec S16 32) a x).toNat < S16x256.size a) ∧
  (∀ a x, ((![v3472, v3625] : Fin 2 → IVec S16 32) a x).toNat < S16x256.size a)
theorem k2_idx586_inb : ∀ (v3472 : IVec S16 32) (v3625 : IVec S16 32) (k2_hw347 : k2_chk347 v3472 v3625), ∀ a x, ((![v3472, v3625] : Fin 2 → IVec S16 32) a x).toNat < S16x256.size a := fun v3472 v3625 k2_hw347 => k2_hw347.1
theorem k2_idx587_inb : ∀ (v3472 : IVec S16 32) (v3625 : IVec S16 32) (k2_hw347 : k2_chk347 v3472 v3625), ∀ a x, ((![v3472, v3625] : Fin 2 → IVec S16 32) a x).toNat < S16x256.size a := fun v3472 v3625 k2_hw347 => k2_hw347.2

def k2_chk348 (v3482 : IVec S16 32) : Prop :=
  (∀ a x, ((![v3482] : Fin 1 → IVec S16 32) a x).toNat < S128.size a)
theorem k2_idx588_inb : ∀ (v3482 : IVec S16 32) (k2_hw348 : k2_chk348 v3482), ∀ a x, ((![v3482] : Fin 1 → IVec S16 32) a x).toNat < S128.size a := fun v3482 k2_hw348 => k2_hw348
@[reducible] def k2_t63_loop (v3069 : BitVec 32) : Scf.Loop 32 :=
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3161 : BitVec 32 := 1#32
  ⟨c0_i32_3159, v3554, c1_i32_3161⟩

def k2_chk350 (v3610 : IVec S16 32) : Prop :=
  (∀ a x, ((![v3610] : Fin 1 → IVec S16 32) a x).toNat < S128.size a)
theorem k2_idx589_inb : ∀ (v3610 : IVec S16 32) (k2_hw350 : k2_chk350 v3610), ∀ a x, ((![v3610] : Fin 1 → IVec S16 32) a x).toNat < S128.size a := fun v3610 k2_hw350 => k2_hw350
def k2_off274 (v3069 : BitVec 32) (k2_t63 : Fin (k2_t63_loop v3069).trips) : Fin 3 → Nat :=
  let c3_i32_3220 : BitVec 32 := 3#32
  let v3617 : Index := Scalar.indexCast c3_i32_3220
  let c0_i32_3159 : BitVec 32 := 0#32
  let c1_i32_3161 : BitVec 32 := 1#32
  let arg21 : BitVec 32 := Scf.iv c0_i32_3159 c1_i32_3161 k2_t63
  let v3618 : Index := Scalar.indexCast arg21
  let c0_3221 : Index := 0#32
  ![3, v3618.toNat, 0]

def k2_chk351 (v3623 : IVec S16 32) : Prop :=
  (∀ a x, ((![v3623] : Fin 1 → IVec S16 32) a x).toNat < S512.size a) ∧
  (∀ a x, ((![v3623] : Fin 1 → IVec S16 32) a x).toNat < S512.size a)
theorem k2_idx590_inb : ∀ (v3623 : IVec S16 32) (k2_hw351 : k2_chk351 v3623), ∀ a x, ((![v3623] : Fin 1 → IVec S16 32) a x).toNat < S512.size a := fun v3623 k2_hw351 => k2_hw351.1
theorem k2_idx591_inb : ∀ (v3623 : IVec S16 32) (k2_hw351 : k2_chk351 v3623), ∀ a x, ((![v3623] : Fin 1 → IVec S16 32) a x).toNat < S512.size a := fun v3623 k2_hw351 => k2_hw351.2
def k2_off275 (v3069 : BitVec 32) (k2_t63 : Fin (k2_t63_loop v3069).trips) : Fin 3 → Nat :=
  let c3_i32_3223 : BitVec 32 := 3#32
  let v3628 : Index := Scalar.indexCast c3_i32_3223
  let c0_i32_3159 : BitVec 32 := 0#32
  let c1_i32_3161 : BitVec 32 := 1#32
  let arg21 : BitVec 32 := Scf.iv c0_i32_3159 c1_i32_3161 k2_t63
  let v3629 : Index := Scalar.indexCast arg21
  let c16_3224 : Index := 16#32
  ![3, v3629.toNat, 16]

def k2_chk352 (v3634 : IVec S16 32) : Prop :=
  (∀ a x, ((![v3634] : Fin 1 → IVec S16 32) a x).toNat < S512.size a) ∧
  (∀ a x, ((![v3634] : Fin 1 → IVec S16 32) a x).toNat < S512.size a)
theorem k2_idx592_inb : ∀ (v3634 : IVec S16 32) (k2_hw352 : k2_chk352 v3634), ∀ a x, ((![v3634] : Fin 1 → IVec S16 32) a x).toNat < S512.size a := fun v3634 k2_hw352 => k2_hw352.1
theorem k2_idx593_inb : ∀ (v3634 : IVec S16 32) (k2_hw352 : k2_chk352 v3634), ∀ a x, ((![v3634] : Fin 1 → IVec S16 32) a x).toNat < S512.size a := fun v3634 k2_hw352 => k2_hw352.2
def k2_off276 (v3069 : BitVec 32) (k2_t63 : Fin (k2_t63_loop v3069).trips) : Fin 3 → Nat :=
  let c3_i32_3227 : BitVec 32 := 3#32
  let v3639 : Index := Scalar.indexCast c3_i32_3227
  let c0_i32_3159 : BitVec 32 := 0#32
  let c1_i32_3161 : BitVec 32 := 1#32
  let arg21 : BitVec 32 := Scf.iv c0_i32_3159 c1_i32_3161 k2_t63
  let v3640 : Index := Scalar.indexCast arg21
  let c32_3228 : Index := 32#32
  ![3, v3640.toNat, 32]

def k2_chk353 (v3645 : IVec S16 32) : Prop :=
  (∀ a x, ((![v3645] : Fin 1 → IVec S16 32) a x).toNat < S512.size a) ∧
  (∀ a x, ((![v3645] : Fin 1 → IVec S16 32) a x).toNat < S512.size a)
theorem k2_idx594_inb : ∀ (v3645 : IVec S16 32) (k2_hw353 : k2_chk353 v3645), ∀ a x, ((![v3645] : Fin 1 → IVec S16 32) a x).toNat < S512.size a := fun v3645 k2_hw353 => k2_hw353.1
theorem k2_idx595_inb : ∀ (v3645 : IVec S16 32) (k2_hw353 : k2_chk353 v3645), ∀ a x, ((![v3645] : Fin 1 → IVec S16 32) a x).toNat < S512.size a := fun v3645 k2_hw353 => k2_hw353.2
def k2_off277 (v3069 : BitVec 32) (k2_t63 : Fin (k2_t63_loop v3069).trips) : Fin 3 → Nat :=
  let c3_i32_3231 : BitVec 32 := 3#32
  let v3650 : Index := Scalar.indexCast c3_i32_3231
  let c0_i32_3159 : BitVec 32 := 0#32
  let c1_i32_3161 : BitVec 32 := 1#32
  let arg21 : BitVec 32 := Scf.iv c0_i32_3159 c1_i32_3161 k2_t63
  let v3651 : Index := Scalar.indexCast arg21
  let c48_3232 : Index := 48#32
  ![3, v3651.toNat, 48]

def k2_chk354 (v3656 : IVec S16 32) : Prop :=
  (∀ a x, ((![v3656] : Fin 1 → IVec S16 32) a x).toNat < S512.size a) ∧
  (∀ a x, ((![v3656] : Fin 1 → IVec S16 32) a x).toNat < S512.size a)
theorem k2_idx596_inb : ∀ (v3656 : IVec S16 32) (k2_hw354 : k2_chk354 v3656), ∀ a x, ((![v3656] : Fin 1 → IVec S16 32) a x).toNat < S512.size a := fun v3656 k2_hw354 => k2_hw354.1
theorem k2_idx597_inb : ∀ (v3656 : IVec S16 32) (k2_hw354 : k2_chk354 v3656), ∀ a x, ((![v3656] : Fin 1 → IVec S16 32) a x).toNat < S512.size a := fun v3656 k2_hw354 => k2_hw354.2
def k2_off278 (v3069 : BitVec 32) (k2_t63 : Fin (k2_t63_loop v3069).trips) : Fin 3 → Nat :=
  let c3_i32_3234 : BitVec 32 := 3#32
  let v3661 : Index := Scalar.indexCast c3_i32_3234
  let c0_i32_3159 : BitVec 32 := 0#32
  let c1_i32_3161 : BitVec 32 := 1#32
  let arg21 : BitVec 32 := Scf.iv c0_i32_3159 c1_i32_3161 k2_t63
  let v3662 : Index := Scalar.indexCast arg21
  let c64_3235 : Index := 64#32
  ![3, v3662.toNat, 64]

def k2_chk355 (v3667 : IVec S16 32) : Prop :=
  (∀ a x, ((![v3667] : Fin 1 → IVec S16 32) a x).toNat < S512.size a) ∧
  (∀ a x, ((![v3667] : Fin 1 → IVec S16 32) a x).toNat < S512.size a)
theorem k2_idx598_inb : ∀ (v3667 : IVec S16 32) (k2_hw355 : k2_chk355 v3667), ∀ a x, ((![v3667] : Fin 1 → IVec S16 32) a x).toNat < S512.size a := fun v3667 k2_hw355 => k2_hw355.1
theorem k2_idx599_inb : ∀ (v3667 : IVec S16 32) (k2_hw355 : k2_chk355 v3667), ∀ a x, ((![v3667] : Fin 1 → IVec S16 32) a x).toNat < S512.size a := fun v3667 k2_hw355 => k2_hw355.2
def k2_off279 (v3069 : BitVec 32) (k2_t63 : Fin (k2_t63_loop v3069).trips) : Fin 3 → Nat :=
  let c3_i32_3237 : BitVec 32 := 3#32
  let v3672 : Index := Scalar.indexCast c3_i32_3237
  let c0_i32_3159 : BitVec 32 := 0#32
  let c1_i32_3161 : BitVec 32 := 1#32
  let arg21 : BitVec 32 := Scf.iv c0_i32_3159 c1_i32_3161 k2_t63
  let v3673 : Index := Scalar.indexCast arg21
  let c80_3238 : Index := 80#32
  ![3, v3673.toNat, 80]

def k2_chk356 (v3678 : IVec S16 32) : Prop :=
  (∀ a x, ((![v3678] : Fin 1 → IVec S16 32) a x).toNat < S512.size a) ∧
  (∀ a x, ((![v3678] : Fin 1 → IVec S16 32) a x).toNat < S512.size a)
theorem k2_idx600_inb : ∀ (v3678 : IVec S16 32) (k2_hw356 : k2_chk356 v3678), ∀ a x, ((![v3678] : Fin 1 → IVec S16 32) a x).toNat < S512.size a := fun v3678 k2_hw356 => k2_hw356.1
theorem k2_idx601_inb : ∀ (v3678 : IVec S16 32) (k2_hw356 : k2_chk356 v3678), ∀ a x, ((![v3678] : Fin 1 → IVec S16 32) a x).toNat < S512.size a := fun v3678 k2_hw356 => k2_hw356.2
def k2_off280 (v3069 : BitVec 32) (k2_t63 : Fin (k2_t63_loop v3069).trips) : Fin 3 → Nat :=
  let c3_i32_3240 : BitVec 32 := 3#32
  let v3683 : Index := Scalar.indexCast c3_i32_3240
  let c0_i32_3159 : BitVec 32 := 0#32
  let c1_i32_3161 : BitVec 32 := 1#32
  let arg21 : BitVec 32 := Scf.iv c0_i32_3159 c1_i32_3161 k2_t63
  let v3684 : Index := Scalar.indexCast arg21
  let c96_3241 : Index := 96#32
  ![3, v3684.toNat, 96]

def k2_chk357 (v3689 : IVec S16 32) : Prop :=
  (∀ a x, ((![v3689] : Fin 1 → IVec S16 32) a x).toNat < S512.size a) ∧
  (∀ a x, ((![v3689] : Fin 1 → IVec S16 32) a x).toNat < S512.size a)
theorem k2_idx602_inb : ∀ (v3689 : IVec S16 32) (k2_hw357 : k2_chk357 v3689), ∀ a x, ((![v3689] : Fin 1 → IVec S16 32) a x).toNat < S512.size a := fun v3689 k2_hw357 => k2_hw357.1
theorem k2_idx603_inb : ∀ (v3689 : IVec S16 32) (k2_hw357 : k2_chk357 v3689), ∀ a x, ((![v3689] : Fin 1 → IVec S16 32) a x).toNat < S512.size a := fun v3689 k2_hw357 => k2_hw357.2
def k2_off281 (v3069 : BitVec 32) (k2_t63 : Fin (k2_t63_loop v3069).trips) : Fin 3 → Nat :=
  let c3_i32_3243 : BitVec 32 := 3#32
  let v3694 : Index := Scalar.indexCast c3_i32_3243
  let c0_i32_3159 : BitVec 32 := 0#32
  let c1_i32_3161 : BitVec 32 := 1#32
  let arg21 : BitVec 32 := Scf.iv c0_i32_3159 c1_i32_3161 k2_t63
  let v3695 : Index := Scalar.indexCast arg21
  let c112_3244 : Index := 112#32
  ![3, v3695.toNat, 112]

def k2_chk358 (v3700 : IVec S16 32) : Prop :=
  (∀ a x, ((![v3700] : Fin 1 → IVec S16 32) a x).toNat < S512.size a) ∧
  (∀ a x, ((![v3700] : Fin 1 → IVec S16 32) a x).toNat < S512.size a)
theorem k2_idx604_inb : ∀ (v3700 : IVec S16 32) (k2_hw358 : k2_chk358 v3700), ∀ a x, ((![v3700] : Fin 1 → IVec S16 32) a x).toNat < S512.size a := fun v3700 k2_hw358 => k2_hw358.1
theorem k2_idx605_inb : ∀ (v3700 : IVec S16 32) (k2_hw358 : k2_chk358 v3700), ∀ a x, ((![v3700] : Fin 1 → IVec S16 32) a x).toNat < S512.size a := fun v3700 k2_hw358 => k2_hw358.2
@[reducible] def k2_t64_loop (v3069 : BitVec 32) : Scf.Loop 32 :=
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let v3551 : BitVec 32 := Scalar.addi c0_i32_3159 v3550
  let c1_i32_3162 : BitVec 32 := 1#32
  ⟨v3554, v3551, c1_i32_3162⟩

def k2_chk359 (v3610 : IVec S16 32) : Prop :=
  (∀ a x, ((![v3610] : Fin 1 → IVec S16 32) a x).toNat < S128.size a)
theorem k2_idx606_inb : ∀ (v3610 : IVec S16 32) (k2_hw359 : k2_chk359 v3610), ∀ a x, ((![v3610] : Fin 1 → IVec S16 32) a x).toNat < S128.size a := fun v3610 k2_hw359 => k2_hw359
def k2_off282 (v3069 : BitVec 32) (k2_t64 : Fin (k2_t64_loop v3069).trips) : Fin 3 → Nat :=
  let c3_i32_3220 : BitVec 32 := 3#32
  let v3617 : Index := Scalar.indexCast c3_i32_3220
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3618 : Index := Scalar.indexCast arg21
  let c0_3221 : Index := 0#32
  ![3, v3618.toNat, 0]

def k2_chk360 (v3623 : IVec S16 32) : Prop :=
  (∀ a x, ((![v3623] : Fin 1 → IVec S16 32) a x).toNat < S512.size a) ∧
  (∀ a x, ((![v3623] : Fin 1 → IVec S16 32) a x).toNat < S512.size a)
theorem k2_idx607_inb : ∀ (v3623 : IVec S16 32) (k2_hw360 : k2_chk360 v3623), ∀ a x, ((![v3623] : Fin 1 → IVec S16 32) a x).toNat < S512.size a := fun v3623 k2_hw360 => k2_hw360.1
theorem k2_idx608_inb : ∀ (v3623 : IVec S16 32) (k2_hw360 : k2_chk360 v3623), ∀ a x, ((![v3623] : Fin 1 → IVec S16 32) a x).toNat < S512.size a := fun v3623 k2_hw360 => k2_hw360.2
def k2_off283 (v3069 : BitVec 32) (k2_t64 : Fin (k2_t64_loop v3069).trips) : Fin 3 → Nat :=
  let c3_i32_3223 : BitVec 32 := 3#32
  let v3628 : Index := Scalar.indexCast c3_i32_3223
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3629 : Index := Scalar.indexCast arg21
  let c16_3224 : Index := 16#32
  ![3, v3629.toNat, 16]

def k2_chk361 (v3634 : IVec S16 32) : Prop :=
  (∀ a x, ((![v3634] : Fin 1 → IVec S16 32) a x).toNat < S512.size a) ∧
  (∀ a x, ((![v3634] : Fin 1 → IVec S16 32) a x).toNat < S512.size a)
theorem k2_idx609_inb : ∀ (v3634 : IVec S16 32) (k2_hw361 : k2_chk361 v3634), ∀ a x, ((![v3634] : Fin 1 → IVec S16 32) a x).toNat < S512.size a := fun v3634 k2_hw361 => k2_hw361.1
theorem k2_idx610_inb : ∀ (v3634 : IVec S16 32) (k2_hw361 : k2_chk361 v3634), ∀ a x, ((![v3634] : Fin 1 → IVec S16 32) a x).toNat < S512.size a := fun v3634 k2_hw361 => k2_hw361.2
def k2_off284 (v3069 : BitVec 32) (k2_t64 : Fin (k2_t64_loop v3069).trips) : Fin 3 → Nat :=
  let c3_i32_3227 : BitVec 32 := 3#32
  let v3639 : Index := Scalar.indexCast c3_i32_3227
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3640 : Index := Scalar.indexCast arg21
  let c32_3228 : Index := 32#32
  ![3, v3640.toNat, 32]

def k2_chk362 (v3645 : IVec S16 32) : Prop :=
  (∀ a x, ((![v3645] : Fin 1 → IVec S16 32) a x).toNat < S512.size a) ∧
  (∀ a x, ((![v3645] : Fin 1 → IVec S16 32) a x).toNat < S512.size a)
theorem k2_idx611_inb : ∀ (v3645 : IVec S16 32) (k2_hw362 : k2_chk362 v3645), ∀ a x, ((![v3645] : Fin 1 → IVec S16 32) a x).toNat < S512.size a := fun v3645 k2_hw362 => k2_hw362.1
theorem k2_idx612_inb : ∀ (v3645 : IVec S16 32) (k2_hw362 : k2_chk362 v3645), ∀ a x, ((![v3645] : Fin 1 → IVec S16 32) a x).toNat < S512.size a := fun v3645 k2_hw362 => k2_hw362.2
def k2_off285 (v3069 : BitVec 32) (k2_t64 : Fin (k2_t64_loop v3069).trips) : Fin 3 → Nat :=
  let c3_i32_3231 : BitVec 32 := 3#32
  let v3650 : Index := Scalar.indexCast c3_i32_3231
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3651 : Index := Scalar.indexCast arg21
  let c48_3232 : Index := 48#32
  ![3, v3651.toNat, 48]

def k2_chk363 (v3656 : IVec S16 32) : Prop :=
  (∀ a x, ((![v3656] : Fin 1 → IVec S16 32) a x).toNat < S512.size a) ∧
  (∀ a x, ((![v3656] : Fin 1 → IVec S16 32) a x).toNat < S512.size a)
theorem k2_idx613_inb : ∀ (v3656 : IVec S16 32) (k2_hw363 : k2_chk363 v3656), ∀ a x, ((![v3656] : Fin 1 → IVec S16 32) a x).toNat < S512.size a := fun v3656 k2_hw363 => k2_hw363.1
theorem k2_idx614_inb : ∀ (v3656 : IVec S16 32) (k2_hw363 : k2_chk363 v3656), ∀ a x, ((![v3656] : Fin 1 → IVec S16 32) a x).toNat < S512.size a := fun v3656 k2_hw363 => k2_hw363.2
def k2_off286 (v3069 : BitVec 32) (k2_t64 : Fin (k2_t64_loop v3069).trips) : Fin 3 → Nat :=
  let c3_i32_3234 : BitVec 32 := 3#32
  let v3661 : Index := Scalar.indexCast c3_i32_3234
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3662 : Index := Scalar.indexCast arg21
  let c64_3235 : Index := 64#32
  ![3, v3662.toNat, 64]

def k2_chk364 (v3667 : IVec S16 32) : Prop :=
  (∀ a x, ((![v3667] : Fin 1 → IVec S16 32) a x).toNat < S512.size a) ∧
  (∀ a x, ((![v3667] : Fin 1 → IVec S16 32) a x).toNat < S512.size a)
theorem k2_idx615_inb : ∀ (v3667 : IVec S16 32) (k2_hw364 : k2_chk364 v3667), ∀ a x, ((![v3667] : Fin 1 → IVec S16 32) a x).toNat < S512.size a := fun v3667 k2_hw364 => k2_hw364.1
theorem k2_idx616_inb : ∀ (v3667 : IVec S16 32) (k2_hw364 : k2_chk364 v3667), ∀ a x, ((![v3667] : Fin 1 → IVec S16 32) a x).toNat < S512.size a := fun v3667 k2_hw364 => k2_hw364.2
def k2_off287 (v3069 : BitVec 32) (k2_t64 : Fin (k2_t64_loop v3069).trips) : Fin 3 → Nat :=
  let c3_i32_3237 : BitVec 32 := 3#32
  let v3672 : Index := Scalar.indexCast c3_i32_3237
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3673 : Index := Scalar.indexCast arg21
  let c80_3238 : Index := 80#32
  ![3, v3673.toNat, 80]

def k2_chk365 (v3678 : IVec S16 32) : Prop :=
  (∀ a x, ((![v3678] : Fin 1 → IVec S16 32) a x).toNat < S512.size a) ∧
  (∀ a x, ((![v3678] : Fin 1 → IVec S16 32) a x).toNat < S512.size a)
theorem k2_idx617_inb : ∀ (v3678 : IVec S16 32) (k2_hw365 : k2_chk365 v3678), ∀ a x, ((![v3678] : Fin 1 → IVec S16 32) a x).toNat < S512.size a := fun v3678 k2_hw365 => k2_hw365.1
theorem k2_idx618_inb : ∀ (v3678 : IVec S16 32) (k2_hw365 : k2_chk365 v3678), ∀ a x, ((![v3678] : Fin 1 → IVec S16 32) a x).toNat < S512.size a := fun v3678 k2_hw365 => k2_hw365.2
def k2_off288 (v3069 : BitVec 32) (k2_t64 : Fin (k2_t64_loop v3069).trips) : Fin 3 → Nat :=
  let c3_i32_3240 : BitVec 32 := 3#32
  let v3683 : Index := Scalar.indexCast c3_i32_3240
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3684 : Index := Scalar.indexCast arg21
  let c96_3241 : Index := 96#32
  ![3, v3684.toNat, 96]

def k2_chk366 (v3689 : IVec S16 32) : Prop :=
  (∀ a x, ((![v3689] : Fin 1 → IVec S16 32) a x).toNat < S512.size a) ∧
  (∀ a x, ((![v3689] : Fin 1 → IVec S16 32) a x).toNat < S512.size a)
theorem k2_idx619_inb : ∀ (v3689 : IVec S16 32) (k2_hw366 : k2_chk366 v3689), ∀ a x, ((![v3689] : Fin 1 → IVec S16 32) a x).toNat < S512.size a := fun v3689 k2_hw366 => k2_hw366.1
theorem k2_idx620_inb : ∀ (v3689 : IVec S16 32) (k2_hw366 : k2_chk366 v3689), ∀ a x, ((![v3689] : Fin 1 → IVec S16 32) a x).toNat < S512.size a := fun v3689 k2_hw366 => k2_hw366.2
def k2_off289 (v3069 : BitVec 32) (k2_t64 : Fin (k2_t64_loop v3069).trips) : Fin 3 → Nat :=
  let c3_i32_3243 : BitVec 32 := 3#32
  let v3694 : Index := Scalar.indexCast c3_i32_3243
  let c0_i32_3159 : BitVec 32 := 0#32
  let c128_i32_2684 : BitVec 32 := 128#32
  let v3070 : BitVec 32 := Scalar.minsi v3069 c128_i32_2684
  let v3550 : BitVec 32 := Scalar.subi v3070 c0_i32_3159
  let c1_i32_3160 : BitVec 32 := 1#32
  let v3552 : BitVec 32 := Scalar.divsi v3550 c1_i32_3160
  let v3553 : BitVec 32 := Scalar.muli v3552 c1_i32_3160
  let v3554 : BitVec 32 := Scalar.addi c0_i32_3159 v3553
  let c1_i32_3162 : BitVec 32 := 1#32
  let arg21 : BitVec 32 := Scf.iv v3554 c1_i32_3162 k2_t64
  let v3695 : Index := Scalar.indexCast arg21
  let c112_3244 : Index := 112#32
  ![3, v3695.toNat, 112]

def k2_chk349 (v3069 : BitVec 32) : Prop :=
  ((k2_t63_loop v3069).OK) ∧
  (∀ k2_t63 : Fin (k2_t63_loop v3069).trips, ∀ a, (k2_off274 v3069 k2_t63) a + S1x1x16.size a ≤ S4x128x128.size a) ∧
  (∀ k2_t63 : Fin (k2_t63_loop v3069).trips, ∀ a, (k2_off275 v3069 k2_t63) a + S1x1x16.size a ≤ S4x128x128.size a) ∧
  (∀ k2_t63 : Fin (k2_t63_loop v3069).trips, ∀ a, (k2_off276 v3069 k2_t63) a + S1x1x16.size a ≤ S4x128x128.size a) ∧
  (∀ k2_t63 : Fin (k2_t63_loop v3069).trips, ∀ a, (k2_off277 v3069 k2_t63) a + S1x1x16.size a ≤ S4x128x128.size a) ∧
  (∀ k2_t63 : Fin (k2_t63_loop v3069).trips, ∀ a, (k2_off278 v3069 k2_t63) a + S1x1x16.size a ≤ S4x128x128.size a) ∧
  (∀ k2_t63 : Fin (k2_t63_loop v3069).trips, ∀ a, (k2_off279 v3069 k2_t63) a + S1x1x16.size a ≤ S4x128x128.size a) ∧
  (∀ k2_t63 : Fin (k2_t63_loop v3069).trips, ∀ a, (k2_off280 v3069 k2_t63) a + S1x1x16.size a ≤ S4x128x128.size a) ∧
  (∀ k2_t63 : Fin (k2_t63_loop v3069).trips, ∀ a, (k2_off281 v3069 k2_t63) a + S1x1x16.size a ≤ S4x128x128.size a) ∧
  ((k2_t64_loop v3069).OK) ∧
  (∀ k2_t64 : Fin (k2_t64_loop v3069).trips, ∀ a, (k2_off282 v3069 k2_t64) a + S1x1x16.size a ≤ S4x128x128.size a) ∧
  (∀ k2_t64 : Fin (k2_t64_loop v3069).trips, ∀ a, (k2_off283 v3069 k2_t64) a + S1x1x16.size a ≤ S4x128x128.size a) ∧
  (∀ k2_t64 : Fin (k2_t64_loop v3069).trips, ∀ a, (k2_off284 v3069 k2_t64) a + S1x1x16.size a ≤ S4x128x128.size a) ∧
  (∀ k2_t64 : Fin (k2_t64_loop v3069).trips, ∀ a, (k2_off285 v3069 k2_t64) a + S1x1x16.size a ≤ S4x128x128.size a) ∧
  (∀ k2_t64 : Fin (k2_t64_loop v3069).trips, ∀ a, (k2_off286 v3069 k2_t64) a + S1x1x16.size a ≤ S4x128x128.size a) ∧
  (∀ k2_t64 : Fin (k2_t64_loop v3069).trips, ∀ a, (k2_off287 v3069 k2_t64) a + S1x1x16.size a ≤ S4x128x128.size a) ∧
  (∀ k2_t64 : Fin (k2_t64_loop v3069).trips, ∀ a, (k2_off288 v3069 k2_t64) a + S1x1x16.size a ≤ S4x128x128.size a) ∧
  (∀ k2_t64 : Fin (k2_t64_loop v3069).trips, ∀ a, (k2_off289 v3069 k2_t64) a + S1x1x16.size a ≤ S4x128x128.size a)
theorem k2_t63_ok : ∀ (v3069 : BitVec 32) (k2_hw349 : k2_chk349 v3069), (k2_t63_loop v3069).OK := fun v3069 k2_hw349 => k2_hw349.1
theorem k2_off274_inb : ∀ (v3069 : BitVec 32) (k2_hw349 : k2_chk349 v3069) (k2_t63 : Fin (k2_t63_loop v3069).trips), ∀ a, (k2_off274 v3069 k2_t63) a + S1x1x16.size a ≤ S4x128x128.size a := fun v3069 k2_hw349 k2_t63 => k2_hw349.2.1 k2_t63
theorem k2_off275_inb : ∀ (v3069 : BitVec 32) (k2_hw349 : k2_chk349 v3069) (k2_t63 : Fin (k2_t63_loop v3069).trips), ∀ a, (k2_off275 v3069 k2_t63) a + S1x1x16.size a ≤ S4x128x128.size a := fun v3069 k2_hw349 k2_t63 => k2_hw349.2.2.1 k2_t63
theorem k2_off276_inb : ∀ (v3069 : BitVec 32) (k2_hw349 : k2_chk349 v3069) (k2_t63 : Fin (k2_t63_loop v3069).trips), ∀ a, (k2_off276 v3069 k2_t63) a + S1x1x16.size a ≤ S4x128x128.size a := fun v3069 k2_hw349 k2_t63 => k2_hw349.2.2.2.1 k2_t63
theorem k2_off277_inb : ∀ (v3069 : BitVec 32) (k2_hw349 : k2_chk349 v3069) (k2_t63 : Fin (k2_t63_loop v3069).trips), ∀ a, (k2_off277 v3069 k2_t63) a + S1x1x16.size a ≤ S4x128x128.size a := fun v3069 k2_hw349 k2_t63 => k2_hw349.2.2.2.2.1 k2_t63
theorem k2_off278_inb : ∀ (v3069 : BitVec 32) (k2_hw349 : k2_chk349 v3069) (k2_t63 : Fin (k2_t63_loop v3069).trips), ∀ a, (k2_off278 v3069 k2_t63) a + S1x1x16.size a ≤ S4x128x128.size a := fun v3069 k2_hw349 k2_t63 => k2_hw349.2.2.2.2.2.1 k2_t63
theorem k2_off279_inb : ∀ (v3069 : BitVec 32) (k2_hw349 : k2_chk349 v3069) (k2_t63 : Fin (k2_t63_loop v3069).trips), ∀ a, (k2_off279 v3069 k2_t63) a + S1x1x16.size a ≤ S4x128x128.size a := fun v3069 k2_hw349 k2_t63 => k2_hw349.2.2.2.2.2.2.1 k2_t63
theorem k2_off280_inb : ∀ (v3069 : BitVec 32) (k2_hw349 : k2_chk349 v3069) (k2_t63 : Fin (k2_t63_loop v3069).trips), ∀ a, (k2_off280 v3069 k2_t63) a + S1x1x16.size a ≤ S4x128x128.size a := fun v3069 k2_hw349 k2_t63 => k2_hw349.2.2.2.2.2.2.2.1 k2_t63
theorem k2_off281_inb : ∀ (v3069 : BitVec 32) (k2_hw349 : k2_chk349 v3069) (k2_t63 : Fin (k2_t63_loop v3069).trips), ∀ a, (k2_off281 v3069 k2_t63) a + S1x1x16.size a ≤ S4x128x128.size a := fun v3069 k2_hw349 k2_t63 => k2_hw349.2.2.2.2.2.2.2.2.1 k2_t63
theorem k2_t64_ok : ∀ (v3069 : BitVec 32) (k2_hw349 : k2_chk349 v3069), (k2_t64_loop v3069).OK := fun v3069 k2_hw349 => k2_hw349.2.2.2.2.2.2.2.2.2.1
theorem k2_off282_inb : ∀ (v3069 : BitVec 32) (k2_hw349 : k2_chk349 v3069) (k2_t64 : Fin (k2_t64_loop v3069).trips), ∀ a, (k2_off282 v3069 k2_t64) a + S1x1x16.size a ≤ S4x128x128.size a := fun v3069 k2_hw349 k2_t64 => k2_hw349.2.2.2.2.2.2.2.2.2.2.1 k2_t64
theorem k2_off283_inb : ∀ (v3069 : BitVec 32) (k2_hw349 : k2_chk349 v3069) (k2_t64 : Fin (k2_t64_loop v3069).trips), ∀ a, (k2_off283 v3069 k2_t64) a + S1x1x16.size a ≤ S4x128x128.size a := fun v3069 k2_hw349 k2_t64 => k2_hw349.2.2.2.2.2.2.2.2.2.2.2.1 k2_t64
theorem k2_off284_inb : ∀ (v3069 : BitVec 32) (k2_hw349 : k2_chk349 v3069) (k2_t64 : Fin (k2_t64_loop v3069).trips), ∀ a, (k2_off284 v3069 k2_t64) a + S1x1x16.size a ≤ S4x128x128.size a := fun v3069 k2_hw349 k2_t64 => k2_hw349.2.2.2.2.2.2.2.2.2.2.2.2.1 k2_t64
theorem k2_off285_inb : ∀ (v3069 : BitVec 32) (k2_hw349 : k2_chk349 v3069) (k2_t64 : Fin (k2_t64_loop v3069).trips), ∀ a, (k2_off285 v3069 k2_t64) a + S1x1x16.size a ≤ S4x128x128.size a := fun v3069 k2_hw349 k2_t64 => k2_hw349.2.2.2.2.2.2.2.2.2.2.2.2.2.1 k2_t64
theorem k2_off286_inb : ∀ (v3069 : BitVec 32) (k2_hw349 : k2_chk349 v3069) (k2_t64 : Fin (k2_t64_loop v3069).trips), ∀ a, (k2_off286 v3069 k2_t64) a + S1x1x16.size a ≤ S4x128x128.size a := fun v3069 k2_hw349 k2_t64 => k2_hw349.2.2.2.2.2.2.2.2.2.2.2.2.2.2.1 k2_t64
theorem k2_off287_inb : ∀ (v3069 : BitVec 32) (k2_hw349 : k2_chk349 v3069) (k2_t64 : Fin (k2_t64_loop v3069).trips), ∀ a, (k2_off287 v3069 k2_t64) a + S1x1x16.size a ≤ S4x128x128.size a := fun v3069 k2_hw349 k2_t64 => k2_hw349.2.2.2.2.2.2.2.2.2.2.2.2.2.2.2.1 k2_t64
theorem k2_off288_inb : ∀ (v3069 : BitVec 32) (k2_hw349 : k2_chk349 v3069) (k2_t64 : Fin (k2_t64_loop v3069).trips), ∀ a, (k2_off288 v3069 k2_t64) a + S1x1x16.size a ≤ S4x128x128.size a := fun v3069 k2_hw349 k2_t64 => k2_hw349.2.2.2.2.2.2.2.2.2.2.2.2.2.2.2.2.1 k2_t64
theorem k2_off289_inb : ∀ (v3069 : BitVec 32) (k2_hw349 : k2_chk349 v3069) (k2_t64 : Fin (k2_t64_loop v3069).trips), ∀ a, (k2_off289 v3069 k2_t64) a + S1x1x16.size a ≤ S4x128x128.size a := fun v3069 k2_hw349 k2_t64 => k2_hw349.2.2.2.2.2.2.2.2.2.2.2.2.2.2.2.2.2 k2_t64

def k2_chk367 (v3700 : IVec S16 32) : Prop :=
  (∀ a x, ((![v3700] : Fin 1 → IVec S16 32) a x).toNat < S512.size a) ∧
  (∀ a x, ((![v3700] : Fin 1 → IVec S16 32) a x).toNat < S512.size a)
theorem k2_idx621_inb : ∀ (v3700 : IVec S16 32) (k2_hw367 : k2_chk367 v3700), ∀ a x, ((![v3700] : Fin 1 → IVec S16 32) a x).toNat < S512.size a := fun v3700 k2_hw367 => k2_hw367.1
theorem k2_idx622_inb : ∀ (v3700 : IVec S16 32) (k2_hw367 : k2_chk367 v3700), ∀ a x, ((![v3700] : Fin 1 → IVec S16 32) a x).toNat < S512.size a := fun v3700 k2_hw367 => k2_hw367.2
@[reducible] def k2_t65_loop : Scf.Loop 32 :=
  let c0_i32_3212 : BitVec 32 := 0#32
  let c32_i32_3213 : BitVec 32 := 32#32
  let v3606 : BitVec 32 := Scalar.addi c0_i32_3212 c32_i32_3213
  let c1_i32_3214 : BitVec 32 := 1#32
  ⟨c0_i32_3212, v3606, c1_i32_3214⟩
def k2_off290 (k2_t65 : Fin k2_t65_loop.trips) : Fin 1 → Nat :=
  let c0_i32_3212 : BitVec 32 := 0#32
  let c1_i32_3214 : BitVec 32 := 1#32
  let arg21 : BitVec 32 := Scf.iv c0_i32_3212 c1_i32_3214 k2_t65
  let c16_i32_3217 : BitVec 32 := 16#32
  let v3610 : BitVec 32 := Scalar.muli arg21 c16_i32_3217
  let v3611 : Index := Scalar.indexCast v3610
  ![v3611.toNat]

def k2_chk368 (v3605 : IVec S16 32) (v3625 : IVec S16 32) : Prop :=
  (∀ a x, ((![v3605, v3625] : Fin 2 → IVec S16 32) a x).toNat < S16x256.size a) ∧
  (∀ a x, ((![v3605, v3625] : Fin 2 → IVec S16 32) a x).toNat < S16x256.size a)
theorem k2_idx623_inb : ∀ (v3605 : IVec S16 32) (v3625 : IVec S16 32) (k2_hw368 : k2_chk368 v3605 v3625), ∀ a x, ((![v3605, v3625] : Fin 2 → IVec S16 32) a x).toNat < S16x256.size a := fun v3605 v3625 k2_hw368 => k2_hw368.1
theorem k2_idx624_inb : ∀ (v3605 : IVec S16 32) (v3625 : IVec S16 32) (k2_hw368 : k2_chk368 v3605 v3625), ∀ a x, ((![v3605, v3625] : Fin 2 → IVec S16 32) a x).toNat < S16x256.size a := fun v3605 v3625 k2_hw368 => k2_hw368.2
def k2_off291 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_1 : BitVec 32 := 0#32
  let c1_i32 : BitVec 32 := 1#32
  let arg20 : BitVec 32 := Scf.iv c0_i32_1 c1_i32 k2_t1
  let c16_i32_3216 : BitVec 32 := 16#32
  let v3608 : BitVec 32 := Scalar.muli arg20 c16_i32_3216
  let v3609 : BitVec 32 := Scalar.addi v2 v3608
  let c0_i32_3217_r2 : BitVec 32 := 0#32
  ![v3609.toNat, 0]
abbrev grid3 : Pipeline.Grid := ⟨1, ![8], ![false]⟩

@[reducible] def k3_t1_loop : Scf.Loop 32 :=
  let c0_i32_3 : BitVec 32 := 0#32
  let c100_i32 : BitVec 32 := 100#32
  let v7 : BitVec 32 := Scalar.addi c0_i32_3 c100_i32
  let c1_i32 : BitVec 32 := 1#32
  ⟨c0_i32_3, v7, c1_i32⟩
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x256 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x100 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x100 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x128 : Shape := ⟨2, ![4096, 128]⟩
abbrev S100000x128 : Shape := ⟨2, ![100000, 128]⟩
abbrev S128x100000 : Shape := ⟨2, ![128, 100000]⟩
abbrev S4096x100000 : Shape := ⟨2, ![4096, 100000]⟩
abbrev S4096x100 : Shape := ⟨2, ![4096, 100]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S100000x128, .f32⟩
  | .hbm, ⟨2, _⟩ => ⟨S128x100000, .f32⟩
  | .hbm, ⟨3, _⟩ => ⟨S4096x100000, .f32⟩
  | .hbm, ⟨4, _⟩ => ⟨S4096x100, .f32⟩
  | .hbm, ⟨5, _⟩ => ⟨S4096x100, .i32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_values : Ref sig .tc := ⟨.hbm, 4, rfl⟩
abbrev main_indices : Ref sig .tc := ⟨.hbm, 5, rfl⟩

abbrev nD : Nat := 1
abbrev τ : Topo := Topo.v7x

variable {F : FTy → Type} [FloatOps F]
-- ==== Proof.Own.lean ====
/-
  Holding part of a buffer with KNOWN contents, stated on a memref's own indices: `Own c m S v` is the outright
  ownership of the elements under the indices `S` of the memref `m`, whose contents there are `v`. The rules below
  take one load, store, indexed load or indexed store at the head of a program and say what happens to `v`.
-/
module

public import Idealize.ShloMosaic.Lib.SparseCore.Ops
public import Idealize.ShloMosaic.Lib.SparseCore.Stream
public import Idealize.ShloMosaic.Lib.Tactic

@[expose] public section

noncomputable section

namespace Cert.Sel

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name]
variable {U : Type} [URA U] {Lvl : Type} [Preorder Lvl] {Λ : Labels}

local notation "𝕄" => MT nD τ sig Ix (Elt F) Name U Lvl

section Gen

variable {sp : Space} {s t : Shape} {e : EltTy} {α : Type}

/-- The elements of `m` under `S`, owned outright, holding `v` there. -/
def Own (c : Thread nD τ) (m : Memref sig c.2.kind sp s e) (S : Finset s.Idx) (v : s.Idx → Elt F e) : sProp 𝕄 :=
  iprop(∃ f : Buf (Elt F) (m.view.loc c), ⌜∀ x ∈ S, m.view.read (Elt F) f x = v x⌝ ∗ (m.view.loc c ↦[m.view.setOn S]{fullShare} f))

variable {c : Thread nD τ}

theorem Own_congr {m : Memref sig c.2.kind sp s e} {S : Finset s.Idx} {v w : s.Idx → Elt F e} (h : ∀ x ∈ S, v x = w x) :
    (Own c m S v : sProp 𝕄) ⊢ Own c m S w := by
  unfold Own
  iintro ⟨%f, %hf, H⟩
  iexists f
  isplitr
  · ipureintro; exact fun x hx => (hf x hx).trans (h x hx)
  · iexact H

theorem emb_mem (r : Rect s) (y : r.shape.Idx) : r.emb y ∈ r.set := by
  rw [← Rect.map_emb_univ]; exact Finset.mem_map_of_mem _ (Finset.mem_univ y)

theorem exists_of_mem (r : Rect s) {x : s.Idx} (h : x ∈ r.set) : ∃ y, r.emb y = x := by
  rw [← Rect.map_emb_univ] at h
  obtain ⟨y, -, e⟩ := Finset.mem_map.mp h
  exact ⟨y, e⟩

/-- Contents `v` overwritten by `w` on a rectangle. -/
def upd (r : Rect s) (v : s.Idx → Elt F e) (w : r.shape.Idx → Elt F e) : s.Idx → Elt F e :=
  fun x => match preimage? r.emb x with
    | some y => w y
    | none => v x

theorem upd_emb (r : Rect s) (v : s.Idx → Elt F e) (w : r.shape.Idx → Elt F e) (y : r.shape.Idx) : upd r v w (r.emb y) = w y := by
  simp [upd, preimage?_emb]

theorem upd_off (r : Rect s) (v : s.Idx → Elt F e) (w : r.shape.Idx → Elt F e) (x : s.Idx) (h : x ∉ r.set) : upd r v w x = v x := by
  have hn : preimage? r.emb x = none := preimage?_eq_none fun y hy => h (hy ▸ emb_mem r y)
  simp [upd, hn]

variable {defs : Defs nD τ sig (Elt F) Λ} {𝒱 : Variants} {bd : Option 𝒱.V}
variable {Q : α → sProp (MT nD τ sig Ix (Elt F) Name U Lvl)}

/-- A load of a rectangle of what is owned. -/
theorem own_load {sp : CoreSpace} {m : Memref sig c.2.kind sp s e} {S : Finset s.Idx} {v : s.Idx → Elt F e} {r : Rect s} {hl : m.view.LoadsAt r}
    {k : (r.shape.Idx → Elt F e) → Prog (TpuEff nD τ sig (Elt F) Λ c.2) α} {R : sProp 𝕄} (hS : r.set ⊆ S)
    (hk : iprop(Own c m S v ∗ R) ⊢ wp frame (wpE defs 𝒱 c bd) Set.univ (k (fun y => v (r.emb y))) Q) :
    iprop(Own c m S v ∗ R) ⊢ wp frame (wpE defs 𝒱 c bd) Set.univ (.op (.load m r hl) k) Q := by
  have hset : (m.access r).set ⊆ m.view.setOn S := by
    rw [View.set_slice]; exact Finset.map_subset_map.mpr hS
  · iintro ⟨HO, HR⟩
    unfold Own
    icases HO with ⟨%f, %hf, H⟩
    have e : (m.access r).read (Elt F) f = fun y => v (r.emb y) := funext fun y => hf (r.emb y) (hS (emb_mem r y))
    iapply (wp_load_rect (defs := defs) 𝒱 c bd Set.univ (Q := Q) (k := k) (m := m) (r := r) (hl := hl) hset) $$ H
    iintro H
    rw [e]
    iapply hk
    isplitl [H]
    · unfold Own; iexists f
      isplitr; · ipureintro; exact hf
      iexact H
    · iexact HR

/-- A store of a rectangle of what is owned. -/
theorem own_store {sp : CoreSpace} {m : Memref sig c.2.kind sp s e} {S : Finset s.Idx} {v : s.Idx → Elt F e} {r : Rect s}
    {w : r.shape.Idx → Elt F e} {hx : (m.access r).Stores Finset.univ} {hm : Finset.univ = Finset.univ ∨ ∀ a, r.stride a = 1}
    {k : PUnit → Prog (TpuEff nD τ sig (Elt F) Λ c.2) α} {R : sProp 𝕄} (hS : r.set ⊆ S)
    (hk : iprop(Own c m S (upd r v w) ∗ R) ⊢ wp frame (wpE defs 𝒱 c bd) Set.univ (k ⟨⟩) Q) :
    iprop(Own c m S v ∗ R) ⊢ wp frame (wpE defs 𝒱 c bd) Set.univ (.op (.store m r w Finset.univ hx hm) k) Q := by
  have hset : (m.access r).setOn Finset.univ ⊆ m.view.setOn S := by
    rw [View.setOn_univ, View.set_slice]; exact Finset.map_subset_map.mpr hS
  · iintro ⟨HO, HR⟩
    unfold Own
    icases HO with ⟨%f, %hf, H⟩
    have e : ∀ x ∈ S, m.view.read (Elt F) ((m.access r).write (Elt F) f w Finset.univ) x = upd r v w x := by
      intro x hxS
      by_cases hx : x ∈ r.set
      · obtain ⟨y, rfl⟩ := exists_of_mem r hx
        rw [upd_emb]
        exact congrFun (View.read_write_univ (v := m.access r) (Val := Elt F) f w) y
      · rw [upd_off _ _ _ _ hx, ← hf x hxS, View.read_apply, View.read_apply, View.write_of_not_mem]
        rw [View.setOn_univ, View.set_slice]
        intro h
        obtain ⟨y, hy, h⟩ := Finset.mem_map.mp h
        exact hx (m.view.emb.injective h ▸ hy)
    iapply (wp_store (defs := defs) 𝒱 c bd Set.univ (Q := Q) (k := k) (m := m) (r := r) (w := w) (Mk := Finset.univ) (hx := hx) (hm := hm) hset) $$ H
    iintro H
    iapply hk
    isplitl [H]
    · unfold Own; iexists _
      isplitr; · ipureintro; exact e
      iexact H
    · iexact HR

/-- An indexed load out of a buffer owned whole. -/
theorem own_loadIdx {m : Memref sig c.2.kind .vmem s e} {v : s.Idx → Elt F e} {idxs : Fin s.rank → IVec t 32}
    {h : ∀ a x, (idxs a x).toNat < s.size a} {hl : m.view.Loads} {k : Vec F t e → Prog (TpuEff nD τ sig (Elt F) Λ c.2) α} {R : sProp 𝕄}
    (hk : iprop(Own c m Finset.univ v ∗ R) ⊢ wp frame (wpE defs 𝒱 c bd) Set.univ (k (loadIdx v idxs h)) Q) :
    iprop(Own c m Finset.univ v ∗ R) ⊢ wp frame (wpE defs 𝒱 c bd) Set.univ (SparseCore.vectorLoadIdx m idxs h hl >>= k) Q := by
  rw [SparseCore.vectorLoadIdx_bind]
  have e : (fun y => v ((Rect.whole s).emb y)) = v := funext fun y => congrArg v (Rect.emb_whole_apply s y)
  refine own_load (r := Rect.whole s) (k := fun f => k (loadIdx f idxs h)) (Finset.subset_univ _) ?_
  rw [e]; exact hk

/-- `own_load` with the rest of the program's needs as a wand. -/
theorem own_load' {sp : CoreSpace} {m : Memref sig c.2.kind sp s e} {S : Finset s.Idx} {v : s.Idx → Elt F e} {r : Rect s} {hl : m.view.LoadsAt r}
    {k : (r.shape.Idx → Elt F e) → Prog (TpuEff nD τ sig (Elt F) Λ c.2) α} (hS : r.set ⊆ S) :
    (Own c m S v : sProp 𝕄) ⊢ iprop((Own c m S v -∗ wp frame (wpE defs 𝒱 c bd) Set.univ (k (fun y => v (r.emb y))) Q)
      -∗ wp frame (wpE defs 𝒱 c bd) Set.univ (.op (.load m r hl) k) Q) := by
  iintro HO Hk
  iapply (own_load (defs := defs) (𝒱 := 𝒱) (bd := bd) (Q := Q) (k := k) (hl := hl) (v := v) hS
    (R := iprop(Own c m S v -∗ wp frame (wpE defs 𝒱 c bd) Set.univ (k (fun y => v (r.emb y))) Q)) ?_)
  · iintro ⟨HO, Hk⟩; iapply Hk; iexact HO
  · isplitl [HO] <;> iassumption

theorem own_store' {sp : CoreSpace} {m : Memref sig c.2.kind sp s e} {S : Finset s.Idx} {v : s.Idx → Elt F e} {r : Rect s}
    {w : r.shape.Idx → Elt F e} {hx : (m.access r).Stores Finset.univ} {hm : Finset.univ = Finset.univ ∨ ∀ a, r.stride a = 1}
    {k : PUnit → Prog (TpuEff nD τ sig (Elt F) Λ c.2) α} (hS : r.set ⊆ S) :
    (Own c m S v : sProp 𝕄) ⊢ iprop((Own c m S (upd r v w) -∗ wp frame (wpE defs 𝒱 c bd) Set.univ (k ⟨⟩) Q)
      -∗ wp frame (wpE defs 𝒱 c bd) Set.univ (.op (.store m r w Finset.univ hx hm) k) Q) := by
  iintro HO Hk
  iapply (own_store (defs := defs) (𝒱 := 𝒱) (bd := bd) (Q := Q) (k := k) (hx := hx) (hm := hm) (v := v) (w := w) hS
    (R := iprop(Own c m S (upd r v w) -∗ wp frame (wpE defs 𝒱 c bd) Set.univ (k ⟨⟩) Q)) ?_)
  · iintro ⟨HO, Hk⟩; iapply Hk; iexact HO
  · isplitl [HO] <;> iassumption

theorem own_loadIdx' {m : Memref sig c.2.kind .vmem s e} {v : s.Idx → Elt F e} {idxs : Fin s.rank → IVec t 32}
    {h : ∀ a x, (idxs a x).toNat < s.size a} {hl : m.view.Loads} {k : Vec F t e → Prog (TpuEff nD τ sig (Elt F) Λ c.2) α} :
    (Own c m Finset.univ v : sProp 𝕄) ⊢ iprop((Own c m Finset.univ v -∗ wp frame (wpE defs 𝒱 c bd) Set.univ (k (loadIdx v idxs h)) Q)
      -∗ wp frame (wpE defs 𝒱 c bd) Set.univ (SparseCore.vectorLoadIdx m idxs h hl >>= k) Q) := by
  iintro HO Hk
  iapply (own_loadIdx (defs := defs) (𝒱 := 𝒱) (bd := bd) (Q := Q) (k := k) (hl := hl) (v := v) (h := h)
    (R := iprop(Own c m Finset.univ v -∗ wp frame (wpE defs 𝒱 c bd) Set.univ (k (loadIdx v idxs h)) Q)) ?_)
  · iintro ⟨HO, Hk⟩; iapply Hk; iexact HO
  · isplitl [HO] <;> iassumption

theorem upd_whole (v w : s.Idx → Elt F e) : upd (Rect.whole s) v w = w := by
  funext x
  exact (congrArg _ (Rect.emb_whole_apply s x).symm).trans (upd_emb (Rect.whole s) v w x)

/-- A store at indices into a buffer owned whole. -/
theorem own_storeIdx' {d : Fin 1 → Nat} {m : Memref sig c.2.kind .vmem s e} {v : s.Idx → Elt F e} {idxs : Fin s.rank → IVec ⟨1, d⟩ 32} {w : Vec F ⟨1, d⟩ e}
    {mask : IVec ⟨1, d⟩ 1} {add : Bool} {h : ∀ a x, (idxs a x).toNat < s.size a} {hs : (m.access (.whole s)).Stores Finset.univ}
    {k : PUnit → Prog (TpuEff nD τ sig (Elt F) Λ c.2) α} :
    (Own c m Finset.univ v : sProp 𝕄) ⊢ iprop((Own c m Finset.univ (storeIdx v idxs w mask add h) -∗ wp frame (wpE defs 𝒱 c bd) Set.univ (k ⟨⟩) Q)
      -∗ wp frame (wpE defs 𝒱 c bd) Set.univ (SparseCore.vectorStoreIdx m idxs w mask add h hs >>= k) Q) := by
  rw [SparseCore.vectorStoreIdx_bind]
  have e : (fun y => v ((Rect.whole s).emb y)) = v := funext fun y => congrArg v (Rect.emb_whole_apply s y)
  iintro HO Hk
  iapply (own_load' (defs := defs) (𝒱 := 𝒱) (bd := bd) (Q := Q) (r := Rect.whole s) (v := v) (Finset.subset_univ _)) $$ HO
  iintro HO
  rw [e]
  iapply (own_store' (defs := defs) (𝒱 := 𝒱) (bd := bd) (Q := Q) (r := Rect.whole s) (v := v) (Finset.subset_univ _)) $$ HO
  rw [upd_whole]
  iexact Hk

variable {m : Memref sig c.2.kind sp s e}

/-- Part of what is owned, and the rest. -/
theorem Own_split {S T : Finset s.Idx} (hT : T ⊆ S) {v : s.Idx → Elt F e} :
    (Own c m S v : sProp 𝕄) ⊢ iprop(Own c m T v ∗ Own c m (S \ T) v) := by
  have hset : m.view.setOn T ⊆ m.view.setOn S := Finset.map_subset_map.mpr hT
  have hs : m.view.setOn S \ m.view.setOn T = m.view.setOn (S \ T) := (Finset.map_sdiff _ _).symm
  unfold Own
  iintro ⟨%f, %hf, H⟩
  ihave H' := (pointsTo_split_subset hset).1 $$ H
  icases H' with ⟨H1, H2⟩
  isplitl [H1]
  · iexists f; isplitr; · ipureintro; exact fun x hx => hf x (hT hx)
    iexact H1
  · iexists f; isplitr; · ipureintro; exact fun x hx => hf x (Finset.sdiff_subset hx)
    rw [← hs]; iexact H2

theorem Own_join {S T : Finset s.Idx} (hT : T ⊆ S) {v w u : s.Idx → Elt F e} (h1 : ∀ x ∈ T, w x = u x) (h2 : ∀ x ∈ S, x ∉ T → v x = u x) :
    iprop(Own c m T w ∗ Own c m (S \ T) v) ⊢ (Own c m S u : sProp 𝕄) := by
  have hset : m.view.setOn T ⊆ m.view.setOn S := Finset.map_subset_map.mpr hT
  have hs : m.view.setOn S \ m.view.setOn T = m.view.setOn (S \ T) := (Finset.map_sdiff _ _).symm
  unfold Own
  rw [← hs]
  iintro ⟨⟨%g, %hg, H1⟩, ⟨%f, %hf, H2⟩⟩
  ihave H := (pointsTo_join_subset (ℓ := m.view.loc c) (q := fullShare) (g := g) (f := f) hset) $$ [H1 H2]
  · isplitl [H1] <;> iassumption
  iexists _
  isplitr
  swap; · iexact H
  ipureintro
  intro x hx
  rw [View.read_apply]
  by_cases hxT : x ∈ T
  · rw [Finset.piecewise_eq_of_mem _ _ _ ((View.mem_setOn _).mpr hxT), ← View.read_apply, hg x hxT, h1 x hxT]
  · rw [Finset.piecewise_eq_of_notMem _ _ _ (fun h => hxT ((View.mem_setOn _).mp h)), ← View.read_apply, hf x (Finset.mem_sdiff.mpr ⟨hx, hxT⟩), h2 x hx hxT]

/-- Where an index of a row cut out and squeezed lies. -/
abbrev sqIx (r : Rect s) (s' : Shape) (h : s'.numel = r.shape.numel) (y : s'.Idx) : s.Idx := r.emb (Shape.reshapeEquiv h y)

/-- A row of what is owned, as the row's own memref. -/
theorem Own_sq {r : Rect s} {hr : ∀ a, r.stride a = 1} {s' : Shape} {h : r.shape.Squeezes s'} {v : s.Idx → Elt F e} :
    (Own c m r.set v : sProp 𝕄) ⊢ Own c ((m.slice r hr).squeeze s' h) Finset.univ (fun y => v (sqIx r s' h.numel_eq y)) := by
  have hs : ((m.slice r hr).squeeze s' h).view.setOn Finset.univ = m.view.setOn r.set := by
    rw [View.setOn_univ]
    exact (View.set_reshape (v := m.view.slice r) _).trans (View.set_slice _ _)
  unfold Own
  iintro ⟨%f, %hf, H⟩
  iexists f
  isplitr
  · ipureintro; exact fun y _ => hf (sqIx r s' h.numel_eq y) (emb_mem r _)
  · rw [hs]; iexact H

theorem Own_unsq {r : Rect s} {hr : ∀ a, r.stride a = 1} {s' : Shape} {h : r.shape.Squeezes s'} {v : s.Idx → Elt F e} {w : s'.Idx → Elt F e}
    (hw : ∀ y, v (sqIx r s' h.numel_eq y) = w y) :
    (Own c ((m.slice r hr).squeeze s' h) Finset.univ w : sProp 𝕄) ⊢ Own c m r.set v := by
  have hs : ((m.slice r hr).squeeze s' h).view.setOn Finset.univ = m.view.setOn r.set := by
    rw [View.setOn_univ]
    exact (View.set_reshape (v := m.view.slice r) _).trans (View.set_slice _ _)
  unfold Own
  iintro ⟨%f, %hf, H⟩
  iexists f
  isplitr
  · ipureintro; intro x hx
    obtain ⟨y, rfl⟩ := exists_of_mem r hx
    obtain ⟨z, rfl⟩ := (Shape.reshapeEquiv h.numel_eq).surjective y
    exact (hf z (Finset.mem_univ _)).trans (hw z).symm
  · rw [← hs]; iexact H

end Gen

end Cert.Sel
-- ==== Proof.Segs.lean ====
/-
  The subcore's program, cut into the stretches it repeats. The sixteen rows of a group are written out one after
  another in the program; each row's text is the same up to the row number `j` and the number `p` of the ring slot it
  uses. The definitions below are those stretches as functions of `j` and `p`, each taking the rest of the program as an
  argument; a stretch of the program is one of them by unfolding alone.
-/
module

public import proofs.«01_k».proof.Defs
public import proofs.«01_k».proof.Proof.Own
public import Idealize.ShloMosaic.Lib.SparseCore.Quiescent
public import proofs.«01_k».proof.Proof.Gen.KernelIdeal
public import proofs.«01_k».proof.Proof.Gen.KernelIdeal.Skeleton

@[expose] public section

noncomputable section

namespace Cert.Sel

open Cert.KernelIdeal Cert.KernelIdeal.Gen
open Idealize.ShloMosaic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The buffers the subcore's program is given -/

abbrev A2 : Memref sig .scVector .hbm S3211264x128 .f32 := Memref.whole main_v5_scv
abbrev A3 : Memref sig .scVector .hbm S4096x784 .f32 := Memref.whole main_v3_scv
abbrev A4 : Memref sig .scVector .hbm S4096 .f32 := Memref.whole main_v4_scv
abbrev A5 : Memref sig .scVector .hbm S4096x256 .f32 := Memref.whole main_v6_0_scv
abbrev A6 : Memref sig .scVector .hbm S4096x256 .i32 := Memref.whole main_v6_1_scv
abbrev A7 : Memref sig .scVector .vmem S16x784 .f32 := Memref.whole cc2_scratch0
abbrev A8 : Memref sig .scVector .vmem S4x128 .i32 := Memref.whole cc2_scratch1
abbrev A9 : Memref sig .scVector .vmem S4x128 .i32 := Memref.whole cc2_scratch2
abbrev A10 : Memref sig .scVector .vmem S4x128x128 .f32 := Memref.whole cc2_scratch3
abbrev A11 : Memref sig .scVector .vmem S16x256 .f32 := Memref.whole cc2_scratch4
abbrev A12 : Memref sig .scVector .vmem S16x256 .i32 := Memref.whole cc2_scratch5
abbrev A13 : Memref sig .scVector .vmem S512 .f32 := Memref.whole cc2_scratch6
abbrev A14 : Memref sig .scVector .vmem S512 .i32 := Memref.whole cc2_scratch7
abbrev A15 : Memref sig .scVector .vmem S128 .f32 := Memref.whole cc2_scratch8

abbrev PR (i : grid2.Coords) (α : Type) : Type 1 := Prog (TpuEff nD τ sig (Elt F) Λ₀ (.scVector ((i 0).castLE hcore2) ((i 1).castLE hsub2))) α

/-- The body of the loop over groups of sixteen rows, at the kernel's own buffers. -/
abbrev body1 (i : grid2.Coords) (v2 : BitVec 32) (v3 : IVec S16 32) (k : Fin k2_t1_loop.trips) (u : Unit) : PR (F := F) i Unit :=
  k2_t1_body i A2 (Memref.isWhole_whole _) A3 (Memref.isWhole_whole _) A4 (Memref.isWhole_whole _) A5 (Memref.isWhole_whole _)
    A6 (Memref.isWhole_whole _) A7 (Memref.isWhole_whole _) A8 (Memref.isWhole_whole _) A9 (Memref.isWhole_whole _)
    A10 (Memref.isWhole_whole _) A11 (Memref.isWhole_whole _) A12 (Memref.isWhole_whole _) A13 (Memref.isWhole_whole _)
    A14 (Memref.isWhole_whole _) A15 (Memref.isWhole_whole _) cc2_scratch9 cc2_scratch10 cc2_scratch11 cc2_scratch12 cc2_scoped0 cc2_scoped1 cc2_scoped2 cc2_scoped3 v2 v3 k u

variable {i : grid2.Coords} {α : Type}

/-! ## The vectors computed from what is loaded -/

/-- The number of the row within the subcore's 128: `16 g + j`. -/
abbrev row (g : BitVec 32) (j : Nat) : BitVec 32 := Scalar.addi (Scalar.muli g 16#32) (BitVec.ofNat 32 j)
/-- The group's number. -/
abbrev g1 (k : Fin k2_t1_loop.trips) : BitVec 32 := Scf.iv 0#32 1#32 k
/-- The lanes' numbers. -/
abbrev lanes : IVec S16 32 := iota .scVector S16 32 [0] iota_S16_d0_w32_scVector
abbrev zero16 : IVec S16 32 := broadcast S16 0#32
/-- The constant standing for minus infinity. -/
abbrev neg : F .f32 := Scalar.ofBits .f32 0xFF61B1E6#32
abbrev neg16 : FVec F S16 .f32 := broadcast S16 neg

/-- The threshold of a row, on every lane. -/
abbrev tvec (f : Vec F S128 .f32) (r : BitVec 32) (h : ∀ a x, ((![broadcast S16 r] : Fin 1 → IVec S16 32) a x).toNat < S128.size a) : Vec F S16 .f32 :=
  loadIdx f (![broadcast S16 r] : Fin 1 → IVec S16 32) h

/-- A mask as zeros and ones. -/
abbrev mi (msk : IVec S16 1) : IVec S16 32 := extui 32 msk natLt_1_32
/-- Where each lane of a mask goes, appended at `ptr` and held at or below `cap`. -/
abbrev cidx (cap : BitVec 32) (ptr : IVec S16 32) (msk : IVec S16 1) : IVec S16 32 :=
  minsi (addi ptr (subi (scan .sum (mi msk)) (mi msk))) (broadcast S16 cap)
/-- `ptr` advanced by the number of lanes set. -/
abbrev cnext (ptr : IVec S16 32) (msk : IVec S16 1) : IVec S16 32 :=
  addi ptr (broadcast S16 (extractAt ![15] (scan .sum (mi msk)) inpos_S16_p15))

/-- The signed maximum over the lanes, as the program takes it. -/
abbrev lmax (p : IVec S16 32) : BitVec 32 :=
  extractAt ![15] (xori (scan .max (xori p (broadcast S16 2147483648#32))) (broadcast S16 2147483648#32) : IVec S16 32) inpos_S16_p15

/-! ## The stretches -/

theorem inb8 {p x : Nat} (hp : p < 4) (hx : x < 8) : ∀ a, ![p, 16 * x] a + S1x16.size a ≤ S4x128.size a := by
  intro a
  match a with
  | 0 => simp [S1x16, S4x128]; omega
  | 1 => simp [S1x16, S4x128]; omega
theorem inbRow {p : Nat} (hp : p < 4) : ∀ a, ![p, 0] a + S1x128.size a ≤ S4x128.size a := by
  intro a
  match a with
  | 0 => simp [S1x128, S4x128]; omega
  | 1 => simp [S1x128, S4x128]
theorem inbRow3 {p : Nat} (hp : p < 4) : ∀ a, ![p, 0, 0] a + S1x128x128.size a ≤ S4x128x128.size a := by
  intro a
  match a with
  | 0 => simp [S1x128x128, S4x128x128]; omega
  | 1 => simp [S1x128x128, S4x128x128]
  | 2 => simp [S1x128x128, S4x128x128]
theorem inb512 {x : Nat} (hx : x < 32) : ∀ a, ![16 * x] a + S16.size a ≤ S512.size a := by
  intro a
  match a with
  | 0 => simp [S16, S512]; omega
theorem inb256 {j x : Nat} (hj : j < 16) (hx : x < 16) : ∀ a, ![j, 16 * x] a + S1x16.size a ≤ S16x256.size a := by
  intro a
  match a with
  | 0 => simp [S1x16, S16x256]; omega
  | 1 => simp [S1x16, S16x256]; omega

abbrev r8 (p x : Nat) (hp : p < 4) (hx : x < 8) : Rect S4x128 := Rect.unit (s := S4x128) ![p, 16 * x] S1x16.size (inb8 hp hx)
abbrev rRow (p : Nat) (hp : p < 4) : Rect S4x128 := Rect.unit (s := S4x128) ![p, 0] S1x128.size (inbRow hp)
abbrev rRow3 (p : Nat) (hp : p < 4) : Rect S4x128x128 := Rect.unit (s := S4x128x128) ![p, 0, 0] S1x128x128.size (inbRow3 hp)
abbrev r512 (x : Nat) (hx : x < 32) : Rect S512 := Rect.unit (s := S512) ![16 * x] S16.size (inb512 hx)
abbrev r256 (j x : Nat) (hj : j < 16) (hx : x < 16) : Rect S16x256 := Rect.unit (s := S16x256) ![j, 16 * x] S1x16.size (inb256 hj hx)

/-- Row `p` of the block list, of the index list and of the gathered rows. -/
abbrev A8r (p : Nat) (hp : p < 4) : Memref sig .scVector .vmem S128 .i32 := (A8.slice (rRow p hp) (fun _ => rfl)).squeeze S128 squeezes_S1x128_S128
abbrev A9r (p : Nat) (hp : p < 4) : Memref sig .scVector .vmem S128 .i32 := (A9.slice (rRow p hp) (fun _ => rfl)).squeeze S128 squeezes_S1x128_S128
abbrev A10r (p : Nat) (hp : p < 4) : Memref sig .scVector .vmem S128x128 .f32 := (A10.slice (rRow3 p hp) (fun _ => rfl)).squeeze S128x128 squeezes_S1x128x128_S128x128
abbrev A2w : Memref sig .scVector .hbm S3211264x128 .f32 := A2.slice (Rect.unit (s := S3211264x128) ![0, 0] S3211264x128.size inb_S3211264x128_S3211264x128_0_0) (fun _ => rfl)

/-- Eight stores filling row `p` of the block list with 783. -/
def fill8 (p : Nat) (hp : p < 4) (K : PUnit → PR (F := F) i α) : (fuel x : Nat) → x + fuel ≤ 8 → PUnit → PR (F := F) i α
  | 0, _, _, u => K u
  | fuel + 1, x, hx, _ =>
    .op (.load A8 (r8 p x hp (by omega)).toLoadRect (View.loadsAt_vmem h_S1x16)) fun _ =>
    .op (.store A8 (r8 p x hp (by omega)) (shapeCast S1x16 (broadcast S16 783#32 : IVec S16 32) shapeCasts_S16_S1x16) Finset.univ (View.stores_vmem_bits_univ h_S1x16 rfl) (.inl rfl))
    (fill8 p hp K fuel (x + 1) (by omega))

/-- The row's threshold read, and its block list filled. -/
def segA (p : Nat) (hp : p < 4) (P : Prop) (d : Decidable P) (K : PLift P → Vec F S128 .f32 → PUnit → PR (F := F) i α) : PR (F := F) i α :=
  .op (.assume P d) fun hw =>
  .op (.load A15 (.whole S128) (View.loadsAt_whole (View.loads_vmem h_S128))) fun f =>
  fill8 p hp (K hw f) 8 0 (by omega) ⟨⟩

/-- The group's rows of block maxima fetched. -/
def segI (k : Fin k2_t1_loop.trips) (K : PUnit → PR (F := F) i α) : PR (F := F) i α :=
  .op (.enqueueDma (A3.slice (Rect.unit (s := S4096x784) (k2_off2 i k) S16x784.size (k2_off2_inb i k)) (fun _ => rfl)) (.here A7) (.dma cc2_scoped1.sem) (View.wordExact_bits rfl) (Memref.isWhole_whole _).wordExact ⟨Or.inl rfl, trivial⟩) fun _ =>
  .op (.waitDma2 cc2_scoped1.sem (A3.slice (Rect.unit (s := S4096x784) (k2_off2 i k) S16x784.size (k2_off2_inb i k)) (fun _ => rfl)) A7 (View.wordExact_bits rfl) (Memref.isWhole_whole _).wordExact) K

/-- The block list made absolute: eight stores to row `p` of the index list. -/
def abs8 (p : Nat) (hp : p < 4) (base : BitVec 32) (K : PUnit → PR (F := F) i α) : (fuel x : Nat) → x + fuel ≤ 8 → PUnit → PR (F := F) i α
  | 0, _, _, u => K u
  | fuel + 1, x, hx, _ =>
    .op (.load A8 (r8 p x hp (by omega)).toLoadRect (View.loadsAt_vmem h_S1x16)) fun ld =>
    .op (.load A9 (r8 p x hp (by omega)).toLoadRect (View.loadsAt_vmem h_S1x16)) fun _ =>
    .op (.store A9 (r8 p x hp (by omega)) (shapeCast S1x16 (addi (shapeCast S16 ld shapeCasts_S1x16_S16) (broadcast S16 base) : IVec S16 32) shapeCasts_S16_S1x16) Finset.univ (View.stores_vmem_bits_univ h_S1x16 rfl) (.inl rfl))
    (abs8 p hp base K fuel (x + 1) (by omega))

/-- The gather into row `p` of the gathered rows of the rows listed in row `p` of the index list, as one step. -/
abbrev gather {κ : Proc τ} (hp' : κ.kind = .scVector) (A2w : Memref sig κ.kind .hbm S3211264x128 .f32) (dst : Memref sig κ.kind .vmem S128x128 .f32) (offs : Memref sig κ.kind .vmem S128 .i32) (sem : DmaSem sig) : TpuEff nD τ sig (Elt F) Λ₀ κ PUnit :=
  .enqueueIndirectDma hp' offs rfl sem fun k w => (SparseCore.rowOf (S3211264x128.size gathers_S3211264x128_S128x128.axis) w).map fun r =>
      { src := A2w, dst := dst.slice (S128x128.rowRect gathers_S3211264x128_S128x128.axis' k) (S128x128.stride_rowRect _ _), via := .row gathers_S3211264x128_S128x128 r,
        hsrc := View.wordExact_bits rfl, hdst := View.wordExact_bits rfl, hsp := .inl ⟨.inl rfl, rfl⟩, hbits := rfl, hrow := gathers_S3211264x128_S128x128.streamRow_rowShape (by decide) }

/-- The index list written and the gather of the listed rows started. -/
def segB (p : Nat) (hp : p < 4) (sem : DmaSem sig) (base : BitVec 32) (P : Prop) (d : Decidable P) (K : PLift P → PUnit → PR (F := F) i α) : PR (F := F) i α :=
  abs8 p hp base (fun _ =>
  .op (.assume P d) fun hw =>
  .op (gather rfl A2w (A10r p hp) (A9r p hp) sem) (K hw)) 8 0 (by omega) ⟨⟩

/-- The staging buffer filled with the constant. -/
def fill32 (K : PUnit → PR (F := F) i α) : (fuel x : Nat) → x + fuel ≤ 32 → PUnit → PR (F := F) i α
  | 0, _, _, u => K u
  | fuel + 1, x, hx, _ =>
    .op (.load A13 (r512 x (by omega)).toLoadRect (View.loadsAt_vmem h_S16)) fun _ =>
    .op (.store A13 (r512 x (by omega)) (neg16 : FVec F S16 .f32) Finset.univ (View.stores_vmem_bits_univ h_S16 rfl) (.inl rfl))
    (fill32 K fuel (x + 1) (by omega))

/-- The gather awaited, the row's threshold read, and the staging buffer filled. -/
def segC (p : Nat) (hp : p < 4) (sem : DmaSem sig) (P : Prop) (d : Decidable P) (K : PLift P → Vec F S128 .f32 → PUnit → PR (F := F) i α) : PR (F := F) i α :=
  .op (.waitDma2 sem A2w (A10r p hp) (View.wordExact_bits rfl) ((View.wordExact_bits rfl).reshape _ _)) fun _ =>
  .op (.assume P d) fun hw =>
  .op (.load A15 (.whole S128) (View.loadsAt_whole (View.loads_vmem h_S128))) fun f =>
  fill32 (K hw f) 32 0 (by omega) ⟨⟩

/-- Row `j` of the result's values filled with the constant. -/
def fill16 (j : Nat) (hj : j < 16) (K : PUnit → PR (F := F) i α) : (fuel x : Nat) → x + fuel ≤ 16 → PUnit → PR (F := F) i α
  | 0, _, _, u => K u
  | fuel + 1, x, hx, _ =>
    .op (.load A11 (r256 j x hj (by omega)).toLoadRect (View.loadsAt_vmem h_S1x16)) fun _ =>
    .op (.store A11 (r256 j x hj (by omega)) (shapeCast S1x16 (neg16 : FVec F S16 .f32) shapeCasts_S16_S1x16) Finset.univ (View.stores_vmem_bits_univ h_S1x16 rfl) (.inl rfl))
    (fill16 j hj K fuel (x + 1) (by omega))

/-- The group's rows of the result written out. -/
def segOut (k : Fin k2_t1_loop.trips) (K : PUnit → PR (F := F) i α) : PR (F := F) i α :=
  .op (.enqueueDma A11 (.here (A5.slice (Rect.unit (s := S4096x256) (k2_off291 i k) S16x256.size (k2_off291_inb i k)) (fun _ => rfl))) (.dma cc2_scoped2.sem) (Memref.isWhole_whole _).wordExact (View.wordExact_bits rfl) ⟨Or.inl rfl, trivial⟩) fun _ =>
  .op (.waitDma2 cc2_scoped2.sem A11 (A5.slice (Rect.unit (s := S4096x256) (k2_off291 i k) S16x256.size (k2_off291_inb i k)) (fun _ => rfl)) (Memref.isWhole_whole _).wordExact (View.wordExact_bits rfl)) fun _ =>
  .op (.enqueueDma A12 (.here (A6.slice (Rect.unit (s := S4096x256) (k2_off291 i k) S16x256.size (k2_off291_inb i k)) (fun _ => rfl))) (.dma cc2_scoped3.sem) (Memref.isWhole_whole _).wordExact (View.wordExact_bits rfl) ⟨Or.inl rfl, trivial⟩) fun _ =>
  .op (.waitDma2 cc2_scoped3.sem A12 (A6.slice (Rect.unit (s := S4096x256) (k2_off291 i k) S16x256.size (k2_off291_inb i k)) (fun _ => rfl)) (Memref.isWhole_whole _).wordExact (View.wordExact_bits rfl)) K

/-! ## The loops' bodies -/

theorem inb7 {j : Nat} (hj : j < 16) (k : Fin k2_t2_loop.trips) : ∀ a, ![j, 16 * k.val] a + S1x16.size a ≤ S16x784.size a := by
  have h : k.val < 49 := k.isLt
  intro a
  match a with
  | 0 => simp [S1x16, S16x784]; omega
  | 1 => simp [S1x16, S16x784]; omega
/-- Lanes `16 k …` of row `j` of the block maxima, the offset computed as the program computes it. -/
abbrev o7 (j : Nat) (k : Fin k2_t2_loop.trips) : Fin 2 → Nat :=
  ![(Scalar.indexCast (BitVec.ofNat 32 j) : Index).toNat, (Scalar.indexCast (Scalar.muli (Scf.iv 0#32 1#32 k) 16#32) : Index).toNat]

theorem o7_eq {j : Nat} (hj : j < 16) (k : Fin k2_t2_loop.trips) : o7 j k = ![j, 16 * k.val] := by
  have h1 : ∀ k : Fin 49, (Scalar.indexCast (Scalar.muli (Scf.iv 0#32 1#32 k) 16#32) : Index).toNat = 16 * k.val := by decide
  have h0 : ∀ j : Fin 16, (Scalar.indexCast (BitVec.ofNat 32 j.val) : Index).toNat = j.val := by decide
  funext a
  match a with
  | 0 => exact h0 ⟨j, hj⟩
  | 1 => exact h1 k
theorem inb7' {j : Nat} (hj : j < 16) (k : Fin k2_t2_loop.trips) : ∀ a, o7 j k a + S1x16.size a ≤ S16x784.size a := by
  rw [o7_eq hj]; exact inb7 hj k

/-- One step of the scan over the block maxima. -/
def body2 (j p : Nat) (hp : p < 4) (v11 : Vec F S16 .f32) (hin : ∀ k, ∀ a, o7 j k a + S1x16.size a ≤ S16x784.size a) (P : IVec S16 32 → Prop)
    (d : ∀ v, Decidable (P v)) (hP : ∀ v, P v → ∀ a x, ((![v] : Fin 1 → IVec S16 32) a x).toNat < S128.size a)
    (k : Fin k2_t2_loop.trips) (ptr : IVec S16 32) : PR (F := F) i (IVec S16 32) :=
  .op (.load A7 (Rect.unit (s := S16x784) (o7 j k) S1x16.size (hin k)).toLoadRect (View.loadsAt_vmem h_S1x16)) fun ld =>
  .op (.assume (P (cidx 127#32 ptr (cmpf .oge (shapeCast S16 ld shapeCasts_S1x16_S16 : Vec F S16 .f32) v11))) (d _)) fun hw =>
  SparseCore.vectorStoreIdx (A8r p hp) ![cidx 127#32 ptr (cmpf .oge (shapeCast S16 ld shapeCasts_S1x16_S16 : Vec F S16 .f32) v11)]
    (addi lanes (broadcast S16 (Scalar.muli (Scf.iv 0#32 1#32 k) 16#32)) : IVec S16 32) (cmpf .oge (shapeCast S16 ld shapeCasts_S1x16_S16 : Vec F S16 .f32) v11) false
    (hP _ hw.down) (View.stores_vmem_bits_univ h_S128 rfl) >>= fun _ =>
  .ret (cnext ptr (cmpf .oge (shapeCast S16 ld shapeCasts_S1x16_S16 : Vec F S16 .f32) v11))

/-- The offset of sixteen lanes of gathered row `k`, sub-block `o`. -/
abbrev o10 (p o : Nat) (v93 : BitVec 32) (k : Fin (k2_t6_loop v93).trips) : Fin 3 → Nat :=
  ![(Scalar.indexCast (BitVec.ofNat 32 p) : Index).toNat, (Scalar.indexCast (Scf.iv 0#32 1#32 k) : Index).toNat, (BitVec.ofNat 32 (16 * o) : Index).toNat]

/-- Where each lane's next entry goes in the staging buffer: 32 places a lane. -/
abbrev sidx (cnt : IVec S16 32) : IVec S16 32 := minsi (addi (muli lanes (broadcast S16 32#32)) cnt) (broadcast S16 511#32)

/-- The sub-steps `o …` of one step over the gathered rows. -/
def sub8 (p : Nat) (v93 : BitVec 32) (v384 : Vec F S16 .f32) (k : Fin (k2_t6_loop v93).trips) (hin : ∀ o < 8, ∀ a, o10 p o v93 k a + S1x1x16.size a ≤ S4x128x128.size a)
    (blk : IVec S16 32) (P : IVec S16 32 → Prop) (d : ∀ v, Decidable (P v))
    (hP : ∀ v, P v → ∀ a x, ((![v] : Fin 1 → IVec S16 32) a x).toNat < S512.size a) (K : IVec S16 32 → PR (F := F) i α) :
    (fuel o : Nat) → o + fuel ≤ 8 → IVec S16 32 → PR (F := F) i α
  | 0, _, _, cnt => K cnt
  | fuel + 1, o, ho, cnt =>
    .op (.load A10 (Rect.unit (s := S4x128x128) (o10 p o v93 k) S1x1x16.size (hin o (by omega))).toLoadRect (View.loadsAt_vmem h_S1x1x16)) fun ld =>
    .op (.assume (P (sidx cnt)) (d _)) fun hw =>
    SparseCore.vectorStoreIdx A13 ![sidx cnt] (shapeCast S16 ld shapeCasts_S1x1x16_S16 : Vec F S16 .f32) (cmpf .oge (shapeCast S16 ld shapeCasts_S1x1x16_S16 : Vec F S16 .f32) v384) false
      (hP _ hw.down) (View.stores_vmem_bits_univ h_S512 rfl) >>= fun _ =>
    SparseCore.vectorStoreIdx A14 ![sidx cnt] (addi (addi (muli blk (broadcast S16 128#32)) lanes) (broadcast S16 (BitVec.ofNat 32 (16 * o))) : IVec S16 32)
      (cmpf .oge (shapeCast S16 ld shapeCasts_S1x1x16_S16 : Vec F S16 .f32) v384) false (hP _ hw.down) (View.stores_vmem_bits_univ h_S512 rfl) >>= fun _ =>
    sub8 p v93 v384 k hin blk P d hP K fuel (o + 1) (by omega) (addi cnt (mi (cmpf .oge (shapeCast S16 ld shapeCasts_S1x1x16_S16 : Vec F S16 .f32) v384)))

/-- One step over the gathered rows. -/
def body6 (p : Nat) (hp : p < 4) (v93 : BitVec 32) (v384 : Vec F S16 .f32) (P₀ : IVec S16 32 → Prop) (d₀ : ∀ v, Decidable (P₀ v))
    (hP₀ : ∀ v, P₀ v → ∀ a x, ((![v] : Fin 1 → IVec S16 32) a x).toNat < S128.size a)
    (hin : ∀ k, ∀ o < 8, ∀ a, o10 p o v93 k a + S1x1x16.size a ≤ S4x128x128.size a)
    (P : IVec S16 32 → Prop) (d : ∀ v, Decidable (P v))
    (hP : ∀ v, P v → ∀ a x, ((![v] : Fin 1 → IVec S16 32) a x).toNat < S512.size a)
    (k : Fin (k2_t6_loop v93).trips) (cnt : IVec S16 32) : PR (F := F) i (IVec S16 32) :=
  .op (.assume (P₀ (broadcast S16 (Scf.iv 0#32 1#32 k))) (d₀ _)) fun hw =>
  SparseCore.vectorLoadIdx (A8r p hp) ![broadcast S16 (Scf.iv 0#32 1#32 k)] (hP₀ _ hw.down) (View.loads_vmem h_S128) >>= fun blk =>
  sub8 p v93 v384 k (hin k) blk P d hP .ret 8 0 (by omega) cnt

/-- One step of the compaction of the staging buffer into row `j` of the result. -/
def body8 (v506 : IVec S16 32) (P : IVec S16 32 → Prop) (d : ∀ v, Decidable (P v))
    (hP : ∀ v, P v → ∀ a x, ((![v506, v] : Fin 2 → IVec S16 32) a x).toNat < S16x256.size a)
    (k : Fin k2_t8_loop.trips) (ptr : IVec S16 32) : PR (F := F) i (IVec S16 32) :=
  .op (.load A13 (Rect.unit (s := S512) (k2_off23 k) S16.size (k2_off23_inb k)).toLoadRect (View.loadsAt_vmem h_S16)) fun ld =>
  .op (.load A14 (Rect.unit (s := S512) (k2_off23 k) S16.size (k2_off23_inb k)).toLoadRect (View.loadsAt_vmem h_S16)) fun li =>
  .op (.assume (P (cidx 255#32 ptr (xori (cmpf .oeq (ld : Vec F S16 .f32) neg16) (constantI S16 1 1#1)))) (d _)) fun hw =>
  SparseCore.vectorStoreIdx A11 ![v506, cidx 255#32 ptr (xori (cmpf .oeq (ld : Vec F S16 .f32) neg16) (constantI S16 1 1#1))] ld
    (xori (cmpf .oeq (ld : Vec F S16 .f32) neg16) (constantI S16 1 1#1)) false (hP _ hw.down) (View.stores_vmem_bits_univ h_S16x256 rfl) >>= fun _ =>
  SparseCore.vectorStoreIdx A12 ![v506, cidx 255#32 ptr (xori (cmpf .oeq (ld : Vec F S16 .f32) neg16) (constantI S16 1 1#1))] li
    (xori (cmpf .oeq (ld : Vec F S16 .f32) neg16) (constantI S16 1 1#1)) false (hP _ hw.down) (View.stores_vmem_bits_univ h_S16x256 rfl) >>= fun _ =>
  .ret (cnext ptr (xori (cmpf .oeq (ld : Vec F S16 .f32) neg16) (constantI S16 1 1#1)))

end Cert.Sel
-- ==== Proof.Scan.lean ====
/-
  The running counts of a sixteen-lane mask and the scattered store, in numbers: where each set lane goes when the hits
  are appended at a pointer, and what each place holds after a masked store.
-/
module

public import proofs.«01_k».proof.Proof.Segs

@[expose] public section

noncomputable section

namespace Cert.Sel

open Cert.KernelIdeal Cert.KernelIdeal.Gen
open Idealize.ShloMosaic

variable {F : FTy → Type} [FloatOps F]

/-! ## The scattered store -/

section Store

variable {s : Shape} {e : EltTy} {d : Fin 1 → Nat} (idxs : Fin s.rank → IVec ⟨1, d⟩ 32) (v : Vec F ⟨1, d⟩ e) (mask : IVec ⟨1, d⟩ 1)
  (h : ∀ a x, (idxs a x).toNat < s.size a)

/-- Lane `k` writes place `j`. -/
def hits (j : s.Idx) (k : Fin (d 0)) : Prop := mask (Shape.ofLane k) = 1 ∧ ∀ a, (j a).val = (idxs a (Shape.ofLane k)).toNat

abbrev stepS (g : Vec F s e) (k : Fin (d 0)) : Vec F s e :=
  if mask (Shape.ofLane k) = 1 then fun j => if (∀ a, (j a).val = (idxAt idxs h (Shape.ofLane k) a).val) then v (Shape.ofLane k) else g j else g

theorem stepS_hit {g : Vec F s e} {k : Fin (d 0)} {j : s.Idx} (hk : hits idxs mask j k) : stepS idxs v mask h g k j = v (Shape.ofLane k) := by
  unfold stepS
  rw [if_pos hk.1, if_pos (show ∀ a, (j a).val = (idxAt idxs h (Shape.ofLane k) a).val from fun a => hk.2 a)]
theorem stepS_miss {g : Vec F s e} {k : Fin (d 0)} {j : s.Idx} (hk : ¬ hits idxs mask j k) : stepS idxs v mask h g k j = g j := by
  unfold stepS
  by_cases hm : mask (Shape.ofLane k) = 1
  · rw [if_pos hm, if_neg (show ¬ ∀ a, (j a).val = (idxAt idxs h (Shape.ofLane k) a).val from fun ha => hk ⟨hm, fun a => ha a⟩)]
  · rw [if_neg hm]

theorem fold_miss (j : s.Idx) : ∀ (l : List (Fin (d 0))) (g : Vec F s e), (∀ k ∈ l, ¬ hits idxs mask j k) → l.foldl (stepS idxs v mask h) g j = g j
  | [], _, _ => rfl
  | k :: l, g, hl => by
    rw [List.foldl_cons, fold_miss j l _ fun k' hk' => hl k' (List.mem_cons_of_mem _ hk')]
    exact stepS_miss idxs v mask h (hl k List.mem_cons_self)

theorem fold_hit (j : s.Idx) (k₀ : Fin (d 0)) (h₀ : hits idxs mask j k₀) (hu : ∀ k, hits idxs mask j k → k = k₀) :
    ∀ (l : List (Fin (d 0))) (g : Vec F s e), k₀ ∈ l → l.foldl (stepS idxs v mask h) g j = v (Shape.ofLane k₀)
  | k :: l, g, hm => by
    rw [List.foldl_cons]
    by_cases hin : k₀ ∈ l
    · exact fold_hit j k₀ h₀ hu l _ hin
    · have hk : k₀ = k := (List.mem_cons.mp hm).resolve_right hin
      rw [fold_miss idxs v mask h j l _ fun k' hk' hh => hin (hu k' hh ▸ hk'), ← hk]
      exact stepS_hit idxs v mask h h₀

theorem store_eq (f : Vec F s e) : storeIdx f idxs v mask false h = (List.finRange (d 0)).foldl (stepS idxs v mask h) f := by
  unfold storeIdx
  congr 1
  funext g k
  simp only [stepS, Bool.false_eq_true, if_false]

theorem store_miss (f : Vec F s e) (j : s.Idx) (hj : ∀ k, ¬ hits idxs mask j k) : storeIdx f idxs v mask false h j = f j := by
  rw [store_eq]; exact fold_miss idxs v mask h j _ f fun k _ => hj k
theorem store_hit (f : Vec F s e) (j : s.Idx) (k₀ : Fin (d 0)) (h₀ : hits idxs mask j k₀) (hu : ∀ k, hits idxs mask j k → k = k₀) :
    storeIdx f idxs v mask false h j = v (Shape.ofLane k₀) := by
  rw [store_eq]; exact fold_hit idxs v mask h j k₀ h₀ hu _ f (List.mem_finRange k₀)

theorem fold_all (Q : Elt F e → Prop) (hv : ∀ k, Q (v (Shape.ofLane k))) (j : s.Idx) :
    ∀ (l : List (Fin (d 0))) (g : Vec F s e), Q (g j) → Q (l.foldl (stepS idxs v mask h) g j)
  | [], _, hg => hg
  | k :: l, g, hg => by
    rw [List.foldl_cons]
    refine fold_all Q hv j l _ ?_
    by_cases hk : hits idxs mask j k
    · rw [stepS_hit idxs v mask h hk]; exact hv k
    · rw [stepS_miss idxs v mask h hk]; exact hg
theorem store_all (f : Vec F s e) (Q : Elt F e → Prop) (hv : ∀ k, Q (v (Shape.ofLane k))) (j : s.Idx) (hf : Q (f j)) :
    Q (storeIdx f idxs v mask false h j) := by
  rw [store_eq]; exact fold_all idxs v mask h Q hv j _ f hf

end Store

/-! ## Running counts -/

/-- Lane `l` of a vector by number. -/
def atL (v : IVec S16 32) (l : Nat) : BitVec 32 := if h : l < 16 then v (Shape.ofLane ⟨l, h⟩) else 0

theorem lane_self (x : S16.Idx) : Shape.ofLane (d := ![16]) (x 0) = x := by
  funext a
  match a with
  | 0 => rfl
theorem atL_self (v : IVec S16 32) (x : S16.Idx) : atL v (x 0).val = v x := by
  unfold atL
  rw [dif_pos (show (x 0).val < 16 from (x 0).isLt)]
  exact congrArg v (lane_self x)

def run (kind : ScanKind) (V : Nat → BitVec 32) (n : Nat) : BitVec 32 := (List.range' 1 n).foldl (fun r k => kind.step r (V k)) (V 0)

theorem run_zero (kind : ScanKind) (V : Nat → BitVec 32) : run kind V 0 = V 0 := rfl
theorem run_succ (kind : ScanKind) (V : Nat → BitVec 32) (n : Nat) : run kind V (n + 1) = kind.step (run kind V n) (V (n + 1)) := by
  unfold run
  rw [List.range'_concat, List.foldl_append]
  simp [Nat.add_comm]

theorem ranks : ∀ j : Fin 16, ((List.finRange 16).filter fun k => decide (0 < k.val ∧ k.val ≤ j.val)).map Fin.val = List.range' 1 j.val := by decide

theorem scan_run (kind : ScanKind) (v : IVec S16 32) (x : S16.Idx) : scan kind v x = run kind (atL v) (x 0).val := by
  unfold run
  have hr := ranks (x 0)
  have h0 : atL v 0 = v (Shape.ofLane ⟨0, by decide⟩) := rfl
  rw [← hr, List.foldl_map, h0]
  show List.foldl (fun r k => kind.step r (v (Shape.ofLane k))) (v (Shape.ofLane ⟨0, _⟩)) _ = _
  congr 1
  funext r k
  exact congrArg (kind.step r) (by unfold atL; rw [dif_pos (show k.val < 16 from k.isLt)])

theorem run_max_const (c : BitVec 32) : ∀ n, run .max (fun _ => c) n = c
  | 0 => rfl
  | n + 1 => by
    rw [run_succ, run_max_const c n]
    show IntOp.maxui c c = c
    simp [IntOp.maxui]

theorem mi_val (msk : IVec S16 1) (x : S16.Idx) : mi msk x = BitVec.ofNat 32 (if msk x = 1#1 then 1 else 0) := by
  show (msk x).setWidth 32 = _
  generalize msk x = b
  revert b; decide

/-- A mask's running count. -/
theorem run_sum (msk : IVec S16 1) (H : Nat → Prop) [DecidablePred H] (hm : ∀ x : S16.Idx, msk x = 1#1 ↔ H (x 0).val) :
    ∀ n, n < 16 → run .sum (atL (mi msk)) n = BitVec.ofNat 32 (Nat.count H (n + 1)) := by
  have hV : ∀ l, l < 16 → atL (mi msk) l = BitVec.ofNat 32 (if H l then 1 else 0) := by
    intro l hl
    unfold atL
    rw [dif_pos hl, mi_val]
    exact congrArg _ (if_congr (hm _) rfl rfl)
  intro n
  induction n with
  | zero =>
    intro hn
    rw [run_zero, hV 0 hn, Nat.count_succ, Nat.count_zero, Nat.zero_add]
  | succ n ih =>
    intro hn
    rw [run_succ, ih (by omega), hV _ hn, Nat.count_succ H (n + 1)]
    show BitVec.ofNat 32 _ + BitVec.ofNat 32 _ = _
    rw [BitVec.ofNat_add]

theorem toInt_nat {a : Nat} (ha : a < 2 ^ 31) : (BitVec.ofNat 32 a).toInt = a := by
  have e : (BitVec.ofNat 32 a).toNat = a := by rw [BitVec.toNat_ofNat]; omega
  rw [BitVec.toInt_eq_toNat_of_lt (by rw [e]; omega), e]

theorem min_nat {a b : Nat} (ha : a < 2 ^ 31) (hb : b < 2 ^ 31) : IntOp.minsi (BitVec.ofNat 32 a) (BitVec.ofNat 32 b) = BitVec.ofNat 32 (min a b) := by
  unfold IntOp.minsi
  simp only [BitVec.slt, BitVec.sle, toInt_nat ha, toInt_nat hb]
  by_cases hab : a ≤ b
  · rw [min_eq_left hab]
    split
    · rfl
    · rename_i h; simp at h; first | omega | (congr 1; omega)
  · rw [min_eq_right (by omega)]
    split
    · rename_i h; simp at h; first | omega | (congr 1; omega)
    · rfl

def lane15 : S16.Idx := fun | 0 => ⟨15, by decide⟩
theorem last16 (v : IVec S16 32) : extractAt ![15] v inpos_S16_p15 = v lane15 := by
  unfold extractAt
  refine congrArg v ?_
  funext a
  match a with
  | 0 => rfl

theorem addi_b (p : IVec S16 32) (c : BitVec 32) (x : S16.Idx) : addi p (broadcast S16 c) x = p x + c := rfl

section Append

variable {H : Nat → Prop} [DecidablePred H] {N : Nat} {ptr : IVec S16 32} {msk : IVec S16 1}
  (hN : N < 2 ^ 30) (hp : ∀ x, ptr x = BitVec.ofNat 32 (Nat.count H N)) (hm : ∀ x : S16.Idx, msk x = 1#1 ↔ H (N + (x 0).val))

include hm in
theorem scan_mi (x : S16.Idx) : scan .sum (mi msk) x = BitVec.ofNat 32 (Nat.count (fun k => H (N + k)) ((x 0).val + 1)) := by
  rw [scan_run]
  exact run_sum msk (fun k => H (N + k)) hm _ (x 0).isLt

include hN hp hm in
theorem cidx_nat {cap : Nat} (hc : cap < 2 ^ 31) (x : S16.Idx) : (cidx (BitVec.ofNat 32 cap) ptr msk x).toNat = min (Nat.count H (N + (x 0).val)) cap := by
  have hx : (x 0).val < 16 := (x 0).isLt
  have e : addi ptr (subi (scan .sum (mi msk)) (mi msk)) x = BitVec.ofNat 32 (Nat.count H (N + (x 0).val)) := by
    show ptr x + (scan .sum (mi msk) x - mi msk x) = _
    rw [hp, scan_mi hm, mi_val, Nat.count_succ, Nat.count_add, if_congr (hm x) rfl rfl, BitVec.ofNat_add, BitVec.ofNat_add, BitVec.add_sub_cancel]
  have hle : Nat.count H (N + (x 0).val) ≤ N + (x 0).val := Nat.count_le _
  show (IntOp.minsi (addi ptr (subi (scan .sum (mi msk)) (mi msk)) x) (BitVec.ofNat 32 cap)).toNat = _
  rw [e, min_nat (by omega) hc, BitVec.toNat_ofNat, Nat.mod_eq_of_lt]
  have := Nat.min_le_right (Nat.count H (N + (x 0).val)) cap
  omega

include hp hm in
theorem cnext_nat (x : S16.Idx) : cnext ptr msk x = BitVec.ofNat 32 (Nat.count H (N + 16)) := by
  have e := (last16 (scan .sum (mi msk))).trans (scan_mi hm lane15)
  have e2 : Nat.count H (N + 16) = Nat.count H N + Nat.count (fun k => H (N + k)) ((lane15 0).val + 1) := Nat.count_add ..
  have e3 := addi_b ptr (extractAt ![15] (scan .sum (mi msk)) inpos_S16_p15) x
  rw [e, hp x] at e3
  rw [e2, BitVec.ofNat_add]
  rw [← e]
  rw [← e] at e3
  exact e3

end Append

end Cert.Sel
-- ==== Proof.Inv.lean ====
/-
  What the subcore's three loops compute for one row of the scores, as plain statements about counts: after so many
  steps the write position is the number of hits so far, and the hit of rank `r` sits at place `r`. `Env` is the data:
  the scores by block row, the block maxima and the thresholds, all by natural-number coordinates.
-/
module

public import proofs.«01_k».proof.Proof.Scan
public import proofs.«01_k».proof.Proof.Segs

@[expose] public section

noncomputable section

namespace Cert.Sel

open Cert.KernelIdeal Cert.KernelIdeal.Gen
open Idealize.ShloMosaic

variable {F : FTy → Type} [FloatOps F]

structure Env (F : FTy → Type) where
  sc : Nat → Nat → F .f32
  bm : Nat → Nat → F .f32
  tau : Nat → F .f32

abbrev C128 (v : IVec S16 32) : Prop := ∀ a x, ((![v] : Fin 1 → IVec S16 32) a x).toNat < S128.size a
abbrev C256 (u v : IVec S16 32) : Prop := ∀ a x, ((![u, v] : Fin 2 → IVec S16 32) a x).toNat < S16x256.size a
abbrev C512 (v : IVec S16 32) : Prop := ∀ a x, ((![v] : Fin 1 → IVec S16 32) a x).toNat < S512.size a

/-- Entry `k` of a block list, as a number. -/
def ent (row : S128.Idx → BitVec 32) (k : Nat) : Nat := if h : k < 128 then (row fun | 0 => ⟨k, h⟩).toNat else 0

variable (E : Env F) (R : Nat)

/-- Block `b` of row `R` reaches the threshold. -/
def hitB (b : Nat) : Prop := FloatOps.cmpf .oge (E.bm R b) (E.tau R) = 1#1
instance : DecidablePred (hitB E R) := fun _ => inferInstanceAs (Decidable (_ = _))

/-- After the first `N` blocks. -/
structure I2 (N : Nat) (ptr : IVec S16 32) (row : S128.Idx → BitVec 32) : Prop where
  cnt : ∀ x, ptr x = BitVec.ofNat 32 (Nat.count (hitB E R) N)
  le : ∀ y, (row y).toNat ≤ 783
  at' : Nat.count (hitB E R) N ≤ 128 → ∀ b < N, hitB E R b → ∀ y : S128.Idx, (y 0).val = Nat.count (hitB E R) b → (row y).toNat = b

/-- Score `t` of lane `l` among the listed blocks: entry `t / 8`, sixteenth `t % 8`. -/
def gat (row : S128.Idx → BitVec 32) (l t : Nat) : F .f32 := E.sc (R * 784 + ent row (t / 8)) (16 * (t % 8) + l)
def hitS (row : S128.Idx → BitVec 32) (l t : Nat) : Prop := FloatOps.cmpf .oge (gat E R row l t) (E.tau R) = 1#1
instance (row : S128.Idx → BitVec 32) (l : Nat) : DecidablePred (hitS E R row l) := fun _ => inferInstanceAs (Decidable (_ = _))

/-- After the first `T` scores of every lane. -/
structure I6 (row : S128.Idx → BitVec 32) (T : Nat) (cnt : IVec S16 32) (v13 : S512.Idx → F .f32) (v14 : S512.Idx → BitVec 32) : Prop where
  cnt' : ∀ x : S16.Idx, cnt x = BitVec.ofNat 32 (Nat.count (hitS E R row (x 0).val) T)
  at' : (∀ l < 16, Nat.count (hitS E R row l) T ≤ 32) → ∀ l < 16, ∀ t < T, hitS E R row l t → ∀ y : S512.Idx,
    (y 0).val = 32 * l + Nat.count (hitS E R row l) t → v13 y = gat E R row l t ∧ v14 y = BitVec.ofNat 32 (ent row (t / 8) * 128 + 16 * (t % 8) + l)
  off : (∀ l < 16, Nat.count (hitS E R row l) T ≤ 32) → ∀ l < 16, ∀ q < 32, Nat.count (hitS E R row l) T ≤ q → ∀ y : S512.Idx,
    (y 0).val = 32 * l + q → v13 y = neg

/-- Place `m` of the staging buffer is filled. -/
def hitF (v13 : S512.Idx → F .f32) (m : Nat) : Prop := ∃ h : m < 512, ¬ FloatOps.cmpf .oeq (v13 fun | 0 => ⟨m, h⟩) neg = 1#1
instance (v13 : S512.Idx → F .f32) : DecidablePred (hitF v13) := fun _ => inferInstanceAs (Decidable (∃ _, _))

/-- After the first `M` places, row `j` of the result. -/
structure I8 (j : Nat) (v13 : S512.Idx → F .f32) (v14 : S512.Idx → BitVec 32) (M : Nat) (ptr : IVec S16 32) (v11 : S16x256.Idx → F .f32) (v12 : S16x256.Idx → BitVec 32) : Prop where
  cnt : ∀ x, ptr x = BitVec.ofNat 32 (Nat.count (hitF v13) M)
  at' : Nat.count (hitF v13) M ≤ 256 → ∀ y : S512.Idx, (y 0).val < M → hitF v13 (y 0).val → ∀ x : S16x256.Idx, (x 0).val = j →
    (x 1).val = Nat.count (hitF v13) (y 0).val → v11 x = v13 y ∧ v12 x = v14 y
  off : Nat.count (hitF v13) M ≤ 256 → ∀ x : S16x256.Idx, (x 0).val = j → Nat.count (hitF v13) M ≤ (x 1).val → v11 x = neg

/-- Row `j` of the result's buffers is what the three loops make of row `R`. -/
def RowOK (j : Nat) (v11 : S16x256.Idx → F .f32) (v12 : S16x256.Idx → BitVec 32) : Prop :=
  ∃ ptr row cnt v13 v14 ptr', I2 E R 784 ptr row ∧ I6 E R row (8 * (k2_t6_loop (lmax ptr)).trips) cnt v13 v14 ∧ I8 j v13 v14 512 ptr' v11 v12

variable {E R}

theorem RowOK.congr {j : Nat} {v11 w11 : S16x256.Idx → F .f32} {v12 w12 : S16x256.Idx → BitVec 32} (h : RowOK E R j v11 v12)
    (h1 : ∀ x : S16x256.Idx, (x 0).val = j → w11 x = v11 x) (h2 : ∀ x : S16x256.Idx, (x 0).val = j → w12 x = v12 x) : RowOK E R j w11 w12 := by
  obtain ⟨ptr, row, cnt, v13, v14, ptr', a, b, c⟩ := h
  refine ⟨ptr, row, cnt, v13, v14, ptr', a, b, c.cnt, fun hc y hy hf x hx e => ?_, fun hc x hx hx' => ?_⟩
  · rw [h1 x hx, h2 x hx]; exact c.at' hc y hy hf x hx e
  · rw [h1 x hx]; exact c.off hc x hx hx'

/-! ## One step of each loop -/

theorem I2_zero {ptr : IVec S16 32} {row : S128.Idx → BitVec 32} (hp : ∀ x, ptr x = 0#32) (hr : ∀ y, row y = 783#32) : I2 E R 0 ptr row where
  cnt x := by rw [hp]; simp
  le y := by rw [hr]; decide
  at' _ b hb := absurd hb (Nat.not_lt_zero b)

theorem I6_zero {row : S128.Idx → BitVec 32} {cnt : IVec S16 32} {v13 : S512.Idx → F .f32} {v14 : S512.Idx → BitVec 32} (hp : ∀ x, cnt x = 0#32) (hr : ∀ y, v13 y = neg) :
    I6 E R row 0 cnt v13 v14 where
  cnt' x := by rw [hp]; simp
  at' _ l _ b hb := absurd hb (Nat.not_lt_zero b)
  off _ l hl q hq _ y hy := hr y

theorem I8_zero {j : Nat} {v13 : S512.Idx → F .f32} {v14 : S512.Idx → BitVec 32} {ptr : IVec S16 32} {v11 : S16x256.Idx → F .f32} {v12 : S16x256.Idx → BitVec 32}
    (hp : ∀ x, ptr x = 0#32) (hr : ∀ x : S16x256.Idx, (x 0).val = j → v11 x = neg) : I8 j v13 v14 0 ptr v11 v12 where
  cnt x := by rw [hp]; simp
  at' _ y hy := absurd hy (Nat.not_lt_zero _)
  off _ x hx _ := hr x hx

/-- The lanes set where the staging buffer is filled. -/
abbrev fmsk (ld : Vec F S16 .f32) : IVec S16 1 := xori (cmpf .oeq ld neg16) (constantI S16 1 1#1)

/-- Distinct hits have distinct ranks. -/
theorem rank_inj {H : Nat → Prop} [DecidablePred H] {a b : Nat} (ha : H a) (hb : H b) (e : Nat.count H a = Nat.count H b) : a = b :=
  Nat.count_injective ha hb e
theorem rank_lt {H : Nat → Prop} [DecidablePred H] {a n : Nat} (ha : H a) (h : a < n) : Nat.count H a < Nat.count H n :=
  Nat.count_strict_mono ha h

theorem I2_step {k : Nat} (hk : k < 49) {ptr : IVec S16 32} {row : S128.Idx → BitVec 32} (hI : I2 E R (16 * k) ptr row)
    {ld v11 : Vec F S16 .f32} (hl : ∀ x : S16.Idx, ld x = E.bm R (16 * k + (x 0).val)) (hv : ∀ x, v11 x = E.tau R)
    {val : IVec S16 32} (hval : ∀ x : S16.Idx, val x = BitVec.ofNat 32 (16 * k + (x 0).val)) :
    C128 (cidx 127#32 ptr (cmpf .oge ld v11)) ∧ ∀ h, I2 E R (16 * (k + 1)) (cnext ptr (cmpf .oge ld v11))
      (storeIdx (F := F) (e := .i32) row ![cidx 127#32 ptr (cmpf .oge ld v11)] val (cmpf .oge ld v11) false h) := by
  have hm : ∀ x : S16.Idx, cmpf .oge ld v11 x = 1#1 ↔ hitB E R (16 * k + (x 0).val) := by
    intro x
    show FloatOps.cmpf .oge (ld x) (v11 x) = 1#1 ↔ FloatOps.cmpf .oge (E.bm R _) (E.tau R) = 1#1
    rw [hl, hv]
  generalize cmpf .oge ld v11 = msk at hm
  have hidx : ∀ x : S16.Idx, (cidx 127#32 ptr msk x).toNat = min (Nat.count (hitB E R) (16 * k + (x 0).val)) 127 :=
    fun x => cidx_nat (by omega) hI.cnt hm (cap := 127) (by decide) x
  have hc : C128 (cidx 127#32 ptr msk) := by
    intro a x
    match a with
    | 0 =>
      show (cidx 127#32 ptr msk x).toNat < 128
      rw [hidx]; omega
  refine ⟨hc, fun h => ?_⟩
  have hhit : Nat.count (hitB E R) (16 * (k + 1)) ≤ 128 → ∀ (y : S128.Idx) (l : Fin 16), hits (s := S128) (d := ![16]) ![cidx 127#32 ptr msk] msk y l →
      hitB E R (16 * k + l.val) ∧ (y 0).val = Nat.count (hitB E R) (16 * k + l.val) := by
    intro hc y l hh
    have h1 : hitB E R (16 * k + l.val) := (hm (Shape.ofLane (d := ![16]) l)).mp hh.1
    have h2 : (y 0).val = (cidx 127#32 ptr msk (Shape.ofLane (d := ![16]) l)).toNat := hh.2 0
    have h3 := rank_lt h1 (show 16 * k + l.val < 16 * (k + 1) by have := l.isLt; omega)
    rw [hidx, show ((Shape.ofLane (d := ![16]) l : S16.Idx) 0).val = l.val from rfl] at h2
    exact ⟨h1, by omega⟩
  refine ⟨fun x => ?_, fun y => ?_, fun hc b hb hbh y hy => ?_⟩
  · rw [cnext_nat hI.cnt hm, show 16 * (k + 1) = 16 * k + 16 from rfl]
  · refine store_all (F := F) (e := .i32) _ val msk h row (fun w => BitVec.toNat w ≤ 783) (fun l => ?_) y (hI.le y)
    have hl16 : l.val < 16 := l.isLt
    show (val (Shape.ofLane l)).toNat ≤ 783
    rw [hval, BitVec.toNat_ofNat, show ((Shape.ofLane (d := ![16]) l : S16.Idx) 0).val = l.val from rfl]
    omega
  · by_cases hbk : b < 16 * k
    · rw [store_miss (F := F) (e := .i32) _ val msk h row y]
      · refine hI.at' ?_ b hbk hbh y hy
        exact (Nat.count_monotone _ (by omega)).trans hc
      · intro l hh
        obtain ⟨h1, h2⟩ := hhit hc y l hh
        have := rank_inj hbh h1 (hy.symm.trans h2)
        omega
    · obtain ⟨l, rfl⟩ : ∃ l, b = 16 * k + l := ⟨b - 16 * k, by omega⟩
      have hl16 : l < 16 := by omega
      have hlt := rank_lt hbh hb
      rw [store_hit (F := F) (e := .i32) _ val msk h row y (⟨l, hl16⟩ : Fin 16)]
      · rw [hval, BitVec.toNat_ofNat]
        exact Nat.mod_eq_of_lt (by show 16 * k + l < _; omega)
      · refine ⟨(hm (Shape.ofLane (d := ![16]) ⟨l, hl16⟩)).mpr hbh, fun a => ?_⟩
        match a with
        | 0 =>
          show (y 0).val = (cidx 127#32 ptr msk (Shape.ofLane (d := ![16]) ⟨l, hl16⟩)).toNat
          rw [hidx, hy]
          show _ = min (Nat.count (hitB E R) (16 * k + l)) 127
          omega
      · intro l' hh
        obtain ⟨h1, h2⟩ := hhit hc y l' hh
        have := rank_inj hbh h1 (hy.symm.trans h2)
        exact Fin.ext (by show l'.val = l; omega)

theorem fmsk_iff {v13 : S512.Idx → F .f32} {k : Nat} (hk : k < 32) {ld : Vec F S16 .f32} (hl : ∀ (x : S16.Idx) (y : S512.Idx), (y 0).val = 16 * k + (x 0).val → ld x = v13 y) (x : S16.Idx) :
    fmsk ld x = 1#1 ↔ hitF v13 (16 * k + (x 0).val) := by
  have hx : (x 0).val < 16 := (x 0).isLt
  have hlt : 16 * k + (x 0).val < 512 := by omega
  have e : ld x = v13 (fun | 0 => ⟨16 * k + (x 0).val, hlt⟩) := hl x _ rfl
  have hf : fmsk ld x = FloatOps.cmpf .oeq (ld x) neg ^^^ 1#1 := rfl
  have : hitF v13 (16 * k + (x 0).val) ↔ ¬ FloatOps.cmpf .oeq (v13 (fun | 0 => ⟨16 * k + (x 0).val, hlt⟩)) neg = 1#1 :=
    ⟨fun ⟨_, h⟩ => h, fun h => ⟨hlt, h⟩⟩
  rw [this, hf, e]
  generalize FloatOps.cmpf .oeq (v13 (fun | 0 => ⟨16 * k + (x 0).val, hlt⟩)) neg = b
  decide +revert

theorem I8_step {j k : Nat} (hj : j < 16) (hk : k < 32) {v13 : S512.Idx → F .f32} {v14 : S512.Idx → BitVec 32} {ptr : IVec S16 32}
    {v11 : S16x256.Idx → F .f32} {v12 : S16x256.Idx → BitVec 32} (hI : I8 j v13 v14 (16 * k) ptr v11 v12)
    {ld : Vec F S16 .f32} {li : IVec S16 32} (hl : ∀ (x : S16.Idx) (y : S512.Idx), (y 0).val = 16 * k + (x 0).val → ld x = v13 y ∧ li x = v14 y) :
    C256 (broadcast S16 (BitVec.ofNat 32 j)) (cidx 255#32 ptr (fmsk ld)) ∧ ∀ h h',
      I8 j v13 v14 (16 * (k + 1)) (cnext ptr (fmsk ld))
        (storeIdx (F := F) (e := .f32) v11 ![broadcast S16 (BitVec.ofNat 32 j), cidx 255#32 ptr (fmsk ld)] ld (fmsk ld) false h)
        (storeIdx (F := F) (e := .i32) v12 ![broadcast S16 (BitVec.ofNat 32 j), cidx 255#32 ptr (fmsk ld)] li (fmsk ld) false h') ∧
      (∀ x : S16x256.Idx, (x 0).val ≠ j → storeIdx (F := F) (e := .f32) v11 ![broadcast S16 (BitVec.ofNat 32 j), cidx 255#32 ptr (fmsk ld)] ld (fmsk ld) false h x = v11 x) ∧
      (∀ x : S16x256.Idx, (x 0).val ≠ j → storeIdx (F := F) (e := .i32) v12 ![broadcast S16 (BitVec.ofNat 32 j), cidx 255#32 ptr (fmsk ld)] li (fmsk ld) false h' x = v12 x) := by
  have hm := fmsk_iff hk (v13 := v13) (fun x y e => (hl x y e).1)
  generalize fmsk ld = msk at hm
  have hj' : (BitVec.ofNat 32 j).toNat = j := Nat.mod_eq_of_lt (by omega)
  have hidx : ∀ x : S16.Idx, (cidx 255#32 ptr msk x).toNat = min (Nat.count (hitF v13) (16 * k + (x 0).val)) 255 :=
    fun x => cidx_nat (by omega) hI.cnt hm (cap := 255) (by decide) x
  have hc : C256 (broadcast S16 (BitVec.ofNat 32 j)) (cidx 255#32 ptr msk) := by
    intro a x
    match a with
    | 0 =>
      show (BitVec.ofNat 32 j).toNat < 16
      rw [hj']; exact hj
    | 1 =>
      show (cidx 255#32 ptr msk x).toNat < 256
      rw [hidx]; omega
  refine ⟨hc, fun h h' => ?_⟩
  have hrow : ∀ (y : S16x256.Idx) (l : Fin 16), hits (s := S16x256) (d := ![16]) ![broadcast S16 (BitVec.ofNat 32 j), cidx 255#32 ptr msk] msk y l → (y 0).val = j :=
    fun y l hh => (hh.2 0).trans hj'
  have hhit : Nat.count (hitF v13) (16 * (k + 1)) ≤ 256 → ∀ (y : S16x256.Idx) (l : Fin 16), hits (s := S16x256) (d := ![16]) ![broadcast S16 (BitVec.ofNat 32 j), cidx 255#32 ptr msk] msk y l →
      hitF v13 (16 * k + l.val) ∧ (y 1).val = Nat.count (hitF v13) (16 * k + l.val) ∧ (y 1).val < Nat.count (hitF v13) (16 * (k + 1)) := by
    intro hc y l hh
    have h1 : hitF v13 (16 * k + l.val) := (hm (Shape.ofLane (d := ![16]) l)).mp hh.1
    have h2 : (y 1).val = (cidx 255#32 ptr msk (Shape.ofLane (d := ![16]) l)).toNat := hh.2 1
    have h3 := rank_lt h1 (show 16 * k + l.val < 16 * (k + 1) by have := l.isLt; omega)
    rw [hidx, show ((Shape.ofLane (d := ![16]) l : S16.Idx) 0).val = l.val from rfl] at h2
    exact ⟨h1, by omega, by omega⟩
  refine ⟨⟨fun x => ?_, fun hc y hy hyf x hx hx1 => ?_, fun hc x hx hx1 => ?_⟩, fun x hx => ?_, fun x hx => ?_⟩
  · rw [cnext_nat hI.cnt hm, show 16 * (k + 1) = 16 * k + 16 from rfl]
  · by_cases hbk : (y 0).val < 16 * k
    · have hno : ∀ l, ¬ hits (s := S16x256) (d := ![16]) ![broadcast S16 (BitVec.ofNat 32 j), cidx 255#32 ptr msk] msk x l := by
        intro l hh
        obtain ⟨h1, h2, -⟩ := hhit hc x l hh
        have := rank_inj hyf h1 (hx1.symm.trans h2)
        omega
      rw [store_miss (F := F) (e := .i32) _ li msk h' v12 x hno, store_miss (F := F) (e := .f32) _ ld msk h v11 x hno]
      exact hI.at' ((Nat.count_monotone _ (by omega)).trans hc) y hbk hyf x hx hx1
    · have hl16 : (y 0).val - 16 * k < 16 := by omega
      have hlt := rank_lt hyf hy
      have hy' : (y 0).val = 16 * k + ((y 0).val - 16 * k) := by omega
      have h0 : hits (s := S16x256) (d := ![16]) ![broadcast S16 (BitVec.ofNat 32 j), cidx 255#32 ptr msk] msk x ⟨(y 0).val - 16 * k, hl16⟩ := by
        refine ⟨(hm (Shape.ofLane (d := ![16]) ⟨_, hl16⟩)).mpr (hy' ▸ hyf), fun a => ?_⟩
        match a with
        | 0 => exact hx.trans hj'.symm
        | 1 =>
          show (x 1).val = (cidx 255#32 ptr msk (Shape.ofLane (d := ![16]) ⟨_, hl16⟩)).toNat
          rw [hidx, hx1]
          show _ = min (Nat.count (hitF v13) (16 * k + ((y 0).val - 16 * k))) 255
          rw [← hy']
          omega
      have hu : ∀ l, hits (s := S16x256) (d := ![16]) ![broadcast S16 (BitVec.ofNat 32 j), cidx 255#32 ptr msk] msk x l → l = ⟨(y 0).val - 16 * k, hl16⟩ := by
        intro l' hh
        obtain ⟨h1, h2, -⟩ := hhit hc x l' hh
        have := rank_inj hyf h1 (hx1.symm.trans h2)
        exact Fin.ext (by show l'.val = (y 0).val - 16 * k; omega)
      rw [store_hit (F := F) (e := .i32) _ li msk h' v12 x _ h0 hu, store_hit (F := F) (e := .f32) _ ld msk h v11 x _ h0 hu]
      exact hl _ y hy'
  · rw [store_miss (F := F) (e := .f32) _ ld msk h v11 x]
    · have := Nat.count_monotone (hitF v13) (show 16 * k ≤ 16 * (k + 1) by omega)
      exact hI.off (this.trans hc) x hx (this.trans hx1)
    · intro l hh
      have := (hhit hc x l hh).2.2
      omega
  · exact store_miss (F := F) (e := .f32) _ ld msk h v11 x fun l hh => hx (hrow x l hh)
  · exact store_miss (F := F) (e := .i32) _ li msk h' v12 x fun l hh => hx (hrow x l hh)

theorem sdiv_one (x : BitVec 32) : Scalar.divsi x 1#32 = x := by
  rw [Scalar.divsi]
  simp [IntOp.divsi, IntOp.SDivCorner]

theorem t6_eq (v : BitVec 32) : k2_t6_loop v = ⟨0#32, Scalar.minsi v 128#32, 1#32⟩ := by
  show (⟨0#32, 0#32 + Scalar.divsi (Scalar.minsi v 128#32 - 0#32) 1#32 * 1#32, 1#32⟩ : Scf.Loop 32) = _
  rw [sdiv_one, BitVec.mul_one, BitVec.zero_add, BitVec.sub_zero]

theorem t7_eq (v : BitVec 32) : k2_t7_loop v = ⟨Scalar.minsi v 128#32, Scalar.minsi v 128#32, 1#32⟩ := by
  show (⟨0#32 + Scalar.divsi (Scalar.minsi v 128#32 - 0#32) 1#32 * 1#32, 0#32 + (Scalar.minsi v 128#32 - 0#32), 1#32⟩ : Scf.Loop 32) = _
  rw [sdiv_one, BitVec.mul_one, BitVec.zero_add, BitVec.sub_zero]

theorem min128 (v : BitVec 32) : (Scalar.minsi v 128#32).toInt = min v.toInt 128 := by
  have e : (128#32).toInt = 128 := by decide
  show (if v.slt 128#32 then v else 128#32).toInt = _
  by_cases h : v.slt 128#32
  · rw [if_pos h]; rw [BitVec.slt_iff_toInt_lt, e] at h; omega
  · rw [if_neg h, e]; rw [BitVec.slt_iff_toInt_lt, e] at h; omega

theorem t6_trips (v : BitVec 32) : (k2_t6_loop v).trips = (min v.toInt 128).toNat := by
  rw [t6_eq]
  show (((Scalar.minsi v 128#32).toInt - (0#32).toInt + (1#32).toInt - 1) / (1#32).toInt).toNat = _
  rw [min128, show (0#32).toInt = 0 by decide, show (1#32).toInt = 1 by decide, Int.ediv_one]
  congr 1; omega

theorem t6_le (v : BitVec 32) : (k2_t6_loop v).trips ≤ 128 := by rw [t6_trips]; omega

theorem t7_zero (v : BitVec 32) : (k2_t7_loop v).trips = 0 := by
  rw [t7_eq]
  show (((Scalar.minsi v 128#32).toInt - (Scalar.minsi v 128#32).toInt + (1#32).toInt - 1) / (1#32).toInt).toNat = _
  rw [show (1#32).toInt = 1 by decide, Int.ediv_one, Int.sub_self]; decide

theorem t6_ok (v : BitVec 32) : (k2_t6_loop v).OK := by
  have h := t6_le v
  rw [t6_eq] at h ⊢
  refine ⟨show 0 < (1#32).toInt by decide, ?_⟩
  show (0#32).toInt + (Scf.Loop.trips ⟨0#32, Scalar.minsi v 128#32, 1#32⟩ : Nat) * (1#32).toInt < _
  rw [show (0#32).toInt = 0 by decide, show (1#32).toInt = 1 by decide]
  have : ((Scf.Loop.trips ⟨0#32, Scalar.minsi v 128#32, 1#32⟩ : Nat) : Int) ≤ 128 := by exact_mod_cast h
  norm_num
  omega

theorem t7_ok (v : BitVec 32) : (k2_t7_loop v).OK := by
  have h := t7_zero v
  rw [t7_eq] at h ⊢
  refine ⟨show 0 < (1#32).toInt by decide, ?_⟩
  show (Scalar.minsi v 128#32).toInt + (Scf.Loop.trips ⟨Scalar.minsi v 128#32, Scalar.minsi v 128#32, 1#32⟩ : Nat) * (1#32).toInt < _
  rw [h, min128]
  norm_num

theorem iv_toNat (v : BitVec 32) (k : Fin (k2_t6_loop v).trips) : (Scf.iv 0#32 1#32 k).toNat = k.val := by
  have hk : k.val < 128 := lt_of_lt_of_le k.isLt (t6_le v)
  show (0#32 + BitVec.ofNat 32 k.val * 1#32).toNat = k.val
  rw [BitVec.mul_one, BitVec.zero_add, BitVec.toNat_ofNat]
  exact Nat.mod_eq_of_lt (by omega)

theorem o10_eq {p o : Nat} (hp : p < 4) (ho : o < 8) (v : BitVec 32) (k : Fin (k2_t6_loop v).trips) : o10 p o v k = ![p, k.val, 16 * o] := by
  have h1 : (BitVec.ofNat 32 p).toNat = p := Nat.mod_eq_of_lt (by omega)
  have h3 : (BitVec.ofNat 32 (16 * o)).toNat = 16 * o := Nat.mod_eq_of_lt (by omega)
  show ![(BitVec.ofNat 32 p).toNat, (Scf.iv 0#32 1#32 k).toNat, (BitVec.ofNat 32 (16 * o)).toNat] = _
  rw [h1, iv_toNat v k, h3]

theorem lanes_val (x : S16.Idx) : lanes x = BitVec.ofNat 32 (x 0).val := by
  show BitVec.ofNat 32 (0 * 16 + (x 0).val) = _
  rw [Nat.zero_mul, Nat.zero_add]

/-- A lane's next place, while the counts are small. -/
theorem sidx_nat {cnt : IVec S16 32} {n : Nat} (hn : n < 2 ^ 30) (x : S16.Idx) (hc : cnt x = BitVec.ofNat 32 n) : (sidx cnt x).toNat = min (32 * (x 0).val + n) 511 := by
  have hx : (x 0).val < 16 := (x 0).isLt
  have e : sidx cnt x = IntOp.minsi (BitVec.ofNat 32 (x 0).val * 32#32 + cnt x) 511#32 := by
    rw [← lanes_val]; rfl
  rw [e, hc, ← BitVec.ofNat_mul, ← BitVec.ofNat_add, show 511#32 = BitVec.ofNat 32 511 from rfl, min_nat (by omega) (by omega), BitVec.toNat_ofNat, Nat.mul_comm]
  exact Nat.mod_eq_of_lt (by omega)

theorem I6_step {k o : Nat} (hk : k < 128) (ho : o < 8) {row : S128.Idx → BitVec 32} (hrow : ∀ y, (row y).toNat ≤ 783) {cnt : IVec S16 32}
    {v13 : S512.Idx → F .f32} {v14 : S512.Idx → BitVec 32} (hI : I6 E R row (8 * k + o) cnt v13 v14)
    {ld v384 : Vec F S16 .f32} (hl : ∀ x : S16.Idx, ld x = E.sc (R * 784 + ent row k) (16 * o + (x 0).val)) (hv : ∀ x, v384 x = E.tau R)
    {blk : IVec S16 32} (hb : ∀ x, (blk x).toNat = ent row k) :
    C512 (sidx cnt) ∧ ∀ h h', I6 E R row (8 * k + (o + 1)) (addi cnt (mi (cmpf .oge ld v384)))
      (storeIdx (F := F) (e := .f32) v13 ![sidx cnt] ld (cmpf .oge ld v384) false h)
      (storeIdx (F := F) (e := .i32) v14 ![sidx cnt] (addi (addi (muli blk (broadcast S16 128#32)) lanes) (broadcast S16 (BitVec.ofNat 32 (16 * o))) : IVec S16 32) (cmpf .oge ld v384) false h') := by
  have hld : ∀ x : S16.Idx, ld x = gat E R row (x 0).val (8 * k + o) := by
    intro x
    rw [hl, gat, show (8 * k + o) / 8 = k by omega, show (8 * k + o) % 8 = o by omega]
  have hm : ∀ x : S16.Idx, cmpf .oge ld v384 x = 1#1 ↔ hitS E R row (x 0).val (8 * k + o) := by
    intro x
    show FloatOps.cmpf .oge (ld x) (v384 x) = 1#1 ↔ FloatOps.cmpf .oge (gat E R row (x 0).val (8 * k + o)) (E.tau R) = 1#1
    rw [hld, hv]
  generalize cmpf .oge ld v384 = msk at hm
  have hent : ent row k ≤ 783 := by
    rw [ent, dif_pos hk]; exact hrow _
  have hval : ∀ x : S16.Idx, (addi (addi (muli blk (broadcast S16 128#32)) lanes) (broadcast S16 (BitVec.ofNat 32 (16 * o))) : IVec S16 32) x
      = BitVec.ofNat 32 (ent row ((8 * k + o) / 8) * 128 + 16 * ((8 * k + o) % 8) + (x 0).val) := by
    intro x
    rw [show (8 * k + o) / 8 = k by omega, show (8 * k + o) % 8 = o by omega]
    show blk x * 128#32 + lanes x + BitVec.ofNat 32 (16 * o) = _
    rw [lanes_val, ← hb x]
    apply BitVec.eq_of_toNat_eq
    simp only [BitVec.toNat_add, BitVec.toNat_mul, BitVec.toNat_ofNat]
    omega
  generalize (addi (addi (muli blk (broadcast S16 128#32)) lanes) (broadcast S16 (BitVec.ofNat 32 (16 * o))) : IVec S16 32) = val at hval
  have hcnt : ∀ l T, Nat.count (hitS E R row l) T ≤ T := fun l T => Nat.count_le _
  have hidx : ∀ x : S16.Idx, (sidx cnt x).toNat = min (32 * (x 0).val + Nat.count (hitS E R row (x 0).val) (8 * k + o)) 511 :=
    fun x => sidx_nat (by have := hcnt (x 0).val (8 * k + o); omega) x (hI.cnt' x)
  have hc : C512 (sidx cnt) := by
    intro a x
    match a with
    | 0 =>
      show (sidx cnt x).toNat < 512
      rw [hidx]; omega
  refine ⟨hc, fun h h' => ?_⟩
  have hmono : ∀ l, Nat.count (hitS E R row l) (8 * k + o) ≤ Nat.count (hitS E R row l) (8 * k + (o + 1)) := fun l => Nat.count_monotone _ (by omega)
  have hhit : (∀ l < 16, Nat.count (hitS E R row l) (8 * k + (o + 1)) ≤ 32) → ∀ (y : S512.Idx) (l : Fin 16), hits (s := S512) (d := ![16]) ![sidx cnt] msk y l →
      hitS E R row l.val (8 * k + o) ∧ (y 0).val = 32 * l.val + Nat.count (hitS E R row l.val) (8 * k + o) ∧ Nat.count (hitS E R row l.val) (8 * k + o) < Nat.count (hitS E R row l.val) (8 * k + (o + 1)) := by
    intro hc y l hh
    have hl16 : l.val < 16 := l.isLt
    have h1 : hitS E R row l.val (8 * k + o) := (hm (Shape.ofLane (d := ![16]) l)).mp hh.1
    have h2 : (y 0).val = (sidx cnt (Shape.ofLane (d := ![16]) l)).toNat := hh.2 0
    have h3 := rank_lt h1 (show 8 * k + o < 8 * k + (o + 1) by omega)
    have h4 := hc l.val hl16
    rw [hidx, show ((Shape.ofLane (d := ![16]) l : S16.Idx) 0).val = l.val from rfl] at h2
    exact ⟨h1, by omega, h3⟩
  refine ⟨fun x => ?_, fun hc l hl16 t ht hth y hy => ?_, fun hc l hl16 q hq hcq y hy => ?_⟩
  · show cnt x + mi msk x = _
    rw [hI.cnt', mi_val, ← BitVec.ofNat_add, show 8 * k + (o + 1) = (8 * k + o) + 1 from rfl, Nat.count_succ]
    simp only [hm]
  · have hct := hc l hl16
    have hlt := rank_lt hth ht
    by_cases htk : t < 8 * k + o
    · have hno : ∀ l', ¬ hits (s := S512) (d := ![16]) ![sidx cnt] msk y l' := by
        intro l' hh
        obtain ⟨h1, h2, h3⟩ := hhit hc y l' hh
        have hl16' : l'.val < 16 := l'.isLt
        have h4 := hc l'.val hl16'
        have e : l'.val = l := by omega
        rw [e] at h1 h2
        have := rank_inj hth h1 (by omega)
        omega
      rw [store_miss (F := F) (e := .i32) _ val msk h' v14 y hno, store_miss (F := F) (e := .f32) _ ld msk h v13 y hno]
      exact hI.at' (fun l hl => (hmono l).trans (hc l hl)) l hl16 t htk hth y hy
    · obtain rfl : t = 8 * k + o := by omega
      have h0 : hits (s := S512) (d := ![16]) ![sidx cnt] msk y ⟨l, hl16⟩ := by
        refine ⟨(hm (Shape.ofLane (d := ![16]) ⟨l, hl16⟩)).mpr hth, fun a => ?_⟩
        match a with
        | 0 =>
          show (y 0).val = (sidx cnt (Shape.ofLane (d := ![16]) ⟨l, hl16⟩)).toNat
          rw [hidx, hy]
          show _ = min (32 * l + Nat.count (hitS E R row l) (8 * k + o)) 511
          omega
      have hu : ∀ l', hits (s := S512) (d := ![16]) ![sidx cnt] msk y l' → l' = ⟨l, hl16⟩ := by
        intro l' hh
        obtain ⟨h1, h2, h3⟩ := hhit hc y l' hh
        have hl16' : l'.val < 16 := l'.isLt
        have h4 := hc l'.val hl16'
        exact Fin.ext (by show l'.val = l; omega)
      rw [store_hit (F := F) (e := .i32) _ val msk h' v14 y _ h0 hu, store_hit (F := F) (e := .f32) _ ld msk h v13 y _ h0 hu]
      exact ⟨hld _, hval _⟩
  · rw [store_miss (F := F) (e := .f32) _ ld msk h v13 y]
    · exact hI.off (fun l hl => (hmono l).trans (hc l hl)) l hl16 q hq ((hmono l).trans hcq) y hy
    · intro l' hh
      obtain ⟨h1, h2, h3⟩ := hhit hc y l' hh
      have hl16' : l'.val < 16 := l'.isLt
      have h4 := hc l'.val hl16'
      have e : l'.val = l := by omega
      rw [e] at h2 h3
      omega

/-! ## The loops over the listed blocks -/

theorem o10_inb {p : Nat} (hp : p < 4) (v : BitVec 32) (k : Fin (k2_t6_loop v).trips) : ∀ o < 8, ∀ a, o10 p o v k a + S1x1x16.size a ≤ S4x128x128.size a := by
  intro o ho a
  have hk : k.val < 128 := lt_of_lt_of_le k.isLt (t6_le v)
  rw [o10_eq hp ho]
  match a with
  | 0 => simp [S1x1x16, S4x128x128]; omega
  | 1 => simp [S1x1x16, S4x128x128]; omega
  | 2 => simp [S1x1x16, S4x128x128]; omega

theorem chkMk {p : Nat} (hp : p < 4) (v : BitVec 32) {X1 X2 X3 X4 X5 X6 X7 X8 : Fin (k2_t7_loop v).trips → Prop} :
    (k2_t6_loop v).OK ∧ (∀ k : Fin (k2_t6_loop v).trips, ∀ a, o10 p 0 v k a + S1x1x16.size a ≤ S4x128x128.size a) ∧
    (∀ k : Fin (k2_t6_loop v).trips, ∀ a, o10 p 1 v k a + S1x1x16.size a ≤ S4x128x128.size a) ∧
    (∀ k : Fin (k2_t6_loop v).trips, ∀ a, o10 p 2 v k a + S1x1x16.size a ≤ S4x128x128.size a) ∧
    (∀ k : Fin (k2_t6_loop v).trips, ∀ a, o10 p 3 v k a + S1x1x16.size a ≤ S4x128x128.size a) ∧
    (∀ k : Fin (k2_t6_loop v).trips, ∀ a, o10 p 4 v k a + S1x1x16.size a ≤ S4x128x128.size a) ∧
    (∀ k : Fin (k2_t6_loop v).trips, ∀ a, o10 p 5 v k a + S1x1x16.size a ≤ S4x128x128.size a) ∧
    (∀ k : Fin (k2_t6_loop v).trips, ∀ a, o10 p 6 v k a + S1x1x16.size a ≤ S4x128x128.size a) ∧
    (∀ k : Fin (k2_t6_loop v).trips, ∀ a, o10 p 7 v k a + S1x1x16.size a ≤ S4x128x128.size a) ∧
    (k2_t7_loop v).OK ∧ (∀ k, X1 k) ∧ (∀ k, X2 k) ∧ (∀ k, X3 k) ∧ (∀ k, X4 k) ∧ (∀ k, X5 k) ∧ (∀ k, X6 k) ∧ (∀ k, X7 k) ∧ (∀ k, X8 k) := by
  have no : ∀ {X : Fin (k2_t7_loop v).trips → Prop}, ∀ k, X k := fun k => absurd (lt_of_lt_of_eq k.isLt (t7_zero v)) (Nat.not_lt_zero _)
  exact ⟨t6_ok v, fun k => o10_inb hp v k 0 (by omega), fun k => o10_inb hp v k 1 (by omega), fun k => o10_inb hp v k 2 (by omega), fun k => o10_inb hp v k 3 (by omega),
    fun k => o10_inb hp v k 4 (by omega), fun k => o10_inb hp v k 5 (by omega), fun k => o10_inb hp v k 6 (by omega), fun k => o10_inb hp v k 7 (by omega),
    t7_ok v, no, no, no, no, no, no, no, no⟩

end Cert.Sel
-- ==== Proof.Copy.lean ====
/-
  Holding a share of a buffer with known contents (`Shr`), cutting a rectangle out of what is held, and the copies: one
  transfer issued and awaited, and the indexed gather.
-/
module

public import proofs.«01_k».proof.Proof.Own
public import Idealize.ShloMosaic.Lib.Transfers
public import proofs.«01_k».proof.Proof.Segs

@[expose] public section

noncomputable section

namespace Cert.Sel

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {F : FTy → Type} [FloatOps F] {Name : Type} [DecidableEq Name] [Infinite Name]
variable {U : Type} [URA U] {Lvl : Type} [Preorder Lvl] {Λ : Labels}

local notation "𝕄" => MT nD τ sig Ix (Elt F) Name U Lvl

variable {sp : Space} {s t : Shape} {e : EltTy} {α : Type}

/-- A share of the elements of `m`, which hold `v`. -/
def Shr (c : Thread nD τ) (m : Memref sig c.2.kind sp s e) (q : PosShare TreeShare) (v : s.Idx → Elt F e) : sProp 𝕄 :=
  iprop(∃ f : Buf (Elt F) (m.view.loc c), ⌜∀ x, m.view.read (Elt F) f x = v x⌝ ∗ (m.view.loc c ↦[m.view.set]{q} f))

variable {c : Thread nD τ} {m : Memref sig c.2.kind sp s e}

theorem Shr_of_Own {v : s.Idx → Elt F e} : (Own c m Finset.univ v : sProp 𝕄) ⊢ Shr c m fullShare v := by
  unfold Own Shr
  iintro ⟨%f, %hf, H⟩
  iexists f
  isplitr
  · ipureintro; exact fun x => hf x (Finset.mem_univ x)
  · rw [← View.setOn_univ]; iexact H
theorem Own_of_Shr {v : s.Idx → Elt F e} : (Shr c m fullShare v : sProp 𝕄) ⊢ Own c m Finset.univ v := by
  unfold Own Shr
  iintro ⟨%f, %hf, H⟩
  iexists f
  isplitr
  · ipureintro; exact fun x _ => hf x
  · rw [View.setOn_univ]; iexact H

theorem Shr_slice {q : PosShare TreeShare} {v : s.Idx → Elt F e} {r : Rect s} {hr : ∀ a, r.stride a = 1} :
    (Shr c m q v : sProp 𝕄) ⊢ iprop(Shr c (m.slice r hr) q (fun y => v (r.emb y)) ∗ (Shr c (m.slice r hr) q (fun y => v (r.emb y)) -∗ Shr c m q v)) := by
  have hset : (m.slice r hr).view.set ⊆ m.view.set := by
    show (m.view.slice r).set ⊆ _
    rw [View.set_slice]; exact Finset.map_subset_map.mpr (Finset.subset_univ _)
  unfold Shr
  iintro ⟨%f, %hf, H⟩
  ihave H' := (pointsTo_split_subset hset).1 $$ H
  icases H' with ⟨H1, H2⟩
  isplitl [H1]
  · iexists f
    isplitr
    · ipureintro; exact fun y => hf (r.emb y)
    · iexact H1
  · iintro ⟨%g, %hg, H1⟩
    ihave H := (pointsTo_join_subset (ℓ := m.view.loc c) (q := q) (g := g) (f := f) hset) $$ [H1 H2]
    · isplitl [H1] <;> iassumption
    iexists _
    isplitr
    swap; · iexact H
    ipureintro
    intro x
    have hm : m.view.emb x ∈ (m.slice r hr).view.set ↔ x ∈ r.set := by
      show m.view.emb x ∈ (m.view.slice r).set ↔ _
      rw [View.set_slice]; exact View.mem_setOn _
    by_cases hx : x ∈ r.set
    · obtain ⟨y, rfl⟩ := exists_of_mem r hx
      rw [View.read_apply, Finset.piecewise_eq_of_mem _ _ _ (hm.mpr hx)]
      exact hg y
    · rw [View.read_apply, Finset.piecewise_eq_of_notMem _ _ _ (fun h => hx (hm.mp h))]
      exact hf x

theorem Own_slice0 {r : Rect s} {hr : ∀ a, r.stride a = 1} {v : s.Idx → Elt F e} :
    (Own c m r.set v : sProp 𝕄) ⊢ Own c (m.slice r hr) Finset.univ (fun y => v (r.emb y)) := by
  have hs : (m.slice r hr).view.setOn Finset.univ = m.view.setOn r.set := by
    show (m.view.slice r).set = _
    rw [View.set_slice]; rfl
  unfold Own
  iintro ⟨%f, %hf, H⟩
  iexists f
  isplitr
  · ipureintro; exact fun y _ => hf (r.emb y) (emb_mem r _)
  · rw [hs]; iexact H

theorem Own_unslice0 {r : Rect s} {hr : ∀ a, r.stride a = 1} {v : s.Idx → Elt F e} {w : r.shape.Idx → Elt F e}
    (hw : ∀ y, v (r.emb y) = w y) :
    (Own c (m.slice r hr) Finset.univ w : sProp 𝕄) ⊢ Own c m r.set v := by
  have hs : (m.slice r hr).view.setOn Finset.univ = m.view.setOn r.set := by
    show (m.view.slice r).set = _
    rw [View.set_slice]; rfl
  unfold Own
  iintro ⟨%f, %hf, H⟩
  iexists f
  isplitr
  · ipureintro; intro x hx
    obtain ⟨y, rfl⟩ := exists_of_mem r hx
    rw [hw]; exact hf y (Finset.mem_univ y)
  · rw [← hs]; iexact H

theorem Own_slice {S : Finset s.Idx} {r : Rect s} {hr : ∀ a, r.stride a = 1} (hS : r.set ⊆ S) {v : s.Idx → Elt F e} :
    (Own c m S v : sProp 𝕄) ⊢ iprop(Own c (m.slice r hr) Finset.univ (fun y => v (r.emb y)) ∗
      (∀ w, Own c (m.slice r hr) Finset.univ w -∗ Own c m S (upd r v w))) := by
  iintro H
  ihave H' := (Own_split hS) $$ H
  icases H' with ⟨H1, H2⟩
  isplitl [H1]
  · iapply Own_slice0; iexact H1
  · iintro %w H1
    iapply (Own_join (v := v) (w := upd r v w) (u := upd r v w) hS (fun _ _ => rfl) (fun x _ hx => (upd_off r v w x hx).symm))
    isplitl [H1]
    · iapply (Own_unslice0 (hr := hr) (w := w) fun y => upd_emb r v w y); iexact H1
    · iexact H2

/-- Contents `v` overwritten by `w` on a row, `w` by the row's own indices. -/
def updSq (r : Rect s) (s' : Shape) (h : s'.numel = r.shape.numel) (v : s.Idx → Elt F e) (w : s'.Idx → Elt F e) : s.Idx → Elt F e :=
  upd r v fun y => w ((Shape.reshapeEquiv h).symm y)

theorem updSq_sq (r : Rect s) (s' : Shape) (h : s'.numel = r.shape.numel) (v : s.Idx → Elt F e) (w : s'.Idx → Elt F e) (y : s'.Idx) :
    updSq r s' h v w (sqIx r s' h y) = w y := by
  unfold updSq; rw [upd_emb, Equiv.symm_apply_apply]
theorem updSq_off (r : Rect s) (s' : Shape) (h : s'.numel = r.shape.numel) (v : s.Idx → Elt F e) (w : s'.Idx → Elt F e) (x : s.Idx) (hx : x ∉ r.set) :
    updSq r s' h v w x = v x := upd_off _ _ _ _ hx

theorem Own_open {S : Finset s.Idx} {r : Rect s} {hr : ∀ a, r.stride a = 1} {s' : Shape} {h : r.shape.Squeezes s'} (hS : r.set ⊆ S) {v : s.Idx → Elt F e} :
    (Own c m S v : sProp 𝕄) ⊢ iprop(Own c ((m.slice r hr).squeeze s' h) Finset.univ (fun y => v (sqIx r s' h.numel_eq y)) ∗
      (∀ w, Own c ((m.slice r hr).squeeze s' h) Finset.univ w -∗ Own c m S (updSq r s' h.numel_eq v w))) := by
  iintro H
  ihave H' := (Own_split hS) $$ H
  icases H' with ⟨H1, H2⟩
  isplitl [H1]
  · iapply Own_sq; iexact H1
  · iintro %w H1
    iapply (Own_join (v := v) (w := updSq r s' h.numel_eq v w) (u := updSq r s' h.numel_eq v w) hS (fun _ _ => rfl)
      (fun x _ hx => (updSq_off r s' h.numel_eq v w x hx).symm))
    isplitl [H1]
    · iapply (Own_unsq (hr := hr) (w := w) fun y => updSq_sq r s' h.numel_eq v w y); iexact H1
    · iexact H2

variable {defs : Defs nD τ sig (Elt F) Λ} {𝒱 : Variants} {bd : Option 𝒱.V}
variable {Q : α → sProp (MT nD τ sig Ix (Elt F) Name U Lvl)}
variable (EC : UEmb Counters (MT nD τ sig Ix (Elt F) Name U Lvl)) [EC.LandsIn (upEmb : UEmb _ (MT nD τ sig Ix (Elt F) Name U Lvl))]

include EC in
/-- A copy issued and awaited at once. -/
theorem own_copy {sp' : Space} {src : Memref sig c.2.kind sp s e} {dst : Memref sig c.2.kind sp' s e} {sem : DmaSem sig}
    {hsrc : src.view.WordExact} {hdst : dst.view.WordExact} {hsem : DmaTarget.Typed (nD := nD) sp (.dma sem) (.here dst)}
    {hsrc' : src.view.WordExact} {hdst' : dst.view.WordExact}
    {k : PUnit → Prog (TpuEff nD τ sig (Elt F) Λ c.2) α} {q : PosShare TreeShare} {v w : s.Idx → Elt F e} (hs : 0 < s.numel) (ι : Ix)
    {O : CellTallies nD τ sig Ix} {W : Waits sig Ix} :
    iprop(Shr c src q v ∗ Own c dst Finset.univ w ∗ semVal (c, SemLoc.dma sem) 0 ∗ owes c O W ∗ Transfers.MayWaits c ι O)
      ⊢ iprop((Shr c src q v -∗ Own c dst Finset.univ v -∗ semVal (c, SemLoc.dma sem) 0 -∗ owes c O (insert (SemLoc.dma sem, ι) W)
          -∗ wp frame (wpE defs 𝒱 c bd) Set.univ (k ⟨⟩) Q)
        -∗ wp frame (wpE defs 𝒱 c bd) Set.univ (.op (.enqueueDma src (.here dst) (.dma sem) hsrc hdst hsem) fun _ => .op (.waitDma2 sem src dst hsrc' hdst') k) Q) := by
  unfold Shr Own
  iintro ⟨⟨%f, %hf, Hs⟩, ⟨%g, %hg, Hd⟩, Hv, HO, #Hmw⟩ Hk
  iapply (Transfers.wp_dmaLocal EC 𝒱 c bd ι dst.view.dmaCredit (rfl : dst.view.amount (.dma sem) = _) (View.dmaCredit_pos _ hs)
    (Sd := dst.view.setOn Finset.univ) (Finset.Subset.refl _)) $$ [Hs Hd Hv]
  · isplitl [Hs]; · iexact Hs
    isplitl [Hd]; · iexact Hd
    iexact Hv
  iintro Hfl
  iapply (Transfers.wp_waitLocalO EC 𝒱 c bd ι (rfl : dst.view.dmaCredit = _)) $$ [Hfl HO]
  · isplitl [Hfl]; · iexact Hfl
    isplitl [HO]; · iexact HO
    iapply (Transfers.MayWaits.elim (SemLoc.dma sem)) $$ Hmw
  iintro ⟨⟨Hd, Hs⟩, Hv, HO⟩
  iapply Hk $$ [Hs] [Hd] Hv HO
  · iexists f
    isplitr; · ipureintro; exact hf
    iexact Hs
  · iexists _
    isplitr
    swap; · iexact Hd
    ipureintro; intro x _
    rw [View.read_write_univ]
    exact hf x

/-- What the gather leaves: entry `(a, b)` of its destination is entry `b` of the listed row. -/
def Gathered (v : Cert.KernelIdeal.S3211264x128.Idx → Elt F .f32) (ix : Cert.KernelIdeal.S128.Idx → BitVec 32)
    (w : Cert.KernelIdeal.S128x128.Idx → Elt F .f32) : Prop :=
  ∀ (y : Cert.KernelIdeal.S128x128.Idx) (z : Cert.KernelIdeal.S3211264x128.Idx) (l : Cert.KernelIdeal.S128.Idx),
    (l 0).val = (y 0).val → (z 0).val = (ix l).toNat → (z 1).val = (y 1).val → w y = v z

end Cert.Sel
-- ==== Proof.Rules.lean ====
/-
  The stretches of the subcore's program (`Segs`), each with what it does to the buffers: one rule a stretch, for any
  row and any ring slot.
-/
module

public import proofs.«01_k».proof.Proof.Inv
public import proofs.«01_k».proof.Proof.Copy

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UH : Type := URounds (GSem nD τ sig) ℕ
abbrev UP : Type := URounds (GSem nD τ sig) Unit
abbrev UU : Type := UH × (UP × Counters)
abbrev 𝒱₀ : Variants := Variants.none

local notation "𝕄" => MT nD τ sig (HIx 1) (Elt F) ℕ UU ℕ

abbrev cV (i : grid2.Coords) : Fin τ.nSC := (i 0).castLE hcore2
abbrev jV (i : grid2.Coords) : Fin τ.nSub := (i 1).castLE hsub2
abbrev cT (d : Dev nD) (i : grid2.Coords) : Thread nD τ := V d (cV i) (jV i)

variable {d : Dev nD} {i : grid2.Coords} {α : Type}

abbrev Wp (d : Dev nD) (i : grid2.Coords) (prog : PR (F := F) i α) (Q : α → sProp 𝕄) : sProp 𝕄 :=
  wp frame (wpE (defs₀ (F := F)) 𝒱₀ (cT d i) none) Set.univ prog Q

/-- `Own` at this subcore. -/
abbrev Ow (d : Dev nD) (i : grid2.Coords) {sp : Space} {s : Shape} {e : EltTy} (m : Memref sig .scVector sp s e) (S : Finset s.Idx) (v : s.Idx → Elt F e) : sProp 𝕄 :=
  Own (c := cT d i) m S v
abbrev Sh (d : Dev nD) (i : grid2.Coords) {sp : Space} {s : Shape} {e : EltTy} (m : Memref sig .scVector sp s e) (q : PosShare TreeShare) (v : s.Idx → Elt F e) : sProp 𝕄 :=
  Shr (c := cT d i) m q v

theorem credit_sum (p : Nat) (hp : p < 4) : ∑ j, ((A10r p hp).slice (S128x128.rowRect gathers_S3211264x128_S128x128.axis' j) (S128x128.stride_rowRect _ j)).view.dmaCredit = (A10r p hp).view.dmaCredit := by
  match p, hp with
  | 0, _ => decide +revert
  | 1, _ => decide +revert
  | 2, _ => decide +revert
  | 3, _ => decide +revert

theorem own_gather {p : Nat} {hp : p < 4} {sem : DmaSem sig} {q : PosShare TreeShare} {v : S3211264x128.Idx → F .f32} {w : S128x128.Idx → F .f32}
    {ix : S128.Idx → BitVec 32} (hin : ∀ y, (ix y).toNat < 3211264) {k : PUnit → PR (F := F) i α} {Q : α → sProp 𝕄} :
    iprop(Sh d i A2w q v ∗ Ow d i (A10r p hp) Finset.univ w ∗ Ow d i (A9r p hp) Finset.univ ix ∗ semVal (cT d i, SemLoc.dma sem) 0)
      ⊢ iprop((∀ D : sProp 𝕄, ⌜D ⊢ iprop((∃ w', ⌜Gathered v ix w'⌝ ∗ Ow d i (A10r p hp) Finset.univ w') ∗ Sh d i A2w q v ∗ Ow d i (A9r p hp) Finset.univ ix)⌝
            -∗ Transfers.Flight countersEmb (cT d i) (.dma sem) (default : HIx 1) (A10r p hp).view.dmaCredit D -∗ Wp d i (k ⟨⟩) Q)
          -∗ Wp d i (.op (gather rfl A2w (A10r p hp) (A9r p hp) sem) k) Q) := by
  unfold Ow Sh Own Shr
  iintro ⟨⟨%fs, %hfs, Hs⟩, ⟨%fd, %hfd, Hd⟩, ⟨%fo, %hfo, Ho⟩, Hv⟩ Hk
  have hix : (A9r p hp).view.read (Elt F) fo = ix := funext fun x => hfo x (Finset.mem_univ x)
  have hin' : ∀ x, ((A9r p hp).view.read (Elt F) fo x).toNat < S3211264x128.size gathers_S3211264x128_S128x128.axis := by
    intro x; rw [hix]; exact hin x
  iapply (SparseCore.wp_indirectGatherLocal countersEmb 𝒱₀ (cT d i) none (hg := gathers_S3211264x128_S128x128) (hn := rfl) (hp := rfl) (hsrc := View.wordExact_bits rfl)
      (he := rfl) (hsp := Or.inl rfl) (hr := by decide) (src := A2w) (dst := A10r p hp) (offs := A9r p hp) (default : HIx 1)
      (A10r p hp).view.dmaCredit (credit_sum p hp) (by decide) hin') $$ [Hs Hd Ho Hv]
  · isplitl [Hs]; · iexact Hs
    isplitl [Hd]; · iexact Hd
    isplitl [Ho]; · iexact Ho
    iexact Hv
  iintro Hfl
  iapply Hk $$ [] Hfl
  ipureintro
  iintro ⟨Hd, Hs, Ho⟩
  isplitl [Hd]
  · iexists _
    isplitr
    swap
    · iexists _
      isplitr
      swap; · iexact Hd
      ipureintro; intro x _
      rw [View.read_write_univ]
    · ipureintro
      intro y z l hl hz0 hz1
      show A2w.view.read (Elt F) fs _ = _
      rw [hfs]
      congr 1
      have hll : S128.rowMajor.symm ((y 0).cast (by decide)) = l := by
        rw [Equiv.symm_apply_eq]; apply Fin.ext
        rw [Shape.rowMajor_val_one]; exact hl.symm
      funext a
      match a with
      | 0 =>
        apply Fin.ext
        have := Shape.Gathers.idx_axis gathers_S3211264x128_S128x128 (SparseCore.rows ((A9r p hp).view.read (Elt F) fo) rfl hin') y
        refine (congrArg Fin.val this).trans ?_
        show ((A9r p hp).view.read (Elt F) fo _).toNat = _
        rw [hix, hz0]; exact congrArg (fun l => (ix l).toNat) hll
      | 1 =>
        apply Fin.ext
        refine (Shape.Gathers.idx_of_ne gathers_S3211264x128_S128x128 _ y 1 (by decide)).trans ?_
        rw [hz1]; rfl
  isplitl [Hs]
  · iexists fs
    isplitr; · ipureintro; exact hfs
    iexact Hs
  · iexists fo
    isplitr; · ipureintro; exact hfo
    iexact Ho

end Cert.Sel
-- ==== Proof.Rows.lean ====
/-
  The state between two stretches of the subcore's program, and the rules for the stretches over it: the buffers' contents
  are existential, with what is known of them (`Inv`) beside them; a ring slot is free, in flight, or holds what its
  gather brought.
-/
module

public import proofs.«01_k».proof.Proof.Rules

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {i : grid2.Coords} {α : Type}

/-! ## The rectangles' elements -/

theorem mem_r8 {p x : Nat} {hp : p < 4} {hx : x < 8} {y : S4x128.Idx} : y ∈ (r8 p x hp hx).set ↔ (y 0).val = p ∧ 16 * x ≤ (y 1).val ∧ (y 1).val < 16 * (x + 1) := by
  rw [Rect.mem_set_unit, Fin.forall_fin_two]
  simp [S1x16]
  omega
theorem mem_rRow {p : Nat} {hp : p < 4} {y : S4x128.Idx} : y ∈ (rRow p hp).set ↔ (y 0).val = p := by
  have := (y 1).isLt
  rw [Rect.mem_set_unit, Fin.forall_fin_two]
  simp [S1x128, S4x128] at this ⊢
  omega
theorem mem_rRow3 {p : Nat} {hp : p < 4} {y : S4x128x128.Idx} : y ∈ (rRow3 p hp).set ↔ (y 0).val = p := by
  have h1 := (y 1).isLt
  have h2 := (y 2).isLt
  rw [Rect.mem_set_unit]
  simp [Fin.forall_fin_succ, S1x128x128, S4x128x128] at h1 h2 ⊢
  omega
theorem mem_r512 {x : Nat} {hx : x < 32} {y : S512.Idx} : y ∈ (r512 x hx).set ↔ 16 * x ≤ (y 0).val ∧ (y 0).val < 16 * (x + 1) := by
  rw [Rect.mem_set_unit]
  simp [S16]
  omega
theorem mem_r256 {j x : Nat} {hj : j < 16} {hx : x < 16} {y : S16x256.Idx} : y ∈ (r256 j x hj hx).set ↔ (y 0).val = j ∧ 16 * x ≤ (y 1).val ∧ (y 1).val < 16 * (x + 1) := by
  rw [Rect.mem_set_unit, Fin.forall_fin_two]
  simp [S1x16]
  omega

theorem upd_const {s : Shape} {e : EltTy} (r : Rect s) (v : s.Idx → Elt F e) (w : r.shape.Idx → Elt F e) (c : Elt F e) (hw : ∀ y, w y = c) (x : s.Idx) [Decidable (x ∈ r.set)] :
    upd r v w x = if x ∈ r.set then c else v x := by
  split
  · obtain ⟨y, rfl⟩ := exists_of_mem r ‹_›
    rw [upd_emb, hw]
  · rw [upd_off _ _ _ _ ‹_›]

theorem r8_row {p x : Nat} {hp : p < 4} {hx : x < 8} : (r8 p x hp hx).set ⊆ (rRow p hp).set :=
  fun _ h => mem_rRow.mpr (mem_r8.mp h).1

theorem cast16 {e : EltTy} (ld : Vec F S1x16 e) (x : S16.Idx) : shapeCast S16 ld shapeCasts_S1x16_S16 x = ld (fun | 0 => ⟨0, by decide⟩ | 1 => x 0) := by
  show ld (Shape.reshapeEquiv _ x) = _
  refine congrArg ld ((Shape.reshapeEquiv_cons_one (n := 1) (d := ![16]) _ x).trans ?_)
  funext a; match a with
  | 0 => rfl
  | 1 => rfl
theorem cast16' {e : EltTy} (ld : Vec F S1x1x16 e) (x : S16.Idx) : shapeCast S16 ld shapeCasts_S1x1x16_S16 x = ld (fun | 0 => ⟨0, by decide⟩ | 1 => ⟨0, by decide⟩ | 2 => x 0) := by
  show ld (Shape.reshapeEquiv _ x) = _
  refine congrArg ld ?_
  rw [← Shape.reshapeEquiv_reshapeEquiv (s' := S1x16) (by decide) (by decide), Shape.reshapeEquiv_cons_one (n := 1) (d := ![16]), Shape.reshapeEquiv_cons_one (n := 2) (d := ![1, 16])]
  funext a; match a with
  | 0 => rfl
  | 1 => rfl
  | 2 => rfl

theorem sq8 {p : Nat} {hp : p < 4} (y : S128.Idx) : sqIx (rRow p hp) S128 squeezes_S1x128_S128.numel_eq y = (fun | 0 => ⟨p, hp⟩ | 1 => y 0) := by
  unfold sqIx
  rw [Shape.reshapeEquiv_cons_one (n := 1) (d := ![128])]
  funext a; match a with
  | 0 => apply Fin.ext; show p + 1 * 0 = p; omega
  | 1 => apply Fin.ext; show 0 + 1 * (y 0).val = (y 0).val; omega
theorem sq3 {p : Nat} {hp : p < 4} (y : S128x128.Idx) : sqIx (rRow3 p hp) S128x128 squeezes_S1x128x128_S128x128.numel_eq y = (fun | 0 => ⟨p, hp⟩ | 1 => y 0 | 2 => y 1) := by
  unfold sqIx
  rw [Shape.reshapeEquiv_cons_one (n := 2) (d := ![128, 128])]
  funext a; match a with
  | 0 => apply Fin.ext; show p + 1 * 0 = p; omega
  | 1 => apply Fin.ext; show 0 + 1 * (y 0).val = (y 0).val; omega
  | 2 => apply Fin.ext; show 0 + 1 * (y 1).val = (y 1).val; omega

/-! ## The fills -/

variable {Q : α → sProp (MT nD τ sig (HIx 1) (Elt F) ℕ UU ℕ)}

theorem wp_fill8 {p : Nat} {hp : p < 4} {K : PUnit → PR (F := F) i α} {R : sProp 𝕄} : ∀ (fuel x : Nat) (hx : x + fuel ≤ 8) (u : PUnit) (v8 : S4x128.Idx → BitVec 32),
    (∀ v8' : S4x128.Idx → BitVec 32, (∀ y, v8' y = if (y 0).val = p ∧ 16 * x ≤ (y 1).val ∧ (y 1).val < 16 * (x + fuel) then 783#32 else v8 y) →
      (iprop(Ow d i A8 Finset.univ v8' ∗ R) ⊢ Wp d i (K ⟨⟩) Q)) →
    (iprop(Ow d i A8 Finset.univ v8 ∗ R) ⊢ Wp d i (fill8 p hp K fuel x hx u) Q)
  | 0, x, hx, u, v8, hK => hK v8 fun y => by rw [if_neg]; omega
  | fuel + 1, x, hx, u, v8, hK => by
    unfold fill8
    refine own_load (Finset.subset_univ _) ?_
    refine own_store (Finset.subset_univ _) ?_
    refine wp_fill8 fuel (x + 1) (by omega) _ _ fun v8' hv => hK v8' fun y => ?_
    rw [hv, upd_const (F := F) (e := .i32) _ _ _ 783#32 ?_]
    · simp only [mem_r8]
      split <;> split <;> (try split) <;> first | rfl | omega
    · exact fun _ => rfl

theorem wp_fill32 {K : PUnit → PR (F := F) i α} {R : sProp 𝕄} : ∀ (fuel x : Nat) (hx : x + fuel ≤ 32) (u : PUnit) (v : S512.Idx → F .f32),
    (∀ v' : S512.Idx → F .f32, (∀ y, v' y = if 16 * x ≤ (y 0).val ∧ (y 0).val < 16 * (x + fuel) then neg else v y) →
      (iprop(Ow d i A13 Finset.univ v' ∗ R) ⊢ Wp d i (K ⟨⟩) Q)) →
    (iprop(Ow d i A13 Finset.univ v ∗ R) ⊢ Wp d i (fill32 K fuel x hx u) Q)
  | 0, x, hx, u, v, hK => hK v fun y => by rw [if_neg]; omega
  | fuel + 1, x, hx, u, v, hK => by
    unfold fill32
    refine own_load (Finset.subset_univ _) ?_
    refine own_store (Finset.subset_univ _) ?_
    refine wp_fill32 fuel (x + 1) (by omega) _ _ fun v' hv => hK v' fun y => ?_
    rw [hv, upd_const _ _ _ neg ?_]
    · simp only [mem_r512]
      split <;> split <;> (try split) <;> first | rfl | omega
    · exact fun _ => rfl

theorem wp_fill16 {j : Nat} {hj : j < 16} {K : PUnit → PR (F := F) i α} {R : sProp 𝕄} : ∀ (fuel x : Nat) (hx : x + fuel ≤ 16) (u : PUnit) (v : S16x256.Idx → F .f32),
    (∀ v' : S16x256.Idx → F .f32, (∀ y, v' y = if (y 0).val = j ∧ 16 * x ≤ (y 1).val ∧ (y 1).val < 16 * (x + fuel) then neg else v y) →
      (iprop(Ow d i A11 Finset.univ v' ∗ R) ⊢ Wp d i (K ⟨⟩) Q)) →
    (iprop(Ow d i A11 Finset.univ v ∗ R) ⊢ Wp d i (fill16 j hj K fuel x hx u) Q)
  | 0, x, hx, u, v, hK => hK v fun y => by rw [if_neg]; omega
  | fuel + 1, x, hx, u, v, hK => by
    unfold fill16
    refine own_load (Finset.subset_univ _) ?_
    refine own_store (Finset.subset_univ _) ?_
    refine wp_fill16 fuel (x + 1) (by omega) _ _ fun v' hv => hK v' fun y => ?_
    rw [hv, upd_const _ _ _ neg ?_]
    · simp only [mem_r256]
      split <;> split <;> (try split) <;> first | rfl | omega
    · exact fun _ => rfl

theorem shift16 (ld : Vec F S1x16 .i32) (base : BitVec 32) (z : S1x16.Idx) :
    shapeCast S1x16 (addi (shapeCast S16 ld shapeCasts_S1x16_S16 : IVec S16 32) (broadcast S16 base) : IVec S16 32) shapeCasts_S16_S1x16 z = ld z + base := by
  show ld (Shape.reshapeEquiv _ (Shape.reshapeEquiv _ z)) + base = _
  rw [Shape.reshapeEquiv_reshapeEquiv, Shape.reshapeEquiv_self]

theorem wp_abs8 {p : Nat} {hp : p < 4} {base : BitVec 32} {K : PUnit → PR (F := F) i α} {R : sProp 𝕄} {v8 : S4x128.Idx → BitVec 32} :
    ∀ (fuel x : Nat) (hx : x + fuel ≤ 8) (u : PUnit) (v9 : S4x128.Idx → BitVec 32),
    (∀ v9' : S4x128.Idx → BitVec 32, (∀ y, v9' y = if (y 0).val = p ∧ 16 * x ≤ (y 1).val ∧ (y 1).val < 16 * (x + fuel) then v8 y + base else v9 y) →
      (iprop(Ow d i A8 Finset.univ v8 ∗ Ow d i A9 (rRow p hp).set v9' ∗ R) ⊢ Wp d i (K ⟨⟩) Q)) →
    (iprop(Ow d i A8 Finset.univ v8 ∗ Ow d i A9 (rRow p hp).set v9 ∗ R) ⊢ Wp d i (abs8 p hp base K fuel x hx u) Q)
  | 0, x, hx, u, v, hK => hK v fun y => by rw [if_neg]; omega
  | fuel + 1, x, hx, u, v, hK => by
    have key : ∀ w : (r8 p x hp (by omega)).shape.Idx → BitVec 32, (∀ z, w z = v8 ((r8 p x hp (by omega)).emb z) + base) →
        (iprop(Ow d i A8 Finset.univ v8 ∗ Ow d i A9 (rRow p hp).set (upd (F := F) (e := .i32) (r8 p x hp (by omega)) v w) ∗ R)
          ⊢ Wp d i (abs8 p hp base K fuel (x + 1) (by omega) ⟨⟩) Q) := by
      intro w hc
      refine wp_abs8 fuel (x + 1) (by omega) ⟨⟩ _ fun v' hv => hK v' fun y => ?_
      rw [hv]
      by_cases hy : y ∈ (r8 p x hp (by omega)).set
      · obtain ⟨z, rfl⟩ := exists_of_mem _ hy
        rw [upd_emb, hc]
        have := mem_r8.mp hy
        rw [if_neg (by omega), if_pos (by omega)]
      · rw [upd_off _ _ _ _ hy]
        have := mt mem_r8.mpr hy
        split <;> split <;> first | rfl | omega
    unfold abs8
    refine own_load (Finset.subset_univ _) ?_
    refine .trans sep_left_comm.1 ?_
    refine own_load r8_row ?_
    refine own_store r8_row ?_
    refine .trans sep_left_comm.1 ?_
    exact key _ (shift16 (F := F) (fun y => v8 ((r8 p x hp (by omega)).emb y)) base)

end Cert.Sel
-- ==== Proof.State.lean ====
/-
  The state between two stretches of the subcore's program, and the rules for the stretches over it: the buffers' contents
  are existential, with what is known of them (`Inv`) beside them; a ring slot is free, in flight, or holds what its
  gather brought.
-/
module

public import proofs.«01_k».proof.Proof.Rows

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The contents that do not change while a group is worked on -/

def tvF (E : Env F) (B : Nat) : S128.Idx → F .f32 := fun x => E.tau (B + (x 0).val)
def bmF (E : Env F) (R : Nat) : S16x784.Idx → F .f32 := fun x => E.bm (R + (x 0).val) (x 1).val
def scF (E : Env F) : S3211264x128.Idx → F .f32 := fun x => E.sc (x 0).val (x 1).val

/-- What a subcore keeps throughout: whose thread it is, the data, its first row, the shares of the scores of its four
    slots, what it owes. -/
structure Tile (F : FTy → Type) where
  d : Dev nD
  i : grid2.Coords
  E : Env F
  B : Nat
  hB : B ≤ 3968
  q : Nat → PosShare TreeShare
  O : CellTallies nD τ sig (HIx 1)
  W : Waits sig (HIx 1)

variable (X : Tile F) (g : Nat) {α : Type}

/-- Row `j` of the group `g`. -/
abbrev Rw (j : Nat) : Nat := X.B + 16 * g + j

/-- The buffers read only, what is owed, and what is set aside (`Y`). -/
def Base (Y : sProp 𝕄) : sProp 𝕄 :=
  iprop(Ow X.d X.i A15 Finset.univ (tvF X.E X.B) ∗ Ow X.d X.i A7 Finset.univ (bmF X.E (X.B + 16 * g)) ∗ Transfers.MayWaits (cT X.d X.i) (default : HIx 1) X.O
    ∗ (∃ W', ⌜∀ p ∈ W', p ∈ X.W ∨ p.2 = none⌝ ∗ owes (cT X.d X.i) X.O W') ∗ Y)

/-! ## The ring -/

inductive Stt where
  | free
  | busy (R : Nat) (row : S128.Idx → BitVec 32)
  | ready (R : Nat) (row : S128.Idx → BitVec 32)

def semOf : Nat → DmaSem sig
  | 0 => cc2_scratch9.sem
  | 1 => cc2_scratch10.sem
  | 2 => cc2_scratch11.sem
  | _ => cc2_scratch12.sem

/-- A slot's index list, and its gathered rows: those the block list `row` of row `R` names. -/
def Full (p : Nat) (hp : p < 4) (R : Nat) (row : S128.Idx → BitVec 32) : sProp 𝕄 :=
  iprop((∃ w, Ow X.d X.i A9 (rRow p hp).set w)
    ∗ (∃ v, ⌜∀ x : S4x128x128.Idx, (x 0).val = p → v x = X.E.sc (R * 784 + ent row (x 1).val) (x 2).val⌝ ∗ Ow X.d X.i A10 (rRow3 p hp).set v)
    ∗ Sh X.d X.i A2w (X.q p) (scF X.E))

def Slot (p : Nat) (hp : p < 4) : Stt → sProp 𝕄
  | .free => iprop((∃ w, Ow X.d X.i A9 (rRow p hp).set w) ∗ (∃ w, Ow X.d X.i A10 (rRow3 p hp).set w) ∗ Sh X.d X.i A2w (X.q p) (scF X.E) ∗ semVal (cT X.d X.i, SemLoc.dma (semOf p)) 0)
  | .busy R row => iprop(∃ D : sProp 𝕄, ⌜D ⊢ Full X p hp R row⌝ ∗ Transfers.Flight countersEmb (cT X.d X.i) (.dma (semOf p)) (default : HIx 1) (A10r p hp).view.dmaCredit D)
  | .ready R row => iprop(Full X p hp R row ∗ semVal (cT X.d X.i, SemLoc.dma (semOf p)) 0)

theorem Slot_free {p : Nat} {hp : p < 4} : (Slot X p hp .free : sProp 𝕄) = iprop((∃ w, Ow X.d X.i A9 (rRow p hp).set w) ∗ (∃ w, Ow X.d X.i A10 (rRow3 p hp).set w) ∗ Sh X.d X.i A2w (X.q p) (scF X.E) ∗ semVal (cT X.d X.i, SemLoc.dma (semOf p)) 0) := rfl
theorem Slot_busy {p : Nat} {hp : p < 4} {R : Nat} {row : S128.Idx → BitVec 32} : (Slot X p hp (.busy R row) : sProp 𝕄) = iprop(∃ D : sProp 𝕄, ⌜D ⊢ Full X p hp R row⌝ ∗ Transfers.Flight countersEmb (cT X.d X.i) (.dma (semOf p)) (default : HIx 1) (A10r p hp).view.dmaCredit D) := rfl
theorem Slot_ready {p : Nat} {hp : p < 4} {R : Nat} {row : S128.Idx → BitVec 32} : (Slot X p hp (.ready R row) : sProp 𝕄) = iprop(Full X p hp R row ∗ semVal (cT X.d X.i, SemLoc.dma (semOf p)) 0) := rfl

def Slots (s : Nat → Stt) : sProp 𝕄 :=
  iprop(Slot X 0 (by decide) (s 0) ∗ Slot X 1 (by decide) (s 1) ∗ Slot X 2 (by decide) (s 2) ∗ Slot X 3 (by decide) (s 3))

theorem Slots_at (s : Nat → Stt) (p : Nat) (hp : p < 4) :
    (Slots X s : sProp 𝕄) ⊢ iprop(Slot X p hp (s p) ∗ ∀ t, Slot X p hp t -∗ Slots X (Function.update s p t)) := by
  unfold Slots
  match p, hp with
  | 0, _ =>
    iintro ⟨H0, H1, H2, H3⟩
    isplitl [H0]; · iexact H0
    iintro %t H
    isplitl [H]; · iexact H
    isplitl [H1]; · iexact H1
    isplitl [H2]; · iexact H2
    iexact H3
  | 1, _ =>
    iintro ⟨H0, H1, H2, H3⟩
    isplitl [H1]; · iexact H1
    iintro %t H
    isplitl [H0]; · iexact H0
    isplitl [H]; · iexact H
    isplitl [H2]; · iexact H2
    iexact H3
  | 2, _ =>
    iintro ⟨H0, H1, H2, H3⟩
    isplitl [H2]; · iexact H2
    iintro %t H
    isplitl [H0]; · iexact H0
    isplitl [H1]; · iexact H1
    isplitl [H]; · iexact H
    iexact H3
  | 3, _ =>
    iintro ⟨H0, H1, H2, H3⟩
    isplitl [H3]; · iexact H3
    iintro %t H
    isplitl [H0]; · iexact H0
    isplitl [H1]; · iexact H1
    isplitl [H2]; · iexact H2
    iexact H

/-! ## The block lists -/

abbrev Lists := Nat → Option (Nat × IVec S16 32 × (S128.Idx → BitVec 32))

def LFact (l : Lists) (v8 : S4x128.Idx → BitVec 32) : Prop :=
  ∀ p R ptr row, l p = some (R, ptr, row) → (∀ x : S4x128.Idx, (x 0).val = p → v8 x = row (fun | 0 => x 1)) ∧ I2 X.E R 784 ptr row

def Lst (l : Lists) : sProp 𝕄 := iprop(∃ v8, ⌜LFact X l v8⌝ ∗ Ow X.d X.i A8 Finset.univ v8)
/-- Row `p` all 783. -/
def LstA (l : Lists) (p : Nat) : sProp 𝕄 := iprop(∃ v8, ⌜LFact X l v8 ∧ ∀ x : S4x128.Idx, (x 0).val = p → v8 x = 783#32⌝ ∗ Ow X.d X.i A8 Finset.univ v8)

/-! ## The result's rows and the staging buffer -/

def OutP (n : Nat) : sProp 𝕄 :=
  iprop(∃ v11 v12, ⌜∀ j < n, RowOK X.E (Rw X g j) j v11 v12⌝ ∗ Ow X.d X.i A11 Finset.univ v11 ∗ Ow X.d X.i A12 Finset.univ v12)
def OutF (n : Nat) : sProp 𝕄 :=
  iprop(∃ v11 v12, ⌜(∀ j < n, RowOK X.E (Rw X g j) j v11 v12) ∧ ∀ x : S16x256.Idx, (x 0).val = n → v11 x = neg⌝
    ∗ Ow X.d X.i A11 Finset.univ v11 ∗ Ow X.d X.i A12 Finset.univ v12)

def StgAny : sProp 𝕄 := iprop(∃ v13 v14, Ow X.d X.i A13 Finset.univ v13 ∗ Ow X.d X.i A14 Finset.univ v14)
def StgF : sProp 𝕄 := iprop(∃ v13 v14, ⌜∀ y, v13 y = neg⌝ ∗ Ow X.d X.i A13 Finset.univ v13 ∗ Ow X.d X.i A14 Finset.univ v14)
def StgR (R : Nat) : sProp 𝕄 :=
  iprop(∃ v13 v14, ⌜∃ ptr row cnt, I2 X.E R 784 ptr row ∧ I6 X.E R row (8 * (k2_t6_loop (lmax ptr)).trips) cnt v13 v14⌝
    ∗ Ow X.d X.i A13 Finset.univ v13 ∗ Ow X.d X.i A14 Finset.univ v14)

def Gs (Y L Sl O T : sProp 𝕄) : sProp 𝕄 := iprop(Base X g Y ∗ L ∗ Sl ∗ O ∗ T)

/-! ## The rules -/

variable {X} {g} {Q : α → sProp (MT nD τ sig (HIx 1) (Elt F) ℕ UU ℕ)} {Y L Sl O T : sProp (MT nD τ sig (HIx 1) (Elt F) ℕ UU ℕ)}

theorem whole_read {s : Shape} {e : EltTy} (v : s.Idx → Elt F e) : (fun y => v ((Rect.whole s).emb y)) = v := funext fun y => congrArg v (Rect.emb_whole_apply s y)

/-- A load of everything. -/
theorem own_loadW' {α : Type} {c : Thread nD τ} {s : Shape} {e : EltTy} {sp : CoreSpace} {m : Memref sig c.2.kind sp s e} {v : s.Idx → Elt F e} {hl : m.view.LoadsAt (Rect.whole s)}
    {defs : Defs nD τ sig (Elt F) Λ₀} {𝒱 : Variants} {bd : Option _} {k : Vec F s e → Prog (TpuEff nD τ sig (Elt F) Λ₀ c.2) α} {Q : α → sProp 𝕄} :
    (Own c m Finset.univ v : sProp 𝕄) ⊢ iprop((Own c m Finset.univ v -∗ wp frame (wpE defs 𝒱 c bd) Set.univ (k v) Q)
      -∗ wp frame (wpE defs 𝒱 c bd) Set.univ (.op (.load m (LoadRect.whole s) hl) k) Q) := by
  have h := own_load' (F := F) (c := c) (m := m) (defs := defs) (𝒱 := 𝒱) (bd := bd) (Q := Q) (v := v) (k := k) (hl := hl) (r := Rect.whole s) (Finset.subset_univ _)
  rw [whole_read] at h
  exact h

theorem ruleA {l : Lists} (prog : PR (F := F) X.i α) (p : Nat) (hp : p < 4) (P : Prop) (dP : Decidable P) (K) (h : prog = segA p hp P dP K) (hP : P) (hl : l p = none)
    (hK : ∀ w, Gs X g Y (LstA X l p) Sl O T ⊢ Wp X.d X.i (K w (tvF X.E X.B) ⟨⟩) Q) : Gs X g Y (Lst X l) Sl O T ⊢ Wp X.d X.i prog Q := by
  subst h
  unfold Gs Lst segA Base
  iintro ⟨⟨H15, H7, #Hmw, HO⟩, ⟨%v8, %hv8, H8⟩, HR⟩
  iapply (wp_assume (defs := defs₀ (F := F)) 𝒱₀ (cT X.d X.i) none Set.univ (Q := Q) hP)
  iapply (own_loadW' (defs := defs₀ (F := F)) (𝒱 := 𝒱₀) (bd := none) (Q := Q)) $$ H15
  iintro H15
  iapply (wp_fill8 (Q := Q) (v8 := v8) (R := iprop(Base X g Y ∗ Sl ∗ O ∗ T)) 8 0 _ ⟨⟩ fun v8' hv => ?_)
  · refine .trans ?_ (hK ⟨hP⟩)
    unfold Gs LstA
    iintro ⟨H8, HB, HR⟩
    isplitl [HB]; · iexact HB
    isplitl [H8]
    · iexists v8'
      isplitr
      · ipureintro
        refine ⟨fun p' R ptr row hs => ?_, fun x hx => ?_⟩
        · have hne : p' ≠ p := fun e => by rw [e, hl] at hs; cases hs
          refine ⟨fun x hx => ?_, (hv8 p' R ptr row hs).2⟩
          rw [hv, if_neg (by omega)]; exact (hv8 p' R ptr row hs).1 x hx
        · have := (x 1).isLt
          simp [S4x128] at this
          rw [hv, if_pos (by omega)]
      · iexact H8
    · iexact HR
  · isplitl [H8]; · iexact H8
    isplitr [HR]
    · unfold Base
      isplitl [H15]; · iexact H15
      isplitl [H7]; · iexact H7
      isplitr; · iexact Hmw
      iexact HO
    · iexact HR

theorem ruleC {s : Nat → Stt} {R : Nat} {row : S128.Idx → BitVec 32} (prog : PR (F := F) X.i α) (p : Nat) (hp : p < 4) (sm : DmaSem sig) (P : Prop) (dP : Decidable P) (K)
    (h : prog = segC p hp sm P dP K) (hP : P) (hsm : sm = semOf p) (hs : s p = .busy R row)
    (hK : ∀ w, Gs X g Y L (Slots X (Function.update s p (.ready R row))) O (StgF X) ⊢ Wp X.d X.i (K w (tvF X.E X.B) ⟨⟩) Q) :
    Gs X g Y L (Slots X s) O (StgAny X) ⊢ Wp X.d X.i prog Q := by
  subst h; subst hsm
  have hb : (Slot X p hp (s p) : sProp 𝕄) ⊢ iprop(∃ D : sProp 𝕄, ⌜D ⊢ Full X p hp R row⌝ ∗ Transfers.Flight countersEmb (cT X.d X.i) (.dma (semOf p)) (default : HIx 1) (A10r p hp).view.dmaCredit D) := by
    rw [hs, Slot_busy]
  have hr : (iprop(Full X p hp R row ∗ semVal (cT X.d X.i, SemLoc.dma (semOf p)) 0) : sProp 𝕄) ⊢ Slot X p hp (.ready R row) := by
    rw [Slot_ready]
  unfold Gs segC Base StgAny
  iintro ⟨⟨H15, H7, #Hmw, ⟨⟨%W', %hW, HO⟩, HY⟩⟩, HL, HS, HR, ⟨%v13, %v14, H13, H14⟩⟩
  ihave HS' := (Slots_at X s p hp) $$ HS
  icases HS' with ⟨Hs, HSc⟩
  ihave Hs' := hb $$ Hs
  icases Hs' with ⟨%D, %hD, Hfl⟩
  iapply (Transfers.wp_waitLocalO countersEmb 𝒱₀ (cT X.d X.i) none (default : HIx 1) (rfl : (A10r p hp).view.dmaCredit = _)) $$ [Hfl HO]
  · isplitl [Hfl]; · iexact Hfl
    isplitl [HO]; · iexact HO
    iapply (Transfers.MayWaits.elim (SemLoc.dma (semOf p))) $$ Hmw
  iintro ⟨HD, Hv, HO⟩
  ihave HF := hD $$ HD
  ihave HS := HSc $$ %(Stt.ready R row) [HF Hv]
  · iapply hr
    isplitl [HF]; · iexact HF
    iexact Hv
  iapply (wp_assume (defs := defs₀ (F := F)) 𝒱₀ (cT X.d X.i) none Set.univ (Q := Q) hP)
  iapply (own_loadW' (defs := defs₀ (F := F)) (𝒱 := 𝒱₀) (bd := none) (Q := Q)) $$ H15
  iintro H15
  iapply (wp_fill32 (Q := Q) (v := v13) (R := iprop(Base X g Y ∗ L ∗ Slots X (Function.update s p (.ready R row)) ∗ O ∗ Ow X.d X.i A14 Finset.univ v14)) 32 0 _ ⟨⟩ fun v' hv => ?_)
  · refine .trans ?_ (hK ⟨hP⟩)
    unfold Gs StgF
    iintro ⟨H13, HB, HL, HS, HO, H14⟩
    isplitl [HB]; · iexact HB
    isplitl [HL]; · iexact HL
    isplitl [HS]; · iexact HS
    isplitl [HO]; · iexact HO
    iexists v', v14
    isplitr
    · ipureintro; intro y
      have := (y 0).isLt
      simp [S512] at this
      rw [hv, if_pos (by omega)]
    isplitl [H13]; · iexact H13
    iexact H14
  · isplitl [H13]; · iexact H13
    isplitl [H15 H7 HO HY]
    · unfold Base
      isplitl [H15]; · iexact H15
      isplitl [H7]; · iexact H7
      isplitr; · iexact Hmw
      isplitr [HY]
      swap; · iexact HY
      iexists _
      isplitr
      swap; · iexact HO
      ipureintro
      intro q hq
      rcases Finset.mem_insert.mp hq with rfl | hq
      · exact .inr rfl
      · exact hW q hq
    isplitl [HL]; · iexact HL
    isplitl [HS]; · iexact HS
    isplitl [HR]; · iexact HR
    iexact H14

theorem ruleD {n : Nat} (prog : PR (F := F) X.i α) (j : Nat) (hj : j < 16) (K) (h : prog = fill16 j hj K 16 0 (by omega) ⟨⟩) (hn : n = j)
    (hK : Gs X g Y L Sl (OutF X g j) T ⊢ Wp X.d X.i (K ⟨⟩) Q) : Gs X g Y L Sl (OutP X g n) T ⊢ Wp X.d X.i prog Q := by
  subst h; subst hn
  unfold Gs OutP
  iintro ⟨HB, HL, HS, ⟨%v11, %v12, %ho, H11, H12⟩, HT⟩
  iapply (wp_fill16 (Q := Q) (v := v11) (R := iprop(Base X g Y ∗ L ∗ Sl ∗ Ow X.d X.i A12 Finset.univ v12 ∗ T)) 16 0 _ ⟨⟩ fun v' hv => ?_)
  · refine .trans ?_ hK
    unfold Gs OutF
    iintro ⟨H11, HB, HL, HS, H12, HT⟩
    isplitl [HB]; · iexact HB
    isplitl [HL]; · iexact HL
    isplitl [HS]; · iexact HS
    isplitl [H11 H12]
    · iexists v', v12
      isplitr
      · ipureintro
        refine ⟨fun j hj => (ho j hj).congr (fun x hx => ?_) (fun _ _ => rfl), fun y hy => ?_⟩
        · rw [hv, if_neg (by omega)]
        · have := (y 1).isLt
          simp [S16x256] at this
          rw [hv, if_pos (by omega)]
      isplitl [H11]; · iexact H11
      iexact H12
    · iexact HT
  · isplitl [H11]; · iexact H11
    isplitl [HB]; · iexact HB
    isplitl [HL]; · iexact HL
    isplitl [HS]; · iexact HS
    isplitl [H12]; · iexact H12
    iexact HT

end Cert.Sel
-- ==== Proof.Loops.lean ====
/-
  The rules for the stretches that are loops, and for the copies at a group's two ends.
-/
module

public import proofs.«01_k».proof.Proof.State
public import proofs.«01_k».proof.Proof.Copy

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {X : Tile F} {g : ℕ} {α : Type} {Q : α → sProp (MT nD τ sig (HIx 1) (Elt F) ℕ UU ℕ)} {Y L Sl O T : sProp (MT nD τ sig (HIx 1) (Elt F) ℕ UU ℕ)}

/-! ## Entries of what is read -/

/-- Row `p` of a four-row buffer. -/
abbrev rw4 {e : EltTy} (p : Nat) (hp : p < 4) (v : S4x128.Idx → Elt F e) : S128.Idx → Elt F e := fun y => v (sqIx (rRow p hp) S128 squeezes_S1x128_S128.numel_eq y)

theorem rw4_eq {p : Nat} {hp : p < 4} {v : S4x128.Idx → BitVec 32} {row : S128.Idx → BitVec 32} (h : ∀ x : S4x128.Idx, (x 0).val = p → v x = row (fun | 0 => x 1)) :
    rw4 (F := F) (e := .i32) p hp v = row := by
  funext y
  show v _ = _
  rw [sq8, h _ rfl]
  congr 1; funext a; match a with | 0 => rfl

theorem of_rw4 {p : Nat} {hp : p < 4} {v : S4x128.Idx → BitVec 32} (x : S4x128.Idx) (hx : (x 0).val = p) : v x = rw4 (F := F) (e := .i32) p hp v (fun | 0 => x 1) := by
  show _ = v _
  rw [sq8]
  congr 1; funext a; match a with
  | 0 => exact Fin.ext hx
  | 1 => rfl

theorem updSq_self {s s' : Shape} {e : EltTy} (r : Rect s) (h : s'.numel = r.shape.numel) (v : s.Idx → Elt F e) : updSq r s' h v (fun y => v (sqIx r s' h y)) = v := by
  funext x
  by_cases hx : x ∈ r.set
  · obtain ⟨y, rfl⟩ := exists_of_mem r hx
    unfold updSq; rw [upd_emb]
    show v (r.emb (Shape.reshapeEquiv h _)) = _
    rw [Equiv.apply_symm_apply]
  · exact updSq_off _ _ _ _ _ _ hx

theorem lanes_apply (x : S16.Idx) : lanes x = BitVec.ofNat 32 (x 0).val := by
  show BitVec.ofNat 32 (0 * 16 + (x 0).val) = _
  rw [Nat.zero_mul, Nat.zero_add]

theorem scan_val (k : Fin 49) (l : Fin 16) : BitVec.ofNat 32 l.val + Scalar.muli (Scf.iv 0#32 1#32 k.val) 16#32 = BitVec.ofNat 32 (16 * k.val + l.val) := by
  revert k l; decide

theorem ld7 {j : Nat} (hj : j < 16) (k : Fin k2_t2_loop.trips) (hin : ∀ a, o7 j k a + S1x16.size a ≤ S16x784.size a) (E : Env F) (B : Nat) (x : S16.Idx) :
    (shapeCast S16 (fun y => bmF E B ((Rect.unit (s := S16x784) (o7 j k) S1x16.size hin).emb y) : Vec F S1x16 .f32) shapeCasts_S1x16_S16 : Vec F S16 .f32) x = E.bm (B + j) (16 * k.val + (x 0).val) := by
  refine (cast16 (F := F) (e := .f32) _ x).trans ?_
  have h := o7_eq hj k
  show E.bm (B + (o7 j k 0 + 1 * 0)) (o7 j k 1 + 1 * (x 0).val) = _
  rw [h]
  show E.bm (B + (j + 1 * 0)) (16 * k.val + 1 * (x 0).val) = _
  rw [Nat.mul_zero, Nat.add_zero, Nat.one_mul]

section Steps
variable {d : Dev nD} {i : grid2.Coords} {R : sProp (MT nD τ sig (HIx 1) (Elt F) ℕ UU ℕ)}

/-- A side condition that holds. -/
theorem own_assume {P : Prop} {dP : Decidable P} {k : PLift P → PR (F := F) i α} (h : P) (hk : R ⊢ Wp d i (k ⟨h⟩) Q) : R ⊢ Wp d i (.op (.assume P dP) k) Q :=
  hk.trans (wp_assume (defs := defs₀ (F := F)) 𝒱₀ (cT d i) none Set.univ (Q := Q) h)

theorem own_ret {a : α} (hk : R ⊢ Q a) : R ⊢ Wp d i (.ret a) Q := by
  unfold Wp
  rw [wp_ret]
  exact hk.trans fupd_intro

theorem own_storeIdx {dd : Fin 1 → Nat} {s : Shape} {e : EltTy} {m : Memref sig .scVector .vmem s e} {v : s.Idx → Elt F e} {idxs : Fin s.rank → IVec ⟨1, dd⟩ 32} {w : Vec F ⟨1, dd⟩ e}
    {mask : IVec ⟨1, dd⟩ 1} {add : Bool} {h : ∀ a x, (idxs a x).toNat < s.size a} {hs : (m.access (.whole s)).Stores Finset.univ}
    {k : PUnit → PR (F := F) i α} (hk : iprop(Ow d i m Finset.univ (storeIdx v idxs w mask add h) ∗ R) ⊢ Wp d i (k ⟨⟩) Q) :
    iprop(Ow d i m Finset.univ v ∗ R) ⊢ Wp d i (SparseCore.vectorStoreIdx m idxs w mask add h hs >>= k) Q := by
  iintro ⟨H, HR⟩
  iapply (own_storeIdx' (c := cT d i) (defs := defs₀ (F := F)) (𝒱 := 𝒱₀) (bd := none) (Q := Q) (m := m) (v := v) (idxs := idxs) (w := w) (mask := mask) (add := add) (h := h) (hs := hs) (k := k)) $$ H
  iintro H
  iapply hk
  isplitl [H] <;> iassumption
end Steps

/-- Row `p` of the block list, taken out. -/
theorem open8 {d : Dev nD} {i : grid2.Coords} (p : Nat) (hp : p < 4) (v8 : S4x128.Idx → BitVec 32) :
    (Ow d i A8 Finset.univ v8 : sProp 𝕄) ⊢ iprop(Ow d i (A8r p hp) Finset.univ (rw4 (F := F) (e := .i32) p hp v8)
      ∗ ∀ w, Ow d i (A8r p hp) Finset.univ w -∗ Ow d i A8 Finset.univ (updSq (F := F) (e := .i32) (rRow p hp) S128 squeezes_S1x128_S128.numel_eq v8 w)) := by
  have h := Own_open (F := F) (Ix := HIx 1) (Name := ℕ) (U := UU) (Lvl := ℕ) (e := .i32) (c := cT d i) (m := A8) (S := Finset.univ) (r := rRow p hp) (hr := fun _ => rfl) (s' := S128) (h := squeezes_S1x128_S128) (hS := Finset.subset_univ (rRow p hp).set) (v := v8)
  exact h

/-! ## The scan over the block maxima -/

theorem step2 {l : Lists} {j p : Nat} {hp : p < 4} {v11 hin P dP hP} (hj : j < 16) (hPC : ∀ v, C128 v → P v) (hl : l p = none) (hv : ∀ x, v11 x = X.E.tau (Rw X g j))
    (n : Fin k2_t2_loop.trips) (ptr : IVec S16 32) (v8 : S4x128.Idx → BitVec 32) (hf : LFact X l v8) (hI : I2 X.E (Rw X g j) (16 * n.val) ptr (rw4 (F := F) (e := .i32) p hp v8))
    {Q : IVec S16 32 → sProp 𝕄}
    (hK : ∀ ptr v8, LFact X l v8 → I2 X.E (Rw X g j) (16 * (n.val + 1)) ptr (rw4 (F := F) (e := .i32) p hp v8) →
      (iprop(Ow X.d X.i A8 Finset.univ v8 ∗ Ow X.d X.i A7 Finset.univ (bmF X.E (X.B + 16 * g))) : sProp 𝕄) ⊢ Q ptr) :
    (iprop(Ow X.d X.i A8 Finset.univ v8 ∗ Ow X.d X.i A7 Finset.univ (bmF X.E (X.B + 16 * g))) : sProp 𝕄) ⊢ Wp X.d X.i (body2 j p hp v11 hin P dP hP n ptr) Q := by
  have hs := I2_step (F := F) n.isLt hI (ld7 hj n (hin n) X.E (X.B + 16 * g)) hv
    (val := addi lanes (broadcast S16 (Scalar.muli (Scf.iv 0#32 1#32 n) 16#32)))
    (fun x => (congrArg (· + _) (lanes_apply x)).trans (scan_val n (x 0)))
  have key : ∀ ptr' row', I2 X.E (Rw X g j) (16 * (n.val + 1)) ptr' row' →
      (iprop(Ow X.d X.i (A8r p hp) Finset.univ row' ∗ (∀ w, Ow X.d X.i (A8r p hp) Finset.univ w -∗ Ow X.d X.i A8 Finset.univ (updSq (F := F) (e := .i32) (rRow p hp) S128 squeezes_S1x128_S128.numel_eq v8 w))
        ∗ Ow X.d X.i A7 Finset.univ (bmF X.E (X.B + 16 * g))) : sProp 𝕄) ⊢ Wp X.d X.i (.ret ptr') Q := by
    intro ptr' row' hI'
    refine own_ret ?_
    refine .trans ?_ (hK ptr' (updSq (F := F) (e := .i32) (rRow p hp) S128 squeezes_S1x128_S128.numel_eq v8 row') ?_ ?_)
    · iintro ⟨Hr, Hc, H7⟩
      isplitr [H7]
      · iapply Hc $$ Hr
      · iexact H7
    · intro p' R ptr row h'
      refine ⟨fun x hx => ?_, (hf p' R ptr row h').2⟩
      have hne : p' ≠ p := fun e => by rw [e, hl] at h'; cases h'
      rw [updSq_off (F := F) (e := .i32) _ _ _ _ _ _ (fun h => hne (hx.symm.trans (mem_rRow.mp h)))]
      exact (hf p' R ptr row h').1 x hx
    · have e : rw4 (F := F) (e := .i32) p hp (updSq (F := F) (e := .i32) (rRow p hp) S128 squeezes_S1x128_S128.numel_eq v8 row') = row' := funext fun y => updSq_sq (F := F) (e := .i32) _ _ _ _ _ y
      rw [e]
      exact hI'
  unfold body2
  refine .trans sep_comm.1 ?_
  refine own_load (Finset.subset_univ _) ?_
  refine own_assume (hPC _ hs.1) ?_
  refine .trans sep_comm.1 ?_
  refine .trans (sep_mono (open8 p hp v8) .rfl) ?_
  refine .trans sep_assoc.1 ?_
  refine own_storeIdx ?_
  exact key _ _ (hs.2 _)

theorem ruleL2 {l : Lists} (prog : PR (F := F) X.i α) (j p : Nat) (hp : p < 4) (v11 hin P dP hP) (k : IVec S16 32 → PR (F := F) X.i α)
    (h : prog = (Scf.Loop.for k2_t2_loop k2_t2_ok zero16 (body2 j p hp v11 hin P dP hP)) >>= k) (hj : j < 16) (hPC : ∀ v, C128 v → P v)
    (hl : l p = none) (hv : ∀ x, v11 x = X.E.tau (Rw X g j))
    (hK : ∀ ptr row, Gs X g Y (Lst X (Function.update l p (some (Rw X g j, ptr, row)))) Sl O T ⊢ Wp X.d X.i (k ptr) Q) :
    Gs X g Y (LstA X l p) Sl O T ⊢ Wp X.d X.i prog Q := by
  subst h
  unfold Gs LstA Base
  iintro ⟨⟨H15, H7, HB⟩, ⟨%v8, %hf, H8⟩, HR⟩
  iapply (Scf.wp_for_bind frame (wpE (defs₀ (F := F)) 𝒱₀ (cT X.d X.i) none) Set.univ _ _ _ k2_t2_ok zero16 (body2 j p hp v11 hin P dP hP)
    (fun n ptr => iprop(∃ v8, ⌜LFact X l v8 ∧ I2 X.E (Rw X g j) (16 * n) ptr (rw4 (F := F) (e := .i32) p hp v8)⌝ ∗ Ow X.d X.i A8 Finset.univ v8 ∗ Ow X.d X.i A7 Finset.univ (bmF X.E (X.B + 16 * g))))
    (fun n ptr => ?_) (Q := Q) (kk := k)) $$ [H7 H8]
  · iintro ⟨%v8, %hI, HH⟩
    iapply (step2 (hp := hp) hj hPC hl hv n ptr v8 hI.1 hI.2 (fun ptr v8 h1 h2 => ?_)) $$ HH
    iintro HH
    iexists v8
    isplitr; · ipureintro; exact ⟨h1, h2⟩
    iexact HH
  · iexists v8
    isplitr
    · ipureintro
      refine ⟨hf.1, I2_zero (fun _ => rfl) fun y => hf.2 _ ?_⟩
      rw [sq8]
    isplitl [H8]; · iexact H8
    iexact H7
  · iintro %ptr ⟨%v8, %hI, H8, H7⟩
    iapply (hK ptr (rw4 (F := F) (e := .i32) p hp v8))
    unfold Gs Lst Base
    isplitl [H15 H7 HB]
    · isplitl [H15]; · iexact H15
      isplitl [H7]; · iexact H7
      iexact HB
    isplitl [H8]
    · iexists v8
      isplitr; swap; · iexact H8
      ipureintro
      intro p' R ptr' row h'
      by_cases hpp : p' = p
      · subst hpp
        rw [Function.update_self] at h'
        injection h' with h'
        injection h' with h1 h2
        injection h2 with h2 h3
        subst h1 h2 h3
        exact ⟨fun x hx => of_rw4 x hx, hI.2⟩
      · rw [Function.update_of_ne hpp] at h'
        exact hI.1 p' R ptr' row h'
    iexact HR

end Cert.Sel
-- ==== Proof.Ring.lean ====
/-
  The rules for the ring: the gather started, and the scan over what it brought.
-/
module

public import proofs.«01_k».proof.Proof.Loops

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {X : Tile F} {g : ℕ} {α : Type} {Q : α → sProp (MT nD τ sig (HIx 1) (Elt F) ℕ UU ℕ)} {Y L Sl O T : sProp (MT nD τ sig (HIx 1) (Elt F) ℕ UU ℕ)}

theorem sep_rot {a b c r : sProp 𝕄} : iprop(a ∗ b ∗ c ∗ r) ⊢ iprop(c ∗ a ∗ b ∗ r) := by
  iintro ⟨Ha, Hb, Hc, Hr⟩
  isplitl [Hc]; · iexact Hc
  isplitl [Ha]; · iexact Ha
  isplitl [Hb] <;> iassumption

theorem sep_swap {a b c r : sProp 𝕄} : iprop(a ∗ b ∗ c ∗ r) ⊢ iprop(c ∗ b ∗ a ∗ r) := by
  iintro ⟨Ha, Hb, Hc, Hr⟩
  isplitl [Hc]; · iexact Hc
  isplitl [Hb]; · iexact Hb
  isplitl [Ha] <;> iassumption

/-! ## The gather started -/

theorem ruleB {l : Lists} {s : Nat → Stt} {R : Nat} {ptr : IVec S16 32} {row : S128.Idx → BitVec 32} (prog : PR (F := F) X.i α) (p : Nat) (hp : p < 4) (sm : DmaSem sig) (base : BitVec 32) (P : Prop) (dP : Decidable P) (K)
    (h : prog = segB p hp sm base P dP K) (hP : P) (hsm : sm = semOf p) (hl : l p = some (R, ptr, row)) (hs : s p = .free) (hb : base.toNat = R * 784) (hR : R ≤ 4095)
    (hK : ∀ w, Gs X g Y (Lst X l) (Slots X (Function.update s p (.busy R row))) O T ⊢ Wp X.d X.i (K w ⟨⟩) Q) :
    Gs X g Y (Lst X l) (Slots X s) O T ⊢ Wp X.d X.i prog Q := by
  subst h; subst hsm
  have hfree : (Slot X p hp (s p) : sProp 𝕄) ⊢ iprop((∃ w, Ow X.d X.i A9 (rRow p hp).set w) ∗ (∃ w, Ow X.d X.i A10 (rRow3 p hp).set w) ∗ Sh X.d X.i A2w (X.q p) (scF X.E) ∗ semVal (cT X.d X.i, SemLoc.dma (semOf p)) 0) := by
    rw [hs, Slot_free]
  have hbusy : (iprop(∃ D : sProp 𝕄, ⌜D ⊢ Full X p hp R row⌝ ∗ Transfers.Flight countersEmb (cT X.d X.i) (.dma (semOf p)) (default : HIx 1) (A10r p hp).view.dmaCredit D) : sProp 𝕄)
      ⊢ Slot X p hp (.busy R row) := by
    rw [Slot_busy]
  unfold Gs Lst segB
  iintro ⟨HB, ⟨%v8, %hf, H8⟩, HS, HO, HT⟩
  obtain ⟨h8, hI⟩ := hf p R ptr row hl
  ihave HS' := (Slots_at X s p hp) $$ HS
  icases HS' with ⟨Hs, HSc⟩
  ihave Hs' := hfree $$ Hs
  icases Hs' with ⟨⟨%v9, H9⟩, ⟨%v10, H10⟩, Hsh, Hsem⟩
  iapply (wp_abs8 (Q := Q) (v8 := v8) (R := iprop(Base X g Y ∗ (∀ t, Slot X p hp t -∗ Slots X (Function.update s p t)) ∗ Ow X.d X.i A10 (rRow3 p hp).set v10 ∗ Sh X.d X.i A2w (X.q p) (scF X.E)
    ∗ semVal (cT X.d X.i, SemLoc.dma (semOf p)) 0 ∗ O ∗ T)) 8 0 _ ⟨⟩ v9 fun v9' hv9 => ?_)
  · refine own_assume hP ?_
    have hix : ∀ y, rw4 (F := F) (e := .i32) p hp v9' y = row y + base := by
      intro y
      show v9' _ = _
      rw [sq8, hv9, if_pos ⟨rfl, Nat.zero_le _, (y 0).isLt⟩, h8 _ rfl]
      congr 2; funext a; match a with | 0 => rfl
    have hnat : ∀ y, (rw4 (F := F) (e := .i32) p hp v9' y).toNat = R * 784 + (row y).toNat := by
      intro y
      have := hI.le y
      rw [hix, BitVec.toNat_add, hb, Nat.mod_eq_of_lt (by omega)]; omega
    iintro ⟨H8, H9, HB, HSc, H10, Hsh, Hsem, HO, HT⟩
    ihave H9r := (Own_sq (F := F) (e := .i32) (m := A9) (r := rRow p hp) (hr := fun _ => rfl) (s' := S128) (h := squeezes_S1x128_S128) (v := v9')) $$ H9
    ihave H10r := (Own_sq (F := F) (e := .f32) (m := A10) (r := rRow3 p hp) (hr := fun _ => rfl) (s' := S128x128) (h := squeezes_S1x128x128_S128x128) (v := v10)) $$ H10
    iapply (own_gather (d := X.d) (i := X.i) (p := p) (hp := hp) (sem := semOf p) (q := X.q p) (v := scF X.E) (ix := rw4 (F := F) (e := .i32) p hp v9')
      (fun y => by have := hI.le y; rw [hnat]; omega) (k := K ⟨hP⟩) (Q := Q)) $$ [Hsh H10r H9r Hsem]
    · isplitl [Hsh]; · iexact Hsh
      isplitl [H10r]; · iexact H10r
      isplitl [H9r]; · iexact H9r
      iexact Hsem
    iintro %D %hD Hfl
    iapply (hK ⟨hP⟩)
    unfold Gs Lst
    isplitl [HB]; · iexact HB
    isplitl [H8]
    · iexists v8
      isplitr; · ipureintro; exact hf
      iexact H8
    isplitl [HSc Hfl]
    · iapply HSc
      iapply hbusy
      iexists D
      isplitr
      swap; · iexact Hfl
      ipureintro
      refine hD.trans ?_
      unfold Full
      iintro ⟨⟨%w', %hg, H10⟩, Hsh, H9⟩
      isplitl [H9]
      · iexists v9'
        iapply (Own_unsq (F := F) (e := .i32) (m := A9) (r := rRow p hp) (hr := fun _ => rfl) (s' := S128) (h := squeezes_S1x128_S128) (v := v9') (w := rw4 (F := F) (e := .i32) p hp v9') (fun _ => rfl)) $$ H9
      isplitl [H10]
      · iexists (updSq (F := F) (e := .f32) (rRow3 p hp) S128x128 squeezes_S1x128x128_S128x128.numel_eq v10 w')
        isplitr
        · ipureintro
          intro x hx
          have hxx : x = sqIx (rRow3 p hp) S128x128 squeezes_S1x128x128_S128x128.numel_eq (fun | 0 => x 1 | 1 => x 2) := by
            rw [sq3]
            funext a; match a with
            | 0 => exact Fin.ext hx
            | 1 => rfl
            | 2 => rfl
          conv_lhs => rw [hxx]
          rw [updSq_sq]
          have h1 : (x 1).val < 128 := (x 1).isLt
          have hrow : ent row (x 1).val = (row (fun | 0 => x 1)).toNat := by
            unfold ent; rw [dif_pos h1]
            congr 2
          have hle := hI.le (fun | 0 => x 1)
          have hlt : R * 784 + ent row (x 1).val < 3211264 := by rw [hrow]; omega
          refine (hg _ (fun | 0 => ⟨R * 784 + ent row (x 1).val, hlt⟩ | 1 => x 2) (fun | 0 => x 1) rfl ?_ rfl).trans rfl
          rw [hnat, ← hrow]
        · iapply (Own_unsq (F := F) (e := .f32) (m := A10) (r := rRow3 p hp) (hr := fun _ => rfl) (s' := S128x128) (h := squeezes_S1x128x128_S128x128) (w := w') (fun y => updSq_sq (F := F) (e := .f32) _ _ _ _ _ y)) $$ H10
      iexact Hsh
    isplitl [HO]; · iexact HO
    iexact HT
  · isplitl [H8]; · iexact H8
    isplitl [H9]; · iexact H9
    isplitl [HB]; · iexact HB
    isplitl [HSc]; · iexact HSc
    isplitl [H10]; · iexact H10
    isplitl [Hsh]; · iexact Hsh
    isplitl [Hsem]; · iexact Hsem
    isplitl [HO]; · iexact HO
    iexact HT

/-! ## The scan over the gathered rows -/

section
variable {d : Dev nD} {i : grid2.Coords} {R : sProp (MT nD τ sig (HIx 1) (Elt F) ℕ UU ℕ)} {Q : α → sProp (MT nD τ sig (HIx 1) (Elt F) ℕ UU ℕ)}

theorem r10_row {p o : Nat} (hp : p < 4) (ho : o < 8) (v : BitVec 32) (k : Fin (k2_t6_loop v).trips) (hin : ∀ a, o10 p o v k a + S1x1x16.size a ≤ S4x128x128.size a) :
    (Rect.unit (s := S4x128x128) (o10 p o v k) S1x1x16.size hin).set ⊆ (rRow3 p hp).set := by
  intro x hx
  rw [mem_rRow3]
  have := (Rect.mem_set_unit.mp hx) 0
  rw [o10_eq hp ho] at this
  simp [S1x1x16] at this
  omega

theorem ld10 {E : Env F} {r p o : Nat} (hp : p < 4) (ho : o < 8) (v : BitVec 32) (k : Fin (k2_t6_loop v).trips) (hin : ∀ a, o10 p o v k a + S1x1x16.size a ≤ S4x128x128.size a)
    {row : S128.Idx → BitVec 32} {v10 : S4x128x128.Idx → F .f32} (hv : ∀ x : S4x128x128.Idx, (x 0).val = p → v10 x = E.sc (r * 784 + ent row (x 1).val) (x 2).val) (x : S16.Idx) :
    (shapeCast S16 (fun y => v10 ((Rect.unit (s := S4x128x128) (o10 p o v k) S1x1x16.size hin).emb y) : Vec F S1x1x16 .f32) shapeCasts_S1x1x16_S16 : Vec F S16 .f32) x = E.sc (r * 784 + ent row k.val) (16 * o + (x 0).val) := by
  refine (cast16' (F := F) (e := .f32) _ x).trans ?_
  have h := o10_eq hp ho v k
  have h0 : o10 p o v k 0 = p := by rw [h]; rfl
  have h1 : o10 p o v k 1 = k.val := by rw [h]; rfl
  have h2 : o10 p o v k 2 = 16 * o := by rw [h]; rfl
  rw [hv _ (show o10 p o v k 0 + 1 * 0 = p by omega)]
  show E.sc (r * 784 + ent row (o10 p o v k 1 + 1 * 0)) (o10 p o v k 2 + 1 * (x 0).val) = _
  rw [h1, h2, Nat.mul_zero, Nat.add_zero, Nat.one_mul]

theorem wp_sub8 {E : Env F} {r p : Nat} {hp : p < 4} {v93 : BitVec 32} {v384 : Vec F S16 .f32} {k : Fin (k2_t6_loop v93).trips} {hin : ∀ o < 8, ∀ a, o10 p o v93 k a + S1x1x16.size a ≤ S4x128x128.size a}
    {blk : IVec S16 32} {P dP hP} {K : IVec S16 32 → PR (F := F) i α} (hPC : ∀ v, C512 v → P v) (hv : ∀ x, v384 x = E.tau r) {row : S128.Idx → BitVec 32} (hrow : ∀ y, (row y).toNat ≤ 783)
    (hb : ∀ x, (blk x).toNat = ent row k.val) {v10 : S4x128x128.Idx → F .f32} (hv10 : ∀ x : S4x128x128.Idx, (x 0).val = p → v10 x = E.sc (r * 784 + ent row (x 1).val) (x 2).val)
    (hK : ∀ cnt v13 v14, I6 E r row (8 * (k.val + 1)) cnt v13 v14 → (iprop(Ow d i A10 (rRow3 p hp).set v10 ∗ Ow d i A13 Finset.univ v13 ∗ Ow d i A14 Finset.univ v14 ∗ R) ⊢ Wp d i (K cnt) Q)) :
    ∀ (fuel o : Nat) (ho : o + fuel ≤ 8) (he : o + fuel = 8) (cnt : IVec S16 32) (v13 : S512.Idx → F .f32) (v14 : S512.Idx → BitVec 32), I6 E r row (8 * k.val + o) cnt v13 v14 →
    (iprop(Ow d i A10 (rRow3 p hp).set v10 ∗ Ow d i A13 Finset.univ v13 ∗ Ow d i A14 Finset.univ v14 ∗ R) ⊢ Wp d i (sub8 p v93 v384 k hin blk P dP hP K fuel o ho cnt) Q)
  | 0, o, ho, he, cnt, v13, v14, hI => hK cnt v13 v14 (by
      have : 8 * (k.val + 1) = 8 * k.val + o := by omega
      rw [this]; exact hI)
  | fuel + 1, o, ho, he, cnt, v13, v14, hI => by
    have hs := I6_step (F := F) (lt_of_lt_of_le k.isLt (t6_le v93)) (show o < 8 by omega) hrow hI (ld10 hp (by omega) v93 k (hin o (by omega)) hv10) hv hb
    have key : ∀ cnt' v13' v14', I6 E r row (8 * k.val + (o + 1)) cnt' v13' v14' →
        (iprop(Ow d i A14 Finset.univ v14' ∗ Ow d i A13 Finset.univ v13' ∗ Ow d i A10 (rRow3 p hp).set v10 ∗ R) ⊢ Wp d i (sub8 p v93 v384 k hin blk P dP hP K fuel (o + 1) (by omega) cnt') Q) :=
      fun cnt' v13' v14' h => .trans sep_swap (wp_sub8 hPC hv hrow hb hv10 hK fuel (o + 1) _ (by omega) cnt' v13' v14' h)
    unfold sub8
    refine own_load (r10_row hp (by omega) v93 k (hin o (by omega))) ?_
    refine own_assume (hPC _ hs.1) ?_
    refine .trans sep_left_comm.1 ?_
    refine own_storeIdx ?_
    refine .trans sep_rot ?_
    refine own_storeIdx ?_
    exact key _ _ _ (hs.2 _ _)

theorem step6 {E : Env F} {r p : Nat} {hp : p < 4} {v93 : BitVec 32} {v384 : Vec F S16 .f32} {P₀ d₀ hP₀ hin P dP hP} (hPC₀ : ∀ v, C128 v → P₀ v) (hPC : ∀ v, C512 v → P v) (hv : ∀ x, v384 x = E.tau r)
    {row : S128.Idx → BitVec 32} (hrow : ∀ y, (row y).toNat ≤ 783) {v8 : S4x128.Idx → BitVec 32} (h8 : ∀ x : S4x128.Idx, (x 0).val = p → v8 x = row (fun | 0 => x 1))
    {v10 : S4x128x128.Idx → F .f32} (hv10 : ∀ x : S4x128x128.Idx, (x 0).val = p → v10 x = E.sc (r * 784 + ent row (x 1).val) (x 2).val)
    (k : Fin (k2_t6_loop v93).trips) (cnt : IVec S16 32) (v13 : S512.Idx → F .f32) (v14 : S512.Idx → BitVec 32) (hI : I6 E r row (8 * k.val) cnt v13 v14) {Q : IVec S16 32 → sProp 𝕄}
    (hK : ∀ cnt v13 v14, I6 E r row (8 * (k.val + 1)) cnt v13 v14 →
      (iprop(Ow d i A10 (rRow3 p hp).set v10 ∗ Ow d i A13 Finset.univ v13 ∗ Ow d i A14 Finset.univ v14 ∗ Ow d i A8 Finset.univ v8) : sProp 𝕄) ⊢ Q cnt) :
    (iprop(Ow d i A10 (rRow3 p hp).set v10 ∗ Ow d i A13 Finset.univ v13 ∗ Ow d i A14 Finset.univ v14 ∗ Ow d i A8 Finset.univ v8) : sProp 𝕄)
      ⊢ Wp d i (body6 p hp v93 v384 P₀ d₀ hP₀ hin P dP hP k cnt) Q := by
  have hk : k.val < 128 := lt_of_lt_of_le k.isLt (t6_le v93)
  have hc : C128 (broadcast S16 (Scf.iv 0#32 1#32 k)) := by
    intro a x
    match a with
    | 0 => exact lt_of_eq_of_lt (iv_toNat v93 k) hk
  have hr : rw4 (F := F) (e := .i32) p hp v8 = row := rw4_eq h8
  have hb : ∀ h x, ((loadIdx (F := F) (e := .i32) row ![broadcast S16 (Scf.iv 0#32 1#32 k)] h : IVec S16 32) x).toNat = ent row k.val := by
    intro h x
    unfold ent; rw [dif_pos hk]
    show (row _).toNat = _
    congr 2; funext a; match a with | 0 => exact Fin.ext (iv_toNat v93 k)
  unfold body6
  refine own_assume (hPC₀ _ hc) ?_
  iintro ⟨H10, H13, H14, H8⟩
  ihave H8' := (open8 p hp v8) $$ H8
  icases H8' with ⟨Hr, Hc⟩
  rw [hr]
  iapply (own_loadIdx' (F := F) (e := .i32) (c := cT d i) (defs := defs₀ (F := F)) (𝒱 := 𝒱₀) (bd := none) (Q := Q) (v := row)) $$ Hr
  iintro Hr
  ihave H8 := Hc $$ Hr
  iapply (wp_sub8 (d := d) (i := i) (Q := Q) (hp := hp) hPC hv hrow (hb _) hv10 (R := Ow d i A8 Finset.univ v8) (fun cnt v13 v14 h => own_ret (hK cnt v13 v14 h)) 8 0 _ rfl cnt v13 v14 hI)
  isplitl [H10]; · iexact H10
  isplitl [H13]; · iexact H13
  isplitl [H14]; · iexact H14
  iapply (Own_congr (F := F) (e := .i32) (m := A8) fun x _ => ?_) $$ H8
  rw [← hr]
  exact congrFun (updSq_self (F := F) (e := .i32) _ _ v8) x
end

theorem ruleL6 {l : Lists} {s : Nat → Stt} {R : Nat} {ptr : IVec S16 32} {row : S128.Idx → BitVec 32} (prog : PR (F := F) X.i α) (p : Nat) (v93 hok hp v384 P₀ d₀ hP₀ hin P dP hP) (k : IVec S16 32 → PR (F := F) X.i α)
    (h : prog = (Scf.Loop.for (k2_t6_loop v93) hok zero16 (body6 p hp v93 v384 P₀ d₀ hP₀ hin P dP hP)) >>= k) (hPC₀ : ∀ v, C128 v → P₀ v) (hPC : ∀ v, C512 v → P v)
    (h93 : v93 = lmax ptr) (hl : l p = some (R, ptr, row)) (hs : s p = .ready R row) (hv : ∀ x, v384 x = X.E.tau R)
    (hK : ∀ cnt, Gs X g Y (Lst X (Function.update l p none)) (Slots X (Function.update s p .free)) O (StgR X R) ⊢ Wp X.d X.i (k cnt) Q) :
    Gs X g Y (Lst X l) (Slots X s) O (StgF X) ⊢ Wp X.d X.i prog Q := by
  subst h
  have hready : (Slot X p hp (s p) : sProp 𝕄) ⊢ iprop(Full X p hp R row ∗ semVal (cT X.d X.i, SemLoc.dma (semOf p)) 0) := by
    rw [hs, Slot_ready]
  have hfree : (iprop((∃ w, Ow X.d X.i A9 (rRow p hp).set w) ∗ (∃ w, Ow X.d X.i A10 (rRow3 p hp).set w) ∗ Sh X.d X.i A2w (X.q p) (scF X.E) ∗ semVal (cT X.d X.i, SemLoc.dma (semOf p)) 0) : sProp 𝕄)
      ⊢ Slot X p hp .free := by
    rw [Slot_free]
  unfold Gs Lst StgF
  iintro ⟨HB, ⟨%v8, %hf, H8⟩, HS, HO, ⟨%v13, %v14, %h13, H13, H14⟩⟩
  obtain ⟨h8, hI2⟩ := hf p R ptr row hl
  ihave HS' := (Slots_at X s p hp) $$ HS
  icases HS' with ⟨Hs, HSc⟩
  ihave Hs' := hready $$ Hs
  unfold Full
  icases Hs' with ⟨⟨⟨%v9, H9⟩, ⟨%v10, %hv10, H10⟩, Hsh⟩, Hsem⟩
  iapply (Scf.wp_for_bind frame (wpE (defs₀ (F := F)) 𝒱₀ (cT X.d X.i) none) Set.univ _ _ _ hok zero16 (body6 p hp v93 v384 P₀ d₀ hP₀ hin P dP hP)
    (fun n cnt => iprop(∃ v13 v14, ⌜I6 X.E R row (8 * n) cnt v13 v14⌝ ∗ Ow X.d X.i A10 (rRow3 p hp).set v10 ∗ Ow X.d X.i A13 Finset.univ v13 ∗ Ow X.d X.i A14 Finset.univ v14 ∗ Ow X.d X.i A8 Finset.univ v8))
    (fun n cnt => ?_) (Q := Q) (kk := k)) $$ [H10 H13 H14 H8]
  · iintro ⟨%v13, %v14, %hI, HH⟩
    iapply (step6 (hp := hp) hPC₀ hPC hv hI2.le h8 hv10 n cnt v13 v14 hI (fun cnt v13 v14 h1 => ?_)) $$ HH
    iintro HH
    iexists v13, v14
    isplitr; · ipureintro; exact h1
    iexact HH
  · iexists v13, v14
    isplitr; · ipureintro; exact I6_zero (fun _ => rfl) h13
    isplitl [H10]; · iexact H10
    isplitl [H13]; · iexact H13
    isplitl [H14]; · iexact H14
    iexact H8
  · iintro %cnt ⟨%v13, %v14, %hI, H10, H13, H14, H8⟩
    iapply (hK cnt)
    unfold Gs Lst StgR
    isplitl [HB]; · iexact HB
    isplitl [H8]
    · iexists v8
      isplitr; swap; · iexact H8
      ipureintro
      intro p' R' ptr' row' h'
      by_cases hpp : p' = p
      · subst hpp
        rw [Function.update_self] at h'; cases h'
      · rw [Function.update_of_ne hpp] at h'
        exact hf p' R' ptr' row' h'
    isplitl [HSc H9 H10 Hsh Hsem]
    · iapply HSc
      iapply hfree
      isplitl [H9]; · iexists v9; iexact H9
      isplitl [H10]; · iexists v10; iexact H10
      isplitl [Hsh]; · iexact Hsh
      iexact Hsem
    isplitl [HO]; · iexact HO
    iexists v13, v14
    isplitr
    · ipureintro; exact ⟨ptr, row, cnt, hI2, h93 ▸ hI⟩
    isplitl [H13]; · iexact H13
    iexact H14

/-- The loop over what is left of the gathered rows: nothing is. -/
theorem ruleL7 {G : sProp 𝕄} (prog : PR (F := F) X.i α) (v93 hok v bd) (k : IVec S16 32 → PR (F := F) X.i α) (h : prog = (Scf.Loop.for (k2_t7_loop v93) hok v bd) >>= k)
    (hK : G ⊢ Wp X.d X.i (k v) Q) : G ⊢ Wp X.d X.i prog Q := by
  subst h
  iintro HG
  iapply (Scf.wp_for_bind frame (wpE (defs₀ (F := F)) 𝒱₀ (cT X.d X.i) none) Set.univ _ _ _ hok v bd (fun _ a => iprop(⌜a = v⌝))
    (fun n _ => absurd (lt_of_lt_of_eq n.isLt (t7_zero v93)) (Nat.not_lt_zero _)) (Q := Q) (kk := k)) $$ []
  · ipureintro; rfl
  · iintro %a %ha
    rw [ha]
    iapply hK $$ HG

end Cert.Sel
-- ==== Proof.Ends.lean ====
/-
  The compaction into the result, and the copies at the two ends of a group.
-/
module

public import proofs.«01_k».proof.Proof.Ring

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {X : Tile F} {g : ℕ} {α : Type} {Q : α → sProp (MT nD τ sig (HIx 1) (Elt F) ℕ UU ℕ)} {Y L Sl O T : sProp (MT nD τ sig (HIx 1) (Elt F) ℕ UU ℕ)}

/-! ## The compaction -/

theorem ld8 {e : EltTy} (k : Fin k2_t8_loop.trips) (v : S512.Idx → Elt F e) (x : S16.Idx) (y : S512.Idx) (h : (y 0).val = 16 * k.val + (x 0).val) :
    v ((Rect.unit (s := S512) (k2_off23 k) S16.size (k2_off23_inb k)).emb x) = v y := by
  refine congrArg v (funext fun a => ?_)
  match a with
  | 0 =>
    apply Fin.ext
    show k2_off23 k 0 + 1 * (x 0).val = _
    rw [k2_off23_eq]
    show 16 * k.val + 1 * (x 0).val = _
    omega

theorem sep_rot4 {a b c r : sProp 𝕄} : iprop(a ∗ b ∗ c ∗ r) ⊢ iprop(r ∗ a ∗ b ∗ c) := by
  iintro ⟨Ha, Hb, Hc, Hr⟩
  isplitl [Hr]; · iexact Hr
  isplitl [Ha]; · iexact Ha
  isplitl [Hb] <;> iassumption

theorem step8 {d : Dev nD} {i : grid2.Coords} {j : Nat} (hj : j < 16) {P dP hP} (hPC : ∀ v, C256 (broadcast S16 (BitVec.ofNat 32 j)) v → P v)
    (k : Fin k2_t8_loop.trips) (ptr : IVec S16 32) {v13 : S512.Idx → F .f32} {v14 : S512.Idx → BitVec 32} (v11 : S16x256.Idx → F .f32) (v12 : S16x256.Idx → BitVec 32)
    (hI : I8 j v13 v14 (16 * k.val) ptr v11 v12) {Q : IVec S16 32 → sProp 𝕄}
    (hK : ∀ ptr v11' v12', I8 j v13 v14 (16 * (k.val + 1)) ptr v11' v12' → (∀ x : S16x256.Idx, (x 0).val ≠ j → v11' x = v11 x) → (∀ x : S16x256.Idx, (x 0).val ≠ j → v12' x = v12 x) →
      (iprop(Ow d i A12 Finset.univ v12' ∗ Ow d i A11 Finset.univ v11' ∗ Ow d i A14 Finset.univ v14 ∗ Ow d i A13 Finset.univ v13) : sProp 𝕄) ⊢ Q ptr) :
    (iprop(Ow d i A13 Finset.univ v13 ∗ Ow d i A14 Finset.univ v14 ∗ Ow d i A11 Finset.univ v11 ∗ Ow d i A12 Finset.univ v12) : sProp 𝕄)
      ⊢ Wp d i (body8 (broadcast S16 (BitVec.ofNat 32 j)) P dP hP k ptr) Q := by
  have hs := I8_step (F := F) hj k.isLt hI (ld := fun x => v13 ((Rect.unit (s := S512) (k2_off23 k) S16.size (k2_off23_inb k)).emb x))
    (li := fun x => v14 ((Rect.unit (s := S512) (k2_off23 k) S16.size (k2_off23_inb k)).emb x))
    (fun x y h => ⟨ld8 (F := F) (e := .f32) k v13 x y h, ld8 (F := F) (e := .i32) k v14 x y h⟩)
  have key : ∀ ptr' v11' v12', I8 j v13 v14 (16 * (k.val + 1)) ptr' v11' v12' ∧ (∀ x : S16x256.Idx, (x 0).val ≠ j → v11' x = v11 x) ∧ (∀ x : S16x256.Idx, (x 0).val ≠ j → v12' x = v12 x) →
      (iprop(Ow d i A12 Finset.univ v12' ∗ Ow d i A11 Finset.univ v11' ∗ Ow d i A14 Finset.univ v14 ∗ Ow d i A13 Finset.univ v13) : sProp 𝕄) ⊢ Wp d i (.ret ptr') Q :=
    fun ptr' v11' v12' h => own_ret (hK ptr' v11' v12' h.1 h.2.1 h.2.2)
  unfold body8
  refine own_load (Finset.subset_univ _) ?_
  refine .trans sep_left_comm.1 ?_
  refine own_load (Finset.subset_univ _) ?_
  refine own_assume (hPC _ hs.1) ?_
  refine .trans sep_rot ?_
  refine own_storeIdx ?_
  refine .trans sep_rot4 ?_
  refine own_storeIdx ?_
  exact key _ _ _ (hs.2 _ _)

theorem ruleL8 {j R : Nat} (prog : PR (F := F) X.i α) (v506 P dP hP) (k : IVec S16 32 → PR (F := F) X.i α)
    (h : prog = (Scf.Loop.for k2_t8_loop k2_t8_ok zero16 (body8 v506 P dP hP)) >>= k) (hj : j < 16) (h506 : v506 = broadcast S16 (BitVec.ofNat 32 j)) (hPC : ∀ v, C256 v506 v → P v) (hR : R = Rw X g j)
    (hK : ∀ v, Gs X g Y L Sl (OutP X g (j + 1)) (StgAny X) ⊢ Wp X.d X.i (k v) Q) : Gs X g Y L Sl (OutF X g j) (StgR X R) ⊢ Wp X.d X.i prog Q := by
  subst h; subst h506; subst hR
  unfold Gs OutF StgR
  iintro ⟨HB, HL, HS, ⟨%v11, %v12, %ho, H11, H12⟩, ⟨%v13, %v14, %h13, H13, H14⟩⟩
  iapply (Scf.wp_for_bind frame (wpE (defs₀ (F := F)) 𝒱₀ (cT X.d X.i) none) Set.univ _ _ _ k2_t8_ok zero16 (body8 (broadcast S16 (BitVec.ofNat 32 j)) P dP hP)
    (fun n ptr => iprop(∃ v11 v12, ⌜I8 j v13 v14 (16 * n) ptr v11 v12 ∧ ∀ j' < j, RowOK X.E (Rw X g j') j' v11 v12⌝
      ∗ Ow X.d X.i A13 Finset.univ v13 ∗ Ow X.d X.i A14 Finset.univ v14 ∗ Ow X.d X.i A11 Finset.univ v11 ∗ Ow X.d X.i A12 Finset.univ v12))
    (fun n ptr => ?_) (Q := Q) (kk := k)) $$ [H11 H12 H13 H14]
  · iintro ⟨%v11, %v12, %hI, HH⟩
    iapply (step8 (hP := hP) hj hPC n ptr v11 v12 hI.1 (fun ptr v11' v12' h1 h2 h3 => ?_)) $$ HH
    iintro ⟨H12, H11, H14, H13⟩
    iexists v11', v12'
    isplitr
    · ipureintro
      exact ⟨h1, fun j' hj' => (hI.2 j' hj').congr (fun x hx => h2 x (by omega)) (fun x hx => h3 x (by omega))⟩
    isplitl [H13]; · iexact H13
    isplitl [H14]; · iexact H14
    isplitl [H11]; · iexact H11
    iexact H12
  · iexists v11, v12
    isplitr; · ipureintro; exact ⟨I8_zero (fun _ => rfl) ho.2, ho.1⟩
    isplitl [H13]; · iexact H13
    isplitl [H14]; · iexact H14
    isplitl [H11]; · iexact H11
    iexact H12
  · iintro %ptr ⟨%v11', %v12', %hI, H13, H14, H11, H12⟩
    iapply (hK ptr)
    unfold Gs OutP StgAny
    isplitl [HB]; · iexact HB
    isplitl [HL]; · iexact HL
    isplitl [HS]; · iexact HS
    isplitl [H11 H12]
    · iexists v11', v12'
      isplitr
      · ipureintro
        intro j' hj'
        by_cases hjj : j' = j
        · subst hjj
          obtain ⟨ptr', row, cnt, h2, h6⟩ := h13
          exact ⟨ptr', row, cnt, v13, v14, ptr, h2, h6, hI.1⟩
        · exact hI.2 j' (by omega)
      isplitl [H11]; · iexact H11
      iexact H12
    iexists v13, v14
    isplitl [H13]; · iexact H13
    iexact H14

/-! ## Nested binds around a loop -/

section
variable {d : Dev nD} {i : grid2.Coords} {R : sProp (MT nD τ sig (HIx 1) (Elt F) ℕ UU ℕ)} {β γ δ ε : Type}

theorem bind_assoc' (m : PR (F := F) i β) (f : β → PR (F := F) i γ) (h : γ → PR (F := F) i δ) : Prog.bind (Prog.bind m f) h = Prog.bind m fun v => Prog.bind (f v) h := Prog.bind_assoc m f h

theorem ruleD1 (prog : PR (F := F) i α) (W : Scf.Loop 32) (hok : W.OK) (init : β) (body : Fin W.trips → β → PR i β) (k : β → PR i α)
    (h : prog = Prog.bind (Scf.Loop.for W hok init body) k) (hK : R ⊢ Wp d i (Scf.Loop.for W hok init body >>= k) Q) : R ⊢ Wp d i prog Q := by
  rw [h]; exact hK
theorem ruleD2 (prog : PR (F := F) i α) (W : Scf.Loop 32) (hok : W.OK) (init : β) (body : Fin W.trips → β → PR i β) (k1 : β → PR i γ) (k : γ → PR i α)
    (h : prog = Prog.bind (Prog.bind (Scf.Loop.for W hok init body) k1) k) (hK : R ⊢ Wp d i (Scf.Loop.for W hok init body >>= fun v => (Prog.bind (k1 v) k)) Q) : R ⊢ Wp d i prog Q := by
  rw [h, bind_assoc']; exact hK
theorem ruleD3 (prog : PR (F := F) i α) (W : Scf.Loop 32) (hok : W.OK) (init : β) (body : Fin W.trips → β → PR i β) (k1 : β → PR i γ) (k : γ → PR i δ) (k2 : δ → PR i α)
    (h : prog = Prog.bind (Prog.bind (Prog.bind (Scf.Loop.for W hok init body) k1) k) k2) (hK : R ⊢ Wp d i (Scf.Loop.for W hok init body >>= fun v => (Prog.bind (Prog.bind (k1 v) k) k2)) Q) : R ⊢ Wp d i prog Q := by
  exact ruleD2 prog W hok init body _ k2 (h.trans (congrArg (fun m => Prog.bind m k2) (bind_assoc' _ k1 k))) hK
theorem ruleD4 (prog : PR (F := F) i α) (W : Scf.Loop 32) (hok : W.OK) (init : β) (body : Fin W.trips → β → PR i β) (k1 : β → PR i γ) (k : γ → PR i δ) (k2 : δ → PR i ε) (k3 : ε → PR i α)
    (h : prog = Prog.bind (Prog.bind (Prog.bind (Prog.bind (Scf.Loop.for W hok init body) k1) k) k2) k3) (hK : R ⊢ Wp d i (Scf.Loop.for W hok init body >>= fun v => Prog.bind (Prog.bind (Prog.bind (k1 v) k) k2) k3) Q) : R ⊢ Wp d i prog Q := by
  exact ruleD3 prog W hok init body _ k2 k3 (h.trans (congrArg (fun m => Prog.bind (Prog.bind m k2) k3) (bind_assoc' _ k1 k))) hK
end

/-! ## A group's two ends -/

/-- The array of block maxima. -/
def bmA (E : Env F) : S4096x784.Idx → F .f32 := fun x => E.bm (x 0).val (x 1).val

theorem ruleI {qb : PosShare TreeShare} {Z R : sProp 𝕄} (prog : PR (F := F) X.i α) (k : Fin k2_t1_loop.trips) (K) (h : prog = segI k K) (hg : g = k.val) (hB : X.B = 256 * (X.i 1).val + 128 * (X.i 0).val)
    (hK : iprop(Base X g iprop((Sh X.d X.i A3 qb (bmA X.E) ∗ semVal (cT X.d X.i, SemLoc.dma cc2_scoped1.sem) 0) ∗ Z) ∗ R) ⊢ Wp X.d X.i (K ⟨⟩) Q) :
    iprop((Ow X.d X.i A15 Finset.univ (tvF X.E X.B) ∗ (∃ w, Ow X.d X.i A7 Finset.univ w) ∗ Transfers.MayWaits (cT X.d X.i) (default : HIx 1) X.O
      ∗ (∃ W', ⌜∀ p ∈ W', p ∈ X.W ∨ p.2 = none⌝ ∗ owes (cT X.d X.i) X.O W') ∗ (Sh X.d X.i A3 qb (bmA X.E) ∗ semVal (cT X.d X.i, SemLoc.dma cc2_scoped1.sem) 0) ∗ Z) ∗ R) ⊢ Wp X.d X.i prog Q := by
  subst h
  unfold segI
  iintro ⟨⟨H15, ⟨%w, H7⟩, #Hmw, ⟨%W', %hW, HO⟩, ⟨Hs, Hv⟩, HZ⟩, HR⟩
  ihave Hs' := (Shr_slice (F := F) (e := .f32) (m := A3) (r := Rect.unit (s := S4096x784) (k2_off2 X.i k) S16x784.size (k2_off2_inb X.i k)) (hr := fun _ => rfl)) $$ Hs
  icases Hs' with ⟨Hs, Hc⟩
  iapply (own_copy countersEmb (F := F) (e := .f32) (c := cT X.d X.i) (defs := defs₀ (F := F)) (𝒱 := 𝒱₀) (bd := none) (Q := Q) (k := K) (show 0 < S16x784.numel by decide) (default : HIx 1)) $$ [Hs H7 Hv HO]
  · isplitl [Hs]; · iexact Hs
    isplitl [H7]; · iexact H7
    isplitl [Hv]; · iexact Hv
    isplitl [HO]; · iexact HO
    iexact Hmw
  iintro Hs H7 Hv HO
  ihave Hs := Hc $$ Hs
  iapply hK
  isplitr [HR]; swap; · iexact HR
  unfold Base
  isplitl [H15]; · iexact H15
  isplitl [H7]
  · iapply (Own_congr (F := F) (e := .f32) (m := A7) fun x _ => ?_) $$ H7
    show X.E.bm (k2_off2 X.i k 0 + 1 * (x 0).val) (k2_off2 X.i k 1 + 1 * (x 1).val) = X.E.bm (X.B + 16 * g + (x 0).val) (x 1).val
    have h0 : k2_off2 X.i k 0 = X.B + 16 * g := by rw [k2_off2_eq, hB, hg]; rfl
    have h1 : k2_off2 X.i k 1 = 0 := by rw [k2_off2_eq]; rfl
    rw [h0, h1, Nat.one_mul, Nat.one_mul, Nat.zero_add]
  isplitr; · iexact Hmw
  isplitl [HO]
  · iexists _
    isplitr
    swap; · iexact HO
    ipureintro
    intro q hq
    rcases Finset.mem_insert.mp hq with rfl | hq
    · exact .inr rfl
    · exact hW q hq
  isplitl [Hs Hv]
  · isplitl [Hs]; · iexact Hs
    iexact Hv
  iexact HZ

/-- The group's rows of the two results. -/
abbrev rOut (i : grid2.Coords) (k : Fin k2_t1_loop.trips) : Rect S4096x256 := Rect.unit (s := S4096x256) (k2_off291 i k) S16x256.size (k2_off291_inb i k)
abbrev A5g (i : grid2.Coords) (k : Fin k2_t1_loop.trips) : Memref sig .scVector .hbm S16x256 .f32 := A5.slice (rOut i k) (fun _ => rfl)
abbrev A6g (i : grid2.Coords) (k : Fin k2_t1_loop.trips) : Memref sig .scVector .hbm S16x256 .i32 := A6.slice (rOut i k) (fun _ => rfl)

theorem ruleO {Z : sProp 𝕄} (prog : PR (F := F) X.i α) (k : Fin k2_t1_loop.trips) (K) (h : prog = segOut k K)
    (hK : ∀ v11 v12, (∀ j < 16, RowOK X.E (Rw X g j) j v11 v12) →
      (iprop(Base X g iprop(Z ∗ semVal (cT X.d X.i, SemLoc.dma cc2_scoped2.sem) 0 ∗ semVal (cT X.d X.i, SemLoc.dma cc2_scoped3.sem) 0 ∗ Ow X.d X.i (A5g X.i k) Finset.univ v11 ∗ Ow X.d X.i (A6g X.i k) Finset.univ v12)
        ∗ L ∗ Sl ∗ Ow X.d X.i A11 Finset.univ v11 ∗ Ow X.d X.i A12 Finset.univ v12 ∗ T)) ⊢ Wp X.d X.i (K ⟨⟩) Q) :
    Gs X g iprop(Z ∗ semVal (cT X.d X.i, SemLoc.dma cc2_scoped2.sem) 0 ∗ semVal (cT X.d X.i, SemLoc.dma cc2_scoped3.sem) 0 ∗ (∃ w, Ow X.d X.i (A5g X.i k) Finset.univ w) ∗ (∃ w, Ow X.d X.i (A6g X.i k) Finset.univ w))
      L Sl (OutP X g 16) T ⊢ Wp X.d X.i prog Q := by
  subst h
  unfold Gs segOut Base OutP
  iintro ⟨⟨H15, H7, #Hmw, ⟨%W', %hW, HO⟩, HZ, Hv2, Hv3, ⟨%w5, H5⟩, ⟨%w6, H6⟩⟩, HL, HS, ⟨%v11, %v12, %ho, H11, H12⟩, HT⟩
  ihave H11 := (Shr_of_Own (F := F) (e := .f32) (m := A11)) $$ H11
  iapply (own_copy countersEmb (F := F) (e := .f32) (c := cT X.d X.i) (defs := defs₀ (F := F)) (𝒱 := 𝒱₀) (bd := none) (Q := Q) (by decide) (default : HIx 1)) $$ [H11 H5 Hv2 HO]
  · isplitl [H11]; · iexact H11
    isplitl [H5]; · iexact H5
    isplitl [Hv2]; · iexact Hv2
    isplitl [HO]; · iexact HO
    iexact Hmw
  iintro H11 H5 Hv2 HO
  ihave H12 := (Shr_of_Own (F := F) (e := .i32) (m := A12)) $$ H12
  iapply (own_copy countersEmb (F := F) (e := .i32) (c := cT X.d X.i) (defs := defs₀ (F := F)) (𝒱 := 𝒱₀) (bd := none) (Q := Q) (k := K) (by decide) (default : HIx 1)) $$ [H12 H6 Hv3 HO]
  · isplitl [H12]; · iexact H12
    isplitl [H6]; · iexact H6
    isplitl [Hv3]; · iexact Hv3
    isplitl [HO]; · iexact HO
    iexact Hmw
  iintro H12 H6 Hv3 HO
  ihave H11 := (Own_of_Shr (F := F) (e := .f32) (m := A11)) $$ H11
  ihave H12 := (Own_of_Shr (F := F) (e := .i32) (m := A12)) $$ H12
  iapply (hK v11 v12 ho)
  unfold Base
  isplitl [H15 H7 HO HZ Hv2 Hv3 H5 H6]
  · isplitl [H15]; · iexact H15
    isplitl [H7]; · iexact H7
    isplitr; · iexact Hmw
    isplitl [HO]
    · iexists _
      isplitr
      swap; · iexact HO
      ipureintro
      intro q hq
      rcases Finset.mem_insert.mp hq with rfl | hq
      · exact .inr rfl
      rcases Finset.mem_insert.mp hq with rfl | hq
      · exact .inr rfl
      · exact hW q hq
    isplitl [HZ]; · iexact HZ
    isplitl [Hv2]; · iexact Hv2
    isplitl [Hv3]; · iexact Hv3
    isplitl [H5]; · iexact H5
    iexact H6
  isplitl [HL]; · iexact HL
  isplitl [HS]; · iexact HS
  isplitl [H11]; · iexact H11
  isplitl [H12]; · iexact H12
  iexact HT

end Cert.Sel
-- ==== Proof.Group.lean ====
/-
  One group of sixteen rows: the stretches of its program in their order.
-/
module

public import proofs.«01_k».proof.Proof.Ends

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {X : Tile F} {g : ℕ} {k : Fin k2_t1_loop.trips} {v2 : BitVec 32}

theorem Lst_reset {l : Lists} : (Lst X l : sProp 𝕄) ⊢ Lst X fun _ => none := by
  unfold Lst
  iintro ⟨%v8, %hf, H8⟩
  iexists v8
  isplitr
  · ipureintro; intro p R ptr row h; cases h
  iexact H8

theorem Slots_reset {s : Nat → Stt} (h0 : s 0 = .free) (h1 : s 1 = .free) (h2 : s 2 = .free) (h3 : s 3 = .free) : (Slots X s : sProp 𝕄) ⊢ Slots X fun _ => .free := by
  unfold Slots
  rw [h0, h1, h2, h3]

theorem row_eq (k : Fin 8) (j : Fin 16) : (row (Scf.iv 0#32 1#32 k.val) j.val).toNat = 16 * k.val + j.val := by
  revert k j; decide

theorem row_nat (k : Fin k2_t1_loop.trips) {j : Nat} (hj : j < 16) : (row (g1 k) j).toNat = 16 * k.val + j := row_eq k ⟨j, hj⟩

theorem rowC (k : Fin k2_t1_loop.trips) {j : Nat} (hj : j < 16) : C128 (broadcast S16 (row (g1 k) j)) := by
  intro a x
  have hk : k.val < 8 := k.isLt
  match a with
  | 0 => exact lt_of_eq_of_lt (row_nat k hj) (show 16 * k.val + j < 128 by omega)

theorem rowT (hg : g = k.val) {j : Nat} (hj : j < 16) {h : ∀ a x, ((![broadcast S16 (row (g1 k) j)] : Fin 1 → IVec S16 32) a x).toNat < S128.size a} (x : S16.Idx) :
    tvec (tvF X.E X.B) (row (g1 k) j) h x = X.E.tau (Rw X g j) := by
  show X.E.tau (X.B + (row (g1 k) j).toNat) = _
  rw [row_nat k hj, hg, Rw, Nat.add_assoc]

theorem rowLe (hg : g = k.val) {j : Nat} (hj : j < 16) : Rw X g j ≤ 4095 := by
  have hk : k.val < 8 := k.isLt
  have := X.hB
  unfold Rw; omega

theorem rowB (hg : g = k.val) (hv2 : v2.toNat = X.B) {j : Nat} (hj : j < 16) : (Scalar.muli (Scalar.addi v2 (row (g1 k) j)) 784#32 : BitVec 32).toNat = Rw X g j * 784 := by
  have hk : k.val < 8 := k.isLt
  have := X.hB
  show (v2 + row (g1 k) j).toNat * 784 % 2 ^ 32 = _
  rw [BitVec.toNat_add, hv2, row_nat k hj, Nat.mod_eq_of_lt (by omega), Nat.mod_eq_of_lt (by omega), hg, Rw]
  ring

set_option maxHeartbeats 4000000 in
set_option maxRecDepth 100000 in
theorem group (hg : g = k.val) (hB : X.B = 256 * (X.i 1).val + 128 * (X.i 0).val) (hv2 : v2.toNat = X.B) {qb : PosShare TreeShare} :
    iprop((Ow X.d X.i A15 Finset.univ (tvF X.E X.B) ∗ (∃ w, Ow X.d X.i A7 Finset.univ w) ∗ Transfers.MayWaits (cT X.d X.i) (default : HIx 1) X.O
      ∗ (∃ W', ⌜∀ p ∈ W', p ∈ X.W ∨ p.2 = none⌝ ∗ owes (cT X.d X.i) X.O W') ∗ (Sh X.d X.i A3 qb (bmA X.E) ∗ semVal (cT X.d X.i, SemLoc.dma cc2_scoped1.sem) 0)
      ∗ semVal (cT X.d X.i, SemLoc.dma cc2_scoped2.sem) 0 ∗ semVal (cT X.d X.i, SemLoc.dma cc2_scoped3.sem) 0 ∗ (∃ w, Ow X.d X.i (A5g X.i k) Finset.univ w) ∗ (∃ w, Ow X.d X.i (A6g X.i k) Finset.univ w))
      ∗ Lst X (fun _ => none) ∗ Slots X (fun _ => .free) ∗ OutP X g 0 ∗ StgAny X)
    ⊢ Wp X.d X.i (body1 X.i v2 lanes k ()) (fun _ => iprop(∃ v11 v12, ⌜∀ j < 16, RowOK X.E (Rw X g j) j v11 v12⌝
      ∗ Base X g iprop((Sh X.d X.i A3 qb (bmA X.E) ∗ semVal (cT X.d X.i, SemLoc.dma cc2_scoped1.sem) 0) ∗ semVal (cT X.d X.i, SemLoc.dma cc2_scoped2.sem) 0 ∗ semVal (cT X.d X.i, SemLoc.dma cc2_scoped3.sem) 0
        ∗ Ow X.d X.i (A5g X.i k) Finset.univ v11 ∗ Ow X.d X.i (A6g X.i k) Finset.univ v12)
      ∗ Lst X (fun _ => none) ∗ Slots X (fun _ => .free) ∗ Ow X.d X.i A11 Finset.univ v11 ∗ Ow X.d X.i A12 Finset.univ v12 ∗ StgAny X)) := by
  refine ruleI _ k _ rfl hg hB ?_
  refine ruleA _ 0 (by omega) _ _ _ rfl (rowC k (j := 0) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 0 0 (by omega) _ (inb7' (j := 0) (by omega)) C128 _ (fun v h => h) _ rfl (by omega) (fun _ h => h) rfl (rowT hg (j := 0) (by omega)) fun _ _ => ?_
  refine ruleB _ 0 (by omega) _ _ _ _ _ rfl (chkMk (p := 0) (by omega) _) rfl rfl rfl (rowB hg hv2 (j := 0) (by omega)) (rowLe hg (j := 0) (by omega)) fun _ => ?_
  refine ruleA _ 1 (by omega) _ _ _ rfl (rowC k (j := 1) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 1 1 (by omega) _ (inb7' (j := 1) (by omega)) C128 _ (fun v h => h) _ rfl (by omega) (fun _ h => h) rfl (rowT hg (j := 1) (by omega)) fun _ _ => ?_
  refine ruleB _ 1 (by omega) _ _ _ _ _ rfl (chkMk (p := 1) (by omega) _) rfl rfl rfl (rowB hg hv2 (j := 1) (by omega)) (rowLe hg (j := 1) (by omega)) fun _ => ?_
  refine ruleA _ 2 (by omega) _ _ _ rfl (rowC k (j := 2) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 2 2 (by omega) _ (inb7' (j := 2) (by omega)) C128 _ (fun v h => h) _ rfl (by omega) (fun _ h => h) rfl (rowT hg (j := 2) (by omega)) fun _ _ => ?_
  refine ruleB _ 2 (by omega) _ _ _ _ _ rfl (chkMk (p := 2) (by omega) _) rfl rfl rfl (rowB hg hv2 (j := 2) (by omega)) (rowLe hg (j := 2) (by omega)) fun _ => ?_
  refine ruleA _ 3 (by omega) _ _ _ rfl (rowC k (j := 3) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 3 3 (by omega) _ (inb7' (j := 3) (by omega)) C128 _ (fun v h => h) _ rfl (by omega) (fun _ h => h) rfl (rowT hg (j := 3) (by omega)) fun _ _ => ?_
  refine ruleB _ 3 (by omega) _ _ _ _ _ rfl (chkMk (p := 3) (by omega) _) rfl rfl rfl (rowB hg hv2 (j := 3) (by omega)) (rowLe hg (j := 3) (by omega)) fun _ => ?_
  refine ruleC _ 0 (by omega) _ _ _ _ rfl (rowC k (j := 0) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 0 _ _ (by omega) _ C128 _ (fun v h => h) (o10_inb (by omega) _) (fun v => C512 v ∧ C512 v) _ (fun v h => h.1) _ rfl (fun _ h => h) (fun _ h => ⟨h, h⟩) rfl rfl rfl (rowT hg (j := 0) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 0 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 0#32) (fun v => C256 (broadcast S16 0#32) v ∧ C256 (broadcast S16 0#32) v) _ (fun v h => h.1) _ rfl (by omega) rfl (fun _ h => ⟨h, h⟩) rfl fun _ => ?_
  refine ruleA _ 0 (by omega) _ _ _ rfl (rowC k (j := 4) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 4 0 (by omega) _ (inb7' (j := 4) (by omega)) C128 _ (fun v h => h) _ rfl (by omega) (fun _ h => h) rfl (rowT hg (j := 4) (by omega)) fun _ _ => ?_
  refine ruleB _ 0 (by omega) _ _ _ _ _ rfl (chkMk (p := 0) (by omega) _) rfl rfl rfl (rowB hg hv2 (j := 4) (by omega)) (rowLe hg (j := 4) (by omega)) fun _ => ?_
  refine ruleC _ 1 (by omega) _ _ _ _ rfl (rowC k (j := 1) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 1 _ _ (by omega) _ C128 _ (fun v h => h) (o10_inb (by omega) _) (fun v => C512 v ∧ C512 v) _ (fun v h => h.1) _ rfl (fun _ h => h) (fun _ h => ⟨h, h⟩) rfl rfl rfl (rowT hg (j := 1) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 1 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 1#32) (fun v => C256 (broadcast S16 1#32) v ∧ C256 (broadcast S16 1#32) v) _ (fun v h => h.1) _ rfl (by omega) rfl (fun _ h => ⟨h, h⟩) rfl fun _ => ?_
  refine ruleA _ 1 (by omega) _ _ _ rfl (rowC k (j := 5) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 5 1 (by omega) _ (inb7' (j := 5) (by omega)) C128 _ (fun v h => h) _ rfl (by omega) (fun _ h => h) rfl (rowT hg (j := 5) (by omega)) fun _ _ => ?_
  refine ruleB _ 1 (by omega) _ _ _ _ _ rfl (chkMk (p := 1) (by omega) _) rfl rfl rfl (rowB hg hv2 (j := 5) (by omega)) (rowLe hg (j := 5) (by omega)) fun _ => ?_
  refine ruleC _ 2 (by omega) _ _ _ _ rfl (rowC k (j := 2) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 2 _ _ (by omega) _ C128 _ (fun v h => h) (o10_inb (by omega) _) (fun v => C512 v ∧ C512 v) _ (fun v h => h.1) _ rfl (fun _ h => h) (fun _ h => ⟨h, h⟩) rfl rfl rfl (rowT hg (j := 2) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 2 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 2#32) (fun v => C256 (broadcast S16 2#32) v ∧ C256 (broadcast S16 2#32) v) _ (fun v h => h.1) _ rfl (by omega) rfl (fun _ h => ⟨h, h⟩) rfl fun _ => ?_
  refine ruleA _ 2 (by omega) _ _ _ rfl (rowC k (j := 6) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 6 2 (by omega) _ (inb7' (j := 6) (by omega)) C128 _ (fun v h => h) _ rfl (by omega) (fun _ h => h) rfl (rowT hg (j := 6) (by omega)) fun _ _ => ?_
  refine ruleB _ 2 (by omega) _ _ _ _ _ rfl (chkMk (p := 2) (by omega) _) rfl rfl rfl (rowB hg hv2 (j := 6) (by omega)) (rowLe hg (j := 6) (by omega)) fun _ => ?_
  refine ruleC _ 3 (by omega) _ _ _ _ rfl (rowC k (j := 3) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 3 _ _ (by omega) _ C128 _ (fun v h => h) (o10_inb (by omega) _) (fun v => C512 v ∧ C512 v) _ (fun v h => h.1) _ rfl (fun _ h => h) (fun _ h => ⟨h, h⟩) rfl rfl rfl (rowT hg (j := 3) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 3 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 3#32) (fun v => C256 (broadcast S16 3#32) v ∧ C256 (broadcast S16 3#32) v) _ (fun v h => h.1) _ rfl (by omega) rfl (fun _ h => ⟨h, h⟩) rfl fun _ => ?_
  refine ruleA _ 3 (by omega) _ _ _ rfl (rowC k (j := 7) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 7 3 (by omega) _ (inb7' (j := 7) (by omega)) C128 _ (fun v h => h) _ rfl (by omega) (fun _ h => h) rfl (rowT hg (j := 7) (by omega)) fun _ _ => ?_
  refine ruleB _ 3 (by omega) _ _ _ _ _ rfl (chkMk (p := 3) (by omega) _) rfl rfl rfl (rowB hg hv2 (j := 7) (by omega)) (rowLe hg (j := 7) (by omega)) fun _ => ?_
  refine ruleC _ 0 (by omega) _ _ _ _ rfl (rowC k (j := 4) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 0 _ _ (by omega) _ C128 _ (fun v h => h) (o10_inb (by omega) _) (fun v => C512 v ∧ C512 v) _ (fun v h => h.1) _ rfl (fun _ h => h) (fun _ h => ⟨h, h⟩) rfl rfl rfl (rowT hg (j := 4) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 4 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 4#32) (fun v => C256 (broadcast S16 4#32) v ∧ C256 (broadcast S16 4#32) v) _ (fun v h => h.1) _ rfl (by omega) rfl (fun _ h => ⟨h, h⟩) rfl fun _ => ?_
  refine ruleA _ 0 (by omega) _ _ _ rfl (rowC k (j := 8) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 8 0 (by omega) _ (inb7' (j := 8) (by omega)) C128 _ (fun v h => h) _ rfl (by omega) (fun _ h => h) rfl (rowT hg (j := 8) (by omega)) fun _ _ => ?_
  refine ruleB _ 0 (by omega) _ _ _ _ _ rfl (chkMk (p := 0) (by omega) _) rfl rfl rfl (rowB hg hv2 (j := 8) (by omega)) (rowLe hg (j := 8) (by omega)) fun _ => ?_
  refine ruleC _ 1 (by omega) _ _ _ _ rfl (rowC k (j := 5) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 1 _ _ (by omega) _ C128 _ (fun v h => h) (o10_inb (by omega) _) (fun v => C512 v ∧ C512 v) _ (fun v h => h.1) _ rfl (fun _ h => h) (fun _ h => ⟨h, h⟩) rfl rfl rfl (rowT hg (j := 5) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 5 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 5#32) (fun v => C256 (broadcast S16 5#32) v ∧ C256 (broadcast S16 5#32) v) _ (fun v h => h.1) _ rfl (by omega) rfl (fun _ h => ⟨h, h⟩) rfl fun _ => ?_
  refine ruleA _ 1 (by omega) _ _ _ rfl (rowC k (j := 9) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 9 1 (by omega) _ (inb7' (j := 9) (by omega)) C128 _ (fun v h => h) _ rfl (by omega) (fun _ h => h) rfl (rowT hg (j := 9) (by omega)) fun _ _ => ?_
  refine ruleB _ 1 (by omega) _ _ _ _ _ rfl (chkMk (p := 1) (by omega) _) rfl rfl rfl (rowB hg hv2 (j := 9) (by omega)) (rowLe hg (j := 9) (by omega)) fun _ => ?_
  refine ruleC _ 2 (by omega) _ _ _ _ rfl (rowC k (j := 6) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 2 _ _ (by omega) _ C128 _ (fun v h => h) (o10_inb (by omega) _) (fun v => C512 v ∧ C512 v) _ (fun v h => h.1) _ rfl (fun _ h => h) (fun _ h => ⟨h, h⟩) rfl rfl rfl (rowT hg (j := 6) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 6 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 6#32) (fun v => C256 (broadcast S16 6#32) v ∧ C256 (broadcast S16 6#32) v) _ (fun v h => h.1) _ rfl (by omega) rfl (fun _ h => ⟨h, h⟩) rfl fun _ => ?_
  refine ruleA _ 2 (by omega) _ _ _ rfl (rowC k (j := 10) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 10 2 (by omega) _ (inb7' (j := 10) (by omega)) C128 _ (fun v h => h) _ rfl (by omega) (fun _ h => h) rfl (rowT hg (j := 10) (by omega)) fun _ _ => ?_
  refine ruleB _ 2 (by omega) _ _ _ _ _ rfl (chkMk (p := 2) (by omega) _) rfl rfl rfl (rowB hg hv2 (j := 10) (by omega)) (rowLe hg (j := 10) (by omega)) fun _ => ?_
  refine ruleC _ 3 (by omega) _ _ _ _ rfl (rowC k (j := 7) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 3 _ _ (by omega) _ C128 _ (fun v h => h) (o10_inb (by omega) _) (fun v => C512 v ∧ C512 v) _ (fun v h => h.1) _ rfl (fun _ h => h) (fun _ h => ⟨h, h⟩) rfl rfl rfl (rowT hg (j := 7) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 7 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 7#32) (fun v => C256 (broadcast S16 7#32) v ∧ C256 (broadcast S16 7#32) v) _ (fun v h => h.1) _ rfl (by omega) rfl (fun _ h => ⟨h, h⟩) rfl fun _ => ?_
  refine ruleA _ 3 (by omega) _ _ _ rfl (rowC k (j := 11) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 11 3 (by omega) _ (inb7' (j := 11) (by omega)) C128 _ (fun v h => h) _ rfl (by omega) (fun _ h => h) rfl (rowT hg (j := 11) (by omega)) fun _ _ => ?_
  refine ruleB _ 3 (by omega) _ _ _ _ _ rfl (chkMk (p := 3) (by omega) _) rfl rfl rfl (rowB hg hv2 (j := 11) (by omega)) (rowLe hg (j := 11) (by omega)) fun _ => ?_
  refine ruleC _ 0 (by omega) _ _ _ _ rfl (rowC k (j := 8) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 0 _ _ (by omega) _ C128 _ (fun v h => h) (o10_inb (by omega) _) (fun v => C512 v ∧ C512 v) _ (fun v h => h.1) _ rfl (fun _ h => h) (fun _ h => ⟨h, h⟩) rfl rfl rfl (rowT hg (j := 8) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 8 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 8#32) (fun v => C256 (broadcast S16 8#32) v ∧ C256 (broadcast S16 8#32) v) _ (fun v h => h.1) _ rfl (by omega) rfl (fun _ h => ⟨h, h⟩) rfl fun _ => ?_
  refine ruleA _ 0 (by omega) _ _ _ rfl (rowC k (j := 12) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 12 0 (by omega) _ (inb7' (j := 12) (by omega)) C128 _ (fun v h => h) _ rfl (by omega) (fun _ h => h) rfl (rowT hg (j := 12) (by omega)) fun _ _ => ?_
  refine ruleB _ 0 (by omega) _ _ _ _ _ rfl (chkMk (p := 0) (by omega) _) rfl rfl rfl (rowB hg hv2 (j := 12) (by omega)) (rowLe hg (j := 12) (by omega)) fun _ => ?_
  refine ruleC _ 1 (by omega) _ _ _ _ rfl (rowC k (j := 9) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 1 _ _ (by omega) _ C128 _ (fun v h => h) (o10_inb (by omega) _) (fun v => C512 v ∧ C512 v) _ (fun v h => h.1) _ rfl (fun _ h => h) (fun _ h => ⟨h, h⟩) rfl rfl rfl (rowT hg (j := 9) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 9 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 9#32) (fun v => C256 (broadcast S16 9#32) v ∧ C256 (broadcast S16 9#32) v) _ (fun v h => h.1) _ rfl (by omega) rfl (fun _ h => ⟨h, h⟩) rfl fun _ => ?_
  refine ruleA _ 1 (by omega) _ _ _ rfl (rowC k (j := 13) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 13 1 (by omega) _ (inb7' (j := 13) (by omega)) C128 _ (fun v h => h) _ rfl (by omega) (fun _ h => h) rfl (rowT hg (j := 13) (by omega)) fun _ _ => ?_
  refine ruleB _ 1 (by omega) _ _ _ _ _ rfl (chkMk (p := 1) (by omega) _) rfl rfl rfl (rowB hg hv2 (j := 13) (by omega)) (rowLe hg (j := 13) (by omega)) fun _ => ?_
  refine ruleC _ 2 (by omega) _ _ _ _ rfl (rowC k (j := 10) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 2 _ _ (by omega) _ C128 _ (fun v h => h) (o10_inb (by omega) _) (fun v => C512 v ∧ C512 v) _ (fun v h => h.1) _ rfl (fun _ h => h) (fun _ h => ⟨h, h⟩) rfl rfl rfl (rowT hg (j := 10) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 10 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 10#32) (fun v => C256 (broadcast S16 10#32) v ∧ C256 (broadcast S16 10#32) v) _ (fun v h => h.1) _ rfl (by omega) rfl (fun _ h => ⟨h, h⟩) rfl fun _ => ?_
  refine ruleA _ 2 (by omega) _ _ _ rfl (rowC k (j := 14) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 14 2 (by omega) _ (inb7' (j := 14) (by omega)) C128 _ (fun v h => h) _ rfl (by omega) (fun _ h => h) rfl (rowT hg (j := 14) (by omega)) fun _ _ => ?_
  refine ruleB _ 2 (by omega) _ _ _ _ _ rfl (chkMk (p := 2) (by omega) _) rfl rfl rfl (rowB hg hv2 (j := 14) (by omega)) (rowLe hg (j := 14) (by omega)) fun _ => ?_
  refine ruleC _ 3 (by omega) _ _ _ _ rfl (rowC k (j := 11) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 3 _ _ (by omega) _ C128 _ (fun v h => h) (o10_inb (by omega) _) (fun v => C512 v ∧ C512 v) _ (fun v h => h.1) _ rfl (fun _ h => h) (fun _ h => ⟨h, h⟩) rfl rfl rfl (rowT hg (j := 11) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 11 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 11#32) (fun v => C256 (broadcast S16 11#32) v ∧ C256 (broadcast S16 11#32) v) _ (fun v h => h.1) _ rfl (by omega) rfl (fun _ h => ⟨h, h⟩) rfl fun _ => ?_
  refine ruleA _ 3 (by omega) _ _ _ rfl (rowC k (j := 15) (by omega)) rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL2 _ 15 3 (by omega) _ (inb7' (j := 15) (by omega)) C128 _ (fun v h => h) _ rfl (by omega) (fun _ h => h) rfl (rowT hg (j := 15) (by omega)) fun _ _ => ?_
  refine ruleB _ 3 (by omega) _ _ _ _ _ rfl (chkMk (p := 3) (by omega) _) rfl rfl rfl (rowB hg hv2 (j := 15) (by omega)) (rowLe hg (j := 15) (by omega)) fun _ => ?_
  refine ruleC _ 0 (by omega) _ _ _ _ rfl (rowC k (j := 12) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 0 _ _ (by omega) _ C128 _ (fun v h => h) (o10_inb (by omega) _) (fun v => C512 v ∧ C512 v) _ (fun v h => h.1) _ rfl (fun _ h => h) (fun _ h => ⟨h, h⟩) rfl rfl rfl (rowT hg (j := 12) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 12 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 12#32) (fun v => C256 (broadcast S16 12#32) v ∧ C256 (broadcast S16 12#32) v) _ (fun v h => h.1) _ rfl (by omega) rfl (fun _ h => ⟨h, h⟩) rfl fun _ => ?_
  refine ruleC _ 1 (by omega) _ _ _ _ rfl (rowC k (j := 13) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 1 _ _ (by omega) _ C128 _ (fun v h => h) (o10_inb (by omega) _) (fun v => C512 v ∧ C512 v) _ (fun v h => h.1) _ rfl (fun _ h => h) (fun _ h => ⟨h, h⟩) rfl rfl rfl (rowT hg (j := 13) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 13 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 13#32) (fun v => C256 (broadcast S16 13#32) v ∧ C256 (broadcast S16 13#32) v) _ (fun v h => h.1) _ rfl (by omega) rfl (fun _ h => ⟨h, h⟩) rfl fun _ => ?_
  refine ruleC _ 2 (by omega) _ _ _ _ rfl (rowC k (j := 14) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 2 _ _ (by omega) _ C128 _ (fun v h => h) (o10_inb (by omega) _) (fun v => C512 v ∧ C512 v) _ (fun v h => h.1) _ rfl (fun _ h => h) (fun _ h => ⟨h, h⟩) rfl rfl rfl (rowT hg (j := 14) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 14 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 14#32) (fun v => C256 (broadcast S16 14#32) v ∧ C256 (broadcast S16 14#32) v) _ (fun v h => h.1) _ rfl (by omega) rfl (fun _ h => ⟨h, h⟩) rfl fun _ => ?_
  refine ruleC _ 3 (by omega) _ _ _ _ rfl (rowC k (j := 15) (by omega)) rfl rfl fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL6 _ 3 _ _ (by omega) _ C128 _ (fun v h => h) (o10_inb (by omega) _) (fun v => C512 v ∧ C512 v) _ (fun v h => h.1) _ rfl (fun _ h => h) (fun _ h => ⟨h, h⟩) rfl rfl rfl (rowT hg (j := 15) (by omega)) fun _ => ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL7 _ _ _ _ _ _ rfl ?_
  refine ruleD _ 15 (by omega) _ rfl rfl ?_
  first | refine ruleD2 _ _ _ _ _ _ _ rfl ?_ | refine ruleD3 _ _ _ _ _ _ _ _ rfl ?_ | refine ruleD1 _ _ _ _ _ _ rfl ?_ | refine ruleD4 _ _ _ _ _ _ _ _ _ rfl ?_
  refine ruleL8 _ (broadcast S16 15#32) (fun v => C256 (broadcast S16 15#32) v ∧ C256 (broadcast S16 15#32) v) _ (fun v h => h.1) _ rfl (by omega) rfl (fun _ h => ⟨h, h⟩) rfl fun _ => ?_
  refine ruleO _ k _ rfl fun v11 v12 ho => own_ret ?_
  iintro ⟨HB, HL, HS, H11, H12, HT⟩
  iexists v11, v12
  isplitr; · ipureintro; exact ho
  isplitl [HB]; · iexact HB
  isplitl [HL]; · iapply Lst_reset $$ HL
  isplitl [HS]; · iapply (Slots_reset rfl rfl rfl rfl) $$ HS
  isplitl [H11]; · iexact H11
  isplitl [H12]; · iexact H12
  iexact HT

end Cert.Sel
-- ==== Proof.Tile.lean ====
/-
  The subcore's whole program: the copy of its thresholds and the loop over its eight groups, and what the rows of the
  two results it owns hold afterwards.
-/
module

public import proofs.«01_k».proof.Proof.Group

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- Row `R` of the two results is what the three loops make of it. -/
def RowG (E : Env F) (R : Nat) (v5 : S4096x256.Idx → F .f32) (v6 : S4096x256.Idx → BitVec 32) : Prop :=
  ∃ j v11 v12, j < 16 ∧ RowOK E R j v11 v12 ∧ ∀ (x : S4096x256.Idx) (y : S16x256.Idx), (x 0).val = R → (y 0).val = j → (x 1).val = (y 1).val → v5 x = v11 y ∧ v6 x = v12 y

theorem RowG.congr {E : Env F} {R : Nat} {v5 w5 : S4096x256.Idx → F .f32} {v6 w6 : S4096x256.Idx → BitVec 32} (h : RowG E R v5 v6)
    (h5 : ∀ x : S4096x256.Idx, (x 0).val = R → w5 x = v5 x) (h6 : ∀ x : S4096x256.Idx, (x 0).val = R → w6 x = v6 x) : RowG E R w5 w6 := by
  obtain ⟨j, v11, v12, hj, hr, hh⟩ := h
  refine ⟨j, v11, v12, hj, hr, fun x y hx hy e => ?_⟩
  rw [h5 x hx, h6 x hx]; exact hh x y hx hy e

/-- The rows of core `c`, subcore `s`. -/
def tset (c s : Nat) : Finset S4096x256.Idx := Finset.univ.filter fun x => (x 0).val / 128 = 2 * s + c
theorem mem_tset {c s : Nat} {x : S4096x256.Idx} : x ∈ tset c s ↔ (x 0).val / 128 = 2 * s + c := by simp [tset]

theorem rOut_val0 (i : grid2.Coords) (k : Fin k2_t1_loop.trips) (y : S16x256.Idx) : ((rOut i k).emb y 0).val = 256 * (i 1).val + 128 * (i 0).val + 16 * k.val + (y 0).val := by
  show k2_off291 i k 0 + 1 * (y 0).val = _
  rw [k2_off291_eq]; show 256 * (i 1).val + 128 * (i 0).val + 16 * k.val + 1 * (y 0).val = _
  omega
theorem rOut_val1 (i : grid2.Coords) (k : Fin k2_t1_loop.trips) (y : S16x256.Idx) : ((rOut i k).emb y 1).val = (y 1).val := by
  show k2_off291 i k 1 + 1 * (y 1).val = _
  rw [k2_off291_eq]; show 0 + 1 * (y 1).val = _
  omega

theorem rOut_mem (i : grid2.Coords) (k : Fin k2_t1_loop.trips) {x : S4096x256.Idx} (h : x ∈ (rOut i k).set) :
    256 * (i 1).val + 128 * (i 0).val + 16 * k.val ≤ (x 0).val ∧ (x 0).val < 256 * (i 1).val + 128 * (i 0).val + 16 * k.val + 16 := by
  obtain ⟨y, rfl⟩ := exists_of_mem _ h
  have := (y 0).isLt
  simp [S16x256] at this
  rw [rOut_val0]; omega

theorem rOut_sub (i : grid2.Coords) (k : Fin k2_t1_loop.trips) : (rOut i k).set ⊆ tset (i 0).val (i 1).val := by
  intro x hx
  have := rOut_mem i k hx
  have hk : k.val < 8 := k.isLt
  rw [mem_tset]; omega

variable {X : Tile F} {qb : PosShare TreeShare}

/-- What the loop keeps beside the results. -/
def Rest (X : Tile F) (qb : PosShare TreeShare) : sProp 𝕄 :=
  iprop((Ow X.d X.i A15 Finset.univ (tvF X.E X.B) ∗ (∃ w, Ow X.d X.i A7 Finset.univ w) ∗ Transfers.MayWaits (cT X.d X.i) (default : HIx 1) X.O
    ∗ (∃ W', ⌜∀ p ∈ W', p ∈ X.W ∨ p.2 = none⌝ ∗ owes (cT X.d X.i) X.O W') ∗ (Sh X.d X.i A3 qb (bmA X.E) ∗ semVal (cT X.d X.i, SemLoc.dma cc2_scoped1.sem) 0)
    ∗ semVal (cT X.d X.i, SemLoc.dma cc2_scoped2.sem) 0 ∗ semVal (cT X.d X.i, SemLoc.dma cc2_scoped3.sem) 0)
   ∗ Lst X (fun _ => none) ∗ Slots X (fun _ => .free) ∗ ((∃ w, Ow X.d X.i A11 Finset.univ w) ∗ ∃ w, Ow X.d X.i A12 Finset.univ w) ∗ StgAny X)

/-- After `n` groups. -/
def TI (X : Tile F) (qb : PosShare TreeShare) (n : Nat) : sProp 𝕄 :=
  iprop(∃ v5 v6, ⌜∀ r < 16 * n, RowG X.E (X.B + r) v5 v6⌝ ∗ Ow X.d X.i A5 (tset (X.i 0).val (X.i 1).val) v5 ∗ Ow X.d X.i A6 (tset (X.i 0).val (X.i 1).val) v6 ∗ Rest X qb)

set_option maxHeartbeats 1000000 in
theorem stepT (hB : X.B = 256 * (X.i 1).val + 128 * (X.i 0).val) {v2 : BitVec 32} (hv2 : v2.toNat = X.B) (k : Fin k2_t1_loop.trips) (u : Unit) :
    TI X qb k.val ⊢ Wp X.d X.i (body1 X.i v2 lanes k u) (fun _ => TI X qb (k.val + 1)) := by
  have hk : k.val < 8 := k.isLt
  unfold TI
  iintro ⟨%v5, %v6, %hr, H5, H6, HR⟩
  ihave H5' := (Own_slice (F := F) (e := .f32) (m := A5) (hr := fun _ => rfl) (rOut_sub X.i k)) $$ H5
  icases H5' with ⟨H5, H5c⟩
  ihave H6' := (Own_slice (F := F) (e := .i32) (m := A6) (hr := fun _ => rfl) (rOut_sub X.i k)) $$ H6
  icases H6' with ⟨H6, H6c⟩
  iapply (wp_mono frame (wpE (defs₀ (F := F)) 𝒱₀ (cT X.d X.i) none) Set.univ (p := body1 X.i v2 lanes k u) (Q := fun _ => iprop((∃ v11 v12, ⌜∀ j < 16, RowOK X.E (Rw X k.val j) j v11 v12⌝
      ∗ Base X k.val iprop((Sh X.d X.i A3 qb (bmA X.E) ∗ semVal (cT X.d X.i, SemLoc.dma cc2_scoped1.sem) 0) ∗ semVal (cT X.d X.i, SemLoc.dma cc2_scoped2.sem) 0 ∗ semVal (cT X.d X.i, SemLoc.dma cc2_scoped3.sem) 0
        ∗ Ow X.d X.i (A5g X.i k) Finset.univ v11 ∗ Ow X.d X.i (A6g X.i k) Finset.univ v12)
      ∗ Lst X (fun _ => none) ∗ Slots X (fun _ => .free) ∗ Ow X.d X.i A11 Finset.univ v11 ∗ Ow X.d X.i A12 Finset.univ v12 ∗ StgAny X)
      ∗ (∀ w, Ow X.d X.i (A5g X.i k) Finset.univ w -∗ Ow X.d X.i A5 (tset (X.i 0).val (X.i 1).val) (upd (F := F) (e := .f32) (rOut X.i k) v5 w))
      ∗ (∀ w, Ow X.d X.i (A6g X.i k) Finset.univ w -∗ Ow X.d X.i A6 (tset (X.i 0).val (X.i 1).val) (upd (F := F) (e := .i32) (rOut X.i k) v6 w)))) fun _ => ?_)
  · iintro ⟨⟨%v11, %v12, %hok, HB, HL, HS, H11, H12, HT⟩, H5c, H6c⟩
    unfold Base
    icases HB with ⟨H15, H7, Hmw, HO, H3, Hs2, Hs3, H5, H6⟩
    ihave H5 := H5c $$ %v11 H5
    ihave H6 := H6c $$ %v12 H6
    iexists (upd (F := F) (e := .f32) (rOut X.i k) v5 v11), (upd (F := F) (e := .i32) (rOut X.i k) v6 v12)
    isplitr
    · ipureintro
      intro r hr'
      by_cases hlt : r < 16 * k.val
      · refine (hr r hlt).congr (fun x hx => upd_off _ _ _ _ fun h => ?_) (fun x hx => upd_off _ _ _ _ fun h => ?_)
        · have := (rOut_mem X.i k h).1; omega
        · have := (rOut_mem X.i k h).1; omega
      · have h16 : r - 16 * k.val < 16 := by omega
        refine ⟨r - 16 * k.val, v11, v12, h16, ?_, fun x y hx hy e => ?_⟩
        · have := hok _ h16
          unfold Rw at this
          rw [show X.B + 16 * k.val + (r - 16 * k.val) = X.B + r by omega] at this
          exact this
        · have hxe : x = (rOut X.i k).emb y := by
            funext a
            apply Fin.ext
            match a with
            | 0 => exact Eq.trans (by omega) (rOut_val0 X.i k y).symm
            | 1 => exact e.trans (rOut_val1 X.i k y).symm
          rw [hxe]
          exact ⟨upd_emb (F := F) (e := .f32) (rOut X.i k) v5 v11 y, upd_emb (F := F) (e := .i32) (rOut X.i k) v6 v12 y⟩
    isplitl [H5]; · iexact H5
    isplitl [H6]; · iexact H6
    unfold Rest
    isplitl [H15 H7 Hmw HO H3 Hs2 Hs3]
    · isplitl [H15]; · iexact H15
      isplitl [H7]; · iexists _; iexact H7
      isplitl [Hmw]; · iexact Hmw
      isplitl [HO]; · iexact HO
      isplitl [H3]; · iexact H3
      isplitl [Hs2]; · iexact Hs2
      iexact Hs3
    isplitl [HL]; · iexact HL
    isplitl [HS]; · iexact HS
    isplitl [H11 H12]
    · isplitl [H11]; · iexists _; iexact H11
      iexists _; iexact H12
    iexact HT
  · iapply (wp_frame_r frame (wpE (defs₀ (F := F)) 𝒱₀ (cT X.d X.i) none) Set.univ)
    isplitr [H5c H6c]
    · iapply (group (X := X) (k := k) (v2 := v2) (qb := qb) rfl hB hv2)
      unfold Rest OutP
      icases HR with ⟨⟨H15, H7, Hmw, HO, H3, Hs2, Hs3⟩, HL, HS, ⟨⟨%w11, H11⟩, ⟨%w12, H12⟩⟩, HT⟩
      isplitl [H15 H7 Hmw HO H3 Hs2 Hs3 H5 H6]
      · isplitl [H15]; · iexact H15
        isplitl [H7]; · iexact H7
        isplitl [Hmw]; · iexact Hmw
        isplitl [HO]; · iexact HO
        isplitl [H3]; · iexact H3
        isplitl [Hs2]; · iexact Hs2
        isplitl [Hs3]; · iexact Hs3
        isplitl [H5]; · iexists _; iexact H5
        iexists _; iexact H6
      isplitl [HL]; · iexact HL
      isplitl [HS]; · iexact HS
      isplitl [H11 H12]
      · iexists w11, w12
        isplitr; · ipureintro; intro j hj; exact absurd hj (Nat.not_lt_zero j)
        isplitl [H11]; · iexact H11
        iexact H12
      iexact HT
    · isplitl [H5c]; · iexact H5c
      iexact H6c

end Cert.Sel
-- ==== Proof.Raw.lean ====
/-
  What a subcore holds, between the launch's form (points-to of whole buffers and shares) and the loop's form (`Own`, `Shr`):
  its scratch buffers and semaphores one by one, the four ring slots, the data as an `Env`.
-/
module

public import proofs.«01_k».proof.Proof.Tile

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Members of a big conjunction taken out one by one -/

theorem peel {I : Type} [DecidableEq I] {Φ : I → sProp 𝕄} : ∀ (l : List I) (S : Finset I), l.Nodup → (∀ x ∈ l, x ∈ S) →
    bigSep S Φ = l.foldr (fun x P => iprop(Φ x ∗ P)) (bigSep (l.foldl Finset.erase S) Φ)
  | [], _, _, _ => rfl
  | x :: l, S, hn, hm => by
    rw [SparseCore.bigSep_erase' (hm x List.mem_cons_self), peel l (S.erase x) (List.nodup_cons.mp hn).2 fun y hy => Finset.mem_erase.mpr
      ⟨fun e => (List.nodup_cons.mp hn).1 (e ▸ hy), hm y (List.mem_cons_of_mem _ hy)⟩]
    rfl

variable (d : Dev nD) (i : grid2.Coords)

abbrev semL : List (DmaSem sig) := [cc2_scratch9.sem, cc2_scratch10.sem, cc2_scratch11.sem, cc2_scratch12.sem, cc2_scoped0.sem, cc2_scoped1.sem, cc2_scoped2.sem, cc2_scoped3.sem]
abbrev bufL : List (Ref sig .scVector) := [cc2_scratch0, cc2_scratch1, cc2_scratch2, cc2_scratch3, cc2_scratch4, cc2_scratch5, cc2_scratch6, cc2_scratch7, cc2_scratch8]

def semRest : sProp 𝕄 := bigSep ((semL.map fun s => ((cT d i, SemLoc.dma s) : GSem nD τ sig)).foldl Finset.erase (SparseCore.Cfg.ownCells (cT d i))) fun g => semVal g 0
def bufRest : sProp 𝕄 := bigSep ((bufL.map (Proc.scVector (cV i) (jV i)).devRef).foldl Finset.erase (SparseCore.Cfg.ownRefs (τ := τ) (.scVector (cV i) (jV i))))
  fun b => iprop(∃ f, ((d, b) : Loc nD τ sig) ↦{fullShare} f)

theorem sems_V : (SparseCore.Cfg.ownSems0 (cT d i) : sProp 𝕄) = semL.foldr (fun s P => iprop(semVal (cT d i, SemLoc.dma s) 0 ∗ P)) (semRest d i) := by
  unfold SparseCore.Cfg.ownSems0
  refine (peel (semL.map fun s => ((cT d i, SemLoc.dma s) : GSem nD τ sig)) _ ?_ ?_).trans ?_
  · refine List.Nodup.map (fun a b e => ?_) (by decide)
    exact SemLoc.dma.inj (congrArg Prod.snd e)
  · intro x hx
    obtain ⟨s, hs, rfl⟩ := List.mem_map.mp hx
    refine SparseCore.Cfg.mem_ownCells.mpr ⟨rfl, ?_⟩
    show (SemLoc.dma s : SemLoc sig).isScoped .scVector = true
    exact (show ∀ s ∈ semL, (SemLoc.dma s : SemLoc sig).isScoped .scVector = true by decide) s hs
  · rfl

theorem bufs_V : (SparseCore.Cfg.ownBufs (cT d i) : sProp 𝕄)
    = bufL.foldr (fun r P => iprop((∃ f, (cT d i).loc r ↦{fullShare} f) ∗ P)) (bufRest d i) := by
  unfold SparseCore.Cfg.ownBufs
  refine (peel (bufL.map (Proc.scVector (cV i) (jV i)).devRef) _ ?_ ?_).trans ?_
  · exact List.Nodup.map (Proc.devRef_injective _) (show bufL.Nodup by decide +revert)
  · intro x hx
    obtain ⟨s, hs, rfl⟩ := List.mem_map.mp hx
    refine SparseCore.Cfg.mem_ownRefs_of_owner (p := Proc.scVector (cV i) (jV i)) ?_
    clear hx
    fin_cases hs <;> rfl
  · rfl

/-! ## Points-to as `Own` and `Shr` -/

variable {d i}

theorem setOn_whole {κ : Kind} (b : Ref sig κ) (S : Finset b.ty.shape.Idx) : (View.whole b : View sig κ _ _ _).setOn S = S := Finset.map_refl

theorem own_raw {c : Thread nD τ} (b : Ref sig c.2.kind) {S : Finset b.ty.shape.Idx} {f : b.ty.shape.Idx → Elt F b.ty.elt} :
    (c.loc b ↦[S]{fullShare} f : sProp 𝕄) ⊢ Own c (Memref.whole b) S f := by
  unfold Own
  iintro H
  iexists f
  isplitr; · ipureintro; intro _ _; rfl
  rw [show (Memref.whole b).view.setOn S = S from setOn_whole b S]
  iexact H

theorem raw_own {c : Thread nD τ} (b : Ref sig c.2.kind) {S : Finset b.ty.shape.Idx} {f : b.ty.shape.Idx → Elt F b.ty.elt} :
    Own c (Memref.whole b) S f ⊢ (c.loc b ↦[S]{fullShare} f : sProp 𝕄) := by
  unfold Own
  iintro ⟨%g, %hg, H⟩
  rw [show (Memref.whole b).view.setOn S = S from setOn_whole b S]
  iapply (Entails.of_eq (pointsTo_congr hg)) $$ H

theorem shr_raw {c : Thread nD τ} (b : Ref sig c.2.kind) {q : PosShare TreeShare} {f : b.ty.shape.Idx → Elt F b.ty.elt} :
    (c.loc b ↦{q} f : sProp 𝕄) ⊢ Shr c (Memref.whole b) q f := by
  unfold Shr
  iintro H
  iexists f
  isplitr; · ipureintro; intro _; rfl
  rw [show (Memref.whole b).view.set = Finset.univ from View.set_whole b]
  iexact H

theorem raw_shr {c : Thread nD τ} (b : Ref sig c.2.kind) {q : PosShare TreeShare} {f : b.ty.shape.Idx → Elt F b.ty.elt} :
    Shr c (Memref.whole b) q f ⊢ (c.loc b ↦{q} f : sProp 𝕄) := by
  unfold Shr
  iintro ⟨%g, %hg, H⟩
  rw [show (Memref.whole b).view.set = Finset.univ from View.set_whole b]
  iapply (Entails.of_eq (pointsTo_congr fun x _ => hg x)) $$ H

theorem A2w_set : (A2w : Memref sig .scVector .hbm S3211264x128 .f32).view.set = Finset.univ := by
  show ((View.whole main_v5_scv).slice _).set = _
  rw [View.set_slice_whole]
  exact Rect.set_eq_univ_of_whole _ fun a => match a with
    | 0 => ⟨rfl, rfl, rfl⟩
    | 1 => ⟨rfl, rfl, rfl⟩

theorem A2w_emb (x : S3211264x128.Idx) : (Rect.unit (s := S3211264x128) ![0, 0] S3211264x128.size inb_S3211264x128_S3211264x128_0_0).emb x = x := by
  funext a
  apply Fin.ext
  match a with
  | 0 => show 0 + 1 * (x 0).val = (x 0).val; omega
  | 1 => show 0 + 1 * (x 1).val = (x 1).val; omega

theorem sh_A2w {q : PosShare TreeShare} {f : S3211264x128.Idx → F .f32} :
    ((cT d i).loc main_v5_scv ↦{q} f : sProp 𝕄) ⊢ Sh d i A2w q f := by
  unfold Sh Shr
  iintro H
  iexists f
  isplitr
  · ipureintro; intro x
    show f ((Rect.unit (s := S3211264x128) ![0, 0] S3211264x128.size inb_S3211264x128_S3211264x128_0_0).emb x) = _
    rw [A2w_emb]
  rw [A2w_set]
  iexact H

theorem A2w_sh {q : PosShare TreeShare} {f : S3211264x128.Idx → F .f32} :
    Sh d i A2w q f ⊢ ((cT d i).loc main_v5_scv ↦{q} f : sProp 𝕄) := by
  unfold Sh Shr
  iintro ⟨%g, %hg, H⟩
  rw [A2w_set]
  iapply (Entails.of_eq (pointsTo_congr fun x _ => ?_)) $$ H
  have := hg x
  rw [show A2w.view.read (Elt F) g x = g ((Rect.unit (s := S3211264x128) ![0, 0] S3211264x128.size inb_S3211264x128_S3211264x128_0_0).emb x) from rfl, A2w_emb] at this
  exact this

/-! ## Four rows of a buffer -/

theorem parts {sp : Space} {s : Shape} {e : EltTy} {m : Memref sig .scVector sp s e} {T : Nat → Finset s.Idx} (r : s.Idx → Nat) (hT : ∀ p < 4, ∀ x, x ∈ T p ↔ r x = p) (hr : ∀ x, r x < 4) :
    (iprop(∃ w, Ow d i m Finset.univ w) : sProp 𝕄) ⊢ iprop((∃ w, Ow d i m (T 0) w) ∗ (∃ w, Ow d i m (T 1) w) ∗ (∃ w, Ow d i m (T 2) w) ∗ ∃ w, Ow d i m (T 3) w) := by
  have h1 : T 1 ⊆ Finset.univ \ T 0 := fun x hx => by
    simp only [Finset.mem_sdiff, Finset.mem_univ, true_and]; rw [hT 0 (by omega)]; rw [hT 1 (by omega)] at hx; omega
  have h2 : T 2 ⊆ (Finset.univ \ T 0) \ T 1 := fun x hx => by
    simp only [Finset.mem_sdiff, Finset.mem_univ, true_and]; rw [hT 0 (by omega), hT 1 (by omega)]; rw [hT 2 (by omega)] at hx; omega
  have h3 : ((Finset.univ \ T 0) \ T 1) \ T 2 = T 3 := by
    ext x
    simp only [Finset.mem_sdiff, Finset.mem_univ, true_and]; rw [hT 0 (by omega), hT 1 (by omega), hT 2 (by omega), hT 3 (by omega)]
    have := hr x; omega
  iintro ⟨%w, H⟩
  ihave H' := (Own_split (F := F) (m := m) (Finset.subset_univ (T 0)) (v := w)) $$ H
  icases H' with ⟨H0, H⟩
  ihave H' := (Own_split (F := F) (m := m) h1 (v := w)) $$ H
  icases H' with ⟨H1, H⟩
  ihave H' := (Own_split (F := F) (m := m) h2 (v := w)) $$ H
  icases H' with ⟨H2, H⟩
  rw [h3]
  isplitl [H0]; · iexists w; iexact H0
  isplitl [H1]; · iexists w; iexact H1
  isplitl [H2]; · iexists w; iexact H2
  iexists w; iexact H

theorem join2 {sp : Space} {s : Shape} {e : EltTy} {m : Memref sig .scVector sp s e} {S T : Finset s.Idx} (h : T ⊆ S) :
    (iprop((∃ w, Ow d i m T w) ∗ ∃ w, Ow d i m (S \ T) w) : sProp 𝕄) ⊢ iprop(∃ w, Ow d i m S w) := by
  classical
  iintro ⟨⟨%w, H1⟩, ⟨%v, H2⟩⟩
  iexists (fun x => if x ∈ T then w x else v x)
  iapply (Own_join (F := F) (m := m) (v := v) (w := w) h (fun x hx => (if_pos hx).symm) fun x _ hx => (if_neg hx).symm)
  isplitl [H1]; · iexact H1
  iexact H2

theorem unparts {sp : Space} {s : Shape} {e : EltTy} {m : Memref sig .scVector sp s e} {T : Nat → Finset s.Idx} (r : s.Idx → Nat) (hT : ∀ p < 4, ∀ x, x ∈ T p ↔ r x = p) (hr : ∀ x, r x < 4) :
    iprop((∃ w, Ow d i m (T 0) w) ∗ (∃ w, Ow d i m (T 1) w) ∗ (∃ w, Ow d i m (T 2) w) ∗ ∃ w, Ow d i m (T 3) w) ⊢ (iprop(∃ w, Ow d i m Finset.univ w) : sProp 𝕄) := by
  have h1 : T 1 ⊆ Finset.univ \ T 0 := fun x hx => by
    simp only [Finset.mem_sdiff, Finset.mem_univ, true_and]; rw [hT 0 (by omega)]; rw [hT 1 (by omega)] at hx; omega
  have h2 : T 2 ⊆ (Finset.univ \ T 0) \ T 1 := fun x hx => by
    simp only [Finset.mem_sdiff, Finset.mem_univ, true_and]; rw [hT 0 (by omega), hT 1 (by omega)]; rw [hT 2 (by omega)] at hx; omega
  have h3 : ((Finset.univ \ T 0) \ T 1) \ T 2 = T 3 := by
    ext x
    simp only [Finset.mem_sdiff, Finset.mem_univ, true_and]; rw [hT 0 (by omega), hT 1 (by omega), hT 2 (by omega), hT 3 (by omega)]
    have := hr x; omega
  iintro ⟨H0, H1, H2, H3⟩
  iapply (join2 (Finset.subset_univ (T 0)))
  isplitl [H0]; · iexact H0
  iapply (join2 h1)
  isplitl [H1]; · iexact H1
  iapply (join2 h2)
  isplitl [H2]; · iexact H2
  rw [h3]; iexact H3

/-! ## The data -/

/-- The arrays, by natural-number coordinates. -/
def envOf (a2 : S3211264x128.Idx → F .f32) (a3 : S4096x784.Idx → F .f32) (a4 : S4096.Idx → F .f32) : Env F where
  sc r l := if h : r < 3211264 ∧ l < 128 then a2 (fun | 0 => ⟨r, h.1⟩ | 1 => ⟨l, h.2⟩) else neg
  bm r b := if h : r < 4096 ∧ b < 784 then a3 (fun | 0 => ⟨r, h.1⟩ | 1 => ⟨b, h.2⟩) else neg
  tau r := if h : r < 4096 then a4 (fun | 0 => ⟨r, h⟩) else neg

variable (a2 : S3211264x128.Idx → F .f32) (a3 : S4096x784.Idx → F .f32) (a4 : S4096.Idx → F .f32)

theorem scF_env : scF (envOf a2 a3 a4) = a2 := by
  funext x
  refine (dif_pos ⟨(x 0).isLt, (x 1).isLt⟩).trans (congrArg a2 (funext fun a => ?_))
  match a with
  | 0 => rfl
  | 1 => rfl
theorem bmA_env : bmA (envOf a2 a3 a4) = a3 := by
  funext x
  refine (dif_pos ⟨(x 0).isLt, (x 1).isLt⟩).trans (congrArg a3 (funext fun a => ?_))
  match a with
  | 0 => rfl
  | 1 => rfl
theorem tau_env (x : S4096.Idx) : (envOf a2 a3 a4).tau (x 0).val = a4 x := by
  refine (dif_pos (x 0).isLt).trans (congrArg a4 (funext fun a => ?_))
  match a with
  | 0 => rfl

end Cert.Sel
-- ==== Proof.Slots.lean ====
/-
  The subcore's whole program from the launch's resources to the launch's resources, with what its rows of the two results
  hold afterwards.
-/
module

public import proofs.«01_k».proof.Proof.Raw
public import proofs.«01_k».proof.Proof.Gen.KernelIdeal.Launch

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Shares halved -/

/-- Share `q` halved `n` times, part `j` from the left. -/
def cut : (n : ℕ) → PosShare TreeShare → Fin (2 ^ n) → PosShare TreeShare
  | 0, q, _ => q
  | n + 1, q, j => Fin.addCases (m := 2 ^ n) (n := 2 ^ n) (cut n q.left) (cut n q.right) (j.cast (by omega))

theorem cut_inl (n : ℕ) (q : PosShare TreeShare) (j : Fin (2 ^ n)) (h : 2 ^ n + 2 ^ n = 2 ^ (n + 1)) :
    cut (n + 1) q ((finSumFinEquiv.trans (finCongr h)) (Sum.inl j)) = cut n q.left j :=
  Fin.addCases_left (m := 2 ^ n) (n := 2 ^ n) (motive := fun _ => PosShare TreeShare) (left := cut n q.left) (right := cut n q.right) j
theorem cut_inr (n : ℕ) (q : PosShare TreeShare) (j : Fin (2 ^ n)) (h : 2 ^ n + 2 ^ n = 2 ^ (n + 1)) :
    cut (n + 1) q ((finSumFinEquiv.trans (finCongr h)) (Sum.inr j)) = cut n q.right j :=
  Fin.addCases_right (m := 2 ^ n) (n := 2 ^ n) (motive := fun _ => PosShare TreeShare) (left := cut n q.left) (right := cut n q.right) j

theorem pts_cut {ℓ : Loc nD τ sig} (I : Finset (Idx ℓ)) (f : Buf (Elt F) ℓ) :
    ∀ (n : ℕ) (q : PosShare TreeShare), (ℓ ↦[I]{q} f : sProp 𝕄) = bigSep Finset.univ fun j : Fin (2 ^ n) => ℓ ↦[I]{cut n q j} f
  | 0, q => (bigSep_univ_of_subsingleton (0 : Fin 1) (Φ := fun j : Fin (2 ^ 0) => (ℓ ↦[I]{cut 0 q j} f : sProp 𝕄))).symm
  | n + 1, q => by
    have hs : (ℓ ↦[I]{q} f : sProp 𝕄) = iprop((ℓ ↦[I]{q.left} f) ∗ ℓ ↦[I]{q.right} f) :=
      BI.Entails.antisymm (pointsTo_share (PosShare.mem_left_op_right q)).1 (pointsTo_share (PosShare.mem_left_op_right q)).2
    rw [hs, pts_cut I f n q.left, pts_cut I f n q.right,
      bigSep_univ_equiv ((finSumFinEquiv (m := 2 ^ n) (n := 2 ^ n)).trans (finCongr (by omega : 2 ^ n + 2 ^ n = 2 ^ (n + 1)))) (fun j => (ℓ ↦[I]{cut (n + 1) q j} f : sProp 𝕄)), bigSep_univ_sum]
    congr 1 <;> refine bigSep_congr fun j _ => ?_
    · rw [cut_inl]
    · rw [cut_inr]

/-- The four slots' shares of the scores. -/
def qS (q : PosShare TreeShare) (p : Nat) : PosShare TreeShare := if h : p < 4 then cut 2 q ⟨p, h⟩ else q

theorem pts_four {ℓ : Loc nD τ sig} (f : Buf (Elt F) ℓ) (q : PosShare TreeShare) :
    (ℓ ↦{q} f : sProp 𝕄) = iprop((ℓ ↦{qS q 0} f) ∗ (ℓ ↦{qS q 1} f) ∗ (ℓ ↦{qS q 2} f) ∗ ℓ ↦{qS q 3} f) :=
  (pts_cut Finset.univ f 2 q).trans (bigSep_W3 (fun j : Fin 4 => (ℓ ↦{cut 2 q j} f : sProp 𝕄)))

/-! ## The body as the copy and the loop -/

variable {d : Dev nD} {i : grid2.Coords}

abbrev tauS (i : grid2.Coords) : Memref sig .scVector .hbm S128 .f32 := A4.slice (Rect.unit (s := S4096) (k2_off1 i) S128.size (k2_off1_inb i)) (fun _ => rfl)

def segT {α : Type} (K : PUnit → PR (F := F) i α) : PR (F := F) i α :=
  .op (.enqueueDma (tauS i) (.here A15) (.dma cc2_scoped0.sem) (View.wordExact_bits rfl) (Memref.isWhole_whole _).wordExact ⟨Or.inl rfl, trivial⟩) fun _ =>
  .op (.waitDma2 cc2_scoped0.sem (tauS i) A15 (View.wordExact_bits rfl) (Memref.isWhole_whole _).wordExact) K

abbrev row0 (i : grid2.Coords) : BitVec 32 := Scalar.muli (Scalar.addi (Scalar.muli (BitVec.ofNat 32 (i 1).val) 2#32) (BitVec.ofNat 32 (i 0).val)) 128#32

abbrev bodySC (i : grid2.Coords) : PR (F := F) i PUnit :=
  cc2__sc_body_skel i A2 (Memref.isWhole_whole _) A3 (Memref.isWhole_whole _) A4 (Memref.isWhole_whole _) A5 (Memref.isWhole_whole _)
    A6 (Memref.isWhole_whole _) A7 (Memref.isWhole_whole _) A8 (Memref.isWhole_whole _) A9 (Memref.isWhole_whole _)
    A10 (Memref.isWhole_whole _) A11 (Memref.isWhole_whole _) A12 (Memref.isWhole_whole _) A13 (Memref.isWhole_whole _)
    A14 (Memref.isWhole_whole _) A15 (Memref.isWhole_whole _) cc2_scratch9 cc2_scratch10 cc2_scratch11 cc2_scratch12 cc2_scoped0 cc2_scoped1 cc2_scoped2 cc2_scoped3

theorem bodySC_eq (i : grid2.Coords) : bodySC (F := F) i
    = segT fun _ => (Scf.Loop.for k2_t1_loop k2_t1_ok (⟨⟩ : Unit) (body1 i (row0 i) lanes)) >>= fun _ => pure ⟨⟩ := rfl

theorem row0_nat (i : grid2.Coords) : (row0 i).toNat = 256 * (i 1).val + 128 * (i 0).val := by
  have h0 : (i 0).val < 2 := (i 0).isLt
  have h1 : (i 1).val < 16 := (i 1).isLt
  show ((BitVec.ofNat 32 (i 1).val * 2#32 + BitVec.ofNat 32 (i 0).val) * 128#32).toNat = _
  simp only [BitVec.toNat_mul, BitVec.toNat_add, BitVec.toNat_ofNat]
  omega

/-! ## The tile -/

variable (a2 : S3211264x128.Idx → F .f32) (a3 : S4096x784.Idx → F .f32) (a4 : S4096.Idx → F .f32)

abbrev tileX (d : Dev nD) (i : grid2.Coords) (q : PosShare TreeShare) (O : CellTallies nD τ sig (HIx 1)) (W : Waits sig (HIx 1)) : Tile F where
  d := d
  i := i
  E := envOf a2 a3 a4
  B := 256 * (i 1).val + 128 * (i 0).val
  hB := by
    have h0 : (i 0).val < 2 := (i 0).isLt
    have h1 : (i 1).val < 16 := (i 1).isLt
    omega
  q := qS q
  O := O
  W := W

/-- The arrays read, at share `q`, and this subcore's rows of the results. -/
def goR (d : Dev nD) (c s : Nat) (q : PosShare TreeShare) (f5 : S4096x256.Idx → F .f32) (f6 : S4096x256.Idx → BitVec 32) : sProp 𝕄 :=
  iprop(((SparseCore.T d).loc main_v5 ↦{q} a2) ∗ ((SparseCore.T d).loc main_v3 ↦{q} a3) ∗ ((SparseCore.T d).loc main_v4 ↦{q} a4)
    ∗ ((SparseCore.T d).loc main_v6_0 ↦[tset c s]{fullShare} f5) ∗ ((SparseCore.T d).loc main_v6_1 ↦[tset c s]{fullShare} f6))
def tdR (d : Dev nD) (c s : Nat) (q : PosShare TreeShare) : sProp 𝕄 :=
  iprop(((SparseCore.T d).loc main_v5 ↦{q} a2) ∗ ((SparseCore.T d).loc main_v3 ↦{q} a3) ∗ ((SparseCore.T d).loc main_v4 ↦{q} a4)
    ∗ ∃ (f5 : S4096x256.Idx → F .f32) (f6 : S4096x256.Idx → BitVec 32), ⌜∀ R, R / 128 = 2 * s + c → RowG (envOf a2 a3 a4) R f5 f6⌝
      ∗ ((SparseCore.T d).loc main_v6_0 ↦[tset c s]{fullShare} f5) ∗ ((SparseCore.T d).loc main_v6_1 ↦[tset c s]{fullShare} f6))

theorem row_of9 : ∀ p < 4, ∀ x : S4x128.Idx, x ∈ (fun p => if h : p < 4 then (rRow p h).set else ∅) p ↔ (x 0).val = p := by
  intro p hp x
  show x ∈ (if h : p < 4 then (rRow p h).set else ∅) ↔ _
  rw [dif_pos hp]
  constructor
  · intro h
    obtain ⟨y, rfl⟩ := exists_of_mem _ h
    have h0 : (y 0).val < 1 := (y 0).isLt
    show p + 1 * (y 0).val = p
    omega
  · intro h
    have e : x = (rRow p hp).emb (fun | 0 => (⟨0, by decide⟩ : Fin 1) | 1 => x 1) := by
      funext a
      apply Fin.ext
      match a with
      | 0 => show (x 0).val = p + 1 * 0; omega
      | 1 => show (x 1).val = 0 + 1 * (x 1).val; omega
    rw [e]; exact emb_mem _ _

theorem row_of10 : ∀ p < 4, ∀ x : S4x128x128.Idx, x ∈ (fun p => if h : p < 4 then (rRow3 p h).set else ∅) p ↔ (x 0).val = p := by
  intro p hp x
  show x ∈ (if h : p < 4 then (rRow3 p h).set else ∅) ↔ _
  rw [dif_pos hp]
  constructor
  · intro h
    obtain ⟨y, rfl⟩ := exists_of_mem _ h
    have h0 : (y 0).val < 1 := (y 0).isLt
    show p + 1 * (y 0).val = p
    omega
  · intro h
    have e : x = (rRow3 p hp).emb (fun | 0 => (⟨0, by decide⟩ : Fin 1) | 1 => x 1 | 2 => x 2) := by
      funext a
      apply Fin.ext
      match a with
      | 0 => show (x 0).val = p + 1 * 0; omega
      | 1 => show (x 1).val = 0 + 1 * (x 1).val; omega
      | 2 => show (x 2).val = 0 + 1 * (x 2).val; omega
    rw [e]; exact emb_mem _ _

theorem slots_in (X : Tile F) : iprop((∃ w, Ow X.d X.i A9 Finset.univ w) ∗ (∃ w, Ow X.d X.i A10 Finset.univ w)
      ∗ (Sh X.d X.i A2w (X.q 0) (scF X.E) ∗ Sh X.d X.i A2w (X.q 1) (scF X.E) ∗ Sh X.d X.i A2w (X.q 2) (scF X.E) ∗ Sh X.d X.i A2w (X.q 3) (scF X.E))
      ∗ semVal (cT X.d X.i, SemLoc.dma cc2_scratch9.sem) 0 ∗ semVal (cT X.d X.i, SemLoc.dma cc2_scratch10.sem) 0
      ∗ semVal (cT X.d X.i, SemLoc.dma cc2_scratch11.sem) 0 ∗ semVal (cT X.d X.i, SemLoc.dma cc2_scratch12.sem) 0)
    ⊢ Slots X fun _ => .free := by
  unfold Slots
  rw [Slot_free, Slot_free, Slot_free, Slot_free]
  iintro ⟨H9, H10, ⟨Hq0, Hq1, Hq2, Hq3⟩, Hs0, Hs1, Hs2, Hs3⟩
  ihave H9 := (parts (d := X.d) (i := X.i) (m := A9) (fun x : S4x128.Idx => (x 0).val) row_of9 fun x => (x 0).isLt) $$ H9
  ihave H10 := (parts (d := X.d) (i := X.i) (m := A10) (fun x : S4x128x128.Idx => (x 0).val) row_of10 fun x => (x 0).isLt) $$ H10
  icases H9 with ⟨Ha0, Ha1, Ha2, Ha3⟩
  icases H10 with ⟨Hb0, Hb1, Hb2, Hb3⟩
  isplitl [Ha0 Hb0 Hq0 Hs0]
  · isplitl [Ha0]; · iexact Ha0
    isplitl [Hb0]; · iexact Hb0
    isplitl [Hq0]; · iexact Hq0
    iexact Hs0
  isplitl [Ha1 Hb1 Hq1 Hs1]
  · isplitl [Ha1]; · iexact Ha1
    isplitl [Hb1]; · iexact Hb1
    isplitl [Hq1]; · iexact Hq1
    iexact Hs1
  isplitl [Ha2 Hb2 Hq2 Hs2]
  · isplitl [Ha2]; · iexact Ha2
    isplitl [Hb2]; · iexact Hb2
    isplitl [Hq2]; · iexact Hq2
    iexact Hs2
  · isplitl [Ha3]; · iexact Ha3
    isplitl [Hb3]; · iexact Hb3
    isplitl [Hq3]; · iexact Hq3
    iexact Hs3

theorem slots_out (X : Tile F) : (Slots X fun _ => .free) ⊢ iprop((∃ w, Ow X.d X.i A9 Finset.univ w) ∗ (∃ w, Ow X.d X.i A10 Finset.univ w)
      ∗ (Sh X.d X.i A2w (X.q 0) (scF X.E) ∗ Sh X.d X.i A2w (X.q 1) (scF X.E) ∗ Sh X.d X.i A2w (X.q 2) (scF X.E) ∗ Sh X.d X.i A2w (X.q 3) (scF X.E))
      ∗ semVal (cT X.d X.i, SemLoc.dma cc2_scratch9.sem) 0 ∗ semVal (cT X.d X.i, SemLoc.dma cc2_scratch10.sem) 0
      ∗ semVal (cT X.d X.i, SemLoc.dma cc2_scratch11.sem) 0 ∗ semVal (cT X.d X.i, SemLoc.dma cc2_scratch12.sem) 0) := by
  unfold Slots
  rw [Slot_free, Slot_free, Slot_free, Slot_free]
  iintro ⟨⟨Ha0, Hb0, Hq0, Hs0⟩, ⟨Ha1, Hb1, Hq1, Hs1⟩, ⟨Ha2, Hb2, Hq2, Hs2⟩, ⟨Ha3, Hb3, Hq3, Hs3⟩⟩
  isplitl [Ha0 Ha1 Ha2 Ha3]
  · iapply (unparts (d := X.d) (i := X.i) (m := A9) (fun x : S4x128.Idx => (x 0).val) row_of9 fun x => (x 0).isLt)
    isplitl [Ha0]; · iexact Ha0
    isplitl [Ha1]; · iexact Ha1
    isplitl [Ha2]; · iexact Ha2
    iexact Ha3
  isplitl [Hb0 Hb1 Hb2 Hb3]
  · iapply (unparts (d := X.d) (i := X.i) (m := A10) (fun x : S4x128x128.Idx => (x 0).val) row_of10 fun x => (x 0).isLt)
    isplitl [Hb0]; · iexact Hb0
    isplitl [Hb1]; · iexact Hb1
    isplitl [Hb2]; · iexact Hb2
    iexact Hb3
  isplitl [Hq0 Hq1 Hq2 Hq3]
  · isplitl [Hq0]; · iexact Hq0
    isplitl [Hq1]; · iexact Hq1
    isplitl [Hq2]; · iexact Hq2
    iexact Hq3
  isplitl [Hs0]; · iexact Hs0
  isplitl [Hs1]; · iexact Hs1
  isplitl [Hs2]; · iexact Hs2
  iexact Hs3

end Cert.Sel
-- ==== Proof.Body.lean ====
/-
  The subcore's whole program, from the launch's resources to the launch's resources.
-/
module

public import proofs.«01_k».proof.Proof.Slots

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable {d : Dev nD} {i : grid2.Coords}
variable (a2 : S3211264x128.Idx → F .f32) (a3 : S4096x784.Idx → F .f32) (a4 : S4096.Idx → F .f32)

/-- The copy of the thresholds. -/
theorem ruleT {α : Type} {Q : α → sProp 𝕄} {q : PosShare TreeShare} {w : S128.Idx → F .f32} {K : PUnit → PR (F := F) i α} {O : CellTallies nD τ sig (HIx 1)} {W : Waits sig (HIx 1)} :
    iprop(Sh d i A4 q a4 ∗ Ow d i A15 Finset.univ w ∗ semVal (cT d i, SemLoc.dma cc2_scoped0.sem) 0 ∗ owes (cT d i) O W ∗ Transfers.MayWaits (cT d i) (default : HIx 1) O)
      ⊢ iprop((Sh d i A4 q a4 -∗ Ow d i A15 Finset.univ (tvF (envOf a2 a3 a4) (256 * (i 1).val + 128 * (i 0).val)) -∗ semVal (cT d i, SemLoc.dma cc2_scoped0.sem) 0
          -∗ owes (cT d i) O (insert (SemLoc.dma cc2_scoped0.sem, (default : HIx 1)) W) -∗ Wp d i (K ⟨⟩) Q)
        -∗ Wp d i (segT K) Q) := by
  unfold segT
  iintro ⟨Hs, H15, Hv, HO, #Hmw⟩ HK
  ihave Hs' := (Shr_slice (F := F) (e := .f32) (m := A4) (r := Rect.unit (s := S4096) (k2_off1 i) S128.size (k2_off1_inb i)) (hr := fun _ => rfl)) $$ Hs
  icases Hs' with ⟨Hs, Hc⟩
  iapply (own_copy countersEmb (F := F) (e := .f32) (c := cT d i) (defs := defs₀ (F := F)) (𝒱 := 𝒱₀) (bd := none) (Q := Q) (k := K) (show 0 < S128.numel by decide) (default : HIx 1)) $$ [Hs H15 Hv HO]
  · isplitl [Hs]; · iexact Hs
    isplitl [H15]; · iexact H15
    isplitl [Hv]; · iexact Hv
    isplitl [HO]; · iexact HO
    iexact Hmw
  iintro Hs H15 Hv HO
  ihave Hs := Hc $$ Hs
  iapply HK $$ Hs [H15] Hv HO
  iapply (Own_congr (F := F) (e := .f32) (m := A15) fun x _ => ?_) $$ H15
  show a4 _ = (envOf a2 a3 a4).tau _
  rw [← tau_env a2 a3 a4]
  congr 1
  show k2_off1 i 0 + 1 * (x 0).val = _
  rw [k2_off1_eq]
  show 256 * (i 1).val + 128 * (i 0).val + 1 * (x 0).val = _
  omega

/-- What the subcore owns at its start, in the loop's form; `A15` and its semaphore apart. -/
def Start (d : Dev nD) (i : grid2.Coords) (q : PosShare TreeShare) (O : CellTallies nD τ sig (HIx 1)) (W : Waits sig (HIx 1)) (f5 : S4096x256.Idx → F .f32) (f6 : S4096x256.Idx → BitVec 32) : sProp 𝕄 :=
  iprop(Ow d i A5 (tset (i 0).val (i 1).val) f5 ∗ Ow d i A6 (tset (i 0).val (i 1).val) f6
    ∗ (Sh d i A3 q a3 ∗ semVal (cT d i, SemLoc.dma cc2_scoped1.sem) 0) ∗ semVal (cT d i, SemLoc.dma cc2_scoped2.sem) 0 ∗ semVal (cT d i, SemLoc.dma cc2_scoped3.sem) 0
    ∗ (∃ w, Ow d i A7 Finset.univ w) ∗ (∃ w, Ow d i A8 Finset.univ w) ∗ Slots (tileX a2 a3 a4 d i q O W) (fun _ => .free)
    ∗ ((∃ w, Ow d i A11 Finset.univ w) ∗ ∃ w, Ow d i A12 Finset.univ w) ∗ (∃ w, Ow d i A13 Finset.univ w) ∗ ∃ w, Ow d i A14 Finset.univ w)

abbrev Extra (d : Dev nD) (i : grid2.Coords) (q : PosShare TreeShare) : sProp 𝕄 :=
  iprop(Sh d i A4 q a4 ∗ (∃ w, Ow d i A15 Finset.univ w) ∗ semVal (cT d i, SemLoc.dma cc2_scoped0.sem) 0 ∗ bufRest d i ∗ semRest d i)

theorem ow_of {d : Dev nD} {i : grid2.Coords} (b : Ref sig .scVector) : (iprop(∃ f, (cT d i).loc b ↦{fullShare} f) : sProp 𝕄) ⊢ iprop(∃ w, Ow d i (Memref.whole b) Finset.univ w) := by
  iintro ⟨%f, H⟩
  iexists f
  iapply (own_raw (F := F) (c := cT d i) b) $$ H
theorem of_ow {d : Dev nD} {i : grid2.Coords} (b : Ref sig .scVector) : (iprop(∃ w, Ow d i (Memref.whole b) Finset.univ w) : sProp 𝕄) ⊢ iprop(∃ f, (cT d i).loc b ↦{fullShare} f) := by
  iintro ⟨%f, H⟩
  iexists f
  iapply (raw_own (F := F) (c := cT d i) b) $$ H

theorem start_in (q : PosShare TreeShare) (O : CellTallies nD τ sig (HIx 1)) (W : Waits sig (HIx 1)) (f5 : S4096x256.Idx → F .f32) (f6 : S4096x256.Idx → BitVec 32) :
    iprop(goR a2 a3 a4 d (i 0).val (i 1).val q f5 f6 ∗ SparseCore.Cfg.ownBufs (cT d i) ∗ SparseCore.Cfg.ownSems0 (cT d i))
      ⊢ iprop(Start a2 a3 a4 d i q O W f5 f6 ∗ Extra a4 d i q) := by
  rw [sems_V, bufs_V]
  unfold goR Start
  simp only [semL, bufL, List.foldr]
  have h4 : ((SparseCore.T d).loc main_v5 ↦{q} a2 : sProp 𝕄) ⊢ iprop(((cT d i).loc main_v5_scv ↦{qS q 0} a2) ∗ ((cT d i).loc main_v5_scv ↦{qS q 1} a2) ∗ ((cT d i).loc main_v5_scv ↦{qS q 2} a2) ∗ (cT d i).loc main_v5_scv ↦{qS q 3} a2) :=
    Entails.of_eq (pts_four (ℓ := (cT d i).loc main_v5_scv) a2 q)
  iintro ⟨⟨H2, H3, H4, H5, H6⟩, ⟨Hb0, Hb1, Hb2, Hb3, Hb4, Hb5, Hb6, Hb7, Hb8, Hbr⟩, ⟨Hs0, Hs1, Hs2, Hs3, Ht0, Ht1, Ht2, Ht3, Hsr⟩⟩
  isplitl [H5 H6 H3 Ht1 Ht2 Ht3 Hb0 Hb1 Hb2 Hb3 H2 Hs0 Hs1 Hs2 Hs3 Hb4 Hb5 Hb6 Hb7]
  · isplitl [H5]; · iapply (own_raw (F := F) (c := cT d i) main_v6_0_scv) $$ H5
    isplitl [H6]; · iapply (own_raw (F := F) (c := cT d i) main_v6_1_scv) $$ H6
    isplitl [H3 Ht1]
    · isplitl [H3]; · iapply (shr_raw (F := F) (c := cT d i) main_v3_scv) $$ H3
      iexact Ht1
    isplitl [Ht2]; · iexact Ht2
    isplitl [Ht3]; · iexact Ht3
    isplitl [Hb0]; · iapply (ow_of cc2_scratch0) $$ Hb0
    isplitl [Hb1]; · iapply (ow_of cc2_scratch1) $$ Hb1
    isplitl [Hb2 Hb3 H2 Hs0 Hs1 Hs2 Hs3]
    · iapply (slots_in (tileX a2 a3 a4 d i q O W))
      isplitl [Hb2]; · iapply (ow_of cc2_scratch2) $$ Hb2
      isplitl [Hb3]; · iapply (ow_of cc2_scratch3) $$ Hb3
      isplitl [H2]
      · rw [scF_env]
        ihave H2 := h4 $$ H2
        icases H2 with ⟨Hq0, Hq1, Hq2, Hq3⟩
        isplitl [Hq0]; · iapply sh_A2w $$ Hq0
        isplitl [Hq1]; · iapply sh_A2w $$ Hq1
        isplitl [Hq2]; · iapply sh_A2w $$ Hq2
        iapply sh_A2w $$ Hq3
      isplitl [Hs0]; · iexact Hs0
      isplitl [Hs1]; · iexact Hs1
      isplitl [Hs2]; · iexact Hs2
      iexact Hs3
    isplitl [Hb4 Hb5]
    · isplitl [Hb4]; · iapply (ow_of cc2_scratch4) $$ Hb4
      iapply (ow_of cc2_scratch5) $$ Hb5
    isplitl [Hb6]; · iapply (ow_of cc2_scratch6) $$ Hb6
    iapply (ow_of cc2_scratch7) $$ Hb7
  · isplitl [H4]; · iapply (shr_raw (F := F) (c := cT d i) main_v4_scv) $$ H4
    isplitl [Hb8]; · iapply (ow_of cc2_scratch8) $$ Hb8
    isplitl [Ht0]; · iexact Ht0
    isplitl [Hbr]; · iexact Hbr
    iexact Hsr

theorem start_out (q : PosShare TreeShare) (O : CellTallies nD τ sig (HIx 1)) (W : Waits sig (HIx 1)) (f5 : S4096x256.Idx → F .f32) (f6 : S4096x256.Idx → BitVec 32) :
    iprop(Start a2 a3 a4 d i q O W f5 f6 ∗ Extra a4 d i q)
      ⊢ iprop(goR a2 a3 a4 d (i 0).val (i 1).val q f5 f6 ∗ SparseCore.Cfg.ownBufs (cT d i) ∗ SparseCore.Cfg.ownSems0 (cT d i)) := by
  rw [sems_V, bufs_V]
  unfold goR Start
  simp only [semL, bufL, List.foldr]
  have h4 : iprop(((cT d i).loc main_v5_scv ↦{qS q 0} a2) ∗ ((cT d i).loc main_v5_scv ↦{qS q 1} a2) ∗ ((cT d i).loc main_v5_scv ↦{qS q 2} a2) ∗ (cT d i).loc main_v5_scv ↦{qS q 3} a2) ⊢ ((SparseCore.T d).loc main_v5 ↦{q} a2 : sProp 𝕄) :=
    Entails.of_eq (pts_four (ℓ := (cT d i).loc main_v5_scv) a2 q).symm
  have hsl := slots_out (tileX a2 a3 a4 d i q O W)
  rw [scF_env] at hsl
  iintro ⟨⟨H5, H6, ⟨H3, Ht1⟩, Ht2, Ht3, Hb0, Hb1, HS, ⟨Hb4, Hb5⟩, Hb6, Hb7⟩, H4, Hb8, Ht0, Hbr, Hsr⟩
  ihave HS := hsl $$ HS
  icases HS with ⟨Hb2, Hb3, ⟨Hq0, Hq1, Hq2, Hq3⟩, Hs0, Hs1, Hs2, Hs3⟩
  isplitl [Hq0 Hq1 Hq2 Hq3 H3 H4 H5 H6]
  · isplitl [Hq0 Hq1 Hq2 Hq3]
    · iapply h4
      isplitl [Hq0]; · iapply A2w_sh $$ Hq0
      isplitl [Hq1]; · iapply A2w_sh $$ Hq1
      isplitl [Hq2]; · iapply A2w_sh $$ Hq2
      iapply A2w_sh $$ Hq3
    isplitl [H3]; · iapply (raw_shr (F := F) (c := cT d i) main_v3_scv) $$ H3
    isplitl [H4]; · iapply (raw_shr (F := F) (c := cT d i) main_v4_scv) $$ H4
    isplitl [H5]; · iapply (raw_own (F := F) (c := cT d i) main_v6_0_scv) $$ H5
    iapply (raw_own (F := F) (c := cT d i) main_v6_1_scv) $$ H6
  isplitl [Hb0 Hb1 Hb2 Hb3 Hb4 Hb5 Hb6 Hb7 Hb8 Hbr]
  · isplitl [Hb0]; · iapply (of_ow cc2_scratch0) $$ Hb0
    isplitl [Hb1]; · iapply (of_ow cc2_scratch1) $$ Hb1
    isplitl [Hb2]; · iapply (of_ow cc2_scratch2) $$ Hb2
    isplitl [Hb3]; · iapply (of_ow cc2_scratch3) $$ Hb3
    isplitl [Hb4]; · iapply (of_ow cc2_scratch4) $$ Hb4
    isplitl [Hb5]; · iapply (of_ow cc2_scratch5) $$ Hb5
    isplitl [Hb6]; · iapply (of_ow cc2_scratch6) $$ Hb6
    isplitl [Hb7]; · iapply (of_ow cc2_scratch7) $$ Hb7
    isplitl [Hb8]; · iapply (of_ow cc2_scratch8) $$ Hb8
    iexact Hbr
  · isplitl [Hs0]; · iexact Hs0
    isplitl [Hs1]; · iexact Hs1
    isplitl [Hs2]; · iexact Hs2
    isplitl [Hs3]; · iexact Hs3
    isplitl [Ht0]; · iexact Ht0
    isplitl [Ht1]; · iexact Ht1
    isplitl [Ht2]; · iexact Ht2
    isplitl [Ht3]; · iexact Ht3
    iexact Hsr

theorem own_pure {α : Type} {Q : α → sProp 𝕄} {a : α} : Q a ⊢ Wp d i (pure a) Q := own_ret .rfl

theorem body_wp (q : PosShare TreeShare) (O : CellTallies nD τ sig (HIx 1)) (W : Waits sig (HIx 1)) (f5 : S4096x256.Idx → F .f32) (f6 : S4096x256.Idx → BitVec 32) :
    iprop(Transfers.MayWaits (cT d i) (default : HIx 1) O ∗ goR a2 a3 a4 d (i 0).val (i 1).val q f5 f6 ∗ SparseCore.Cfg.ownBufs (cT d i) ∗ SparseCore.Cfg.ownSems0 (cT d i) ∗ owes (cT d i) O W)
      ⊢ Wp d i (bodySC i) fun _ => iprop(tdR a2 a3 a4 d (i 0).val (i 1).val q ∗ SparseCore.Cfg.ownBufs (cT d i) ∗ SparseCore.Cfg.ownSems0 (cT d i)
          ∗ ∃ W', ⌜∀ p ∈ W', p ∈ W ∨ p.2 = none⌝ ∗ owes (cT d i) O W') := by
  rw [bodySC_eq]
  iintro ⟨#Hmw, Hg, Hb, Hs, HO⟩
  ihave HH := (start_in a2 a3 a4 q O W f5 f6) $$ [Hg Hb Hs]
  · isplitl [Hg]; · iexact Hg
    isplitl [Hb]; · iexact Hb
    iexact Hs
  icases HH with ⟨HS, H4, ⟨%w, H15⟩, Ht0, Hbr, Hsr⟩
  iapply (ruleT a2 a3 a4) $$ [H4 H15 Ht0 HO]
  · isplitl [H4]; · iexact H4
    isplitl [H15]; · iexact H15
    isplitl [Ht0]; · iexact Ht0
    isplitl [HO]; · iexact HO
    iexact Hmw
  iintro H4 H15 Ht0 HO
  iapply (Scf.wp_for_bind frame (wpE (defs₀ (F := F)) 𝒱₀ (cT d i) none) Set.univ _ _ _ k2_t1_ok (⟨⟩ : Unit) (body1 i (row0 i) lanes)
    (fun n _ => TI (tileX a2 a3 a4 d i q O W) q n) (fun k u => stepT (X := tileX a2 a3 a4 d i q O W) rfl (row0_nat i) k u)) $$ [HS H15 HO]
  · unfold TI Rest Start Lst StgAny
    icases HS with ⟨H5, H6, H3, Ht2, Ht3, Hb0, ⟨%v8, H8⟩, HS, Ho, ⟨%v13, H13⟩, ⟨%v14, H14⟩⟩
    iexists f5, f6
    isplitr; · ipureintro; intro r hr; exact absurd hr (by omega)
    isplitl [H5]; · iexact H5
    isplitl [H6]; · iexact H6
    isplitl [H15 Hb0 HO H3 Ht2 Ht3]
    · isplitl [H15]; · iexact H15
      isplitl [Hb0]; · iexact Hb0
      isplitr; · iexact Hmw
      isplitl [HO]
      · iexists _
        isplitr; swap; · iexact HO
        ipureintro; intro p hp
        rcases Finset.mem_insert.mp hp with rfl | hp
        · exact .inr rfl
        · exact .inl hp
      isplitl [H3]; · rw [bmA_env]; iexact H3
      isplitl [Ht2]; · iexact Ht2
      iexact Ht3
    isplitl [H8]
    · iexists v8
      isplitr; · ipureintro; intro p R ptr row h; cases h
      iexact H8
    isplitl [HS]; · iexact HS
    isplitl [Ho]; · iexact Ho
    iexists v13, v14
    isplitl [H13]; · iexact H13
    iexact H14
  iintro %acc HT
  unfold TI Rest Lst StgAny
  icases HT with ⟨%g5, %g6, %hr, H5, H6, ⟨H15, Hb0, -, ⟨%W', %hW, HO⟩, H3, Ht2, Ht3⟩, ⟨%v8, -, H8⟩, HS, Ho, ⟨%v13, %v14, H13, H14⟩⟩
  ihave HH := (start_out a2 a3 a4 q O W g5 g6) $$ [H5 H6 H15 Hb0 H3 Ht2 Ht3 H8 HS Ho H13 H14 H4 Ht0 Hbr Hsr]
  · unfold Start
    isplitr [H4 H15 Ht0 Hbr Hsr]
    · isplitl [H5]; · iexact H5
      isplitl [H6]; · iexact H6
      isplitl [H3]; · rw [bmA_env]; iexact H3
      isplitl [Ht2]; · iexact Ht2
      isplitl [Ht3]; · iexact Ht3
      isplitl [Hb0]; · iexact Hb0
      isplitl [H8]; · iexists _; iexact H8
      isplitl [HS]; · iexact HS
      isplitl [Ho]; · iexact Ho
      isplitl [H13]; · iexists _; iexact H13
      iexists _; iexact H14
    · isplitl [H4]; · iexact H4
      isplitl [H15]; · iexists _; iexact H15
      isplitl [Ht0]; · iexact Ht0
      isplitl [Hbr]; · iexact Hbr
      iexact Hsr
  icases HH with ⟨Hg, Hb, Hs⟩
  iapply own_pure
  isplitl [Hg]
  · unfold goR tdR
    icases Hg with ⟨H2, H3, H4, H5, H6⟩
    isplitl [H2]; · iexact H2
    isplitl [H3]; · iexact H3
    isplitl [H4]; · iexact H4
    iexists g5, g6
    isplitr
    · ipureintro
      intro R hR
      have := hr (R - (256 * (i 1).val + 128 * (i 0).val)) (show _ < 16 * 8 by omega)
      rw [show 256 * (i 1).val + 128 * (i 0).val + (R - (256 * (i 1).val + 128 * (i 0).val)) = R by omega] at this
      exact this
    isplitl [H5]; · iexact H5
    iexact H6
  isplitl [Hb]; · iexact Hb
  isplitl [Hs]; · iexact Hs
  iexists W'
  isplitr; · ipureintro; exact hW
  iexact HO

end Cert.Sel
-- ==== Proof.Launch.lean ====
/-
  The SparseCore call: what goes to the cores and their subcores, and what comes back.
-/
module

public import proofs.«01_k».proof.Proof.Body
public import Idealize.ShloMosaic.Lib.SparseCore.Quiescent

@[expose] public section

noncomputable section

namespace Cert.Sel

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none
abbrev EH : Emb UH (MT nD τ sig (HIx 1) (Elt F) ℕ UU ℕ) := embL

omit [FloatOps F] in
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev tL (d : Dev nD) : Thread nD τ := SparseCore.T d

/-! ## Rows given out and gathered -/

section Rows

variable (a2 : S3211264x128.Idx → F .f32) (a3 : S4096x784.Idx → F .f32) (a4 : S4096.Idx → F .f32) (d : Dev nD)

/-- The elements of the rows that satisfy `p`. -/
def rset (p : ℕ → Prop) [DecidablePred p] : Finset S4096x256.Idx := Finset.univ.filter fun x => p (x 0).val
theorem mem_rset {p : ℕ → Prop} [DecidablePred p] {x : S4096x256.Idx} : x ∈ rset p ↔ p (x 0).val := by simp [rset]

abbrev bd (q : PosShare TreeShare) : sProp 𝕄 :=
  iprop(((tL d).loc main_v5 ↦{q} a2) ∗ ((tL d).loc main_v3 ↦{q} a3) ∗ ((tL d).loc main_v4 ↦{q} a4))
abbrev rows (p : ℕ → Prop) [DecidablePred p] (f5 : S4096x256.Idx → F .f32) (f6 : S4096x256.Idx → BitVec 32) : sProp 𝕄 :=
  iprop(((tL d).loc main_v6_0 ↦[rset p]{fullShare} f5) ∗ ((tL d).loc main_v6_1 ↦[rset p]{fullShare} f6))

/-- What is handed out with the rows `p`, -/
def GO (p : ℕ → Prop) [DecidablePred p] (q : PosShare TreeShare) (f5 : S4096x256.Idx → F .f32) (f6 : S4096x256.Idx → BitVec 32) : sProp 𝕄 :=
  iprop(bd a2 a3 a4 d q ∗ rows d p f5 f6)
/-- and what comes back. -/
def TD (p : ℕ → Prop) [DecidablePred p] (q : PosShare TreeShare) : sProp 𝕄 :=
  iprop(bd a2 a3 a4 d q ∗ ∃ ff : (S4096x256.Idx → F .f32) × (S4096x256.Idx → BitVec 32), ⌜∀ R, p R → RowG (envOf a2 a3 a4) R ff.1 ff.2⌝ ∗ rows d p ff.1 ff.2)

theorem GO_goR (c s : ℕ) (q : PosShare TreeShare) (f5 : S4096x256.Idx → F .f32) (f6 : S4096x256.Idx → BitVec 32) :
    GO a2 a3 a4 d (fun R => R / 128 = 2 * s + c) q f5 f6 ⊢ goR a2 a3 a4 d c s q f5 f6 := by
  unfold GO goR
  iintro ⟨⟨H0, H1, H2⟩, H3, H4⟩
  isplitl [H0]; · iexact H0
  isplitl [H1]; · iexact H1
  isplitl [H2]; · iexact H2
  isplitl [H3]; · iexact H3
  iexact H4

theorem tdR_TD (c s : ℕ) (q : PosShare TreeShare) : tdR a2 a3 a4 d c s q ⊢ TD a2 a3 a4 d (fun R => R / 128 = 2 * s + c) q := by
  unfold TD tdR
  iintro ⟨H0, H1, H2, %f5, %f6, %h, H3, H4⟩
  isplitl [H0 H1 H2]
  · isplitl [H0]; · iexact H0
    isplitl [H1]; · iexact H1
    iexact H2
  iexists (f5, f6)
  isplitr; · ipureintro; exact h
  isplitl [H3]; · iexact H3
  iexact H4

section Split

variable {n : ℕ} {p : ℕ → Prop} [DecidablePred p] {ps : Fin n → ℕ → Prop} [∀ i, DecidablePred (ps i)]
  (hd : ∀ R i j, ps i R → ps j R → i = j) (hc : ∀ R, R < 4096 → (p R ↔ ∃ i, ps i R))
  {q : PosShare TreeShare} {qs : Fin n → PosShare TreeShare}

include hd in
theorem rset_disj : ∀ i ∈ (Finset.univ : Finset (Fin n)), ∀ j ∈ (Finset.univ : Finset (Fin n)), i ≠ j → Disjoint (rset (ps i)) (rset (ps j)) := by
  intro i _ j _ h
  rw [Finset.disjoint_left]
  intro x hi hj
  exact h (hd _ i j (mem_rset.mp hi) (mem_rset.mp hj))

include hc in
theorem rset_cover : (Finset.univ : Finset (Fin n)).biUnion (fun i => rset (ps i)) = rset p := by
  ext x
  rw [mem_rset, hc _ (x 0).isLt, Finset.mem_biUnion]
  exact ⟨fun ⟨i, _, h⟩ => ⟨i, mem_rset.mp h⟩, fun ⟨i, h⟩ => ⟨i, Finset.mem_univ i, mem_rset.mpr h⟩⟩

variable (hq : ∀ (ℓ : Loc nD τ sig) (f : Buf (Elt F) ℓ), (ℓ ↦{q} f : sProp (MT nD τ sig (HIx 1) (Elt F) ℕ UU ℕ)) = bigSep Finset.univ fun i => ℓ ↦{qs i} f)

include hq in
theorem bd_split : (bd a2 a3 a4 d q : sProp 𝕄) = bigSep Finset.univ fun i => bd a2 a3 a4 d (qs i) := by
  rw [bigSep_sep', bigSep_sep']
  exact congr (congrArg BI.sep (hq ((tL d).loc main_v5) a2)) (congr (congrArg BI.sep (hq ((tL d).loc main_v3) a3)) (hq ((tL d).loc main_v4) a4))

include hd hc in
theorem rows_split (f5 : S4096x256.Idx → F .f32) (f6 : S4096x256.Idx → BitVec 32) :
    (rows d p f5 f6 : sProp 𝕄) = bigSep Finset.univ fun i => rows d (ps i) f5 f6 := by
  have h5 := pointsTo_biUnion (ℓ := (tL d).loc main_v6_0) (q := fullShare) (f := f5) (Ix := HIx 1) (Name := ℕ) (U := UU) (Lvl := ℕ) (Val := Elt F) Finset.univ (fun i => rset (ps i)) (rset_disj hd)
  have h6 := pointsTo_biUnion (ℓ := (tL d).loc main_v6_1) (q := fullShare) (f := f6) (Ix := HIx 1) (Name := ℕ) (U := UU) (Lvl := ℕ) (Val := Elt F) Finset.univ (fun i => rset (ps i)) (rset_disj hd)
  have hcov := rset_cover hc
  rw [bigSep_sep']
  exact congr (congrArg BI.sep ((congrArg (fun S => ((tL d).loc main_v6_0 ↦[S]{fullShare} f5 : sProp 𝕄)) hcov.symm).trans h5))
    ((congrArg (fun S => ((tL d).loc main_v6_1 ↦[S]{fullShare} f6 : sProp 𝕄)) hcov.symm).trans h6)

include hd hc hq in
theorem GO_split (f5 : S4096x256.Idx → F .f32) (f6 : S4096x256.Idx → BitVec 32) :
    GO a2 a3 a4 d p q f5 f6 = bigSep Finset.univ fun i => GO a2 a3 a4 d (ps i) (qs i) f5 f6 := by
  unfold GO
  rw [bigSep_sep', ← bd_split a2 a3 a4 d hq, ← rows_split d hd hc]

include hd hc in
theorem rows_join (fs : Fin n → (S4096x256.Idx → F .f32) × (S4096x256.Idx → BitVec 32)) (z : (S4096x256.Idx → F .f32) × (S4096x256.Idx → BitVec 32)) :
    (bigSep Finset.univ fun i => rows d (ps i) (fs i).1 (fs i).2)
      ⊢ (iprop(∃ ff : (S4096x256.Idx → F .f32) × (S4096x256.Idx → BitVec 32), ⌜∀ i, ∀ x ∈ rset (ps i), ff.1 x = (fs i).1 x ∧ ff.2 x = (fs i).2 x⌝ ∗ rows d p ff.1 ff.2) : sProp 𝕄) := by
  have h5 := pointsTo_biUnion_join (ℓ := (tL d).loc main_v6_0) (q := fullShare) (Ix := HIx 1) (Name := ℕ) (U := UU) (Lvl := ℕ) (Val := Elt F) Finset.univ (fun i => rset (ps i)) (fun i => (fs i).1) z.1 (rset_disj hd)
  have h6 := pointsTo_biUnion_join (ℓ := (tL d).loc main_v6_1) (q := fullShare) (Ix := HIx 1) (Name := ℕ) (U := UU) (Lvl := ℕ) (Val := Elt F) Finset.univ (fun i => rset (ps i)) (fun i => (fs i).2) z.2 (rset_disj hd)
  rw [show Finset.univ.biUnion (fun i => rset (ps i)) = rset p from rset_cover hc] at h5 h6
  rw [bigSep_sep']
  iintro ⟨H5, H6⟩
  ihave H5 := h5 $$ H5
  ihave H6 := h6 $$ H6
  icases H5 with ⟨%g5, %e5, H5⟩
  icases H6 with ⟨%g6, %e6, H6⟩
  iexists (g5, g6)
  isplitr; · ipureintro; exact fun i x hx => ⟨e5 i (Finset.mem_univ i) x hx, e6 i (Finset.mem_univ i) x hx⟩
  isplitl [H5]; · iexact H5
  iexact H6

include hd hc hq in
theorem TD_join (hp : ∀ R, p R → R < 4096) (z : (S4096x256.Idx → F .f32) × (S4096x256.Idx → BitVec 32)) :
    (bigSep Finset.univ fun i => TD a2 a3 a4 d (ps i) (qs i)) ⊢ TD a2 a3 a4 d p q := by
  have : Nonempty ((S4096x256.Idx → F .f32) × (S4096x256.Idx → BitVec 32)) := ⟨z⟩
  unfold TD
  rw [bigSep_sep', ← bd_split a2 a3 a4 d hq]
  refine sep_mono_right ?_
  refine (bigSep_exists_pi Finset.univ (fun i (ff : (S4096x256.Idx → F .f32) × (S4096x256.Idx → BitVec 32)) =>
    iprop(⌜∀ R, ps i R → RowG (envOf a2 a3 a4) R ff.1 ff.2⌝ ∗ rows d (ps i) ff.1 ff.2))).trans ?_
  iintro ⟨%fs, H⟩
  ihave H := (bigSep_pure_sep Finset.univ (fun i => ∀ R, ps i R → RowG (envOf a2 a3 a4) R (fs i).1 (fs i).2) fun i => rows d (ps i) (fs i).1 (fs i).2) $$ H
  icases H with ⟨%h, H⟩
  ihave H := (rows_join d hd hc fs z) $$ H
  icases H with ⟨%ff, %e, H⟩
  iexists ff
  isplitr
  · ipureintro
    intro R hR
    obtain ⟨i, hi⟩ := (hc R (hp R hR)).mp hR
    refine (h i (Finset.mem_univ i) R hi).congr (fun x hx => (e i x (mem_rset.mpr (by rw [hx]; exact hi))).1) (fun x hx => (e i x (mem_rset.mpr (by rw [hx]; exact hi))).2)
  · iexact H

end Split

end Rows

/-! ## What the call carries -/

section Pay

variable (m : (ℓ : Loc nD τ sig) → Buf (Elt F) ℓ)

abbrev m0 (d : Dev nD) : S3211264x128.Idx → F .f32 := m ((tL d).loc main_v5)
abbrev m1 (d : Dev nD) : S4096x784.Idx → F .f32 := m ((tL d).loc main_v3)
abbrev m2 (d : Dev nD) : S4096.Idx → F .f32 := m ((tL d).loc main_v4)
abbrev m5 (d : Dev nD) : S4096x256.Idx → F .f32 := m ((tL d).loc main_v6_0)
abbrev m6 (d : Dev nD) : S4096x256.Idx → BitVec 32 := m ((tL d).loc main_v6_1)

abbrev pC (c : ℕ) : ℕ → Prop := fun R => R < 4096 ∧ R / 128 % 2 = c
abbrev pT (c s : ℕ) : ℕ → Prop := fun R => R / 128 = 2 * s + c
abbrev qC (c : Fin 2) : PosShare TreeShare := cut 1 fullShare c
abbrev qT (c : Fin 2) (s : Fin 16) : PosShare TreeShare := cut 4 (qC c) s

def P : (K (F := F)).Pay (nD := nD) (Val := Elt F) (Name := ℕ) (U := UU) where
  st := fun _ d c => GO (m0 m d) (m1 m d) (m2 m d) d (pC c.val) (qC ⟨c.val, c.isLt.trans_le (hscCore _)⟩) (m5 m d) (m6 m d)
  dn := fun _ d c => TD (m0 m d) (m1 m d) (m2 m d) d (pC c.val) (qC ⟨c.val, c.isLt.trans_le (hscCore _)⟩)
  go := fun _ d c s => GO (m0 m d) (m1 m d) (m2 m d) d (pT c.val s.val) (qT ⟨c.val, c.isLt.trans_le (hscCore _)⟩ ⟨s.val, s.isLt.trans_le (hscSub _)⟩) (m5 m d) (m6 m d)
  td := fun _ d c s => TD (m0 m d) (m1 m d) (m2 m d) d (pT c.val s.val) (qT ⟨c.val, c.isLt.trans_le (hscCore _)⟩ ⟨s.val, s.isLt.trans_le (hscSub _)⟩)
  x := fun _ _ => iprop(emp)

instance P_storable : (P (F := F) m).IsStorable where
  st := fun _ _ _ => by unfold P GO; infer_instance
  dn := fun _ _ _ => by unfold P TD; infer_instance
  go := fun _ _ _ _ => by unfold P GO; infer_instance
  td := fun _ _ _ _ => by unfold P TD; infer_instance

theorem cut_split (n : ℕ) (q : PosShare TreeShare) (ℓ : Loc nD τ sig) (f : Buf (Elt F) ℓ) :
    (ℓ ↦{q} f : sProp 𝕄) = bigSep Finset.univ fun i : Fin (2 ^ n) => ℓ ↦{cut n q i} f := pts_cut Finset.univ f n q

theorem pT_disj (c : ℕ) (R : ℕ) (i j : Fin 16) : pT c i.val R → pT c j.val R → i = j := by
  intro h h'
  have e : R / 128 = 2 * i.val + c := h
  have e' : R / 128 = 2 * j.val + c := h'
  exact Fin.ext (by omega)
theorem pT_cover (c : Fin 2) (R : ℕ) (hR : R < 4096) : pC c.val R ↔ ∃ i : Fin 16, pT c.val i.val R := by
  have hc := c.isLt
  constructor
  · rintro ⟨_, h⟩
    exact ⟨⟨R / 128 / 2, by omega⟩, show R / 128 = 2 * (R / 128 / 2) + c.val by omega⟩
  · rintro ⟨i, h⟩
    have e : R / 128 = 2 * i.val + c.val := h
    exact ⟨hR, by omega⟩
theorem pC_disj (R : ℕ) (i j : Fin 2) : pC i.val R → pC j.val R → i = j := by
  intro h h'
  exact Fin.ext (h.2.symm.trans h'.2)
theorem pC_cover (R : ℕ) (_ : R < 4096) : (R < 4096 ↔ ∃ i : Fin 2, pC i.val R) :=
  ⟨fun h => ⟨⟨R / 128 % 2, Nat.mod_lt _ (by decide)⟩, h, rfl⟩, fun ⟨_, h⟩ => h.1⟩

variable (d : Dev nD)

theorem core_split (c : Fin 2) : GO (m0 m d) (m1 m d) (m2 m d) d (pC c.val) (qC c) (m5 m d) (m6 m d)
    = bigSep Finset.univ fun i : Fin 16 => GO (m0 m d) (m1 m d) (m2 m d) d (pT c.val i.val) (qT c i) (m5 m d) (m6 m d) :=
  GO_split (m0 m d) (m1 m d) (m2 m d) d (ps := fun i : Fin 16 => pT c.val i.val) (qs := qT c) (pT_disj c.val) (pT_cover c) (cut_split 4 (qC c)) (m5 m d) (m6 m d)
theorem core_join (c : Fin 2) : (bigSep Finset.univ fun i : Fin 16 => TD (m0 m d) (m1 m d) (m2 m d) d (pT c.val i.val) (qT c i))
    ⊢ TD (m0 m d) (m1 m d) (m2 m d) d (pC c.val) (qC c) :=
  TD_join (m0 m d) (m1 m d) (m2 m d) d (ps := fun i : Fin 16 => pT c.val i.val) (qs := qT c) (pT_disj c.val) (pT_cover c) (cut_split 4 (qC c)) (fun _ h => h.1) (m5 m d, m6 m d)
theorem whole_split : GO (m0 m d) (m1 m d) (m2 m d) d (fun R => R < 4096) fullShare (m5 m d) (m6 m d)
    = bigSep Finset.univ fun c : Fin 2 => GO (m0 m d) (m1 m d) (m2 m d) d (pC c.val) (qC c) (m5 m d) (m6 m d) :=
  GO_split (m0 m d) (m1 m d) (m2 m d) d (ps := fun c : Fin 2 => pC c.val) (qs := qC) pC_disj pC_cover (cut_split 1 fullShare) (m5 m d) (m6 m d)
theorem whole_join : (bigSep Finset.univ fun c : Fin 2 => TD (m0 m d) (m1 m d) (m2 m d) d (pC c.val) (qC c))
    ⊢ TD (m0 m d) (m1 m d) (m2 m d) d (fun R => R < 4096) fullShare :=
  TD_join (m0 m d) (m1 m d) (m2 m d) d (ps := fun c : Fin 2 => pC c.val) (qs := qC) pC_disj pC_cover (cut_split 1 fullShare) (fun _ h => h) (m5 m d, m6 m d)

theorem vecSplit : (K (F := F)).VecSplit' (P m) 0 := by
  intro d c
  refine (Entails.of_eq (core_split m d (⟨c.val, c.isLt⟩ : Fin 2))).trans ?_
  iintro H
  imodintro
  isplitl [H]
  · iexact H
  iintro H
  iapply (show (bigSep Finset.univ fun i => (P m).td 0 d c i) ⊢ (P m).dn 0 d c from core_join m d (⟨c.val, c.isLt⟩ : Fin 2)) $$ H

/-! ## The task -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 () = SparseCore.onTile hcore2 hsub2 (fun c s => bodySC (coordsV c s)) ⟨⟩ c s := rfl

theorem task_in (c : Fin (grid2.bound 0)) (s : Fin (grid2.bound 1)) (O : CellTallies nD τ sig (HIx 1)) (W : Waits sig (HIx 1))
    (hO : ∀ g, O g none = 0) (Z : sProp 𝕄) :
    iprop(levAts (K (F := F)).L (K (F := F)).lev ∗ Z
        ∗ GO (m0 m d) (m1 m d) (m2 m d) d (pT c.val s.val) (qT ⟨c.val, c.isLt⟩ ⟨s.val, s.isLt⟩) (m5 m d) (m6 m d)
        ∗ SparseCore.Cfg.ownBufs (cT d (coordsV c s)) ∗ SparseCore.Cfg.ownSems0 (cT d (coordsV c s)) ∗ owes (cT d (coordsV c s)) O W)
      ⊢ (iprop(Transfers.MayWaits (cT d (coordsV c s)) (default : HIx 1) O
        ∗ goR (m0 m d) (m1 m d) (m2 m d) d c.val s.val (qT ⟨c.val, c.isLt⟩ ⟨s.val, s.isLt⟩) (m5 m d) (m6 m d)
        ∗ SparseCore.Cfg.ownBufs (cT d (coordsV c s)) ∗ SparseCore.Cfg.ownSems0 (cT d (coordsV c s)) ∗ owes (cT d (coordsV c s)) O W) : sProp 𝕄) := by
  iintro ⟨#Hlv, -, H, Hb, Hs, HO⟩
  isplitr
  · iapply ((K (F := F)).mayWaits_none (thr := cT d (coordsV c s)) hO) $$ Hlv
  isplitl [H]; · iapply (GO_goR (m0 m d) (m1 m d) (m2 m d) d c.val s.val _ (m5 m d) (m6 m d)) $$ H
  isplitl [Hb]; · iexact Hb
  isplitl [Hs]; · iexact Hs
  iexact HO

theorem task_out (c : Fin (grid2.bound 0)) (s : Fin (grid2.bound 1)) (O : CellTallies nD τ sig (HIx 1)) (W : Waits sig (HIx 1)) :
    (iprop(tdR (m0 m d) (m1 m d) (m2 m d) d c.val s.val (qT ⟨c.val, c.isLt⟩ ⟨s.val, s.isLt⟩)
            ∗ SparseCore.Cfg.ownBufs (cT d (coordsV c s)) ∗ SparseCore.Cfg.ownSems0 (cT d (coordsV c s))
            ∗ ∃ W', ⌜∀ p ∈ W', p ∈ W ∨ p.2 = none⌝ ∗ owes (cT d (coordsV c s)) O W') : sProp 𝕄)
      ⊢ iprop(TD (m0 m d) (m1 m d) (m2 m d) d (pT c.val s.val) (qT ⟨c.val, c.isLt⟩ ⟨s.val, s.isLt⟩)
            ∗ SparseCore.Cfg.ownBufs (cT d (coordsV c s)) ∗ SparseCore.Cfg.ownSems0 (cT d (coordsV c s))
            ∗ ∃ W', ⌜∀ p ∈ W', p ∈ W ∨ p.2 = none ∨ p.2 = some (0 : Fin 1)⌝ ∗ owes (cT d (coordsV c s)) O W') := by
  iintro ⟨H, Hb, Hs, %W', %hW, HO⟩
  isplitl [H]; · iapply (tdR_TD (m0 m d) (m1 m d) (m2 m d) d c.val s.val _) $$ H
  isplitl [Hb]; · iexact Hb
  isplitl [Hs]; · iexact Hs
  iexists W'
  isplitr; · ipureintro; exact fun p hp => (hW p hp).imp_right Or.inl
  iexact HO

theorem tile_task (c : Fin (grid2.bound 0)) (s : Fin (grid2.bound 1)) (O : CellTallies nD τ sig (HIx 1)) (W : Waits sig (HIx 1))
    (hO : ∀ g, O g none = 0) (Z : sProp 𝕄) :
    iprop(levAts (K (F := F)).L (K (F := F)).lev ∗ Z
        ∗ GO (m0 m d) (m1 m d) (m2 m d) d (pT c.val s.val) (qT ⟨c.val, c.isLt⟩ ⟨s.val, s.isLt⟩) (m5 m d) (m6 m d)
        ∗ scopedBufs (cT d (coordsV c s)) ∗ scopedSems0 (cT d (coordsV c s)) ∗ owes (cT d (coordsV c s)) O W)
      ⊢ wp frame (wpE (defs₀ (F := F)) 𝒱₀ (cT d (coordsV c s)) none) Set.univ (bodySC (coordsV c s))
          fun _ => iprop(TD (m0 m d) (m1 m d) (m2 m d) d (pT c.val s.val) (qT ⟨c.val, c.isLt⟩ ⟨s.val, s.isLt⟩)
            ∗ scopedBufs (cT d (coordsV c s)) ∗ scopedSems0 (cT d (coordsV c s))
            ∗ ∃ W', ⌜∀ p ∈ W', p ∈ W ∨ p.2 = none ∨ p.2 = some (0 : Fin 1)⌝ ∗ owes (cT d (coordsV c s)) O W') := by
  rw [(K (F := F)).scopedBufs_V facts d _ _, SparseCore.Cfg.scopedSems0_V (Val := Elt F) d _ _]
  exact (task_in m d _ _ O W hO Z).trans ((body_wp (d := d) (i := coordsV c s) (m0 m d) (m1 m d) (m2 m d) (qT ⟨c.val, c.isLt⟩ ⟨s.val, s.isLt⟩) O W (m5 m d) (m6 m d)).trans
    (wp_mono frame _ _ fun _ => task_out m d _ _ O W))

set_option maxRecDepth 16384 in
theorem tileObl : (K (F := F)).TileObl (D (F := F)) 𝒱 (P m) v₀ 0 := by
  intro d c i O W hO _ _
  simp only [show (P m).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_task m d ⟨_, hci.1⟩ ⟨_, hci.2⟩ O W hO _

end Pay

end Cert.Sel
-- ==== Proof.TopBody.lean ====
/-
  The hundred rounds on one block of 512 rows: the body run once, and what it leaves.
-/
module

public import proofs.«01_k».proof.Proof.Rules
public import proofs.«01_k».proof.Proof.Gen.KernelIdeal.Launch
public import proofs.«01_k».proof.Proof.Gen.KernelIdeal.Points
public import Idealize.ShloMosaic.Lib.Pipeline.ValueKit

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- One round on the carried values: the row maxima taken out, and put at lane `k` of the results. -/
def rnd (x2 : Vec F S512x256 .i32) (k : Fin k3_t1_loop.trips) (a : FVec F S512x256 .f32 × FVec F S512x128 .f32 × IVec S512x128 32) :
    FVec F S512x256 .f32 × FVec F S512x128 .f32 × IVec S512x128 32 :=
  (k3_pay8 x2 a.1, k3_pay9 k a.1 a.2.1, k3_pay10 x2 k a.1 a.2.2)

/-- The hundred rounds on a block. -/
def rnds (x1 : Vec F S512x256 .f32) (x2 : Vec F S512x256 .i32) : FVec F S512x256 .f32 × FVec F S512x128 .f32 × IVec S512x128 32 :=
  Scf.fold (rnd x2) (k3_pay1 x1, k3_pay3 (F := F), k3_pay4)

/-- What the body leaves of scores and of numbers. -/
def outS (x1 : Vec F S512x256 .f32) (x2 : Vec F S512x256 .i32) : Vec F S512x100 .f32 := k3_pay11 (rnds x1 x2).2.1
def outI (x1 : Vec F S512x256 .f32) (x2 : Vec F S512x256 .i32) : Vec F S512x100 .i32 := k3_pay12 (rnds x1 x2).2.2

theorem zz : (![0, 0] : Fin 2 → ℕ) = fun _ => 0 := by funext a; fin_cases a <;> rfl

section
variable {s : Shape} {e : EltTy} {off : Fin s.rank → ℕ}

theorem unit_emb (h : off = fun _ => 0) (inb : ∀ a, off a + s.size a ≤ s.size a) (y : s.Idx) : (Rect.unit off s.size inb).emb y = y := by
  subst h; exact Rect.emb_whole_apply _ y

theorem unit_upd (h : off = fun _ => 0) (inb : ∀ a, off a + s.size a ≤ s.size a) (v w : s.Idx → Elt F e) :
    upd (F := F) (e := e) (Rect.unit off s.size inb) v w = w := by
  funext x
  have := upd_emb (F := F) (e := e) (Rect.unit off s.size inb) v w x
  rwa [unit_emb h] at this

end

theorem owns_own (c : Thread nD τ) {sp : Space} {s : Shape} {e : EltTy} (m : Memref sig c.2.kind sp s e) (v : s.Idx → Elt F e) :
    (owns c m fullShare v : sProp 𝕄) = Own c m Finset.univ v := by
  unfold owns Own
  congr 1; funext f
  rw [show (m.view.read (Elt F) f = v) = ∀ x ∈ Finset.univ, m.view.read (Elt F) f x = v x from propext ⟨fun h x _ => congrFun h x, fun h => funext fun x => h x (Finset.mem_univ x)⟩,
    View.setOn_univ]

theorem skel_eq (i : grid3.Coords) (m1 : Memref sig .tc .vmem S512x256 .f32) (h1 : m1.IsWhole) (m2 : Memref sig .tc .vmem S512x256 .i32) (h2 : m2.IsWhole)
    (m3 : Memref sig .tc .vmem S512x100 .f32) (h3 : m3.IsWhole) (m4 : Memref sig .tc .vmem S512x100 .i32) (h4 : m4.IsWhole) :
    cc3__topk_body (F := F) i m1 h1 m2 h2 m3 h3 m4 h4
      = .op (.load m1 (Rect.unit (s := S512x256) ![0, 0] S512x256.size inb_S512x256_S512x256_0_0).toLoadRect (View.loadsAt_vmem h_S512x256)) fun v0 =>
        .op (.load m2 (Rect.unit (s := S512x256) ![0, 0] S512x256.size inb_S512x256_S512x256_0_0).toLoadRect (View.loadsAt_vmem h_S512x256)) fun v2 =>
        .op (.load m3 (Rect.unit (s := S512x100) ![0, 0] S512x100.size inb_S512x100_S512x100_0_0).toLoadRect (View.loadsAt_vmem h_S512x100)) fun _ =>
        .op (.store m3 (Rect.unit (s := S512x100) ![0, 0] S512x100.size inb_S512x100_S512x100_0_0) (outS v0 v2) Finset.univ (View.stores_vmem_bits_univ h_S512x100 rfl) (.inl rfl)) fun _ =>
        .op (.load m4 (Rect.unit (s := S512x100) ![0, 0] S512x100.size inb_S512x100_S512x100_0_0).toLoadRect (View.loadsAt_vmem h_S512x100)) fun _ =>
        .op (.store m4 (Rect.unit (s := S512x100) ![0, 0] S512x100.size inb_S512x100_S512x100_0_0) (outI v0 v2) Finset.univ (View.stores_vmem_bits_univ h_S512x100 rfl) (.inl rfl)) fun _ => pure ⟨⟩ := by
  rw [cc3__topk_body_eq_skeleton]
  unfold cc3__topk_body_skel
  simp only [Prog.lift, Prog.bind_op, Prog.bind_ret]
  congr 1; funext v0
  congr 1; funext v2
  rw [show Scf.Loop.for k3_t1_loop k3_t1_ok (k3_pay1 v0, k3_pay3 (F := F), k3_pay4) (k3_t1_body i m1 h1 m2 h2 m3 h3 m4 h4 v2) = .ret (rnds v0 v2) from
    Scf.for_pure _ _ _ _ _ _ (rnd v2) fun k acc => rfl]
  rfl

theorem topk_wp (c : Dev nD) (i : grid3.Coords) (m1 : Memref sig .tc .vmem S512x256 .f32) (h1 : m1.IsWhole) (m2 : Memref sig .tc .vmem S512x256 .i32) (h2 : m2.IsWhole)
    (m3 : Memref sig .tc .vmem S512x100 .f32) (h3 : m3.IsWhole) (m4 : Memref sig .tc .vmem S512x100 .i32) (h4 : m4.IsWhole)
    (x1 : Vec F S512x256 .f32) (x2 : Vec F S512x256 .i32) (x3 : Vec F S512x100 .f32) (x4 : Vec F S512x100 .i32) (R : sProp 𝕄) :
    iprop(owns (T c) m1 fullShare x1 ∗ owns (T c) m2 fullShare x2 ∗ owns (T c) m3 fullShare x3 ∗ owns (T c) m4 fullShare x4 ∗ R)
      ⊢ wp frame (wpE (defs₀ (F := F)) 𝒱₀ (T c) none) Set.univ (cc3__topk_body (F := F) i m1 h1 m2 h2 m3 h3 m4 h4)
          fun _ => iprop(owns (T c) m1 fullShare x1 ∗ owns (T c) m2 fullShare x2 ∗ owns (T c) m3 fullShare (outS x1 x2) ∗ owns (T c) m4 fullShare (outI x1 x2) ∗ R) := by
  rw [skel_eq]
  simp only [owns_own]
  have l1 : (fun y => x1 ((Rect.unit (s := S512x256) ![0, 0] S512x256.size inb_S512x256_S512x256_0_0).emb y)) = x1 := funext fun y => congrArg x1 (unit_emb zz _ y)
  have l2 : (fun y => x2 ((Rect.unit (s := S512x256) ![0, 0] S512x256.size inb_S512x256_S512x256_0_0).emb y)) = x2 := funext fun y => congrArg x2 (unit_emb zz _ y)
  refine own_load (Finset.subset_univ _) ?_
  rw [l1]
  refine (show _ ⊢ iprop(Own (T c) m2 Finset.univ x2 ∗ Own (T c) m1 Finset.univ x1 ∗ Own (T c) m3 Finset.univ x3 ∗ Own (T c) m4 Finset.univ x4 ∗ R) by
    iintro ⟨H1, H2, H⟩; isplitl [H2]; · iexact H2
    isplitl [H1]; · iexact H1
    iexact H).trans ?_
  refine own_load (Finset.subset_univ _) ?_
  rw [l2]
  refine (show _ ⊢ iprop(Own (T c) m3 Finset.univ x3 ∗ Own (T c) m1 Finset.univ x1 ∗ Own (T c) m2 Finset.univ x2 ∗ Own (T c) m4 Finset.univ x4 ∗ R) by
    iintro ⟨H2, H1, H3, H⟩; isplitl [H3]; · iexact H3
    isplitl [H1]; · iexact H1
    isplitl [H2]; · iexact H2
    iexact H).trans ?_
  refine own_load (Finset.subset_univ _) ?_
  refine own_store (Finset.subset_univ _) ?_
  rw [unit_upd (F := F) (e := .f32) zz]
  refine (show _ ⊢ iprop(Own (T c) m4 Finset.univ x4 ∗ Own (T c) m3 Finset.univ (outS x1 x2) ∗ Own (T c) m1 Finset.univ x1 ∗ Own (T c) m2 Finset.univ x2 ∗ R) by
    iintro ⟨H3, H1, H2, H4, H⟩; isplitl [H4]; · iexact H4
    isplitl [H3]; · iexact H3
    isplitl [H1]; · iexact H1
    isplitl [H2]; · iexact H2
    iexact H).trans ?_
  refine own_load (Finset.subset_univ _) ?_
  refine own_store (Finset.subset_univ _) ?_
  rw [unit_upd (F := F) (e := .i32) zz]
  have hf : iprop(Own (T c) m4 Finset.univ (outI x1 x2) ∗ Own (T c) m3 Finset.univ (outS x1 x2) ∗ Own (T c) m1 Finset.univ x1 ∗ Own (T c) m2 Finset.univ x2 ∗ R)
      ⊢ (iprop(Own (T c) m1 Finset.univ x1 ∗ Own (T c) m2 Finset.univ x2 ∗ Own (T c) m3 Finset.univ (outS x1 x2) ∗ Own (T c) m4 Finset.univ (outI x1 x2) ∗ R) : sProp 𝕄) := by
    iintro ⟨H4, H3, H1, H2, H⟩; isplitl [H1]; · iexact H1
    isplitl [H2]; · iexact H2
    isplitl [H3]; · iexact H3
    isplitl [H4]; · iexact H4
    iexact H
  rw [show (pure ⟨⟩ : Prog (TpuEff nD τ sig (Elt F) Λ₀ .tc) PUnit) = .ret ⟨⟩ from rfl, wp_ret]
  exact hf.trans fupd_intro

end Cert.Sel
-- ==== Proof.ScoreBody.lean ====
/-
  The product of a block of queries and a block of candidates: the body run once, and what it leaves.
-/
module

public import proofs.«01_k».proof.Proof.TopBody

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- What the body leaves of scores and of block maxima. -/
def outQ (i : grid0.Coords) (x1 : Vec F S512x128 .f32) (x2 : Vec F S2048x128 .f32) : Vec F S512x16x128 .f32 :=
  if k0_cond1 i = 1#1 then k0_pay2 x1 x2 else k0_pay4 x1 x2
def outB (i : grid0.Coords) (x1 : Vec F S512x128 .f32) (x2 : Vec F S2048x128 .f32) : Vec F S1x512x16 .f32 :=
  if k0_cond1 i = 1#1 then k0_pay3 x1 x2 else k0_pay5 x1 x2

theorem zzz : (![0, 0, 0] : Fin 3 → ℕ) = fun _ => 0 := by funext a; fin_cases a <;> rfl

theorem conds (i : grid0.Coords) : k0_cond2 i = 1#1 ↔ ¬ k0_cond1 i = 1#1 := by
  have key : ∀ j : Fin 49, Scalar.cmpi .ne (Scalar.extui (Scalar.cmpi .eq (BitVec.ofNat 32 j.val) 48#32) : BitVec 32) 0#32 = 1#1
      ↔ ¬ Scalar.cmpi .ne (Scalar.extui (Scalar.cmpi .slt (BitVec.ofNat 32 j.val) 48#32) : BitVec 32) 0#32 = 1#1 := by decide +kernel
  exact key (i 1)

theorem score_skel (i : grid0.Coords) (m1 : Memref sig .tc .vmem S512x128 .f32) (h1 : m1.IsWhole) (m2 : Memref sig .tc .vmem S2048x128 .f32) (h2 : m2.IsWhole)
    (m3 : Memref sig .tc .vmem S512x16x128 .f32) (h3 : m3.IsWhole) (m4 : Memref sig .tc .vmem S1x512x16 .f32) (h4 : m4.IsWhole) :
    cc0__scores_body (F := F) i m1 h1 m2 h2 m3 h3 m4 h4
      = .op (.load m1 (Rect.unit (s := S512x128) ![0, 0] S512x128.size inb_S512x128_S512x128_0_0).toLoadRect (View.loadsAt_vmem h_S512x128)) fun v0 =>
        .op (.load m2 (Rect.unit (s := S2048x128) ![0, 0] S2048x128.size inb_S2048x128_S2048x128_0_0).toLoadRect (View.loadsAt_vmem h_S2048x128)) fun v1 =>
        .op (.load m3 (Rect.unit (s := S512x16x128) ![0, 0, 0] S512x16x128.size inb_S512x16x128_S512x16x128_0_0_0).toLoadRect (View.loadsAt_vmem h_S512x16x128)) fun _ =>
        .op (.store m3 (Rect.unit (s := S512x16x128) ![0, 0, 0] S512x16x128.size inb_S512x16x128_S512x16x128_0_0_0) (outQ i v0 v1) Finset.univ (View.stores_vmem_bits_univ h_S512x16x128 rfl) (.inl rfl)) fun _ =>
        .op (.load m4 (Rect.unit (s := S1x512x16) ![0, 0, 0] S1x512x16.size inb_S1x512x16_S1x512x16_0_0_0).toLoadRect (View.loadsAt_vmem h_S1x512x16)) fun _ =>
        .op (.store m4 (Rect.unit (s := S1x512x16) ![0, 0, 0] S1x512x16.size inb_S1x512x16_S1x512x16_0_0_0) (outB i v0 v1) Finset.univ (View.stores_vmem_bits_univ h_S1x512x16 rfl) (.inl rfl)) fun _ => pure ⟨⟩ := by
  rw [cc0__scores_body_eq_skeleton]
  unfold cc0__scores_body_skel outQ outB
  by_cases h : k0_cond1 i = 1#1
  · have h' : ¬ k0_cond2 i = 1#1 := fun h' => (conds i).mp h' h
    simp only [dif_pos h, dif_neg h', if_pos h, Prog.lift, Prog.bind_op, Prog.bind_ret]
    rfl
  · have h' : k0_cond2 i = 1#1 := (conds i).mpr h
    simp only [dif_neg h, dif_pos h', if_neg h, Prog.lift, Prog.bind_op, Prog.bind_ret]
    rfl

theorem score_wp (c : Dev nD) (i : grid0.Coords) (m1 : Memref sig .tc .vmem S512x128 .f32) (h1 : m1.IsWhole) (m2 : Memref sig .tc .vmem S2048x128 .f32) (h2 : m2.IsWhole)
    (m3 : Memref sig .tc .vmem S512x16x128 .f32) (h3 : m3.IsWhole) (m4 : Memref sig .tc .vmem S1x512x16 .f32) (h4 : m4.IsWhole)
    (x1 : Vec F S512x128 .f32) (x2 : Vec F S2048x128 .f32) (x3 : Vec F S512x16x128 .f32) (x4 : Vec F S1x512x16 .f32) (R : sProp 𝕄) :
    iprop(owns (T c) m1 fullShare x1 ∗ owns (T c) m2 fullShare x2 ∗ owns (T c) m3 fullShare x3 ∗ owns (T c) m4 fullShare x4 ∗ R)
      ⊢ wp frame (wpE (defs₀ (F := F)) 𝒱₀ (T c) none) Set.univ (cc0__scores_body (F := F) i m1 h1 m2 h2 m3 h3 m4 h4)
          fun _ => iprop(owns (T c) m1 fullShare x1 ∗ owns (T c) m2 fullShare x2 ∗ owns (T c) m3 fullShare (outQ i x1 x2) ∗ owns (T c) m4 fullShare (outB i x1 x2) ∗ R) := by
  rw [score_skel]
  simp only [owns_own]
  have l1 : (fun y => x1 ((Rect.unit (s := S512x128) ![0, 0] S512x128.size inb_S512x128_S512x128_0_0).emb y)) = x1 := funext fun y => congrArg x1 (unit_emb zz _ y)
  have l2 : (fun y => x2 ((Rect.unit (s := S2048x128) ![0, 0] S2048x128.size inb_S2048x128_S2048x128_0_0).emb y)) = x2 := funext fun y => congrArg x2 (unit_emb zz _ y)
  refine own_load (Finset.subset_univ _) ?_
  rw [l1]
  refine (show _ ⊢ iprop(Own (T c) m2 Finset.univ x2 ∗ Own (T c) m1 Finset.univ x1 ∗ Own (T c) m3 Finset.univ x3 ∗ Own (T c) m4 Finset.univ x4 ∗ R) by
    iintro ⟨H1, H2, H⟩; isplitl [H2]; · iexact H2
    isplitl [H1]; · iexact H1
    iexact H).trans ?_
  refine own_load (Finset.subset_univ _) ?_
  rw [l2]
  refine (show _ ⊢ iprop(Own (T c) m3 Finset.univ x3 ∗ Own (T c) m1 Finset.univ x1 ∗ Own (T c) m2 Finset.univ x2 ∗ Own (T c) m4 Finset.univ x4 ∗ R) by
    iintro ⟨H2, H1, H3, H⟩; isplitl [H3]; · iexact H3
    isplitl [H1]; · iexact H1
    isplitl [H2]; · iexact H2
    iexact H).trans ?_
  refine own_load (Finset.subset_univ _) ?_
  refine own_store (Finset.subset_univ _) ?_
  rw [unit_upd (F := F) (e := .f32) zzz]
  refine (show _ ⊢ iprop(Own (T c) m4 Finset.univ x4 ∗ Own (T c) m3 Finset.univ (outQ i x1 x2) ∗ Own (T c) m1 Finset.univ x1 ∗ Own (T c) m2 Finset.univ x2 ∗ R) by
    iintro ⟨H3, H1, H2, H4, H⟩; isplitl [H4]; · iexact H4
    isplitl [H3]; · iexact H3
    isplitl [H1]; · iexact H1
    isplitl [H2]; · iexact H2
    iexact H).trans ?_
  refine own_load (Finset.subset_univ _) ?_
  refine own_store (Finset.subset_univ _) ?_
  rw [unit_upd (F := F) (e := .f32) zzz]
  have hf : iprop(Own (T c) m4 Finset.univ (outB i x1 x2) ∗ Own (T c) m3 Finset.univ (outQ i x1 x2) ∗ Own (T c) m1 Finset.univ x1 ∗ Own (T c) m2 Finset.univ x2 ∗ R)
      ⊢ (iprop(Own (T c) m1 Finset.univ x1 ∗ Own (T c) m2 Finset.univ x2 ∗ Own (T c) m3 Finset.univ (outQ i x1 x2) ∗ Own (T c) m4 Finset.univ (outB i x1 x2) ∗ R) : sProp 𝕄) := by
    iintro ⟨H4, H3, H1, H2, H⟩; isplitl [H1]; · iexact H1
    isplitl [H2]; · iexact H2
    isplitl [H3]; · iexact H3
    isplitl [H4]; · iexact H4
    iexact H
  rw [show (pure ⟨⟩ : Prog (TpuEff nD τ sig (Elt F) Λ₀ .tc) PUnit) = .ret ⟨⟩ from rfl, wp_ret]
  exact hf.trans fupd_intro

end Cert.Sel
-- ==== Proof.TauBody.lean ====
/-
  The search for the threshold on one block of 512 rows: the body run once, as 34 halvings of an interval per row.
-/
module

public import proofs.«01_k».proof.Proof.TopBody

@[expose] public section

noncomputable section

namespace Cert.Sel

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The interval's ends, its middle and the number of block maxima at or above the middle, per row. -/
structure TS (F : FTy → Type) where
  lo : FVec F S512 .f32
  hi : FVec F S512 .f32
  mid : FVec F S512 .f32
  cnt : IVec S512 32

/-- The middle of an interval, and the count at it. -/
def tmid (lo hi : FVec F S512 .f32) : FVec F S512 .f32 := mulf (broadcast S512 (Scalar.ofBits .f32 0x3F000000#32)) (addf lo hi)
def tcnt (v1 : FVec F S512x784 .f32) (mid : FVec F S512 .f32) : IVec S512 32 :=
  multiReductionI .add [1] S512 (extui 32 (cmpf .oge v1 (broadcastTo S512x784 (shapeCast S512x1 mid shapeCasts_S512_S512x1) broadcasts_S512x1_S512x784)) natLt_1_32) 0#32 reduces_S512x784_S512 rfl

def tmk (v1 : FVec F S512x784 .f32) (lo hi : FVec F S512 .f32) : TS F := ⟨lo, hi, tmid lo hi, tcnt v1 (tmid lo hi)⟩
/-- One halving. -/
def tstep (v1 : FVec F S512x784 .f32) (s : TS F) : TS F :=
  tmk v1 (select (cmpi .sge s.cnt (broadcast S512 100#32)) s.mid s.lo) (select (cmpi .sge s.cnt (broadcast S512 100#32)) s.hi s.mid)
def tinit (v0 : Vec F S512x784 .f32) : TS F := tmk (k1_pay2 v0) (k1_pay3 v0) (k1_pay4 v0)
def tsteps (v1 : FVec F S512x784 .f32) : ℕ → TS F → TS F
  | 0, s => s
  | n + 1, s => tsteps v1 n (tstep v1 s)
theorem tsteps_add (v1 : FVec F S512x784 .f32) (n k : ℕ) (s : TS F) : tsteps v1 n (tsteps v1 k s) = tsteps v1 (k + n) s := by
  induction k generalizing s with
  | zero => rw [Nat.zero_add]; rfl
  | succ k ih => rw [Nat.succ_add]; exact ih _

/-- What the body leaves. -/
def outT (v0 : Vec F S512x784 .f32) : Vec F S512 .f32 := (tsteps (k1_pay2 v0) 34 (tinit v0)).lo

section parts
variable (i : grid1.Coords) (m1 : Memref sig .tc .vmem S512x784 .f32) (h1 : m1.IsWhole) (m2 : Memref sig .tc .vmem S512 .f32) (h2 : m2.IsWhole) (v1 : FVec F S512x784 .f32) (s : TS F)

abbrev fin4 (s : TS F) : Σ' (_ : FVec F S512 .f32) (_ : FVec F S512 .f32) (_ : FVec F S512 .f32) (_ : IVec S512 32), BitVec 32 := ⟨s.lo, s.hi, s.mid, s.cnt, 100#32⟩

def sel (u : TS F) : IVec S512 1 := cmpi .sge u.cnt (broadcast S512 100#32)
theorem cnt_eq : (tstep v1 s).cnt = tcnt v1 (tstep v1 s).mid := by unfold tstep tmk; dsimp only
theorem sel_eq : cmpi .sge (tcnt v1 (tstep v1 s).mid) (broadcast S512 100#32) = sel (tstep v1 s) := by unfold sel; rw [cnt_eq]
theorem t_lo : (tstep v1 s).lo = select (sel s) s.mid s.lo := by exact rfl
theorem t_hi : (tstep v1 s).hi = select (sel s) s.hi s.mid := by exact rfl
theorem t_mid : (tstep v1 s).mid = mulf (broadcast S512 (Scalar.ofBits .f32 0x3F000000#32)) (addf (tstep v1 s).lo (tstep v1 s).hi) := by exact rfl

theorem q2_lo1 : k1_pay16 s.lo s.mid s.cnt 100#32 = (tstep v1 s).lo := by unfold k1_pay16; rfl
theorem q2_hi1 : k1_pay17 s.hi s.mid s.cnt 100#32 = (tstep v1 s).hi := by unfold k1_pay17; rfl
theorem q2_mid1 : k1_pay18 s.lo s.hi s.mid s.cnt 100#32 = (tstep v1 s).mid := by unfold k1_pay18; rw [q2_lo1 v1 s, q2_hi1 v1 s]; exact (t_mid v1 s).symm
theorem q2_sel1 : k1_pay19 v1 s.lo s.hi s.mid s.cnt 100#32 = sel (tstep v1 s) := by unfold k1_pay19; rw [q2_mid1 v1 s]; exact sel_eq v1 s
theorem q2_lo2 : k1_pay20 v1 s.lo s.hi s.mid s.cnt 100#32 = (tstep v1 (tstep v1 s)).lo := by unfold k1_pay20; rw [q2_sel1 v1 s, q2_mid1 v1 s, q2_lo1 v1 s]; exact (t_lo v1 (tstep v1 s)).symm
theorem q2_hi2 : k1_pay21 v1 s.lo s.hi s.mid s.cnt 100#32 = (tstep v1 (tstep v1 s)).hi := by unfold k1_pay21; rw [q2_sel1 v1 s, q2_mid1 v1 s, q2_hi1 v1 s]; exact (t_hi v1 (tstep v1 s)).symm
theorem q2_mid2 : k1_pay22 v1 s.lo s.hi s.mid s.cnt 100#32 = (tstep v1 (tstep v1 s)).mid := by unfold k1_pay22; rw [q2_lo2 v1 s, q2_hi2 v1 s]; exact (t_mid v1 (tstep v1 s)).symm
theorem q2_sel2 : k1_pay23 v1 s.lo s.hi s.mid s.cnt 100#32 = sel (tstep v1 (tstep v1 s)) := by unfold k1_pay23; rw [q2_mid2 v1 s]; exact sel_eq v1 (tstep v1 s)
theorem q2_lo3 : k1_pay24 v1 s.lo s.hi s.mid s.cnt 100#32 = (tstep v1 (tstep v1 (tstep v1 s))).lo := by unfold k1_pay24; rw [q2_sel2 v1 s, q2_mid2 v1 s, q2_lo2 v1 s]; exact (t_lo v1 (tstep v1 (tstep v1 s))).symm
theorem q2_hi3 : k1_pay25 v1 s.lo s.hi s.mid s.cnt 100#32 = (tstep v1 (tstep v1 (tstep v1 s))).hi := by unfold k1_pay25; rw [q2_sel2 v1 s, q2_mid2 v1 s, q2_hi2 v1 s]; exact (t_hi v1 (tstep v1 (tstep v1 s))).symm
theorem q2_mid3 : k1_pay26 v1 s.lo s.hi s.mid s.cnt 100#32 = (tstep v1 (tstep v1 (tstep v1 s))).mid := by unfold k1_pay26; rw [q2_lo3 v1 s, q2_hi3 v1 s]; exact (t_mid v1 (tstep v1 (tstep v1 s))).symm
theorem q2_sel3 : k1_pay27 v1 s.lo s.hi s.mid s.cnt 100#32 = sel (tstep v1 (tstep v1 (tstep v1 s))) := by unfold k1_pay27; rw [q2_mid3 v1 s]; exact sel_eq v1 (tstep v1 (tstep v1 s))
theorem q2_lo4 : k1_pay28 v1 s.lo s.hi s.mid s.cnt 100#32 = (tstep v1 (tstep v1 (tstep v1 (tstep v1 s)))).lo := by unfold k1_pay28; rw [q2_sel3 v1 s, q2_mid3 v1 s, q2_lo3 v1 s]; exact (t_lo v1 (tstep v1 (tstep v1 (tstep v1 s)))).symm
theorem q2_hi4 : k1_pay29 v1 s.lo s.hi s.mid s.cnt 100#32 = (tstep v1 (tstep v1 (tstep v1 (tstep v1 s)))).hi := by unfold k1_pay29; rw [q2_sel3 v1 s, q2_mid3 v1 s, q2_hi3 v1 s]; exact (t_hi v1 (tstep v1 (tstep v1 (tstep v1 s)))).symm
theorem q2_mid4 : k1_pay30 v1 s.lo s.hi s.mid s.cnt 100#32 = (tstep v1 (tstep v1 (tstep v1 (tstep v1 s)))).mid := by unfold k1_pay30; rw [q2_lo4 v1 s, q2_hi4 v1 s]; exact (t_mid v1 (tstep v1 (tstep v1 (tstep v1 s)))).symm
theorem q2_cnt : k1_pay31 v1 s.lo s.hi s.mid s.cnt 100#32 = (tstep v1 (tstep v1 (tstep v1 (tstep v1 s)))).cnt := by unfold k1_pay31; rw [q2_mid4 v1 s]; exact (cnt_eq v1 (tstep v1 (tstep v1 (tstep v1 s)))).symm
theorem part2_eq : k1_part2 (F := F) i m1 h1 m2 h2 v1 s.lo s.hi s.mid s.cnt 100#32 = .ret (fin4 (tsteps v1 4 s)) := by
  rw [k1_part2_eq_skeleton]; unfold k1_part2_skel
  rw [q2_lo4 v1 s, q2_hi4 v1 s, q2_mid4 v1 s, q2_cnt v1 s]; rfl
theorem q3_lo1 : k1_pay33 s.lo s.mid s.cnt 100#32 = (tstep v1 s).lo := by unfold k1_pay33; rfl
theorem q3_hi1 : k1_pay34 s.hi s.mid s.cnt 100#32 = (tstep v1 s).hi := by unfold k1_pay34; rfl
theorem q3_mid1 : k1_pay35 s.lo s.hi s.mid s.cnt 100#32 = (tstep v1 s).mid := by unfold k1_pay35; rw [q3_lo1 v1 s, q3_hi1 v1 s]; exact (t_mid v1 s).symm
theorem q3_sel1 : k1_pay36 v1 s.lo s.hi s.mid s.cnt 100#32 = sel (tstep v1 s) := by unfold k1_pay36; rw [q3_mid1 v1 s]; exact sel_eq v1 s
theorem q3_lo2 : k1_pay37 v1 s.lo s.hi s.mid s.cnt 100#32 = (tstep v1 (tstep v1 s)).lo := by unfold k1_pay37; rw [q3_sel1 v1 s, q3_mid1 v1 s, q3_lo1 v1 s]; exact (t_lo v1 (tstep v1 s)).symm
theorem q3_hi2 : k1_pay38 v1 s.lo s.hi s.mid s.cnt 100#32 = (tstep v1 (tstep v1 s)).hi := by unfold k1_pay38; rw [q3_sel1 v1 s, q3_mid1 v1 s, q3_hi1 v1 s]; exact (t_hi v1 (tstep v1 s)).symm
theorem q3_mid2 : k1_pay39 v1 s.lo s.hi s.mid s.cnt 100#32 = (tstep v1 (tstep v1 s)).mid := by unfold k1_pay39; rw [q3_lo2 v1 s, q3_hi2 v1 s]; exact (t_mid v1 (tstep v1 s)).symm
theorem q3_sel2 : k1_pay40 v1 s.lo s.hi s.mid s.cnt 100#32 = sel (tstep v1 (tstep v1 s)) := by unfold k1_pay40; rw [q3_mid2 v1 s]; exact sel_eq v1 (tstep v1 s)
theorem q3_lo3 : k1_pay41 v1 s.lo s.hi s.mid s.cnt 100#32 = (tstep v1 (tstep v1 (tstep v1 s))).lo := by unfold k1_pay41; rw [q3_sel2 v1 s, q3_mid2 v1 s, q3_lo2 v1 s]; exact (t_lo v1 (tstep v1 (tstep v1 s))).symm
theorem q3_hi3 : k1_pay42 v1 s.lo s.hi s.mid s.cnt 100#32 = (tstep v1 (tstep v1 (tstep v1 s))).hi := by unfold k1_pay42; rw [q3_sel2 v1 s, q3_mid2 v1 s, q3_hi2 v1 s]; exact (t_hi v1 (tstep v1 (tstep v1 s))).symm
theorem q3_mid3 : k1_pay43 v1 s.lo s.hi s.mid s.cnt 100#32 = (tstep v1 (tstep v1 (tstep v1 s))).mid := by unfold k1_pay43; rw [q3_lo3 v1 s, q3_hi3 v1 s]; exact (t_mid v1 (tstep v1 (tstep v1 s))).symm
theorem q3_sel3 : k1_pay44 v1 s.lo s.hi s.mid s.cnt 100#32 = sel (tstep v1 (tstep v1 (tstep v1 s))) := by unfold k1_pay44; rw [q3_mid3 v1 s]; exact sel_eq v1 (tstep v1 (tstep v1 s))
theorem q3_lo4 : k1_pay45 v1 s.lo s.hi s.mid s.cnt 100#32 = (tstep v1 (tstep v1 (tstep v1 (tstep v1 s)))).lo := by unfold k1_pay45; rw [q3_sel3 v1 s, q3_mid3 v1 s, q3_lo3 v1 s]; exact (t_lo v1 (tstep v1 (tstep v1 (tstep v1 s)))).symm
theorem q3_hi4 : k1_pay46 v1 s.lo s.hi s.mid s.cnt 100#32 = (tstep v1 (tstep v1 (tstep v1 (tstep v1 s)))).hi := by unfold k1_pay46; rw [q3_sel3 v1 s, q3_mid3 v1 s, q3_hi3 v1 s]; exact (t_hi v1 (tstep v1 (tstep v1 (tstep v1 s)))).symm
theorem q3_mid4 : k1_pay47 v1 s.lo s.hi s.mid s.cnt 100#32 = (tstep v1 (tstep v1 (tstep v1 (tstep v1 s)))).mid := by unfold k1_pay47; rw [q3_lo4 v1 s, q3_hi4 v1 s]; exact (t_mid v1 (tstep v1 (tstep v1 (tstep v1 s)))).symm
theorem q3_cnt : k1_pay48 v1 s.lo s.hi s.mid s.cnt 100#32 = (tstep v1 (tstep v1 (tstep v1 (tstep v1 s)))).cnt := by unfold k1_pay48; rw [q3_mid4 v1 s]; exact (cnt_eq v1 (tstep v1 (tstep v1 (tstep v1 s)))).symm
theorem part3_eq : k1_part3 (F := F) i m1 h1 m2 h2 v1 s.lo s.hi s.mid s.cnt 100#32 = .ret (fin4 (tsteps v1 4 s)) := by
  rw [k1_part3_eq_skeleton]; unfold k1_part3_skel
  rw [q3_lo4 v1 s, q3_hi4 v1 s, q3_mid4 v1 s, q3_cnt v1 s]; rfl
theorem q4_lo1 : k1_pay50 s.lo s.mid s.cnt 100#32 = (tstep v1 s).lo := by unfold k1_pay50; rfl
theorem q4_hi1 : k1_pay51 s.hi s.mid s.cnt 100#32 = (tstep v1 s).hi := by unfold k1_pay51; rfl
theorem q4_mid1 : k1_pay52 s.lo s.hi s.mid s.cnt 100#32 = (tstep v1 s).mid := by unfold k1_pay52; rw [q4_lo1 v1 s, q4_hi1 v1 s]; exact (t_mid v1 s).symm
theorem q4_sel1 : k1_pay53 v1 s.lo s.hi s.mid s.cnt 100#32 = sel (tstep v1 s) := by unfold k1_pay53; rw [q4_mid1 v1 s]; exact sel_eq v1 s
theorem q4_lo2 : k1_pay54 v1 s.lo s.hi s.mid s.cnt 100#32 = (tstep v1 (tstep v1 s)).lo := by unfold k1_pay54; rw [q4_sel1 v1 s, q4_mid1 v1 s, q4_lo1 v1 s]; exact (t_lo v1 (tstep v1 s)).symm
theorem q4_hi2 : k1_pay55 v1 s.lo s.hi s.mid s.cnt 100#32 = (tstep v1 (tstep v1 s)).hi := by unfold k1_pay55; rw [q4_sel1 v1 s, q4_mid1 v1 s, q4_hi1 v1 s]; exact (t_hi v1 (tstep v1 s)).symm
theorem q4_mid2 : k1_pay56 v1 s.lo s.hi s.mid s.cnt 100#32 = (tstep v1 (tstep v1 s)).mid := by unfold k1_pay56; rw [q4_lo2 v1 s, q4_hi2 v1 s]; exact (t_mid v1 (tstep v1 s)).symm
theorem q4_sel2 : k1_pay57 v1 s.lo s.hi s.mid s.cnt 100#32 = sel (tstep v1 (tstep v1 s)) := by unfold k1_pay57; rw [q4_mid2 v1 s]; exact sel_eq v1 (tstep v1 s)
theorem q4_lo3 : k1_pay58 v1 s.lo s.hi s.mid s.cnt 100#32 = (tstep v1 (tstep v1 (tstep v1 s))).lo := by unfold k1_pay58; rw [q4_sel2 v1 s, q4_mid2 v1 s, q4_lo2 v1 s]; exact (t_lo v1 (tstep v1 (tstep v1 s))).symm
theorem q4_hi3 : k1_pay59 v1 s.lo s.hi s.mid s.cnt 100#32 = (tstep v1 (tstep v1 (tstep v1 s))).hi := by unfold k1_pay59; rw [q4_sel2 v1 s, q4_mid2 v1 s, q4_hi2 v1 s]; exact (t_hi v1 (tstep v1 (tstep v1 s))).symm
theorem q4_mid3 : k1_pay60 v1 s.lo s.hi s.mid s.cnt 100#32 = (tstep v1 (tstep v1 (tstep v1 s))).mid := by unfold k1_pay60; rw [q4_lo3 v1 s, q4_hi3 v1 s]; exact (t_mid v1 (tstep v1 (tstep v1 s))).symm
theorem q4_sel3 : k1_pay61 v1 s.lo s.hi s.mid s.cnt 100#32 = sel (tstep v1 (tstep v1 (tstep v1 s))) := by unfold k1_pay61; rw [q4_mid3 v1 s]; exact sel_eq v1 (tstep v1 (tstep v1 s))
theorem q4_lo4 : k1_pay62 v1 s.lo s.hi s.mid s.cnt 100#32 = (tstep v1 (tstep v1 (tstep v1 (tstep v1 s)))).lo := by unfold k1_pay62; rw [q4_sel3 v1 s, q4_mid3 v1 s, q4_lo3 v1 s]; exact (t_lo v1 (tstep v1 (tstep v1 (tstep v1 s)))).symm
theorem q4_hi4 : k1_pay63 v1 s.lo s.hi s.mid s.cnt 100#32 = (tstep v1 (tstep v1 (tstep v1 (tstep v1 s)))).hi := by unfold k1_pay63; rw [q4_sel3 v1 s, q4_mid3 v1 s, q4_hi3 v1 s]; exact (t_hi v1 (tstep v1 (tstep v1 (tstep v1 s)))).symm
theorem q4_mid4 : k1_pay64 v1 s.lo s.hi s.mid s.cnt 100#32 = (tstep v1 (tstep v1 (tstep v1 (tstep v1 s)))).mid := by unfold k1_pay64; rw [q4_lo4 v1 s, q4_hi4 v1 s]; exact (t_mid v1 (tstep v1 (tstep v1 (tstep v1 s)))).symm
theorem q4_cnt : k1_pay65 v1 s.lo s.hi s.mid s.cnt 100#32 = (tstep v1 (tstep v1 (tstep v1 (tstep v1 s)))).cnt := by unfold k1_pay65; rw [q4_mid4 v1 s]; exact (cnt_eq v1 (tstep v1 (tstep v1 (tstep v1 s)))).symm
theorem part4_eq : k1_part4 (F := F) i m1 h1 m2 h2 v1 s.lo s.hi s.mid s.cnt 100#32 = .ret (fin4 (tsteps v1 4 s)) := by
  rw [k1_part4_eq_skeleton]; unfold k1_part4_skel
  rw [q4_lo4 v1 s, q4_hi4 v1 s, q4_mid4 v1 s, q4_cnt v1 s]; rfl
theorem q5_lo1 : k1_pay67 s.lo s.mid s.cnt 100#32 = (tstep v1 s).lo := by unfold k1_pay67; rfl
theorem q5_hi1 : k1_pay68 s.hi s.mid s.cnt 100#32 = (tstep v1 s).hi := by unfold k1_pay68; rfl
theorem q5_mid1 : k1_pay69 s.lo s.hi s.mid s.cnt 100#32 = (tstep v1 s).mid := by unfold k1_pay69; rw [q5_lo1 v1 s, q5_hi1 v1 s]; exact (t_mid v1 s).symm
theorem q5_sel1 : k1_pay70 v1 s.lo s.hi s.mid s.cnt 100#32 = sel (tstep v1 s) := by unfold k1_pay70; rw [q5_mid1 v1 s]; exact sel_eq v1 s
theorem q5_lo2 : k1_pay71 v1 s.lo s.hi s.mid s.cnt 100#32 = (tstep v1 (tstep v1 s)).lo := by unfold k1_pay71; rw [q5_sel1 v1 s, q5_mid1 v1 s, q5_lo1 v1 s]; exact (t_lo v1 (tstep v1 s)).symm
theorem q5_hi2 : k1_pay72 v1 s.lo s.hi s.mid s.cnt 100#32 = (tstep v1 (tstep v1 s)).hi := by unfold k1_pay72; rw [q5_sel1 v1 s, q5_mid1 v1 s, q5_hi1 v1 s]; exact (t_hi v1 (tstep v1 s)).symm
theorem q5_mid2 : k1_pay73 v1 s.lo s.hi s.mid s.cnt 100#32 = (tstep v1 (tstep v1 s)).mid := by unfold k1_pay73; rw [q5_lo2 v1 s, q5_hi2 v1 s]; exact (t_mid v1 (tstep v1 s)).symm
theorem q5_sel2 : k1_pay74 v1 s.lo s.hi s.mid s.cnt 100#32 = sel (tstep v1 (tstep v1 s)) := by unfold k1_pay74; rw [q5_mid2 v1 s]; exact sel_eq v1 (tstep v1 s)
theorem q5_lo3 : k1_pay75 v1 s.lo s.hi s.mid s.cnt 100#32 = (tstep v1 (tstep v1 (tstep v1 s))).lo := by unfold k1_pay75; rw [q5_sel2 v1 s, q5_mid2 v1 s, q5_lo2 v1 s]; exact (t_lo v1 (tstep v1 (tstep v1 s))).symm
theorem q5_hi3 : k1_pay76 v1 s.lo s.hi s.mid s.cnt 100#32 = (tstep v1 (tstep v1 (tstep v1 s))).hi := by unfold k1_pay76; rw [q5_sel2 v1 s, q5_mid2 v1 s, q5_hi2 v1 s]; exact (t_hi v1 (tstep v1 (tstep v1 s))).symm
theorem q5_mid3 : k1_pay77 v1 s.lo s.hi s.mid s.cnt 100#32 = (tstep v1 (tstep v1 (tstep v1 s))).mid := by unfold k1_pay77; rw [q5_lo3 v1 s, q5_hi3 v1 s]; exact (t_mid v1 (tstep v1 (tstep v1 s))).symm
theorem q5_sel3 : k1_pay78 v1 s.lo s.hi s.mid s.cnt 100#32 = sel (tstep v1 (tstep v1 (tstep v1 s))) := by unfold k1_pay78; rw [q5_mid3 v1 s]; exact sel_eq v1 (tstep v1 (tstep v1 s))
theorem q5_lo4 : k1_pay79 v1 s.lo s.hi s.mid s.cnt 100#32 = (tstep v1 (tstep v1 (tstep v1 (tstep v1 s)))).lo := by unfold k1_pay79; rw [q5_sel3 v1 s, q5_mid3 v1 s, q5_lo3 v1 s]; exact (t_lo v1 (tstep v1 (tstep v1 (tstep v1 s)))).symm
theorem q5_hi4 : k1_pay80 v1 s.lo s.hi s.mid s.cnt 100#32 = (tstep v1 (tstep v1 (tstep v1 (tstep v1 s)))).hi := by unfold k1_pay80; rw [q5_sel3 v1 s, q5_mid3 v1 s, q5_hi3 v1 s]; exact (t_hi v1 (tstep v1 (tstep v1 (tstep v1 s)))).symm
theorem q5_mid4 : k1_pay81 v1 s.lo s.hi s.mid s.cnt 100#32 = (tstep v1 (tstep v1 (tstep v1 (tstep v1 s)))).mid := by unfold k1_pay81; rw [q5_lo4 v1 s, q5_hi4 v1 s]; exact (t_mid v1 (tstep v1 (tstep v1 (tstep v1 s)))).symm
theorem q5_cnt : k1_pay82 v1 s.lo s.hi s.mid s.cnt 100#32 = (tstep v1 (tstep v1 (tstep v1 (tstep v1 s)))).cnt := by unfold k1_pay82; rw [q5_mid4 v1 s]; exact (cnt_eq v1 (tstep v1 (tstep v1 (tstep v1 s)))).symm
theorem part5_eq : k1_part5 (F := F) i m1 h1 m2 h2 v1 s.lo s.hi s.mid s.cnt 100#32 = .ret (fin4 (tsteps v1 4 s)) := by
  rw [k1_part5_eq_skeleton]; unfold k1_part5_skel
  rw [q5_lo4 v1 s, q5_hi4 v1 s, q5_mid4 v1 s, q5_cnt v1 s]; rfl
theorem q6_lo1 : k1_pay84 s.lo s.mid s.cnt 100#32 = (tstep v1 s).lo := by unfold k1_pay84; rfl
theorem q6_hi1 : k1_pay85 s.hi s.mid s.cnt 100#32 = (tstep v1 s).hi := by unfold k1_pay85; rfl
theorem q6_mid1 : k1_pay86 s.lo s.hi s.mid s.cnt 100#32 = (tstep v1 s).mid := by unfold k1_pay86; rw [q6_lo1 v1 s, q6_hi1 v1 s]; exact (t_mid v1 s).symm
theorem q6_sel1 : k1_pay87 v1 s.lo s.hi s.mid s.cnt 100#32 = sel (tstep v1 s) := by unfold k1_pay87; rw [q6_mid1 v1 s]; exact sel_eq v1 s
theorem q6_lo2 : k1_pay88 v1 s.lo s.hi s.mid s.cnt 100#32 = (tstep v1 (tstep v1 s)).lo := by unfold k1_pay88; rw [q6_sel1 v1 s, q6_mid1 v1 s, q6_lo1 v1 s]; exact (t_lo v1 (tstep v1 s)).symm
theorem q6_hi2 : k1_pay89 v1 s.lo s.hi s.mid s.cnt 100#32 = (tstep v1 (tstep v1 s)).hi := by unfold k1_pay89; rw [q6_sel1 v1 s, q6_mid1 v1 s, q6_hi1 v1 s]; exact (t_hi v1 (tstep v1 s)).symm
theorem q6_mid2 : k1_pay90 v1 s.lo s.hi s.mid s.cnt 100#32 = (tstep v1 (tstep v1 s)).mid := by unfold k1_pay90; rw [q6_lo2 v1 s, q6_hi2 v1 s]; exact (t_mid v1 (tstep v1 s)).symm
theorem q6_sel2 : k1_pay91 v1 s.lo s.hi s.mid s.cnt 100#32 = sel (tstep v1 (tstep v1 s)) := by unfold k1_pay91; rw [q6_mid2 v1 s]; exact sel_eq v1 (tstep v1 s)
theorem q6_lo3 : k1_pay92 v1 s.lo s.hi s.mid s.cnt 100#32 = (tstep v1 (tstep v1 (tstep v1 s))).lo := by unfold k1_pay92; rw [q6_sel2 v1 s, q6_mid2 v1 s, q6_lo2 v1 s]; exact (t_lo v1 (tstep v1 (tstep v1 s))).symm
theorem q6_hi3 : k1_pay93 v1 s.lo s.hi s.mid s.cnt 100#32 = (tstep v1 (tstep v1 (tstep v1 s))).hi := by unfold k1_pay93; rw [q6_sel2 v1 s, q6_mid2 v1 s, q6_hi2 v1 s]; exact (t_hi v1 (tstep v1 (tstep v1 s))).symm
theorem q6_mid3 : k1_pay94 v1 s.lo s.hi s.mid s.cnt 100#32 = (tstep v1 (tstep v1 (tstep v1 s))).mid := by unfold k1_pay94; rw [q6_lo3 v1 s, q6_hi3 v1 s]; exact (t_mid v1 (tstep v1 (tstep v1 s))).symm
theorem q6_sel3 : k1_pay95 v1 s.lo s.hi s.mid s.cnt 100#32 = sel (tstep v1 (tstep v1 (tstep v1 s))) := by unfold k1_pay95; rw [q6_mid3 v1 s]; exact sel_eq v1 (tstep v1 (tstep v1 s))
theorem q6_lo4 : k1_pay96 v1 s.lo s.hi s.mid s.cnt 100#32 = (tstep v1 (tstep v1 (tstep v1 (tstep v1 s)))).lo := by unfold k1_pay96; rw [q6_sel3 v1 s, q6_mid3 v1 s, q6_lo3 v1 s]; exact (t_lo v1 (tstep v1 (tstep v1 (tstep v1 s)))).symm
theorem q6_hi4 : k1_pay97 v1 s.lo s.hi s.mid s.cnt 100#32 = (tstep v1 (tstep v1 (tstep v1 (tstep v1 s)))).hi := by unfold k1_pay97; rw [q6_sel3 v1 s, q6_mid3 v1 s, q6_hi3 v1 s]; exact (t_hi v1 (tstep v1 (tstep v1 (tstep v1 s)))).symm
theorem q6_mid4 : k1_pay98 v1 s.lo s.hi s.mid s.cnt 100#32 = (tstep v1 (tstep v1 (tstep v1 (tstep v1 s)))).mid := by unfold k1_pay98; rw [q6_lo4 v1 s, q6_hi4 v1 s]; exact (t_mid v1 (tstep v1 (tstep v1 (tstep v1 s)))).symm
theorem q6_cnt : k1_pay99 v1 s.lo s.hi s.mid s.cnt 100#32 = (tstep v1 (tstep v1 (tstep v1 (tstep v1 s)))).cnt := by unfold k1_pay99; rw [q6_mid4 v1 s]; exact (cnt_eq v1 (tstep v1 (tstep v1 (tstep v1 s)))).symm
theorem part6_eq : k1_part6 (F := F) i m1 h1 m2 h2 v1 s.lo s.hi s.mid s.cnt 100#32 = .ret (fin4 (tsteps v1 4 s)) := by
  rw [k1_part6_eq_skeleton]; unfold k1_part6_skel
  rw [q6_lo4 v1 s, q6_hi4 v1 s, q6_mid4 v1 s, q6_cnt v1 s]; rfl
theorem q7_lo1 : k1_pay101 s.lo s.mid s.cnt 100#32 = (tstep v1 s).lo := by unfold k1_pay101; rfl
theorem q7_hi1 : k1_pay102 s.hi s.mid s.cnt 100#32 = (tstep v1 s).hi := by unfold k1_pay102; rfl
theorem q7_mid1 : k1_pay103 s.lo s.hi s.mid s.cnt 100#32 = (tstep v1 s).mid := by unfold k1_pay103; rw [q7_lo1 v1 s, q7_hi1 v1 s]; exact (t_mid v1 s).symm
theorem q7_sel1 : k1_pay104 v1 s.lo s.hi s.mid s.cnt 100#32 = sel (tstep v1 s) := by unfold k1_pay104; rw [q7_mid1 v1 s]; exact sel_eq v1 s
theorem q7_lo2 : k1_pay105 v1 s.lo s.hi s.mid s.cnt 100#32 = (tstep v1 (tstep v1 s)).lo := by unfold k1_pay105; rw [q7_sel1 v1 s, q7_mid1 v1 s, q7_lo1 v1 s]; exact (t_lo v1 (tstep v1 s)).symm
theorem q7_hi2 : k1_pay106 v1 s.lo s.hi s.mid s.cnt 100#32 = (tstep v1 (tstep v1 s)).hi := by unfold k1_pay106; rw [q7_sel1 v1 s, q7_mid1 v1 s, q7_hi1 v1 s]; exact (t_hi v1 (tstep v1 s)).symm
theorem q7_mid2 : k1_pay107 v1 s.lo s.hi s.mid s.cnt 100#32 = (tstep v1 (tstep v1 s)).mid := by unfold k1_pay107; rw [q7_lo2 v1 s, q7_hi2 v1 s]; exact (t_mid v1 (tstep v1 s)).symm
theorem q7_sel2 : k1_pay108 v1 s.lo s.hi s.mid s.cnt 100#32 = sel (tstep v1 (tstep v1 s)) := by unfold k1_pay108; rw [q7_mid2 v1 s]; exact sel_eq v1 (tstep v1 s)
theorem q7_lo3 : k1_pay109 v1 s.lo s.hi s.mid s.cnt 100#32 = (tstep v1 (tstep v1 (tstep v1 s))).lo := by unfold k1_pay109; rw [q7_sel2 v1 s, q7_mid2 v1 s, q7_lo2 v1 s]; exact (t_lo v1 (tstep v1 (tstep v1 s))).symm
theorem q7_hi3 : k1_pay110 v1 s.lo s.hi s.mid s.cnt 100#32 = (tstep v1 (tstep v1 (tstep v1 s))).hi := by unfold k1_pay110; rw [q7_sel2 v1 s, q7_mid2 v1 s, q7_hi2 v1 s]; exact (t_hi v1 (tstep v1 (tstep v1 s))).symm
theorem q7_mid3 : k1_pay111 v1 s.lo s.hi s.mid s.cnt 100#32 = (tstep v1 (tstep v1 (tstep v1 s))).mid := by unfold k1_pay111; rw [q7_lo3 v1 s, q7_hi3 v1 s]; exact (t_mid v1 (tstep v1 (tstep v1 s))).symm
theorem q7_sel3 : k1_pay112 v1 s.lo s.hi s.mid s.cnt 100#32 = sel (tstep v1 (tstep v1 (tstep v1 s))) := by unfold k1_pay112; rw [q7_mid3 v1 s]; exact sel_eq v1 (tstep v1 (tstep v1 s))
theorem q7_lo4 : k1_pay113 v1 s.lo s.hi s.mid s.cnt 100#32 = (tstep v1 (tstep v1 (tstep v1 (tstep v1 s)))).lo := by unfold k1_pay113; rw [q7_sel3 v1 s, q7_mid3 v1 s, q7_lo3 v1 s]; exact (t_lo v1 (tstep v1 (tstep v1 (tstep v1 s)))).symm
theorem q7_hi4 : k1_pay114 v1 s.lo s.hi s.mid s.cnt 100#32 = (tstep v1 (tstep v1 (tstep v1 (tstep v1 s)))).hi := by unfold k1_pay114; rw [q7_sel3 v1 s, q7_mid3 v1 s, q7_hi3 v1 s]; exact (t_hi v1 (tstep v1 (tstep v1 (tstep v1 s)))).symm
theorem q7_mid4 : k1_pay115 v1 s.lo s.hi s.mid s.cnt 100#32 = (tstep v1 (tstep v1 (tstep v1 (tstep v1 s)))).mid := by unfold k1_pay115; rw [q7_lo4 v1 s, q7_hi4 v1 s]; exact (t_mid v1 (tstep v1 (tstep v1 (tstep v1 s)))).symm
theorem q7_cnt : k1_pay116 v1 s.lo s.hi s.mid s.cnt 100#32 = (tstep v1 (tstep v1 (tstep v1 (tstep v1 s)))).cnt := by unfold k1_pay116; rw [q7_mid4 v1 s]; exact (cnt_eq v1 (tstep v1 (tstep v1 (tstep v1 s)))).symm
theorem part7_eq : k1_part7 (F := F) i m1 h1 m2 h2 v1 s.lo s.hi s.mid s.cnt 100#32 = .ret (fin4 (tsteps v1 4 s)) := by
  rw [k1_part7_eq_skeleton]; unfold k1_part7_skel
  rw [q7_lo4 v1 s, q7_hi4 v1 s, q7_mid4 v1 s, q7_cnt v1 s]; rfl
theorem q8_lo1 : k1_pay118 s.lo s.mid s.cnt 100#32 = (tstep v1 s).lo := by unfold k1_pay118; rfl
theorem q8_hi1 : k1_pay119 s.hi s.mid s.cnt 100#32 = (tstep v1 s).hi := by unfold k1_pay119; rfl
theorem q8_mid1 : k1_pay120 s.lo s.hi s.mid s.cnt 100#32 = (tstep v1 s).mid := by unfold k1_pay120; rw [q8_lo1 v1 s, q8_hi1 v1 s]; exact (t_mid v1 s).symm
theorem q8_sel1 : k1_pay121 v1 s.lo s.hi s.mid s.cnt 100#32 = sel (tstep v1 s) := by unfold k1_pay121; rw [q8_mid1 v1 s]; exact sel_eq v1 s
theorem q8_lo2 : k1_pay122 v1 s.lo s.hi s.mid s.cnt 100#32 = (tstep v1 (tstep v1 s)).lo := by unfold k1_pay122; rw [q8_sel1 v1 s, q8_mid1 v1 s, q8_lo1 v1 s]; exact (t_lo v1 (tstep v1 s)).symm
theorem q8_hi2 : k1_pay123 v1 s.lo s.hi s.mid s.cnt 100#32 = (tstep v1 (tstep v1 s)).hi := by unfold k1_pay123; rw [q8_sel1 v1 s, q8_mid1 v1 s, q8_hi1 v1 s]; exact (t_hi v1 (tstep v1 s)).symm
theorem q8_mid2 : k1_pay124 v1 s.lo s.hi s.mid s.cnt 100#32 = (tstep v1 (tstep v1 s)).mid := by unfold k1_pay124; rw [q8_lo2 v1 s, q8_hi2 v1 s]; exact (t_mid v1 (tstep v1 s)).symm
theorem q8_sel2 : k1_pay125 v1 s.lo s.hi s.mid s.cnt 100#32 = sel (tstep v1 (tstep v1 s)) := by unfold k1_pay125; rw [q8_mid2 v1 s]; exact sel_eq v1 (tstep v1 s)
theorem q8_lo3 : k1_pay126 v1 s.lo s.hi s.mid s.cnt 100#32 = (tstep v1 (tstep v1 (tstep v1 s))).lo := by unfold k1_pay126; rw [q8_sel2 v1 s, q8_mid2 v1 s, q8_lo2 v1 s]; exact (t_lo v1 (tstep v1 (tstep v1 s))).symm
theorem q8_hi3 : k1_pay127 v1 s.lo s.hi s.mid s.cnt 100#32 = (tstep v1 (tstep v1 (tstep v1 s))).hi := by unfold k1_pay127; rw [q8_sel2 v1 s, q8_mid2 v1 s, q8_hi2 v1 s]; exact (t_hi v1 (tstep v1 (tstep v1 s))).symm
theorem q8_mid3 : k1_pay128 v1 s.lo s.hi s.mid s.cnt 100#32 = (tstep v1 (tstep v1 (tstep v1 s))).mid := by unfold k1_pay128; rw [q8_lo3 v1 s, q8_hi3 v1 s]; exact (t_mid v1 (tstep v1 (tstep v1 s))).symm
theorem q8_sel3 : k1_pay129 v1 s.lo s.hi s.mid s.cnt 100#32 = sel (tstep v1 (tstep v1 (tstep v1 s))) := by unfold k1_pay129; rw [q8_mid3 v1 s]; exact sel_eq v1 (tstep v1 (tstep v1 s))
theorem q8_lo4 : k1_pay130 v1 s.lo s.hi s.mid s.cnt 100#32 = (tstep v1 (tstep v1 (tstep v1 (tstep v1 s)))).lo := by unfold k1_pay130; rw [q8_sel3 v1 s, q8_mid3 v1 s, q8_lo3 v1 s]; exact (t_lo v1 (tstep v1 (tstep v1 (tstep v1 s)))).symm
theorem q8_hi4 : k1_pay131 v1 s.lo s.hi s.mid s.cnt 100#32 = (tstep v1 (tstep v1 (tstep v1 (tstep v1 s)))).hi := by unfold k1_pay131; rw [q8_sel3 v1 s, q8_mid3 v1 s, q8_hi3 v1 s]; exact (t_hi v1 (tstep v1 (tstep v1 (tstep v1 s)))).symm
theorem q8_mid4 : k1_pay132 v1 s.lo s.hi s.mid s.cnt 100#32 = (tstep v1 (tstep v1 (tstep v1 (tstep v1 s)))).mid := by unfold k1_pay132; rw [q8_lo4 v1 s, q8_hi4 v1 s]; exact (t_mid v1 (tstep v1 (tstep v1 (tstep v1 s)))).symm
theorem q8_cnt : k1_pay133 v1 s.lo s.hi s.mid s.cnt 100#32 = (tstep v1 (tstep v1 (tstep v1 (tstep v1 s)))).cnt := by unfold k1_pay133; rw [q8_mid4 v1 s]; exact (cnt_eq v1 (tstep v1 (tstep v1 (tstep v1 s)))).symm
theorem part8_eq : k1_part8 (F := F) i m1 h1 m2 h2 v1 s.lo s.hi s.mid s.cnt 100#32 = .ret (fin4 (tsteps v1 4 s)) := by
  rw [k1_part8_eq_skeleton]; unfold k1_part8_skel
  rw [q8_lo4 v1 s, q8_hi4 v1 s, q8_mid4 v1 s, q8_cnt v1 s]; rfl
theorem pay1_eq' : k1_pay1 (F := F) v1 s.lo s.hi s.mid s.cnt 100#32 = (tsteps v1 4 s).lo := by
  refine Eq.trans ?_ (q2_lo4 v1 s)
  unfold k1_pay1 k1_pay28 k1_pay27 k1_pay26 k1_pay25 k1_pay24 k1_pay23 k1_pay22 k1_pay21 k1_pay20 k1_pay19 k1_pay18 k1_pay17 k1_pay16 k1_pay15
  rfl
variable (v0 : Vec F S512x784 .f32)
theorem r_mid0 : k1_pay5 v0 = (tinit v0).mid := by unfold k1_pay5; rfl
theorem r_sel0 : k1_pay6 v0 = sel (tinit v0) := by unfold k1_pay6; rw [r_mid0]; unfold sel tinit tmk tcnt; dsimp only
theorem t0_lo : (tinit v0).lo = k1_pay3 v0 := by unfold tinit tmk; dsimp only
theorem r_lo1 : k1_pay7 v0 = (tstep (k1_pay2 v0) (tinit v0)).lo := by unfold k1_pay7; rw [r_sel0, r_mid0, ← t0_lo]; exact (t_lo (k1_pay2 v0) (tinit v0)).symm
theorem r_hi1 : k1_pay8 v0 = (tstep (k1_pay2 v0) (tinit v0)).hi := by unfold k1_pay8; rw [r_sel0, r_mid0]; exact (t_hi (k1_pay2 v0) (tinit v0)).symm
theorem r_mid1 : k1_pay9 v0 = (tstep (k1_pay2 v0) (tinit v0)).mid := by unfold k1_pay9; rw [r_lo1, r_hi1]; exact (t_mid _ _).symm
theorem r_sel1 : k1_pay10 v0 = sel (tstep (k1_pay2 v0) (tinit v0)) := by unfold k1_pay10; rw [r_mid1]; exact sel_eq _ _
theorem r_lo2 : k1_pay11 v0 = (tstep (k1_pay2 v0) (tstep (k1_pay2 v0) (tinit v0))).lo := by unfold k1_pay11; rw [r_sel1, r_mid1, r_lo1]; exact (t_lo _ _).symm
theorem r_hi2 : k1_pay12 v0 = (tstep (k1_pay2 v0) (tstep (k1_pay2 v0) (tinit v0))).hi := by unfold k1_pay12; rw [r_sel1, r_mid1, r_hi1]; exact (t_hi _ _).symm
theorem r_mid2 : k1_pay13 v0 = (tstep (k1_pay2 v0) (tstep (k1_pay2 v0) (tinit v0))).mid := by unfold k1_pay13; rw [r_lo2, r_hi2]; exact (t_mid _ _).symm
theorem r_cnt2 : k1_pay14 v0 = (tstep (k1_pay2 v0) (tstep (k1_pay2 v0) (tinit v0))).cnt := by unfold k1_pay14; rw [r_mid2]; exact (cnt_eq _ _).symm

theorem part1_eq : k1_part1 (F := F) i m1 h1 m2 h2
    = .op (.load m1 (Rect.unit (s := S512x784) ![0, 0] S512x784.size inb_S512x784_S512x784_0_0).toLoadRect (View.loadsAt_vmem h_S512x784)) fun v0 =>
      .ret (⟨k1_pay2 v0, fin4 (tsteps (k1_pay2 v0) 2 (tinit v0))⟩ : Σ' (_ : FVec F S512x784 .f32) (_ : FVec F S512 .f32) (_ : FVec F S512 .f32) (_ : FVec F S512 .f32) (_ : IVec S512 32), BitVec 32) := by
  rw [k1_part1_eq_skeleton]; unfold k1_part1_skel
  simp only [Prog.lift, Prog.bind_op, Prog.bind_ret, r_lo2, r_hi2, r_mid2, r_cnt2]
  rfl

theorem outT_eq : outT v0 = (tsteps (k1_pay2 v0) 4 (tsteps (k1_pay2 v0) 4 (tsteps (k1_pay2 v0) 4 (tsteps (k1_pay2 v0) 4 (tsteps (k1_pay2 v0) 4 (tsteps (k1_pay2 v0) 4 (tsteps (k1_pay2 v0) 4
    (tsteps (k1_pay2 v0) 4 (tsteps (k1_pay2 v0) 2 (tinit v0)))))))))).lo := by
  rw [tsteps_add, tsteps_add, tsteps_add, tsteps_add, tsteps_add, tsteps_add, tsteps_add, tsteps_add]; unfold outT; rfl

abbrev S4 (F : FTy → Type) : Type := Σ' (_ : FVec F S512 .f32) (_ : FVec F S512 .f32) (_ : FVec F S512 .f32) (_ : IVec S512 32), BitVec 32
abbrev S5 (F : FTy → Type) : Type := Σ' (_ : FVec F S512x784 .f32) (_ : FVec F S512 .f32) (_ : FVec F S512 .f32) (_ : FVec F S512 .f32) (_ : IVec S512 32), BitVec 32
abbrev TP (F : FTy → Type) (α : Type) : Type 1 := Prog (TpuEff nD τ sig (Elt F) Λ₀ .tc) α

/-- Eight pieces in turn, each of which returns what four halvings make of what it is given. -/
theorem run_chain (p1 : TP F (S5 F)) (p2 p3 p4 p5 p6 p7 p8 : FVec F S512x784 .f32 → FVec F S512 .f32 → FVec F S512 .f32 → FVec F S512 .f32 → IVec S512 32 → BitVec 32 → TP F (S4 F))
    (g : FVec F S512x784 .f32 → FVec F S512 .f32 → FVec F S512 .f32 → FVec F S512 .f32 → IVec S512 32 → BitVec 32 → TP F PUnit)
    (l : TP F (Vec F S512x784 .f32)) (v : Vec F S512x784 .f32 → FVec F S512x784 .f32) (S0 : Vec F S512x784 .f32 → TS F) (G : FVec F S512x784 .f32 → TS F → TS F)
    (h1 : p1 = l.bind fun v0 => .ret ⟨v v0, fin4 (S0 v0)⟩)
    (h2 : ∀ v1 s, p2 v1 s.lo s.hi s.mid s.cnt 100#32 = .ret (fin4 (G v1 s)))
    (h3 : ∀ v1 s, p3 v1 s.lo s.hi s.mid s.cnt 100#32 = .ret (fin4 (G v1 s)))
    (h4 : ∀ v1 s, p4 v1 s.lo s.hi s.mid s.cnt 100#32 = .ret (fin4 (G v1 s)))
    (h5 : ∀ v1 s, p5 v1 s.lo s.hi s.mid s.cnt 100#32 = .ret (fin4 (G v1 s)))
    (h6 : ∀ v1 s, p6 v1 s.lo s.hi s.mid s.cnt 100#32 = .ret (fin4 (G v1 s)))
    (h7 : ∀ v1 s, p7 v1 s.lo s.hi s.mid s.cnt 100#32 = .ret (fin4 (G v1 s)))
    (h8 : ∀ v1 s, p8 v1 s.lo s.hi s.mid s.cnt 100#32 = .ret (fin4 (G v1 s))) :
    (do
      let ⟨v1, a1, b1, c1, d1, e1⟩ : S5 F ← p1
      let ⟨a2, b2, c2, d2, e2⟩ : S4 F ← p2 v1 a1 b1 c1 d1 e1
      let ⟨a3, b3, c3, d3, e3⟩ : S4 F ← p3 v1 a2 b2 c2 d2 e2
      let ⟨a4, b4, c4, d4, e4⟩ : S4 F ← p4 v1 a3 b3 c3 d3 e3
      let ⟨a5, b5, c5, d5, e5⟩ : S4 F ← p5 v1 a4 b4 c4 d4 e4
      let ⟨a6, b6, c6, d6, e6⟩ : S4 F ← p6 v1 a5 b5 c5 d5 e5
      let ⟨a7, b7, c7, d7, e7⟩ : S4 F ← p7 v1 a6 b6 c6 d6 e6
      let ⟨a8, b8, c8, d8, e8⟩ : S4 F ← p8 v1 a7 b7 c7 d7 e7
      g v1 a8 b8 c8 d8 e8)
      = l.bind fun v0 => g (v v0) (G (v v0) (G (v v0) (G (v v0) (G (v v0) (G (v v0) (G (v v0) (G (v v0) (S0 v0)))))))).lo (G (v v0) (G (v v0) (G (v v0) (G (v v0) (G (v v0) (G (v v0) (G (v v0) (S0 v0)))))))).hi
        (G (v v0) (G (v v0) (G (v v0) (G (v v0) (G (v v0) (G (v v0) (G (v v0) (S0 v0)))))))).mid (G (v v0) (G (v v0) (G (v v0) (G (v v0) (G (v v0) (G (v v0) (G (v v0) (S0 v0)))))))).cnt 100#32 := by
  subst h1
  refine (Prog.bind_assoc l _ _).trans ?_
  refine congrArg (Prog.bind l) (funext fun v0 => ?_)
  refine (congrArg (Prog.bind · _) (h2 (v v0) _)).trans ?_
  refine (congrArg (Prog.bind · _) (h3 (v v0) _)).trans ?_
  refine (congrArg (Prog.bind · _) (h4 (v v0) _)).trans ?_
  refine (congrArg (Prog.bind · _) (h5 (v v0) _)).trans ?_
  refine (congrArg (Prog.bind · _) (h6 (v v0) _)).trans ?_
  refine (congrArg (Prog.bind · _) (h7 (v v0) _)).trans ?_
  refine (congrArg (Prog.bind · _) (h8 (v v0) _)).trans ?_
  rfl

theorem tau_skel : cc1__tau_body (F := F) i m1 h1 m2 h2
    = .op (.load m1 (Rect.unit (s := S512x784) ![0, 0] S512x784.size inb_S512x784_S512x784_0_0).toLoadRect (View.loadsAt_vmem h_S512x784)) fun v0 =>
      .op (.load m2 (Rect.unit (s := S512) ![0] S512.size inb_S512_S512_0).toLoadRect (View.loadsAt_vmem h_S512)) fun _ =>
      .op (.store m2 (Rect.unit (s := S512) ![0] S512.size inb_S512_S512_0) (outT v0) Finset.univ (View.stores_vmem_bits_univ h_S512 rfl) (.inl rfl)) fun _ => pure ⟨⟩ := by
  rw [cc1__tau_body_eq_skeleton]
  unfold cc1__tau_body_skel
  refine (run_chain (F := F) _ (k1_part2 i m1 h1 m2 h2) (k1_part3 i m1 h1 m2 h2) (k1_part4 i m1 h1 m2 h2) (k1_part5 i m1 h1 m2 h2) (k1_part6 i m1 h1 m2 h2) (k1_part7 i m1 h1 m2 h2) (k1_part8 i m1 h1 m2 h2)
    (fun v1 a b c d e => .op (.load m2 (Rect.unit (s := S512) ![0] S512.size inb_S512_S512_0).toLoadRect (View.loadsAt_vmem h_S512)) fun _ =>
      .op (.store m2 (Rect.unit (s := S512) ![0] S512.size inb_S512_S512_0) (k1_pay1 v1 a b c d e) Finset.univ (View.stores_vmem_bits_univ h_S512 rfl) (.inl rfl)) fun _ => pure ⟨⟩)
    (Prog.lift (.load m1 (Rect.unit (s := S512x784) ![0, 0] S512x784.size inb_S512x784_S512x784_0_0).toLoadRect (View.loadsAt_vmem h_S512x784)))
    k1_pay2 (fun v0 => tsteps (k1_pay2 v0) 2 (tinit v0)) (fun v1 => tsteps v1 4) (part1_eq i m1 h1 m2 h2)
    (part2_eq i m1 h1 m2 h2) (part3_eq i m1 h1 m2 h2) (part4_eq i m1 h1 m2 h2) (part5_eq i m1 h1 m2 h2) (part6_eq i m1 h1 m2 h2) (part7_eq i m1 h1 m2 h2) (part8_eq i m1 h1 m2 h2)).trans ?_
  refine congrArg (Prog.op _) (funext fun v0 => ?_)
  simp only [Prog.bind_ret, pay1_eq', ← outT_eq]
  rfl

end parts

theorem z1 : (![0] : Fin 1 → ℕ) = fun _ => 0 := by funext a; fin_cases a <;> rfl

theorem tau_wp (c : Dev nD) (i : grid1.Coords) (m1 : Memref sig .tc .vmem S512x784 .f32) (h1 : m1.IsWhole) (m2 : Memref sig .tc .vmem S512 .f32) (h2 : m2.IsWhole)
    (x1 : Vec F S512x784 .f32) (x2 : Vec F S512 .f32) (R : sProp 𝕄) :
    iprop(owns (T c) m1 fullShare x1 ∗ owns (T c) m2 fullShare x2 ∗ R)
      ⊢ wp frame (wpE (defs₀ (F := F)) 𝒱₀ (T c) none) Set.univ (cc1__tau_body (F := F) i m1 h1 m2 h2)
          fun _ => iprop(owns (T c) m1 fullShare x1 ∗ owns (T c) m2 fullShare (outT x1) ∗ R) := by
  rw [tau_skel]
  simp only [owns_own]
  have l1 : (fun y => x1 ((Rect.unit (s := S512x784) ![0, 0] S512x784.size inb_S512x784_S512x784_0_0).emb y)) = x1 := funext fun y => congrArg x1 (unit_emb zz _ y)
  refine own_load (Finset.subset_univ _) ?_
  rw [l1]
  refine (show _ ⊢ iprop(Own (T c) m2 Finset.univ x2 ∗ Own (T c) m1 Finset.univ x1 ∗ R) by
    iintro ⟨H1, H2, H⟩; isplitl [H2]; · iexact H2
    isplitl [H1]; · iexact H1
    iexact H).trans ?_
  refine own_load (Finset.subset_univ _) ?_
  refine own_store (Finset.subset_univ _) ?_
  rw [unit_upd (F := F) (e := .f32) z1]
  have hf : iprop(Own (T c) m2 Finset.univ (outT x1) ∗ Own (T c) m1 Finset.univ x1 ∗ R)
      ⊢ (iprop(Own (T c) m1 Finset.univ x1 ∗ Own (T c) m2 Finset.univ (outT x1) ∗ R) : sProp 𝕄) := by
    iintro ⟨H2, H1, H⟩; isplitl [H1]; · iexact H1
    isplitl [H2]; · iexact H2
    iexact H
  rw [show (pure ⟨⟩ : Prog (TpuEff nD τ sig (Elt F) Λ₀ .tc) PUnit) = .ret ⟨⟩ from rfl, wp_ret]
  exact hf.trans fupd_intro

end Cert.Sel
-- ==== Proof.Dats.lean ====
/-
  The three calls that run on the TensorCore: their windows, one grid point, and the arrays they leave.
-/
module

public import proofs.«01_k».proof.Proof.Launch
public import proofs.«01_k».proof.Proof.TopBody
public import proofs.«01_k».proof.Proof.ScoreBody
public import proofs.«01_k».proof.Proof.TauBody
public import Idealize.ShloMosaic.Lib.Pipeline.RegionsLoop

@[expose] public section

noncomputable section

namespace Cert.Sel

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation cellOf)
open Cert.KernelIdeal.Gen

local notation "𝕄" => MT nD τ sig (HIx 1) (Elt F) ℕ UU ℕ

section Region

variable (V : (c : Dev nD) → (b : Ref sig .tc) → Buf (Elt F) ((tL c).loc b))

/-- The blocks of the two operands at a point, and what the point leaves of the two results. -/
def blk0 (c : Dev nD) (t : Fin cfg3.N) : S512x256.Idx → F .f32 := ((cfg3.win 0).blk t).view.read (Elt F) (V c main_v6_0)
def blk1 (c : Dev nD) (t : Fin cfg3.N) : S512x256.Idx → BitVec 32 := ((cfg3.win 1).blk t).view.read (Elt F) (V c main_v6_1)

/-- The waits recorded so far lie below the second call. -/
def recd (c : Dev nD) : Set (SemLoc sig × HIx 1) := fun p => (K (F := F)).lev (tL c, p.1) p.2 ≤ 8 * (SparseCore.Cfg.Blocks.one 1).fst 1

def dat (c : Dev nD) : Dat τ (Elt F) (HIx 1) ℕ UU ℕ cfg3 c where
  A w := V c (Pipeline.arrRef spec3 w)
  after w t := match w with
    | ⟨0, _⟩ => blk0 V c t
    | ⟨1, _⟩ => blk1 V c t
    | ⟨2, _⟩ => outS (blk0 V c t) (blk1 V c t)
    | ⟨3, _⟩ => outI (blk0 V c t) (blk1 V c t)
  Φ _ := Pipeline.scopedRest (Ix := HIx 1) (Name := ℕ) (U := UU) (Lvl := ℕ) (Val := Elt F) spec3 c
  q _ := fullShare
  owed _ := 0
  recorded _ := recd (F := F) c

theorem before0 (c : Dev nD) (t : Fin cfg3.N) (d : (cfg3.win 0).block.Idx → Elt F (cfg3.win 0).elt) : (dat V c).before 0 t d = blk0 V c t := by
  unfold Dat.before; rw [if_pos (fetch3_0 t)]; rfl
theorem before1 (c : Dev nD) (t : Fin cfg3.N) (d : (cfg3.win 1).block.Idx → Elt F (cfg3.win 1).elt) : (dat V c).before 1 t d = blk1 V c t := by
  unfold Dat.before; rw [if_pos (fetch3_1 t)]; rfl

theorem body_obligation (c : Dev nD) : BodyObligation (dat V c) (defs₀ (F := F)) 𝒱₀ (none : HIx 1) Set.univ := fun t => by
  rw [bigSep_W3, bigSep_W3]
  rw [show (dat V c).Φ t.castSucc = (dat V c).Φ 0 from rfl, show (dat V c).Φ t.succ = (dat V c).Φ 0 from rfl,
    show (dat V c).owesAt (none : HIx 1) t.succ = (dat V c).owesAt (none : HIx 1) t.castSucc from rfl]
  iintro ⟨HΦ, Howes, ⟨%d0, H0⟩, ⟨%d1, H1⟩, ⟨%d2, H2⟩, ⟨%d3, H3⟩⟩
  rw [before0, before1]
  have hb := topk_wp c (grid3.coords t) (st3_0 t) (hstage3_0 ((cfg3.slots t 0).cast nbuf3_0)) (st3_1 t) (hstage3_1 ((cfg3.slots t 1).cast nbuf3_1))
    (st3_2 t) (hstage3_2 ((cfg3.slots t 2).cast nbuf3_2)) (st3_3 t) (hstage3_3 ((cfg3.slots t 3).cast nbuf3_3)) (blk0 V c t) (blk1 V c t)
    ((dat V c).before 2 t d2) ((dat V c).before 3 t d3) iprop((dat V c).Φ 0 ∗ (dat V c).owesAt (none : HIx 1) t.castSucc)
  have hk := hb.trans (wp_mono (Q' := fun _ => iprop((dat V c).Φ 0 ∗ (dat V c).owesAt (none : HIx 1) t.castSucc
      ∗ owns (T c) (st3_0 t) fullShare (blk0 V c t) ∗ owns (T c) (st3_1 t) fullShare (blk1 V c t)
      ∗ owns (T c) (st3_2 t) fullShare (outS (blk0 V c t) (blk1 V c t)) ∗ owns (T c) (st3_3 t) fullShare (outI (blk0 V c t) (blk1 V c t)))) frame _ _ fun _ => by
    iintro ⟨H0, H1, H2, H3, HΦ, Howes⟩
    isplitl [HΦ]; · iexact HΦ
    isplitl [Howes]; · iexact Howes
    isplitl [H0]; · iexact H0
    isplitl [H1]; · iexact H1
    isplitl [H2]; · iexact H2
    iexact H3)
  iapply hk $$ [HΦ Howes H0 H1 H2 H3]
  isplitl [H0]; · iexact H0
  isplitl [H1]; · iexact H1
  isplitl [H2]; · iexact H2
  isplitl [H3]; · iexact H3
  isplitl [HΦ]; · iexact HΦ
  iexact Howes

/-! The two calls before the SparseCore's, while it is still owed. -/

/-- The waits recorded so far lie below the SparseCore's call. -/
def recd0 (c : Dev nD) : Set (SemLoc sig × HIx 1) := fun p => (K (F := F)).lev (tL c, p.1) p.2 ≤ 8 * (SparseCore.Cfg.Blocks.one 1).fst 0

def blkQ (c : Dev nD) (t : Fin cfg0.N) : S512x128.Idx → F .f32 := ((cfg0.win 0).blk t).view.read (Elt F) (V c main_arg0)
def blkC (c : Dev nD) (t : Fin cfg0.N) : S2048x128.Idx → F .f32 := ((cfg0.win 1).blk t).view.read (Elt F) (V c main_v0)
def blkM (c : Dev nD) (t : Fin cfg1.N) : S512x784.Idx → F .f32 := ((cfg1.win 0).blk t).view.read (Elt F) (V c main_v3)

def dat0 (c : Dev nD) : Dat τ (Elt F) (HIx 1) ℕ UU ℕ cfg0 c where
  A w := V c (Pipeline.arrRef spec0 w)
  after w t := match w with
    | ⟨0, _⟩ => blkQ V c t
    | ⟨1, _⟩ => blkC V c t
    | ⟨2, _⟩ => outQ (grid0.coords t) (blkQ V c t) (blkC V c t)
    | ⟨3, _⟩ => outB (grid0.coords t) (blkQ V c t) (blkC V c t)
  Φ _ := Pipeline.scopedRest (Ix := HIx 1) (Name := ℕ) (U := UU) (Lvl := ℕ) (Val := Elt F) spec0 c
  q _ := fullShare
  owed _ := (K (F := F)).Otc c 0
  recorded _ := recd0 (F := F) c

def dat1 (c : Dev nD) : Dat τ (Elt F) (HIx 1) ℕ UU ℕ cfg1 c where
  A w := V c (Pipeline.arrRef spec1 w)
  after w t := match w with
    | ⟨0, _⟩ => blkM V c t
    | ⟨1, _⟩ => outT (blkM V c t)
  Φ _ := Pipeline.scopedRest (Ix := HIx 1) (Name := ℕ) (U := UU) (Lvl := ℕ) (Val := Elt F) spec1 c
  q _ := fullShare
  owed _ := (K (F := F)).Otc c 0
  recorded _ := recd0 (F := F) c

theorem beforeQ (c : Dev nD) (t : Fin cfg0.N) (d : (cfg0.win 0).block.Idx → Elt F (cfg0.win 0).elt) : (dat0 V c).before 0 t d = blkQ V c t :=
  Dat.before_in_eq_fetched (dat0 V c) 0 rfl (fun _ => rfl) (fun _ _ _ => rfl) (fun _ => rfl) t d
theorem beforeC (c : Dev nD) (t : Fin cfg0.N) (d : (cfg0.win 1).block.Idx → Elt F (cfg0.win 1).elt) : (dat0 V c).before 1 t d = blkC V c t := by
  unfold Dat.before; rw [if_pos (fetch0_1 t)]; rfl
theorem beforeM (c : Dev nD) (t : Fin cfg1.N) (d : (cfg1.win 0).block.Idx → Elt F (cfg1.win 0).elt) : (dat1 V c).before 0 t d = blkM V c t := by
  unfold Dat.before; rw [if_pos (fetch1_0 t)]; rfl

end Region

end Cert.Sel
-- ==== Proof.Region.lean ====
/-
  The three calls that run on the TensorCore: their windows, one grid point, and the arrays they leave.
-/
module

public import proofs.«01_k».proof.Proof.Launch
public import proofs.«01_k».proof.Proof.Dats
public import Idealize.ShloMosaic.Lib.Pipeline.RegionsLoop

@[expose] public section

noncomputable section

namespace Cert.Sel

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation cellOf)
open Cert.KernelIdeal.Gen

local notation "𝕄" => MT nD τ sig (HIx 1) (Elt F) ℕ UU ℕ

section Region

variable (V : (c : Dev nD) → (b : Ref sig .tc) → Buf (Elt F) ((tL c).loc b))

attribute [local irreducible] outQ outB outT

theorem busy2 (t : Fin cfg0.N) : idle0 2 (grid0.coords t) = false := by
  show (!(k0_cond1 (grid0.coords t) == 1#1) && !(k0_cond2 (grid0.coords t) == 1#1)) = false
  by_cases h : k0_cond1 (grid0.coords t) = 1#1
  · rw [h]; rfl
  · rw [(conds (grid0.coords t)).mpr h]; exact Bool.and_false _
theorem busy3 (t : Fin cfg0.N) : idle0 3 (grid0.coords t) = false := busy2 t

theorem body_obligation0 (c : Dev nD) : BodyObligation (dat0 V c) (defs₀ (F := F)) 𝒱₀ (none : HIx 1) Set.univ := fun t => by
  rw [bigSep_W0, bigSep_W0]
  dsimp only
  generalize hi2 : idle0 2 (grid0.coords t) = i2, hi3 : idle0 3 (grid0.coords t) = i3
  obtain rfl : i2 = false := hi2.symm.trans (busy2 t)
  obtain rfl : i3 = false := hi3.symm.trans (busy3 t)
  dsimp only
  rw [show (dat0 V c).Φ t.castSucc = (dat0 V c).Φ 0 from rfl, show (dat0 V c).Φ t.succ = (dat0 V c).Φ 0 from rfl,
    show (dat0 V c).owesAt (none : HIx 1) t.succ = (dat0 V c).owesAt (none : HIx 1) t.castSucc from rfl]
  iintro ⟨HΦ, Howes, ⟨%d0, H0⟩, ⟨%d1, H1⟩, ⟨%d2, H2⟩, ⟨%d3, H3⟩⟩
  rw [beforeQ, beforeC]
  have hb := score_wp c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) (blkQ V c t) (blkC V c t)
    ((dat0 V c).before 2 t d2) ((dat0 V c).before 3 t d3) iprop((dat0 V c).Φ 0 ∗ (dat0 V c).owesAt (none : HIx 1) t.castSucc)
  have hk := hb.trans (wp_mono (Q' := fun _ => iprop((dat0 V c).Φ 0 ∗ (dat0 V c).owesAt (none : HIx 1) t.castSucc
      ∗ owns (T c) (st0_0 t) fullShare (blkQ V c t) ∗ owns (T c) (st0_1 t) fullShare (blkC V c t)
      ∗ owns (T c) (st0_2 t) fullShare (outQ (grid0.coords t) (blkQ V c t) (blkC V c t)) ∗ owns (T c) (st0_3 t) fullShare (outB (grid0.coords t) (blkQ V c t) (blkC V c t)))) frame _ _ fun _ => by
    iintro ⟨H0, H1, H2, H3, HΦ, Howes⟩
    isplitl [HΦ]; · iexact HΦ
    isplitl [Howes]; · iexact Howes
    isplitl [H0]; · iexact H0
    isplitl [H1]; · iexact H1
    isplitl [H2]; · iexact H2
    iexact H3)
  iapply hk $$ [HΦ Howes H0 H1 H2 H3]
  isplitl [H0]; · iexact H0
  isplitl [H1]; · iexact H1
  isplitl [H2]; · iexact H2
  isplitl [H3]; · iexact H3
  isplitl [HΦ]; · iexact HΦ
  iexact Howes

theorem body_obligation1 (c : Dev nD) : BodyObligation (dat1 V c) (defs₀ (F := F)) 𝒱₀ (none : HIx 1) Set.univ := fun t => by
  rw [bigSep_W1, bigSep_W1]
  rw [show (dat1 V c).Φ t.castSucc = (dat1 V c).Φ 0 from rfl, show (dat1 V c).Φ t.succ = (dat1 V c).Φ 0 from rfl,
    show (dat1 V c).owesAt (none : HIx 1) t.succ = (dat1 V c).owesAt (none : HIx 1) t.castSucc from rfl]
  iintro ⟨HΦ, Howes, ⟨%d0, H0⟩, ⟨%d1, H1⟩⟩
  rw [beforeM]
  have hb := tau_wp c (grid1.coords t) (st1_0 t) (hstage1_0 ((cfg1.slots t 0).cast nbuf1_0)) (st1_1 t) (hstage1_1 ((cfg1.slots t 1).cast nbuf1_1))
    (blkM V c t) ((dat1 V c).before 1 t d1) iprop((dat1 V c).Φ 0 ∗ (dat1 V c).owesAt (none : HIx 1) t.castSucc)
  have hk := hb.trans (wp_mono (Q' := fun _ => iprop((dat1 V c).Φ 0 ∗ (dat1 V c).owesAt (none : HIx 1) t.castSucc
      ∗ owns (T c) (st1_0 t) fullShare (blkM V c t) ∗ owns (T c) (st1_1 t) fullShare (outT (blkM V c t)))) frame _ _ fun _ => by
    iintro ⟨H0, H1, HΦ, Howes⟩
    isplitl [HΦ]; · iexact HΦ
    isplitl [Howes]; · iexact Howes
    isplitl [H0]; · iexact H0
    iexact H1)
  iapply hk $$ [HΦ Howes H0 H1]
  isplitl [H0]; · iexact H0
  isplitl [H1]; · iexact H1
  isplitl [HΦ]; · iexact HΦ
  iexact Howes

theorem Otc_none (c : Dev nD) (g : GSem nD τ sig) : (K (F := F)).Otc c 0 g none = 0 := by
  by_contra h
  have h1 : 8 * (SparseCore.Cfg.Blocks.one 1).fst 0 + 1 ≤ (K (F := F)).lev g none := SparseCore.Cfg.lev_of_Otc_pos (K := K (F := F)) (Nat.pos_of_ne_zero h)
  rw [SparseCore.Cfg.lev_none] at h1
  exact absurd h1 (Nat.not_succ_le_zero _)

variable (adm : (p : Fin 3) → (pcfgs (F := F) p).Adm)

def pdats : (p : Fin 3) → (c : Dev nD) → Dat τ (Elt F) (HIx 1) ℕ UU ℕ (Pipeline.pin (pcfgs (F := F)) adm p) c
  | ⟨0, _⟩ => fun c => dat0 V c
  | ⟨1, _⟩ => fun c => dat1 V c
  | ⟨2, _⟩ => fun c => dat V c

variable (Vp : (c : Dev nD) → (b : Ref sig .tc) → Buf (Elt F) ((tL c).loc b))

set_option backward.isDefEq.respectTransparency.types false in
def reg (R : Dev nD → sProp 𝕄) (hV2 : ∀ c, Vp c main_v7_0 = (dat V c).arrAt 2 cfg3.N) (hV3 : ∀ c, Vp c main_v7_1 = (dat V c).arrAt 3 cfg3.N)
    (hVne : ∀ c (b : Ref sig .tc), b ≠ main_v7_0 → b ≠ main_v7_1 → Vp c b = V c b) :
    Pipeline.RegionSeg (pcfgs (F := F)) adm (pdats V adm) (none : HIx 1) defs₀ 𝒱₀ (K (F := F)).L (K (F := F)).lev 2 where
  win := launch3.win.to₀
  block_pos := launch3.block_pos
  stage_whole := launch3.stage_whole
  K := PEmpty
  osem k := k.elim
  ho := Pipeline.OwnSemFacts.none _
  hbody c := (body_obligation V c).loose
  hwaits := Pipeline.hwaits_of_owed_zero _ _ _ _ (K (F := F)).L (K (F := F)).lev 2 fun _ _ => rfl
  pre c := iprop(unscopedBufs c (V c) ∗ R c ∗ ∃ W, ⌜(K (F := F)).WBelow (tL c) W (8 * (SparseCore.Cfg.Blocks.one 1).fst 1)⌝ ∗ owes (tL c) (0 : CellTallies nD τ sig (HIx 1)) W)
  post c := iprop(unscopedBufs c (Vp c) ∗ R c ∗ ∃ W, ⌜(K (F := F)).WBelow (tL c) W (8 * (SparseCore.Cfg.Blocks.one 1).fst 1)⌝ ∗ owes (tL c) (0 : CellTallies nD τ sig (HIx 1)) W)
  X _ := BI.emp
  Y _ := BI.emp
  Z c := iprop(Pipeline.unscopedRest (Ix := HIx 1) (Name := ℕ) (U := UU) (Lvl := ℕ) spec3 c (V c) ∗ R c)
  hentry c := by
    rw [Pipeline.ownSems0_none]
    have hsplit := Pipeline.arrays_of_unscopedBufs (p := 2) (pcfgs (F := F)) adm (pdats V adm) launch3.win launch3.arr_whole c
      ((pdats V adm 2 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 2 c).Φ 0 = Pipeline.scopedRest (Ix := HIx 1) (Name := ℕ) (U := UU) (Lvl := ℕ) (Val := Elt F) spec3 c from rfl]
    iintro ⟨-, -, Hr⟩; iexact Hr
  hout c := by
    rw [Pipeline.ownSems0_none, show (pdats V adm 2 c).Φ (Fin.last _) = Pipeline.scopedRest (Ix := HIx 1) (Name := ℕ) (U := UU) (Lvl := ℕ) (Val := Elt F) spec3 c from rfl]
    iintro Hr
    isplitr; · iempintro
    isplitr; · iempintro
    iexact Hr
  hexit c := by
    have hjoin := Pipeline.unscopedBufs_of_arrays (p := 2) (pcfgs (F := F)) adm (Ix := HIx 1) (Name := ℕ) (U := UU) (Lvl := ℕ) launch3.win launch3.arr_whole c
      (pdats V adm) ((pdats V adm 2 c).share_full fun _ => rfl) (V c) (Vp c) ((pdats V adm 2 c).arrAt · cfg3.N)
      (fun w => by
        fin_cases w
        · exact ((pdats V adm 2 c).arrAt_in 0 rfl _).trans (hVne c main_v6_0 (by decide) (by decide)).symm
        · exact ((pdats V adm 2 c).arrAt_in 1 rfl _).trans (hVne c main_v6_1 (by decide) (by decide)).symm
        · exact (hV2 c).symm
        · exact (hV3 c).symm)
      (fun b hb => hVne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | h
      · exact h
      · obtain ⟨w, s, rfl⟩ := h
        show (K (F := F)).lev _ none ≤ _
        rw [SparseCore.Cfg.lev_none]
        exact Nat.zero_le _
    iexact HO

set_option backward.isDefEq.respectTransparency.types false in
def reg0 (R : Dev nD → sProp 𝕄) (hV2 : ∀ c, Vp c main_v1_0 = (dat0 V c).arrAt 2 cfg0.N) (hV3 : ∀ c, Vp c main_v1_1 = (dat0 V c).arrAt 3 cfg0.N)
    (hVne : ∀ c (b : Ref sig .tc), b ≠ main_v1_0 → b ≠ main_v1_1 → Vp c b = V c b) :
    Pipeline.RegionSeg (pcfgs (F := F)) adm (pdats V adm) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation0 V c).loose
  hwaits c := Pipeline.cellsWaits_intro (Pipeline.pin (pcfgs (F := F)) adm) (pdats V adm) (none : HIx 1) 0 c fun w s t => (K (F := F)).mayWait_none _ (Otc_none c)
  pre c := iprop(unscopedBufs c (V c) ∗ R c ∗ ∃ W, ⌜(K (F := F)).WBelow (tL c) W (8 * (SparseCore.Cfg.Blocks.one 1).fst 0)⌝ ∗ owes (tL c) ((K (F := F)).Otc c 0) W)
  post c := iprop(unscopedBufs c (Vp c) ∗ R c ∗ ∃ W, ⌜(K (F := F)).WBelow (tL c) W (8 * (SparseCore.Cfg.Blocks.one 1).fst 0)⌝ ∗ owes (tL c) ((K (F := F)).Otc c 0) W)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V adm) launch0.win launch0.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V adm) ((pdats V adm 0 c).share_full fun _ => rfl) (V c) (Vp c) ((pdats V adm 0 c).arrAt · cfg0.N)
      (fun w => by
        fin_cases w
        · exact ((pdats V adm 0 c).arrAt_in 0 rfl _).trans (hVne c main_arg0 (by decide) (by decide)).symm
        · exact ((pdats V adm 0 c).arrAt_in 1 rfl _).trans (hVne c main_v0 (by decide) (by decide)).symm
        · exact (hV2 c).symm
        · exact (hV3 c).symm)
      (fun b hb => hVne c b (fun h => hb (h ▸ Finset.mem_image.mpr ⟨2, Finset.mem_univ _, rfl⟩)) (fun h => hb (h ▸ Finset.mem_image.mpr ⟨3, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | h
      · exact h
      · obtain ⟨w, s, rfl⟩ := h
        show (K (F := F)).lev _ none ≤ _
        rw [SparseCore.Cfg.lev_none]
        exact Nat.zero_le _
    iexact HO

set_option backward.isDefEq.respectTransparency.types false in
def reg1 (R : Dev nD → sProp 𝕄) (hV1 : ∀ c, Vp c main_v4 = (dat1 V c).arrAt 1 cfg1.N)
    (hVne : ∀ c (b : Ref sig .tc), b ≠ main_v4 → Vp c b = V c b) :
    Pipeline.RegionSeg (pcfgs (F := F)) adm (pdats V adm) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation1 V c).loose
  hwaits c := Pipeline.cellsWaits_intro (Pipeline.pin (pcfgs (F := F)) adm) (pdats V adm) (none : HIx 1) 1 c fun w s t => (K (F := F)).mayWait_none _ (Otc_none c)
  pre c := iprop(unscopedBufs c (V c) ∗ R c ∗ ∃ W, ⌜(K (F := F)).WBelow (tL c) W (8 * (SparseCore.Cfg.Blocks.one 1).fst 0)⌝ ∗ owes (tL c) ((K (F := F)).Otc c 0) W)
  post c := iprop(unscopedBufs c (Vp c) ∗ R c ∗ ∃ W, ⌜(K (F := F)).WBelow (tL c) W (8 * (SparseCore.Cfg.Blocks.one 1).fst 0)⌝ ∗ owes (tL c) ((K (F := F)).Otc c 0) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 1) (pcfgs (F := F)) adm (pdats V adm) launch1.win launch1.arr_whole c
      ((pdats V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    isplitl [Hrest] <;> iassumption
  hin c := by
    rw [show (pdats V adm 1 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 1 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch1.win launch1.arr_whole c
      (pdats V adm) ((pdats V adm 1 c).share_full fun _ => rfl) (V c) (Vp c) ((pdats V adm 1 c).arrAt · cfg1.N)
      (fun w => by
        fin_cases w
        · exact ((pdats V adm 1 c).arrAt_in 0 rfl _).trans (hVne c main_v3 (by decide)).symm
        · exact (hV1 c).symm)
      (fun b hb => hVne c b (fun h => hb (h ▸ Finset.mem_image.mpr ⟨1, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩; iexists W
    isplitr
    · ipureintro
      intro p hp
      rcases hW hp with h | h
      · exact h
      · obtain ⟨w, s, rfl⟩ := h
        show (K (F := F)).lev _ none ≤ _
        rw [SparseCore.Cfg.lev_none]
        exact Nat.zero_le _
    iexact HO

end Region

end Cert.Sel
-- ==== Proof.Head.lean ====
/-
  The calls on the TensorCore as they run inside the whole program, and the host operations before the SparseCore's call.
-/
module

public import proofs.«01_k».proof.Proof.Region

@[expose] public section

noncomputable section

namespace Cert.Sel

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation cellOf)
open Cert.KernelIdeal.Gen

local notation "𝕄" => MT nD τ sig (HIx 1) (Elt F) ℕ UU ℕ

/-- The rounds of the TensorCore calls' windows. -/
def EP : Emb UP (MT nD τ sig (HIx 1) (Elt F) ℕ UU ℕ) := (Emb.inl : Emb UP (UP × Counters)).trans embR
instance EP_lands : (EP (F := F)).LandsIn (upEmb : UEmb _ 𝕄) := by unfold EP; infer_instance

abbrev adm : (p : Fin 3) → (pcfgs (F := F) p).Adm := fun p => (cfgs p).toPCfg_adm

section Out

variable (V : (c : Dev nD) → (b : Ref sig .tc) → Buf (Elt F) ((tL c).loc b))

/-- The buffers after the last call. -/
def Vout (c : Dev nD) : (b : Ref sig .tc) → Buf (Elt F) ((tL c).loc b) :=
  Function.update (Function.update (V c) main_v7_0 ((dat V c).arrAt 2 cfg3.N)) main_v7_1 ((dat V c).arrAt 3 cfg3.N)
theorem Vout_1 (c : Dev nD) : Vout V c main_v7_1 = (dat V c).arrAt 3 cfg3.N := Function.update_self ..
theorem Vout_0 (c : Dev nD) : Vout V c main_v7_0 = (dat V c).arrAt 2 cfg3.N :=
  (Function.update_of_ne (by decide) _ _).trans (Function.update_self ..)
theorem Vout_ne (c : Dev nD) (b : Ref sig .tc) (h0 : b ≠ main_v7_0) (h1 : b ≠ main_v7_1) : Vout V c b = V c b :=
  (Function.update_of_ne h1 _ _).trans (Function.update_of_ne h0 _ _)

/-- The buffers after the scores' call. -/
def Vsc (c : Dev nD) : (b : Ref sig .tc) → Buf (Elt F) ((tL c).loc b) :=
  Function.update (Function.update (V c) main_v1_0 ((dat0 V c).arrAt 2 cfg0.N)) main_v1_1 ((dat0 V c).arrAt 3 cfg0.N)
theorem Vsc_1 (c : Dev nD) : Vsc V c main_v1_1 = (dat0 V c).arrAt 3 cfg0.N := Function.update_self ..
theorem Vsc_0 (c : Dev nD) : Vsc V c main_v1_0 = (dat0 V c).arrAt 2 cfg0.N :=
  (Function.update_of_ne (by decide) _ _).trans (Function.update_self ..)
theorem Vsc_ne (c : Dev nD) (b : Ref sig .tc) (h0 : b ≠ main_v1_0) (h1 : b ≠ main_v1_1) : Vsc V c b = V c b :=
  (Function.update_of_ne h1 _ _).trans (Function.update_of_ne h0 _ _)

/-- The buffers after the thresholds' call. -/
def Vta (c : Dev nD) : (b : Ref sig .tc) → Buf (Elt F) ((tL c).loc b) := Function.update (V c) main_v4 ((dat1 V c).arrAt 1 cfg1.N)
theorem Vta_0 (c : Dev nD) : Vta V c main_v4 = (dat1 V c).arrAt 1 cfg1.N := Function.update_self ..
theorem Vta_ne (c : Dev nD) (b : Ref sig .tc) (h0 : b ≠ main_v4) : Vta V c b = V c b := Function.update_of_ne h0 _ _

abbrev low (c : Dev nD) : sProp 𝕄 :=
  iprop(∃ W, ⌜(K (F := F)).WBelow (tL c) W (8 * (SparseCore.Cfg.Blocks.one 1).fst 1)⌝ ∗ owes (tL c) (0 : CellTallies nD τ sig (HIx 1)) W)
abbrev low0 (c : Dev nD) : sProp 𝕄 :=
  iprop(∃ W, ⌜(K (F := F)).WBelow (tL c) W (8 * (SparseCore.Cfg.Blocks.one 1).fst 0)⌝ ∗ owes (tL c) ((K (F := F)).Otc c 0) W)

theorem region_wp0 (d : Dev nD) [∀ e, Nonempty (Elt F e)] :
    iprop(boundary (SparseCore.T d) ∗ (unscopedBufs d (V d) ∗ low0 d) ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ (Prog.lift (.customCall (SparseCore.inner (Pipeline.entry 0)) ()))
          fun _ => iprop(boundary (SparseCore.T d) ∗ unscopedBufs d (Vsc V d) ∗ low0 d) := by
  have h := Pipeline.RegionSeg.wp (pcfgs (F := F)) adm (pdats V adm) (none : HIx 1) cellOf_inj (EP (F := F)) defs₀ 𝒱₀ (K (F := F)).L (K (F := F)).lev
    (reg0 V adm (Vsc V) (fun _ => iprop(emp)) (Vsc_0 V) (Vsc_1 V) (Vsc_ne V)) d none (fun u hu => nomatch hu) Prog.ret
    (fun _ => iprop(boundary (SparseCore.T d) ∗ unscopedBufs d (Vsc V d) ∗ low0 d))
  rw [show (reg0 V adm (Vsc V) (fun _ => iprop(emp)) (Vsc_0 V) (Vsc_1 V) (Vsc_ne V)).pre d = iprop(unscopedBufs d (V d) ∗ emp ∗ low0 d) from rfl,
    show (reg0 V adm (Vsc V) (fun _ => iprop(emp)) (Vsc_0 V) (Vsc_1 V) (Vsc_ne V)).post d = iprop(unscopedBufs d (Vsc V d) ∗ emp ∗ low0 d) from rfl] at h
  have h' := h.trans ((K (F := F)).wp_liftProg (D (F := F)) 𝒱 (SparseCore.T d) Set.univ none _ _)
  refine BI.Entails.trans (show _ ⊢ (_ : sProp 𝕄) from ?_) h'
  iintro ⟨Hb, ⟨Hu, Ho⟩, Hl, Hc, Ht⟩
  isplitr
  · iintro ⟨Hb, Hu, -, Ho⟩
    rw [wp_ret]
    imodintro
    isplitl [Hb]; · iexact Hb
    isplitl [Hu]; · iexact Hu
    iexact Ho
  isplitl [Hb]; · iexact Hb
  isplitl [Hu Ho]
  · isplitl [Hu]; · iexact Hu
    isplitr; · iempintro
    iexact Ho
  isplitl [Hl]; · iexact Hl
  isplitl [Hc]; · iexact Hc
  iexact Ht

theorem region_wp1 (d : Dev nD) [∀ e, Nonempty (Elt F e)] :
    iprop(boundary (SparseCore.T d) ∗ (unscopedBufs d (V d) ∗ low0 d) ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ (Prog.lift (.customCall (SparseCore.inner (Pipeline.entry 1)) ()))
          fun _ => iprop(boundary (SparseCore.T d) ∗ unscopedBufs d (Vta V d) ∗ low0 d) := by
  have h := Pipeline.RegionSeg.wp (pcfgs (F := F)) adm (pdats V adm) (none : HIx 1) cellOf_inj (EP (F := F)) defs₀ 𝒱₀ (K (F := F)).L (K (F := F)).lev
    (reg1 V adm (Vta V) (fun _ => iprop(emp)) (Vta_0 V) (Vta_ne V)) d none (fun u hu => nomatch hu) Prog.ret
    (fun _ => iprop(boundary (SparseCore.T d) ∗ unscopedBufs d (Vta V d) ∗ low0 d))
  rw [show (reg1 V adm (Vta V) (fun _ => iprop(emp)) (Vta_0 V) (Vta_ne V)).pre d = iprop(unscopedBufs d (V d) ∗ emp ∗ low0 d) from rfl,
    show (reg1 V adm (Vta V) (fun _ => iprop(emp)) (Vta_0 V) (Vta_ne V)).post d = iprop(unscopedBufs d (Vta V d) ∗ emp ∗ low0 d) from rfl] at h
  have h' := h.trans ((K (F := F)).wp_liftProg (D (F := F)) 𝒱 (SparseCore.T d) Set.univ none _ _)
  refine BI.Entails.trans (show _ ⊢ (_ : sProp 𝕄) from ?_) h'
  iintro ⟨Hb, ⟨Hu, Ho⟩, Hl, Hc, Ht⟩
  isplitr
  · iintro ⟨Hb, Hu, -, Ho⟩
    rw [wp_ret]
    imodintro
    isplitl [Hb]; · iexact Hb
    isplitl [Hu]; · iexact Hu
    iexact Ho
  isplitl [Hb]; · iexact Hb
  isplitl [Hu Ho]
  · isplitl [Hu]; · iexact Hu
    isplitr; · iempintro
    iexact Ho
  isplitl [Hl]; · iexact Hl
  isplitl [Hc]; · iexact Hc
  iexact Ht

theorem region_wp (d : Dev nD) [∀ e, Nonempty (Elt F e)] :
    iprop(boundary (SparseCore.T d) ∗ (unscopedBufs d (V d) ∗ low d) ∗ levAts (K (F := F)).L (K (F := F)).lev
        ∗ Pipeline.cellsGhost (Pipeline.pin (pcfgs (F := F)) adm) EP 2 d ∗ Pipeline.toksInit (Pipeline.pin (pcfgs (F := F)) adm) EP 2 d)
      ⊢ wp frame (wpE ((K (F := F)).defs (D (F := F))) 𝒱 (SparseCore.T d) none) Set.univ (Prog.lift (.customCall (SparseCore.inner (Pipeline.entry 2)) ()))
          fun _ => iprop(boundary (SparseCore.T d) ∗ unscopedBufs d (Vout V d) ∗ low d) := by
  have h := Pipeline.RegionSeg.wp (pcfgs (F := F)) adm (pdats V adm) (none : HIx 1) cellOf_inj (EP (F := F)) defs₀ 𝒱₀ (K (F := F)).L (K (F := F)).lev
    (reg V adm (Vout V) (fun _ => iprop(emp)) (Vout_0 V) (Vout_1 V) (Vout_ne V)) d none (fun u hu => nomatch hu) Prog.ret
    (fun _ => iprop(boundary (SparseCore.T d) ∗ unscopedBufs d (Vout V d) ∗ low d))
  rw [show (reg V adm (Vout V) (fun _ => iprop(emp)) (Vout_0 V) (Vout_1 V) (Vout_ne V)).pre d = iprop(unscopedBufs d (V d) ∗ emp ∗ low d) from rfl,
    show (reg V adm (Vout V) (fun _ => iprop(emp)) (Vout_0 V) (Vout_1 V) (Vout_ne V)).post d = iprop(unscopedBufs d (Vout V d) ∗ emp ∗ low d) from rfl] at h
  have h' := h.trans ((K (F := F)).wp_liftProg (D (F := F)) 𝒱 (SparseCore.T d) Set.univ none _ _)
  refine BI.Entails.trans (show _ ⊢ (_ : sProp 𝕄) from ?_) h'
  iintro ⟨Hb, ⟨Hu, Ho⟩, Hl, Hc, Ht⟩
  isplitr
  · iintro ⟨Hb, Hu, -, Ho⟩
    rw [wp_ret]
    imodintro
    isplitl [Hb]; · iexact Hb
    isplitl [Hu]; · iexact Hu
    iexact Ho
  isplitl [Hb]; · iexact Hb
  isplitl [Hu Ho]
  · isplitl [Hu]; · iexact Hu
    isplitr; · iempintro
    iexact Ho
  isplitl [Hl]; · iexact Hl
  isplitl [Hc]; · iexact Hc
  iexact Ht

end Out

/-! The host operations. -/

theorem step_of {e : Prog (TpuEff nD τ sig (Elt F) (SparseCore.Sig (Pipeline.Sig Λ₀ (Fin 3) fun p => (pcfgs (F := F) p).Adm) 1) .tc) PUnit} {d : Dev nD} {X Y : sProp 𝕄} (Q : PUnit → sProp 𝕄)
    (h : X ⊢ wp frame (wpE ((K (F := F)).defs (D (F := F))) 𝒱 (SparseCore.T d) none) Set.univ e fun _ => Y) :
    X ⊢ iprop((Y -∗ Q ⟨⟩) -∗ wp frame (wpE ((K (F := F)).defs (D (F := F))) 𝒱 (SparseCore.T d) none) Set.univ e Q) := by
  have h' := (sep_mono_left (Q := iprop(Y -∗ Q ⟨⟩)) h).trans ((wp_frame_r frame _ _).trans (wp_mono (Q' := Q) frame _ _ fun _ => by
    iintro ⟨HY, Hk⟩
    iapply Hk
    iexact HY))
  iintro HX Hk
  iapply h' $$ [HX Hk]
  isplitl [HX]; · iexact HX
  iexact Hk

theorem host_step (d : Dev nD) (W : Valuation τ sig (Elt F)) (op : HloOp τ sig (Elt F)) (h : op.bufs ⊆ StableHlo.tcRefs τ sig) (hf : op.fresh = ∅) (Q : PUnit → sProp 𝕄) :
    iprop(boundary (SparseCore.T d) ∗ unscopedBufs d (fun b => W (Proc.devRef .tc b)))
      ⊢ iprop(((boundary (SparseCore.T d) ∗ unscopedBufs d (fun b => op.result W (Proc.devRef .tc b))) -∗ Q ⟨⟩)
        -∗ wp frame (wpE ((K (F := F)).defs (D (F := F))) 𝒱 (SparseCore.T d) none) Set.univ (hlo rfl op (fun _ => .ret ⟨⟩)) Q) := by
  have e1 := Pipeline.unscopedBufs_held (Ix := HIx 1) (Name := ℕ) (U := UU) (Lvl := ℕ) d W
  have e2 := Pipeline.unscopedBufs_held (Ix := HIx 1) (Name := ℕ) (U := UU) (Lvl := ℕ) d (op.result W)
  rw [show (unscopedBufs d (fun b => W (Proc.devRef .tc b)) : sProp 𝕄) = _ from e1, show (unscopedBufs d (fun b => op.result W (Proc.devRef .tc b)) : sProp 𝕄) = _ from e2]
  iintro H Hk
  iapply (StableHlo.wp_hlo_within 𝒱 d.tc none Set.univ (Pipeline.sub_ucRefs op h) hf) $$ H
  iintro H
  rw [wp_ret]
  imodintro
  iapply Hk
  iexact H

end Cert.Sel
-- ==== Proof.Main.lean ====
/-
  The whole program: the calls in turn, and what every run ends with.
-/
module

public import proofs.«01_k».proof.Proof.Head

@[expose] public section

noncomputable section

namespace Cert.Sel

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (Dat BodyObligation cellOf)
open Cert.KernelIdeal.Gen

local notation "𝕄" => MT nD τ sig (HIx 1) (Elt F) ℕ UU ℕ

section Main

variable (m : (ℓ : Loc nD τ sig) → Buf (Elt F) ℓ) (ρ : Dev nD → PrngReg)

/-! What the buffers hold, step by step, up to the SparseCore's call. -/

abbrev opC : HloOp τ sig (Elt F) := StableHlo.nullary main_c (constantI S_ 32 0#32)
abbrev opF : HloOp τ sig (Elt F) := StableHlo.TRef.unary (.of main_c : StableHlo.TRef sig ⟨S_, .i32⟩) main_call0.v0 (sitofp .f32)
abbrev opP : HloOp τ sig (Elt F) := StableHlo.TRef.binary (.of main_arg1 : StableHlo.TRef sig ⟨S100000x128, .f32⟩) main_call0.v0 main_call0.v1
  (fun x v => pad S100352x128 ![0, 0] ![352, 0] ![0, 0] x v pads_S100000x128_S100352x128_03520_000 h_S_)
abbrev opT : HloOp τ sig (Elt F) := StableHlo.unary main_v1_1 main_v2
  ((transpose S4096x49x16 [1, 0, 2] · transposes_S49x4096x16_S4096x49x16_1_0_2) : (⟨S49x4096x16, .f32⟩ : BufTy).Contents (Elt F) → (⟨S4096x49x16, .f32⟩ : BufTy).Contents (Elt F))
abbrev opM : HloOp τ sig (Elt F) := StableHlo.reshape main_v2 main_v3 (rfl : (.f32 : EltTy) = .f32) shapeCasts_S4096x49x16_S4096x784
abbrev opR : HloOp τ sig (Elt F) := StableHlo.reshape main_v1_0 main_v5 (rfl : (.f32 : EltTy) = .f32) shapeCasts_S4096x784x128_S3211264x128

abbrev onTC (W : Dev nD → Valuation τ sig (Elt F)) (c : Dev nD) : (b : Ref sig .tc) → Buf (Elt F) ((tL c).loc b) := fun b => W c (Proc.devRef .tc b)

def W1 (c : Dev nD) : Valuation τ sig (Elt F) := (opP (F := F)).result ((opF (F := F)).result ((opC (F := F)).result fun b => m (c, b)))
def W2 (c : Dev nD) : Valuation τ sig (Elt F) :=
  Function.update (Function.update (W1 m c) (Proc.devRef .tc main_v1_0) ((dat0 (onTC (W1 m)) c).arrAt 2 cfg0.N)) (Proc.devRef .tc main_v1_1) ((dat0 (onTC (W1 m)) c).arrAt 3 cfg0.N)
def W3 (c : Dev nD) : Valuation τ sig (Elt F) := (opM (F := F)).result ((opT (F := F)).result (W2 m c))
def W4 (c : Dev nD) : Valuation τ sig (Elt F) := Function.update (W3 m c) (Proc.devRef .tc main_v4) ((dat1 (onTC (W3 m)) c).arrAt 1 cfg1.N)
def W5 (c : Dev nD) : Valuation τ sig (Elt F) := (opR (F := F)).result (W4 m c)

/-- The memory as the SparseCore's call finds it. -/
def mm : (ℓ : Loc nD τ sig) → Buf (Elt F) ℓ := fun ℓ => W5 m ℓ.1 ℓ.2

theorem keep (op : HloOp τ sig (Elt F)) (y b : Ref sig .tc) (hw : op.writes = {Proc.devRef .tc y}) (h : b ≠ y) (W : Valuation τ sig (Elt F)) :
    op.result W (Proc.devRef .tc b) = W (Proc.devRef .tc b) :=
  op.result_of_not_mem W (by rw [hw, Finset.mem_singleton]; exact fun e => h (Proc.devRef_injective (τ := τ) .tc e))
theorem kept (y b : Ref sig .tc) (h : b ≠ y) (W : Valuation τ sig (Elt F)) (x) : Function.update W (Proc.devRef .tc y) x (Proc.devRef .tc b) = W (Proc.devRef .tc b) :=
  Function.update_of_ne (fun e => h (Proc.devRef_injective (τ := τ) .tc e)) _ _

theorem W2_eq (c : Dev nD) : onTC (W2 m) c = Vsc (onTC (W1 m)) c := by
  funext b
  by_cases h1 : b = main_v1_1
  · subst h1; rw [Vsc_1]; exact Function.update_self ..
  by_cases h0 : b = main_v1_0
  · subst h0; rw [Vsc_0]; exact (Function.update_of_ne (by decide) _ _).trans (Function.update_self ..)
  rw [Vsc_ne _ _ _ h0 h1]
  exact (Function.update_of_ne (fun h => h1 (Proc.devRef_injective (τ := τ) .tc h)) _ _).trans (Function.update_of_ne (fun h => h0 (Proc.devRef_injective (τ := τ) .tc h)) _ _)
theorem W4_eq (c : Dev nD) : onTC (W4 m) c = Vta (onTC (W3 m)) c := by
  funext b
  by_cases h1 : b = main_v4
  · subst h1; rw [Vta_0]; exact Function.update_self ..
  rw [Vta_ne _ _ _ h1]
  exact Function.update_of_ne (fun h => h1 (Proc.devRef_injective (τ := τ) .tc h)) _ _

def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

def G (d : Dev nD) : sProp 𝕄 :=
  iprop((bigSep Finset.univ fun p : Fin 3 => Pipeline.cellsGhost (Pipeline.pin (pcfgs (F := F)) adm) EP p d)
    ∗ bigSep Finset.univ fun p : Fin 3 => Pipeline.toksInit (Pipeline.pin (pcfgs (F := F)) adm) EP p d)

theorem three (f : Fin 3 → sProp 𝕄) : bigSep Finset.univ f = iprop(f 0 ∗ f 1 ∗ f 2) := by
  rw [show (Finset.univ : Finset (Fin 3)) = {0, 1, 2} by decide, SparseCore.bigSep_insert' (by decide), SparseCore.bigSep_insert' (by decide), bigSep_singleton]

theorem noPay {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P m).x q thr) := by
  unfold u₀
  iintro Hu
  ihave H := (ownU_pair (initOf (K (F := F)).hsCells (K (F := F)).hsToks) _) $$ Hu
  icases H with ⟨HH, HR⟩
  ihave H := (own_pair_emb (embR (nD := nD) (τ := τ) (sig := sig) (Ix := HIx 1) (Val := Elt F) (Name := ℕ) (A := UH) (B := UP × Counters) (Lvl := ℕ)) _ _) $$ HR
  icases H with ⟨HP, -⟩
  ihave HP := (show BI.own (((Emb.inl : Emb UP (UP × Counters)).trans embR) _) ⊢ (BI.own (EP (F := F) _) : sProp 𝕄) from .rfl) $$ HP
  imod (Pipeline.fund_ghost (Pipeline.pin (pcfgs (F := F)) adm) (EP (F := F)) cellOf_inj) $$ HP with ⟨Hc, Ht⟩
  imodintro
  isplitl [HH]; · iexact HH
  isplitl [Hc Ht]
  · rw [show (bigSep Finset.univ fun d : Dev nD => G (F := F) d)
        = iprop((bigSep Finset.univ fun d : Dev nD => bigSep Finset.univ fun p : Fin 3 => Pipeline.cellsGhost (Pipeline.pin (pcfgs (F := F)) adm) EP p d)
        ∗ bigSep Finset.univ fun d : Dev nD => bigSep Finset.univ fun p : Fin 3 => Pipeline.toksInit (Pipeline.pin (pcfgs (F := F)) adm) EP p d) from bigSep_sep' ..]
    isplitl [Hc]; · iexact Hc
    iexact Ht
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), noPay]
  iempintro

/-- The buffers that the SparseCore's call does not touch. -/
def Oth : Finset (Ref sig .tc) := {main_v7_0, main_v7_1, main_arg0, main_arg1, main_c, main_call0_v0, main_v0, main_v1_0, main_v1_1, main_v2}

theorem unscopedBufs_eq (d : Dev nD) (W : (b : Ref sig .tc) → Buf (Elt F) ((tL d).loc b)) :
    (unscopedBufs d W : sProp 𝕄) = iprop(((tL d).loc main_v5 ↦{fullShare} W main_v5) ∗ ((tL d).loc main_v3 ↦{fullShare} W main_v3) ∗ ((tL d).loc main_v4 ↦{fullShare} W main_v4)
      ∗ ((tL d).loc main_v6_0 ↦{fullShare} W main_v6_0) ∗ ((tL d).loc main_v6_1 ↦{fullShare} W main_v6_1)
      ∗ bigSep Oth fun b => (tL d).loc b ↦{fullShare} W b) := by
  unfold unscopedBufs
  rw [show (Finset.univ.filter fun b : Ref sig .tc => ¬ b.isScoped) = insert main_v5 (insert main_v3 (insert main_v4 (insert main_v6_0 (insert main_v6_1 Oth)))) by decide,
    SparseCore.bigSep_insert' (by decide), SparseCore.bigSep_insert' (by decide), SparseCore.bigSep_insert' (by decide), SparseCore.bigSep_insert' (by decide),
    SparseCore.bigSep_insert' (by decide)]

theorem Oth_eq (f : Ref sig .tc → sProp 𝕄) : bigSep Oth f = iprop(f main_v7_0 ∗ f main_v7_1 ∗ f main_arg0 ∗ f main_arg1
    ∗ bigSep {main_c, main_call0_v0, main_v0, main_v1_0, main_v1_1, main_v2} f) := by
  unfold Oth
  rw [SparseCore.bigSep_insert' (by decide), SparseCore.bigSep_insert' (by decide), SparseCore.bigSep_insert' (by decide), SparseCore.bigSep_insert' (by decide)]

/-- The buffers between the two calls, the first having left `ff`. -/
def Vmid (ff : (S4096x256.Idx → F .f32) × (S4096x256.Idx → BitVec 32)) (c : Dev nD) : (b : Ref sig .tc) → Buf (Elt F) ((tL c).loc b) :=
  Function.update (Function.update (fun b => m ((tL c).loc b)) main_v6_0 ff.1) main_v6_1 ff.2

section Mid
variable (ff : (S4096x256.Idx → F .f32) × (S4096x256.Idx → BitVec 32)) (c : Dev nD)
theorem Vmid_1 : Vmid m ff c main_v6_1 = ff.2 := Function.update_self ..
theorem Vmid_0 : Vmid m ff c main_v6_0 = ff.1 := (Function.update_of_ne (by decide) _ _).trans (Function.update_self ..)
theorem Vmid_ne (b : Ref sig .tc) (h0 : b ≠ main_v6_0) (h1 : b ≠ main_v6_1) : Vmid m ff c b = m ((tL c).loc b) :=
  (Function.update_of_ne h1 _ _).trans (Function.update_of_ne h0 _ _)
end Mid

theorem rset_all : rset (fun R => R < 4096) = Finset.univ := by
  ext x
  exact ⟨fun _ => Finset.mem_univ x, fun _ => mem_rset.mpr (x 0).isLt⟩

theorem rows_all (d : Dev nD) (f5 : S4096x256.Idx → F .f32) (f6 : S4096x256.Idx → BitVec 32) : (rows d (fun R => R < 4096) f5 f6 : sProp 𝕄)
    = iprop(((tL d).loc main_v6_0 ↦{fullShare} f5) ∗ (tL d).loc main_v6_1 ↦{fullShare} f6) := by
  exact congr (congrArg BI.sep (congrArg (fun S => ((tL d).loc main_v6_0 ↦[S]{fullShare} f5 : sProp 𝕄)) rset_all))
    (congrArg (fun S => ((tL d).loc main_v6_1 ↦[S]{fullShare} f6 : sProp 𝕄)) rset_all)

theorem launch_out (d : Dev nD) : (unscopedBufs d (fun b => m ((tL d).loc b)) : sProp 𝕄)
    ⊢ iprop(GO (m0 m d) (m1 m d) (m2 m d) d (fun R => R < 4096) fullShare (m5 m d) (m6 m d)
      ∗ bigSep Oth fun b => (tL d).loc b ↦{fullShare} m ((tL d).loc b)) := by
  rw [unscopedBufs_eq]
  unfold GO
  rw [rows_all]
  iintro ⟨H0, H1, H2, H3, H4, H5⟩
  isplitl [H0 H1 H2 H3 H4]
  · isplitl [H0 H1 H2]
    · isplitl [H0]; · iexact H0
      isplitl [H1]; · iexact H1
      iexact H2
    isplitl [H3]; · iexact H3
    iexact H4
  iexact H5

abbrev AllRows (d : Dev nD) (ff : (S4096x256.Idx → F .f32) × (S4096x256.Idx → BitVec 32)) : Prop :=
  ∀ R, R < 4096 → RowG (envOf (m0 m d) (m1 m d) (m2 m d)) R ff.1 ff.2

theorem mid_in (d : Dev nD) :
    iprop(TD (m0 m d) (m1 m d) (m2 m d) d (fun R => R < 4096) fullShare
      ∗ bigSep Oth fun b => (tL d).loc b ↦{fullShare} m ((tL d).loc b))
    ⊢ (iprop(∃ ff : (S4096x256.Idx → F .f32) × (S4096x256.Idx → BitVec 32), ⌜AllRows m d ff⌝ ∗ unscopedBufs d (Vmid m ff d)) : sProp 𝕄) := by
  unfold TD
  iintro ⟨⟨⟨H0, H1, H2⟩, %ff, %h, H34⟩, H5⟩
  ihave H34 := (Entails.of_eq (rows_all d ff.1 ff.2)) $$ H34
  icases H34 with ⟨H3, H4⟩
  iexists ff
  isplitr; · ipureintro; exact h
  rw [unscopedBufs_eq, Vmid_1, Vmid_0, Vmid_ne m ff d main_v5 (by decide) (by decide), Vmid_ne m ff d main_v3 (by decide) (by decide), Vmid_ne m ff d main_v4 (by decide) (by decide),
    show (bigSep Oth fun b => (tL d).loc b ↦{fullShare} Vmid m ff d b : sProp 𝕄) = bigSep Oth fun b => (tL d).loc b ↦{fullShare} m ((tL d).loc b) from
      bigSep_congr fun b hb => by rw [Vmid_ne m ff d b (fun h => by subst h; exact absurd hb (by decide)) (fun h => by subst h; exact absurd hb (by decide))]]
  isplitl [H0]; · iexact H0
  isplitl [H1]; · iexact H1
  isplitl [H2]; · iexact H2
  isplitl [H3]; · iexact H3
  isplitl [H4]; · iexact H4
  iexact H5

def FIN (d : Dev nD) : sProp 𝕄 :=
  iprop(∃ ff : (S4096x256.Idx → F .f32) × (S4096x256.Idx → BitVec 32), ⌜AllRows m d ff⌝ ∗ unscopedBufs d (Vout (Vmid m ff) d))

theorem st_low (d : Dev nD) : ((K (F := F)).tcSt EH d 1 : sProp 𝕄) ⊢ iprop(low d ∗ (low d -∗ (K (F := F)).tcSt EH d 1)) := by
  unfold SparseCore.Cfg.tcSt
  rw [SparseCore.Cfg.Otc_end _ d le_rfl]
  iintro ⟨Ho, Hr⟩
  isplitl [Ho]; · iexact Ho
  iintro Ho
  isplitl [Ho]; · iexact Ho
  iexact Hr

theorem st_low0 (d : Dev nD) : ((K (F := F)).tcSt EH d 0 : sProp 𝕄) ⊢ iprop(low0 d ∗ (low0 d -∗ (K (F := F)).tcSt EH d 0)) := by
  unfold SparseCore.Cfg.tcSt
  iintro ⟨Ho, Hr⟩
  isplitl [Ho]; · iexact Ho
  iintro Ho
  isplitl [Ho]; · iexact Ho
  iexact Hr

theorem last_out (d : Dev nD) (ff : (S4096x256.Idx → F .f32) × (S4096x256.Idx → BitVec 32)) (hff : AllRows m d ff) :
    (iprop((boundary (SparseCore.T d) ∗ unscopedBufs d (Vout (Vmid m ff) d) ∗ low d) ∗ (low d -∗ (K (F := F)).tcSt EH d 1) ∗ (K (F := F)).tcSems0 d) : sProp 𝕄)
      ⊢ |={Set.univ}=> iprop((K (F := F)).tcSt EH d 1 ∗ FIN m d ∗ boundary (SparseCore.T d) ∗ (K (F := F)).tcSems0 d) := by
  unfold FIN
  iintro ⟨⟨Hb, Hu, Ho⟩, Hst, Hts⟩
  ihave Hst := Hst $$ Ho
  imodintro
  isplitl [Hst]; · iexact Hst
  isplitl [Hu]
  · iexists ff
    isplitr; · ipureintro; exact hff
    iexact Hu
  isplitl [Hb]; · iexact Hb
  iexact Hts

theorem hmain [∀ e, Nonempty (Elt F e)] (κ : GSem nD τ sig → ℕ) (d : Dev nD) :
    iprop((K (F := F)).ctx EH (P (mm m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN (mm m) d ∗ (K (F := F)).tcEnd d) := by
  unfold SparseCore.Cfg.tcRes SparseCore.Cfg.tcEnd
  simp only [main, fn_pad.body, wp_bind, wp_pure]
  iintro ⟨#Hctx, Hst, ⟨Hb, Hu, Hts, -⟩, HG⟩
  unfold G
  icases HG with ⟨Hc, Ht⟩
  ihave Hc := (Entails.of_eq (three _)) $$ Hc
  icases Hc with ⟨Hc0, Hc1, Hc2⟩
  ihave Ht := (Entails.of_eq (three _)) $$ Ht
  icases Ht with ⟨Ht0, Ht1, Ht2⟩
  ihave Hst := (st_low0 d) $$ Hst
  icases Hst with ⟨Ho, Hst⟩
  iapply (host_step d (fun b => m (d, b)) opC (StableHlo.nullary_bufs_sub ..) rfl _) $$ [Hb Hu]
  · isplitl [Hb]; · iexact Hb
    iexact Hu
  iintro ⟨Hb, Hu⟩
  iapply (host_step d ((opC (F := F)).result fun b => m (d, b)) opF (StableHlo.unary_bufs_sub ..) rfl _) $$ [Hb Hu]
  · isplitl [Hb]; · iexact Hb
    iexact Hu
  iintro ⟨Hb, Hu⟩
  iapply (host_step d ((opF (F := F)).result ((opC (F := F)).result fun b => m (d, b))) opP (StableHlo.binary_bufs_sub ..) rfl _) $$ [Hb Hu]
  · isplitl [Hb]; · iexact Hb
    iexact Hu
  iintro ⟨Hb, Hu⟩
  ihave Hu := (show (unscopedBufs d (fun b => (opP (F := F)).result ((opF (F := F)).result ((opC (F := F)).result fun b => m (d, b))) (Proc.devRef .tc b)) : sProp 𝕄) ⊢ unscopedBufs d (onTC (W1 m) d) from .rfl) $$ Hu
  imodintro
  iapply (step_of _ (region_wp0 (onTC (W1 m)) d)) $$ [Hb Hu Ho Hc0 Ht0]
  · isplitl [Hb]; · iexact Hb
    isplitl [Hu Ho]
    · isplitl [Hu]; · iexact Hu
      iexact Ho
    isplitr; · iapply ((K (F := F)).ctx_levAts κ) $$ Hctx
    isplitl [Hc0]; · iexact Hc0
    iexact Ht0
  iintro ⟨Hb, Hu, Ho⟩
  rw [← W2_eq]
  iapply (host_step d (W2 m d) opT (StableHlo.unary_bufs_sub ..) rfl _) $$ [Hb Hu]
  · isplitl [Hb]; · iexact Hb
    iexact Hu
  iintro ⟨Hb, Hu⟩
  iapply (host_step d ((opT (F := F)).result (W2 m d)) opM (StableHlo.reshape_bufs_sub ..) rfl _) $$ [Hb Hu]
  · isplitl [Hb]; · iexact Hb
    iexact Hu
  iintro ⟨Hb, Hu⟩
  ihave Hu := (show (unscopedBufs d (fun b => (opM (F := F)).result ((opT (F := F)).result (W2 m d)) (Proc.devRef .tc b)) : sProp 𝕄) ⊢ unscopedBufs d (onTC (W3 m) d) from .rfl) $$ Hu
  iapply (step_of _ (region_wp1 (onTC (W3 m)) d)) $$ [Hb Hu Ho Hc1 Ht1]
  · isplitl [Hb]; · iexact Hb
    isplitl [Hu Ho]
    · isplitl [Hu]; · iexact Hu
      iexact Ho
    isplitr; · iapply ((K (F := F)).ctx_levAts κ) $$ Hctx
    isplitl [Hc1]; · iexact Hc1
    iexact Ht1
  iintro ⟨Hb, Hu, Ho⟩
  rw [← W4_eq]
  iapply (host_step d (W4 m d) opR (StableHlo.reshape_bufs_sub ..) rfl _) $$ [Hb Hu]
  · isplitl [Hb]; · iexact Hb
    iexact Hu
  iintro ⟨Hb, Hu⟩
  ihave Hst := Hst $$ Ho
  ihave Hu := (show (unscopedBufs d (fun b => (opR (F := F)).result (W4 m d) (Proc.devRef .tc b)) : sProp 𝕄) ⊢ unscopedBufs d (fun b => mm m ((tL d).loc b)) from .rfl) $$ Hu
  ihave Hu := (launch_out (mm m) d) $$ Hu
  icases Hu with ⟨Hgo, H5⟩
  iapply ((K (F := F)).wp_run (D (F := F)) 𝒱 (EH := EH) (P := P (mm m)) κ d 0) $$ [Hst Hgo H5 Hb Hts Hc2 Ht2]
  isplitr; · iexact Hctx
  isplitl [Hst]; · iexact Hst
  isplitl [Hgo]
  · iapply (Entails.of_eq (whole_split (mm m) d)) $$ Hgo
  iintro ⟨Hst, Hdn⟩
  ihave Hdn := (show (bigSep Finset.univ fun c => (P (mm m)).dn 0 d c) ⊢ _ from whole_join (mm m) d) $$ Hdn
  ihave Hu := (mid_in (mm m) d) $$ [Hdn H5]
  · isplitl [Hdn]; · iexact Hdn
    iexact H5
  icases Hu with ⟨%ff, %hff, Hu⟩
  ihave Hst := (show ((K (F := F)).tcSt EH d ((0 : Fin 1).val + 1) : sProp 𝕄) ⊢ _ from st_low d) $$ Hst
  icases Hst with ⟨Ho, Hst⟩
  have hr := (sep_mono_left (Q := iprop((low d -∗ (K (F := F)).tcSt EH d 1) ∗ (K (F := F)).tcSems0 d)) (region_wp (Vmid (mm m) ff) d)).trans ((wp_frame_r frame _ _).trans (wp_mono frame _ _ fun _ => last_out (mm m) d ff hff))
  iapply hr $$ [Hb Hu Ho Hc2 Ht2 Hst Hts]
  isplitr [Hst Hts]
  · isplitl [Hb]; · iexact Hb
    isplitl [Hu Ho]
    · isplitl [Hu]; · iexact Hu
      iexact Ho
    isplitr; · iapply ((K (F := F)).ctx_levAts κ) $$ Hctx
    isplitl [Hc2]; · iexact Hc2
    iexact Ht2
  · isplitl [Hst]; · iexact Hst
    iexact Hts

theorem mm_arg0 (d : Dev nD) : mm m ((tL d).loc main_arg0) = m ((tL d).loc main_arg0) :=
  (keep (opR (F := F)) main_v5 main_arg0 rfl (by decide) (W4 m d)).trans ((kept main_v4 main_arg0 (by decide) (W3 m d) _).trans ((keep (opM (F := F)) main_v3 main_arg0 rfl (by decide) _).trans
    ((keep (opT (F := F)) main_v2 main_arg0 rfl (by decide) (W2 m d)).trans ((kept main_v1_1 main_arg0 (by decide) _ _).trans ((kept main_v1_0 main_arg0 (by decide) (W1 m d) _).trans
    ((keep (opP (F := F)) main_v0 main_arg0 rfl (by decide) _).trans ((keep (opF (F := F)) main_call0_v0 main_arg0 rfl (by decide) _).trans (keep (opC (F := F)) main_c main_arg0 rfl (by decide) fun b => m (d, b)))))))))

theorem mm_arg1 (d : Dev nD) : mm m ((tL d).loc main_arg1) = m ((tL d).loc main_arg1) :=
  (keep (opR (F := F)) main_v5 main_arg1 rfl (by decide) (W4 m d)).trans ((kept main_v4 main_arg1 (by decide) (W3 m d) _).trans ((keep (opM (F := F)) main_v3 main_arg1 rfl (by decide) _).trans
    ((keep (opT (F := F)) main_v2 main_arg1 rfl (by decide) (W2 m d)).trans ((kept main_v1_1 main_arg1 (by decide) _ _).trans ((kept main_v1_0 main_arg1 (by decide) (W1 m d) _).trans
    ((keep (opP (F := F)) main_v0 main_arg1 rfl (by decide) _).trans ((keep (opF (F := F)) main_call0_v0 main_arg1 rfl (by decide) _).trans (keep (opC (F := F)) main_c main_arg1 rfl (by decide) fun b => m (d, b)))))))))

abbrev fq (d : Dev nD) (s' : MemSt nD τ sig (Elt F)) : Prop :=
  ∃ ff : (S4096x256.Idx → F .f32) × (S4096x256.Idx → BitVec 32), AllRows (mm m) d ff
    ∧ s'.mem ((tL d).loc main_arg0) = m ((tL d).loc main_arg0) ∧ s'.mem ((tL d).loc main_arg1) = m ((tL d).loc main_arg1)
    ∧ s'.mem ((tL d).loc main_v7_0) = (dat (Vmid (mm m) ff) d).arrAt 2 cfg3.N ∧ s'.mem ((tL d).loc main_v7_1) = (dat (Vmid (mm m) ff) d).arrAt 3 cfg3.N

theorem agree {ℓ : Loc nD τ sig} {f : Buf (Elt F) ℓ} {s' : Phys nD τ sig (Elt F)} :
    iprop(SI s' ∗ ℓ ↦{fullShare} f) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HS, -⟩
  isplitr; · ipureintro; exact funext fun i => h i (Finset.mem_univ i)
  iexact HS

theorem hfin (d : Dev nD) (s' : Phys nD τ sig (Elt F)) : iprop(FIN (mm m) d ∗ SI s') ⊢ (⌜fq m d s'.mem⌝ : sProp 𝕄) := by
  unfold FIN
  iintro ⟨⟨%ff, %hff, Hu⟩, HSI⟩
  ihave Hu := (Entails.of_eq (unscopedBufs_eq d _)) $$ Hu
  icases Hu with ⟨-, -, -, -, -, Hu⟩
  ihave Hu := (Entails.of_eq (Oth_eq _)) $$ Hu
  icases Hu with ⟨H3, H4, H0, H1, -⟩
  ihave H := agree $$ [HSI H0]
  · isplitl [HSI] <;> iassumption
  icases H with ⟨%h0, HSI⟩
  ihave H := agree $$ [HSI H1]
  · isplitl [HSI] <;> iassumption
  icases H with ⟨%h1, HSI⟩
  ihave H := agree $$ [HSI H3]
  · isplitl [HSI] <;> iassumption
  icases H with ⟨%h3, HSI⟩
  ihave H := agree $$ [HSI H4]
  · isplitl [HSI] <;> iassumption
  icases H with ⟨%h4, -⟩
  ipureintro
  have hn := fun (b : Ref sig .tc) (h0 : b ≠ main_v7_0) (h1 : b ≠ main_v7_1) (h2 : b ≠ main_v6_0) (h3 : b ≠ main_v6_1) =>
    (Vout_ne (Vmid (mm m) ff) d b h0 h1).trans (Vmid_ne (mm m) ff d b h2 h3)
  exact ⟨ff, hff, h0.trans ((hn _ (by decide) (by decide) (by decide) (by decide)).trans (mm_arg0 m d)), h1.trans ((hn _ (by decide) (by decide) (by decide) (by decide)).trans (mm_arg1 m d)),
    h3.trans (Vout_0 _ d), h4.trans (Vout_1 _ d)⟩

/-- Every run ends with the arguments kept, the first call's rows as its tasks leave them, and the results the second call's windows of those rows. -/
theorem run_main [∀ e, Nonempty (Elt F e)] :
    θ_run (Cert.KernelIdeal.defs (F := F)) (Cert.KernelIdeal.threads (F := F)) ⟨m, fun _ => 0, ρ⟩ fun r => (∀ d, fq m d r.2) ∧ r.2.sem = fun _ => 0 :=
  SparseCore.Cfg.θ_run_sc_quiescent (K := K (F := F)) (D := D (F := F)) (𝒱 := 𝒱) (EH := EH) (P := P (mm m)) (A := ∅) facts v₀
    (fun q hq => match q with | 0 => nomatch hq)
    (fun q _ => match q with | 0 => tileObl (mm m))
    (fun q _ => match q with | 0 => SparseCore.Cfg.VecSplit.of_plain (vecSplit (mm m)))
    m ρ main G (FIN (mm m)) (u₀ (F := F)) (sep_elim_left.trans (hu₀ (mm m))) (hmain m ρ) (fun d s' => fq m d s'.mem) (hfin m) _ (fun _ h hz => ⟨h, hz⟩)

end Main

end Cert.Sel
-- ==== Proof.Frames.lean ====
/-
  The frames: every run of the kernel, at any float values, ends with its arguments as they were and every counter at
  zero, which is the run of `Main` with the values dropped; the reference is host operations only.
-/
module

public import proofs.«01_k».proof.Defs
public import proofs.«01_k».proof.Proof.Main
public import proofs.«01_k».proof.Proof.Gen.Kernel
public import proofs.«01_k».proof.Proof.Gen.ReferenceIdeal.Run

@[expose] public section

noncomputable section

namespace Cert.Sel

open Idealize.ShloMosaic Idealize.SL.Sem

instance : Cert.Kernel.Facts := Cert.Kernel.Gen.facts
instance : Cert.KernelIdeal.Facts := Cert.KernelIdeal.Gen.facts

theorem threads_eq : Cert.Kernel.threads (F := Bits) = Cert.KernelIdeal.threads (F := Bits) := rfl

set_option maxHeartbeats 0 in
theorem bodies_eq (p : Proc Cert.KernelIdeal.τ) (ℓ : Fin 4) : Cert.Kernel.defs₀ (F := Bits) p ℓ = Cert.KernelIdeal.defs₀ (F := Bits) p ℓ := by
  funext a
  match p, ℓ, a with
  | .tc, 0, (t, s) => rfl
  | .tc, 1, (t, s) => rfl
  | .scVector c s, 2, _ => rfl
  | .tc, 3, (t, s) => rfl
  | .tc, 2, _ => rfl
  | .scVector c s, 0, _ => rfl
  | .scVector c s, 1, _ => rfl
  | .scVector c s, 3, _ => rfl
  | .scScalar c, 0, _ => rfl
  | .scScalar c, 1, _ => rfl
  | .scScalar c, 2, _ => rfl
  | .scScalar c, 3, _ => rfl
theorem bodies_eq' : Cert.Kernel.defs₀ (F := Bits) = Cert.KernelIdeal.defs₀ (F := Bits) := funext fun p => funext fun ℓ => bodies_eq p ℓ

theorem defs_eq : Cert.Kernel.defs (F := Bits) = Cert.KernelIdeal.defs (F := Bits) :=
  congrArg (fun D => (Cert.KernelIdeal.sc (F := Bits)).defs (Pipeline.defs Cert.KernelIdeal.pcfgs D)) bodies_eq'

theorem frame_kernel : Cert.quiescent_Kernel (hKernel := Cert.Kernel.Gen.facts) := fun m ρ _ => by
  have key : ∀ A, A = Cert.KernelIdeal.defs (F := Bits) → θ_run A (Cert.KernelIdeal.threads (F := Bits)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) := by
    rintro _ rfl
    exact (θ_run Cert.KernelIdeal.defs _ _).mono (fun _ h => ⟨fun c => by
      obtain ⟨_, _, h0, h1, _⟩ := h.1 c
      exact ⟨h0, h1⟩, h.2⟩) (run_main (F := Bits) m ρ)
  exact key (Cert.Kernel.defs (F := Bits)) defs_eq

theorem frame_ideal : Cert.quiescent_KernelIdeal (hKernelIdeal := Cert.KernelIdeal.Gen.facts) := fun m ρ _ =>
  (θ_run Cert.KernelIdeal.defs _ _).mono (fun _ h => ⟨fun c => by
    obtain ⟨_, _, h0, h1, _⟩ := h.1 c
    exact ⟨h0, h1⟩, h.2⟩) (run_main (F := Ideal) m ρ)

theorem frame_reference : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩) (Cert.ReferenceIdeal.Value.run (F := Ideal) m ρ)

end Cert.Sel
-- ==== Proof.Search.lean ====
/-
  The search in the precondition, step by step: its thirty-four halvings as one repeated step.
-/
module

public import proofs.«01_k».proof.Proof.Gen.Pre_room
public import Idealize.ShloMosaic.Lib.IndicatorCount
public import Idealize.ShloMosaic.Lib.Pipeline.ValueKit

@[expose] public section

noncomputable section

namespace Cert.Sel

open Cert.Pre_room Cert.Pre_room.Gen
open Idealize.ShloMosaic hiding ix1 ix2 ix3 eq_ix2
open Idealize.ShloMosaic.ValueIdx

section Search
variable {F : FTy → Type} [FloatOps F]

/-- The two ends of every row's interval. -/
abbrev HS (F : FTy → Type) := FVec F S4096 .f32 × FVec F S4096 .f32

variable (v2 : FVec F S4096x100352 .f32) (v4 : FVec F S4096x784 .f32)

def kAdd (s : HS F) : FVec F S4096 .f32 := addf s.1 s.2
def kMid (s : HS F) : FVec F S4096 .f32 := mulf (broadcastInDim S4096 ![] bcast_S_S4096 (constant S_ .f32 0x3F000000#32)) (kAdd s)
def kCol (s : HS F) : FVec F S4096x1 .f32 := broadcastInDim S4096x1 ![0] bcast_S4096_S4096x1_0 (kMid s)
def kBc (s : HS F) : FVec F S4096x784 .f32 := broadcastInDim S4096x784 ![0, 1] bcast_S4096x1_S4096x784_0_1 (kCol s)
def kCmp (s : HS F) : IVec S4096x784 1 := cmpf .oge v4 (kBc s)
def kExt (s : HS F) : IVec S4096x784 32 := (extui 32 · natLt_1_32) (kCmp v4 s)
def kCnt (s : HS F) : IVec S4096 32 := Host.reduce IntOp.addi (kExt v4 s) (constantI S_ 32 0#32) reducesTo_S4096x784_S4096_d1 h_S_
def kGe (s : HS F) : IVec S4096 1 := cmpi .sge (kCnt v4 s) (broadcastInDim S4096 ![] bcast_S_S4096 (constantI S_ 32 100#32))
def hstep (s : HS F) : HS F := (fn_where_0 (kGe v4 s) (kMid s) s.1, fn_where_0 (kGe v4 s) s.2 (kMid s))

def hsteps (s : HS F) : Nat → HS F
  | 0 => s
  | n + 1 => hstep v4 (hsteps s n)

def hinit : HS F :=
  (Host.reduce FloatOps.minimumf (fn_where (cmpi .slt (iotaInDim S4096x784 32 1) (broadcastInDim S4096x784 ![] bcast_S_S4096x784 (constantI S_ 32 782#32))) v4 (constant S_ .f32 0x7F61B1E6#32))
      (constant S_ .f32 0x7F800000#32) reducesTo_S4096x784_S4096_d1 h_S_,
    addf (Host.reduce FloatOps.maximumf v4 (constant S_ .f32 0xFF800000#32) reducesTo_S4096x784_S4096_d1 h_S_) (broadcastInDim S4096 ![] bcast_S_S4096 (constant S_ .f32 0x3F800000#32)))

variable (q : FVec F S4096x128 .f32) (c : FVec F S100000x128 .f32)

/-- The padded scores and their block maxima, as the precondition writes them. -/
def pSc : FVec F S4096x100352 .f32 := fn_pad (Host.dotGeneral dot_S4096x128_S128x100000_S4096x100000_1_0_0_1_n_n none q ((transpose S128x100000 [1, 0] · transposes_S100000x128_S128x100000_1_0) c)) (constant S_ .f32 0xFF61B1E6#32)
def pBm (v2 : FVec F S4096x100352 .f32) : FVec F S4096x784 .f32 :=
  Host.reduce FloatOps.maximumf (shapeCast S4096x784x128 v2 shapeCasts_S4096x100352_S4096x784x128) (constant S_ .f32 0xFF800000#32) reducesTo_S4096x784x128_S4096x784_d2 h_S_

def tAb (tau : FVec F S4096 .f32) : IVec S4096x100352 1 :=
  cmpf .oge v2 (broadcastInDim S4096x100352 ![0, 1] bcast_S4096x1_S4096x100352_0_1 (broadcastInDim S4096x1 ![0] bcast_S4096_S4096x1_0 tau))
def tBl (tau : FVec F S4096 .f32) : IVec S4096x784 1 :=
  cmpf .oge v4 (broadcastInDim S4096x784 ![0, 1] bcast_S4096x1_S4096x784_0_1 (broadcastInDim S4096x1 ![0] bcast_S4096_S4096x1_0 tau))
def tC1 (tau : FVec F S4096 .f32) : IVec S4096 32 :=
  Host.reduce IntOp.addi ((extui 32 · natLt_1_32) (tAb v2 tau)) (constantI S_ 32 0#32) reducesTo_S4096x100352_S4096_d1 h_S_
def tC2 (tau : FVec F S4096 .f32) : IVec S4096 32 :=
  Host.reduce IntOp.addi ((extui 32 · natLt_1_32) (tBl v4 tau)) (constantI S_ 32 0#32) reducesTo_S4096x784_S4096_d1 h_S_
def tC3 (tau : FVec F S4096 .f32) : IVec S4096x16 32 :=
  Host.reduce IntOp.addi ((extui 32 · natLt_1_32) (shapeCast S4096x6272x16 (tAb v2 tau) shapeCasts_S4096x100352_S4096x6272x16)) (constantI S_ 32 0#32) reducesTo_S4096x6272x16_S4096x16_d1 h_S_
def tEnd (tau : FVec F S4096 .f32) : IVec S4096 1 × IVec S4096 1 × IVec S4096x16 1 :=
  (cmpi .sle (tC1 v2 tau) (broadcastInDim S4096 ![] bcast_S_S4096 (constantI S_ 32 256#32)), cmpi .sle (tC2 v4 tau) (broadcastInDim S4096 ![] bcast_S_S4096 (constantI S_ 32 128#32)),
    cmpi .sle (tC3 v2 tau) (broadcastInDim S4096x16 ![] bcast_S_S4096x16 (constantI S_ 32 32#32)))

theorem part0 : fn (F := F) q c = fn_part1 (pSc q c) (pBm (pSc q c)) (hinit (pBm (pSc q c))).1 (hinit (pBm (pSc q c))).2 (kMid (hinit (pBm (pSc q c)))) := by
  dsimp only [fn, pSc, pBm, hinit, kMid, kAdd]
theorem part1 (s : HS F) : fn_part1 (F := F) v2 v4 s.1 s.2 (kMid s)
    = fn_part2 v2 v4 (hstep v4 s).1 (hstep v4 s).2 (kMid (hstep v4 s)) (kGe v4 (hstep v4 s)) := by
  dsimp only [fn_part1, hstep, kGe, kCnt, kExt, kCmp, kBc, kCol, kMid, kAdd]
theorem part2 (s : HS F) : fn_part2 (F := F) v2 v4 s.1 s.2 (kMid s) (kGe v4 s)
    = fn_part3 v2 v4 (hstep v4 (hstep v4 s)).1 (hstep v4 (hstep v4 s)).2 (kMid (hstep v4 (hstep v4 s))) (kCmp v4 (hstep v4 (hstep v4 s))) := by
  dsimp only [fn_part2, hstep, kGe, kCnt, kExt, kCmp, kBc, kCol, kMid, kAdd]
theorem part3 (s : HS F) : fn_part3 (F := F) v2 v4 s.1 s.2 (kMid s) (kCmp v4 s)
    = fn_part4 v2 v4 (hstep v4 (hstep v4 s)).1 (hstep v4 (hstep v4 s)).2 (kAdd (hstep v4 (hstep v4 s))) := by
  dsimp only [fn_part3, hstep, kGe, kCnt, kExt, kCmp, kBc, kCol, kMid, kAdd]
theorem part4 (s : HS F) : fn_part4 (F := F) v2 v4 s.1 s.2 (kAdd s)
    = fn_part5 v2 v4 (hstep v4 s).1 (hstep v4 s).2 (kMid (hstep v4 s)) (kCnt v4 (hstep v4 s)) := by
  dsimp only [fn_part4, hstep, kGe, kCnt, kExt, kCmp, kBc, kCol, kMid, kAdd]
theorem part5 (s : HS F) : fn_part5 (F := F) v2 v4 s.1 s.2 (kMid s) (kCnt v4 s)
    = fn_part6 v2 v4 (hstep v4 (hstep v4 s)).1 (hstep v4 (hstep v4 s)).2 (kMid (hstep v4 (hstep v4 s))) := by
  dsimp only [fn_part5, hstep, kGe, kCnt, kExt, kCmp, kBc, kCol, kMid, kAdd]
theorem part6 (s : HS F) : fn_part6 (F := F) v2 v4 s.1 s.2 (kMid s)
    = fn_part7 v2 v4 (hstep v4 s).1 (hstep v4 s).2 (kMid (hstep v4 s)) (kGe v4 (hstep v4 s)) := by
  dsimp only [fn_part6, hstep, kGe, kCnt, kExt, kCmp, kBc, kCol, kMid, kAdd]
theorem part7 (s : HS F) : fn_part7 (F := F) v2 v4 s.1 s.2 (kMid s) (kGe v4 s)
    = fn_part8 v2 v4 (hstep v4 (hstep v4 s)).1 (hstep v4 (hstep v4 s)).2 (kMid (hstep v4 (hstep v4 s))) (kCmp v4 (hstep v4 (hstep v4 s))) := by
  dsimp only [fn_part7, hstep, kGe, kCnt, kExt, kCmp, kBc, kCol, kMid, kAdd]
theorem part8 (s : HS F) : fn_part8 (F := F) v2 v4 s.1 s.2 (kMid s) (kCmp v4 s)
    = fn_part9 v2 v4 (hstep v4 (hstep v4 s)).1 (hstep v4 (hstep v4 s)).2 (kAdd (hstep v4 (hstep v4 s))) := by
  dsimp only [fn_part8, hstep, kGe, kCnt, kExt, kCmp, kBc, kCol, kMid, kAdd]
theorem part9 (s : HS F) : fn_part9 (F := F) v2 v4 s.1 s.2 (kAdd s)
    = fn_part10 v2 v4 (hstep v4 s).1 (hstep v4 s).2 (kMid (hstep v4 s)) (kCnt v4 (hstep v4 s)) := by
  dsimp only [fn_part9, hstep, kGe, kCnt, kExt, kCmp, kBc, kCol, kMid, kAdd]
theorem part10 (s : HS F) : fn_part10 (F := F) v2 v4 s.1 s.2 (kMid s) (kCnt v4 s)
    = fn_part11 v2 v4 (hstep v4 (hstep v4 s)).1 (hstep v4 (hstep v4 s)).2 (kMid (hstep v4 (hstep v4 s))) := by
  dsimp only [fn_part10, hstep, kGe, kCnt, kExt, kCmp, kBc, kCol, kMid, kAdd]
theorem part11 (s : HS F) : fn_part11 (F := F) v2 v4 s.1 s.2 (kMid s)
    = fn_part12 v2 v4 (hstep v4 s).1 (hstep v4 s).2 (kMid (hstep v4 s)) (kGe v4 (hstep v4 s)) := by
  dsimp only [fn_part11, hstep, kGe, kCnt, kExt, kCmp, kBc, kCol, kMid, kAdd]
theorem part12 (s : HS F) : fn_part12 (F := F) v2 v4 s.1 s.2 (kMid s) (kGe v4 s)
    = fn_part13 v2 v4 (hstep v4 (hstep v4 s)).1 (hstep v4 (hstep v4 s)).2 (kMid (hstep v4 (hstep v4 s))) (kCmp v4 (hstep v4 (hstep v4 s))) := by
  dsimp only [fn_part12, hstep, kGe, kCnt, kExt, kCmp, kBc, kCol, kMid, kAdd]
theorem part13 (s : HS F) : fn_part13 (F := F) v2 v4 s.1 s.2 (kMid s) (kCmp v4 s)
    = fn_part14 v2 v4 (hstep v4 (hstep v4 s)).1 (hstep v4 (hstep v4 s)).2 (kAdd (hstep v4 (hstep v4 s))) := by
  dsimp only [fn_part13, hstep, kGe, kCnt, kExt, kCmp, kBc, kCol, kMid, kAdd]
theorem part14 (s : HS F) : fn_part14 (F := F) v2 v4 s.1 s.2 (kAdd s)
    = fn_part15 v2 v4 (hstep v4 s).1 (hstep v4 s).2 (kMid (hstep v4 s)) (kCnt v4 (hstep v4 s)) := by
  dsimp only [fn_part14, hstep, kGe, kCnt, kExt, kCmp, kBc, kCol, kMid, kAdd]
theorem part15 (s : HS F) : fn_part15 (F := F) v2 v4 s.1 s.2 (kMid s) (kCnt v4 s)
    = fn_part16 v2 v4 (hstep v4 (hstep v4 s)).1 (hstep v4 (hstep v4 s)).2 (kMid (hstep v4 (hstep v4 s))) := by
  dsimp only [fn_part15, hstep, kGe, kCnt, kExt, kCmp, kBc, kCol, kMid, kAdd]
theorem part16 (s : HS F) : fn_part16 (F := F) v2 v4 s.1 s.2 (kMid s)
    = fn_part17 v2 v4 (hstep v4 s).1 (hstep v4 s).2 (kMid (hstep v4 s)) (kGe v4 (hstep v4 s)) := by
  dsimp only [fn_part16, hstep, kGe, kCnt, kExt, kCmp, kBc, kCol, kMid, kAdd]
theorem part17 (s : HS F) : fn_part17 (F := F) v2 v4 s.1 s.2 (kMid s) (kGe v4 s)
    = fn_part18 v2 v4 (hstep v4 (hstep v4 s)).1 (hstep v4 (hstep v4 s)).2 (kMid (hstep v4 (hstep v4 s))) (kCmp v4 (hstep v4 (hstep v4 s))) := by
  dsimp only [fn_part17, hstep, kGe, kCnt, kExt, kCmp, kBc, kCol, kMid, kAdd]
theorem part18 (s : HS F) : fn_part18 (F := F) v2 v4 s.1 s.2 (kMid s) (kCmp v4 s)
    = fn_part19 v2 v4 (hstep v4 (hstep v4 s)).1 (hstep v4 (hstep v4 s)).2 (kAdd (hstep v4 (hstep v4 s))) := by
  dsimp only [fn_part18, hstep, kGe, kCnt, kExt, kCmp, kBc, kCol, kMid, kAdd]
theorem part19 (s : HS F) : fn_part19 (F := F) v2 v4 s.1 s.2 (kAdd s)
    = fn_part20 v2 v4 (hstep v4 s).1 (hstep v4 s).2 (kMid (hstep v4 s)) (kCnt v4 (hstep v4 s)) := by
  dsimp only [fn_part19, hstep, kGe, kCnt, kExt, kCmp, kBc, kCol, kMid, kAdd]
theorem part20 (s : HS F) : fn_part20 (F := F) v2 v4 s.1 s.2 (kMid s) (kCnt v4 s)
    = fn_part21 v2 v4 (hstep v4 (hstep v4 s)).1 (hstep v4 (hstep v4 s)).2 (kMid (hstep v4 (hstep v4 s))) := by
  dsimp only [fn_part20, hstep, kGe, kCnt, kExt, kCmp, kBc, kCol, kMid, kAdd]
theorem part21 (s : HS F) : fn_part21 (F := F) v2 v4 s.1 s.2 (kMid s)
    = fn_part22 v2 v4 (hstep v4 s).1 (hstep v4 s).2 (kMid (hstep v4 s)) (kGe v4 (hstep v4 s)) := by
  dsimp only [fn_part21, hstep, kGe, kCnt, kExt, kCmp, kBc, kCol, kMid, kAdd]
theorem part22 (s : HS F) : fn_part22 (F := F) v2 v4 s.1 s.2 (kMid s) (kGe v4 s) = tEnd v2 v4 (hstep v4 s).1 := by
  dsimp only [fn_part22, fn_part23, tEnd, tC1, tC2, tC3, tAb, tBl, hstep, kGe, kCnt, kExt, kCmp, kBc, kCol, kMid, kAdd]

theorem search (s : HS F) : fn_part1 (F := F) v2 v4 s.1 s.2 (kMid s) = tEnd v2 v4 (hsteps v4 s 34).1 :=
  (part1 v2 v4 (hsteps v4 s 0)).trans <| (part2 v2 v4 (hsteps v4 s 1)).trans <| (part3 v2 v4 (hsteps v4 s 3)).trans <| (part4 v2 v4 (hsteps v4 s 5)).trans <| (part5 v2 v4 (hsteps v4 s 6)).trans <| (part6 v2 v4 (hsteps v4 s 8)).trans <| (part7 v2 v4 (hsteps v4 s 9)).trans <| (part8 v2 v4 (hsteps v4 s 11)).trans <| (part9 v2 v4 (hsteps v4 s 13)).trans <| (part10 v2 v4 (hsteps v4 s 14)).trans <| (part11 v2 v4 (hsteps v4 s 16)).trans <| (part12 v2 v4 (hsteps v4 s 17)).trans <| (part13 v2 v4 (hsteps v4 s 19)).trans <| (part14 v2 v4 (hsteps v4 s 21)).trans <| (part15 v2 v4 (hsteps v4 s 22)).trans <| (part16 v2 v4 (hsteps v4 s 24)).trans <| (part17 v2 v4 (hsteps v4 s 25)).trans <| (part18 v2 v4 (hsteps v4 s 27)).trans <| (part19 v2 v4 (hsteps v4 s 29)).trans <| (part20 v2 v4 (hsteps v4 s 30)).trans <| (part21 v2 v4 (hsteps v4 s 32)).trans (part22 v2 v4 (hsteps v4 s 33))

theorem fn_eq : fn (F := F) q c = tEnd (pSc q c) (pBm (pSc q c)) (hsteps (pBm (pSc q c)) (hinit (pBm (pSc q c))) 34).1 :=
  (part0 q c).trans (search _ _ _)

end Search

end Cert.Sel
-- ==== Proof.Order.lean ====
/-
  Picking the best hundred of a row, as plain order theory: one round takes the largest score left, of equal ones the
  lowest position, and after `k` rounds the picks are the first `k` of the row in that order. A stable sort by the score
  alone puts the same positions first.
-/
module

public import Idealize.ShloMosaic.Lib.SortPrefix
public import Mathlib.Data.EReal.Basic

@[expose] public section

namespace Cert.Sel

open Idealize.ShloMosaic

section pick
variable {α : Type} [LinearOrder α]

/-- Position `p` comes before position `q`: the larger score, then the lower position. -/
def bef (sc : Nat → α) (p q : Nat) : Prop := sc q < sc p ∨ (sc p = sc q ∧ p < q)

/-- The list of one row: its first `n` places hold, each once, the positions whose score reaches `T`; the others hold `lo`. -/
structure RowSel (M : Nat) (sc : Nat → α) (T lo : α) (n : Nat) (col : Nat → Nat) (v : Fin 256 → α) (d : Fin 256 → BitVec 32) : Prop where
  big : 100 ≤ n
  small : n ≤ 256
  val : ∀ r : Fin 256, r.val < n → v r = sc (col r)
  num : ∀ r : Fin 256, r.val < n → d r = BitVec.ofNat 32 (col r)
  lt : ∀ r < n, col r < M
  ge : ∀ r < n, T ≤ sc (col r)
  inj : ∀ r < n, ∀ q < n, col r = col q → r = q
  all : ∀ c < M, T ≤ sc c → ∃ r < n, col r = c
  off : ∀ r : Fin 256, n ≤ r.val → v r = lo
  gt : lo < T

/-- After `k` rounds with picks `σ`, the scores left being `s`. -/
structure Rd (M : Nat) (sc : Nat → α) (T lo : α) (n : Nat) (col : Nat → Nat) (k : Nat) (σ : Nat → Nat) (s : Fin 256 → α) : Prop where
  ge : ∀ i < k, T ≤ sc (σ i) ∧ σ i < M
  ord : ∀ j < k, ∀ i < j, bef sc (σ i) (σ j)
  dom : ∀ i < k, ∀ p < M, (∀ j < k, σ j ≠ p) → bef sc (σ i) p
  left : ∀ r : Fin 256, ((r.val < n ∧ ∀ i < k, σ i ≠ col r) → s r = sc (col r)) ∧ (¬ (r.val < n ∧ ∀ i < k, σ i ≠ col r) → s r = lo)

variable {M : Nat} {sc : Nat → α} {T lo : α} {n : Nat} {col : Nat → Nat} {v : Fin 256 → α} {d : Fin 256 → BitVec 32}

theorem Rd.zero (h : RowSel M sc T lo n col v d) (σ : Nat → Nat) : Rd M sc T lo n col 0 σ v where
  ge i hi := absurd hi (Nat.not_lt_zero i)
  ord i hi := absurd hi (Nat.not_lt_zero i)
  dom i hi := absurd hi (Nat.not_lt_zero i)
  left r := ⟨fun hr => h.val r hr.1, fun hr => h.off r (by
    by_contra hc
    exact hr ⟨by omega, fun i hi => absurd hi (Nat.not_lt_zero i)⟩)⟩

/-- While fewer rounds than hits have gone by, a hit is left. -/
theorem Rd.some_left (h : RowSel M sc T lo n col v d) {k : Nat} (hk : k < n) (σ : Nat → Nat) :
    ∃ r < n, ∀ i < k, σ i ≠ col r := by
  classical
  by_contra hc
  push Not at hc
  have hsub : (Finset.range n).image col ⊆ (Finset.range k).image σ := by
    intro x hx
    obtain ⟨r, hr, rfl⟩ := Finset.mem_image.mp hx
    obtain ⟨i, hi, e⟩ := hc r (Finset.mem_range.mp hr)
    exact Finset.mem_image.mpr ⟨i, Finset.mem_range.mpr hi, e⟩
  have h1 := Finset.card_le_card hsub
  rw [Finset.card_image_of_injOn (fun a ha b hb e => h.inj a (by simpa using ha) b (by simpa using hb) e), Finset.card_range] at h1
  have h2 := (Finset.card_image_le (s := Finset.range k) (f := σ))
  rw [Finset.card_range] at h2
  omega

theorem toInt_small {a : Nat} (h : a < 1073741824) : (BitVec.ofNat 32 a).toInt = a := by
  rw [BitVec.toInt_eq_toNat_of_lt (by rw [BitVec.toNat_ofNat]; omega), BitVec.toNat_ofNat, Nat.mod_eq_of_lt (by omega)]

/-- One round: the largest score left `mx`, the lowest number `cid` among the places holding it, that place cleared. -/
theorem Rd.step (h : RowSel M sc T lo n col v d) (hM : M ≤ 1073741824) {k : Nat} (hk : k < n) {σ : Nat → Nat} {s : Fin 256 → α}
    (hR : Rd M sc T lo n col k σ s) {mx b : α} (hb : ∀ x, b ≤ x) (hmx : ∀ r, s r ≤ mx) (hmem : mx = b ∨ ∃ r, mx = s r)
    {cid : BitVec 32} {t : Fin 256 → BitVec 32} (ht1 : ∀ r, s r = mx → t r = d r) (ht0 : ∀ r, s r ≠ mx → t r = 1073741824#32)
    (hc : ∀ r, cid.toInt ≤ (t r).toInt) (hcm : cid = 2147483647#32 ∨ ∃ r, cid = t r)
    {s' : Fin 256 → α} (hs1 : ∀ r, s r = mx → d r = cid → s' r = lo) (hs0 : ∀ r, ¬ (s r = mx ∧ d r = cid) → s' r = s r) :
    ∃ c, mx = sc c ∧ cid = BitVec.ofNat 32 c ∧ Rd M sc T lo n col (k + 1) (Function.update σ k c) s' := by
  obtain ⟨r0, hr0, hl0⟩ := Rd.some_left h hk σ
  have hs0' : s ⟨r0, lt_of_lt_of_le hr0 h.small⟩ = sc (col r0) := (hR.left _).1 ⟨hr0, hl0⟩
  have hlo : lo < mx := lt_of_lt_of_le h.gt (le_trans (h.ge r0 hr0) (hs0' ▸ hmx _))
  have hrem : ∀ r, s r = mx → r.val < n ∧ ∀ i < k, σ i ≠ col r := by
    intro r e
    by_contra hc
    exact absurd ((hR.left r).2 hc) (by rw [e]; exact hlo.ne')
  have hr1 : ∃ r, mx = s r := hmem.resolve_left fun e => absurd hlo (not_lt.mpr (e ▸ hb lo))
  obtain ⟨r1, e1⟩ := hr1
  have hint : ∀ r : Fin 256, r.val < n → (d r).toInt = col r := fun r hr => by
    rw [h.num r hr]; exact toInt_small (lt_of_lt_of_le (h.lt r hr) hM)
  have hcid : cid.toInt ≤ col r1 := by
    rw [← hint r1 (hrem r1 e1.symm).1, ← ht1 r1 e1.symm]; exact hc r1
  have hcol1 : (col r1 : Int) < 1073741824 := by
    have := h.lt r1 (hrem r1 e1.symm).1
    omega
  obtain ⟨r2, e2⟩ := hcm.resolve_left (fun e => by
    rw [e, show (2147483647#32 : BitVec 32).toInt = 2147483647 by decide] at hcid; omega)
  have hs2 : s r2 = mx := by
    by_contra hne
    rw [e2, ht0 r2 hne, show (1073741824#32 : BitVec 32).toInt = 1073741824 by decide] at hcid; omega
  obtain ⟨hr2, hl2⟩ := hrem r2 hs2
  have hsc : s r2 = sc (col r2) := (hR.left r2).1 ⟨hr2, hl2⟩
  have hcid2 : cid = BitVec.ofNat 32 (col r2) := by rw [e2, ht1 r2 hs2, h.num r2 hr2]
  have hcint : cid.toInt = col r2 := by rw [e2, ht1 r2 hs2, hint r2 hr2]
  have hup : ∀ i < k, Function.update σ k (col r2) i = σ i := fun i hi => Function.update_of_ne (by omega) _ _
  have hself : Function.update σ k (col r2) k = col r2 := Function.update_self ..
  refine ⟨col r2, by rw [← hs2, hsc], hcid2, ?_, ?_, ?_, ?_⟩
  · intro i hi
    rcases Nat.lt_succ_iff_lt_or_eq.mp hi with hi | rfl
    · rw [hup i hi]; exact hR.ge i hi
    · rw [hself]; exact ⟨h.ge _ hr2, h.lt _ hr2⟩
  · intro j hj i hi
    rcases Nat.lt_succ_iff_lt_or_eq.mp hj with hj | rfl
    · rw [hup i (by omega), hup j hj]; exact hR.ord j hj i hi
    · rw [hup i hi, hself]; exact hR.dom i hi _ (h.lt _ hr2) hl2
  · intro i hi p hp hne
    have hne' : ∀ j < k, σ j ≠ p := fun j hj => by rw [← hup j hj]; exact hne j (by omega)
    rcases Nat.lt_succ_iff_lt_or_eq.mp hi with hi | rfl
    · rw [hup i hi]; exact hR.dom i hi p hp hne'
    · rw [hself]
      have hnp : col r2 ≠ p := by rw [← hself]; exact hne _ hi
      have hmx2 : mx = sc (col r2) := by rw [← hs2, hsc]
      by_cases hT : T ≤ sc p
      · obtain ⟨r, hr, rfl⟩ := h.all p hp hT
        have hsr := (hR.left ⟨r, lt_of_lt_of_le hr h.small⟩).1 ⟨hr, hne'⟩
        have hle := hmx ⟨r, lt_of_lt_of_le hr h.small⟩
        rw [hsr] at hle
        rcases lt_or_eq_of_le hle with hlt | heq
        · exact .inl (hmx2 ▸ hlt)
        · refine .inr ⟨by rw [← hmx2]; exact heq.symm, ?_⟩
          have h3 := hc ⟨r, lt_of_lt_of_le hr h.small⟩
          rw [ht1 _ (hsr.trans heq), hint _ hr, hcint] at h3
          simp only at h3
          omega
      · exact .inl (lt_of_lt_of_le (not_le.mp hT) (h.ge _ hr2))
  · intro r
    have hk1 : (∀ i < k + 1, Function.update σ k (col r2) i ≠ col r) ↔ (∀ i < k, σ i ≠ col r) ∧ col r2 ≠ col r := by
      constructor
      · intro hh
        exact ⟨fun i hi => by rw [← hup i hi]; exact hh i (by omega), by rw [← hself]; exact hh k (by omega)⟩
      · rintro ⟨ha, hb⟩ i hi
        rcases Nat.lt_succ_iff_lt_or_eq.mp hi with hi | rfl
        · rw [hup i hi]; exact ha i hi
        · rw [hself]; exact hb
    rw [hk1]
    constructor
    · rintro ⟨hr, hl, hne⟩
      rw [hs0 r, (hR.left r).1 ⟨hr, hl⟩]
      rintro ⟨-, hd⟩
      have := hint r hr
      rw [hd, hcint] at this
      exact hne (by exact_mod_cast this)
    · intro hnot
      by_cases hin : r.val < n ∧ ∀ i < k, σ i ≠ col r
      · have hcr : col r2 = col r := by
          by_contra hne; exact hnot ⟨hin.1, hin.2, hne⟩
        have : r2.val = r.val := h.inj _ hr2 _ hin.1 hcr
        have : r2 = r := Fin.ext this
        subst this
        exact hs1 r2 hs2 (by rw [h.num r2 hr2, hcid2])
      · have := (hR.left r).2 hin
        rw [hs0 r, this]
        rintro ⟨hm, -⟩
        rw [this] at hm
        exact absurd hm hlo.ne

end pick

/-! ## A fold that keeps one of its two arguments -/

theorem foldl_sel {β ι : Type} (f : β → β → β) (le : β → β → Prop) (hrefl : ∀ a, le a a) (htr : ∀ a b c, le a b → le b c → le a c)
    (hsel : ∀ a b, f a b = a ∨ f a b = b) (hl : ∀ a b, le (f a b) a) (hr : ∀ a b, le (f a b) b) (x : ι → β) (l : List ι) (init : β) :
    (l.foldl (fun r n => f r (x n)) init = init ∨ ∃ n ∈ l, l.foldl (fun r n => f r (x n)) init = x n)
      ∧ le (l.foldl (fun r n => f r (x n)) init) init ∧ ∀ n ∈ l, le (l.foldl (fun r n => f r (x n)) init) (x n) := by
  induction l generalizing init with
  | nil => exact ⟨.inl rfl, hrefl _, by simp⟩
  | cons a l ih =>
    obtain ⟨h1, h2, h3⟩ := ih (f init (x a))
    simp only [List.foldl_cons]
    refine ⟨?_, htr _ _ _ h2 (hl _ _), fun m hm => ?_⟩
    · rcases h1 with h1 | ⟨m, hm, e⟩
      · rcases hsel init (x a) with e | e
        · exact .inl (h1.trans e)
        · exact .inr ⟨a, by simp, h1.trans e⟩
      · exact .inr ⟨m, by simp [hm], e⟩
    · rcases List.mem_cons.mp hm with rfl | hm
      · exact htr _ _ _ h2 (hr _ _)
      · exact h3 m hm

/-! ## A stable sort by the score alone -/

theorem stableSort_later {n : Nat} (R R' : Fin n → Fin n → Bool) (h : ∀ a b : Fin n, a < b → R b a = R' b a) (l : List (Fin n))
    (hl : l.Pairwise (· < ·)) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

theorem sortedFrom_later {n : Nat} (R R' : Fin n → Fin n → Bool) (h : ∀ a b : Fin n, a < b → R b a = R' b a) (i : Fin n) :
    sortedFrom R i = sortedFrom R' i := by
  have e : sortPositions n R = sortPositions n R' := stableSort_later R R' h _ (List.pairwise_lt_finRange n)
  unfold sortedFrom
  simp only [List.get_eq_getElem, e]
  rfl

/-- The first hundred of a stable sort by decreasing score are the picks of the hundred rounds. -/
theorem sorted_picks {M : Nat} (sc : Nat → EReal) {T lo : EReal} {n : Nat} {col : Nat → Nat} {σ : Nat → Nat} {s : Fin 256 → EReal} (hM : 100 ≤ M)
    (hR : Rd M sc T lo n col 100 σ s) (B : Fin M → Fin M → Bool) (hB : ∀ a b, B a b = decide (sc b < sc a)) (i : Fin 100) :
    (sortedFrom B (i.castLE hM)).val = σ i := by
  classical
  have hT : StrictTotalBefore fun k k' : Fin M => decide (sc k' < sc k) || (decide (sc k = sc k') && decide (k < k')) :=
    StrictTotalBefore.of_key_then_position (n := M) (fun a b : EReal => decide (b < a)) (fun k => sc k)
      (fun a => by simp) (fun a b c => by simp only [decide_eq_true_eq]; exact fun x y => lt_trans y x)
      (fun a b => by simp only [decide_eq_true_eq]; rcases lt_trichotomy a b with h | h | h <;> simp [h])
  rw [sortedFrom_later B (fun k k' : Fin M => decide (sc k' < sc k) || (decide (sc k = sc k') && decide (k < k')))
    (fun a b hab => by rw [hB]; simp [not_lt.mpr hab.le]) _]
  have hbef : ∀ p q : Fin M, bef sc p q → (decide (sc p < sc q) || (decide (sc q = sc p) && decide (q < p))) = false := by
    rintro p q (h | ⟨h, h'⟩)
    · simp [not_lt.mpr h.le, h.ne]
    · have : ¬ q < p := not_lt.mpr (le_of_lt (show p < q from h'))
      simp [h, this]
  have hirr : ∀ p, ¬ bef sc p p := by
    rintro p (h | ⟨-, h⟩)
    · exact lt_irrefl _ h
    · exact lt_irrefl _ h
  have hinj : Function.Injective fun j : Fin 100 => (⟨σ j, (hR.ge j j.isLt).2⟩ : Fin M) := by
    intro a b e
    have e' : σ a = σ b := congrArg Fin.val e
    rcases lt_trichotomy a b with h | h | h
    · exact absurd (hR.ord b b.isLt a h) (e' ▸ hirr _)
    · exact h
    · exact absurd (hR.ord a a.isLt b h) (e' ▸ hirr _)
  have := hT.sortedFrom_eq_of_prefix hM (fun j : Fin 100 => (⟨σ j, (hR.ge j j.isLt).2⟩ : Fin M)) hinj
    (fun a b h => hbef _ _ (hR.ord b b.isLt a h))
    (fun a p h => hbef _ _ (hR.dom a a.isLt p p.isLt fun j hj e => h ⟨j, hj⟩ (Fin.ext e))) i
  rw [this]

end Cert.Sel
-- ==== Proof.Top.lean ====
/-
  The hundred rounds on one row of a block, over the extended reals: from a row that lists its hits they leave the
  hundred best scores and their numbers, in order.
-/
module

public import proofs.«01_k».proof.Proof.TopBody
public import proofs.«01_k».proof.Proof.Segs
public import proofs.«01_k».proof.Proof.Order

@[expose] public section

noncomputable section

namespace Cert.Sel

open Cert.KernelIdeal Cert.KernelIdeal.Gen
open Idealize.ShloMosaic hiding ix1 ix2 eq_ix2
open Idealize.ShloMosaic.ValueIdx

/-! ## Reading the operations of a round at a row -/

theorem drop_row (i : S512x256.Idx) : (reduces_S512x256_S512.drop i 0).val = (i 0).val := by
  have kv := reduces_S512x256_S512.kept_single_val 0
  have e : (S512x256.kept [1])[(0 : Fin S512.rank).cast reduces_S512x256_S512.1] = (0 : Fin S512x256.rank) := Fin.ext (by rw [kv]; rfl)
  show ((i ((S512x256.kept [1])[(0 : Fin S512.rank).cast reduces_S512x256_S512.1])).cast _).val = _
  rw [Fin.val_cast, e]

theorem red_row {β : Type} (f : β → β → β) (le : β → β → Prop) (hrefl : ∀ a, le a a) (htr : ∀ a b c, le a b → le b c → le a c)
    (hsel : ∀ a b, f a b = a ∨ f a b = b) (hl : ∀ a b, le (f a b) a) (hr : ∀ a b, le (f a b) b) (x : S512x256.Idx → β) (init : β) (y : Fin 512) :
    (reduceFold reduces_S512x256_S512 f init x (ix1 y) = init ∨ ∃ r : Fin 256, reduceFold reduces_S512x256_S512 f init x (ix1 y) = x (ix2 y r))
      ∧ ∀ r : Fin 256, le (reduceFold reduces_S512x256_S512 f init x (ix1 y)) (x (ix2 y r)) := by
  unfold reduceFold
  obtain ⟨h1, -, h3⟩ := foldl_sel f le hrefl htr hsel hl hr (fun n => x (S512x256.rowMajor.symm n))
    ((List.finRange S512x256.numel).filter fun n => reduces_S512x256_S512.drop (S512x256.rowMajor.symm n) = ix1 y) init
  refine ⟨h1.imp_right ?_, fun r => ?_⟩
  · rintro ⟨n, hn, e⟩
    have hd : reduces_S512x256_S512.drop (S512x256.rowMajor.symm n) = ix1 y := by simpa using (List.mem_filter.mp hn).2
    have h0 : (S512x256.rowMajor.symm n 0).val = y.val := by rw [← drop_row, hd]
    have hix : S512x256.rowMajor.symm n = ix2 y (S512x256.rowMajor.symm n 1) := by
      refine (eq_ix2 _).trans ?_
      rw [show (S512x256.rowMajor.symm n 0) = y from Fin.ext h0]; rfl
    exact ⟨S512x256.rowMajor.symm n 1, e.trans (congrArg x hix)⟩
  · have := h3 (S512x256.rowMajor (ix2 y r)) (List.mem_filter.mpr ⟨List.mem_finRange _, by
      rw [Equiv.symm_apply_apply, decide_eq_true_eq]
      funext b
      match b with
      | 0 => exact Fin.ext (drop_row (ix2 y r))⟩)
    rwa [Equiv.symm_apply_apply] at this

theorem col_cast {β : Type} (z : S512.Idx → β) (y : Fin 512) (u : Fin 1) : shapeCast S512x1 z shapeCasts_S512_S512x1 (ix2 y u) = z (ix1 y) :=
  shapeCast_apply z _ _ _ (by
    rw [Shape.rowMajor_val_one, Shape.rowMajor_val_two]
    show y.val = y.val * 1 + u.val
    omega)

theorem col_256 {β : Type} (z : S512.Idx → β) (y : Fin 512) (r : Fin 256) :
    broadcastTo S512x256 (shapeCast S512x1 z shapeCasts_S512_S512x1) broadcasts_S512x1_S512x256 (ix2 y r) = z (ix1 y) :=
  (broadcastTo_apply _ _ _ (ix2 y 0) (fun a => match a with | 0 => rfl | 1 => rfl)).trans (col_cast z y 0)

theorem col_128 {β : Type} (z : S512.Idx → β) (y : Fin 512) (q : Fin 128) :
    broadcastTo S512x128 (shapeCast S512x1 (shapeCast S512x1 z shapeCasts_S512_S512x1) shapeCasts_S512x1_S512x1) broadcasts_S512x1_S512x128 (ix2 y q) = z (ix1 y) :=
  (broadcastTo_apply _ _ _ (ix2 y 0) (fun a => match a with | 0 => rfl | 1 => rfl)).trans
    ((shapeCast_apply _ _ _ (ix2 y 0) rfl).trans (col_cast z y 0))

theorem pay2_eq {F : FTy → Type} [FloatOps F] (v : Vec F S512x256 .i32) : k3_pay2 v = v := by
  funext i; exact shapeCast_apply v _ i i rfl
theorem pay1_eq {F : FTy → Type} [FloatOps F] (v : Vec F S512x256 .f32) : k3_pay1 v = v := by
  funext i; exact shapeCast_apply v _ i i rfl

theorem bot_le' (x : EReal) : Ideal.ofBits .f32 0xFF800000#32 ≤ x := by
  rw [show Ideal.ofBits .f32 0xFF800000#32 = ⊥ by simp [Ideal.ofBits, Ideal.ieee]]; exact bot_le

/-- The row maximum. -/
theorem pay5_row (a : FVec Ideal S512x256 .f32) (y : Fin 512) :
    (k3_pay5 a (ix1 y) = Ideal.ofBits .f32 0xFF800000#32 ∨ ∃ r : Fin 256, k3_pay5 a (ix1 y) = a (ix2 y r)) ∧ ∀ r : Fin 256, (a (ix2 y r) : EReal) ≤ k3_pay5 a (ix1 y) :=
  red_row (β := EReal) max (fun p q => q ≤ p) (fun _ => le_rfl) (fun _ _ _ h1 h2 => le_trans h2 h1) (fun p q => (max_choice p q))
    (fun p q => le_max_left p q) (fun p q => le_max_right p q) a (Ideal.ofBits .f32 0xFF800000#32) y

theorem oeq_iff (p q : EReal) : (FloatOps.cmpf (F := Ideal) (φ := .f32) .oeq p q = 1#1) ↔ p = q := by
  show BitVec.ofBool (decide (p = q)) = 1#1 ↔ _
  by_cases h : p = q <;> simp [h]

theorem pay6_row (a : FVec Ideal S512x256 .f32) (y : Fin 512) (r : Fin 256) : k3_pay6 a (ix2 y r) = 1#1 ↔ a (ix2 y r) = k3_pay5 a (ix1 y) := by
  show FloatOps.cmpf (F := Ideal) (φ := .f32) .oeq (a (ix2 y r)) (broadcastTo S512x256 (shapeCast S512x1 (k3_pay5 a) shapeCasts_S512_S512x1) broadcasts_S512x1_S512x256 (ix2 y r)) = 1#1 ↔ _
  rw [col_256]; exact oeq_iff _ _

/-- The numbers of the places holding the maximum, and past every number elsewhere. -/
def ties (x2 : Vec Ideal S512x256 .i32) (a : FVec Ideal S512x256 .f32) : IVec S512x256 32 := select (k3_pay6 a) (k3_pay2 x2) (broadcast S512x256 1073741824#32)

theorem ties_row (x2 : Vec Ideal S512x256 .i32) (a : FVec Ideal S512x256 .f32) (y : Fin 512) (r : Fin 256) :
    (a (ix2 y r) = k3_pay5 a (ix1 y) → ties x2 a (ix2 y r) = x2 (ix2 y r)) ∧ (a (ix2 y r) ≠ k3_pay5 a (ix1 y) → ties x2 a (ix2 y r) = 1073741824#32) := by
  have h : ties x2 a (ix2 y r) = Scalar.select (k3_pay6 a (ix2 y r)) (x2 (ix2 y r)) 1073741824#32 := by
    unfold ties; rw [pay2_eq]; rfl
  rw [h]
  refine ⟨fun e => ?_, fun e => ?_⟩
  · rw [(pay6_row a y r).mpr e]; rfl
  · rw [eq_zero_of_ne_one (fun hh => e ((pay6_row a y r).mp hh))]; rfl

theorem minsi_le (p q : BitVec 32) : (IntOp.minsi p q = p ∨ IntOp.minsi p q = q) ∧ (IntOp.minsi p q).toInt ≤ p.toInt ∧ (IntOp.minsi p q).toInt ≤ q.toInt := by
  unfold IntOp.minsi
  by_cases h : p.slt q
  · rw [if_pos h]
    have := BitVec.slt_iff_toInt_lt.mp h
    exact ⟨.inl rfl, le_rfl, this.le⟩
  · rw [if_neg h]
    have := fun h' => h (BitVec.slt_iff_toInt_lt.mpr h')
    exact ⟨.inr rfl, not_lt.mp this, le_rfl⟩

theorem pay7_row (x2 : Vec Ideal S512x256 .i32) (a : FVec Ideal S512x256 .f32) (y : Fin 512) :
    (k3_pay7 x2 a (ix1 y) = 2147483647#32 ∨ ∃ r : Fin 256, k3_pay7 x2 a (ix1 y) = ties x2 a (ix2 y r))
      ∧ ∀ r : Fin 256, (k3_pay7 x2 a (ix1 y)).toInt ≤ (ties x2 a (ix2 y r)).toInt :=
  red_row IntOp.minsi (fun p q => p.toInt ≤ q.toInt) (fun _ => le_rfl) (fun _ _ _ h1 h2 => le_trans h1 h2) (fun p q => (minsi_le p q).1)
    (fun p q => (minsi_le p q).2.1) (fun p q => (minsi_le p q).2.2) (ties x2 a) 2147483647#32 y

theorem and_one (p q : BitVec 1) : IntOp.andi p q = 1#1 ↔ p = 1#1 ∧ q = 1#1 := by revert p q; decide

theorem eqi_one {w : Nat} (p q : BitVec w) : IntOp.cmpi .eq p q = 1#1 ↔ p = q := by
  show BitVec.ofBool (p == q) = 1#1 ↔ _
  by_cases h : p = q
  · simp [h]
  · rw [beq_eq_false_iff_ne.mpr h]
    exact ⟨fun hh => absurd hh (by decide), fun hh => absurd hh h⟩

theorem pay8_row (x2 : Vec Ideal S512x256 .i32) (a : FVec Ideal S512x256 .f32) (y : Fin 512) (r : Fin 256) :
    (a (ix2 y r) = k3_pay5 a (ix1 y) → x2 (ix2 y r) = k3_pay7 x2 a (ix1 y) → k3_pay8 x2 a (ix2 y r) = neg)
      ∧ (¬ (a (ix2 y r) = k3_pay5 a (ix1 y) ∧ x2 (ix2 y r) = k3_pay7 x2 a (ix1 y)) → k3_pay8 x2 a (ix2 y r) = a (ix2 y r)) := by
  have h : k3_pay8 x2 a (ix2 y r) = Scalar.select (IntOp.andi (k3_pay6 a (ix2 y r)) (IntOp.cmpi .eq (k3_pay2 x2 (ix2 y r))
      (broadcastTo S512x256 (shapeCast S512x1 (k3_pay7 x2 a) shapeCasts_S512_S512x1) broadcasts_S512x1_S512x256 (ix2 y r)))) neg (a (ix2 y r)) := rfl
  rw [h, col_256, pay2_eq]
  have hc : IntOp.andi (k3_pay6 a (ix2 y r)) (IntOp.cmpi .eq (x2 (ix2 y r)) (k3_pay7 x2 a (ix1 y))) = 1#1
      ↔ (a (ix2 y r) = k3_pay5 a (ix1 y) ∧ x2 (ix2 y r) = k3_pay7 x2 a (ix1 y)) := by
    rw [and_one, pay6_row]; exact and_congr_right fun _ => eqi_one _ _
  refine ⟨fun e1 e2 => ?_, fun e => ?_⟩
  · rw [hc.mpr ⟨e1, e2⟩]; rfl
  · rw [eq_zero_of_ne_one (fun hh => e (hc.mp hh))]; rfl

theorem iv_eq (k : Fin k3_t1_loop.trips) (q : Fin 128) :
    IntOp.cmpi .eq (iota .tc S512x128 32 [1] iota_S512x128_d1_w32 (ix2 (0 : Fin 512) q)) (Scf.iv 0#32 1#32 k) = 1#1 ↔ q.val = k.val := by
  have hk : k.val < 100 := lt_of_lt_of_le k.isLt k3_t1_abs.2.1
  rw [eqi_one]
  have hq := q.isLt
  have h1 : iota .tc S512x128 32 [1] iota_S512x128_d1_w32 (ix2 (0 : Fin 512) q) = BitVec.ofNat 32 q.val :=
    iota_single_apply ..
  have h2 : Scf.iv 0#32 1#32 k.val = BitVec.ofNat 32 k.val := by unfold Scf.iv; simp
  rw [h1, h2]
  constructor
  · intro e
    have := congrArg BitVec.toNat e
    rw [BitVec.toNat_ofNat, BitVec.toNat_ofNat] at this
    omega
  · intro e; rw [e]

theorem pay9_row (k : Fin k3_t1_loop.trips) (a : FVec Ideal S512x256 .f32) (o : FVec Ideal S512x128 .f32) (y : Fin 512) (q : Fin 128) :
    k3_pay9 k a o (ix2 y q) = if q.val = k.val then k3_pay5 a (ix1 y) else o (ix2 y q) := by
  have h : k3_pay9 k a o (ix2 y q) = Scalar.select (IntOp.cmpi .eq (iota .tc S512x128 32 [1] iota_S512x128_d1_w32 (ix2 (0 : Fin 512) q)) (Scf.iv 0#32 1#32 k))
      (broadcastTo S512x128 (shapeCast S512x1 (shapeCast S512x1 (k3_pay5 a) shapeCasts_S512_S512x1) shapeCasts_S512x1_S512x1) broadcasts_S512x1_S512x128 (ix2 y q)) (o (ix2 y q)) := rfl
  rw [h, col_128]
  by_cases e : q.val = k.val
  · rw [(iv_eq k q).mpr e, if_pos e]; rfl
  · rw [eq_zero_of_ne_one (fun hh => e ((iv_eq k q).mp hh)), if_neg e]; rfl

theorem pay10_row (x2 : Vec Ideal S512x256 .i32) (k : Fin k3_t1_loop.trips) (a : FVec Ideal S512x256 .f32) (o : IVec S512x128 32) (y : Fin 512) (q : Fin 128) :
    k3_pay10 x2 k a o (ix2 y q) = if q.val = k.val then k3_pay7 x2 a (ix1 y) else o (ix2 y q) := by
  have h : k3_pay10 x2 k a o (ix2 y q) = Scalar.select (IntOp.cmpi .eq (iota .tc S512x128 32 [1] iota_S512x128_d1_w32 (ix2 (0 : Fin 512) q)) (Scf.iv 0#32 1#32 k))
      (broadcastTo S512x128 (shapeCast S512x1 (shapeCast S512x1 (k3_pay7 x2 a) shapeCasts_S512_S512x1) shapeCasts_S512x1_S512x1) broadcasts_S512x1_S512x128 (ix2 y q)) (o (ix2 y q)) := rfl
  rw [h, col_128]
  by_cases e : q.val = k.val
  · rw [(iv_eq k q).mpr e, if_pos e]; rfl
  · rw [eq_zero_of_ne_one (fun hh => e ((iv_eq k q).mp hh)), if_neg e]; rfl

/-! ## The hundred rounds -/

theorem fold_inv {σ : Type} (P : Nat → σ → Prop) : ∀ (n : Nat) (g : Fin n → σ → σ) (init : σ), P 0 init →
    (∀ (k : Fin n) a, P k.val a → P (k.val + 1) (g k a)) → P n ((List.finRange n).foldl (fun acc k => g k acc) init)
  | 0, _, _, h0, _ => by simpa using h0
  | n + 1, g, init, h0, hs => by
    rw [List.finRange_succ_last, List.foldl_append, List.foldl_map]
    exact hs (Fin.last n) _ (fold_inv P n (fun k => g k.castSucc) init h0 fun k a => hs k.castSucc a)

theorem trips100 : k3_t1_loop.trips = 100 := by decide

variable {M : Nat} {sc : Nat → EReal} {T : EReal} {n : Nat} {col : Nat → Nat}

/-- After `k` rounds, at row `y`. -/
def RInv (M : Nat) (sc : Nat → EReal) (T : EReal) (n : Nat) (col : Nat → Nat) (y : Fin 512) (k : Nat) (a : FVec Ideal S512x256 .f32 × FVec Ideal S512x128 .f32 × IVec S512x128 32) : Prop :=
  ∃ σ : Nat → Nat, Rd M sc T (neg (F := Ideal)) n col k σ (fun r => a.1 (ix2 y r))
    ∧ ∀ q : Fin 128, q.val < k → a.2.1 (ix2 y q) = sc (σ q.val) ∧ a.2.2 (ix2 y q) = BitVec.ofNat 32 (σ q.val)

theorem rounds_row (x1 : Vec Ideal S512x256 .f32) (x2 : Vec Ideal S512x256 .i32) (y : Fin 512)
    (h : RowSel M sc T (neg (F := Ideal)) n col (fun r => x1 (ix2 y r)) (fun r => x2 (ix2 y r))) (hM : M ≤ 1073741824) :
    ∃ (σ : Nat → Nat) (s : Fin 256 → EReal), Rd M sc T (neg (F := Ideal)) n col 100 σ s
      ∧ ∀ q : Fin 100, outS x1 x2 (ix2 y q) = sc (σ q.val) ∧ outI x1 x2 (ix2 y q) = BitVec.ofNat 32 (σ q.val) := by
  have hinv : RInv M sc T n col y k3_t1_loop.trips (rnds x1 x2) := by
    unfold rnds
    rw [Scf.fold_eq, pay1_eq]
    refine fold_inv (RInv M sc T n col y) k3_t1_loop.trips (rnd x2) (x1, k3_pay3 (F := Ideal), k3_pay4) ⟨fun _ => 0, Rd.zero h _, fun q hq => absurd hq (Nat.not_lt_zero _)⟩ ?_
    rintro k a ⟨σ, hR, ho⟩
    have hk : k.val < n := lt_of_lt_of_le (lt_of_lt_of_le k.isLt k3_t1_abs.2.1) h.big
    obtain ⟨c, e1, e2, hR'⟩ := Rd.step h hM hk hR bot_le' (pay5_row a.1 y).2 (pay5_row a.1 y).1 (t := fun r => ties x2 a.1 (ix2 y r))
      (fun r => (ties_row x2 a.1 y r).1) (fun r => (ties_row x2 a.1 y r).2) (pay7_row x2 a.1 y).2 (pay7_row x2 a.1 y).1
      (s' := fun r => k3_pay8 x2 a.1 (ix2 y r)) (fun r => (pay8_row x2 a.1 y r).1) (fun r => (pay8_row x2 a.1 y r).2)
    refine ⟨Function.update σ k.val c, hR', fun q hq => ?_⟩
    show k3_pay9 k a.1 a.2.1 (ix2 y q) = _ ∧ k3_pay10 x2 k a.1 a.2.2 (ix2 y q) = _
    rw [pay9_row, pay10_row]
    by_cases e : q.val = k.val
    · rw [if_pos e, if_pos e, e, Function.update_self]; exact ⟨e1, e2⟩
    · rw [if_neg e, if_neg e, Function.update_of_ne e]; exact ho q (by omega)
  rw [trips100] at hinv
  obtain ⟨σ, hR, ho⟩ := hinv
  refine ⟨σ, _, hR, fun q => ?_⟩
  have hq := ho ⟨q.val, by have := q.isLt; omega⟩ q.isLt
  have e : ∀ {β : Type} (z : S512x128.Idx → β), extractStridedSlice S512x100 ![0, 0] z slices_S512x128_o0_0_S512x100 (ix2 y q) = z (ix2 y ⟨q.val, by have := q.isLt; omega⟩) := fun z =>
    extractStridedSlice_apply _ _ _ _ _ (fun a => match a with | 0 => by show y.val = 0 + y.val; omega | 1 => by show q.val = 0 + q.val; omega)
  unfold outS outI k3_pay11 k3_pay12
  exact ⟨(e _).trans hq.1, (e _).trans hq.2⟩

end Cert.Sel
-- ==== Proof.Pick.lean ====
/-
  A row of the subcores' result lists the row's hits, once each, when there is room for them: from what the three loops
  compute, and the bounds on the numbers of hits.
-/
module

public import proofs.«01_k».proof.Proof.Inv
public import proofs.«01_k».proof.Proof.Top

@[expose] public section

noncomputable section

namespace Cert.Sel

open Cert.KernelIdeal Cert.KernelIdeal.Gen
open Idealize.ShloMosaic hiding ix1 ix2 eq_ix2
open Idealize.ShloMosaic.ValueIdx

/-! ## Counting -/

/-- Every rank below the count is some hit's. -/
theorem rank_surj {H : Nat → Prop} [DecidablePred H] : ∀ {n k : Nat}, k < Nat.count H n → ∃ a < n, H a ∧ Nat.count H a = k
  | 0, k, h => absurd h (by simp)
  | n + 1, k, h => by
    by_cases hn : k < Nat.count H n
    · obtain ⟨a, ha, h1, h2⟩ := rank_surj hn
      exact ⟨a, by omega, h1, h2⟩
    · rw [Nat.count_succ] at h
      by_cases hp : H n
      · rw [if_pos hp] at h; exact ⟨n, by omega, hp, by omega⟩
      · rw [if_neg hp] at h; omega

theorem rank_mono {H : Nat → Prop} [DecidablePred H] {a b : Nat} (ha : H a) (hb : H b) (h : Nat.count H a < Nat.count H b) : a < b := by
  by_contra hc
  have := Nat.count_monotone H (not_lt.mp hc)
  omega

/-- An injection of hits into hits bounds the count. -/
theorem count_le_of_inj {H G : Nat → Prop} [DecidablePred H] [DecidablePred G] {n m : Nat} (f : Nat → Nat) (hf : ∀ a < n, H a → f a < m ∧ G (f a))
    (hi : ∀ a < n, H a → ∀ b < n, H b → f a = f b → a = b) : Nat.count H n ≤ Nat.count G m := by
  rw [Nat.count_eq_card_filter_range, Nat.count_eq_card_filter_range]
  refine Finset.card_le_card_of_injOn f (fun a ha => ?_) (fun a ha b hb e => ?_)
  · have := Finset.mem_filter.mp ha
    have h2 := hf a (Finset.mem_range.mp this.1) this.2
    exact Finset.mem_coe.mpr (Finset.mem_filter.mpr ⟨Finset.mem_range.mpr h2.1, h2.2⟩)
  · have h1 := Finset.mem_filter.mp (Finset.mem_coe.mp ha)
    have h2 := Finset.mem_filter.mp (Finset.mem_coe.mp hb)
    exact hi a (Finset.mem_range.mp h1.1) h1.2 b (Finset.mem_range.mp h2.1) h2.2 e

/-! ## The count of listed blocks, read off its last lane -/

theorem run_max_const' {V : Nat → BitVec 32} {c : BitVec 32} : ∀ {n : Nat}, (∀ k ≤ n, V k = c) → run .max V n = c
  | 0, h => h 0 le_rfl
  | n + 1, h => by
    rw [run_succ, run_max_const' fun k hk => h k (by omega), h (n + 1) le_rfl]
    have := run_max_const c 1
    rwa [run_succ, run_zero] at this

theorem xor_twice (c k : BitVec 32) : (c ^^^ k) ^^^ k = c := by rw [BitVec.xor_assoc, BitVec.xor_self, BitVec.xor_zero]

theorem lmax_const {p : IVec S16 32} {c : BitVec 32} (h : ∀ x, p x = c) : lmax p = c := by
  unfold lmax
  refine (last16 _).trans ?_
  show scan .max (xori p (broadcast S16 0x80000000#32)) lane15 ^^^ 0x80000000#32 = c
  rw [scan_run, run_max_const' (c := c ^^^ 0x80000000#32), xor_twice]
  intro k hk
  have hk16 : k < 16 := lt_of_le_of_lt hk (by decide)
  unfold atL
  rw [dif_pos hk16]
  show p _ ^^^ 0x80000000#32 = _
  rw [h]

/-! ## One row -/

variable {E : Env Ideal} {R : Nat}

theorem oge_iff (p q : EReal) : (FloatOps.cmpf (F := Ideal) (φ := .f32) .oge p q = 1#1) ↔ q ≤ p := by
  show BitVec.ofBool (decide (q ≤ p)) = 1#1 ↔ _
  by_cases h : q ≤ p <;> simp [h]

/-- The row's score at position `c`. -/
def rowSc (E : Env Ideal) (R c : Nat) : EReal := E.sc (R * 784 + c / 128) (c % 128)

/-- There is room for the row's hits. -/
structure Room (E : Env Ideal) (R : Nat) : Prop where
  listed : ∀ b < 784, ∀ l < 128, E.tau R ≤ E.sc (R * 784 + b) l → E.tau R ≤ E.bm R b
  big : ∀ [DecidablePred fun c => E.tau R ≤ rowSc E R c], 100 ≤ Nat.count (fun c => E.tau R ≤ rowSc E R c) 100352
  small : ∀ [DecidablePred fun c => E.tau R ≤ rowSc E R c], Nat.count (fun c => E.tau R ≤ rowSc E R c) 100352 ≤ 256
  blocks : Nat.count (hitB E R) 784 ≤ 128
  lanes : ∀ l < 16, ∀ [DecidablePred fun u => E.tau R ≤ rowSc E R (16 * u + l)], Nat.count (fun u => E.tau R ≤ rowSc E R (16 * u + l)) 6272 ≤ 32
  above : (neg (F := Ideal) : EReal) < E.tau R

/-- The listed blocks in order: entry `k` is the hit block of rank `k`. -/
theorem ent_rank {ptr : IVec S16 32} {row : S128.Idx → BitVec 32} (h2 : I2 E R 784 ptr row) (hb : Nat.count (hitB E R) 784 ≤ 128) {k : Nat}
    (hk : k < Nat.count (hitB E R) 784) : ent row k < 784 ∧ hitB E R (ent row k) ∧ Nat.count (hitB E R) (ent row k) = k := by
  obtain ⟨b, hb1, hb2, hb3⟩ := rank_surj hk
  have : ent row k = b := by
    unfold ent
    rw [dif_pos (show k < 128 by omega)]
    exact h2.at' hb b hb1 hb2 _ hb3.symm
  rw [this]; exact ⟨hb1, hb2, hb3⟩

theorem ent_of_hit {ptr : IVec S16 32} {row : S128.Idx → BitVec 32} (h2 : I2 E R 784 ptr row) (hb : Nat.count (hitB E R) 784 ≤ 128) {b : Nat}
    (h : b < 784) (hh : hitB E R b) : Nat.count (hitB E R) b < Nat.count (hitB E R) 784 ∧ ent row (Nat.count (hitB E R) b) = b := by
  have hlt := rank_lt hh h
  refine ⟨hlt, ?_⟩
  unfold ent
  rw [dif_pos (show Nat.count (hitB E R) b < 128 by omega)]
  exact h2.at' hb b h hh _ rfl

section row
variable {ptr : IVec S16 32} {row : S128.Idx → BitVec 32} {cnt : IVec S16 32} {v13 : S512.Idx → Ideal .f32} {v14 : S512.Idx → BitVec 32}

/-- The position of score `t` of lane `l`. -/
def posn (row : S128.Idx → BitVec 32) (l t : Nat) : Nat := ent row (t / 8) * 128 + 16 * (t % 8) + l

theorem posn_sc {l t : Nat} (hl : l < 16) : rowSc E R (posn row l t) = gat E R row l t := by
  unfold rowSc posn gat
  have h1 : (ent row (t / 8) * 128 + 16 * (t % 8) + l) / 128 = ent row (t / 8) := by omega
  have h2 : (ent row (t / 8) * 128 + 16 * (t % 8) + l) % 128 = 16 * (t % 8) + l := by omega
  rw [h1, h2]

theorem hitS_iff {l t : Nat} (hl : l < 16) : hitS E R row l t ↔ E.tau R ≤ rowSc E R (posn row l t) := by
  rw [posn_sc hl]; exact oge_iff _ _

theorem posn_inj (h2 : I2 E R 784 ptr row) (hb : Nat.count (hitB E R) 784 ≤ 128) {l l' t t' : Nat} (hl : l < 16) (hl' : l' < 16)
    (ht : t < 8 * Nat.count (hitB E R) 784) (ht' : t' < 8 * Nat.count (hitB E R) 784) (e : posn row l t = posn row l' t') : l = l' ∧ t = t' := by
  unfold posn at e
  have e1 : ent row (t / 8) = ent row (t' / 8) := by omega
  have e2 : t % 8 = t' % 8 := by omega
  have e3 : l = l' := by omega
  have k1 := (ent_rank h2 hb (show t / 8 < _ by omega)).2.2
  have k2 := (ent_rank h2 hb (show t' / 8 < _ by omega)).2.2
  rw [e1, k2] at k1
  exact ⟨e3, by omega⟩

theorem posn_lt (h2 : I2 E R 784 ptr row) (hb : Nat.count (hitB E R) 784 ≤ 128) {l t : Nat} (hl : l < 16)
    (ht : t < 8 * Nat.count (hitB E R) 784) : posn row l t < 100352 := by
  have := (ent_rank h2 hb (show t / 8 < _ by omega)).1
  unfold posn; omega

theorem lane_room (hr : Room E R) (h2 : I2 E R 784 ptr row) {l : Nat} (hl : l < 16) :
    Nat.count (hitS E R row l) (8 * Nat.count (hitB E R) 784) ≤ 32 := by
  classical
  refine le_trans (count_le_of_inj (G := fun u => E.tau R ≤ rowSc E R (16 * u + l)) (m := 6272) (fun t => 8 * ent row (t / 8) + t % 8) (fun t ht hh => ?_) (fun t ht _ t' ht' _ e => ?_)) (hr.lanes l hl)
  · have h1 := (ent_rank h2 hr.blocks (show t / 8 < _ by omega)).1
    refine ⟨by omega, ?_⟩
    have := (hitS_iff hl).mp hh
    rwa [show posn row l t = 16 * (8 * ent row (t / 8) + t % 8) + l by unfold posn; omega] at this
  · refine (posn_inj h2 hr.blocks hl hl ht ht' ?_).2
    unfold posn; omega

theorem hitF_iff (y : S512.Idx) : hitF v13 (y 0).val ↔ ¬ v13 y = neg (F := Ideal) := by
  constructor
  · rintro ⟨h, hh⟩ e
    refine hh ((oeq_iff _ _).mpr (Eq.trans (congrArg v13 (funext fun a => ?_)) e))
    match a with
    | 0 => rfl
  · intro hne
    refine ⟨(y 0).isLt, fun hh => hne (Eq.trans (congrArg v13 (funext fun a => ?_)) ((oeq_iff _ _).mp hh))⟩
    match a with
    | 0 => rfl

/-- The staging buffer: place `m` is filled exactly by the hits, each with its score and its position. -/
theorem stage_spec (hr : Room E R) (h2 : I2 E R 784 ptr row) (h6 : I6 E R row (8 * Nat.count (hitB E R) 784) cnt v13 v14) :
    (∀ y : S512.Idx, hitF v13 (y 0).val → ∃ c < 100352, v14 y = BitVec.ofNat 32 c ∧ v13 y = rowSc E R c ∧ E.tau R ≤ rowSc E R c
        ∧ ∃ l < 16, ∃ t < 8 * Nat.count (hitB E R) 784, hitS E R row l t ∧ c = posn row l t ∧ (y 0).val = 32 * l + Nat.count (hitS E R row l) t)
      ∧ ∀ c < 100352, E.tau R ≤ rowSc E R c → ∃ y : S512.Idx, hitF v13 (y 0).val ∧ v14 y = BitVec.ofNat 32 c := by
  have hlane : ∀ l < 16, Nat.count (hitS E R row l) (8 * Nat.count (hitB E R) 784) ≤ 32 := fun l hl => lane_room hr h2 hl
  refine ⟨fun y hF => ?_, fun c hc hT => ?_⟩
  · have hy : (y 0).val < 512 := (y 0).isLt
    have hF := (hitF_iff y).mp hF
    have hl : (y 0).val / 32 < 16 := by omega
    by_cases hq : (y 0).val % 32 < Nat.count (hitS E R row ((y 0).val / 32)) (8 * Nat.count (hitB E R) 784)
    · obtain ⟨t, ht, hh, hct⟩ := rank_surj hq
      have hyv : (y 0).val = 32 * ((y 0).val / 32) + Nat.count (hitS E R row ((y 0).val / 32)) t := by omega
      obtain ⟨e1, e2⟩ := h6.at' hlane _ hl t ht hh y hyv
      exact ⟨posn row ((y 0).val / 32) t, posn_lt h2 hr.blocks hl ht, e2, e1.trans (posn_sc hl).symm, (hitS_iff hl).mp hh, _, hl, t, ht, hh, rfl, hyv⟩
    · exact absurd (h6.off hlane _ hl ((y 0).val % 32) (by omega) (not_lt.mp hq) y (by omega)) hF
  · have hB : hitB E R (c / 128) := (oge_iff _ _).mpr (hr.listed (c / 128) (by omega) (c % 128) (by omega) hT)
    obtain ⟨hk, hent⟩ := ent_of_hit h2 hr.blocks (show c / 128 < 784 by omega) hB
    have hl : c % 16 < 16 := by omega
    have ht : 8 * Nat.count (hitB E R) (c / 128) + c % 128 / 16 < 8 * Nat.count (hitB E R) 784 := by omega
    have hpos : posn row (c % 16) (8 * Nat.count (hitB E R) (c / 128) + c % 128 / 16) = c := by
      unfold posn
      rw [show (8 * Nat.count (hitB E R) (c / 128) + c % 128 / 16) / 8 = Nat.count (hitB E R) (c / 128) by omega, hent]
      omega
    have hh : hitS E R row (c % 16) (8 * Nat.count (hitB E R) (c / 128) + c % 128 / 16) := by rw [hitS_iff hl, hpos]; exact hT
    generalize 8 * Nat.count (hitB E R) (c / 128) + c % 128 / 16 = t at ht hpos hh
    have hlt := rank_lt hh ht
    have := hlane _ hl
    have hm : 32 * (c % 16) + Nat.count (hitS E R row (c % 16)) t < 512 := by omega
    obtain ⟨e1, e2⟩ := h6.at' hlane _ hl t ht hh (ix1 ⟨_, hm⟩) rfl
    refine ⟨ix1 ⟨_, hm⟩, (hitF_iff (ix1 ⟨_, hm⟩)).mpr ?_, e2.trans (congrArg _ hpos)⟩
    rw [e1, ← posn_sc hl, hpos]
    exact (lt_of_lt_of_le hr.above hT).ne'

end row

/-- The row of the result, when there is room. -/
theorem row_sel (hr : Room E R) {j : Nat} {v11 : S16x256.Idx → Ideal .f32} {v12 : S16x256.Idx → BitVec 32} (h : RowOK E R j v11 v12) (hj : j < 16) :
    ∃ n col, RowSel 100352 (rowSc E R) (E.tau R) (neg (F := Ideal)) n col (fun r => v11 (ix2 ⟨j, hj⟩ r)) (fun r => v12 (ix2 ⟨j, hj⟩ r)) := by
  classical
  obtain ⟨ptr, row, cnt, v13, v14, ptr', h2, h6, h8⟩ := h
  have hnb := hr.blocks
  have htr : (k2_t6_loop (lmax ptr)).trips = Nat.count (hitB E R) 784 := by
    rw [t6_trips, lmax_const h2.cnt, toInt_nat (by omega)]; omega
  rw [htr] at h6
  obtain ⟨hs1, hs2⟩ := stage_spec hr h2 h6
  have hcol : ∀ m, ∃ c, ∀ y : S512.Idx, (y 0).val = m → hitF v13 m → c < 100352 ∧ v14 y = BitVec.ofNat 32 c ∧ v13 y = rowSc E R c ∧ E.tau R ≤ rowSc E R c
        ∧ ∃ l < 16, ∃ t < 8 * Nat.count (hitB E R) 784, hitS E R row l t ∧ c = posn row l t ∧ m = 32 * l + Nat.count (hitS E R row l) t := by
    intro m
    by_cases hm : hitF v13 m
    · obtain ⟨hm', -⟩ := id hm
      obtain ⟨c, hc⟩ := hs1 (ix1 ⟨m, hm'⟩) hm
      refine ⟨c, fun y hy _ => ?_⟩
      have : y = ix1 ⟨m, hm'⟩ := by funext a; match a with | 0 => exact Fin.ext hy
      subst this; exact hc
    · exact ⟨0, fun _ _ hh => absurd hh hm⟩
  choose cm hcm using hcol
  have hcm' : ∀ m, hitF v13 m → ∃ y : S512.Idx, (y 0).val = m := fun m ⟨hm, _⟩ => ⟨ix1 ⟨m, hm⟩, rfl⟩
  have cm_inj : ∀ m, hitF v13 m → ∀ m', hitF v13 m' → cm m = cm m' → m = m' := by
    intro m hm m' hm' e
    obtain ⟨y, hy⟩ := hcm' m hm
    obtain ⟨y', hy'⟩ := hcm' m' hm'
    obtain ⟨-, -, -, -, l, hl, t, ht, -, e1, e2⟩ := hcm m y hy hm
    obtain ⟨-, -, -, -, l', hl', t', ht', -, e1', e2'⟩ := hcm m' y' hy' hm'
    rw [e1, e1'] at e
    obtain ⟨rfl, rfl⟩ := posn_inj h2 hnb hl hl' ht ht' e
    rw [e2, e2']
  have cm_all : ∀ c < 100352, E.tau R ≤ rowSc E R c → ∃ m < 512, hitF v13 m ∧ cm m = c := by
    intro c hc hT
    obtain ⟨y, hF, e⟩ := hs2 c hc hT
    refine ⟨(y 0).val, (y 0).isLt, hF, ?_⟩
    obtain ⟨h1, h2', -⟩ := hcm _ y rfl hF
    rw [e] at h2'
    have := congrArg BitVec.toNat h2'
    rw [BitVec.toNat_ofNat, BitVec.toNat_ofNat] at this
    omega
  have hn : Nat.count (hitF v13) 512 = Nat.count (fun c => E.tau R ≤ rowSc E R c) 100352 := by
    apply le_antisymm
    · refine count_le_of_inj cm (fun m hm hF => ?_) (fun m _ hF m' _ hF' e => cm_inj m hF m' hF' e)
      obtain ⟨y, hy⟩ := hcm' m hF
      obtain ⟨h1, -, -, h4, -⟩ := hcm m y hy hF
      exact ⟨h1, h4⟩
    · have hinv : ∀ c, ∃ m, c < 100352 → E.tau R ≤ rowSc E R c → m < 512 ∧ hitF v13 m ∧ cm m = c := by
        intro c
        by_cases hc : c < 100352 ∧ E.tau R ≤ rowSc E R c
        · obtain ⟨m, h⟩ := cm_all c hc.1 hc.2
          exact ⟨m, fun _ _ => h⟩
        · exact ⟨0, fun a b => absurd ⟨a, b⟩ hc⟩
      choose mi hmi using hinv
      refine count_le_of_inj mi (fun c hc hT => ⟨(hmi c hc hT).1, (hmi c hc hT).2.1⟩) (fun c hc hT c' hc' hT' e => ?_)
      rw [← (hmi c hc hT).2.2, ← (hmi c' hc' hT').2.2, e]
  have hbig := hr.big
  have hsmall := hr.small
  rw [← hn] at hbig hsmall
  have hrk : ∀ r, ∃ m, r < Nat.count (hitF v13) 512 → m < 512 ∧ hitF v13 m ∧ Nat.count (hitF v13) m = r := by
    intro r
    by_cases hr' : r < Nat.count (hitF v13) 512
    · obtain ⟨m, h⟩ := rank_surj hr'
      exact ⟨m, fun _ => h⟩
    · exact ⟨0, fun h => absurd h hr'⟩
  choose rk hrk using hrk
  have hat : ∀ r : Fin 256, r.val < Nat.count (hitF v13) 512 → v11 (ix2 ⟨j, hj⟩ r) = rowSc E R (cm (rk r)) ∧ v12 (ix2 ⟨j, hj⟩ r) = BitVec.ofNat 32 (cm (rk r)) := by
    intro r hlt
    obtain ⟨h1, h3, h4⟩ := hrk r hlt
    obtain ⟨e1, e2⟩ := h8.at' hsmall (ix1 ⟨rk r, h1⟩) h1 h3 (ix2 ⟨j, hj⟩ r) rfl h4.symm
    obtain ⟨-, g1, g2, -⟩ := hcm (rk r) (ix1 ⟨rk r, h1⟩) rfl h3
    exact ⟨e1.trans g2, e2.trans g1⟩
  have hprop : ∀ r < Nat.count (hitF v13) 512, cm (rk r) < 100352 ∧ E.tau R ≤ rowSc E R (cm (rk r)) := by
    intro r hlt
    obtain ⟨h1, h3, h4⟩ := hrk r hlt
    obtain ⟨g0, -, -, g3, -⟩ := hcm (rk r) (ix1 ⟨rk r, h1⟩) rfl h3
    exact ⟨g0, g3⟩
  refine ⟨Nat.count (hitF v13) 512, fun r => cm (rk r), ?_⟩
  exact {
    big := hbig
    small := hsmall
    val := fun r hlt => (hat r hlt).1
    num := fun r hlt => (hat r hlt).2
    lt := fun r hlt => (hprop r hlt).1
    ge := fun r hlt => (hprop r hlt).2
    inj := fun r hlt q hlt' e => by
      have := cm_inj _ (hrk r hlt).2.1 _ (hrk q hlt').2.1 e
      rw [← (hrk r hlt).2.2, ← (hrk q hlt').2.2, this]
    all := fun c hc hT => by
      obtain ⟨m, hm, hF, e⟩ := cm_all c hc hT
      have hlt := rank_lt hF hm
      refine ⟨_, hlt, ?_⟩
      have := rank_inj (hrk _ hlt).2.1 hF (hrk _ hlt).2.2
      show cm (rk _) = c
      rw [this, e]
    off := fun r hle => h8.off hsmall (ix2 ⟨j, hj⟩ r) rfl hle
    gt := hr.above }

end Cert.Sel
-- ==== Proof.Halve.lean ====
/-
  The search on one row: the kernel's halvings and the precondition's are the same steps, and the row keeps a hundred
  block maxima at or above the lower end.
-/
module

public import proofs.«01_k».proof.Proof.Search
public import proofs.«01_k».proof.Proof.Raw
public import proofs.«01_k».proof.Proof.Pick
public import proofs.«01_k».proof.Proof.TauBody
public import Idealize.ShloMosaic.Lib.KernelVsHost

@[expose] public section

noncomputable section

namespace Cert.Sel

open Cert.Pre_room Cert.Pre_room.Gen
open Idealize.ShloMosaic hiding ix1 ix2 ix3 eq_ix2
open Idealize.ShloMosaic.ValueIdx

/-! ## Counts as printed sums -/

theorem card_fin_count (n : Nat) (H : Nat → Prop) [DecidablePred H] : (Finset.univ.filter fun k : Fin n => H k.val).card = Nat.count H n := by
  rw [Nat.count_eq_card_filter_range, ← Finset.card_map Fin.valEmbedding]
  congr 1
  ext x
  simp only [Finset.mem_map, Finset.mem_filter, Finset.mem_univ, true_and, Fin.valEmbedding_apply, Finset.mem_range]
  constructor
  · rintro ⟨k, hk, rfl⟩; exact ⟨k.isLt, hk⟩
  · rintro ⟨hx, hH⟩; exact ⟨⟨x, hx⟩, hH, rfl⟩

theorem reduce_count {s t : Shape} {a : Fin s.rank} (p : IVec s 1) (h' : s.ReducesTo [a] t) (h : s.Reduces [a] t) (j : t.Idx) (H : Nat → Prop) [DecidablePred H]
    (hp : ∀ k : Fin (s.size a), p (h.lift j k) = 1#1 ↔ H k.val) :
    Host.reduce IntOp.addi (extui 32 p natLt_1_32) (constantI S_ 32 0#32) h' h_S_ j = BitVec.ofNat 32 (Nat.count H (s.size a)) := by
  classical
  rw [Host.reduce_eq_fold_single IntOp.addi _ _ h' h h_S_ j]
  refine (IndicatorCount.fold_addi_setWidth_eq_card (w := 32) (fun k => p (h.lift j k)) Finset.univ).trans ?_
  rw [← card_fin_count]
  refine congrArg (BitVec.ofNat 32) (congrArg Finset.card (Finset.filter_congr fun k _ => hp k))

theorem sge_iff {n c : Nat} (hn : n < 2 ^ 31) (hc : c < 2 ^ 31) : IntOp.cmpi .sge (BitVec.ofNat 32 n) (BitVec.ofNat 32 c) = 1#1 ↔ c ≤ n := by
  show BitVec.ofBool ((BitVec.ofNat 32 c).sle (BitVec.ofNat 32 n)) = 1#1 ↔ _
  rw [BitVec.sle, toInt_nat hn, toInt_nat hc]
  by_cases h : c ≤ n <;> simp [h]

theorem sle_iff {n c : Nat} (hn : n < 2 ^ 31) (hc : c < 2 ^ 31) : IntOp.cmpi .sle (BitVec.ofNat 32 n) (BitVec.ofNat 32 c) = 1#1 ↔ n ≤ c := by
  show BitVec.ofBool ((BitVec.ofNat 32 n).sle (BitVec.ofNat 32 c)) = 1#1 ↔ _
  rw [BitVec.sle, toInt_nat hn, toInt_nat hc]
  by_cases h : n ≤ c <;> simp [h]

theorem cmpi_bc {s : Shape} (q : CmpIPredicate) (x y : IVec s 32) (z : BitVec 32) (j : s.Idx) (hy : y j = z) : cmpi q x y j = IntOp.cmpi q (x j) z := hy ▸ rfl

theorem min_fold {s t : Shape} {a : Fin s.rank} (x : FVec Ideal s .f32) (b : BitVec 32) (h' : s.ReducesTo [a] t) (h : s.Reduces [a] t) (j : t.Idx) (g : Nat → EReal)
    (hx : ∀ k : Fin (s.size a), x (h.lift j k) = g k.val) :
    Host.reduce FloatOps.minimumf x (constant S_ .f32 b) h' h_S_ j
      = (Finset.univ : Finset (Fin (s.size a))).fold (min : EReal → EReal → EReal) (FloatOps.ofBits (F := Ideal) .f32 b) fun k => g k.val := by
  rw [Host.reduce_eq_fold_single FloatOps.minimumf _ _ h' h h_S_ j]
  exact Finset.fold_congr (op := (min : EReal → EReal → EReal)) fun k _ => hx k
theorem max_fold {s t : Shape} {a : Fin s.rank} (x : FVec Ideal s .f32) (b : BitVec 32) (h' : s.ReducesTo [a] t) (h : s.Reduces [a] t) (j : t.Idx) (g : Nat → EReal)
    (hx : ∀ k : Fin (s.size a), x (h.lift j k) = g k.val) :
    Host.reduce FloatOps.maximumf x (constant S_ .f32 b) h' h_S_ j
      = (Finset.univ : Finset (Fin (s.size a))).fold (max : EReal → EReal → EReal) (FloatOps.ofBits (F := Ideal) .f32 b) fun k => g k.val := by
  rw [Host.reduce_eq_fold_single FloatOps.maximumf _ _ h' h h_S_ j]
  exact Finset.fold_congr (op := (max : EReal → EReal → EReal)) fun k _ => hx k
theorem sum_host {s t : Shape} {axes : List (Fin s.rank)} (x : IVec s 32) (h' : s.ReducesTo axes t) (h : s.Reduces axes t) (hacc : 0#32 = IKind.add.neutral) :
    multiReductionI .add axes t x 0#32 h hacc = Host.reduce IntOp.addi x (constantI S_ 32 0#32) h' h_S_ := by
  funext j
  rw [Host.reduce_eq_foldl, multiReductionI_eq_reduceFold, reduceFold_eq_foldl]
  rfl

theorem addf_at {s : Shape} (x y : FVec Ideal s .f32) (i : s.Idx) : addf x y i = FloatOps.addf (F := Ideal) (φ := .f32) (x i) (y i) := rfl
theorem mulf_at {s : Shape} (x y : FVec Ideal s .f32) (i : s.Idx) : mulf x y i = FloatOps.mulf (F := Ideal) (φ := .f32) (x i) (y i) := rfl
theorem bcc_at {t : Shape} (h : S_.BroadcastsInDim t ![]) (b : BitVec 32) (i : t.Idx) : broadcastInDim t ![] h (constant (F := Ideal) S_ .f32 b) i = FloatOps.ofBits (F := Ideal) .f32 b := rfl
theorem bc_at {t : Shape} (b : EReal) (i : t.Idx) : (broadcast t b : t.Idx → EReal) i = b := rfl
theorem select_at {s : Shape} {α : Type} (c : IVec s 1) (x y : s.Idx → α) (i : s.Idx) : select c x y i = if c i = 1#1 then x i else y i := rfl

theorem red2 : S4096x784.Reduces [1] S4096 := by decide
theorem lift2 (R : Fin 4096) (k : Fin 784) : red2.lift (ix1 R) k = ix2 R k := by
  funext a
  match a with
  | 0 => rfl
  | 1 => rfl

/-! ## The row's steps -/

abbrev bits (b : BitVec 32) : EReal := FloatOps.ofBits (F := Ideal) .f32 b

open Classical in
/-- How many block maxima are at or above `x`. -/
def rcount (m : Nat → EReal) (x : EReal) : Nat := Nat.count (fun b => x ≤ m b) 784

theorem rcount_lt (m : Nat → EReal) (x : EReal) : rcount m x < 2 ^ 31 := lt_of_le_of_lt (Nat.count_le _) (by norm_num)

def rmid (s : EReal × EReal) : EReal := FloatOps.mulf (F := Ideal) (φ := .f32) (bits 0x3F000000#32) (FloatOps.addf (F := Ideal) (φ := .f32) s.1 s.2)

open Classical in
def rstep (m : Nat → EReal) (s : EReal × EReal) : EReal × EReal := if 100 ≤ rcount m (rmid s) then (rmid s, s.2) else (s.1, rmid s)

def rsteps (m : Nat → EReal) (s : EReal × EReal) : Nat → EReal × EReal
  | 0 => s
  | n + 1 => rstep m (rsteps m s n)

def rlow (m : Nat → EReal) : EReal := (Finset.univ : Finset (Fin 784)).fold (min : EReal → EReal → EReal) (bits 0x7F800000#32) fun k => if k.val < 782 then m k.val else bits 0x7F61B1E6#32
def rtop (m : Nat → EReal) : EReal := (Finset.univ : Finset (Fin 784)).fold (max : EReal → EReal → EReal) (bits 0xFF800000#32) fun k => m k.val
def rinit (m : Nat → EReal) : EReal × EReal := (rlow m, FloatOps.addf (F := Ideal) (φ := .f32) (rtop m) (bits 0x3F800000#32))

/-- At least a hundred block maxima are at or above the lower end, at every step. -/
theorem rinit_count (m : Nat → EReal) : 100 ≤ rcount m (rinit m).1 := by
  classical
  have h : ∀ b < 782, (rinit m).1 ≤ m b := fun b hb => by
    show rlow m ≤ m b
    unfold rlow
    exact (Finset.fold_min_le (m b)).mpr (.inr ⟨⟨b, by omega⟩, Finset.mem_univ _, le_of_eq (if_pos hb)⟩)
  have h1 : Nat.count (fun b => (rinit m).1 ≤ m b) 782 = 782 := Nat.count_iff_forall.mpr fun {b} hb => h b hb
  have h2 : Nat.count (fun b => (rinit m).1 ≤ m b) 782 ≤ Nat.count (fun b => (rinit m).1 ≤ m b) 784 := Nat.count_monotone _ (by norm_num)
  unfold rcount
  refine le_trans ?_ (le_of_eq_of_le (by congr!) h2)
  omega

theorem rstep_count (m : Nat → EReal) (s : EReal × EReal) (h : 100 ≤ rcount m s.1) : 100 ≤ rcount m (rstep m s).1 := by
  classical
  unfold rstep
  split
  · assumption
  · exact h

theorem rsteps_count (m : Nat → EReal) (s : EReal × EReal) (h : 100 ≤ rcount m s.1) (n : Nat) : 100 ≤ rcount m (rsteps m s n).1 := by
  induction n with
  | zero => exact h
  | succ n ih => exact rstep_count m _ ih

/-! ## The precondition's steps, on a row -/

section pre
variable (v4 : FVec Ideal S4096x784 .f32) (m : Nat → EReal) (R : Fin 4096) (hm : ∀ b : Fin 784, v4 (ix2 R b) = m b.val)

abbrev rowOf (s : HS Ideal) (R : Fin 4096) : EReal × EReal := (s.1 (ix1 R), s.2 (ix1 R))

theorem kMid_at (s : HS Ideal) : kMid s (ix1 R) = rmid (rowOf s R) := by
  unfold kMid kAdd rmid
  rw [mulf_at, addf_at, bcc_at]

include hm in
theorem kCmp_at (s : HS Ideal) (b : Fin 784) : kCmp v4 s (ix2 R b) = 1#1 ↔ rmid (rowOf s R) ≤ m b.val := by
  have e : kBc s (ix2 R b) = kMid s (ix1 R) :=
    (broadcastInDim_apply _ _ _ _ (ix2 R 0) (fun a => match a with | 0 => rfl | 1 => rfl)).trans
      (broadcastInDim_apply _ _ _ _ (ix1 R) (fun a => match a with | 0 => rfl))
  show FloatOps.cmpf (F := Ideal) (φ := .f32) .oge (v4 (ix2 R b)) (kBc s (ix2 R b)) = 1#1 ↔ _
  rw [e, kMid_at, oge_iff, hm]

include hm in
theorem kGe_at (s : HS Ideal) : kGe v4 s (ix1 R) = 1#1 ↔ 100 ≤ rcount m (rmid (rowOf s R)) := by
  classical
  have e : kCnt v4 s (ix1 R) = BitVec.ofNat 32 (rcount m (rmid (rowOf s R))) :=
    reduce_count (kCmp v4 s) reducesTo_S4096x784_S4096_d1 red2 (ix1 R) _ fun k =>
      (iff_of_eq (congrArg (fun i => kCmp v4 s i = 1#1) (lift2 R k))).trans (kCmp_at v4 m R hm s k)
  have e2 : kGe v4 s (ix1 R) = IntOp.cmpi .sge (kCnt v4 s (ix1 R)) (BitVec.ofNat 32 100) := by
    unfold kGe
    exact cmpi_bc _ _ _ _ _ rfl
  rw [e2, e, sge_iff (rcount_lt m _) (by norm_num)]

include hm in
theorem hstep_at (s : HS Ideal) : rowOf (hstep v4 s) R = rstep m (rowOf s R) := by
  classical
  have e1 : (hstep v4 s).1 = select (kGe v4 s) (kMid s) s.1 := by
    unfold hstep fn_where_0; dsimp only
  have e2 : (hstep v4 s).2 = select (kGe v4 s) s.2 (kMid s) := by
    unfold hstep fn_where_0; dsimp only
  show ((hstep v4 s).1 (ix1 R), (hstep v4 s).2 (ix1 R)) = _
  rw [e1, e2, select_at, select_at, kMid_at]
  unfold rstep
  by_cases h : 100 ≤ rcount m (rmid (rowOf s R))
  · rw [if_pos ((kGe_at v4 m R hm s).mpr h), if_pos ((kGe_at v4 m R hm s).mpr h), if_pos h]
  · rw [if_neg (fun g => h ((kGe_at v4 m R hm s).mp g)), if_neg (fun g => h ((kGe_at v4 m R hm s).mp g)), if_neg h]

include hm in
theorem hsteps_at (s : HS Ideal) (n : Nat) : rowOf (hsteps v4 s n) R = rsteps m (rowOf s R) n := by
  induction n with
  | zero => rfl
  | succ n ih => exact (hstep_at v4 m R hm _).trans (congrArg (rstep m) ih)

theorem slt_if {α : Type} (k : Fin 784) (x y : α) : Scalar.select (IntOp.cmpi .slt (BitVec.ofNat 32 k.val) 782#32) x y = if k.val < 782 then x else y := by
  have h : (IntOp.cmpi .slt (BitVec.ofNat 32 k.val) (BitVec.ofNat 32 782) = 1#1) ↔ k.val < 782 := by
    show BitVec.ofBool ((BitVec.ofNat 32 k.val).slt (BitVec.ofNat 32 782)) = 1#1 ↔ _
    have := k.isLt
    rw [BitVec.slt, toInt_nat (lt_trans this (by norm_num)), toInt_nat (by norm_num)]
    by_cases h : k.val < 782 <;> simp [h]
  unfold Scalar.select
  by_cases g : k.val < 782
  · rw [if_pos g]; exact if_pos (h.mpr g)
  · rw [if_neg g]; exact if_neg (fun e => g (h.mp e))

abbrev low4 : FVec Ideal S4096x784 .f32 :=
  fn_where (cmpi .slt (iotaInDim S4096x784 32 1) (broadcastInDim S4096x784 ![] bcast_S_S4096x784 (constantI S_ 32 782#32))) v4 (constant S_ .f32 0x7F61B1E6#32)

include hm in
theorem low4_at (b : Fin 784) : low4 v4 (ix2 R b) = if b.val < 782 then m b.val else bits 0x7F61B1E6#32 := by
  rw [← hm b]
  refine Eq.trans ?_ (slt_if b (v4 (ix2 R b)) (bits 0x7F61B1E6#32))
  unfold low4 fn_where
  dsimp only
  rw [select_at, cmpi_bc _ _ _ 782#32 _ rfl]
  rfl

include hm in
theorem hlow_at : (hinit v4).1 (ix1 R) = rlow m := by
  have e : (hinit v4).1 = Host.reduce FloatOps.minimumf (low4 v4) (constant S_ .f32 0x7F800000#32) reducesTo_S4096x784_S4096_d1 h_S_ := by
    unfold hinit; dsimp only
  rw [e]
  exact min_fold (low4 v4) _ reducesTo_S4096x784_S4096_d1 red2 (ix1 R) (fun k => if k < 782 then m k else bits 0x7F61B1E6#32) fun k =>
    (congrArg (low4 v4) (lift2 R k)).trans (low4_at v4 m R hm k)

include hm in
theorem htop_at : (hinit v4).2 (ix1 R) = (rinit m).2 := by
  have e : (hinit v4).2 = addf (Host.reduce FloatOps.maximumf v4 (constant S_ .f32 0xFF800000#32) reducesTo_S4096x784_S4096_d1 h_S_) (broadcastInDim S4096 ![] bcast_S_S4096 (constant S_ .f32 0x3F800000#32)) := by
    unfold hinit; dsimp only
  rw [e]
  have k := max_fold v4 0xFF800000#32 reducesTo_S4096x784_S4096_d1 red2 (ix1 R) m fun k => (congrArg v4 (lift2 R k)).trans (hm k)
  rw [addf_at, bcc_at, k]
  unfold rinit rtop
  dsimp only
  rfl

include hm in
theorem hinit_at : rowOf (hinit v4) R = rinit m := by
  show ((hinit v4).1 (ix1 R), (hinit v4).2 (ix1 R)) = _
  rw [hlow_at v4 m R hm, htop_at v4 m R hm]
  unfold rinit
  dsimp only

include hm in
theorem pre_tau_at (n : Nat) : (hsteps v4 (hinit v4) n).1 (ix1 R) = (rsteps m (rinit m) n).1 :=
  congrArg Prod.fst ((hsteps_at v4 m R hm _ n).trans (congrArg (fun s => rsteps m s n) (hinit_at v4 m R hm)))

end pre

end Cert.Sel
-- ==== Proof.Sums.lean ====
/-
  The scores of one row and their greatest of each block, as the precondition computes them.
-/
module

public import proofs.«01_k».proof.Proof.Halve
public import Idealize.ShloMosaic.Lib.KernelVsHost
public import Idealize.ShloMosaic.Lib.MatmulPlain
public import Idealize.ShloMosaic.Lib.StackMember

@[expose] public section

noncomputable section

namespace Cert.Sel

open Cert.Pre_room Cert.Pre_room.Gen
open Idealize.ShloMosaic hiding ix1 ix2 ix3 eq_ix2
open Idealize.ShloMosaic.ValueIdx

section sums
variable (q : FVec Ideal S4096x128 .f32) (c : FVec Ideal S100000x128 .f32)

/-- The product of row `R` of the queries with row `K` of the candidates. -/
def dotv (R : Fin 4096) (K : Fin 100000) : EReal := ∑ k : Fin 128, (q (ix2 R k) : EReal) * c (ix2 K k)
/-- The score of row `R` at column `C`, the columns past the candidates holding the least. -/
def scv (R : Fin 4096) (C : Nat) : EReal := if h : C < 100000 then dotv q c R ⟨C, h⟩ else bits 0xFF61B1E6#32
/-- The greatest of the row's scores in block `b`. -/
def bmv (R : Fin 4096) (b : Nat) : EReal :=
  (Finset.univ : Finset (Fin 128)).fold (max : EReal → EReal → EReal) (bits 0xFF800000#32) fun l => scv q c R (128 * b + l.val)

theorem dot_at (R : Fin 4096) (K : Fin 100000) :
    Host.dotGeneral dot_S4096x128_S128x100000_S4096x100000_1_0_0_1_n_n none q (transpose S128x100000 [1, 0] c transposes_S100000x128_S128x100000_1_0) (ix2 R K) = dotv q c R K := by
  refine (StackMember.dotGeneral_plain_apply none q _ R K).trans (Finset.sum_congr rfl fun k _ => ?_)
  exact congrArg (fun z : EReal => (q (ix2 R k) : EReal) * z) (transpose_apply [1, 0] c _ (ix2 k K) (ix2 K k) (fun b => match b with | 0 => rfl | 1 => rfl))

theorem pSc_at (R : Fin 4096) (C : Fin 100352) : pSc q c (ix2 R C) = scv q c R C.val := by
  have e : pSc q c = pad S4096x100352 ![0, 0] ![0, 352] ![0, 0]
      (Host.dotGeneral dot_S4096x128_S128x100000_S4096x100000_1_0_0_1_n_n none q (transpose S128x100000 [1, 0] c transposes_S100000x128_S128x100000_1_0))
      (constant S_ .f32 0xFF61B1E6#32) pads_S4096x100000_S4096x100352_000_03520 h_S_ := by
    unfold pSc fn_pad; dsimp only [id]
  rw [e]
  unfold scv
  by_cases h : C.val < 100000
  · rw [dif_pos h]
    refine (pad_apply_of_inside _ _ _ _ _ _ _ (ix2 R C) (ix2 R ⟨C.val, h⟩) ?_).trans (dot_at q c R ⟨C.val, h⟩)
    intro a
    match a with
    | 0 => show R.val = 0 + R.val * (0 + 1); omega
    | 1 => show C.val = 0 + C.val * (0 + 1); omega
  · rw [dif_neg h]
    refine (pad_apply_of_not_inside _ _ _ _ _ _ _ (ix2 R C) 1 ?_).trans rfl
    rintro ⟨-, -, h3⟩
    apply h
    have : (C.val - 0) / (0 + 1) < 100000 := h3
    simpa using this

theorem red128 : S4096x784x128.Reduces [2] S4096x784 := by decide
theorem lift128 (R : Fin 4096) (b : Fin 784) (l : Fin 128) : red128.lift (ix2 R b) l = ix3 R b l := by
  funext a
  match a with
  | 0 => rfl
  | 1 => rfl
  | 2 => rfl

theorem pBm_at (R : Fin 4096) (b : Fin 784) : pBm (pSc q c) (ix2 R b) = bmv q c R b.val := by
  unfold pBm bmv
  refine max_fold _ _ reducesTo_S4096x784x128_S4096x784_d2 red128 (ix2 R b) (fun l => scv q c R (128 * b.val + l)) fun (l : Fin 128) => ?_
  have hb := b.isLt
  have hl := l.isLt
  refine (congrArg (shapeCast S4096x784x128 (pSc q c) shapeCasts_S4096x100352_S4096x784x128) (lift128 R b l)).trans ?_
  refine (shapeCast_apply _ _ (ix3 R b l) (ix2 R ⟨128 * b.val + l.val, by omega⟩) ?_).trans (pSc_at q c R _)
  rw [Shape.rowMajor_val_two, Shape.rowMajor_val_three]
  show R.val * 100352 + (128 * b.val + l.val) = (R.val * 784 + b.val) * 128 + l.val
  omega

end sums

end Cert.Sel
-- ==== Proof.Fits.lean ====
/-
  What the precondition says of one row: its printed integer sums are the numbers of hits, so the row's hits fit.
-/
module

public import proofs.«01_k».proof.Proof.Sums
public import proofs.«01_k».proof.Proof.Raw
public import proofs.«01_k».proof.Proof.Pick
public import Idealize.ShloMosaic.Lib.Pipeline.ValueKit

@[expose] public section

noncomputable section

namespace Cert.Sel

open Cert.Pre_room Cert.Pre_room.Gen
open Idealize.ShloMosaic hiding ix1 ix2 ix3 eq_ix2
open Idealize.ShloMosaic.ValueIdx

/-- Blocks that hold a hit are no more than the hits. -/
theorem block_count (H B : Nat → Prop) [DecidablePred H] [DecidablePred B] (n : Nat) (h : ∀ b < n, B b → ∃ l < 128, H (128 * b + l)) :
    Nat.count B n ≤ Nat.count H (128 * n) := by
  induction n with
  | zero => simp
  | succ n ih =>
    have ih' := ih fun b hb => h b (by omega)
    rw [Nat.count_succ, show 128 * (n + 1) = 128 * n + 128 by ring, Nat.count_add]
    by_cases hB : B n
    · obtain ⟨l, hl, hH⟩ := h n (by omega) hB
      have : Nat.count (fun k => H (128 * n + k)) l < Nat.count (fun k => H (128 * n + k)) 128 := Nat.count_strict_mono hH hl
      rw [if_pos hB]
      omega
    · rw [if_neg hB]
      omega

theorem low_bits : bits 0xFF800000#32 = (⊥ : EReal) := by
  simp [bits, Ideal.ofBits, Ideal.ieee]

section pieces
variable (q : FVec Ideal S4096x128 .f32) (c : FVec Ideal S100000x128 .f32)

theorem le_bmv (R : Fin 4096) (b : Nat) (x : EReal) : x ≤ bmv q c R b ↔ x ≤ bits 0xFF800000#32 ∨ ∃ l : Fin 128, x ≤ scv q c R (128 * b + l.val) := by
  unfold bmv
  rw [Finset.le_fold_max]
  simp only [Finset.mem_univ, true_and]

/-- The place row `R`'s search ends at. -/
def thr (R : Fin 4096) : EReal := (rsteps (bmv q c R) (rinit (bmv q c R)) 34).1

variable (v2 : FVec Ideal S4096x100352 .f32) (v4 : FVec Ideal S4096x784 .f32) (tau : FVec Ideal S4096 .f32)
  (hv2 : ∀ (R : Fin 4096) (C : Fin 100352), v2 (ix2 R C) = scv q c R C.val) (hv4 : ∀ (R : Fin 4096) (b : Fin 784), v4 (ix2 R b) = bmv q c R b.val)
  (htau : ∀ R : Fin 4096, tau (ix1 R) = thr q c R)

include hv2 htau in
theorem tAb_iff (R : Fin 4096) (C : Fin 100352) : tAb v2 tau (ix2 R C) = 1#1 ↔ thr q c R ≤ scv q c R C.val := by
  have e2 : broadcastInDim S4096x100352 ![0, 1] bcast_S4096x1_S4096x100352_0_1 (broadcastInDim S4096x1 ![0] bcast_S4096_S4096x1_0 tau) (ix2 R C) = tau (ix1 R) :=
    (broadcastInDim_apply _ _ _ _ (ix2 R 0) (fun a => match a with | 0 => rfl | 1 => rfl)).trans
      (broadcastInDim_apply _ _ _ _ (ix1 R) (fun a => match a with | 0 => rfl))
  unfold tAb
  show FloatOps.cmpf (F := Ideal) (φ := .f32) .oge (v2 (ix2 R C))
    (broadcastInDim S4096x100352 ![0, 1] bcast_S4096x1_S4096x100352_0_1 (broadcastInDim S4096x1 ![0] bcast_S4096_S4096x1_0 tau) (ix2 R C)) = 1#1 ↔ _
  rw [e2, htau, hv2, oge_iff]

include hv4 htau in
theorem tBl_iff (R : Fin 4096) (b : Fin 784) : tBl v4 tau (ix2 R b) = 1#1 ↔ FloatOps.cmpf (F := Ideal) (φ := .f32) .oge (bmv q c R b.val) (thr q c R) = 1#1 := by
  have e2 : broadcastInDim S4096x784 ![0, 1] bcast_S4096x1_S4096x784_0_1 (broadcastInDim S4096x1 ![0] bcast_S4096_S4096x1_0 tau) (ix2 R b) = tau (ix1 R) :=
    (broadcastInDim_apply _ _ _ _ (ix2 R 0) (fun a => match a with | 0 => rfl | 1 => rfl)).trans
      (broadcastInDim_apply _ _ _ _ (ix1 R) (fun a => match a with | 0 => rfl))
  unfold tBl
  show FloatOps.cmpf (F := Ideal) (φ := .f32) .oge (v4 (ix2 R b))
    (broadcastInDim S4096x784 ![0, 1] bcast_S4096x1_S4096x784_0_1 (broadcastInDim S4096x1 ![0] bcast_S4096_S4096x1_0 tau) (ix2 R b)) = 1#1 ↔ _
  rw [e2, htau, hv4]

include hv2 htau in
theorem lane_iff (R : Fin 4096) (u : Fin 6272) (l : Fin 16) : shapeCast S4096x6272x16 (tAb v2 tau) shapeCasts_S4096x100352_S4096x6272x16 (ix3 R u l) = 1#1
    ↔ thr q c R ≤ scv q c R (16 * u.val + l.val) := by
  have hu := u.isLt
  have hl := l.isLt
  have e : shapeCast S4096x6272x16 (tAb v2 tau) shapeCasts_S4096x100352_S4096x6272x16 (ix3 R u l)
      = tAb v2 tau (ix2 R ⟨16 * u.val + l.val, by omega⟩) :=
    shapeCast_apply _ _ _ _ (by
      rw [Shape.rowMajor_val_two, Shape.rowMajor_val_three]
      show R.val * 100352 + (16 * u.val + l.val) = (R.val * 6272 + u.val) * 16 + l.val
      omega)
  exact (iff_of_eq (congrArg (· = 1#1) e)).trans (tAb_iff q c v2 tau hv2 htau R _)

theorem red1 : S4096x100352.Reduces [1] S4096 := by decide
theorem red3 : S4096x6272x16.Reduces [1] S4096x16 := by decide

theorem lift1 (R : Fin 4096) (k : Fin 100352) : red1.lift (ix1 R) k = ix2 R k := by
  funext a
  match a with
  | 0 => rfl
  | 1 => rfl
theorem lift3 (R : Fin 4096) (l : Fin 16) (k : Fin 6272) : red3.lift (ix2 R l) k = ix3 R k l := by
  funext a
  match a with
  | 0 => rfl
  | 1 => rfl
  | 2 => rfl

/-- A row's scores, block maxima and threshold as the selection reads them. -/
structure RowIs (E : Env Ideal) (R : Fin 4096) : Prop where
  tau : E.tau R.val = thr q c R
  sc : ∀ b < 784, ∀ l < 128, E.sc (R.val * 784 + b) l = scv q c R (128 * b + l)
  bm : ∀ b < 784, E.bm R.val b = bmv q c R b

theorem RowIs.row {q : FVec Ideal S4096x128 .f32} {c : FVec Ideal S100000x128 .f32} {E : Env Ideal} {R : Fin 4096} (hE : RowIs q c E R) {C : Nat} (hC : C < 100352) : rowSc E R.val C = scv q c R C := by
  unfold rowSc
  rw [hE.sc (C / 128) (by omega) (C % 128) (by omega)]
  congr 1
  omega

theorem tE1 : (tEnd v2 v4 tau).1 = cmpi .sle (tC1 v2 tau) (broadcastInDim S4096 ![] bcast_S_S4096 (constantI S_ 32 256#32)) := by
  unfold tEnd
  dsimp only
theorem tE2 : (tEnd v2 v4 tau).2.1 = cmpi .sle (tC2 v4 tau) (broadcastInDim S4096 ![] bcast_S_S4096 (constantI S_ 32 128#32)) := by
  unfold tEnd
  dsimp only
theorem tE3 : (tEnd v2 v4 tau).2.2 = cmpi .sle (tC3 v2 tau) (broadcastInDim S4096x16 ![] bcast_S_S4096x16 (constantI S_ 32 32#32)) := by
  unfold tEnd
  dsimp only

/-- Were the places past the candidates all hits, they alone would be more than the table holds. -/
theorem many_pads (p : Nat → Prop) [DecidablePred p] (h : ∀ C, 100000 ≤ C → C < 100352 → p C) : 352 ≤ Nat.count p 100352 := by
  have e : Nat.count p (100000 + 352) = Nat.count p 100000 + Nat.count (fun k => p (100000 + k)) 352 := Nat.count_add p 100000 352
  have e2 : Nat.count (fun k => p (100000 + k)) 352 = 352 := Nat.count_iff_forall.mpr fun k hk => h _ (by omega) (by omega)
  rw [show (100352 : Nat) = 100000 + 352 by norm_num, e, e2]
  exact Nat.le_add_left _ _

include hv2 hv4 htau in
/-- Where the sums are within their bounds, the row has room. -/
theorem room_of_end (h1 : (tEnd v2 v4 tau).1 = fun _ => 1#1) (h2 : (tEnd v2 v4 tau).2.1 = fun _ => 1#1)
    (h3 : (tEnd v2 v4 tau).2.2 = fun _ => 1#1) (E : Env Ideal) (R : Fin 4096) (hE : RowIs q c E R) :
    Room E R.val := by
  have hT := hE.tau
  have hcnt : ∀ [DecidablePred fun C => E.tau R.val ≤ rowSc E R.val C],
      tC1 v2 tau (ix1 R) = BitVec.ofNat 32 (Nat.count (fun C => E.tau R.val ≤ rowSc E R.val C) 100352) := by
    intro _
    unfold tC1
    exact reduce_count _ reducesTo_S4096x100352_S4096_d1 red1 (ix1 R) _ fun (k : Fin 100352) =>
      (iff_of_eq (congrArg (fun i => tAb v2 tau i = 1#1) (lift1 R k))).trans ((tAb_iff q c v2 tau hv2 htau R k).trans (by rw [hT, hE.row k.isLt]))
  have hle : ∀ [DecidablePred fun C => E.tau R.val ≤ rowSc E R.val C],
      Nat.count (fun C => E.tau R.val ≤ rowSc E R.val C) 100352 ≤ 100352 := by
    intro _; exact Nat.count_le _
  have hmany : ∀ [DecidablePred fun C => E.tau R.val ≤ rowSc E R.val C],
      Nat.count (fun C => E.tau R.val ≤ rowSc E R.val C) 100352 ≤ 256 := by
    intro _
    have h := congrFun h1 (ix1 R)
    have e : (tEnd v2 v4 tau).1 (ix1 R) = IntOp.cmpi .sle (tC1 v2 tau (ix1 R)) (BitVec.ofNat 32 256) :=
      (congrFun (tE1 v2 v4 tau) _).trans (cmpi_bc _ _ _ _ _ rfl)
    rw [e, hcnt, sle_iff (lt_of_le_of_lt hle (by norm_num)) (by norm_num)] at h
    exact h
  have habove : (neg (F := Ideal) : EReal) < E.tau R.val := by
    classical
    by_contra hlt
    have h := many_pads (fun C => E.tau R.val ≤ rowSc E R.val C) fun C hC hC' => by
      rw [hE.row hC']
      unfold scv
      rw [dif_neg (by omega)]
      exact le_of_not_gt hlt
    exact absurd (h.trans hmany) (by norm_num)
  refine ⟨?_, ?_, ?_, ?_, ?_, habove⟩
  · intro b hb l hl hx
    rw [hE.bm b hb]
    rw [hE.sc b hb l hl] at hx
    exact (le_bmv q c R b _).mpr (Or.inr ⟨⟨l, hl⟩, hx⟩)
  · intro _
    classical
    have hc := rsteps_count (bmv q c R) (rinit (bmv q c R)) (rinit_count _) 34
    change 100 ≤ rcount (bmv q c R) (thr q c R) at hc
    unfold rcount at hc
    have hbc := block_count (fun C => E.tau R.val ≤ rowSc E R.val C) (fun b => thr q c R ≤ bmv q c R b) 784 fun b hb hB => by
      rcases (le_bmv q c R b _).mp hB with h | ⟨l, h⟩
      · rw [low_bits, ← hT] at h
        exact absurd (lt_of_lt_of_le habove h) not_lt_bot
      · refine ⟨l.val, l.isLt, ?_⟩
        show E.tau R.val ≤ rowSc E R.val (128 * b + l.val)
        rw [hE.row (by have := l.isLt; omega), hT]
        exact h
    have h784 : 128 * 784 = 100352 := by norm_num
    rw [h784] at hbc
    refine le_trans ?_ hbc
    convert hc
  · exact hmany
  · have h := congrFun h2 (ix1 R)
    have e : (tEnd v2 v4 tau).2.1 (ix1 R) = IntOp.cmpi .sle (tC2 v4 tau (ix1 R)) (BitVec.ofNat 32 128) :=
      (congrFun (tE2 v2 v4 tau) _).trans (cmpi_bc _ _ _ _ _ rfl)
    have e2 : tC2 v4 tau (ix1 R) = BitVec.ofNat 32 (Nat.count (hitB E R.val) 784) := by
      unfold tC2
      exact reduce_count _ reducesTo_S4096x784_S4096_d1 red2 (ix1 R) (hitB E R.val) fun (k : Fin 784) =>
        (iff_of_eq (congrArg (fun i => tBl v4 tau i = 1#1) (lift2 R k))).trans ((tBl_iff q c v4 tau hv4 htau R k).trans (by unfold hitB; rw [hT, hE.bm _ k.isLt]))
    rw [e, e2] at h
    exact (sle_iff (lt_of_le_of_lt (Nat.count_le (n := 784) _) (by norm_num)) (by norm_num)).mp h
  · intro l hl _
    have h := congrFun h3 (ix2 R ⟨l, hl⟩)
    have e : (tEnd v2 v4 tau).2.2 (ix2 R ⟨l, hl⟩) = IntOp.cmpi .sle (tC3 v2 tau (ix2 R ⟨l, hl⟩)) (BitVec.ofNat 32 32) :=
      (congrFun (tE3 v2 v4 tau) _).trans (cmpi_bc _ _ _ _ _ rfl)
    have e2 : tC3 v2 tau (ix2 R ⟨l, hl⟩) = BitVec.ofNat 32 (Nat.count (fun u => E.tau R.val ≤ rowSc E R.val (16 * u + l)) 6272) := by
      unfold tC3
      exact reduce_count _ reducesTo_S4096x6272x16_S4096x16_d1 red3 (ix2 R ⟨l, hl⟩) (fun u => E.tau R.val ≤ rowSc E R.val (16 * u + l)) fun (k : Fin 6272) =>
        (iff_of_eq (congrArg (fun i => shapeCast S4096x6272x16 (tAb v2 tau) shapeCasts_S4096x100352_S4096x6272x16 i = 1#1) (lift3 R ⟨l, hl⟩ k))).trans
          ((lane_iff q c v2 tau hv2 htau R k ⟨l, hl⟩).trans (by rw [hT, hE.row (by have := k.isLt; omega)]))
    rw [e, e2] at h
    exact (sle_iff (lt_of_le_of_lt (Nat.count_le (n := 6272) _) (by norm_num)) (by norm_num)).mp h

/-- Where the precondition holds, every row has room. -/
theorem room_of_pre (h1 : (fn (F := Ideal) q c).1 = fun _ => 1#1) (h2 : (fn (F := Ideal) q c).2.1 = fun _ => 1#1)
    (h3 : (fn (F := Ideal) q c).2.2 = fun _ => 1#1) (E : Env Ideal) (R : Fin 4096) (hE : RowIs q c E R) :
    Room E R.val := by
  rw [fn_eq] at h1 h2 h3
  exact room_of_end q c (pSc q c) (pBm (pSc q c)) _ (pSc_at q c) (pBm_at q c) (fun R => pre_tau_at (pBm (pSc q c)) (bmv q c R) R (pBm_at q c R) 34) h1 h2 h3 E R hE

end pieces

/-- Places past the candidates hold less than the threshold, so they change nothing. -/
theorem RowSel.narrow {sc : Nat → EReal} {T lo : EReal} {n : Nat} {col : Nat → Nat} {v : Fin 256 → EReal} {d : Fin 256 → BitVec 32} (h : RowSel 100352 sc T lo n col v d)
    (hpad : ∀ c, 100000 ≤ c → c < 100352 → ¬ T ≤ sc c) : RowSel 100000 sc T lo n col v d where
  big := h.big
  small := h.small
  val := h.val
  num := h.num
  lt r hr := by
    by_contra hc
    exact hpad (col r) (by omega) (h.lt r hr) (h.ge r hr)
  ge := h.ge
  inj := h.inj
  all c hc := h.all c (by omega)
  off := h.off
  gt := h.gt

end Cert.Sel
-- ==== Proof.HalveB.lean ====
/-
  The kernel's search on one row of a block is the row's steps.
-/
module

public import proofs.«01_k».proof.Proof.Halve
public import proofs.«01_k».proof.Proof.Raw
public import proofs.«01_k».proof.Proof.Pick
public import proofs.«01_k».proof.Proof.TauBody
public import Idealize.ShloMosaic.Lib.KernelVsHost

@[expose] public section

noncomputable section

namespace Cert.Sel

open Cert.Pre_room Cert.Pre_room.Gen
open Idealize.ShloMosaic hiding ix1 ix2 ix3 eq_ix2
open Idealize.ShloMosaic.ValueIdx

/-! ## The kernel's steps, on a row of a block -/

section ker
abbrev B784 : Shape := Cert.KernelIdeal.S512x784
abbrev B1 : Shape := Cert.KernelIdeal.S512
theorem redB : B784.Reduces [1] B1 := by decide
theorem redB' : B784.ReducesTo [1] B1 := by decide
theorem liftB (y : Fin 512) (k : Fin 784) : redB.lift (ix1 y) k = ix2 y k := by
  funext a
  match a with
  | 0 => rfl
  | 1 => rfl

variable (v1 : FVec Ideal B784 .f32) (m : Nat → EReal) (y : Fin 512) (hm : ∀ b : Fin 784, v1 (ix2 y b) = m b.val)

theorem tmid_at (lo hi : FVec Ideal B1 .f32) : tmid lo hi (ix1 y) = rmid (lo (ix1 y), hi (ix1 y)) := by
  unfold tmid rmid
  rw [mulf_at, addf_at]; rfl

include hm in
theorem tcnt_at (mid : FVec Ideal B1 .f32) : tcnt v1 mid (ix1 y) = BitVec.ofNat 32 (rcount m (mid (ix1 y))) := by
  classical
  have e : tcnt v1 mid = multiReductionI .add [1] B1 (extui 32 (cmpf .oge v1 (broadcastTo B784 (shapeCast Cert.KernelIdeal.S512x1 mid Cert.KernelIdeal.Gen.shapeCasts_S512_S512x1) Cert.KernelIdeal.Gen.broadcasts_S512x1_S512x784)) natLt_1_32) 0#32 redB rfl := rfl
  rw [e, sum_host _ redB' redB rfl]
  refine reduce_count _ redB' redB (ix1 y) _ fun (k : Fin 784) => ?_
  rw [liftB y k]
  have e2 : broadcastTo B784 (shapeCast Cert.KernelIdeal.S512x1 mid Cert.KernelIdeal.Gen.shapeCasts_S512_S512x1) Cert.KernelIdeal.Gen.broadcasts_S512x1_S512x784 (ix2 y k) = mid (ix1 y) :=
    (broadcastTo_apply _ _ _ (ix2 y 0) (fun a => match a with | 0 => rfl | 1 => rfl)).trans
      (shapeCast_apply _ _ _ _ (by rw [Shape.rowMajor_val_two, Shape.rowMajor_val_one]; exact (Nat.mul_one _).symm))
  show FloatOps.cmpf (F := Ideal) (φ := .f32) .oge (v1 (ix2 y k)) (broadcastTo B784 (shapeCast Cert.KernelIdeal.S512x1 mid Cert.KernelIdeal.Gen.shapeCasts_S512_S512x1) Cert.KernelIdeal.Gen.broadcasts_S512x1_S512x784 (ix2 y k)) = 1#1 ↔ _
  rw [e2, oge_iff]
  exact iff_of_eq (congrArg (fun z : EReal => mid (ix1 y) ≤ z) (hm k))

abbrev rowK (s : TS Ideal) (y : Fin 512) : EReal × EReal := (s.lo (ix1 y), s.hi (ix1 y))

/-- The middle and the count are those of the two ends. -/
def Tied (v1 : FVec Ideal B784 .f32) (s : TS Ideal) : Prop := s = tmk v1 s.lo s.hi

include hm in
theorem sel_at (s : TS Ideal) (hs : Tied v1 s) : cmpi .sge s.cnt (broadcast B1 100#32) (ix1 y) = 1#1 ↔ 100 ≤ rcount m (rmid (rowK s y)) := by
  have e : s.cnt (ix1 y) = BitVec.ofNat 32 (rcount m (rmid (rowK s y))) := by
    have t0 : s.cnt = tcnt v1 (tmid s.lo s.hi) := (congrArg TS.cnt hs).trans (by unfold tmk; dsimp only)
    rw [t0]
    exact ((tcnt_at v1 m y hm (tmid s.lo s.hi)).trans (congrArg (fun z => BitVec.ofNat 32 (rcount m z)) (tmid_at y s.lo s.hi)))
  have e3 : cmpi .sge s.cnt (broadcast B1 100#32) (ix1 y) = IntOp.cmpi .sge (s.cnt (ix1 y)) (BitVec.ofNat 32 100) := cmpi_bc _ _ _ _ _ rfl
  rw [e3, e, sge_iff (rcount_lt m _) (by norm_num)]

theorem tied_step (s : TS Ideal) : Tied v1 (tstep v1 s) := by
  unfold Tied tstep tmk; dsimp only

include hm in
theorem tstep_at (s : TS Ideal) (hs : Tied v1 s) : rowK (tstep v1 s) y = rstep m (rowK s y) := by
  classical
  have hmid : s.mid (ix1 y) = rmid (rowK s y) := (congrArg (fun s : TS Ideal => s.mid (ix1 y)) hs).trans (tmid_at y _ _)
  have e1 : (tstep v1 s).lo = select (cmpi .sge s.cnt (broadcast B1 100#32)) s.mid s.lo := by
    unfold tstep tmk; dsimp only
  have e2 : (tstep v1 s).hi = select (cmpi .sge s.cnt (broadcast B1 100#32)) s.hi s.mid := by
    unfold tstep tmk; dsimp only
  show ((tstep v1 s).lo (ix1 y), (tstep v1 s).hi (ix1 y)) = _
  rw [e1, e2, select_at, select_at, hmid]
  unfold rstep
  by_cases h : 100 ≤ rcount m (rmid (rowK s y))
  · rw [if_pos ((sel_at v1 m y hm s hs).mpr h), if_pos ((sel_at v1 m y hm s hs).mpr h), if_pos h]
  · rw [if_neg (fun g => h ((sel_at v1 m y hm s hs).mp g)), if_neg (fun g => h ((sel_at v1 m y hm s hs).mp g)), if_neg h]

theorem rsteps_front (s : EReal × EReal) (n : Nat) : rsteps m (rstep m s) n = rsteps m s (n + 1) := by
  induction n with
  | zero => rfl
  | succ n ih => exact congrArg (rstep m) ih

include hm in
theorem tsteps_at (n : Nat) : ∀ s : TS Ideal, Tied v1 s → rowK (tsteps v1 n s) y = rsteps m (rowK s y) n := by
  induction n with
  | zero => intro s _; rfl
  | succ n ih =>
    intro s hs
    refine (ih (tstep v1 s) (tied_step v1 s)).trans ?_
    rw [tstep_at v1 m y hm s hs, rsteps_front]

end ker

section out
variable (v0 : FVec Ideal B784 .f32) (m : Nat → EReal) (y : Fin 512) (hm : ∀ b : Fin 784, v0 (ix2 y b) = m b.val)

theorem pay2_id : Cert.KernelIdeal.Gen.k1_pay2 (F := Ideal) v0 = v0 := by
  funext i
  exact shapeCast_apply v0 _ i i rfl

theorem min_host (x : FVec Ideal B784 .f32) : multiReduction .minimumf [1] B1 x 0x7F800000#32 redB (.inl rfl) rfl
    = Host.reduce FloatOps.minimumf x (constant S_ .f32 0x7F800000#32) redB' h_S_ :=
  (hostReduce_minimumf_eq_multiReduction x 0x7F800000#32 redB' h_S_ redB (.inl rfl) rfl).symm
theorem max_host (x : FVec Ideal B784 .f32) : multiReduction .maximumf [1] B1 x 0xFF800000#32 redB (.inl rfl) rfl
    = Host.reduce FloatOps.maximumf x (constant S_ .f32 0xFF800000#32) redB' h_S_ :=
  (hostReduce_maximumf_eq_multiReduction x 0xFF800000#32 redB' h_S_ redB (.inl rfl) rfl).symm

abbrev lowB : FVec Ideal B784 .f32 :=
  select (cmpi .slt (iota .tc B784 32 [1] Cert.KernelIdeal.Gen.iota_S512x784_d1_w32) (broadcast B784 782#32)) v0 (broadcast B784 (Scalar.ofBits .f32 0x7F61B1E6#32))

include hm in
theorem lowB_at (b : Fin 784) : lowB v0 (ix2 y b) = if b.val < 782 then m b.val else bits 0x7F61B1E6#32 := by
  rw [← hm b]
  refine Eq.trans ?_ (slt_if b (v0 (ix2 y b)) (bits 0x7F61B1E6#32))
  show Scalar.select (IntOp.cmpi .slt (iota .tc B784 32 [1] Cert.KernelIdeal.Gen.iota_S512x784_d1_w32 (ix2 y b)) 782#32) (v0 (ix2 y b)) (bits 0x7F61B1E6#32) = _
  rw [iota_single_apply]

include hm in
theorem tlow_at : Cert.KernelIdeal.Gen.k1_pay3 (F := Ideal) v0 (ix1 y) = rlow m := by
  have e : Cert.KernelIdeal.Gen.k1_pay3 (F := Ideal) v0 = multiReduction .minimumf [1] B1 (lowB v0) 0x7F800000#32 redB (.inl rfl) rfl := by
    unfold Cert.KernelIdeal.Gen.k1_pay3
    dsimp only
    rw [pay2_id]
  rw [e, min_host]
  exact min_fold (lowB v0) _ redB' redB (ix1 y) (fun k => if k < 782 then m k else bits 0x7F61B1E6#32) fun k =>
    (congrArg (lowB v0) (liftB y k)).trans (lowB_at v0 m y hm k)

include hm in
theorem ttop_at : Cert.KernelIdeal.Gen.k1_pay4 (F := Ideal) v0 (ix1 y) = (rinit m).2 := by
  have e : Cert.KernelIdeal.Gen.k1_pay4 (F := Ideal) v0 = addf (multiReduction .maximumf [1] B1 v0 0xFF800000#32 redB (.inl rfl) rfl) (broadcast B1 (Scalar.ofBits .f32 0x3F800000#32)) := by
    unfold Cert.KernelIdeal.Gen.k1_pay4
    dsimp only
    rw [pay2_id]
  rw [e, max_host]
  have k := max_fold v0 0xFF800000#32 redB' redB (ix1 y) m fun k => (congrArg v0 (liftB y k)).trans (hm k)
  rw [addf_at, k]
  unfold rinit rtop
  dsimp only
  rfl

theorem pair_eq (a b : EReal) (p : EReal × EReal) (h1 : a = p.1) (h2 : b = p.2) : (a, b) = p := by
  subst h1 h2; rfl

include hm in
theorem tinit_at : rowK (tinit (F := Ideal) v0) y = rinit m := by
  have e1 : (tinit (F := Ideal) v0).lo = Cert.KernelIdeal.Gen.k1_pay3 (F := Ideal) v0 := by unfold tinit tmk; dsimp only
  have e2 : (tinit (F := Ideal) v0).hi = Cert.KernelIdeal.Gen.k1_pay4 (F := Ideal) v0 := by unfold tinit tmk; dsimp only
  have h1 : (tinit (F := Ideal) v0).lo (ix1 y) = (rinit m).1 := by
    unfold rinit
    dsimp only
    exact (congrFun e1 (ix1 y)).trans (tlow_at v0 m y hm)
  have h2 : (tinit (F := Ideal) v0).hi (ix1 y) = (rinit m).2 := (congrFun e2 (ix1 y)).trans (ttop_at v0 m y hm)
  exact pair_eq _ _ _ h1 h2

theorem tied_init : Tied v0 (tinit (F := Ideal) v0) := by
  unfold Tied tinit tmk
  dsimp only
  rw [pay2_id]

include hm in
theorem tall_at (n : Nat) : (tsteps v0 n (tinit (F := Ideal) v0)).lo (ix1 y) = (rsteps m (rinit m) n).1 := by
  have h := tsteps_at v0 m y hm n (tinit (F := Ideal) v0) (tied_init v0)
  have k := tinit_at v0 m y hm
  rw [k] at h
  rw [← h]

include hm in
theorem outT_at : outT (F := Ideal) v0 (ix1 y) = (rsteps m (rinit m) 34).1 := by
  have e : outT (F := Ideal) v0 = (tsteps v0 34 (tinit (F := Ideal) v0)).lo := by unfold outT; rw [pay2_id]
  rw [e]
  exact tall_at v0 m y hm 34

end out

end Cert.Sel
-- ==== Proof.Scores.lean ====
/-
  What one point of the scores call leaves, at one place: a score, and a block's greatest.
-/
module

public import proofs.«01_k».proof.Proof.Sums
public import proofs.«01_k».proof.Proof.HalveB
public import proofs.«01_k».proof.Proof.ScoreBody

@[expose] public section

noncomputable section

namespace Cert.Sel

open Cert.KernelIdeal Cert.KernelIdeal.Gen
open Idealize.ShloMosaic hiding ix1 ix2 ix3 eq_ix2
open Idealize.ShloMosaic.ValueIdx

section point
variable (x1 : FVec Ideal S512x128 .f32) (x2 : FVec Ideal S2048x128 .f32)

theorem prod_at (a : Fin 512) (b : Fin 2048) : k0_pay1 (F := Ideal) x1 x2 (ix2 a b) = ∑ k : Fin 128, (x1 (ix2 a k) : EReal) * x2 (ix2 b k) := by
  have e0 : shapeCast S2048x128 x2 shapeCasts_S2048x128_S2048x128 = x2 := funext fun i => shapeCast_apply x2 _ i i rfl
  have e : k0_pay1 (F := Ideal) x1 x2 = FloatOps.matmul (F := Ideal) (DotDims.transposedRhs 512 128 2048) none x1 x2 (constant S512x2048 .f32 0x00000000#32) := by
    unfold k0_pay1
    dsimp only
    rw [e0]
    rfl
  rw [e]
  refine (Ideal.matmul_transposedRhs_apply _ _ _ _ _ _).trans ?_
  have z : constant (F := Ideal) S512x2048 .f32 0x00000000#32 (ix2 a b) = (0 : EReal) := Ideal.ofBits_zero_f32
  rw [z, zero_add]

theorem cast_at (x : FVec Ideal S512x2048 .f32) (a : Fin 512) (e : Fin 16) (l : Fin 128) (b : Fin 2048) (hb : b.val = 128 * e.val + l.val) :
    shapeCast S512x16x128 x shapeCasts_S512x2048_S512x16x128 (ix3 a e l) = x (ix2 a b) :=
  shapeCast_apply _ _ _ _ (by
    rw [Shape.rowMajor_val_two, Shape.rowMajor_val_three]
    show a.val * 2048 + b.val = (a.val * 16 + e.val) * 128 + l.val
    omega)

theorem pay2_at (a : Fin 512) (e : Fin 16) (l : Fin 128) (b : Fin 2048) (hb : b.val = 128 * e.val + l.val) :
    k0_pay2 (F := Ideal) x1 x2 (ix3 a e l) = k0_pay1 (F := Ideal) x1 x2 (ix2 a b) := by
  unfold k0_pay2
  exact cast_at _ a e l b hb

theorem last_lt : ∀ b : Fin 2048, IntOp.cmpi .slt (IntOp.addi (BitVec.ofNat 32 b.val) 98304#32) 100000#32 = 1#1 ↔ 98304 + b.val < 100000 := by decide +kernel

theorem pay4_at (a : Fin 512) (e : Fin 16) (l : Fin 128) (b : Fin 2048) (hb : b.val = 128 * e.val + l.val) :
    k0_pay4 (F := Ideal) x1 x2 (ix3 a e l) = if 98304 + b.val < 100000 then k0_pay1 (F := Ideal) x1 x2 (ix2 a b) else bits 0xFF61B1E6#32 := by
  unfold k0_pay4
  dsimp only
  rw [cast_at _ a e l b hb, select_at]
  have hc : cmpi .slt (addi (iota .tc S512x2048 32 [1] iota_S512x2048_d1_w32) (broadcast S512x2048 98304#32)) (broadcast S512x2048 100000#32) (ix2 a b) = 1#1 ↔ 98304 + b.val < 100000 := by
    refine Iff.trans (iff_of_eq ?_) (last_lt b)
    show (IntOp.cmpi .slt (IntOp.addi (iota .tc S512x2048 32 [1] iota_S512x2048_d1_w32 (ix2 a b)) 98304#32) 100000#32 = 1#1) = _
    rw [iota_single_apply]
  by_cases h : 98304 + b.val < 100000
  · rw [if_pos h, if_pos (hc.mpr h)]
  · rw [if_neg h, if_neg (fun g => h (hc.mp g))]; rfl

theorem cond1_iff (i : grid0.Coords) : k0_cond1 i = 1#1 ↔ (i 1).val < 48 := by
  have key : ∀ j : Fin 49, Scalar.cmpi .ne (Scalar.extui (Scalar.cmpi .slt (BitVec.ofNat 32 j.val) 48#32) : BitVec 32) 0#32 = 1#1 ↔ j.val < 48 := by decide +kernel
  exact key (i 1)

variable (q : FVec Ideal S4096x128 .f32) (c : FVec Ideal S100000x128 .f32) (i : grid0.Coords) (R : Fin 4096) (a : Fin 512)
  (h1 : ∀ k : Fin 128, x1 (ix2 a k) = q (ix2 R k))
  (h2 : ∀ (b : Fin 2048) (h : 2048 * (i 1).val + b.val < 100000) (k : Fin 128), x2 (ix2 b k) = c (ix2 ⟨2048 * (i 1).val + b.val, h⟩ k))

include h1 h2 in
theorem prod_dot (b : Fin 2048) (h : 2048 * (i 1).val + b.val < 100000) : k0_pay1 (F := Ideal) x1 x2 (ix2 a b) = dotv q c R ⟨2048 * (i 1).val + b.val, h⟩ := by
  rw [prod_at]
  unfold dotv
  refine Finset.sum_congr rfl fun k _ => ?_
  rw [h1 k, h2 b h k]

include h1 h2 in
theorem outQ_at (e : Fin 16) (l : Fin 128) : outQ (F := Ideal) i x1 x2 (ix3 a e l) = scv q c R (2048 * (i 1).val + (128 * e.val + l.val)) := by
  have he := e.isLt
  have hl := l.isLt
  have hi : (i 1).val < 49 := (i 1).isLt
  have hb : 128 * e.val + l.val < 2048 := by omega
  unfold outQ scv
  by_cases hc : (i 1).val < 48
  · have hlt : 2048 * (i 1).val + (128 * e.val + l.val) < 100000 := by omega
    rw [if_pos ((cond1_iff i).mpr hc), dif_pos hlt, pay2_at x1 x2 a e l ⟨_, hb⟩ rfl]
    exact prod_dot x1 x2 q c i R a h1 h2 ⟨_, hb⟩ hlt
  · have h48 : (i 1).val = 48 := by omega
    rw [if_neg (fun g => hc ((cond1_iff i).mp g)), pay4_at x1 x2 a e l ⟨_, hb⟩ rfl]
    by_cases hlt : 2048 * (i 1).val + (128 * e.val + l.val) < 100000
    · rw [dif_pos hlt, if_pos (show 98304 + (128 * e.val + l.val) < 100000 by omega)]
      exact prod_dot x1 x2 q c i R a h1 h2 ⟨_, hb⟩ hlt
    · rw [dif_neg hlt, if_neg (show ¬ 98304 + (128 * e.val + l.val) < 100000 by omega)]

theorem redE : S512x16x128.Reduces [2] S512x16 := by decide
theorem redE' : S512x16x128.ReducesTo [2] S512x16 := by decide
theorem liftE (e : Fin 16) (l : Fin 128) : redE.lift (ix2 a e) l = ix3 a e l := by
  funext a
  match a with
  | 0 => rfl
  | 1 => rfl
  | 2 => rfl
abbrev topE (x : FVec Ideal S512x16x128 .f32) : FVec Ideal S1x512x16 .f32 :=
  shapeCast S1x512x16 (multiReduction .maximumf [2] S512x16 x 0xFF800000#32 reduces_S512x16x128_S512x16 (.inl rfl) rfl) shapeCasts_S512x16_S1x512x16
theorem topE_at (x : FVec Ideal S512x16x128 .f32) (e : Fin 16) (g : Nat → EReal) (hx : ∀ l : Fin 128, x (ix3 a e l) = g l.val) :
    topE x (ix3 0 a e) = (Finset.univ : Finset (Fin 128)).fold (max : EReal → EReal → EReal) (bits 0xFF800000#32) fun l => g l.val := by
  refine (shapeCast_apply _ _ _ (ix2 a e) (by
    rw [Shape.rowMajor_val_two, Shape.rowMajor_val_three]
    show a.val * 16 + e.val = (0 * 512 + a.val) * 16 + e.val
    omega)).trans ?_
  rw [← hostReduce_maximumf_eq_multiReduction x 0xFF800000#32 redE' Cert.Pre_room.Gen.h_S_ redE (.inl rfl) rfl]
  exact max_fold x _ redE' redE (ix2 a e) g fun (l : Fin 128) => (congrArg x (liftE a e l)).trans (hx l)

theorem outB_eq : outB (F := Ideal) i x1 x2 = topE (outQ (F := Ideal) i x1 x2) := by
  unfold outB outQ k0_pay3 k0_pay5
  by_cases h : k0_cond1 i = 1#1
  · rw [if_pos h, if_pos h]
  · rw [if_neg h, if_neg h]

include h1 h2 in
theorem outB_at (e : Fin 16) : outB (F := Ideal) i x1 x2 (ix3 0 a e) = bmv q c R (16 * (i 1).val + e.val) := by
  rw [outB_eq]
  unfold bmv
  refine topE_at a _ e (fun l => scv q c R (128 * (16 * (i 1).val + e.val) + l)) fun l => ?_
  rw [outQ_at x1 x2 q c i R a h1 h2 e l]
  congr 1
  omega

end point

end Cert.Sel
-- ==== Proof.Chain.lean ====
/-
  What the SparseCore's call finds: the scores, each block's greatest, and the place the search ended at.
-/
module

public import proofs.«01_k».proof.Proof.Scores
public import proofs.«01_k».proof.Proof.Main
public import Idealize.ShloMosaic.Lib.Pipeline.ValueKit

@[expose] public section

noncomputable section

namespace Cert.Sel

open Cert.KernelIdeal Cert.KernelIdeal.Gen
open Idealize.ShloMosaic hiding ix1 ix2 ix3 eq_ix2 eq_ix3
open Idealize.ShloMosaic.ValueIdx

theorem index0_0 : ∀ t : Fin cfg0.N, win0_0.index t = ![t.val / 49, 0] := by decide +kernel
theorem index0_1 : ∀ t : Fin cfg0.N, win0_1.index t = ![t.val % 49, 0] := by decide +kernel
theorem index0_2 : ∀ t : Fin cfg0.N, win0_2.index t = ![t.val / 49, t.val % 49, 0] := by decide +kernel
theorem index0_3 : ∀ t : Fin cfg0.N, win0_3.index t = ![t.val % 49, t.val / 49, 0] := by decide +kernel
theorem coord0 : ∀ t : Fin cfg0.N, (grid0.coords t 1).val = t.val % 49 := by decide +kernel
theorem indexT_0 : ∀ t : Fin cfg1.N, win1_0.index t = ![t.val, 0] := by decide +kernel
theorem indexT_1 : ∀ t : Fin cfg1.N, win1_1.index t = ![t.val] := by decide +kernel

section blocks
variable (V : (c : Dev nD) → (b : Ref sig .tc) → Buf (Elt Ideal) ((tL c).loc b)) (d : Dev nD)

theorem blkQ_at (t : Fin cfg0.N) (a : Fin 512) (k : Fin 128) (x : S4096x128.Idx) (h0 : (x 0).val = 512 * (t.val / 49) + a.val) (h1 : (x 1).val = k.val) :
    blkQ V d t (ix2 a k) = V d main_arg0 x := by
  blk_simp [blkQ]
  refine congrArg (V d main_arg0) (funext fun i => Fin.ext ?_)
  match i with
  | 0 =>
    refine (Pipeline.Window.rect_emb_val win0_0 t (ix2 a k) 0 rfl).trans ?_
    rw [index0_0 t, h0]
    exact congrArg (· + a.val) (Nat.mul_comm (t.val / 49) 512)
  | 1 =>
    refine (Pipeline.Window.rect_emb_val win0_0 t (ix2 a k) 1 rfl).trans ?_
    rw [index0_0 t, h1]
    exact Nat.zero_add _

theorem blkC_at (t : Fin cfg0.N) (a : Fin 2048) (k : Fin 128) (x : S100352x128.Idx) (h0 : (x 0).val = 2048 * (t.val % 49) + a.val) (h1 : (x 1).val = k.val) :
    blkC V d t (ix2 a k) = V d main_v0 x := by
  blk_simp [blkC]
  refine congrArg (V d main_v0) (funext fun i => Fin.ext ?_)
  match i with
  | 0 =>
    refine (Pipeline.Window.rect_emb_val win0_1 t (ix2 a k) 0 rfl).trans ?_
    rw [index0_1 t, h0]
    exact congrArg (· + a.val) (Nat.mul_comm (t.val % 49) 2048)
  | 1 =>
    refine (Pipeline.Window.rect_emb_val win0_1 t (ix2 a k) 1 rfl).trans ?_
    rw [index0_1 t, h1]
    exact Nat.zero_add _

theorem blkM_at (t : Fin cfg1.N) (a : Fin 512) (k : Fin 784) (x : S4096x784.Idx) (h0 : (x 0).val = 512 * t.val + a.val) (h1 : (x 1).val = k.val) :
    blkM V d t (ix2 a k) = V d main_v3 x := by
  blk_simp [blkM]
  refine congrArg (V d main_v3) (funext fun i => Fin.ext ?_)
  match i with
  | 0 =>
    refine (Pipeline.Window.rect_emb_val win1_0 t (ix2 a k) 0 rfl).trans ?_
    rw [indexT_0 t, h0]
    exact congrArg (· + a.val) (Nat.mul_comm t.val 512)
  | 1 =>
    refine (Pipeline.Window.rect_emb_val win1_0 t (ix2 a k) 1 rfl).trans ?_
    rw [indexT_0 t, h1]
    exact Nat.zero_add _

variable (q : FVec Ideal S4096x128 .f32) (c : FVec Ideal S100000x128 .f32) (hq : ∀ R k, V d main_arg0 (ix2 R k) = q (ix2 R k))
  (hc : ∀ (C : Fin 100352) (h : C.val < 100000) (k : Fin 128), V d main_v0 (ix2 C k) = c (ix2 ⟨C.val, h⟩ k))

def sAll (i : S4096x784x128.Idx) : EReal := scv q c (i 0) (128 * (i 1).val + (i 2).val)
def bAll (i : S49x4096x16.Idx) : EReal := bmv q c (i 1) (16 * (i 0).val + (i 2).val)
def tAll (g : Fin 4096 → Nat → EReal) (i : S4096.Idx) : EReal := (rsteps (g (i 0)) (rinit (g (i 0))) 34).1

/-- The rows of point `t`'s block. -/
abbrev rowAt (t : Fin cfg0.N) (a : Fin 512) : Fin 4096 := ⟨512 * (t.val / 49) + a.val, by have := a.isLt; have : t.val < 392 := t.isLt; omega⟩

include hq in
theorem q_at (t : Fin cfg0.N) (a : Fin 512) (k : Fin 128) : blkQ V d t (ix2 a k) = q (ix2 (rowAt t a) k) :=
  (blkQ_at V d t a k (ix2 (rowAt t a) k) rfl rfl).trans (hq _ _)
include hc in
theorem c_at (t : Fin cfg0.N) (b : Fin 2048) (h : 2048 * (grid0.coords t 1).val + b.val < 100000) (k : Fin 128) :
    blkC V d t (ix2 b k) = c (ix2 ⟨2048 * (grid0.coords t 1).val + b.val, h⟩ k) :=
  (blkC_at V d t b k (ix2 ⟨2048 * (grid0.coords t 1).val + b.val, by omega⟩ k) (congrArg (fun z => 2048 * z + b.val) (coord0 t)) rfl).trans (hc ⟨_, _⟩ h k)

include hq hc in
theorem arr2_at (i : S4096x784x128.Idx) : (dat0 V d).arrAt 2 cfg0.N i = sAll q c i := by
  refine (dat0 V d).arrAt_forall_of_covers 2 (fun i v => v = sAll q c i) (by decide +kernel) (fun t hf y => ?_) i
  blk_simp
  have ht : t.val < 392 := t.isLt
  have h0 : (((win0_2.blk t).view.emb y : S4096x784x128.Idx) 0).val = 512 * (t.val / 49) + (y 0).val := by
    refine (Pipeline.Window.rect_emb_val win0_2 t y 0 rfl).trans ?_
    rw [index0_2 t]
    exact congrArg (· + (y 0).val) (Nat.mul_comm (t.val / 49) 512)
  have h1 : (((win0_2.blk t).view.emb y : S4096x784x128.Idx) 1).val = 16 * (t.val % 49) + (y 1).val := by
    refine (Pipeline.Window.rect_emb_val win0_2 t y 1 rfl).trans ?_
    rw [index0_2 t]
    exact congrArg (· + (y 1).val) (Nat.mul_comm (t.val % 49) 16)
  have h2 : (((win0_2.blk t).view.emb y : S4096x784x128.Idx) 2).val = (y 2).val := by
    refine (Pipeline.Window.rect_emb_val win0_2 t y 2 rfl).trans ?_
    rw [index0_2 t]
    exact Nat.zero_add _
  have e0 : ((win0_2.blk t).view.emb y : S4096x784x128.Idx) 0 = rowAt t (y 0) := Fin.ext h0
  have key := outQ_at (blkQ V d t) (blkC V d t) q c (grid0.coords t) (rowAt t (y 0)) (y 0) (q_at V d q hq t (y 0)) (c_at V d c hc t) (y 1) (y 2)
  refine Eq.trans (congrArg (outQ (F := Ideal) (grid0.coords t) (blkQ V d t) (blkC V d t)) (eq_ix3 y)) (key.trans ?_)
  show _ = scv q c (((win0_2.blk t).view.emb y : S4096x784x128.Idx) 0) (128 * (((win0_2.blk t).view.emb y : S4096x784x128.Idx) 1).val + (((win0_2.blk t).view.emb y : S4096x784x128.Idx) 2).val)
  rw [e0, h1, h2, coord0 t]
  congr 1
  omega

include hq hc in
theorem arr3_at (i : S49x4096x16.Idx) : (dat0 V d).arrAt 3 cfg0.N i = bAll q c i := by
  refine (dat0 V d).arrAt_forall_of_covers 3 (fun i v => v = bAll q c i) (by decide +kernel) (fun t hf y => ?_) i
  blk_simp
  have ht : t.val < 392 := t.isLt
  have hy : (y 0).val = 0 := by have : (y 0).val < 1 := (y 0).isLt; omega
  have h0 : (((win0_3.blk t).view.emb y : S49x4096x16.Idx) 0).val = t.val % 49 := by
    refine (Pipeline.Window.rect_emb_val win0_3 t y 0 rfl).trans ?_
    rw [index0_3 t]
    show t.val % 49 * 1 + (y 0).val = _
    omega
  have h1 : (((win0_3.blk t).view.emb y : S49x4096x16.Idx) 1).val = 512 * (t.val / 49) + (y 1).val := by
    refine (Pipeline.Window.rect_emb_val win0_3 t y 1 rfl).trans ?_
    rw [index0_3 t]
    exact congrArg (· + (y 1).val) (Nat.mul_comm (t.val / 49) 512)
  have h2 : (((win0_3.blk t).view.emb y : S49x4096x16.Idx) 2).val = (y 2).val := by
    refine (Pipeline.Window.rect_emb_val win0_3 t y 2 rfl).trans ?_
    rw [index0_3 t]
    exact Nat.zero_add _
  have e1 : ((win0_3.blk t).view.emb y : S49x4096x16.Idx) 1 = rowAt t (y 1) := Fin.ext h1
  have ey : y = ix3 0 (y 1) (y 2) := by
    funext a
    match a with
    | 0 => exact Fin.ext hy
    | 1 => rfl
    | 2 => rfl
  have key := outB_at (blkQ V d t) (blkC V d t) q c (grid0.coords t) (rowAt t (y 1)) (y 1) (q_at V d q hq t (y 1)) (c_at V d c hc t) (y 2)
  refine Eq.trans (congrArg (outB (F := Ideal) (grid0.coords t) (blkQ V d t) (blkC V d t)) ey) (key.trans ?_)
  show _ = bmv q c (((win0_3.blk t).view.emb y : S49x4096x16.Idx) 1) (16 * (((win0_3.blk t).view.emb y : S49x4096x16.Idx) 0).val + (((win0_3.blk t).view.emb y : S49x4096x16.Idx) 2).val)
  rw [e1, h0, h2, coord0 t]

attribute [local irreducible] outT in
theorem after_T (t : Fin cfg1.N) : (dat1 V d).after 1 t = outT (blkM V d t) := rfl

attribute [local irreducible] outT in
theorem arrT_at (g : Fin 4096 → Nat → EReal) (hg : ∀ R (b : Fin 784), V d main_v3 (ix2 R b) = g R b.val) (i : S4096.Idx) :
    (dat1 V d).arrAt 1 cfg1.N i = tAll g i := by
  refine (dat1 V d).arrAt_forall_of_covers 1 (fun i v => v = tAll g i) (by decide +kernel) (fun t hf y => ?_) i
  blk_simp
  have ht : t.val < 8 := t.isLt
  have hy : (y 0).val < 512 := (y 0).isLt
  have h0 : (((win1_1.blk t).view.emb y : S4096.Idx) 0).val = 512 * t.val + (y 0).val := by
    refine (Pipeline.Window.rect_emb_val win1_1 t y 0 rfl).trans ?_
    rw [indexT_1 t]
    exact congrArg (· + (y 0).val) (Nat.mul_comm t.val 512)
  have e0 : ((win1_1.blk t).view.emb y : S4096.Idx) 0 = (⟨512 * t.val + (y 0).val, by omega⟩ : Fin 4096) := Fin.ext h0
  have ey : (y : S512.Idx) = ix1 (y 0) := by
    funext a
    match a with
    | 0 => rfl
  have key := outT_at (blkM V d t) (g ⟨512 * t.val + (y 0).val, by omega⟩) (y 0) fun b =>
    (blkM_at V d t (y 0) b (ix2 ⟨512 * t.val + (y 0).val, by omega⟩ b) rfl rfl).trans (hg _ b)
  refine (congrFun (after_T V d t) y).trans ((congrArg (outT (F := Ideal) (blkM V d t)) ey).trans (key.trans ?_))
  unfold tAll
  exact congrArg (fun R => (rsteps (g R) (rinit (g R)) 34).1) e0.symm

end blocks

/-! ## Step by step -/

section steps
variable (m : (ℓ : Loc nD τ sig) → Buf (Elt Ideal) ℓ) (d : Dev nD)

abbrev qq : FVec Ideal S4096x128 .f32 := m ((tL d).loc main_arg0)
abbrev cc : FVec Ideal S100000x128 .f32 := m ((tL d).loc main_arg1)

theorem W1_q : onTC (W1 m) d main_arg0 = qq m d :=
  (keep (opP (F := Ideal)) main_v0 main_arg0 rfl (by decide) _).trans ((keep (opF (F := Ideal)) main_call0_v0 main_arg0 rfl (by decide) _).trans (keep (opC (F := Ideal)) main_c main_arg0 rfl (by decide) fun b => m (d, b)))

theorem W1_c (C : Fin 100352) (h : C.val < 100000) (k : Fin 128) : onTC (W1 m) d main_v0 (ix2 C k) = cc m d (ix2 ⟨C.val, h⟩ k) := by
  have e : onTC (W1 m) d main_v0 = pad S100352x128 ![0, 0] ![352, 0] ![0, 0] (((opF (F := Ideal)).result ((opC (F := Ideal)).result fun b => m (d, b))) (Proc.devRef .tc main_arg1) : FVec Ideal S100000x128 .f32)
      (((opF (F := Ideal)).result ((opC (F := Ideal)).result fun b => m (d, b))) (Proc.devRef .tc main_call0_v0) : FVec Ideal S_ .f32) pads_S100000x128_S100352x128_03520_000 h_S_ :=
    StableHlo.binary_result _ _ _ _ _ _ _ _
  rw [e]
  refine (pad_apply_of_inside _ _ _ _ _ _ _ (ix2 C k) (ix2 ⟨C.val, h⟩ k) ?_).trans ?_
  · intro a
    match a with
    | 0 => show C.val = 0 + C.val * (0 + 1); omega
    | 1 => show k.val = 0 + k.val * (0 + 1); omega
  · exact congrFun ((keep (opF (F := Ideal)) main_call0_v0 main_arg1 rfl (by decide) _).trans (keep (opC (F := Ideal)) main_c main_arg1 rfl (by decide) fun b => m (d, b))) _

theorem W2_s (i : S4096x784x128.Idx) : W2 m d (Proc.devRef .tc main_v1_0) i = scv (qq m d) (cc m d) (i 0) (128 * (i 1).val + (i 2).val) :=
  (congrFun ((kept main_v1_1 main_v1_0 (by decide) _ _).trans (Function.update_self ..)) i).trans
    (arr2_at (onTC (W1 m)) d (qq m d) (cc m d) (fun R k => congrFun (W1_q m d) _) (W1_c m d) i)

theorem W2_b (i : S49x4096x16.Idx) : W2 m d (Proc.devRef .tc main_v1_1) i = bmv (qq m d) (cc m d) (i 1) (16 * (i 0).val + (i 2).val) :=
  (congrFun (Function.update_self ..) i).trans
    (arr3_at (onTC (W1 m)) d (qq m d) (cc m d) (fun R k => congrFun (W1_q m d) _) (W1_c m d) i)

theorem W3_b (R : Fin 4096) (b : Fin 784) : W3 m d (Proc.devRef .tc main_v3) (ix2 R b) = bmv (qq m d) (cc m d) R b.val := by
  have hb := b.isLt
  have h1 : b.val / 16 < 49 := by omega
  have h2 : b.val % 16 < 16 := by omega
  have e : W3 m d (Proc.devRef .tc main_v3) = shapeCast S4096x784 ((opT (F := Ideal)).result (W2 m d) (Proc.devRef .tc main_v2) : FVec Ideal S4096x49x16 .f32) shapeCasts_S4096x49x16_S4096x784 :=
    StableHlo.reshape_result _ _ _ _ _ _ _
  have e2 : (opT (F := Ideal)).result (W2 m d) (Proc.devRef .tc main_v2) = transpose S4096x49x16 [1, 0, 2] (W2 m d (Proc.devRef .tc main_v1_1) : FVec Ideal S49x4096x16 .f32) transposes_S49x4096x16_S4096x49x16_1_0_2 :=
    StableHlo.unary_result _ _ _ _ _ _
  rw [e, e2]
  refine (shapeCast_apply _ _ _ (ix3 R ⟨b.val / 16, h1⟩ ⟨b.val % 16, h2⟩) ?_).trans ?_
  · rw [Shape.rowMajor_val_two, Shape.rowMajor_val_three]
    show (R.val * 49 + b.val / 16) * 16 + b.val % 16 = R.val * 784 + b.val
    omega
  refine (transpose_apply [1, 0, 2] _ _ (ix3 R ⟨b.val / 16, h1⟩ ⟨b.val % 16, h2⟩) (ix3 ⟨b.val / 16, h1⟩ R ⟨b.val % 16, h2⟩) (fun a => match a with | 0 => rfl | 1 => rfl | 2 => rfl)).trans ?_
  refine (W2_b m d _).trans ?_
  show bmv (qq m d) (cc m d) R (16 * (b.val / 16) + b.val % 16) = _
  congr 1
  omega

theorem m1_at (R : Fin 4096) (b : Fin 784) : m1 (mm m) d (ix2 R b) = bmv (qq m d) (cc m d) R b.val :=
  (congrFun ((keep (opR (F := Ideal)) main_v5 main_v3 rfl (by decide) (W4 m d)).trans (kept main_v4 main_v3 (by decide) (W3 m d) _)) _).trans (W3_b m d R b)

theorem m2_at (R : Fin 4096) : m2 (mm m) d (ix1 R) = (rsteps (bmv (qq m d) (cc m d) R) (rinit (bmv (qq m d) (cc m d) R)) 34).1 :=
  (congrFun ((keep (opR (F := Ideal)) main_v5 main_v4 rfl (by decide) (W4 m d)).trans (Function.update_self ..)) _).trans
    (arrT_at (onTC (W3 m)) d (bmv (qq m d) (cc m d)) (W3_b m d) (ix1 R))

theorem m0_at (R : Fin 4096) (b : Fin 784) (l : Fin 128) (r : Fin 3211264) (hr : r.val = R.val * 784 + b.val) :
    m0 (mm m) d (ix2 r l) = scv (qq m d) (cc m d) R (128 * b.val + l.val) := by
  have e : W5 m d (Proc.devRef .tc main_v5) = shapeCast S3211264x128 (W4 m d (Proc.devRef .tc main_v1_0) : FVec Ideal S4096x784x128 .f32) shapeCasts_S4096x784x128_S3211264x128 :=
    StableHlo.reshape_result _ _ _ _ _ _ _
  have e2 : W4 m d (Proc.devRef .tc main_v1_0) = W2 m d (Proc.devRef .tc main_v1_0) :=
    (kept main_v4 main_v1_0 (by decide) (W3 m d) _).trans ((keep (opM (F := Ideal)) main_v3 main_v1_0 rfl (by decide) _).trans (keep (opT (F := Ideal)) main_v2 main_v1_0 rfl (by decide) (W2 m d)))
  show W5 m d (Proc.devRef .tc main_v5) (ix2 r l) = _
  rw [e, e2]
  refine (shapeCast_apply _ _ _ (ix3 R b l) ?_).trans (W2_s m d _)
  rw [Shape.rowMajor_val_two, Shape.rowMajor_val_three]
  show (R.val * 784 + b.val) * 128 + l.val = r.val * 128 + l.val
  omega

end steps

end Cert.Sel
-- ==== Proof.Value.lean ====
/-
  The results: the two arrays the kernel leaves are the reference's hundred greatest scores of each row, and their places.
-/
module

public import proofs.«01_k».proof.Proof.Fits
public import proofs.«01_k».proof.Proof.Chain
public import proofs.«01_k».proof.Proof.Frames
public import Idealize.ShloMosaic.Lib.Pipeline.ValueKit
public import Idealize.ShloMosaic.Lib.IdealHost

@[expose] public section

noncomputable section

namespace Cert.Sel

open Cert.KernelIdeal Cert.KernelIdeal.Gen
open Idealize.ShloMosaic hiding ix1 ix2 ix3 eq_ix2
open Idealize.ShloMosaic.ValueIdx

/-! ## The reference, at one result -/

abbrev SB : Shape := ⟨2, ![4096, 100000]⟩

theorem along_row (R : Fin 4096) (c k : Fin 100000) : Shape.Idx.along (s := SB) (ix2 R c) 1 k = ix2 R k := by
  funext a
  match a with
  | 0 => rfl
  | 1 => rfl

theorem sort2_at {α β : Type} (cmp : α × β → α × β → BitVec 1) (x : SB.Idx → α) (y : SB.Idx → β) (R : Fin 4096) (c : Fin 100000) :
    (Host.sort2 SB 1 cmp x y).1 (ix2 R c)
        = x (ix2 R (sortedFrom (fun k k' => cmp (x (ix2 R k), y (ix2 R k)) (x (ix2 R k'), y (ix2 R k')) == 1#1) c))
      ∧ (Host.sort2 SB 1 cmp x y).2 (ix2 R c)
        = y (ix2 R (sortedFrom (fun k k' => cmp (x (ix2 R k), y (ix2 R k)) (x (ix2 R k'), y (ix2 R k')) == 1#1) c)) := by
  have e : Host.sort2 SB 1 cmp x y = (fun j => x (j.along 1 (sortedFrom (fun k k' => cmp (x (j.along 1 k), y (j.along 1 k)) (x (j.along 1 k'), y (j.along 1 k')) == 1#1) (j 1))),
      fun j => y (j.along 1 (sortedFrom (fun k k' => cmp (x (j.along 1 k), y (j.along 1 k)) (x (j.along 1 k'), y (j.along 1 k')) == 1#1) (j 1)))) :=
    dif_pos (by decide)
  rw [e]
  have ha : ∀ k, Shape.Idx.along (s := SB) (ix2 R c) 1 k = ix2 R k := along_row R c
  constructor
  · show x (Shape.Idx.along (s := SB) (ix2 R c) 1 (sortedFrom (fun k k' => cmp (x (Shape.Idx.along (s := SB) (ix2 R c) 1 k), y (Shape.Idx.along (s := SB) (ix2 R c) 1 k)) (x (Shape.Idx.along (s := SB) (ix2 R c) 1 k'), y (Shape.Idx.along (s := SB) (ix2 R c) 1 k')) == 1#1) c)) = _
    simp only [ha]
    rfl
  · show y (Shape.Idx.along (s := SB) (ix2 R c) 1 (sortedFrom (fun k k' => cmp (x (Shape.Idx.along (s := SB) (ix2 R c) 1 k), y (Shape.Idx.along (s := SB) (ix2 R c) 1 k)) (x (Shape.Idx.along (s := SB) (ix2 R c) 1 k'), y (Shape.Idx.along (s := SB) (ix2 R c) 1 k')) == 1#1) c)) = _
    simp only [ha]
    rfl

theorem gt_eq (p q : EReal) : (FloatOps.cmpfTotal (F := Ideal) (φ := .f32) .gt p q == 1#1) = decide (q < p) := by
  have : FloatOps.cmpfTotal (F := Ideal) (φ := .f32) .gt p q = BitVec.ofBool (decide (q < p)) := rfl
  rw [this]
  by_cases h : q < p <;> simp [h]

/-- The reference's result `q` of row `R` is the score the rounds pick `q`-th, and its place. -/
theorem topK_at (x : SB.Idx → Ideal .f32) (h : SB.Slices (fun _ => 0) S4096x100) (R : Fin 4096) (sc : Nat → EReal) (hx : ∀ c : Fin 100000, x (ix2 R c) = sc c.val)
    {T lo : EReal} {n col} {σ s} (hR : Rd 100000 sc T lo n col 100 σ s) (q : Fin 100) :
    (Host.topK (s := SB) S4096x100 1 (FloatOps.cmpfTotal (F := Ideal) (φ := .f32) .gt) x h).1 (ix2 R q) = sc (σ q.val)
      ∧ (Host.topK (s := SB) S4096x100 1 (FloatOps.cmpfTotal (F := Ideal) (φ := .f32) .gt) x h).2 (ix2 R q) = BitVec.ofNat 32 (σ q.val) := by
  have hM : 100 ≤ 100000 := by norm_num
  let idx : IVec SB 32 := fun i => if hd : 1 < SB.rank then iotaInDim SB 32 ⟨1, hd⟩ i else 0#32
  have hidx : ∀ c : Fin 100000, idx (ix2 R c) = BitVec.ofNat 32 c.val := fun c => rfl
  have key := sort2_at (fun l r : Ideal .f32 × BitVec 32 => FloatOps.cmpfTotal (F := Ideal) (φ := .f32) .gt l.1 r.1) x idx R (q.castLE hM)
  have hs : (sortedFrom (fun k k' : Fin 100000 => FloatOps.cmpfTotal (F := Ideal) (φ := .f32) .gt (x (ix2 R k)) (x (ix2 R k')) == 1#1) (q.castLE hM)).val = σ q.val :=
    sorted_picks sc hM hR _ (fun a b => by rw [gt_eq, hx, hx]) q
  have e : ∀ a, (ix2 R (q.castLE hM) : SB.Idx) a = (ix2 R (q.castLE hM) : SB.Idx) a := fun _ => rfl
  constructor
  · refine (extractStridedSlice_apply (fun _ => 0) _ h (ix2 R q) (ix2 R (q.castLE hM)) ?_).trans (key.1.trans ((hx _).trans (congrArg sc hs)))
    intro a
    match a with
    | 0 => exact (Nat.zero_add _).symm
    | 1 => exact (Nat.zero_add _).symm
  · refine (extractStridedSlice_apply (fun _ => 0) _ h (ix2 R q) (ix2 R (q.castLE hM)) ?_).trans (key.2.trans ((hidx _).trans (congrArg (BitVec.ofNat 32) hs)))
    intro a
    match a with
    | 0 => exact (Nat.zero_add _).symm
    | 1 => exact (Nat.zero_add _).symm

/-! ## What the selection reads, at one place -/

theorem env_tau (a0 : S3211264x128.Idx → Ideal .f32) (a1 : S4096x784.Idx → Ideal .f32) (a2 : S4096.Idx → Ideal .f32) (R : Fin 4096) :
    (envOf a0 a1 a2).tau R.val = a2 (ix1 R) := by
  refine (dif_pos R.isLt).trans (congrArg a2 (funext fun a => ?_))
  match a with
  | 0 => rfl

theorem env_sc (a0 : S3211264x128.Idx → Ideal .f32) (a1 : S4096x784.Idx → Ideal .f32) (a2 : S4096.Idx → Ideal .f32) (r : Fin 3211264) (l : Fin 128) :
    (envOf a0 a1 a2).sc r.val l.val = a0 (ix2 r l) := by
  refine (dif_pos ⟨r.isLt, l.isLt⟩).trans (congrArg a0 (funext fun a => ?_))
  match a with
  | 0 => rfl
  | 1 => rfl

theorem env_bm (a0 : S3211264x128.Idx → Ideal .f32) (a1 : S4096x784.Idx → Ideal .f32) (a2 : S4096.Idx → Ideal .f32) (R : Fin 4096) (b : Fin 784) :
    (envOf a0 a1 a2).bm R.val b.val = a1 (ix2 R b) := by
  refine (dif_pos ⟨R.isLt, b.isLt⟩).trans (congrArg a1 (funext fun a => ?_))
  match a with
  | 0 => rfl
  | 1 => rfl

section env
variable (m : (ℓ : Loc nD τ sig) → Buf (Elt Ideal) ℓ) (d : Dev nD)
abbrev eE : Env Ideal := envOf (m0 (mm m) d) (m1 (mm m) d) (m2 (mm m) d)

theorem row_is (R : Fin 4096) : RowIs (qq m d) (cc m d) (eE m d) R where
  tau := (env_tau _ _ _ R).trans (m2_at m d R)
  sc b hb l hl := by
    have hR := R.isLt
    exact (env_sc _ _ _ ⟨R.val * 784 + b, by omega⟩ ⟨l, hl⟩).trans (m0_at m d R ⟨b, hb⟩ ⟨l, hl⟩ _ rfl)
  bm b hb := (env_bm _ _ _ R ⟨b, hb⟩).trans (m1_at m d R ⟨b, hb⟩)

/-- A place past the candidates is no hit. -/
theorem no_pad (R : Fin 4096) (hroom : Room (eE m d) R.val) (C : Nat) (h1 : 100000 ≤ C) (h2 : C < 100352) : ¬ (eE m d).tau R.val ≤ rowSc (eE m d) R.val C := by
  rw [(row_is m d R).row h2]
  unfold scv
  rw [dif_neg (by omega)]
  exact not_le_of_gt hroom.above

/-- A place among the candidates holds the product. -/
theorem row_dot (R : Fin 4096) (C : Fin 100000) : rowSc (eE m d) R.val C.val = dotv (qq m d) (cc m d) R C := by
  rw [(row_is m d R).row (by have := C.isLt; omega)]
  unfold scv
  rw [dif_pos C.isLt]
end env

/-! ## The kernel, at one result -/

section Ker
theorem index1_0 : ∀ t : Fin cfg3.N, win3_0.index t = ![t.val, 0] := by decide +kernel
theorem index1_1 : ∀ t : Fin cfg3.N, win3_1.index t = ![t.val, 0] := by decide +kernel
theorem index1_2 : ∀ t : Fin cfg3.N, win3_2.index t = ![t.val, 0] := by decide +kernel
theorem index1_3 : ∀ t : Fin cfg3.N, win3_3.index t = ![t.val, 0] := by decide +kernel

variable (m : (ℓ : Loc nD τ sig) → Buf (Elt Ideal) ℓ) (d : Dev nD) (ff : (S4096x256.Idx → Ideal .f32) × (S4096x256.Idx → BitVec 32))

theorem blk0_at (t : Fin cfg3.N) (y : Fin 512) (r : Fin 256) (x : S4096x256.Idx) (h0 : (x 0).val = 512 * t.val + y.val) (h1 : (x 1).val = r.val) :
    blk0 (Vmid m ff) d t (ix2 y r) = ff.1 x := by
  blk_simp [blk0]
  refine (congrFun (Vmid_0 m ff d) _).trans (congrArg ff.1 (funext fun a => Fin.ext ?_))
  match a with
  | 0 =>
    refine (Pipeline.Window.rect_emb_val win3_0 t (ix2 y r) 0 rfl).trans ?_
    rw [index1_0 t, h0]
    exact congrArg (· + y.val) (Nat.mul_comm t.val 512)
  | 1 =>
    refine (Pipeline.Window.rect_emb_val win3_0 t (ix2 y r) 1 rfl).trans ?_
    rw [index1_0 t, h1]
    exact Nat.zero_add _

theorem blk1_at (t : Fin cfg3.N) (y : Fin 512) (r : Fin 256) (x : S4096x256.Idx) (h0 : (x 0).val = 512 * t.val + y.val) (h1 : (x 1).val = r.val) :
    blk1 (Vmid m ff) d t (ix2 y r) = ff.2 x := by
  blk_simp [blk1]
  refine (congrFun (Vmid_1 m ff d) _).trans (congrArg ff.2 (funext fun a => Fin.ext ?_))
  match a with
  | 0 =>
    refine (Pipeline.Window.rect_emb_val win3_1 t (ix2 y r) 0 rfl).trans ?_
    rw [index1_1 t, h0]
    exact congrArg (· + y.val) (Nat.mul_comm t.val 512)
  | 1 =>
    refine (Pipeline.Window.rect_emb_val win3_1 t (ix2 y r) 1 rfl).trans ?_
    rw [index1_1 t, h1]
    exact Nat.zero_add _

/-- Row `y` of block `t` holds one row's candidates. -/
theorem blk_sel (hff : AllRows m d ff) (hroom : ∀ R : Fin 4096, Room (envOf (m0 m d) (m1 m d) (m2 m d)) R.val)
    (hpad : ∀ (R : Fin 4096) (C : Nat), 100000 ≤ C → C < 100352 → ¬ (envOf (m0 m d) (m1 m d) (m2 m d)).tau R.val ≤ rowSc (envOf (m0 m d) (m1 m d) (m2 m d)) R.val C) (t : Fin cfg3.N) (y : Fin 512) (R : Fin 4096) (hR : R.val = 512 * t.val + y.val) :
    ∃ n col, RowSel 100000 (rowSc (envOf (m0 m d) (m1 m d) (m2 m d)) R.val) ((envOf (m0 m d) (m1 m d) (m2 m d)).tau R.val) (neg (F := Ideal)) n col
      (fun r => blk0 (Vmid m ff) d t (ix2 y r)) (fun r => blk1 (Vmid m ff) d t (ix2 y r)) := by
  obtain ⟨j, v11, v12, hj, hok, hrow⟩ := hff R.val R.isLt
  obtain ⟨n, col, hs⟩ := row_sel (hroom R) hok hj
  refine ⟨n, col, ?_⟩
  have e0 : (fun r => blk0 (Vmid m ff) d t (ix2 y r)) = fun r => v11 (ix2 ⟨j, hj⟩ r) := funext fun r =>
    (blk0_at m d ff t y r (ix2 R r) hR rfl).trans (hrow (ix2 R r) (ix2 ⟨j, hj⟩ r) rfl rfl rfl).1
  have e1 : (fun r => blk1 (Vmid m ff) d t (ix2 y r)) = fun r => v12 (ix2 ⟨j, hj⟩ r) := funext fun r =>
    (blk1_at m d ff t y r (ix2 R r) hR rfl).trans (hrow (ix2 R r) (ix2 ⟨j, hj⟩ r) rfl rfl rfl).2
  rw [e0, e1]
  exact hs.narrow (hpad R)

variable (x : SB.Idx → Ideal .f32) (h' : SB.Slices (fun _ => 0) S4096x100)
abbrev refTop := Host.topK (s := SB) S4096x100 1 (FloatOps.cmpfTotal (F := Ideal) (φ := .f32) .gt) x h'
variable (hx : ∀ (R : Fin 4096) (C : Fin 100000), x (ix2 R C) = rowSc (envOf (m0 m d) (m1 m d) (m2 m d)) R.val C.val)

include hx in
/-- A row of a block's two results is the reference's row. -/
theorem out_at (hff : AllRows m d ff) (hroom : ∀ R : Fin 4096, Room (envOf (m0 m d) (m1 m d) (m2 m d)) R.val)
    (hpad : ∀ (R : Fin 4096) (C : Nat), 100000 ≤ C → C < 100352 → ¬ (envOf (m0 m d) (m1 m d) (m2 m d)).tau R.val ≤ rowSc (envOf (m0 m d) (m1 m d) (m2 m d)) R.val C) (t : Fin cfg3.N) (y : Fin 512) (q : Fin 100) (R : Fin 4096) (hR : R.val = 512 * t.val + y.val) :
    outS (blk0 (Vmid m ff) d t) (blk1 (Vmid m ff) d t) (ix2 y q) = (refTop x h').1 (ix2 R q)
      ∧ outI (blk0 (Vmid m ff) d t) (blk1 (Vmid m ff) d t) (ix2 y q) = (refTop x h').2 (ix2 R q) := by
  obtain ⟨n, col, hs⟩ := blk_sel m d ff hff hroom hpad t y R hR
  obtain ⟨σ, s, hRd, ho⟩ := rounds_row (blk0 (Vmid m ff) d t) (blk1 (Vmid m ff) d t) y hs (by norm_num)
  have hk := topK_at x h' R _ (hx R) hRd q
  exact ⟨(ho q).1.trans hk.1.symm, (ho q).2.trans hk.2.symm⟩

include hx in
theorem out0 (hff : AllRows m d ff) (hroom : ∀ R : Fin 4096, Room (envOf (m0 m d) (m1 m d) (m2 m d)) R.val)
    (hpad : ∀ (R : Fin 4096) (C : Nat), 100000 ≤ C → C < 100352 → ¬ (envOf (m0 m d) (m1 m d) (m2 m d)).tau R.val ≤ rowSc (envOf (m0 m d) (m1 m d) (m2 m d)) R.val C) :
    (dat (Vmid m ff) d).arrAt 2 cfg3.N = (refTop x h').1 := by
  funext i
  refine (dat (Vmid m ff) d).arrAt_forall_of_covers 2 (fun i v => v = (refTop x h').1 i) (by decide +kernel) (fun t hf y => ?_) i
  blk_simp
  have hlt : t.val < 8 := t.isLt
  have hy : (y 0).val < 512 := (y 0).isLt
  have he : ((win3_2.blk t).view.emb y : S4096x100.Idx) = ix2 ⟨512 * t.val + (y 0).val, by omega⟩ ⟨(y 1).val, (y 1).isLt⟩ := by
    funext a
    refine Fin.ext ?_
    match a with
    | 0 =>
      refine (Pipeline.Window.rect_emb_val win3_2 t y 0 rfl).trans ?_
      rw [index1_2 t]
      exact congrArg (· + (y 0).val) (Nat.mul_comm t.val 512)
    | 1 =>
      refine (Pipeline.Window.rect_emb_val win3_2 t y 1 rfl).trans ?_
      rw [index1_2 t]
      exact Nat.zero_add _
  refine Eq.trans ?_ (((out_at m d ff x h' hx hff hroom hpad t (y 0) (y 1) ⟨512 * t.val + (y 0).val, by omega⟩ rfl).1).trans (congrArg (refTop x h').1 he.symm))
  exact congrArg (outS (blk0 (Vmid m ff) d t) (blk1 (Vmid m ff) d t)) (eq_ix2 y)

include hx in
theorem out1 (hff : AllRows m d ff) (hroom : ∀ R : Fin 4096, Room (envOf (m0 m d) (m1 m d) (m2 m d)) R.val)
    (hpad : ∀ (R : Fin 4096) (C : Nat), 100000 ≤ C → C < 100352 → ¬ (envOf (m0 m d) (m1 m d) (m2 m d)).tau R.val ≤ rowSc (envOf (m0 m d) (m1 m d) (m2 m d)) R.val C) :
    (dat (Vmid m ff) d).arrAt 3 cfg3.N = (refTop x h').2 := by
  funext i
  refine (dat (Vmid m ff) d).arrAt_forall_of_covers 3 (fun i v => v = (refTop x h').2 i) (by decide +kernel) (fun t hf y => ?_) i
  blk_simp
  have hlt : t.val < 8 := t.isLt
  have hy : (y 0).val < 512 := (y 0).isLt
  have he : ((win3_3.blk t).view.emb y : S4096x100.Idx) = ix2 ⟨512 * t.val + (y 0).val, by omega⟩ ⟨(y 1).val, (y 1).isLt⟩ := by
    funext a
    refine Fin.ext ?_
    match a with
    | 0 =>
      refine (Pipeline.Window.rect_emb_val win3_3 t y 0 rfl).trans ?_
      rw [index1_3 t]
      exact congrArg (· + (y 0).val) (Nat.mul_comm t.val 512)
    | 1 =>
      refine (Pipeline.Window.rect_emb_val win3_3 t y 1 rfl).trans ?_
      rw [index1_3 t]
      exact Nat.zero_add _
  refine Eq.trans ?_ (((out_at m d ff x h' hx hff hroom hpad t (y 0) (y 1) ⟨512 * t.val + (y 0).val, by omega⟩ rfl).2).trans (congrArg (refTop x h').2 he.symm))
  exact congrArg (outI (blk0 (Vmid m ff) d t) (blk1 (Vmid m ff) d t)) (eq_ix2 y)

end Ker

/-- The reference's scores. -/
abbrev refX (m : (ℓ : Loc nD τ sig) → Buf (Elt Ideal) ℓ) (d : Dev nD) : SB.Idx → Ideal .f32 :=
  Host.dotGeneral Cert.ReferenceIdeal.dot_S4096x128_S128x100000_S4096x100000_1_0_0_1_n_n none (qq m d)
    (transpose Cert.ReferenceIdeal.S128x100000 [1, 0] (cc m d) Cert.ReferenceIdeal.Gen.transposes_S100000x128_S128x100000_1_0)

theorem refX_at (m : (ℓ : Loc nD τ sig) → Buf (Elt Ideal) ℓ) (d : Dev nD) (R : Fin 4096) (C : Fin 100000) : refX m d (ix2 R C) = rowSc (eE m d) R.val C.val :=
  (dot_at (qq m d) (cc m d) R C).trans (row_dot m d R C).symm

theorem frame_ideal_room : Cert.quiescent_KernelIdeal_pre_room (hKernelIdeal := Cert.KernelIdeal.Gen.facts) (hPre_room := Cert.Pre_room.Gen.facts) := fun m ρ _ =>
  frame_ideal m ρ trivial

theorem frame_reference_room : Cert.quiescent_ReferenceIdeal_pre_room (hReferenceIdeal := Cert.ReferenceIdeal.Gen.facts) (hPre_room := Cert.Pre_room.Gen.facts) := fun m ρ _ =>
  frame_reference m ρ trivial

/-- Where the precondition holds, the kernel and the reference leave the same two results. -/
theorem algebraic : Cert.algebraic_KernelIdeal_ReferenceIdeal_pre_room (hKernelIdeal := Cert.KernelIdeal.Gen.facts) (hReferenceIdeal := Cert.ReferenceIdeal.Gen.facts)
    (hPre_room := Cert.Pre_room.Gen.facts) := by
  intro m g m' g' hpre harg
  have hroom : ∀ c : Dev nD, ∀ R : Fin 4096, Room (eE m c) R.val := fun c R => by
    obtain ⟨h1, h2, h3⟩ := hpre c
    exact room_of_pre (qq m c) (cc m c) h1 h2 h3 (eE m c) R (row_is m c R)
  refine ⟨fun c => (refTop (refX m c) Cert.ReferenceIdeal.Gen.sliceFits_S4096x100000_S4096x100).1,
    fun c => (refTop (refX m c) Cert.ReferenceIdeal.Gen.sliceFits_S4096x100000_S4096x100).2, ?_, ?_⟩
  · refine (θ_run Cert.KernelIdeal.defs _ _).mono (fun _ h c => ?_) (run_main (F := Ideal) m g)
    obtain ⟨ff, hff, h0, h1, e0, e1⟩ := h.1 c
    have hp := fun R => no_pad m c R (hroom c R)
    exact ⟨e0.trans (out0 (mm m) c ff (refX m c) _ (refX_at m c) hff (hroom c) hp), e1.trans (out1 (mm m) c ff (refX m c) _ (refX_at m c) hff (hroom c) hp), h0, h1⟩
  · refine (θ_run Cert.ReferenceIdeal.defs _ _).mono (fun _ h c => ?_) (Cert.ReferenceIdeal.Value.run (F := Ideal) m' g')
    obtain ⟨e0, e1, h2, h3⟩ := h c
    rw [(harg c).1, (harg c).2] at e0 e1
    exact ⟨e0, e1, h2, h3⟩

end Cert.Sel
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.KernelIdeal.Skeleton
public import proofs.«01_k».proof.Proof.Gen.Pre_room
public import proofs.«01_k».proof.Proof.Frames
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_room.Gen.facts,
    Cert.Sel.frame_kernel, Cert.Sel.frame_ideal, Cert.Sel.frame_ideal_room, Cert.Sel.frame_reference, Cert.Sel.frame_reference_room, trivial,
    Cert.Sel.algebraic⟩

end Cert.Proof

end
